-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_finite [hPre_attention_finite : Cert.Pre_attention_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_finite [hPre_attention_finite : Cert.Pre_attention_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_ConvGin (m : (ℓ : Loc Cert.ConvGin.nD Cert.ConvGin.τ Cert.ConvGin.sig) → Buf (Elt Bits) ℓ) : Prop :=
  True

def Pre_ConvGinIdeal (m : (ℓ : Loc Cert.ConvGinIdeal.nD Cert.ConvGinIdeal.τ Cert.ConvGinIdeal.sig) → Buf (Elt Ideal) ℓ) : Prop :=
  True

def Pre_ConvGinRefIdeal (m : (ℓ : Loc Cert.ConvGinRefIdeal.nD Cert.ConvGinRefIdeal.τ Cert.ConvGinRefIdeal.sig) → Buf (Elt Ideal) ℓ) : Prop :=
  True

def Pre_PoolGin (m : (ℓ : Loc Cert.PoolGin.nD Cert.PoolGin.τ Cert.PoolGin.sig) → Buf (Elt Bits) ℓ) : Prop :=
  True

def Pre_PoolGinIdeal (m : (ℓ : Loc Cert.PoolGinIdeal.nD Cert.PoolGinIdeal.τ Cert.PoolGinIdeal.sig) → Buf (Elt Ideal) ℓ) : Prop :=
  True

def Pre_PoolGinRefIdeal (m : (ℓ : Loc Cert.PoolGinRefIdeal.nD Cert.PoolGinRefIdeal.τ Cert.PoolGinRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PoolInB (m : (ℓ : Loc Cert.PoolInB.nD Cert.PoolInB.τ Cert.PoolInB.sig) → Buf (Elt Bits) ℓ) : Prop :=
  True

def Pre_PoolInBIdeal (m : (ℓ : Loc Cert.PoolInBIdeal.nD Cert.PoolInBIdeal.τ Cert.PoolInBIdeal.sig) → Buf (Elt Ideal) ℓ) : Prop :=
  True

def Pre_PoolInBRefIdeal (m : (ℓ : Loc Cert.PoolInBRefIdeal.nD Cert.PoolInBRefIdeal.τ Cert.PoolInBRefIdeal.sig) → Buf (Elt Ideal) ℓ) : Prop :=
  True

def Pre_ConvInB (m : (ℓ : Loc Cert.ConvInB.nD Cert.ConvInB.τ Cert.ConvInB.sig) → Buf (Elt Bits) ℓ) : Prop :=
  True

def Pre_ConvInBIdeal (m : (ℓ : Loc Cert.ConvInBIdeal.nD Cert.ConvInBIdeal.τ Cert.ConvInBIdeal.sig) → Buf (Elt Ideal) ℓ) : Prop :=
  True

def Pre_ConvInBRefIdeal (m : (ℓ : Loc Cert.ConvInBRefIdeal.nD Cert.ConvInBRefIdeal.τ Cert.ConvInBRefIdeal.sig) → Buf (Elt Ideal) ℓ) : Prop :=
  True

def Pre_Ggrp (m : (ℓ : Loc Cert.Ggrp.nD Cert.Ggrp.τ Cert.Ggrp.sig) → Buf (Elt Bits) ℓ) : Prop :=
  True

def Pre_GgrpIdeal (m : (ℓ : Loc Cert.GgrpIdeal.nD Cert.GgrpIdeal.τ Cert.GgrpIdeal.sig) → Buf (Elt Ideal) ℓ) : Prop :=
  True

def Pre_GgrpRefIdeal (m : (ℓ : Loc Cert.GgrpRefIdeal.nD Cert.GgrpRefIdeal.τ Cert.GgrpRefIdeal.sig) → Buf (Elt Ideal) ℓ) : Prop :=
  True

def Pre_Gz (m : (ℓ : Loc Cert.Gz.nD Cert.Gz.τ Cert.Gz.sig) → Buf (Elt Bits) ℓ) : Prop :=
  True

def Pre_GzIdeal (m : (ℓ : Loc Cert.GzIdeal.nD Cert.GzIdeal.τ Cert.GzIdeal.sig) → Buf (Elt Ideal) ℓ) : Prop :=
  True

def Pre_GzRefIdeal (m : (ℓ : Loc Cert.GzRefIdeal.nD Cert.GzRefIdeal.τ Cert.GzRefIdeal.sig) → Buf (Elt Ideal) ℓ) : Prop :=
  True

def Pre_Gqup (m : (ℓ : Loc Cert.Gqup.nD Cert.Gqup.τ Cert.Gqup.sig) → Buf (Elt Bits) ℓ) : Prop :=
  True

def Pre_GqupIdeal (m : (ℓ : Loc Cert.GqupIdeal.nD Cert.GqupIdeal.τ Cert.GqupIdeal.sig) → Buf (Elt Ideal) ℓ) : Prop :=
  True

def Pre_GqupRefIdeal (m : (ℓ : Loc Cert.GqupRefIdeal.nD Cert.GqupRefIdeal.τ Cert.GqupRefIdeal.sig) → Buf (Elt Ideal) ℓ) : Prop :=
  True

def Pre_Gkvup (m : (ℓ : Loc Cert.Gkvup.nD Cert.Gkvup.τ Cert.Gkvup.sig) → Buf (Elt Bits) ℓ) : Prop :=
  True

def Pre_GkvupIdeal (m : (ℓ : Loc Cert.GkvupIdeal.nD Cert.GkvupIdeal.τ Cert.GkvupIdeal.sig) → Buf (Elt Ideal) ℓ) : Prop :=
  True

def Pre_GkvupRefIdeal (m : (ℓ : Loc Cert.GkvupRefIdeal.nD Cert.GkvupRefIdeal.τ Cert.GkvupRefIdeal.sig) → Buf (Elt Ideal) ℓ) : Prop :=
  True

def Pre_LatentOut (m : (ℓ : Loc Cert.LatentOut.nD Cert.LatentOut.τ Cert.LatentOut.sig) → Buf (Elt Bits) ℓ) : Prop :=
  True

def Pre_LatentOutIdeal (m : (ℓ : Loc Cert.LatentOutIdeal.nD Cert.LatentOutIdeal.τ Cert.LatentOutIdeal.sig) → Buf (Elt Ideal) ℓ) : Prop :=
  True

def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_PoolInRefIdeal (m : (ℓ : Loc Cert.PoolInRefIdeal.nD Cert.PoolInRefIdeal.τ Cert.PoolInRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_forward_finite [hPre_forward_finite : Cert.Pre_forward_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_forward_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_forward_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_forward_finite [hPre_forward_finite : Cert.Pre_forward_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_forward_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_forward_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2 = (fun _ => 1#1)

def Pre_PoolGrp (m : (ℓ : Loc Cert.PoolGrp.nD Cert.PoolGrp.τ Cert.PoolGrp.sig) → Buf (Elt Bits) ℓ) : Prop :=
  True

def Pre_PoolGrpIdeal (m : (ℓ : Loc Cert.PoolGrpIdeal.nD Cert.PoolGrpIdeal.τ Cert.PoolGrpIdeal.sig) → Buf (Elt Ideal) ℓ) : Prop :=
  True

def Pre_PoolGrpRefIdeal (m : (ℓ : Loc Cert.PoolGrpRefIdeal.nD Cert.PoolGrpRefIdeal.τ Cert.PoolGrpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attention_finite [hAttnIdeal : Cert.AttnIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attention_finite [hAttnRefIdeal : Cert.AttnRefIdeal.Facts] [hPre_attention_finite : Cert.Pre_attention_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_ConvGin [hConvGin : Cert.ConvGin.Facts] : Prop :=
  ∀ (m : (ℓ : Loc Cert.ConvGin.nD Cert.ConvGin.τ Cert.ConvGin.sig) → Buf (Elt Bits) ℓ) (g : Dev Cert.ConvGin.nD → PrngReg), Pre_ConvGin m →
    θ_run (Cert.ConvGin.defs (F := Bits)) (onTc (τ := Cert.ConvGin.τ) (Cert.ConvGin.main (F := Bits))) ⟨m, fun _ => 0, g⟩ (fun r => (∀ c : Dev Cert.ConvGin.nD,
      r.2.mem ((c.tc : Thread Cert.ConvGin.nD Cert.ConvGin.τ).loc Cert.ConvGin.main_arg0) = m ((c.tc : Thread Cert.ConvGin.nD Cert.ConvGin.τ).loc Cert.ConvGin.main_arg0)
      ∧ r.2.mem ((c.tc : Thread Cert.ConvGin.nD Cert.ConvGin.τ).loc Cert.ConvGin.main_arg1) = m ((c.tc : Thread Cert.ConvGin.nD Cert.ConvGin.τ).loc Cert.ConvGin.main_arg1))
      ∧ r.2.sem = fun _ => 0)

def quiescent_ConvGinIdeal [hConvGinIdeal : Cert.ConvGinIdeal.Facts] : Prop :=
  ∀ (m : (ℓ : Loc Cert.ConvGinIdeal.nD Cert.ConvGinIdeal.τ Cert.ConvGinIdeal.sig) → Buf (Elt Ideal) ℓ) (g : Dev Cert.ConvGinIdeal.nD → PrngReg), Pre_ConvGinIdeal m →
    θ_run (Cert.ConvGinIdeal.defs (F := Ideal)) (onTc (τ := Cert.ConvGinIdeal.τ) (Cert.ConvGinIdeal.main (F := Ideal))) ⟨m, fun _ => 0, g⟩ (fun r => (∀ c : Dev Cert.ConvGinIdeal.nD,
      r.2.mem ((c.tc : Thread Cert.ConvGinIdeal.nD Cert.ConvGinIdeal.τ).loc Cert.ConvGinIdeal.main_arg0) = m ((c.tc : Thread Cert.ConvGinIdeal.nD Cert.ConvGinIdeal.τ).loc Cert.ConvGinIdeal.main_arg0)
      ∧ r.2.mem ((c.tc : Thread Cert.ConvGinIdeal.nD Cert.ConvGinIdeal.τ).loc Cert.ConvGinIdeal.main_arg1) = m ((c.tc : Thread Cert.ConvGinIdeal.nD Cert.ConvGinIdeal.τ).loc Cert.ConvGinIdeal.main_arg1))
      ∧ r.2.sem = fun _ => 0)

def quiescent_ConvGinRefIdeal [hConvGinRefIdeal : Cert.ConvGinRefIdeal.Facts] : Prop :=
  ∀ (m : (ℓ : Loc Cert.ConvGinRefIdeal.nD Cert.ConvGinRefIdeal.τ Cert.ConvGinRefIdeal.sig) → Buf (Elt Ideal) ℓ) (g : Dev Cert.ConvGinRefIdeal.nD → PrngReg), Pre_ConvGinRefIdeal m →
    θ_run (Cert.ConvGinRefIdeal.defs (F := Ideal)) (onTc (τ := Cert.ConvGinRefIdeal.τ) (Cert.ConvGinRefIdeal.main (F := Ideal))) ⟨m, fun _ => 0, g⟩ (fun r => (∀ c : Dev Cert.ConvGinRefIdeal.nD,
      r.2.mem ((c.tc : Thread Cert.ConvGinRefIdeal.nD Cert.ConvGinRefIdeal.τ).loc Cert.ConvGinRefIdeal.main_arg0) = m ((c.tc : Thread Cert.ConvGinRefIdeal.nD Cert.ConvGinRefIdeal.τ).loc Cert.ConvGinRefIdeal.main_arg0)
      ∧ r.2.mem ((c.tc : Thread Cert.ConvGinRefIdeal.nD Cert.ConvGinRefIdeal.τ).loc Cert.ConvGinRefIdeal.main_arg1) = m ((c.tc : Thread Cert.ConvGinRefIdeal.nD Cert.ConvGinRefIdeal.τ).loc Cert.ConvGinRefIdeal.main_arg1))
      ∧ r.2.sem = fun _ => 0)

def quiescent_PoolGin [hPoolGin : Cert.PoolGin.Facts] : Prop :=
  ∀ (m : (ℓ : Loc Cert.PoolGin.nD Cert.PoolGin.τ Cert.PoolGin.sig) → Buf (Elt Bits) ℓ) (g : Dev Cert.PoolGin.nD → PrngReg), Pre_PoolGin m →
    θ_run (Cert.PoolGin.defs (F := Bits)) (onTc (τ := Cert.PoolGin.τ) (Cert.PoolGin.main (F := Bits))) ⟨m, fun _ => 0, g⟩ (fun r => (∀ c : Dev Cert.PoolGin.nD,
      r.2.mem ((c.tc : Thread Cert.PoolGin.nD Cert.PoolGin.τ).loc Cert.PoolGin.main_arg0) = m ((c.tc : Thread Cert.PoolGin.nD Cert.PoolGin.τ).loc Cert.PoolGin.main_arg0)
      ∧ r.2.mem ((c.tc : Thread Cert.PoolGin.nD Cert.PoolGin.τ).loc Cert.PoolGin.main_arg1) = m ((c.tc : Thread Cert.PoolGin.nD Cert.PoolGin.τ).loc Cert.PoolGin.main_arg1))
      ∧ r.2.sem = fun _ => 0)

def quiescent_PoolGinIdeal [hPoolGinIdeal : Cert.PoolGinIdeal.Facts] : Prop :=
  ∀ (m : (ℓ : Loc Cert.PoolGinIdeal.nD Cert.PoolGinIdeal.τ Cert.PoolGinIdeal.sig) → Buf (Elt Ideal) ℓ) (g : Dev Cert.PoolGinIdeal.nD → PrngReg), Pre_PoolGinIdeal m →
    θ_run (Cert.PoolGinIdeal.defs (F := Ideal)) (onTc (τ := Cert.PoolGinIdeal.τ) (Cert.PoolGinIdeal.main (F := Ideal))) ⟨m, fun _ => 0, g⟩ (fun r => (∀ c : Dev Cert.PoolGinIdeal.nD,
      r.2.mem ((c.tc : Thread Cert.PoolGinIdeal.nD Cert.PoolGinIdeal.τ).loc Cert.PoolGinIdeal.main_arg0) = m ((c.tc : Thread Cert.PoolGinIdeal.nD Cert.PoolGinIdeal.τ).loc Cert.PoolGinIdeal.main_arg0)
      ∧ r.2.mem ((c.tc : Thread Cert.PoolGinIdeal.nD Cert.PoolGinIdeal.τ).loc Cert.PoolGinIdeal.main_arg1) = m ((c.tc : Thread Cert.PoolGinIdeal.nD Cert.PoolGinIdeal.τ).loc Cert.PoolGinIdeal.main_arg1))
      ∧ r.2.sem = fun _ => 0)

def quiescent_PoolGinRefIdeal [hPoolGinRefIdeal : Cert.PoolGinRefIdeal.Facts] : Prop :=
  ∀ (m : (ℓ : Loc Cert.PoolGinRefIdeal.nD Cert.PoolGinRefIdeal.τ Cert.PoolGinRefIdeal.sig) → Buf (Elt Ideal) ℓ) (g : Dev Cert.PoolGinRefIdeal.nD → PrngReg), Pre_PoolGinRefIdeal m →
    θ_run (Cert.PoolGinRefIdeal.defs (F := Ideal)) (onTc (τ := Cert.PoolGinRefIdeal.τ) (Cert.PoolGinRefIdeal.main (F := Ideal))) ⟨m, fun _ => 0, g⟩ (fun r => (∀ c : Dev Cert.PoolGinRefIdeal.nD,
      r.2.mem ((c.tc : Thread Cert.PoolGinRefIdeal.nD Cert.PoolGinRefIdeal.τ).loc Cert.PoolGinRefIdeal.main_arg0) = m ((c.tc : Thread Cert.PoolGinRefIdeal.nD Cert.PoolGinRefIdeal.τ).loc Cert.PoolGinRefIdeal.main_arg0)
      ∧ r.2.mem ((c.tc : Thread Cert.PoolGinRefIdeal.nD Cert.PoolGinRefIdeal.τ).loc Cert.PoolGinRefIdeal.main_arg1) = m ((c.tc : Thread Cert.PoolGinRefIdeal.nD Cert.PoolGinRefIdeal.τ).loc Cert.PoolGinRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_PoolInB [hPoolInB : Cert.PoolInB.Facts] : Prop :=
  ∀ (m : (ℓ : Loc Cert.PoolInB.nD Cert.PoolInB.τ Cert.PoolInB.sig) → Buf (Elt Bits) ℓ) (g : Dev Cert.PoolInB.nD → PrngReg), Pre_PoolInB m →
    θ_run (Cert.PoolInB.defs (F := Bits)) (onTc (τ := Cert.PoolInB.τ) (Cert.PoolInB.main (F := Bits))) ⟨m, fun _ => 0, g⟩ (fun r => (∀ c : Dev Cert.PoolInB.nD,
      r.2.mem ((c.tc : Thread Cert.PoolInB.nD Cert.PoolInB.τ).loc Cert.PoolInB.main_arg0) = m ((c.tc : Thread Cert.PoolInB.nD Cert.PoolInB.τ).loc Cert.PoolInB.main_arg0)
      ∧ r.2.mem ((c.tc : Thread Cert.PoolInB.nD Cert.PoolInB.τ).loc Cert.PoolInB.main_arg1) = m ((c.tc : Thread Cert.PoolInB.nD Cert.PoolInB.τ).loc Cert.PoolInB.main_arg1)
      ∧ r.2.mem ((c.tc : Thread Cert.PoolInB.nD Cert.PoolInB.τ).loc Cert.PoolInB.main_arg2) = m ((c.tc : Thread Cert.PoolInB.nD Cert.PoolInB.τ).loc Cert.PoolInB.main_arg2)
      ∧ r.2.mem ((c.tc : Thread Cert.PoolInB.nD Cert.PoolInB.τ).loc Cert.PoolInB.main_arg3) = m ((c.tc : Thread Cert.PoolInB.nD Cert.PoolInB.τ).loc Cert.PoolInB.main_arg3)
      ∧ r.2.mem ((c.tc : Thread Cert.PoolInB.nD Cert.PoolInB.τ).loc Cert.PoolInB.main_arg4) = m ((c.tc : Thread Cert.PoolInB.nD Cert.PoolInB.τ).loc Cert.PoolInB.main_arg4))
      ∧ r.2.sem = fun _ => 0)

def quiescent_PoolInBIdeal [hPoolInBIdeal : Cert.PoolInBIdeal.Facts] : Prop :=
  ∀ (m : (ℓ : Loc Cert.PoolInBIdeal.nD Cert.PoolInBIdeal.τ Cert.PoolInBIdeal.sig) → Buf (Elt Ideal) ℓ) (g : Dev Cert.PoolInBIdeal.nD → PrngReg), Pre_PoolInBIdeal m →
    θ_run (Cert.PoolInBIdeal.defs (F := Ideal)) (onTc (τ := Cert.PoolInBIdeal.τ) (Cert.PoolInBIdeal.main (F := Ideal))) ⟨m, fun _ => 0, g⟩ (fun r => (∀ c : Dev Cert.PoolInBIdeal.nD,
      r.2.mem ((c.tc : Thread Cert.PoolInBIdeal.nD Cert.PoolInBIdeal.τ).loc Cert.PoolInBIdeal.main_arg0) = m ((c.tc : Thread Cert.PoolInBIdeal.nD Cert.PoolInBIdeal.τ).loc Cert.PoolInBIdeal.main_arg0)
      ∧ r.2.mem ((c.tc : Thread Cert.PoolInBIdeal.nD Cert.PoolInBIdeal.τ).loc Cert.PoolInBIdeal.main_arg1) = m ((c.tc : Thread Cert.PoolInBIdeal.nD Cert.PoolInBIdeal.τ).loc Cert.PoolInBIdeal.main_arg1)
      ∧ r.2.mem ((c.tc : Thread Cert.PoolInBIdeal.nD Cert.PoolInBIdeal.τ).loc Cert.PoolInBIdeal.main_arg2) = m ((c.tc : Thread Cert.PoolInBIdeal.nD Cert.PoolInBIdeal.τ).loc Cert.PoolInBIdeal.main_arg2)
      ∧ r.2.mem ((c.tc : Thread Cert.PoolInBIdeal.nD Cert.PoolInBIdeal.τ).loc Cert.PoolInBIdeal.main_arg3) = m ((c.tc : Thread Cert.PoolInBIdeal.nD Cert.PoolInBIdeal.τ).loc Cert.PoolInBIdeal.main_arg3)
      ∧ r.2.mem ((c.tc : Thread Cert.PoolInBIdeal.nD Cert.PoolInBIdeal.τ).loc Cert.PoolInBIdeal.main_arg4) = m ((c.tc : Thread Cert.PoolInBIdeal.nD Cert.PoolInBIdeal.τ).loc Cert.PoolInBIdeal.main_arg4))
      ∧ r.2.sem = fun _ => 0)

def quiescent_PoolInBRefIdeal [hPoolInBRefIdeal : Cert.PoolInBRefIdeal.Facts] : Prop :=
  ∀ (m : (ℓ : Loc Cert.PoolInBRefIdeal.nD Cert.PoolInBRefIdeal.τ Cert.PoolInBRefIdeal.sig) → Buf (Elt Ideal) ℓ) (g : Dev Cert.PoolInBRefIdeal.nD → PrngReg), Pre_PoolInBRefIdeal m →
    θ_run (Cert.PoolInBRefIdeal.defs (F := Ideal)) (onTc (τ := Cert.PoolInBRefIdeal.τ) (Cert.PoolInBRefIdeal.main (F := Ideal))) ⟨m, fun _ => 0, g⟩ (fun r => (∀ c : Dev Cert.PoolInBRefIdeal.nD,
      r.2.mem ((c.tc : Thread Cert.PoolInBRefIdeal.nD Cert.PoolInBRefIdeal.τ).loc Cert.PoolInBRefIdeal.main_arg0) = m ((c.tc : Thread Cert.PoolInBRefIdeal.nD Cert.PoolInBRefIdeal.τ).loc Cert.PoolInBRefIdeal.main_arg0)
      ∧ r.2.mem ((c.tc : Thread Cert.PoolInBRefIdeal.nD Cert.PoolInBRefIdeal.τ).loc Cert.PoolInBRefIdeal.main_arg1) = m ((c.tc : Thread Cert.PoolInBRefIdeal.nD Cert.PoolInBRefIdeal.τ).loc Cert.PoolInBRefIdeal.main_arg1)
      ∧ r.2.mem ((c.tc : Thread Cert.PoolInBRefIdeal.nD Cert.PoolInBRefIdeal.τ).loc Cert.PoolInBRefIdeal.main_arg2) = m ((c.tc : Thread Cert.PoolInBRefIdeal.nD Cert.PoolInBRefIdeal.τ).loc Cert.PoolInBRefIdeal.main_arg2)
      ∧ r.2.mem ((c.tc : Thread Cert.PoolInBRefIdeal.nD Cert.PoolInBRefIdeal.τ).loc Cert.PoolInBRefIdeal.main_arg3) = m ((c.tc : Thread Cert.PoolInBRefIdeal.nD Cert.PoolInBRefIdeal.τ).loc Cert.PoolInBRefIdeal.main_arg3)
      ∧ r.2.mem ((c.tc : Thread Cert.PoolInBRefIdeal.nD Cert.PoolInBRefIdeal.τ).loc Cert.PoolInBRefIdeal.main_arg4) = m ((c.tc : Thread Cert.PoolInBRefIdeal.nD Cert.PoolInBRefIdeal.τ).loc Cert.PoolInBRefIdeal.main_arg4))
      ∧ r.2.sem = fun _ => 0)

def quiescent_ConvInB [hConvInB : Cert.ConvInB.Facts] : Prop :=
  ∀ (m : (ℓ : Loc Cert.ConvInB.nD Cert.ConvInB.τ Cert.ConvInB.sig) → Buf (Elt Bits) ℓ) (g : Dev Cert.ConvInB.nD → PrngReg), Pre_ConvInB m →
    θ_run (Cert.ConvInB.defs (F := Bits)) (onTc (τ := Cert.ConvInB.τ) (Cert.ConvInB.main (F := Bits))) ⟨m, fun _ => 0, g⟩ (fun r => (∀ c : Dev Cert.ConvInB.nD,
      r.2.mem ((c.tc : Thread Cert.ConvInB.nD Cert.ConvInB.τ).loc Cert.ConvInB.main_arg0) = m ((c.tc : Thread Cert.ConvInB.nD Cert.ConvInB.τ).loc Cert.ConvInB.main_arg0)
      ∧ r.2.mem ((c.tc : Thread Cert.ConvInB.nD Cert.ConvInB.τ).loc Cert.ConvInB.main_arg1) = m ((c.tc : Thread Cert.ConvInB.nD Cert.ConvInB.τ).loc Cert.ConvInB.main_arg1)
      ∧ r.2.mem ((c.tc : Thread Cert.ConvInB.nD Cert.ConvInB.τ).loc Cert.ConvInB.main_arg2) = m ((c.tc : Thread Cert.ConvInB.nD Cert.ConvInB.τ).loc Cert.ConvInB.main_arg2)
      ∧ r.2.mem ((c.tc : Thread Cert.ConvInB.nD Cert.ConvInB.τ).loc Cert.ConvInB.main_arg3) = m ((c.tc : Thread Cert.ConvInB.nD Cert.ConvInB.τ).loc Cert.ConvInB.main_arg3)
      ∧ r.2.mem ((c.tc : Thread Cert.ConvInB.nD Cert.ConvInB.τ).loc Cert.ConvInB.main_arg4) = m ((c.tc : Thread Cert.ConvInB.nD Cert.ConvInB.τ).loc Cert.ConvInB.main_arg4))
      ∧ r.2.sem = fun _ => 0)

def quiescent_ConvInBIdeal [hConvInBIdeal : Cert.ConvInBIdeal.Facts] : Prop :=
  ∀ (m : (ℓ : Loc Cert.ConvInBIdeal.nD Cert.ConvInBIdeal.τ Cert.ConvInBIdeal.sig) → Buf (Elt Ideal) ℓ) (g : Dev Cert.ConvInBIdeal.nD → PrngReg), Pre_ConvInBIdeal m →
    θ_run (Cert.ConvInBIdeal.defs (F := Ideal)) (onTc (τ := Cert.ConvInBIdeal.τ) (Cert.ConvInBIdeal.main (F := Ideal))) ⟨m, fun _ => 0, g⟩ (fun r => (∀ c : Dev Cert.ConvInBIdeal.nD,
      r.2.mem ((c.tc : Thread Cert.ConvInBIdeal.nD Cert.ConvInBIdeal.τ).loc Cert.ConvInBIdeal.main_arg0) = m ((c.tc : Thread Cert.ConvInBIdeal.nD Cert.ConvInBIdeal.τ).loc Cert.ConvInBIdeal.main_arg0)
      ∧ r.2.mem ((c.tc : Thread Cert.ConvInBIdeal.nD Cert.ConvInBIdeal.τ).loc Cert.ConvInBIdeal.main_arg1) = m ((c.tc : Thread Cert.ConvInBIdeal.nD Cert.ConvInBIdeal.τ).loc Cert.ConvInBIdeal.main_arg1)
      ∧ r.2.mem ((c.tc : Thread Cert.ConvInBIdeal.nD Cert.ConvInBIdeal.τ).loc Cert.ConvInBIdeal.main_arg2) = m ((c.tc : Thread Cert.ConvInBIdeal.nD Cert.ConvInBIdeal.τ).loc Cert.ConvInBIdeal.main_arg2)
      ∧ r.2.mem ((c.tc : Thread Cert.ConvInBIdeal.nD Cert.ConvInBIdeal.τ).loc Cert.ConvInBIdeal.main_arg3) = m ((c.tc : Thread Cert.ConvInBIdeal.nD Cert.ConvInBIdeal.τ).loc Cert.ConvInBIdeal.main_arg3)
      ∧ r.2.mem ((c.tc : Thread Cert.ConvInBIdeal.nD Cert.ConvInBIdeal.τ).loc Cert.ConvInBIdeal.main_arg4) = m ((c.tc : Thread Cert.ConvInBIdeal.nD Cert.ConvInBIdeal.τ).loc Cert.ConvInBIdeal.main_arg4))
      ∧ r.2.sem = fun _ => 0)

def quiescent_ConvInBRefIdeal [hConvInBRefIdeal : Cert.ConvInBRefIdeal.Facts] : Prop :=
  ∀ (m : (ℓ : Loc Cert.ConvInBRefIdeal.nD Cert.ConvInBRefIdeal.τ Cert.ConvInBRefIdeal.sig) → Buf (Elt Ideal) ℓ) (g : Dev Cert.ConvInBRefIdeal.nD → PrngReg), Pre_ConvInBRefIdeal m →
    θ_run (Cert.ConvInBRefIdeal.defs (F := Ideal)) (onTc (τ := Cert.ConvInBRefIdeal.τ) (Cert.ConvInBRefIdeal.main (F := Ideal))) ⟨m, fun _ => 0, g⟩ (fun r => (∀ c : Dev Cert.ConvInBRefIdeal.nD,
      r.2.mem ((c.tc : Thread Cert.ConvInBRefIdeal.nD Cert.ConvInBRefIdeal.τ).loc Cert.ConvInBRefIdeal.main_arg0) = m ((c.tc : Thread Cert.ConvInBRefIdeal.nD Cert.ConvInBRefIdeal.τ).loc Cert.ConvInBRefIdeal.main_arg0)
      ∧ r.2.mem ((c.tc : Thread Cert.ConvInBRefIdeal.nD Cert.ConvInBRefIdeal.τ).loc Cert.ConvInBRefIdeal.main_arg1) = m ((c.tc : Thread Cert.ConvInBRefIdeal.nD Cert.ConvInBRefIdeal.τ).loc Cert.ConvInBRefIdeal.main_arg1)
      ∧ r.2.mem ((c.tc : Thread Cert.ConvInBRefIdeal.nD Cert.ConvInBRefIdeal.τ).loc Cert.ConvInBRefIdeal.main_arg2) = m ((c.tc : Thread Cert.ConvInBRefIdeal.nD Cert.ConvInBRefIdeal.τ).loc Cert.ConvInBRefIdeal.main_arg2)
      ∧ r.2.mem ((c.tc : Thread Cert.ConvInBRefIdeal.nD Cert.ConvInBRefIdeal.τ).loc Cert.ConvInBRefIdeal.main_arg3) = m ((c.tc : Thread Cert.ConvInBRefIdeal.nD Cert.ConvInBRefIdeal.τ).loc Cert.ConvInBRefIdeal.main_arg3)
      ∧ r.2.mem ((c.tc : Thread Cert.ConvInBRefIdeal.nD Cert.ConvInBRefIdeal.τ).loc Cert.ConvInBRefIdeal.main_arg4) = m ((c.tc : Thread Cert.ConvInBRefIdeal.nD Cert.ConvInBRefIdeal.τ).loc Cert.ConvInBRefIdeal.main_arg4))
      ∧ r.2.sem = fun _ => 0)

def quiescent_Ggrp [hGgrp : Cert.Ggrp.Facts] : Prop :=
  ∀ (m : (ℓ : Loc Cert.Ggrp.nD Cert.Ggrp.τ Cert.Ggrp.sig) → Buf (Elt Bits) ℓ) (g : Dev Cert.Ggrp.nD → PrngReg), Pre_Ggrp m →
    θ_run (Cert.Ggrp.defs (F := Bits)) (onTc (τ := Cert.Ggrp.τ) (Cert.Ggrp.main (F := Bits))) ⟨m, fun _ => 0, g⟩ (fun r => (∀ c : Dev Cert.Ggrp.nD,
      r.2.mem ((c.tc : Thread Cert.Ggrp.nD Cert.Ggrp.τ).loc Cert.Ggrp.main_arg0) = m ((c.tc : Thread Cert.Ggrp.nD Cert.Ggrp.τ).loc Cert.Ggrp.main_arg0)
      ∧ r.2.mem ((c.tc : Thread Cert.Ggrp.nD Cert.Ggrp.τ).loc Cert.Ggrp.main_arg1) = m ((c.tc : Thread Cert.Ggrp.nD Cert.Ggrp.τ).loc Cert.Ggrp.main_arg1))
      ∧ r.2.sem = fun _ => 0)

def quiescent_GgrpIdeal [hGgrpIdeal : Cert.GgrpIdeal.Facts] : Prop :=
  ∀ (m : (ℓ : Loc Cert.GgrpIdeal.nD Cert.GgrpIdeal.τ Cert.GgrpIdeal.sig) → Buf (Elt Ideal) ℓ) (g : Dev Cert.GgrpIdeal.nD → PrngReg), Pre_GgrpIdeal m →
    θ_run (Cert.GgrpIdeal.defs (F := Ideal)) (onTc (τ := Cert.GgrpIdeal.τ) (Cert.GgrpIdeal.main (F := Ideal))) ⟨m, fun _ => 0, g⟩ (fun r => (∀ c : Dev Cert.GgrpIdeal.nD,
      r.2.mem ((c.tc : Thread Cert.GgrpIdeal.nD Cert.GgrpIdeal.τ).loc Cert.GgrpIdeal.main_arg0) = m ((c.tc : Thread Cert.GgrpIdeal.nD Cert.GgrpIdeal.τ).loc Cert.GgrpIdeal.main_arg0)
      ∧ r.2.mem ((c.tc : Thread Cert.GgrpIdeal.nD Cert.GgrpIdeal.τ).loc Cert.GgrpIdeal.main_arg1) = m ((c.tc : Thread Cert.GgrpIdeal.nD Cert.GgrpIdeal.τ).loc Cert.GgrpIdeal.main_arg1))
      ∧ r.2.sem = fun _ => 0)

def quiescent_GgrpRefIdeal [hGgrpRefIdeal : Cert.GgrpRefIdeal.Facts] : Prop :=
  ∀ (m : (ℓ : Loc Cert.GgrpRefIdeal.nD Cert.GgrpRefIdeal.τ Cert.GgrpRefIdeal.sig) → Buf (Elt Ideal) ℓ) (g : Dev Cert.GgrpRefIdeal.nD → PrngReg), Pre_GgrpRefIdeal m →
    θ_run (Cert.GgrpRefIdeal.defs (F := Ideal)) (onTc (τ := Cert.GgrpRefIdeal.τ) (Cert.GgrpRefIdeal.main (F := Ideal))) ⟨m, fun _ => 0, g⟩ (fun r => (∀ c : Dev Cert.GgrpRefIdeal.nD,
      r.2.mem ((c.tc : Thread Cert.GgrpRefIdeal.nD Cert.GgrpRefIdeal.τ).loc Cert.GgrpRefIdeal.main_arg0) = m ((c.tc : Thread Cert.GgrpRefIdeal.nD Cert.GgrpRefIdeal.τ).loc Cert.GgrpRefIdeal.main_arg0)
      ∧ r.2.mem ((c.tc : Thread Cert.GgrpRefIdeal.nD Cert.GgrpRefIdeal.τ).loc Cert.GgrpRefIdeal.main_arg1) = m ((c.tc : Thread Cert.GgrpRefIdeal.nD Cert.GgrpRefIdeal.τ).loc Cert.GgrpRefIdeal.main_arg1))
      ∧ r.2.sem = fun _ => 0)

def quiescent_Gz [hGz : Cert.Gz.Facts] : Prop :=
  ∀ (m : (ℓ : Loc Cert.Gz.nD Cert.Gz.τ Cert.Gz.sig) → Buf (Elt Bits) ℓ) (g : Dev Cert.Gz.nD → PrngReg), Pre_Gz m →
    θ_run (Cert.Gz.defs (F := Bits)) (onTc (τ := Cert.Gz.τ) (Cert.Gz.main (F := Bits))) ⟨m, fun _ => 0, g⟩ (fun r => (∀ c : Dev Cert.Gz.nD,
      r.2.mem ((c.tc : Thread Cert.Gz.nD Cert.Gz.τ).loc Cert.Gz.main_arg0) = m ((c.tc : Thread Cert.Gz.nD Cert.Gz.τ).loc Cert.Gz.main_arg0)
      ∧ r.2.mem ((c.tc : Thread Cert.Gz.nD Cert.Gz.τ).loc Cert.Gz.main_arg1) = m ((c.tc : Thread Cert.Gz.nD Cert.Gz.τ).loc Cert.Gz.main_arg1))
      ∧ r.2.sem = fun _ => 0)

def quiescent_GzIdeal [hGzIdeal : Cert.GzIdeal.Facts] : Prop :=
  ∀ (m : (ℓ : Loc Cert.GzIdeal.nD Cert.GzIdeal.τ Cert.GzIdeal.sig) → Buf (Elt Ideal) ℓ) (g : Dev Cert.GzIdeal.nD → PrngReg), Pre_GzIdeal m →
    θ_run (Cert.GzIdeal.defs (F := Ideal)) (onTc (τ := Cert.GzIdeal.τ) (Cert.GzIdeal.main (F := Ideal))) ⟨m, fun _ => 0, g⟩ (fun r => (∀ c : Dev Cert.GzIdeal.nD,
      r.2.mem ((c.tc : Thread Cert.GzIdeal.nD Cert.GzIdeal.τ).loc Cert.GzIdeal.main_arg0) = m ((c.tc : Thread Cert.GzIdeal.nD Cert.GzIdeal.τ).loc Cert.GzIdeal.main_arg0)
      ∧ r.2.mem ((c.tc : Thread Cert.GzIdeal.nD Cert.GzIdeal.τ).loc Cert.GzIdeal.main_arg1) = m ((c.tc : Thread Cert.GzIdeal.nD Cert.GzIdeal.τ).loc Cert.GzIdeal.main_arg1))
      ∧ r.2.sem = fun _ => 0)

def quiescent_GzRefIdeal [hGzRefIdeal : Cert.GzRefIdeal.Facts] : Prop :=
  ∀ (m : (ℓ : Loc Cert.GzRefIdeal.nD Cert.GzRefIdeal.τ Cert.GzRefIdeal.sig) → Buf (Elt Ideal) ℓ) (g : Dev Cert.GzRefIdeal.nD → PrngReg), Pre_GzRefIdeal m →
    θ_run (Cert.GzRefIdeal.defs (F := Ideal)) (onTc (τ := Cert.GzRefIdeal.τ) (Cert.GzRefIdeal.main (F := Ideal))) ⟨m, fun _ => 0, g⟩ (fun r => (∀ c : Dev Cert.GzRefIdeal.nD,
      r.2.mem ((c.tc : Thread Cert.GzRefIdeal.nD Cert.GzRefIdeal.τ).loc Cert.GzRefIdeal.main_arg0) = m ((c.tc : Thread Cert.GzRefIdeal.nD Cert.GzRefIdeal.τ).loc Cert.GzRefIdeal.main_arg0)
      ∧ r.2.mem ((c.tc : Thread Cert.GzRefIdeal.nD Cert.GzRefIdeal.τ).loc Cert.GzRefIdeal.main_arg1) = m ((c.tc : Thread Cert.GzRefIdeal.nD Cert.GzRefIdeal.τ).loc Cert.GzRefIdeal.main_arg1))
      ∧ r.2.sem = fun _ => 0)

def quiescent_Gqup [hGqup : Cert.Gqup.Facts] : Prop :=
  ∀ (m : (ℓ : Loc Cert.Gqup.nD Cert.Gqup.τ Cert.Gqup.sig) → Buf (Elt Bits) ℓ) (g : Dev Cert.Gqup.nD → PrngReg), Pre_Gqup m →
    θ_run (Cert.Gqup.defs (F := Bits)) (onTc (τ := Cert.Gqup.τ) (Cert.Gqup.main (F := Bits))) ⟨m, fun _ => 0, g⟩ (fun r => (∀ c : Dev Cert.Gqup.nD,
      r.2.mem ((c.tc : Thread Cert.Gqup.nD Cert.Gqup.τ).loc Cert.Gqup.main_arg0) = m ((c.tc : Thread Cert.Gqup.nD Cert.Gqup.τ).loc Cert.Gqup.main_arg0)
      ∧ r.2.mem ((c.tc : Thread Cert.Gqup.nD Cert.Gqup.τ).loc Cert.Gqup.main_arg1) = m ((c.tc : Thread Cert.Gqup.nD Cert.Gqup.τ).loc Cert.Gqup.main_arg1))
      ∧ r.2.sem = fun _ => 0)

def quiescent_GqupIdeal [hGqupIdeal : Cert.GqupIdeal.Facts] : Prop :=
  ∀ (m : (ℓ : Loc Cert.GqupIdeal.nD Cert.GqupIdeal.τ Cert.GqupIdeal.sig) → Buf (Elt Ideal) ℓ) (g : Dev Cert.GqupIdeal.nD → PrngReg), Pre_GqupIdeal m →
    θ_run (Cert.GqupIdeal.defs (F := Ideal)) (onTc (τ := Cert.GqupIdeal.τ) (Cert.GqupIdeal.main (F := Ideal))) ⟨m, fun _ => 0, g⟩ (fun r => (∀ c : Dev Cert.GqupIdeal.nD,
      r.2.mem ((c.tc : Thread Cert.GqupIdeal.nD Cert.GqupIdeal.τ).loc Cert.GqupIdeal.main_arg0) = m ((c.tc : Thread Cert.GqupIdeal.nD Cert.GqupIdeal.τ).loc Cert.GqupIdeal.main_arg0)
      ∧ r.2.mem ((c.tc : Thread Cert.GqupIdeal.nD Cert.GqupIdeal.τ).loc Cert.GqupIdeal.main_arg1) = m ((c.tc : Thread Cert.GqupIdeal.nD Cert.GqupIdeal.τ).loc Cert.GqupIdeal.main_arg1))
      ∧ r.2.sem = fun _ => 0)

def quiescent_GqupRefIdeal [hGqupRefIdeal : Cert.GqupRefIdeal.Facts] : Prop :=
  ∀ (m : (ℓ : Loc Cert.GqupRefIdeal.nD Cert.GqupRefIdeal.τ Cert.GqupRefIdeal.sig) → Buf (Elt Ideal) ℓ) (g : Dev Cert.GqupRefIdeal.nD → PrngReg), Pre_GqupRefIdeal m →
    θ_run (Cert.GqupRefIdeal.defs (F := Ideal)) (onTc (τ := Cert.GqupRefIdeal.τ) (Cert.GqupRefIdeal.main (F := Ideal))) ⟨m, fun _ => 0, g⟩ (fun r => (∀ c : Dev Cert.GqupRefIdeal.nD,
      r.2.mem ((c.tc : Thread Cert.GqupRefIdeal.nD Cert.GqupRefIdeal.τ).loc Cert.GqupRefIdeal.main_arg0) = m ((c.tc : Thread Cert.GqupRefIdeal.nD Cert.GqupRefIdeal.τ).loc Cert.GqupRefIdeal.main_arg0)
      ∧ r.2.mem ((c.tc : Thread Cert.GqupRefIdeal.nD Cert.GqupRefIdeal.τ).loc Cert.GqupRefIdeal.main_arg1) = m ((c.tc : Thread Cert.GqupRefIdeal.nD Cert.GqupRefIdeal.τ).loc Cert.GqupRefIdeal.main_arg1))
      ∧ r.2.sem = fun _ => 0)

def quiescent_Gkvup [hGkvup : Cert.Gkvup.Facts] : Prop :=
  ∀ (m : (ℓ : Loc Cert.Gkvup.nD Cert.Gkvup.τ Cert.Gkvup.sig) → Buf (Elt Bits) ℓ) (g : Dev Cert.Gkvup.nD → PrngReg), Pre_Gkvup m →
    θ_run (Cert.Gkvup.defs (F := Bits)) (onTc (τ := Cert.Gkvup.τ) (Cert.Gkvup.main (F := Bits))) ⟨m, fun _ => 0, g⟩ (fun r => (∀ c : Dev Cert.Gkvup.nD,
      r.2.mem ((c.tc : Thread Cert.Gkvup.nD Cert.Gkvup.τ).loc Cert.Gkvup.main_arg0) = m ((c.tc : Thread Cert.Gkvup.nD Cert.Gkvup.τ).loc Cert.Gkvup.main_arg0)
      ∧ r.2.mem ((c.tc : Thread Cert.Gkvup.nD Cert.Gkvup.τ).loc Cert.Gkvup.main_arg1) = m ((c.tc : Thread Cert.Gkvup.nD Cert.Gkvup.τ).loc Cert.Gkvup.main_arg1))
      ∧ r.2.sem = fun _ => 0)

def quiescent_GkvupIdeal [hGkvupIdeal : Cert.GkvupIdeal.Facts] : Prop :=
  ∀ (m : (ℓ : Loc Cert.GkvupIdeal.nD Cert.GkvupIdeal.τ Cert.GkvupIdeal.sig) → Buf (Elt Ideal) ℓ) (g : Dev Cert.GkvupIdeal.nD → PrngReg), Pre_GkvupIdeal m →
    θ_run (Cert.GkvupIdeal.defs (F := Ideal)) (onTc (τ := Cert.GkvupIdeal.τ) (Cert.GkvupIdeal.main (F := Ideal))) ⟨m, fun _ => 0, g⟩ (fun r => (∀ c : Dev Cert.GkvupIdeal.nD,
      r.2.mem ((c.tc : Thread Cert.GkvupIdeal.nD Cert.GkvupIdeal.τ).loc Cert.GkvupIdeal.main_arg0) = m ((c.tc : Thread Cert.GkvupIdeal.nD Cert.GkvupIdeal.τ).loc Cert.GkvupIdeal.main_arg0)
      ∧ r.2.mem ((c.tc : Thread Cert.GkvupIdeal.nD Cert.GkvupIdeal.τ).loc Cert.GkvupIdeal.main_arg1) = m ((c.tc : Thread Cert.GkvupIdeal.nD Cert.GkvupIdeal.τ).loc Cert.GkvupIdeal.main_arg1))
      ∧ r.2.sem = fun _ => 0)

def quiescent_GkvupRefIdeal [hGkvupRefIdeal : Cert.GkvupRefIdeal.Facts] : Prop :=
  ∀ (m : (ℓ : Loc Cert.GkvupRefIdeal.nD Cert.GkvupRefIdeal.τ Cert.GkvupRefIdeal.sig) → Buf (Elt Ideal) ℓ) (g : Dev Cert.GkvupRefIdeal.nD → PrngReg), Pre_GkvupRefIdeal m →
    θ_run (Cert.GkvupRefIdeal.defs (F := Ideal)) (onTc (τ := Cert.GkvupRefIdeal.τ) (Cert.GkvupRefIdeal.main (F := Ideal))) ⟨m, fun _ => 0, g⟩ (fun r => (∀ c : Dev Cert.GkvupRefIdeal.nD,
      r.2.mem ((c.tc : Thread Cert.GkvupRefIdeal.nD Cert.GkvupRefIdeal.τ).loc Cert.GkvupRefIdeal.main_arg0) = m ((c.tc : Thread Cert.GkvupRefIdeal.nD Cert.GkvupRefIdeal.τ).loc Cert.GkvupRefIdeal.main_arg0)
      ∧ r.2.mem ((c.tc : Thread Cert.GkvupRefIdeal.nD Cert.GkvupRefIdeal.τ).loc Cert.GkvupRefIdeal.main_arg1) = m ((c.tc : Thread Cert.GkvupRefIdeal.nD Cert.GkvupRefIdeal.τ).loc Cert.GkvupRefIdeal.main_arg1))
      ∧ r.2.sem = fun _ => 0)

def quiescent_LatentOut [hLatentOut : Cert.LatentOut.Facts] : Prop :=
  ∀ (m : (ℓ : Loc Cert.LatentOut.nD Cert.LatentOut.τ Cert.LatentOut.sig) → Buf (Elt Bits) ℓ) (g : Dev Cert.LatentOut.nD → PrngReg), Pre_LatentOut m →
    θ_run (Cert.LatentOut.defs (F := Bits)) (onTc (τ := Cert.LatentOut.τ) (Cert.LatentOut.main (F := Bits))) ⟨m, fun _ => 0, g⟩ (fun r => (∀ c : Dev Cert.LatentOut.nD,
      r.2.mem ((c.tc : Thread Cert.LatentOut.nD Cert.LatentOut.τ).loc Cert.LatentOut.main_arg0) = m ((c.tc : Thread Cert.LatentOut.nD Cert.LatentOut.τ).loc Cert.LatentOut.main_arg0)
      ∧ r.2.mem ((c.tc : Thread Cert.LatentOut.nD Cert.LatentOut.τ).loc Cert.LatentOut.main_arg1) = m ((c.tc : Thread Cert.LatentOut.nD Cert.LatentOut.τ).loc Cert.LatentOut.main_arg1)
      ∧ r.2.mem ((c.tc : Thread Cert.LatentOut.nD Cert.LatentOut.τ).loc Cert.LatentOut.main_arg2) = m ((c.tc : Thread Cert.LatentOut.nD Cert.LatentOut.τ).loc Cert.LatentOut.main_arg2))
      ∧ r.2.sem = fun _ => 0)

def quiescent_LatentOutIdeal [hLatentOutIdeal : Cert.LatentOutIdeal.Facts] : Prop :=
  ∀ (m : (ℓ : Loc Cert.LatentOutIdeal.nD Cert.LatentOutIdeal.τ Cert.LatentOutIdeal.sig) → Buf (Elt Ideal) ℓ) (g : Dev Cert.LatentOutIdeal.nD → PrngReg), Pre_LatentOutIdeal m →
    θ_run (Cert.LatentOutIdeal.defs (F := Ideal)) (onTc (τ := Cert.LatentOutIdeal.τ) (Cert.LatentOutIdeal.main (F := Ideal))) ⟨m, fun _ => 0, g⟩ (fun r => (∀ c : Dev Cert.LatentOutIdeal.nD,
      r.2.mem ((c.tc : Thread Cert.LatentOutIdeal.nD Cert.LatentOutIdeal.τ).loc Cert.LatentOutIdeal.main_arg0) = m ((c.tc : Thread Cert.LatentOutIdeal.nD Cert.LatentOutIdeal.τ).loc Cert.LatentOutIdeal.main_arg0)
      ∧ r.2.mem ((c.tc : Thread Cert.LatentOutIdeal.nD Cert.LatentOutIdeal.τ).loc Cert.LatentOutIdeal.main_arg1) = m ((c.tc : Thread Cert.LatentOutIdeal.nD Cert.LatentOutIdeal.τ).loc Cert.LatentOutIdeal.main_arg1)
      ∧ r.2.mem ((c.tc : Thread Cert.LatentOutIdeal.nD Cert.LatentOutIdeal.τ).loc Cert.LatentOutIdeal.main_arg2) = m ((c.tc : Thread Cert.LatentOutIdeal.nD Cert.LatentOutIdeal.τ).loc Cert.LatentOutIdeal.main_arg2))
      ∧ r.2.sem = fun _ => 0)

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1)
      ∧ r.2.mem ((c.tc : Thread Cert.PoolIn.nD Cert.PoolIn.τ).loc Cert.PoolIn.main_arg2) = m ((c.tc : Thread Cert.PoolIn.nD Cert.PoolIn.τ).loc Cert.PoolIn.main_arg2))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1)
      ∧ r.2.mem ((c.tc : Thread Cert.PoolInIdeal.nD Cert.PoolInIdeal.τ).loc Cert.PoolInIdeal.main_arg2) = m ((c.tc : Thread Cert.PoolInIdeal.nD Cert.PoolInIdeal.τ).loc Cert.PoolInIdeal.main_arg2))
      ∧ r.2.sem = fun _ => 0)

def quiescent_PoolInRefIdeal [hPoolInRefIdeal : Cert.PoolInRefIdeal.Facts] : Prop :=
  ∀ (m : (ℓ : Loc Cert.PoolInRefIdeal.nD Cert.PoolInRefIdeal.τ Cert.PoolInRefIdeal.sig) → Buf (Elt Ideal) ℓ) (g : Dev Cert.PoolInRefIdeal.nD → PrngReg), Pre_PoolInRefIdeal m →
    θ_run (Cert.PoolInRefIdeal.defs (F := Ideal)) (onTc (τ := Cert.PoolInRefIdeal.τ) (Cert.PoolInRefIdeal.main (F := Ideal))) ⟨m, fun _ => 0, g⟩ (fun r => (∀ c : Dev Cert.PoolInRefIdeal.nD,
      r.2.mem ((c.tc : Thread Cert.PoolInRefIdeal.nD Cert.PoolInRefIdeal.τ).loc Cert.PoolInRefIdeal.main_arg0) = m ((c.tc : Thread Cert.PoolInRefIdeal.nD Cert.PoolInRefIdeal.τ).loc Cert.PoolInRefIdeal.main_arg0)
      ∧ r.2.mem ((c.tc : Thread Cert.PoolInRefIdeal.nD Cert.PoolInRefIdeal.τ).loc Cert.PoolInRefIdeal.main_arg1) = m ((c.tc : Thread Cert.PoolInRefIdeal.nD Cert.PoolInRefIdeal.τ).loc Cert.PoolInRefIdeal.main_arg1)
      ∧ r.2.mem ((c.tc : Thread Cert.PoolInRefIdeal.nD Cert.PoolInRefIdeal.τ).loc Cert.PoolInRefIdeal.main_arg2) = m ((c.tc : Thread Cert.PoolInRefIdeal.nD Cert.PoolInRefIdeal.τ).loc Cert.PoolInRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_forward_finite [hAttnFwdIdeal : Cert.AttnFwdIdeal.Facts] [hPre_forward_finite : Cert.Pre_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_forward_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_forward_finite [hAttnFwdRefIdeal : Cert.AttnFwdRefIdeal.Facts] [hPre_forward_finite : Cert.Pre_forward_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_forward_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_PoolGrp [hPoolGrp : Cert.PoolGrp.Facts] : Prop :=
  ∀ (m : (ℓ : Loc Cert.PoolGrp.nD Cert.PoolGrp.τ Cert.PoolGrp.sig) → Buf (Elt Bits) ℓ) (g : Dev Cert.PoolGrp.nD → PrngReg), Pre_PoolGrp m →
    θ_run (Cert.PoolGrp.defs (F := Bits)) (onTc (τ := Cert.PoolGrp.τ) (Cert.PoolGrp.main (F := Bits))) ⟨m, fun _ => 0, g⟩ (fun r => (∀ c : Dev Cert.PoolGrp.nD,
      r.2.mem ((c.tc : Thread Cert.PoolGrp.nD Cert.PoolGrp.τ).loc Cert.PoolGrp.main_arg0) = m ((c.tc : Thread Cert.PoolGrp.nD Cert.PoolGrp.τ).loc Cert.PoolGrp.main_arg0)
      ∧ r.2.mem ((c.tc : Thread Cert.PoolGrp.nD Cert.PoolGrp.τ).loc Cert.PoolGrp.main_arg1) = m ((c.tc : Thread Cert.PoolGrp.nD Cert.PoolGrp.τ).loc Cert.PoolGrp.main_arg1)
      ∧ r.2.mem ((c.tc : Thread Cert.PoolGrp.nD Cert.PoolGrp.τ).loc Cert.PoolGrp.main_arg2) = m ((c.tc : Thread Cert.PoolGrp.nD Cert.PoolGrp.τ).loc Cert.PoolGrp.main_arg2)
      ∧ r.2.mem ((c.tc : Thread Cert.PoolGrp.nD Cert.PoolGrp.τ).loc Cert.PoolGrp.main_arg3) = m ((c.tc : Thread Cert.PoolGrp.nD Cert.PoolGrp.τ).loc Cert.PoolGrp.main_arg3))
      ∧ r.2.sem = fun _ => 0)

def quiescent_PoolGrpIdeal [hPoolGrpIdeal : Cert.PoolGrpIdeal.Facts] : Prop :=
  ∀ (m : (ℓ : Loc Cert.PoolGrpIdeal.nD Cert.PoolGrpIdeal.τ Cert.PoolGrpIdeal.sig) → Buf (Elt Ideal) ℓ) (g : Dev Cert.PoolGrpIdeal.nD → PrngReg), Pre_PoolGrpIdeal m →
    θ_run (Cert.PoolGrpIdeal.defs (F := Ideal)) (onTc (τ := Cert.PoolGrpIdeal.τ) (Cert.PoolGrpIdeal.main (F := Ideal))) ⟨m, fun _ => 0, g⟩ (fun r => (∀ c : Dev Cert.PoolGrpIdeal.nD,
      r.2.mem ((c.tc : Thread Cert.PoolGrpIdeal.nD Cert.PoolGrpIdeal.τ).loc Cert.PoolGrpIdeal.main_arg0) = m ((c.tc : Thread Cert.PoolGrpIdeal.nD Cert.PoolGrpIdeal.τ).loc Cert.PoolGrpIdeal.main_arg0)
      ∧ r.2.mem ((c.tc : Thread Cert.PoolGrpIdeal.nD Cert.PoolGrpIdeal.τ).loc Cert.PoolGrpIdeal.main_arg1) = m ((c.tc : Thread Cert.PoolGrpIdeal.nD Cert.PoolGrpIdeal.τ).loc Cert.PoolGrpIdeal.main_arg1)
      ∧ r.2.mem ((c.tc : Thread Cert.PoolGrpIdeal.nD Cert.PoolGrpIdeal.τ).loc Cert.PoolGrpIdeal.main_arg2) = m ((c.tc : Thread Cert.PoolGrpIdeal.nD Cert.PoolGrpIdeal.τ).loc Cert.PoolGrpIdeal.main_arg2)
      ∧ r.2.mem ((c.tc : Thread Cert.PoolGrpIdeal.nD Cert.PoolGrpIdeal.τ).loc Cert.PoolGrpIdeal.main_arg3) = m ((c.tc : Thread Cert.PoolGrpIdeal.nD Cert.PoolGrpIdeal.τ).loc Cert.PoolGrpIdeal.main_arg3))
      ∧ r.2.sem = fun _ => 0)

def quiescent_PoolGrpRefIdeal [hPoolGrpRefIdeal : Cert.PoolGrpRefIdeal.Facts] : Prop :=
  ∀ (m : (ℓ : Loc Cert.PoolGrpRefIdeal.nD Cert.PoolGrpRefIdeal.τ Cert.PoolGrpRefIdeal.sig) → Buf (Elt Ideal) ℓ) (g : Dev Cert.PoolGrpRefIdeal.nD → PrngReg), Pre_PoolGrpRefIdeal m →
    θ_run (Cert.PoolGrpRefIdeal.defs (F := Ideal)) (onTc (τ := Cert.PoolGrpRefIdeal.τ) (Cert.PoolGrpRefIdeal.main (F := Ideal))) ⟨m, fun _ => 0, g⟩ (fun r => (∀ c : Dev Cert.PoolGrpRefIdeal.nD,
      r.2.mem ((c.tc : Thread Cert.PoolGrpRefIdeal.nD Cert.PoolGrpRefIdeal.τ).loc Cert.PoolGrpRefIdeal.main_arg0) = m ((c.tc : Thread Cert.PoolGrpRefIdeal.nD Cert.PoolGrpRefIdeal.τ).loc Cert.PoolGrpRefIdeal.main_arg0)
      ∧ r.2.mem ((c.tc : Thread Cert.PoolGrpRefIdeal.nD Cert.PoolGrpRefIdeal.τ).loc Cert.PoolGrpRefIdeal.main_arg1) = m ((c.tc : Thread Cert.PoolGrpRefIdeal.nD Cert.PoolGrpRefIdeal.τ).loc Cert.PoolGrpRefIdeal.main_arg1)
      ∧ r.2.mem ((c.tc : Thread Cert.PoolGrpRefIdeal.nD Cert.PoolGrpRefIdeal.τ).loc Cert.PoolGrpRefIdeal.main_arg2) = m ((c.tc : Thread Cert.PoolGrpRefIdeal.nD Cert.PoolGrpRefIdeal.τ).loc Cert.PoolGrpRefIdeal.main_arg2)
      ∧ r.2.mem ((c.tc : Thread Cert.PoolGrpRefIdeal.nD Cert.PoolGrpRefIdeal.τ).loc Cert.PoolGrpRefIdeal.main_arg3) = m ((c.tc : Thread Cert.PoolGrpRefIdeal.nD Cert.PoolGrpRefIdeal.τ).loc Cert.PoolGrpRefIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_attention_finite [hAttnIdeal : Cert.AttnIdeal.Facts] [hAttnRefIdeal : Cert.AttnRefIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v71_0)) (v1 : (c : Dev Cert.AttnIdeal.nD) → Buf (Elt Ideal) ((c.tc : Thread Cert.AttnIdeal.nD Cert.AttnIdeal.τ).loc Cert.AttnIdeal.main_v71_1)) (v2 : (c : Dev Cert.AttnIdeal.nD) → Buf (Elt Ideal) ((c.tc : Thread Cert.AttnIdeal.nD Cert.AttnIdeal.τ).loc Cert.AttnIdeal.main_v71_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v71_0) = v0 c
          ∧ r.2.mem ((c.tc : Thread Cert.AttnIdeal.nD Cert.AttnIdeal.τ).loc Cert.AttnIdeal.main_v71_1) = v1 c
          ∧ r.2.mem ((c.tc : Thread Cert.AttnIdeal.nD Cert.AttnIdeal.τ).loc Cert.AttnIdeal.main_v71_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v106) = v0 c
          ∧ r.2.mem ((c.tc : Thread Cert.AttnRefIdeal.nD Cert.AttnRefIdeal.τ).loc Cert.AttnRefIdeal.main_v107) = v1 c
          ∧ r.2.mem ((c.tc : Thread Cert.AttnRefIdeal.nD Cert.AttnRefIdeal.τ).loc Cert.AttnRefIdeal.main_v108) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v6) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_ConvGin_ConvGinIdeal : Prop :=
  True

def algebraic_ConvGinIdeal_ConvGinRefIdeal [hConvGinIdeal : Cert.ConvGinIdeal.Facts] [hConvGinRefIdeal : Cert.ConvGinRefIdeal.Facts] : Prop :=
  ∀ (m : (ℓ : Loc Cert.ConvGinIdeal.nD Cert.ConvGinIdeal.τ Cert.ConvGinIdeal.sig) → Buf (Elt Ideal) ℓ) (g : Dev Cert.ConvGinIdeal.nD → PrngReg)
    (m' : (ℓ : Loc Cert.ConvGinRefIdeal.nD Cert.ConvGinRefIdeal.τ Cert.ConvGinRefIdeal.sig) → Buf (Elt Ideal) ℓ) (g' : Dev Cert.ConvGinRefIdeal.nD → PrngReg), Pre_ConvGinIdeal m →
    (∀ c : Dev Cert.ConvGinIdeal.nD,
      m' ((c.tc : Thread Cert.ConvGinRefIdeal.nD Cert.ConvGinRefIdeal.τ).loc Cert.ConvGinRefIdeal.main_arg0) = m ((c.tc : Thread Cert.ConvGinIdeal.nD Cert.ConvGinIdeal.τ).loc Cert.ConvGinIdeal.main_arg0)
      ∧ m' ((c.tc : Thread Cert.ConvGinRefIdeal.nD Cert.ConvGinRefIdeal.τ).loc Cert.ConvGinRefIdeal.main_arg1) = m ((c.tc : Thread Cert.ConvGinIdeal.nD Cert.ConvGinIdeal.τ).loc Cert.ConvGinIdeal.main_arg1)) →
    ∃ (v0 : (c : Dev Cert.ConvGinIdeal.nD) → Buf (Elt Ideal) ((c.tc : Thread Cert.ConvGinIdeal.nD Cert.ConvGinIdeal.τ).loc Cert.ConvGinIdeal.main_v0)),
      θ_run (Cert.ConvGinIdeal.defs (F := Ideal)) (onTc (τ := Cert.ConvGinIdeal.τ) (Cert.ConvGinIdeal.main (F := Ideal))) ⟨m, fun _ => 0, g⟩ (fun r => ∀ c : Dev Cert.ConvGinIdeal.nD,
          r.2.mem ((c.tc : Thread Cert.ConvGinIdeal.nD Cert.ConvGinIdeal.τ).loc Cert.ConvGinIdeal.main_v0) = v0 c
          ∧ r.2.mem ((c.tc : Thread Cert.ConvGinIdeal.nD Cert.ConvGinIdeal.τ).loc Cert.ConvGinIdeal.main_arg0) = m ((c.tc : Thread Cert.ConvGinIdeal.nD Cert.ConvGinIdeal.τ).loc Cert.ConvGinIdeal.main_arg0)
          ∧ r.2.mem ((c.tc : Thread Cert.ConvGinIdeal.nD Cert.ConvGinIdeal.τ).loc Cert.ConvGinIdeal.main_arg1) = m ((c.tc : Thread Cert.ConvGinIdeal.nD Cert.ConvGinIdeal.τ).loc Cert.ConvGinIdeal.main_arg1))
      ∧ θ_run (Cert.ConvGinRefIdeal.defs (F := Ideal)) (onTc (τ := Cert.ConvGinRefIdeal.τ) (Cert.ConvGinRefIdeal.main (F := Ideal))) ⟨m', fun _ => 0, g'⟩ (fun r => ∀ c : Dev Cert.ConvGinRefIdeal.nD,
          r.2.mem ((c.tc : Thread Cert.ConvGinRefIdeal.nD Cert.ConvGinRefIdeal.τ).loc Cert.ConvGinRefIdeal.main_v11) = v0 c
          ∧ r.2.mem ((c.tc : Thread Cert.ConvGinRefIdeal.nD Cert.ConvGinRefIdeal.τ).loc Cert.ConvGinRefIdeal.main_arg0) = m' ((c.tc : Thread Cert.ConvGinRefIdeal.nD Cert.ConvGinRefIdeal.τ).loc Cert.ConvGinRefIdeal.main_arg0)
          ∧ r.2.mem ((c.tc : Thread Cert.ConvGinRefIdeal.nD Cert.ConvGinRefIdeal.τ).loc Cert.ConvGinRefIdeal.main_arg1) = m' ((c.tc : Thread Cert.ConvGinRefIdeal.nD Cert.ConvGinRefIdeal.τ).loc Cert.ConvGinRefIdeal.main_arg1))

def preserves_PoolGin_PoolGinIdeal : Prop :=
  True

def algebraic_PoolGinIdeal_PoolGinRefIdeal [hPoolGinIdeal : Cert.PoolGinIdeal.Facts] [hPoolGinRefIdeal : Cert.PoolGinRefIdeal.Facts] : Prop :=
  ∀ (m : (ℓ : Loc Cert.PoolGinIdeal.nD Cert.PoolGinIdeal.τ Cert.PoolGinIdeal.sig) → Buf (Elt Ideal) ℓ) (g : Dev Cert.PoolGinIdeal.nD → PrngReg)
    (m' : (ℓ : Loc Cert.PoolGinRefIdeal.nD Cert.PoolGinRefIdeal.τ Cert.PoolGinRefIdeal.sig) → Buf (Elt Ideal) ℓ) (g' : Dev Cert.PoolGinRefIdeal.nD → PrngReg), Pre_PoolGinIdeal m →
    (∀ c : Dev Cert.PoolGinIdeal.nD,
      m' ((c.tc : Thread Cert.PoolGinRefIdeal.nD Cert.PoolGinRefIdeal.τ).loc Cert.PoolGinRefIdeal.main_arg0) = m ((c.tc : Thread Cert.PoolGinIdeal.nD Cert.PoolGinIdeal.τ).loc Cert.PoolGinIdeal.main_arg0)
      ∧ m' ((c.tc : Thread Cert.PoolGinRefIdeal.nD Cert.PoolGinRefIdeal.τ).loc Cert.PoolGinRefIdeal.main_arg1) = m ((c.tc : Thread Cert.PoolGinIdeal.nD Cert.PoolGinIdeal.τ).loc Cert.PoolGinIdeal.main_arg1)) →
    ∃ (v0 : (c : Dev Cert.PoolGinIdeal.nD) → Buf (Elt Ideal) ((c.tc : Thread Cert.PoolGinIdeal.nD Cert.PoolGinIdeal.τ).loc Cert.PoolGinIdeal.main_v0)),
      θ_run (Cert.PoolGinIdeal.defs (F := Ideal)) (onTc (τ := Cert.PoolGinIdeal.τ) (Cert.PoolGinIdeal.main (F := Ideal))) ⟨m, fun _ => 0, g⟩ (fun r => ∀ c : Dev Cert.PoolGinIdeal.nD,
          r.2.mem ((c.tc : Thread Cert.PoolGinIdeal.nD Cert.PoolGinIdeal.τ).loc Cert.PoolGinIdeal.main_v0) = v0 c
          ∧ r.2.mem ((c.tc : Thread Cert.PoolGinIdeal.nD Cert.PoolGinIdeal.τ).loc Cert.PoolGinIdeal.main_arg0) = m ((c.tc : Thread Cert.PoolGinIdeal.nD Cert.PoolGinIdeal.τ).loc Cert.PoolGinIdeal.main_arg0)
          ∧ r.2.mem ((c.tc : Thread Cert.PoolGinIdeal.nD Cert.PoolGinIdeal.τ).loc Cert.PoolGinIdeal.main_arg1) = m ((c.tc : Thread Cert.PoolGinIdeal.nD Cert.PoolGinIdeal.τ).loc Cert.PoolGinIdeal.main_arg1))
      ∧ θ_run (Cert.PoolGinRefIdeal.defs (F := Ideal)) (onTc (τ := Cert.PoolGinRefIdeal.τ) (Cert.PoolGinRefIdeal.main (F := Ideal))) ⟨m', fun _ => 0, g'⟩ (fun r => ∀ c : Dev Cert.PoolGinRefIdeal.nD,
          r.2.mem ((c.tc : Thread Cert.PoolGinRefIdeal.nD Cert.PoolGinRefIdeal.τ).loc Cert.PoolGinRefIdeal.main_v8) = v0 c
          ∧ r.2.mem ((c.tc : Thread Cert.PoolGinRefIdeal.nD Cert.PoolGinRefIdeal.τ).loc Cert.PoolGinRefIdeal.main_arg0) = m' ((c.tc : Thread Cert.PoolGinRefIdeal.nD Cert.PoolGinRefIdeal.τ).loc Cert.PoolGinRefIdeal.main_arg0)
          ∧ r.2.mem ((c.tc : Thread Cert.PoolGinRefIdeal.nD Cert.PoolGinRefIdeal.τ).loc Cert.PoolGinRefIdeal.main_arg1) = m' ((c.tc : Thread Cert.PoolGinRefIdeal.nD Cert.PoolGinRefIdeal.τ).loc Cert.PoolGinRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_PoolInB_PoolInBIdeal : Prop :=
  True

def algebraic_PoolInBIdeal_PoolInBRefIdeal [hPoolInBIdeal : Cert.PoolInBIdeal.Facts] [hPoolInBRefIdeal : Cert.PoolInBRefIdeal.Facts] : Prop :=
  ∀ (m : (ℓ : Loc Cert.PoolInBIdeal.nD Cert.PoolInBIdeal.τ Cert.PoolInBIdeal.sig) → Buf (Elt Ideal) ℓ) (g : Dev Cert.PoolInBIdeal.nD → PrngReg)
    (m' : (ℓ : Loc Cert.PoolInBRefIdeal.nD Cert.PoolInBRefIdeal.τ Cert.PoolInBRefIdeal.sig) → Buf (Elt Ideal) ℓ) (g' : Dev Cert.PoolInBRefIdeal.nD → PrngReg), Pre_PoolInBIdeal m →
    (∀ c : Dev Cert.PoolInBIdeal.nD,
      m' ((c.tc : Thread Cert.PoolInBRefIdeal.nD Cert.PoolInBRefIdeal.τ).loc Cert.PoolInBRefIdeal.main_arg0) = m ((c.tc : Thread Cert.PoolInBIdeal.nD Cert.PoolInBIdeal.τ).loc Cert.PoolInBIdeal.main_arg0)
      ∧ m' ((c.tc : Thread Cert.PoolInBRefIdeal.nD Cert.PoolInBRefIdeal.τ).loc Cert.PoolInBRefIdeal.main_arg1) = m ((c.tc : Thread Cert.PoolInBIdeal.nD Cert.PoolInBIdeal.τ).loc Cert.PoolInBIdeal.main_arg1)
      ∧ m' ((c.tc : Thread Cert.PoolInBRefIdeal.nD Cert.PoolInBRefIdeal.τ).loc Cert.PoolInBRefIdeal.main_arg2) = m ((c.tc : Thread Cert.PoolInBIdeal.nD Cert.PoolInBIdeal.τ).loc Cert.PoolInBIdeal.main_arg2)
      ∧ m' ((c.tc : Thread Cert.PoolInBRefIdeal.nD Cert.PoolInBRefIdeal.τ).loc Cert.PoolInBRefIdeal.main_arg3) = m ((c.tc : Thread Cert.PoolInBIdeal.nD Cert.PoolInBIdeal.τ).loc Cert.PoolInBIdeal.main_arg3)
      ∧ m' ((c.tc : Thread Cert.PoolInBRefIdeal.nD Cert.PoolInBRefIdeal.τ).loc Cert.PoolInBRefIdeal.main_arg4) = m ((c.tc : Thread Cert.PoolInBIdeal.nD Cert.PoolInBIdeal.τ).loc Cert.PoolInBIdeal.main_arg4)) →
    ∃ (v0 : (c : Dev Cert.PoolInBIdeal.nD) → Buf (Elt Ideal) ((c.tc : Thread Cert.PoolInBIdeal.nD Cert.PoolInBIdeal.τ).loc Cert.PoolInBIdeal.main_v1_0)) (v1 : (c : Dev Cert.PoolInBIdeal.nD) → Buf (Elt Ideal) ((c.tc : Thread Cert.PoolInBIdeal.nD Cert.PoolInBIdeal.τ).loc Cert.PoolInBIdeal.main_v1_1)) (v2 : (c : Dev Cert.PoolInBIdeal.nD) → Buf (Elt Ideal) ((c.tc : Thread Cert.PoolInBIdeal.nD Cert.PoolInBIdeal.τ).loc Cert.PoolInBIdeal.main_v1_2)),
      θ_run (Cert.PoolInBIdeal.defs (F := Ideal)) (onTc (τ := Cert.PoolInBIdeal.τ) (Cert.PoolInBIdeal.main (F := Ideal))) ⟨m, fun _ => 0, g⟩ (fun r => ∀ c : Dev Cert.PoolInBIdeal.nD,
          r.2.mem ((c.tc : Thread Cert.PoolInBIdeal.nD Cert.PoolInBIdeal.τ).loc Cert.PoolInBIdeal.main_v1_0) = v0 c
          ∧ r.2.mem ((c.tc : Thread Cert.PoolInBIdeal.nD Cert.PoolInBIdeal.τ).loc Cert.PoolInBIdeal.main_v1_1) = v1 c
          ∧ r.2.mem ((c.tc : Thread Cert.PoolInBIdeal.nD Cert.PoolInBIdeal.τ).loc Cert.PoolInBIdeal.main_v1_2) = v2 c
          ∧ r.2.mem ((c.tc : Thread Cert.PoolInBIdeal.nD Cert.PoolInBIdeal.τ).loc Cert.PoolInBIdeal.main_arg0) = m ((c.tc : Thread Cert.PoolInBIdeal.nD Cert.PoolInBIdeal.τ).loc Cert.PoolInBIdeal.main_arg0)
          ∧ r.2.mem ((c.tc : Thread Cert.PoolInBIdeal.nD Cert.PoolInBIdeal.τ).loc Cert.PoolInBIdeal.main_arg1) = m ((c.tc : Thread Cert.PoolInBIdeal.nD Cert.PoolInBIdeal.τ).loc Cert.PoolInBIdeal.main_arg1)
          ∧ r.2.mem ((c.tc : Thread Cert.PoolInBIdeal.nD Cert.PoolInBIdeal.τ).loc Cert.PoolInBIdeal.main_arg2) = m ((c.tc : Thread Cert.PoolInBIdeal.nD Cert.PoolInBIdeal.τ).loc Cert.PoolInBIdeal.main_arg2)
          ∧ r.2.mem ((c.tc : Thread Cert.PoolInBIdeal.nD Cert.PoolInBIdeal.τ).loc Cert.PoolInBIdeal.main_arg3) = m ((c.tc : Thread Cert.PoolInBIdeal.nD Cert.PoolInBIdeal.τ).loc Cert.PoolInBIdeal.main_arg3)
          ∧ r.2.mem ((c.tc : Thread Cert.PoolInBIdeal.nD Cert.PoolInBIdeal.τ).loc Cert.PoolInBIdeal.main_arg4) = m ((c.tc : Thread Cert.PoolInBIdeal.nD Cert.PoolInBIdeal.τ).loc Cert.PoolInBIdeal.main_arg4))
      ∧ θ_run (Cert.PoolInBRefIdeal.defs (F := Ideal)) (onTc (τ := Cert.PoolInBRefIdeal.τ) (Cert.PoolInBRefIdeal.main (F := Ideal))) ⟨m', fun _ => 0, g'⟩ (fun r => ∀ c : Dev Cert.PoolInBRefIdeal.nD,
          r.2.mem ((c.tc : Thread Cert.PoolInBRefIdeal.nD Cert.PoolInBRefIdeal.τ).loc Cert.PoolInBRefIdeal.main_v42) = v0 c
          ∧ r.2.mem ((c.tc : Thread Cert.PoolInBRefIdeal.nD Cert.PoolInBRefIdeal.τ).loc Cert.PoolInBRefIdeal.main_v43) = v1 c
          ∧ r.2.mem ((c.tc : Thread Cert.PoolInBRefIdeal.nD Cert.PoolInBRefIdeal.τ).loc Cert.PoolInBRefIdeal.main_v44) = v2 c
          ∧ r.2.mem ((c.tc : Thread Cert.PoolInBRefIdeal.nD Cert.PoolInBRefIdeal.τ).loc Cert.PoolInBRefIdeal.main_arg0) = m' ((c.tc : Thread Cert.PoolInBRefIdeal.nD Cert.PoolInBRefIdeal.τ).loc Cert.PoolInBRefIdeal.main_arg0)
          ∧ r.2.mem ((c.tc : Thread Cert.PoolInBRefIdeal.nD Cert.PoolInBRefIdeal.τ).loc Cert.PoolInBRefIdeal.main_arg1) = m' ((c.tc : Thread Cert.PoolInBRefIdeal.nD Cert.PoolInBRefIdeal.τ).loc Cert.PoolInBRefIdeal.main_arg1)
          ∧ r.2.mem ((c.tc : Thread Cert.PoolInBRefIdeal.nD Cert.PoolInBRefIdeal.τ).loc Cert.PoolInBRefIdeal.main_arg2) = m' ((c.tc : Thread Cert.PoolInBRefIdeal.nD Cert.PoolInBRefIdeal.τ).loc Cert.PoolInBRefIdeal.main_arg2)
          ∧ r.2.mem ((c.tc : Thread Cert.PoolInBRefIdeal.nD Cert.PoolInBRefIdeal.τ).loc Cert.PoolInBRefIdeal.main_arg3) = m' ((c.tc : Thread Cert.PoolInBRefIdeal.nD Cert.PoolInBRefIdeal.τ).loc Cert.PoolInBRefIdeal.main_arg3)
          ∧ r.2.mem ((c.tc : Thread Cert.PoolInBRefIdeal.nD Cert.PoolInBRefIdeal.τ).loc Cert.PoolInBRefIdeal.main_arg4) = m' ((c.tc : Thread Cert.PoolInBRefIdeal.nD Cert.PoolInBRefIdeal.τ).loc Cert.PoolInBRefIdeal.main_arg4))

def preserves_ConvInB_ConvInBIdeal : Prop :=
  True

def algebraic_ConvInBIdeal_ConvInBRefIdeal [hConvInBIdeal : Cert.ConvInBIdeal.Facts] [hConvInBRefIdeal : Cert.ConvInBRefIdeal.Facts] : Prop :=
  ∀ (m : (ℓ : Loc Cert.ConvInBIdeal.nD Cert.ConvInBIdeal.τ Cert.ConvInBIdeal.sig) → Buf (Elt Ideal) ℓ) (g : Dev Cert.ConvInBIdeal.nD → PrngReg)
    (m' : (ℓ : Loc Cert.ConvInBRefIdeal.nD Cert.ConvInBRefIdeal.τ Cert.ConvInBRefIdeal.sig) → Buf (Elt Ideal) ℓ) (g' : Dev Cert.ConvInBRefIdeal.nD → PrngReg), Pre_ConvInBIdeal m →
    (∀ c : Dev Cert.ConvInBIdeal.nD,
      m' ((c.tc : Thread Cert.ConvInBRefIdeal.nD Cert.ConvInBRefIdeal.τ).loc Cert.ConvInBRefIdeal.main_arg0) = m ((c.tc : Thread Cert.ConvInBIdeal.nD Cert.ConvInBIdeal.τ).loc Cert.ConvInBIdeal.main_arg0)
      ∧ m' ((c.tc : Thread Cert.ConvInBRefIdeal.nD Cert.ConvInBRefIdeal.τ).loc Cert.ConvInBRefIdeal.main_arg1) = m ((c.tc : Thread Cert.ConvInBIdeal.nD Cert.ConvInBIdeal.τ).loc Cert.ConvInBIdeal.main_arg1)
      ∧ m' ((c.tc : Thread Cert.ConvInBRefIdeal.nD Cert.ConvInBRefIdeal.τ).loc Cert.ConvInBRefIdeal.main_arg2) = m ((c.tc : Thread Cert.ConvInBIdeal.nD Cert.ConvInBIdeal.τ).loc Cert.ConvInBIdeal.main_arg2)
      ∧ m' ((c.tc : Thread Cert.ConvInBRefIdeal.nD Cert.ConvInBRefIdeal.τ).loc Cert.ConvInBRefIdeal.main_arg3) = m ((c.tc : Thread Cert.ConvInBIdeal.nD Cert.ConvInBIdeal.τ).loc Cert.ConvInBIdeal.main_arg3)
      ∧ m' ((c.tc : Thread Cert.ConvInBRefIdeal.nD Cert.ConvInBRefIdeal.τ).loc Cert.ConvInBRefIdeal.main_arg4) = m ((c.tc : Thread Cert.ConvInBIdeal.nD Cert.ConvInBIdeal.τ).loc Cert.ConvInBIdeal.main_arg4)) →
    ∃ (v0 : (c : Dev Cert.ConvInBIdeal.nD) → Buf (Elt Ideal) ((c.tc : Thread Cert.ConvInBIdeal.nD Cert.ConvInBIdeal.τ).loc Cert.ConvInBIdeal.main_v1_0)) (v1 : (c : Dev Cert.ConvInBIdeal.nD) → Buf (Elt Ideal) ((c.tc : Thread Cert.ConvInBIdeal.nD Cert.ConvInBIdeal.τ).loc Cert.ConvInBIdeal.main_v1_1)) (v2 : (c : Dev Cert.ConvInBIdeal.nD) → Buf (Elt Ideal) ((c.tc : Thread Cert.ConvInBIdeal.nD Cert.ConvInBIdeal.τ).loc Cert.ConvInBIdeal.main_v1_2)),
      θ_run (Cert.ConvInBIdeal.defs (F := Ideal)) (onTc (τ := Cert.ConvInBIdeal.τ) (Cert.ConvInBIdeal.main (F := Ideal))) ⟨m, fun _ => 0, g⟩ (fun r => ∀ c : Dev Cert.ConvInBIdeal.nD,
          r.2.mem ((c.tc : Thread Cert.ConvInBIdeal.nD Cert.ConvInBIdeal.τ).loc Cert.ConvInBIdeal.main_v1_0) = v0 c
          ∧ r.2.mem ((c.tc : Thread Cert.ConvInBIdeal.nD Cert.ConvInBIdeal.τ).loc Cert.ConvInBIdeal.main_v1_1) = v1 c
          ∧ r.2.mem ((c.tc : Thread Cert.ConvInBIdeal.nD Cert.ConvInBIdeal.τ).loc Cert.ConvInBIdeal.main_v1_2) = v2 c
          ∧ r.2.mem ((c.tc : Thread Cert.ConvInBIdeal.nD Cert.ConvInBIdeal.τ).loc Cert.ConvInBIdeal.main_arg0) = m ((c.tc : Thread Cert.ConvInBIdeal.nD Cert.ConvInBIdeal.τ).loc Cert.ConvInBIdeal.main_arg0)
          ∧ r.2.mem ((c.tc : Thread Cert.ConvInBIdeal.nD Cert.ConvInBIdeal.τ).loc Cert.ConvInBIdeal.main_arg1) = m ((c.tc : Thread Cert.ConvInBIdeal.nD Cert.ConvInBIdeal.τ).loc Cert.ConvInBIdeal.main_arg1)
          ∧ r.2.mem ((c.tc : Thread Cert.ConvInBIdeal.nD Cert.ConvInBIdeal.τ).loc Cert.ConvInBIdeal.main_arg2) = m ((c.tc : Thread Cert.ConvInBIdeal.nD Cert.ConvInBIdeal.τ).loc Cert.ConvInBIdeal.main_arg2)
          ∧ r.2.mem ((c.tc : Thread Cert.ConvInBIdeal.nD Cert.ConvInBIdeal.τ).loc Cert.ConvInBIdeal.main_arg3) = m ((c.tc : Thread Cert.ConvInBIdeal.nD Cert.ConvInBIdeal.τ).loc Cert.ConvInBIdeal.main_arg3)
          ∧ r.2.mem ((c.tc : Thread Cert.ConvInBIdeal.nD Cert.ConvInBIdeal.τ).loc Cert.ConvInBIdeal.main_arg4) = m ((c.tc : Thread Cert.ConvInBIdeal.nD Cert.ConvInBIdeal.τ).loc Cert.ConvInBIdeal.main_arg4))
      ∧ θ_run (Cert.ConvInBRefIdeal.defs (F := Ideal)) (onTc (τ := Cert.ConvInBRefIdeal.τ) (Cert.ConvInBRefIdeal.main (F := Ideal))) ⟨m', fun _ => 0, g'⟩ (fun r => ∀ c : Dev Cert.ConvInBRefIdeal.nD,
          r.2.mem ((c.tc : Thread Cert.ConvInBRefIdeal.nD Cert.ConvInBRefIdeal.τ).loc Cert.ConvInBRefIdeal.main_v45) = v0 c
          ∧ r.2.mem ((c.tc : Thread Cert.ConvInBRefIdeal.nD Cert.ConvInBRefIdeal.τ).loc Cert.ConvInBRefIdeal.main_v46) = v1 c
          ∧ r.2.mem ((c.tc : Thread Cert.ConvInBRefIdeal.nD Cert.ConvInBRefIdeal.τ).loc Cert.ConvInBRefIdeal.main_v47) = v2 c
          ∧ r.2.mem ((c.tc : Thread Cert.ConvInBRefIdeal.nD Cert.ConvInBRefIdeal.τ).loc Cert.ConvInBRefIdeal.main_arg0) = m' ((c.tc : Thread Cert.ConvInBRefIdeal.nD Cert.ConvInBRefIdeal.τ).loc Cert.ConvInBRefIdeal.main_arg0)
          ∧ r.2.mem ((c.tc : Thread Cert.ConvInBRefIdeal.nD Cert.ConvInBRefIdeal.τ).loc Cert.ConvInBRefIdeal.main_arg1) = m' ((c.tc : Thread Cert.ConvInBRefIdeal.nD Cert.ConvInBRefIdeal.τ).loc Cert.ConvInBRefIdeal.main_arg1)
          ∧ r.2.mem ((c.tc : Thread Cert.ConvInBRefIdeal.nD Cert.ConvInBRefIdeal.τ).loc Cert.ConvInBRefIdeal.main_arg2) = m' ((c.tc : Thread Cert.ConvInBRefIdeal.nD Cert.ConvInBRefIdeal.τ).loc Cert.ConvInBRefIdeal.main_arg2)
          ∧ r.2.mem ((c.tc : Thread Cert.ConvInBRefIdeal.nD Cert.ConvInBRefIdeal.τ).loc Cert.ConvInBRefIdeal.main_arg3) = m' ((c.tc : Thread Cert.ConvInBRefIdeal.nD Cert.ConvInBRefIdeal.τ).loc Cert.ConvInBRefIdeal.main_arg3)
          ∧ r.2.mem ((c.tc : Thread Cert.ConvInBRefIdeal.nD Cert.ConvInBRefIdeal.τ).loc Cert.ConvInBRefIdeal.main_arg4) = m' ((c.tc : Thread Cert.ConvInBRefIdeal.nD Cert.ConvInBRefIdeal.τ).loc Cert.ConvInBRefIdeal.main_arg4))

def preserves_Ggrp_GgrpIdeal : Prop :=
  True

def algebraic_GgrpIdeal_GgrpRefIdeal [hGgrpIdeal : Cert.GgrpIdeal.Facts] [hGgrpRefIdeal : Cert.GgrpRefIdeal.Facts] : Prop :=
  ∀ (m : (ℓ : Loc Cert.GgrpIdeal.nD Cert.GgrpIdeal.τ Cert.GgrpIdeal.sig) → Buf (Elt Ideal) ℓ) (g : Dev Cert.GgrpIdeal.nD → PrngReg)
    (m' : (ℓ : Loc Cert.GgrpRefIdeal.nD Cert.GgrpRefIdeal.τ Cert.GgrpRefIdeal.sig) → Buf (Elt Ideal) ℓ) (g' : Dev Cert.GgrpRefIdeal.nD → PrngReg), Pre_GgrpIdeal m →
    (∀ c : Dev Cert.GgrpIdeal.nD,
      m' ((c.tc : Thread Cert.GgrpRefIdeal.nD Cert.GgrpRefIdeal.τ).loc Cert.GgrpRefIdeal.main_arg0) = m ((c.tc : Thread Cert.GgrpIdeal.nD Cert.GgrpIdeal.τ).loc Cert.GgrpIdeal.main_arg0)
      ∧ m' ((c.tc : Thread Cert.GgrpRefIdeal.nD Cert.GgrpRefIdeal.τ).loc Cert.GgrpRefIdeal.main_arg1) = m ((c.tc : Thread Cert.GgrpIdeal.nD Cert.GgrpIdeal.τ).loc Cert.GgrpIdeal.main_arg1)) →
    ∃ (v0 : (c : Dev Cert.GgrpIdeal.nD) → Buf (Elt Ideal) ((c.tc : Thread Cert.GgrpIdeal.nD Cert.GgrpIdeal.τ).loc Cert.GgrpIdeal.main_v0)),
      θ_run (Cert.GgrpIdeal.defs (F := Ideal)) (onTc (τ := Cert.GgrpIdeal.τ) (Cert.GgrpIdeal.main (F := Ideal))) ⟨m, fun _ => 0, g⟩ (fun r => ∀ c : Dev Cert.GgrpIdeal.nD,
          r.2.mem ((c.tc : Thread Cert.GgrpIdeal.nD Cert.GgrpIdeal.τ).loc Cert.GgrpIdeal.main_v0) = v0 c
          ∧ r.2.mem ((c.tc : Thread Cert.GgrpIdeal.nD Cert.GgrpIdeal.τ).loc Cert.GgrpIdeal.main_arg0) = m ((c.tc : Thread Cert.GgrpIdeal.nD Cert.GgrpIdeal.τ).loc Cert.GgrpIdeal.main_arg0)
          ∧ r.2.mem ((c.tc : Thread Cert.GgrpIdeal.nD Cert.GgrpIdeal.τ).loc Cert.GgrpIdeal.main_arg1) = m ((c.tc : Thread Cert.GgrpIdeal.nD Cert.GgrpIdeal.τ).loc Cert.GgrpIdeal.main_arg1))
      ∧ θ_run (Cert.GgrpRefIdeal.defs (F := Ideal)) (onTc (τ := Cert.GgrpRefIdeal.τ) (Cert.GgrpRefIdeal.main (F := Ideal))) ⟨m', fun _ => 0, g'⟩ (fun r => ∀ c : Dev Cert.GgrpRefIdeal.nD,
          r.2.mem ((c.tc : Thread Cert.GgrpRefIdeal.nD Cert.GgrpRefIdeal.τ).loc Cert.GgrpRefIdeal.main_v13) = v0 c
          ∧ r.2.mem ((c.tc : Thread Cert.GgrpRefIdeal.nD Cert.GgrpRefIdeal.τ).loc Cert.GgrpRefIdeal.main_arg0) = m' ((c.tc : Thread Cert.GgrpRefIdeal.nD Cert.GgrpRefIdeal.τ).loc Cert.GgrpRefIdeal.main_arg0)
          ∧ r.2.mem ((c.tc : Thread Cert.GgrpRefIdeal.nD Cert.GgrpRefIdeal.τ).loc Cert.GgrpRefIdeal.main_arg1) = m' ((c.tc : Thread Cert.GgrpRefIdeal.nD Cert.GgrpRefIdeal.τ).loc Cert.GgrpRefIdeal.main_arg1))

def preserves_Gz_GzIdeal : Prop :=
  True

def algebraic_GzIdeal_GzRefIdeal [hGzIdeal : Cert.GzIdeal.Facts] [hGzRefIdeal : Cert.GzRefIdeal.Facts] : Prop :=
  ∀ (m : (ℓ : Loc Cert.GzIdeal.nD Cert.GzIdeal.τ Cert.GzIdeal.sig) → Buf (Elt Ideal) ℓ) (g : Dev Cert.GzIdeal.nD → PrngReg)
    (m' : (ℓ : Loc Cert.GzRefIdeal.nD Cert.GzRefIdeal.τ Cert.GzRefIdeal.sig) → Buf (Elt Ideal) ℓ) (g' : Dev Cert.GzRefIdeal.nD → PrngReg), Pre_GzIdeal m →
    (∀ c : Dev Cert.GzIdeal.nD,
      m' ((c.tc : Thread Cert.GzRefIdeal.nD Cert.GzRefIdeal.τ).loc Cert.GzRefIdeal.main_arg0) = m ((c.tc : Thread Cert.GzIdeal.nD Cert.GzIdeal.τ).loc Cert.GzIdeal.main_arg0)
      ∧ m' ((c.tc : Thread Cert.GzRefIdeal.nD Cert.GzRefIdeal.τ).loc Cert.GzRefIdeal.main_arg1) = m ((c.tc : Thread Cert.GzIdeal.nD Cert.GzIdeal.τ).loc Cert.GzIdeal.main_arg1)) →
    ∃ (v0 : (c : Dev Cert.GzIdeal.nD) → Buf (Elt Ideal) ((c.tc : Thread Cert.GzIdeal.nD Cert.GzIdeal.τ).loc Cert.GzIdeal.main_v0)),
      θ_run (Cert.GzIdeal.defs (F := Ideal)) (onTc (τ := Cert.GzIdeal.τ) (Cert.GzIdeal.main (F := Ideal))) ⟨m, fun _ => 0, g⟩ (fun r => ∀ c : Dev Cert.GzIdeal.nD,
          r.2.mem ((c.tc : Thread Cert.GzIdeal.nD Cert.GzIdeal.τ).loc Cert.GzIdeal.main_v0) = v0 c
          ∧ r.2.mem ((c.tc : Thread Cert.GzIdeal.nD Cert.GzIdeal.τ).loc Cert.GzIdeal.main_arg0) = m ((c.tc : Thread Cert.GzIdeal.nD Cert.GzIdeal.τ).loc Cert.GzIdeal.main_arg0)
          ∧ r.2.mem ((c.tc : Thread Cert.GzIdeal.nD Cert.GzIdeal.τ).loc Cert.GzIdeal.main_arg1) = m ((c.tc : Thread Cert.GzIdeal.nD Cert.GzIdeal.τ).loc Cert.GzIdeal.main_arg1))
      ∧ θ_run (Cert.GzRefIdeal.defs (F := Ideal)) (onTc (τ := Cert.GzRefIdeal.τ) (Cert.GzRefIdeal.main (F := Ideal))) ⟨m', fun _ => 0, g'⟩ (fun r => ∀ c : Dev Cert.GzRefIdeal.nD,
          r.2.mem ((c.tc : Thread Cert.GzRefIdeal.nD Cert.GzRefIdeal.τ).loc Cert.GzRefIdeal.main_v6) = v0 c
          ∧ r.2.mem ((c.tc : Thread Cert.GzRefIdeal.nD Cert.GzRefIdeal.τ).loc Cert.GzRefIdeal.main_arg0) = m' ((c.tc : Thread Cert.GzRefIdeal.nD Cert.GzRefIdeal.τ).loc Cert.GzRefIdeal.main_arg0)
          ∧ r.2.mem ((c.tc : Thread Cert.GzRefIdeal.nD Cert.GzRefIdeal.τ).loc Cert.GzRefIdeal.main_arg1) = m' ((c.tc : Thread Cert.GzRefIdeal.nD Cert.GzRefIdeal.τ).loc Cert.GzRefIdeal.main_arg1))

def preserves_Gqup_GqupIdeal : Prop :=
  True

def algebraic_GqupIdeal_GqupRefIdeal [hGqupIdeal : Cert.GqupIdeal.Facts] [hGqupRefIdeal : Cert.GqupRefIdeal.Facts] : Prop :=
  ∀ (m : (ℓ : Loc Cert.GqupIdeal.nD Cert.GqupIdeal.τ Cert.GqupIdeal.sig) → Buf (Elt Ideal) ℓ) (g : Dev Cert.GqupIdeal.nD → PrngReg)
    (m' : (ℓ : Loc Cert.GqupRefIdeal.nD Cert.GqupRefIdeal.τ Cert.GqupRefIdeal.sig) → Buf (Elt Ideal) ℓ) (g' : Dev Cert.GqupRefIdeal.nD → PrngReg), Pre_GqupIdeal m →
    (∀ c : Dev Cert.GqupIdeal.nD,
      m' ((c.tc : Thread Cert.GqupRefIdeal.nD Cert.GqupRefIdeal.τ).loc Cert.GqupRefIdeal.main_arg0) = m ((c.tc : Thread Cert.GqupIdeal.nD Cert.GqupIdeal.τ).loc Cert.GqupIdeal.main_arg0)
      ∧ m' ((c.tc : Thread Cert.GqupRefIdeal.nD Cert.GqupRefIdeal.τ).loc Cert.GqupRefIdeal.main_arg1) = m ((c.tc : Thread Cert.GqupIdeal.nD Cert.GqupIdeal.τ).loc Cert.GqupIdeal.main_arg1)) →
    ∃ (v0 : (c : Dev Cert.GqupIdeal.nD) → Buf (Elt Ideal) ((c.tc : Thread Cert.GqupIdeal.nD Cert.GqupIdeal.τ).loc Cert.GqupIdeal.main_v0)),
      θ_run (Cert.GqupIdeal.defs (F := Ideal)) (onTc (τ := Cert.GqupIdeal.τ) (Cert.GqupIdeal.main (F := Ideal))) ⟨m, fun _ => 0, g⟩ (fun r => ∀ c : Dev Cert.GqupIdeal.nD,
          r.2.mem ((c.tc : Thread Cert.GqupIdeal.nD Cert.GqupIdeal.τ).loc Cert.GqupIdeal.main_v0) = v0 c
          ∧ r.2.mem ((c.tc : Thread Cert.GqupIdeal.nD Cert.GqupIdeal.τ).loc Cert.GqupIdeal.main_arg0) = m ((c.tc : Thread Cert.GqupIdeal.nD Cert.GqupIdeal.τ).loc Cert.GqupIdeal.main_arg0)
          ∧ r.2.mem ((c.tc : Thread Cert.GqupIdeal.nD Cert.GqupIdeal.τ).loc Cert.GqupIdeal.main_arg1) = m ((c.tc : Thread Cert.GqupIdeal.nD Cert.GqupIdeal.τ).loc Cert.GqupIdeal.main_arg1))
      ∧ θ_run (Cert.GqupRefIdeal.defs (F := Ideal)) (onTc (τ := Cert.GqupRefIdeal.τ) (Cert.GqupRefIdeal.main (F := Ideal))) ⟨m', fun _ => 0, g'⟩ (fun r => ∀ c : Dev Cert.GqupRefIdeal.nD,
          r.2.mem ((c.tc : Thread Cert.GqupRefIdeal.nD Cert.GqupRefIdeal.τ).loc Cert.GqupRefIdeal.main_v10) = v0 c
          ∧ r.2.mem ((c.tc : Thread Cert.GqupRefIdeal.nD Cert.GqupRefIdeal.τ).loc Cert.GqupRefIdeal.main_arg0) = m' ((c.tc : Thread Cert.GqupRefIdeal.nD Cert.GqupRefIdeal.τ).loc Cert.GqupRefIdeal.main_arg0)
          ∧ r.2.mem ((c.tc : Thread Cert.GqupRefIdeal.nD Cert.GqupRefIdeal.τ).loc Cert.GqupRefIdeal.main_arg1) = m' ((c.tc : Thread Cert.GqupRefIdeal.nD Cert.GqupRefIdeal.τ).loc Cert.GqupRefIdeal.main_arg1))

def preserves_Gkvup_GkvupIdeal : Prop :=
  True

def algebraic_GkvupIdeal_GkvupRefIdeal [hGkvupIdeal : Cert.GkvupIdeal.Facts] [hGkvupRefIdeal : Cert.GkvupRefIdeal.Facts] : Prop :=
  ∀ (m : (ℓ : Loc Cert.GkvupIdeal.nD Cert.GkvupIdeal.τ Cert.GkvupIdeal.sig) → Buf (Elt Ideal) ℓ) (g : Dev Cert.GkvupIdeal.nD → PrngReg)
    (m' : (ℓ : Loc Cert.GkvupRefIdeal.nD Cert.GkvupRefIdeal.τ Cert.GkvupRefIdeal.sig) → Buf (Elt Ideal) ℓ) (g' : Dev Cert.GkvupRefIdeal.nD → PrngReg), Pre_GkvupIdeal m →
    (∀ c : Dev Cert.GkvupIdeal.nD,
      m' ((c.tc : Thread Cert.GkvupRefIdeal.nD Cert.GkvupRefIdeal.τ).loc Cert.GkvupRefIdeal.main_arg0) = m ((c.tc : Thread Cert.GkvupIdeal.nD Cert.GkvupIdeal.τ).loc Cert.GkvupIdeal.main_arg0)
      ∧ m' ((c.tc : Thread Cert.GkvupRefIdeal.nD Cert.GkvupRefIdeal.τ).loc Cert.GkvupRefIdeal.main_arg1) = m ((c.tc : Thread Cert.GkvupIdeal.nD Cert.GkvupIdeal.τ).loc Cert.GkvupIdeal.main_arg1)) →
    ∃ (v0 : (c : Dev Cert.GkvupIdeal.nD) → Buf (Elt Ideal) ((c.tc : Thread Cert.GkvupIdeal.nD Cert.GkvupIdeal.τ).loc Cert.GkvupIdeal.main_v0)),
      θ_run (Cert.GkvupIdeal.defs (F := Ideal)) (onTc (τ := Cert.GkvupIdeal.τ) (Cert.GkvupIdeal.main (F := Ideal))) ⟨m, fun _ => 0, g⟩ (fun r => ∀ c : Dev Cert.GkvupIdeal.nD,
          r.2.mem ((c.tc : Thread Cert.GkvupIdeal.nD Cert.GkvupIdeal.τ).loc Cert.GkvupIdeal.main_v0) = v0 c
          ∧ r.2.mem ((c.tc : Thread Cert.GkvupIdeal.nD Cert.GkvupIdeal.τ).loc Cert.GkvupIdeal.main_arg0) = m ((c.tc : Thread Cert.GkvupIdeal.nD Cert.GkvupIdeal.τ).loc Cert.GkvupIdeal.main_arg0)
          ∧ r.2.mem ((c.tc : Thread Cert.GkvupIdeal.nD Cert.GkvupIdeal.τ).loc Cert.GkvupIdeal.main_arg1) = m ((c.tc : Thread Cert.GkvupIdeal.nD Cert.GkvupIdeal.τ).loc Cert.GkvupIdeal.main_arg1))
      ∧ θ_run (Cert.GkvupRefIdeal.defs (F := Ideal)) (onTc (τ := Cert.GkvupRefIdeal.τ) (Cert.GkvupRefIdeal.main (F := Ideal))) ⟨m', fun _ => 0, g'⟩ (fun r => ∀ c : Dev Cert.GkvupRefIdeal.nD,
          r.2.mem ((c.tc : Thread Cert.GkvupRefIdeal.nD Cert.GkvupRefIdeal.τ).loc Cert.GkvupRefIdeal.main_v8) = v0 c
          ∧ r.2.mem ((c.tc : Thread Cert.GkvupRefIdeal.nD Cert.GkvupRefIdeal.τ).loc Cert.GkvupRefIdeal.main_arg0) = m' ((c.tc : Thread Cert.GkvupRefIdeal.nD Cert.GkvupRefIdeal.τ).loc Cert.GkvupRefIdeal.main_arg0)
          ∧ r.2.mem ((c.tc : Thread Cert.GkvupRefIdeal.nD Cert.GkvupRefIdeal.τ).loc Cert.GkvupRefIdeal.main_arg1) = m' ((c.tc : Thread Cert.GkvupRefIdeal.nD Cert.GkvupRefIdeal.τ).loc Cert.GkvupRefIdeal.main_arg1))

def preserves_LatentOut_LatentOutIdeal : Prop :=
  True

def algebraic_LatentOutIdeal_OutProjRefIdeal [hLatentOutIdeal : Cert.LatentOutIdeal.Facts] [hOutProjRefIdeal : Cert.OutProjRefIdeal.Facts] : Prop :=
  ∀ (m : (ℓ : Loc Cert.LatentOutIdeal.nD Cert.LatentOutIdeal.τ Cert.LatentOutIdeal.sig) → Buf (Elt Ideal) ℓ) (g : Dev Cert.LatentOutIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_LatentOutIdeal m →
    (∀ c : Dev Cert.LatentOutIdeal.nD,
      m' ((c.tc : Thread Cert.OutProjRefIdeal.nD Cert.OutProjRefIdeal.τ).loc Cert.OutProjRefIdeal.main_arg0) = m ((c.tc : Thread Cert.LatentOutIdeal.nD Cert.LatentOutIdeal.τ).loc Cert.LatentOutIdeal.main_arg0)
      ∧ m' ((c.tc : Thread Cert.OutProjRefIdeal.nD Cert.OutProjRefIdeal.τ).loc Cert.OutProjRefIdeal.main_arg1) = m ((c.tc : Thread Cert.LatentOutIdeal.nD Cert.LatentOutIdeal.τ).loc Cert.LatentOutIdeal.main_arg1)
      ∧ m' ((c.tc : Thread Cert.OutProjRefIdeal.nD Cert.OutProjRefIdeal.τ).loc Cert.OutProjRefIdeal.main_arg2) = m ((c.tc : Thread Cert.LatentOutIdeal.nD Cert.LatentOutIdeal.τ).loc Cert.LatentOutIdeal.main_arg2)) →
    ∃ (v0 : (c : Dev Cert.LatentOutIdeal.nD) → Buf (Elt Ideal) ((c.tc : Thread Cert.LatentOutIdeal.nD Cert.LatentOutIdeal.τ).loc Cert.LatentOutIdeal.main_v0)),
      θ_run (Cert.LatentOutIdeal.defs (F := Ideal)) (onTc (τ := Cert.LatentOutIdeal.τ) (Cert.LatentOutIdeal.main (F := Ideal))) ⟨m, fun _ => 0, g⟩ (fun r => ∀ c : Dev Cert.LatentOutIdeal.nD,
          r.2.mem ((c.tc : Thread Cert.LatentOutIdeal.nD Cert.LatentOutIdeal.τ).loc Cert.LatentOutIdeal.main_v0) = v0 c
          ∧ r.2.mem ((c.tc : Thread Cert.LatentOutIdeal.nD Cert.LatentOutIdeal.τ).loc Cert.LatentOutIdeal.main_arg0) = m ((c.tc : Thread Cert.LatentOutIdeal.nD Cert.LatentOutIdeal.τ).loc Cert.LatentOutIdeal.main_arg0)
          ∧ r.2.mem ((c.tc : Thread Cert.LatentOutIdeal.nD Cert.LatentOutIdeal.τ).loc Cert.LatentOutIdeal.main_arg1) = m ((c.tc : Thread Cert.LatentOutIdeal.nD Cert.LatentOutIdeal.τ).loc Cert.LatentOutIdeal.main_arg1)
          ∧ r.2.mem ((c.tc : Thread Cert.LatentOutIdeal.nD Cert.LatentOutIdeal.τ).loc Cert.LatentOutIdeal.main_arg2) = m ((c.tc : Thread Cert.LatentOutIdeal.nD Cert.LatentOutIdeal.τ).loc Cert.LatentOutIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_PoolIn_PoolInIdeal : Prop :=
  True

def algebraic_PoolInIdeal_PoolInRefIdeal [hPoolInIdeal : Cert.PoolInIdeal.Facts] [hPoolInRefIdeal : Cert.PoolInRefIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.PoolInRefIdeal.nD Cert.PoolInRefIdeal.τ Cert.PoolInRefIdeal.sig) → Buf (Elt Ideal) ℓ) (g' : Dev Cert.PoolInRefIdeal.nD → PrngReg), Pre_PoolInIdeal m →
    (∀ c : Dev Cert.PoolInIdeal.nD,
      m' ((c.tc : Thread Cert.PoolInRefIdeal.nD Cert.PoolInRefIdeal.τ).loc Cert.PoolInRefIdeal.main_arg0) = m ((c.tc : Thread Cert.PoolInIdeal.nD Cert.PoolInIdeal.τ).loc Cert.PoolInIdeal.main_arg0)
      ∧ m' ((c.tc : Thread Cert.PoolInRefIdeal.nD Cert.PoolInRefIdeal.τ).loc Cert.PoolInRefIdeal.main_arg1) = m ((c.tc : Thread Cert.PoolInIdeal.nD Cert.PoolInIdeal.τ).loc Cert.PoolInIdeal.main_arg1)
      ∧ m' ((c.tc : Thread Cert.PoolInRefIdeal.nD Cert.PoolInRefIdeal.τ).loc Cert.PoolInRefIdeal.main_arg2) = m ((c.tc : Thread Cert.PoolInIdeal.nD Cert.PoolInIdeal.τ).loc Cert.PoolInIdeal.main_arg2)) →
    ∃ (v0 : (c : Dev Cert.PoolInIdeal.nD) → Buf (Elt Ideal) ((c.tc : Thread Cert.PoolInIdeal.nD Cert.PoolInIdeal.τ).loc Cert.PoolInIdeal.main_v1_0)) (v1 : (c : Dev Cert.PoolInIdeal.nD) → Buf (Elt Ideal) ((c.tc : Thread Cert.PoolInIdeal.nD Cert.PoolInIdeal.τ).loc Cert.PoolInIdeal.main_v1_1)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v1_0) = v0 c
          ∧ r.2.mem ((c.tc : Thread Cert.PoolInIdeal.nD Cert.PoolInIdeal.τ).loc Cert.PoolInIdeal.main_v1_1) = v1 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1)
          ∧ r.2.mem ((c.tc : Thread Cert.PoolInIdeal.nD Cert.PoolInIdeal.τ).loc Cert.PoolInIdeal.main_arg2) = m ((c.tc : Thread Cert.PoolInIdeal.nD Cert.PoolInIdeal.τ).loc Cert.PoolInIdeal.main_arg2))
      ∧ θ_run (Cert.PoolInRefIdeal.defs (F := Ideal)) (onTc (τ := Cert.PoolInRefIdeal.τ) (Cert.PoolInRefIdeal.main (F := Ideal))) ⟨m', fun _ => 0, g'⟩ (fun r => ∀ c : Dev Cert.PoolInRefIdeal.nD,
          r.2.mem ((c.tc : Thread Cert.PoolInRefIdeal.nD Cert.PoolInRefIdeal.τ).loc Cert.PoolInRefIdeal.main_v17) = v0 c
          ∧ r.2.mem ((c.tc : Thread Cert.PoolInRefIdeal.nD Cert.PoolInRefIdeal.τ).loc Cert.PoolInRefIdeal.main_v18) = v1 c
          ∧ r.2.mem ((c.tc : Thread Cert.PoolInRefIdeal.nD Cert.PoolInRefIdeal.τ).loc Cert.PoolInRefIdeal.main_arg0) = m' ((c.tc : Thread Cert.PoolInRefIdeal.nD Cert.PoolInRefIdeal.τ).loc Cert.PoolInRefIdeal.main_arg0)
          ∧ r.2.mem ((c.tc : Thread Cert.PoolInRefIdeal.nD Cert.PoolInRefIdeal.τ).loc Cert.PoolInRefIdeal.main_arg1) = m' ((c.tc : Thread Cert.PoolInRefIdeal.nD Cert.PoolInRefIdeal.τ).loc Cert.PoolInRefIdeal.main_arg1)
          ∧ r.2.mem ((c.tc : Thread Cert.PoolInRefIdeal.nD Cert.PoolInRefIdeal.τ).loc Cert.PoolInRefIdeal.main_arg2) = m' ((c.tc : Thread Cert.PoolInRefIdeal.nD Cert.PoolInRefIdeal.τ).loc Cert.PoolInRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v1_0)) (v1 : (c : Dev Cert.ConvInIdeal.nD) → Buf (Elt Ideal) ((c.tc : Thread Cert.ConvInIdeal.nD Cert.ConvInIdeal.τ).loc Cert.ConvInIdeal.main_v1_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v1_0) = v0 c
          ∧ r.2.mem ((c.tc : Thread Cert.ConvInIdeal.nD Cert.ConvInIdeal.τ).loc Cert.ConvInIdeal.main_v1_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v17) = v0 c
          ∧ r.2.mem ((c.tc : Thread Cert.ConvInRefIdeal.nD Cert.ConvInRefIdeal.τ).loc Cert.ConvInRefIdeal.main_v18) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_AttnFwd_AttnFwdIdeal : Prop :=
  IdealRules.named_const.Statement Cert.AttnFwdIdeal.κ "mask" .f32 0xF149F2CA#32 ⊥
  ∧ IdealRules.named_const.Statement Cert.AttnFwdIdeal.κ "log2e" .f32 0x3FB8AA3B#32 (((Real.log 2)⁻¹ : ℝ) : EReal)

def algebraic_AttnFwdIdeal_AttnFwdRefIdeal_pre_forward_finite [hAttnFwdIdeal : Cert.AttnFwdIdeal.Facts] [hAttnFwdRefIdeal : Cert.AttnFwdRefIdeal.Facts] [hPre_forward_finite : Cert.Pre_forward_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_forward_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v6_0)) (v1 : (c : Dev Cert.AttnFwdIdeal.nD) → Buf (Elt Ideal) ((c.tc : Thread Cert.AttnFwdIdeal.nD Cert.AttnFwdIdeal.τ).loc Cert.AttnFwdIdeal.main_v6_1)) (v2 : (c : Dev Cert.AttnFwdIdeal.nD) → Buf (Elt Ideal) ((c.tc : Thread Cert.AttnFwdIdeal.nD Cert.AttnFwdIdeal.τ).loc Cert.AttnFwdIdeal.main_v6_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v6_0) = v0 c
          ∧ r.2.mem ((c.tc : Thread Cert.AttnFwdIdeal.nD Cert.AttnFwdIdeal.τ).loc Cert.AttnFwdIdeal.main_v6_1) = v1 c
          ∧ r.2.mem ((c.tc : Thread Cert.AttnFwdIdeal.nD Cert.AttnFwdIdeal.τ).loc Cert.AttnFwdIdeal.main_v6_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v20) = v0 c
          ∧ r.2.mem ((c.tc : Thread Cert.AttnFwdRefIdeal.nD Cert.AttnFwdRefIdeal.τ).loc Cert.AttnFwdRefIdeal.main_v31) = v1 c
          ∧ r.2.mem ((c.tc : Thread Cert.AttnFwdRefIdeal.nD Cert.AttnFwdRefIdeal.τ).loc Cert.AttnFwdRefIdeal.main_v27) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_PoolGrp_PoolGrpIdeal : Prop :=
  True

def algebraic_PoolGrpIdeal_PoolGrpRefIdeal [hPoolGrpIdeal : Cert.PoolGrpIdeal.Facts] [hPoolGrpRefIdeal : Cert.PoolGrpRefIdeal.Facts] : Prop :=
  ∀ (m : (ℓ : Loc Cert.PoolGrpIdeal.nD Cert.PoolGrpIdeal.τ Cert.PoolGrpIdeal.sig) → Buf (Elt Ideal) ℓ) (g : Dev Cert.PoolGrpIdeal.nD → PrngReg)
    (m' : (ℓ : Loc Cert.PoolGrpRefIdeal.nD Cert.PoolGrpRefIdeal.τ Cert.PoolGrpRefIdeal.sig) → Buf (Elt Ideal) ℓ) (g' : Dev Cert.PoolGrpRefIdeal.nD → PrngReg), Pre_PoolGrpIdeal m →
    (∀ c : Dev Cert.PoolGrpIdeal.nD,
      m' ((c.tc : Thread Cert.PoolGrpRefIdeal.nD Cert.PoolGrpRefIdeal.τ).loc Cert.PoolGrpRefIdeal.main_arg0) = m ((c.tc : Thread Cert.PoolGrpIdeal.nD Cert.PoolGrpIdeal.τ).loc Cert.PoolGrpIdeal.main_arg0)
      ∧ m' ((c.tc : Thread Cert.PoolGrpRefIdeal.nD Cert.PoolGrpRefIdeal.τ).loc Cert.PoolGrpRefIdeal.main_arg1) = m ((c.tc : Thread Cert.PoolGrpIdeal.nD Cert.PoolGrpIdeal.τ).loc Cert.PoolGrpIdeal.main_arg1)
      ∧ m' ((c.tc : Thread Cert.PoolGrpRefIdeal.nD Cert.PoolGrpRefIdeal.τ).loc Cert.PoolGrpRefIdeal.main_arg2) = m ((c.tc : Thread Cert.PoolGrpIdeal.nD Cert.PoolGrpIdeal.τ).loc Cert.PoolGrpIdeal.main_arg2)
      ∧ m' ((c.tc : Thread Cert.PoolGrpRefIdeal.nD Cert.PoolGrpRefIdeal.τ).loc Cert.PoolGrpRefIdeal.main_arg3) = m ((c.tc : Thread Cert.PoolGrpIdeal.nD Cert.PoolGrpIdeal.τ).loc Cert.PoolGrpIdeal.main_arg3)) →
    ∃ (v0 : (c : Dev Cert.PoolGrpIdeal.nD) → Buf (Elt Ideal) ((c.tc : Thread Cert.PoolGrpIdeal.nD Cert.PoolGrpIdeal.τ).loc Cert.PoolGrpIdeal.main_v1)),
      θ_run (Cert.PoolGrpIdeal.defs (F := Ideal)) (onTc (τ := Cert.PoolGrpIdeal.τ) (Cert.PoolGrpIdeal.main (F := Ideal))) ⟨m, fun _ => 0, g⟩ (fun r => ∀ c : Dev Cert.PoolGrpIdeal.nD,
          r.2.mem ((c.tc : Thread Cert.PoolGrpIdeal.nD Cert.PoolGrpIdeal.τ).loc Cert.PoolGrpIdeal.main_v1) = v0 c
          ∧ r.2.mem ((c.tc : Thread Cert.PoolGrpIdeal.nD Cert.PoolGrpIdeal.τ).loc Cert.PoolGrpIdeal.main_arg0) = m ((c.tc : Thread Cert.PoolGrpIdeal.nD Cert.PoolGrpIdeal.τ).loc Cert.PoolGrpIdeal.main_arg0)
          ∧ r.2.mem ((c.tc : Thread Cert.PoolGrpIdeal.nD Cert.PoolGrpIdeal.τ).loc Cert.PoolGrpIdeal.main_arg1) = m ((c.tc : Thread Cert.PoolGrpIdeal.nD Cert.PoolGrpIdeal.τ).loc Cert.PoolGrpIdeal.main_arg1)
          ∧ r.2.mem ((c.tc : Thread Cert.PoolGrpIdeal.nD Cert.PoolGrpIdeal.τ).loc Cert.PoolGrpIdeal.main_arg2) = m ((c.tc : Thread Cert.PoolGrpIdeal.nD Cert.PoolGrpIdeal.τ).loc Cert.PoolGrpIdeal.main_arg2)
          ∧ r.2.mem ((c.tc : Thread Cert.PoolGrpIdeal.nD Cert.PoolGrpIdeal.τ).loc Cert.PoolGrpIdeal.main_arg3) = m ((c.tc : Thread Cert.PoolGrpIdeal.nD Cert.PoolGrpIdeal.τ).loc Cert.PoolGrpIdeal.main_arg3))
      ∧ θ_run (Cert.PoolGrpRefIdeal.defs (F := Ideal)) (onTc (τ := Cert.PoolGrpRefIdeal.τ) (Cert.PoolGrpRefIdeal.main (F := Ideal))) ⟨m', fun _ => 0, g'⟩ (fun r => ∀ c : Dev Cert.PoolGrpRefIdeal.nD,
          r.2.mem ((c.tc : Thread Cert.PoolGrpRefIdeal.nD Cert.PoolGrpRefIdeal.τ).loc Cert.PoolGrpRefIdeal.main_v16) = v0 c
          ∧ r.2.mem ((c.tc : Thread Cert.PoolGrpRefIdeal.nD Cert.PoolGrpRefIdeal.τ).loc Cert.PoolGrpRefIdeal.main_arg0) = m' ((c.tc : Thread Cert.PoolGrpRefIdeal.nD Cert.PoolGrpRefIdeal.τ).loc Cert.PoolGrpRefIdeal.main_arg0)
          ∧ r.2.mem ((c.tc : Thread Cert.PoolGrpRefIdeal.nD Cert.PoolGrpRefIdeal.τ).loc Cert.PoolGrpRefIdeal.main_arg1) = m' ((c.tc : Thread Cert.PoolGrpRefIdeal.nD Cert.PoolGrpRefIdeal.τ).loc Cert.PoolGrpRefIdeal.main_arg1)
          ∧ r.2.mem ((c.tc : Thread Cert.PoolGrpRefIdeal.nD Cert.PoolGrpRefIdeal.τ).loc Cert.PoolGrpRefIdeal.main_arg2) = m' ((c.tc : Thread Cert.PoolGrpRefIdeal.nD Cert.PoolGrpRefIdeal.τ).loc Cert.PoolGrpRefIdeal.main_arg2)
          ∧ r.2.mem ((c.tc : Thread Cert.PoolGrpRefIdeal.nD Cert.PoolGrpRefIdeal.τ).loc Cert.PoolGrpRefIdeal.main_arg3) = m' ((c.tc : Thread Cert.PoolGrpRefIdeal.nD Cert.PoolGrpRefIdeal.τ).loc Cert.PoolGrpRefIdeal.main_arg3))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hGout : Cert.Gout.Facts) (hGoutIdeal : Cert.GoutIdeal.Facts) (hGoutRefIdeal : Cert.GoutRefIdeal.Facts) (hConvGin : Cert.ConvGin.Facts) (hConvGinIdeal : Cert.ConvGinIdeal.Facts) (hConvGinRefIdeal : Cert.ConvGinRefIdeal.Facts) (hPoolGin : Cert.PoolGin.Facts) (hPoolGinIdeal : Cert.PoolGinIdeal.Facts) (hPoolGinRefIdeal : Cert.PoolGinRefIdeal.Facts) (hOutProj : Cert.OutProj.Facts) (hOutProjIdeal : Cert.OutProjIdeal.Facts) (hOutProjRefIdeal : Cert.OutProjRefIdeal.Facts) (hPoolInB : Cert.PoolInB.Facts) (hPoolInBIdeal : Cert.PoolInBIdeal.Facts) (hPoolInBRefIdeal : Cert.PoolInBRefIdeal.Facts) (hConvInB : Cert.ConvInB.Facts) (hConvInBIdeal : Cert.ConvInBIdeal.Facts) (hConvInBRefIdeal : Cert.ConvInBRefIdeal.Facts) (hGgrp : Cert.Ggrp.Facts) (hGgrpIdeal : Cert.GgrpIdeal.Facts) (hGgrpRefIdeal : Cert.GgrpRefIdeal.Facts) (hGz : Cert.Gz.Facts) (hGzIdeal : Cert.GzIdeal.Facts) (hGzRefIdeal : Cert.GzRefIdeal.Facts) (hGqup : Cert.Gqup.Facts) (hGqupIdeal : Cert.GqupIdeal.Facts) (hGqupRefIdeal : Cert.GqupRefIdeal.Facts) (hGkvup : Cert.Gkvup.Facts) (hGkvupIdeal : Cert.GkvupIdeal.Facts) (hGkvupRefIdeal : Cert.GkvupRefIdeal.Facts) (hLatentOut : Cert.LatentOut.Facts) (hLatentOutIdeal : Cert.LatentOutIdeal.Facts) (hPoolIn : Cert.PoolIn.Facts) (hPoolInIdeal : Cert.PoolInIdeal.Facts) (hPoolInRefIdeal : Cert.PoolInRefIdeal.Facts) (hConvIn : Cert.ConvIn.Facts) (hConvInIdeal : Cert.ConvInIdeal.Facts) (hConvInRefIdeal : Cert.ConvInRefIdeal.Facts) (hAttnFwd : Cert.AttnFwd.Facts) (hAttnFwdIdeal : Cert.AttnFwdIdeal.Facts) (hAttnFwdRefIdeal : Cert.AttnFwdRefIdeal.Facts) (hPoolGrp : Cert.PoolGrp.Facts) (hPoolGrpIdeal : Cert.PoolGrpIdeal.Facts) (hPoolGrpRefIdeal : Cert.PoolGrpRefIdeal.Facts) (hPre_all_finite : Cert.Pre_all_finite.Facts) (hPre_attention_finite : Cert.Pre_attention_finite.Facts) (hPre_forward_finite : Cert.Pre_forward_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Attn (hAttn := hAttn)
    ∧ quiescent_AttnIdeal (hAttnIdeal := hAttnIdeal)
    ∧ quiescent_AttnIdeal_pre_attention_finite (hAttnIdeal := hAttnIdeal) (hPre_attention_finite := hPre_attention_finite)
    ∧ quiescent_AttnRefIdeal (hAttnRefIdeal := hAttnRefIdeal)
    ∧ quiescent_AttnRefIdeal_pre_attention_finite (hAttnRefIdeal := hAttnRefIdeal) (hPre_attention_finite := hPre_attention_finite)
    ∧ quiescent_Gout (hGout := hGout)
    ∧ quiescent_GoutIdeal (hGoutIdeal := hGoutIdeal)
    ∧ quiescent_GoutRefIdeal (hGoutRefIdeal := hGoutRefIdeal)
    ∧ quiescent_ConvGin (hConvGin := hConvGin)
    ∧ quiescent_ConvGinIdeal (hConvGinIdeal := hConvGinIdeal)
    ∧ quiescent_ConvGinRefIdeal (hConvGinRefIdeal := hConvGinRefIdeal)
    ∧ quiescent_PoolGin (hPoolGin := hPoolGin)
    ∧ quiescent_PoolGinIdeal (hPoolGinIdeal := hPoolGinIdeal)
    ∧ quiescent_PoolGinRefIdeal (hPoolGinRefIdeal := hPoolGinRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PoolInB (hPoolInB := hPoolInB)
    ∧ quiescent_PoolInBIdeal (hPoolInBIdeal := hPoolInBIdeal)
    ∧ quiescent_PoolInBRefIdeal (hPoolInBRefIdeal := hPoolInBRefIdeal)
    ∧ quiescent_ConvInB (hConvInB := hConvInB)
    ∧ quiescent_ConvInBIdeal (hConvInBIdeal := hConvInBIdeal)
    ∧ quiescent_ConvInBRefIdeal (hConvInBRefIdeal := hConvInBRefIdeal)
    ∧ quiescent_Ggrp (hGgrp := hGgrp)
    ∧ quiescent_GgrpIdeal (hGgrpIdeal := hGgrpIdeal)
    ∧ quiescent_GgrpRefIdeal (hGgrpRefIdeal := hGgrpRefIdeal)
    ∧ quiescent_Gz (hGz := hGz)
    ∧ quiescent_GzIdeal (hGzIdeal := hGzIdeal)
    ∧ quiescent_GzRefIdeal (hGzRefIdeal := hGzRefIdeal)
    ∧ quiescent_Gqup (hGqup := hGqup)
    ∧ quiescent_GqupIdeal (hGqupIdeal := hGqupIdeal)
    ∧ quiescent_GqupRefIdeal (hGqupRefIdeal := hGqupRefIdeal)
    ∧ quiescent_Gkvup (hGkvup := hGkvup)
    ∧ quiescent_GkvupIdeal (hGkvupIdeal := hGkvupIdeal)
    ∧ quiescent_GkvupRefIdeal (hGkvupRefIdeal := hGkvupRefIdeal)
    ∧ quiescent_LatentOut (hLatentOut := hLatentOut)
    ∧ quiescent_LatentOutIdeal (hLatentOutIdeal := hLatentOutIdeal)
    ∧ quiescent_PoolIn (hPoolIn := hPoolIn)
    ∧ quiescent_PoolInIdeal (hPoolInIdeal := hPoolInIdeal)
    ∧ quiescent_PoolInRefIdeal (hPoolInRefIdeal := hPoolInRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_AttnFwd (hAttnFwd := hAttnFwd)
    ∧ quiescent_AttnFwdIdeal (hAttnFwdIdeal := hAttnFwdIdeal)
    ∧ quiescent_AttnFwdIdeal_pre_forward_finite (hAttnFwdIdeal := hAttnFwdIdeal) (hPre_forward_finite := hPre_forward_finite)
    ∧ quiescent_AttnFwdRefIdeal (hAttnFwdRefIdeal := hAttnFwdRefIdeal)
    ∧ quiescent_AttnFwdRefIdeal_pre_forward_finite (hAttnFwdRefIdeal := hAttnFwdRefIdeal) (hPre_forward_finite := hPre_forward_finite)
    ∧ quiescent_PoolGrp (hPoolGrp := hPoolGrp)
    ∧ quiescent_PoolGrpIdeal (hPoolGrpIdeal := hPoolGrpIdeal)
    ∧ quiescent_PoolGrpRefIdeal (hPoolGrpRefIdeal := hPoolGrpRefIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Attn_AttnIdeal
    ∧ algebraic_AttnIdeal_AttnRefIdeal_pre_attention_finite (hAttnIdeal := hAttnIdeal) (hAttnRefIdeal := hAttnRefIdeal) (hPre_attention_finite := hPre_attention_finite)
    ∧ preserves_Gout_GoutIdeal
    ∧ algebraic_GoutIdeal_GoutRefIdeal (hGoutIdeal := hGoutIdeal) (hGoutRefIdeal := hGoutRefIdeal)
    ∧ preserves_ConvGin_ConvGinIdeal
    ∧ algebraic_ConvGinIdeal_ConvGinRefIdeal (hConvGinIdeal := hConvGinIdeal) (hConvGinRefIdeal := hConvGinRefIdeal)
    ∧ preserves_PoolGin_PoolGinIdeal
    ∧ algebraic_PoolGinIdeal_PoolGinRefIdeal (hPoolGinIdeal := hPoolGinIdeal) (hPoolGinRefIdeal := hPoolGinRefIdeal)
    ∧ preserves_OutProj_OutProjIdeal
    ∧ algebraic_OutProjIdeal_OutProjRefIdeal (hOutProjIdeal := hOutProjIdeal) (hOutProjRefIdeal := hOutProjRefIdeal)
    ∧ preserves_PoolInB_PoolInBIdeal
    ∧ algebraic_PoolInBIdeal_PoolInBRefIdeal (hPoolInBIdeal := hPoolInBIdeal) (hPoolInBRefIdeal := hPoolInBRefIdeal)
    ∧ preserves_ConvInB_ConvInBIdeal
    ∧ algebraic_ConvInBIdeal_ConvInBRefIdeal (hConvInBIdeal := hConvInBIdeal) (hConvInBRefIdeal := hConvInBRefIdeal)
    ∧ preserves_Ggrp_GgrpIdeal
    ∧ algebraic_GgrpIdeal_GgrpRefIdeal (hGgrpIdeal := hGgrpIdeal) (hGgrpRefIdeal := hGgrpRefIdeal)
    ∧ preserves_Gz_GzIdeal
    ∧ algebraic_GzIdeal_GzRefIdeal (hGzIdeal := hGzIdeal) (hGzRefIdeal := hGzRefIdeal)
    ∧ preserves_Gqup_GqupIdeal
    ∧ algebraic_GqupIdeal_GqupRefIdeal (hGqupIdeal := hGqupIdeal) (hGqupRefIdeal := hGqupRefIdeal)
    ∧ preserves_Gkvup_GkvupIdeal
    ∧ algebraic_GkvupIdeal_GkvupRefIdeal (hGkvupIdeal := hGkvupIdeal) (hGkvupRefIdeal := hGkvupRefIdeal)
    ∧ preserves_LatentOut_LatentOutIdeal
    ∧ algebraic_LatentOutIdeal_OutProjRefIdeal (hLatentOutIdeal := hLatentOutIdeal) (hOutProjRefIdeal := hOutProjRefIdeal)
    ∧ preserves_PoolIn_PoolInIdeal
    ∧ algebraic_PoolInIdeal_PoolInRefIdeal (hPoolInIdeal := hPoolInIdeal) (hPoolInRefIdeal := hPoolInRefIdeal)
    ∧ preserves_ConvIn_ConvInIdeal
    ∧ algebraic_ConvInIdeal_ConvInRefIdeal (hConvInIdeal := hConvInIdeal) (hConvInRefIdeal := hConvInRefIdeal)
    ∧ preserves_AttnFwd_AttnFwdIdeal
    ∧ algebraic_AttnFwdIdeal_AttnFwdRefIdeal_pre_forward_finite (hAttnFwdIdeal := hAttnFwdIdeal) (hAttnFwdRefIdeal := hAttnFwdRefIdeal) (hPre_forward_finite := hPre_forward_finite)
    ∧ preserves_PoolGrp_PoolGrpIdeal
    ∧ algebraic_PoolGrpIdeal_PoolGrpRefIdeal (hPoolGrpIdeal := hPoolGrpIdeal) (hPoolGrpRefIdeal := hPoolGrpRefIdeal)
-- ==== Pre_all_finite.lean ====
abbrev S4096x1024 : Shape := ⟨2, ![4096, 1024]⟩
abbrev S8x256x1024 : Shape := ⟨3, ![8, 256, 1024]⟩
abbrev S4096x8192 : Shape := ⟨2, ![4096, 8192]⟩
abbrev S3x2048 : Shape := ⟨2, ![3, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S8x256x1024 : S_.BroadcastsInDim S8x256x1024 (![] : Fin 0 → Fin S8x256x1024.rank)
  bcast_S_S4096x8192 : S_.BroadcastsInDim S4096x8192 (![] : Fin 0 → Fin S4096x8192.rank)
  bcast_S_S3x2048 : S_.BroadcastsInDim S3x2048 (![] : Fin 0 → Fin S3x2048.rank)

variable [Facts]

def fn {F : FTy → Type} [FloatOps F] (main_arg0 : FVec F S4096x1024 .bf16) (main_arg1 : FVec F S8x256x1024 .bf16) (main_arg2 : FVec F S4096x8192 .bf16) (main_arg3 : FVec F S3x2048 .f32) : IVec S4096x1024 1 × IVec S8x256x1024 1 × IVec S4096x8192 1 × IVec S3x2048 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S8x256x1024 .f32 := (extf .f32 · bitsLt_bf16_f32) main_arg1
  let main_v5 : FVec F S8x256x1024 .f32 := Host.absf main_v4
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  let main_v8 : FVec F S4096x8192 .f32 := (extf .f32 · bitsLt_bf16_f32) main_arg2
  let main_v9 : FVec F S4096x8192 .f32 := Host.absf main_v8
  let main_cst_1 : FVec F S_ .f32 := constant S_ .f32 0x7F800000#32
  let main_v10 : FVec F S4096x8192 .f32 := broadcastInDim S4096x8192 ![] bcast_S_S4096x8192 main_cst_1
  let main_v11 : IVec S4096x8192 1 := cmpf .olt main_v9 main_v10
  let main_v12 : FVec F S3x2048 .f32 := Host.absf main_arg3
  let main_cst_2 : FVec F S_ .f32 := constant S_ .f32 0x7F800000#32
  let main_v13 : FVec F S3x2048 .f32 := broadcastInDim S3x2048 ![] bcast_S_S3x2048 main_cst_2
  let main_v14 : IVec S3x2048 1 := cmpf .olt main_v12 main_v13
  (main_v3, main_v7, main_v11, main_v14)
-- ==== Pre_attention_finite.lean ====
abbrev S16x4096x192 : Shape := ⟨3, ![16, 4096, 192]⟩
abbrev S16x4096x128 : Shape := ⟨3, ![16, 4096, 128]⟩
abbrev S4096x2048 : Shape := ⟨2, ![4096, 2048]⟩
abbrev S4096x32 : Shape := ⟨2, ![4096, 32]⟩
abbrev S_ : Shape := ⟨0, ![]⟩

class Facts : Prop where
  bcast_S_S16x4096x192 : S_.BroadcastsInDim S16x4096x192 (![] : Fin 0 → Fin S16x4096x192.rank)
  bitsLt_bf16_f32 : FTy.bits .bf16 < FTy.bits .f32
  bcast_S_S16x4096x128 : S_.BroadcastsInDim S16x4096x128 (![] : Fin 0 → Fin S16x4096x128.rank)
  bcast_S_S4096x2048 : S_.BroadcastsInDim S4096x2048 (![] : Fin 0 → Fin S4096x2048.rank)
  bcast_S_S4096x32 : S_.BroadcastsInDim S4096x32 (![] : Fin 0 → Fin S4096x32.rank)

variable [Facts]

def fn_part1 {F : FTy → Type} [FloatOps F] (main_v2 : IVec S16x4096x192 1) (main_v6 : IVec S16x4096x192 1) (main_v10 : IVec S16x4096x128 1) (main_v14 : IVec S4096x2048 1) (main_v17 : IVec S4096x32 1) (main_v18 : FVec F S4096x32 .f32) : IVec S16x4096x192 1 × IVec S16x4096x192 1 × IVec S16x4096x128 1 × IVec S4096x2048 1 × IVec S4096x32 1 × IVec S4096x32 1 :=
  let main_cst_4 : FVec F S_ .f32 := constant S_ .f32 0x7F800000#32
  let main_v19 : FVec F S4096x32 .f32 := broadcastInDim S4096x32 ![] bcast_S_S4096x32 main_cst_4
  let main_v20 : IVec S4096x32 1 := cmpf .olt main_v18 main_v19
  (main_v2, main_v6, main_v10, main_v14, main_v17, main_v20)

def fn {F : FTy → Type} [FloatOps F] (main_arg0 : FVec F S16x4096x192 .f32) (main_arg1 : FVec F S16x4096x192 .bf16) (main_arg2 : FVec F S16x4096x128 .bf16) (main_arg3 : FVec F S4096x2048 .bf16) (main_arg4 : FVec F S4096x32 .f32) (main_arg5 : FVec F S4096x32 .f32) : IVec S16x4096x192 1 × IVec S16x4096x192 1 × IVec S16x4096x128 1 × IVec S4096x2048 1 × IVec S4096x32 1 × IVec S4096x32 1 :=
  let main_v0 : FVec F S16x4096x192 .f32 := Host.absf main_arg0
  let main_cst : FVec F S_ .f32 := constant S_ .f32 0x7F800000#32
  let main_v1 : FVec F S16x4096x192 .f32 := broadcastInDim S16x4096x192 ![] bcast_S_S16x4096x192 main_cst
  let main_v2 : IVec S16x4096x192 1 := cmpf .olt main_v0 main_v1
  let main_v3 : FVec F S16x4096x192 .f32 := (extf .f32 · bitsLt_bf16_f32) main_arg1
  let main_v4 : FVec F S16x4096x192 .f32 := Host.absf main_v3
  let main_cst_0 : FVec F S_ .f32 := constant S_ .f32 0x7F800000#32
  let main_v5 : FVec F S16x4096x192 .f32 := broadcastInDim S16x4096x192 ![] bcast_S_S16x4096x192 main_cst_0
  let main_v6 : IVec S16x4096x192 1 := cmpf .olt main_v4 main_v5
  let main_v7 : FVec F S16x4096x128 .f32 := (extf .f32 · bitsLt_bf16_f32) main_arg2
  let main_v8 : FVec F S16x4096x128 .f32 := Host.absf main_v7
  let main_cst_1 : FVec F S_ .f32 := constant S_ .f32 0x7F800000#32
  let main_v9 : FVec F S16x4096x128 .f32 := broadcastInDim S16x4096x128 ![] bcast_S_S16x4096x128 main_cst_1
  let main_v10 : IVec S16x4096x128 1 := cmpf .olt main_v8 main_v9
  let main_v11 : FVec F S4096x2048 .f32 := (extf .f32 · bitsLt_bf16_f32) main_arg3
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_v15 : FVec F S4096x32 .f32 := Host.absf main_arg4
  let main_cst_3 : FVec F S_ .f32 := constant S_ .f32 0x7F800000#32
  let main_v16 : FVec F S4096x32 .f32 := broadcastInDim S4096x32 ![] bcast_S_S4096x32 main_cst_3
  let main_v17 : IVec S4096x32 1 := cmpf .olt main_v15 main_v16
  let main_v18 : FVec F S4096x32 .f32 := Host.absf main_arg5
  fn_part1 (F := F) main_v2 main_v6 main_v10 main_v14 main_v17 main_v18
-- ==== Pre_forward_finite.lean ====
abbrev S16x4096x192 : Shape := ⟨3, ![16, 4096, 192]⟩
abbrev S16x4096x128 : Shape := ⟨3, ![16, 4096, 128]⟩
abbrev S4096x2048 : Shape := ⟨2, ![4096, 2048]⟩
abbrev S_ : Shape := ⟨0, ![]⟩

class Facts : Prop where
  bcast_S_S16x4096x192 : S_.BroadcastsInDim S16x4096x192 (![] : Fin 0 → Fin S16x4096x192.rank)
  bitsLt_bf16_f32 : FTy.bits .bf16 < FTy.bits .f32

variable [Facts]

def fn {F : FTy → Type} [FloatOps F] (main_arg0 : FVec F S16x4096x192 .f32) (main_arg1 : FVec F S16x4096x192 .bf16) (main_arg2 : FVec F S16x4096x128 .bf16) (main_arg3 : FVec F S4096x2048 .bf16) : IVec S16x4096x192 1 × IVec S16x4096x192 1 :=
  let main_v0 : FVec F S16x4096x192 .f32 := Host.absf main_arg0
  let main_cst : FVec F S_ .f32 := constant S_ .f32 0x7F800000#32
  let main_v1 : FVec F S16x4096x192 .f32 := broadcastInDim S16x4096x192 ![] bcast_S_S16x4096x192 main_cst
  let main_v2 : IVec S16x4096x192 1 := cmpf .olt main_v0 main_v1
  let main_v3 : FVec F S16x4096x192 .f32 := (extf .f32 · bitsLt_bf16_f32) main_arg1
  let main_v4 : FVec F S16x4096x192 .f32 := Host.absf main_v3
  let main_cst_0 : FVec F S_ .f32 := constant S_ .f32 0x7F800000#32
  let main_v5 : FVec F S16x4096x192 .f32 := broadcastInDim S16x4096x192 ![] bcast_S_S16x4096x192 main_cst_0
  let main_v6 : IVec S16x4096x192 1 := cmpf .olt main_v4 main_v5
  (main_v2, main_v6)
-- ==== Kernel.lean ====
abbrev S4096x1024 : Shape := ⟨2, ![4096, 1024]⟩
abbrev S8x256x1024 : Shape := ⟨3, ![8, 256, 1024]⟩
abbrev S4096x8192 : Shape := ⟨2, ![4096, 8192]⟩
abbrev S3x2048 : Shape := ⟨2, ![3, 2048]⟩
abbrev S1024x1024 : Shape := ⟨2, ![1024, 1024]⟩
abbrev S16x1024 : Shape := ⟨2, ![16, 1024]⟩
abbrev S2x256x1024 : Shape := ⟨3, ![2, 256, 1024]⟩
abbrev S1024x512 : Shape := ⟨2, ![1024, 512]⟩
abbrev S16x512 : Shape := ⟨2, ![16, 512]⟩
abbrev S3x512 : Shape := ⟨2, ![3, 512]⟩
abbrev S1024x2048 : Shape := ⟨2, ![1024, 2048]⟩
abbrev S1040x512 : Shape := ⟨2, ![1040, 512]⟩
abbrev S512x1024 : Shape := ⟨2, ![512, 1024]⟩
abbrev S1x512 : Shape := ⟨2, ![1, 512]⟩
abbrev S512 : Shape := ⟨1, ![512]⟩

abbrev nBuf : Space → Nat
  | .hbm => 6
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S8x256x1024, .bf16⟩
  | .hbm, ⟨2, _⟩ => ⟨S4096x8192, .bf16⟩
  | .hbm, ⟨3, _⟩ => ⟨S3x2048, .f32⟩
  | .hbm, ⟨4, _⟩ => ⟨S4096x8192, .bf16⟩
  | .hbm, ⟨5, _⟩ => ⟨S3x2048, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S2x256x1024, .bf16⟩
  | .local _ .vmem, ⟨5, _⟩ => ⟨S2x256x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S3x512, .f32⟩
  | .local _ .vmem, ⟨23, _⟩ => ⟨S3x512, .f32⟩
  | .local _ .vmem, ⟨24, _⟩ => ⟨S1024x2048, .bf16⟩
  | .local _ .vmem, ⟨25, _⟩ => ⟨S1024x2048, .bf16⟩
  | .local _ .vmem, ⟨26, _⟩ => ⟨S3x512, .f32⟩
  | .local _ .vmem, ⟨27, _⟩ => ⟨S3x512, .f32⟩
  | .local _ .vmem, ⟨28, _⟩ => ⟨S1040x512, .f32⟩
  | .local _ .vmem, ⟨29, _⟩ => ⟨S1040x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_56 : BitVec 32 := 0#32
  let v108 : BitVec 1 := Scalar.cmpi .eq arg1 c0_i32_56
  let v109 : BitVec 32 := Scalar.extui v108
  let c0_i32_57 : BitVec 32 := 0#32
  let v110 : BitVec 1 := Scalar.cmpi .ne v109 c0_i32_57
  v110

def k0_cond2 (i : grid0.Coords) : BitVec 1 :=
  let arg1 : BitVec 32 := BitVec.ofNat 32 (i 1).val
  let c0_i32_58 : BitVec 32 := 0#32
  let v111 : BitVec 1 := Scalar.cmpi .sgt arg1 c0_i32_58
  let v112 : BitVec 32 := Scalar.extui v111
  let c0_i32_59 : BitVec 32 := 0#32
  let v113 : BitVec 1 := Scalar.cmpi .ne v112 c0_i32_59
  v113

def k0_cond3 (i : grid0.Coords) : BitVec 1 :=
  let arg1 : BitVec 32 := BitVec.ofNat 32 (i 1).val
  let c0_i32_61 : BitVec 32 := 0#32
  let v117 : BitVec 1 := Scalar.cmpi .eq arg1 c0_i32_61
  let v118 : BitVec 32 := Scalar.extui v117
  let c0_i32_62 : BitVec 32 := 0#32
  let v119 : BitVec 1 := Scalar.cmpi .ne v118 c0_i32_62
  v119

def k0_cond4 (i : grid0.Coords) : BitVec 1 :=
  let arg1 : BitVec 32 := BitVec.ofNat 32 (i 1).val
  let c0_i32_63 : BitVec 32 := 0#32
  let v120 : BitVec 1 := Scalar.cmpi .sgt arg1 c0_i32_63
  let v121 : BitVec 32 := Scalar.extui v120
  let c0_i32_64 : BitVec 32 := 0#32
  let v122 : BitVec 1 := Scalar.cmpi .ne v121 c0_i32_64
  v122

def k0_cond5 (i : grid0.Coords) : BitVec 1 :=
  let arg1 : BitVec 32 := BitVec.ofNat 32 (i 1).val
  let c0_i32_66 : BitVec 32 := 0#32
  let v126 : BitVec 1 := Scalar.cmpi .eq arg1 c0_i32_66
  let v127 : BitVec 32 := Scalar.extui v126
  let c0_i32_67 : BitVec 32 := 0#32
  let v128 : BitVec 1 := Scalar.cmpi .ne v127 c0_i32_67
  v128

def k0_cond6 (i : grid0.Coords) : BitVec 1 :=
  let arg1 : BitVec 32 := BitVec.ofNat 32 (i 1).val
  let c0_i32_68 : BitVec 32 := 0#32
  let v129 : BitVec 1 := Scalar.cmpi .sgt arg1 c0_i32_68
  let v130 : BitVec 32 := Scalar.extui v129
  let c0_i32_69 : BitVec 32 := 0#32
  let v131 : BitVec 1 := Scalar.cmpi .ne v130 c0_i32_69
  v131

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c12_i32 : BitVec 32 := 12#32
  let v3 : BitVec 32 := Scalar.addi c12_i32 arg0
  let c0_i32 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4096x1024 : Shape := ⟨2, ![4096, 1024]⟩
abbrev S8x256x1024 : Shape := ⟨3, ![8, 256, 1024]⟩
abbrev S4096x8192 : Shape := ⟨2, ![4096, 8192]⟩
abbrev S3x2048 : Shape := ⟨2, ![3, 2048]⟩
abbrev S2048x1024 : Shape := ⟨2, ![2048, 1024]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S4096x4x4x512 : Shape := ⟨4, ![4096, 4, 4, 512]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x256x1024, .bf16⟩
  | .hbm, ⟨2, _⟩ => ⟨S4096x8192, .bf16⟩
  | .hbm, ⟨3, _⟩ => ⟨S3x2048, .f32⟩
  | .hbm, ⟨4, _⟩ => ⟨S4096x1024, .f32⟩
  | .hbm, ⟨5, _⟩ => ⟨S8x256x1024, .f32⟩
  | .hbm, ⟨6, _⟩ => ⟨S2048x1024, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2x2048, .f32⟩
  | .hbm, ⟨15, _⟩ => ⟨S4098x2048, .f32⟩
  | .hbm, ⟨16, _⟩ => ⟨S_, .f32⟩
  | .hbm, ⟨17, _⟩ => ⟨S2x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x1024, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S3x2048, .f32⟩
  | .hbm, ⟨74, _⟩ => ⟨S_, .f32⟩
  | .hbm, ⟨75, _⟩ => ⟨S4098x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S_, .f32⟩
  | .hbm, ⟨86, _⟩ => ⟨S3x2048, .f32⟩
  | .hbm, ⟨87, _⟩ => ⟨S3x2048, .f32⟩
  | .hbm, ⟨88, _⟩ => ⟨S_, .f32⟩
  | .hbm, ⟨89, _⟩ => ⟨S4098x2048, .f32⟩
  | .hbm, ⟨90, _⟩ => ⟨S4098x2048, .f32⟩
  | .hbm, ⟨91, _⟩ => ⟨S4096x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S_, .f32⟩
  | .hbm, ⟨101, _⟩ => ⟨S3x2048, .f32⟩
  | .hbm, ⟨102, _⟩ => ⟨S3x2048, .f32⟩
  | .hbm, ⟨103, _⟩ => ⟨S_, .f32⟩
  | .hbm, ⟨104, _⟩ => ⟨S4098x2048, .f32⟩
  | .hbm, ⟨105, _⟩ => ⟨S4098x2048, .f32⟩
  | .hbm, ⟨106, _⟩ => ⟨S2x2048, .f32⟩
  | .hbm, ⟨107, _⟩ => ⟨S4096x2048, .f32⟩
  | .hbm, ⟨108, _⟩ => ⟨S4096x2048, .f32⟩
  | .hbm, ⟨109, _⟩ => ⟨S4096x2048, .f32⟩
  | .hbm, ⟨110, _⟩ => ⟨S4096x8192, .f32⟩
  | .hbm, ⟨111, _⟩ => ⟨S4096x4x4x512, .f32⟩
  | .hbm, ⟨112, _⟩ => ⟨S4096x4x4x512, .f32⟩
  | .hbm, ⟨113, _⟩ => ⟨S4096x8192, .f32⟩
  | .hbm, ⟨114, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_1 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_6 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]
-- ==== Attn.lean ====
abbrev S16x4096x192 : Shape := ⟨3, ![16, 4096, 192]⟩
abbrev S16x4096x128 : Shape := ⟨3, ![16, 4096, 128]⟩
abbrev S4096x2048 : Shape := ⟨2, ![4096, 2048]⟩
abbrev S4096x32 : Shape := ⟨2, ![4096, 32]⟩
abbrev S4096x64 : Shape := ⟨2, ![4096, 64]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S16x4096x64 : Shape := ⟨3, ![16, 4096, 64]⟩
abbrev S16x4096x32 : Shape := ⟨3, ![16, 4096, 32]⟩
abbrev S1x4096x32 : Shape := ⟨3, ![1, 4096, 32]⟩
abbrev S4096x4096 : Shape := ⟨2, ![4096, 4096]⟩
abbrev S16x4096x4096 : Shape := ⟨3, ![16, 4096, 4096]⟩
abbrev S16x4096 : Shape := ⟨2, ![16, 4096]⟩
abbrev S16x4096x1 : Shape := ⟨3, ![16, 4096, 1]⟩
abbrev S4096x16x128 : Shape := ⟨3, ![4096, 16, 128]⟩
abbrev S16x8x1x512 : Shape := ⟨4, ![16, 8, 1, 512]⟩
abbrev S2x512x192 : Shape := ⟨3, ![2, 512, 192]⟩
abbrev S2x512x128 : Shape := ⟨3, ![2, 512, 128]⟩
abbrev S2x4096x192 : Shape := ⟨3, ![2, 4096, 192]⟩
abbrev S4096x256 : Shape := ⟨2, ![4096, 256]⟩
abbrev S2x8x1x512 : Shape := ⟨4, ![2, 8, 1, 512]⟩
abbrev S512x512 : Shape := ⟨2, ![512, 512]⟩
abbrev S2x512x64 : Shape := ⟨3, ![2, 512, 64]⟩
abbrev S512x192 : Shape := ⟨2, ![512, 192]⟩
abbrev S512x128 : Shape := ⟨2, ![512, 128]⟩
abbrev S1x512x192 : Shape := ⟨3, ![1, 512, 192]⟩
abbrev S1x512x128 : Shape := ⟨3, ![1, 512, 128]⟩
abbrev S1x1x1x512 : Shape := ⟨4, ![1, 1, 1, 512]⟩
abbrev S1x512 : Shape := ⟨2, ![1, 512]⟩
abbrev S512x64 : Shape := ⟨2, ![512, 64]⟩
abbrev S1x512x64 : Shape := ⟨3, ![1, 512, 64]⟩

abbrev nBuf : Space → Nat
  | .hbm => 113
  | .vmem => 22
  | .smem => 0
  | _ => 0

abbrev bufTy : (tb : Table) → Fin (tcTables nBuf tb) → BufTy
  | .hbm, ⟨0, _⟩ => ⟨S16x4096x192, .f32⟩
  | .hbm, ⟨1, _⟩ => ⟨S16x4096x192, .bf16⟩
  | .hbm, ⟨2, _⟩ => ⟨S16x4096x128, .bf16⟩
  | .hbm, ⟨3, _⟩ => ⟨S4096x2048, .bf16⟩
  | .hbm, ⟨4, _⟩ => ⟨S4096x32, .f32⟩
  | .hbm, ⟨5, _⟩ => ⟨S4096x32, .f32⟩
  | .hbm, ⟨6, _⟩ => ⟨S4096x64, .f32⟩
  | .hbm, ⟨7, _⟩ => ⟨S4096x32, .f32⟩
  | .hbm, ⟨8, _⟩ => ⟨S4096x64, .f32⟩
  | .hbm, ⟨9, _⟩ => ⟨S64, .i32⟩
  | .hbm, ⟨10, _⟩ => ⟨S64x1, .i32⟩
  | .hbm, ⟨11, _⟩ => ⟨S1x64, .i32⟩
  | .hbm, ⟨12, _⟩ => ⟨S_, .i32⟩
  | .hbm, ⟨13, _⟩ => ⟨S1x64, .i32⟩
  | .hbm, ⟨14, _⟩ => ⟨S1x64, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x64, .i32⟩
  | .hbm, ⟨22, _⟩ => ⟨S1x64, .i32⟩
  | .hbm, ⟨23, _⟩ => ⟨S_, .i32⟩
  | .hbm, ⟨24, _⟩ => ⟨S1x64, .i32⟩
  | .hbm, ⟨25, _⟩ => ⟨S1x64, .i1⟩
  | .hbm, ⟨26, _⟩ => ⟨S_, .i32⟩
  | .hbm, ⟨27, _⟩ => ⟨S1x64, .i32⟩
  | .hbm, ⟨28, _⟩ => ⟨S1x64, .i1⟩
  | .hbm, ⟨29, _⟩ => ⟨S_, .i32⟩
  | .hbm, ⟨30, _⟩ => ⟨S_, .i1⟩
  | .hbm, ⟨31, _⟩ => ⟨S1x64, .i1⟩
  | .hbm, ⟨32, _⟩ => ⟨S1x64, .i1⟩
  | .hbm, ⟨33, _⟩ => ⟨S1x64, .i1⟩
  | .hbm, ⟨34, _⟩ => ⟨S1x64, .i32⟩
  | .hbm, ⟨35, _⟩ => ⟨S1x64, .i32⟩
  | .hbm, ⟨36, _⟩ => ⟨S1x64, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S64x64, .f32⟩
  | .hbm, ⟨41, _⟩ => ⟨S16x4096x128, .f32⟩
  | .hbm, ⟨42, _⟩ => ⟨S16x4096x64, .f32⟩
  | .hbm, ⟨43, _⟩ => ⟨S16x4096x32, .f32⟩
  | .hbm, ⟨44, _⟩ => ⟨S16x4096x32, .f32⟩
  | .hbm, ⟨45, _⟩ => ⟨S1x4096x32, .f32⟩
  | .hbm, ⟨46, _⟩ => ⟨S16x4096x32, .f32⟩
  | .hbm, ⟨47, _⟩ => ⟨S16x4096x32, .f32⟩
  | .hbm, ⟨48, _⟩ => ⟨S1x4096x32, .f32⟩
  | .hbm, ⟨49, _⟩ => ⟨S16x4096x32, .f32⟩
  | .hbm, ⟨50, _⟩ => ⟨S16x4096x32, .f32⟩
  | .hbm, ⟨51, _⟩ => ⟨S16x4096x32, .f32⟩
  | .hbm, ⟨52, _⟩ => ⟨S1x4096x32, .f32⟩
  | .hbm, ⟨53, _⟩ => ⟨S16x4096x32, .f32⟩
  | .hbm, ⟨54, _⟩ => ⟨S16x4096x32, .f32⟩
  | .hbm, ⟨55, _⟩ => ⟨S1x4096x32, .f32⟩
  | .hbm, ⟨56, _⟩ => ⟨S16x4096x32, .f32⟩
  | .hbm, ⟨57, _⟩ => ⟨S16x4096x32, .f32⟩
  | .hbm, ⟨58, _⟩ => ⟨S16x4096x32, .f32⟩
  | .hbm, ⟨59, _⟩ => ⟨S16x4096x64, .f32⟩
  | .hbm, ⟨60, _⟩ => ⟨S16x4096x192, .f32⟩
  | .hbm, ⟨61, _⟩ => ⟨S16x4096x192, .f32⟩
  | .hbm, ⟨62, _⟩ => ⟨S16x4096x128, .f32⟩
  | .hbm, ⟨63, _⟩ => ⟨S4096x4096, .i32⟩
  | .hbm, ⟨64, _⟩ => ⟨S4096x4096, .i32⟩
  | .hbm, ⟨65, _⟩ => ⟨S4096x4096, .i1⟩
  | .hbm, ⟨66, _⟩ => ⟨S16x4096x4096, .f32⟩
  | .hbm, ⟨67, _⟩ => ⟨S_, .f32⟩
  | .hbm, ⟨68, _⟩ => ⟨S16x4096x4096, .f32⟩
  | .hbm, ⟨69, _⟩ => ⟨S16x4096x4096, .f32⟩
  | .hbm, ⟨70, _⟩ => ⟨S_, .f32⟩
  | .hbm, ⟨71, _⟩ => ⟨S_, .f32⟩
  | .hbm, ⟨72, _⟩ => ⟨S16x4096x4096, .i1⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S16x4096x4096, .f32⟩
  | .hbm, ⟨85, _⟩ => ⟨S16x4096x4096, .f32⟩
  | .hbm, ⟨86, _⟩ => ⟨S16x4096x128, .f32⟩
  | .hbm, ⟨87, _⟩ => ⟨S4096x2048, .f32⟩
  | .hbm, ⟨88, _⟩ => ⟨S4096x16x128, .f32⟩
  | .hbm, ⟨89, _⟩ => ⟨S16x4096x128, .f32⟩
  | .hbm, ⟨90, _⟩ => ⟨S16x4096x128, .f32⟩
  | .hbm, ⟨91, _⟩ => ⟨S_, .f32⟩
  | .hbm, ⟨92, _⟩ => ⟨S16x4096, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16x4096x192, .f32⟩
  | .hbm, ⟨99, _⟩ => ⟨S16x4096x192, .f32⟩
  | .hbm, ⟨100, _⟩ => ⟨S16x4096x192, .bf16⟩
  | .hbm, ⟨101, _⟩ => ⟨S16x4096, .f32⟩
  | .hbm, ⟨102, _⟩ => ⟨S16x4096, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S16x4096, .f32⟩
  | .hbm, ⟨107, _⟩ => ⟨S16x4096, .f32⟩
  | .hbm, ⟨108, _⟩ => ⟨S16x8x1x512, .f32⟩
  | .hbm, ⟨109, _⟩ => ⟨S16x8x1x512, .f32⟩
  | .hbm, ⟨110, _⟩ => ⟨S4096x4096, .bf16⟩
  | .hbm, ⟨111, _⟩ => ⟨S16x4096x64, .f32⟩
  | .hbm, ⟨112, _⟩ => ⟨S16x4096x192, .bf16⟩
  | .local _ .vmem, ⟨0, _⟩ => ⟨S2x512x192, .bf16⟩
  | .local _ .vmem, ⟨1, _⟩ => ⟨S2x512x192, .bf16⟩
  | .local _ .vmem, ⟨2, _⟩ => ⟨S2x512x128, .bf16⟩
  | .local _ .vmem, ⟨3, _⟩ => ⟨S2x512x128, .bf16⟩
  | .local _ .vmem, ⟨4, _⟩ => ⟨S2x4096x192, .bf16⟩
  | .local _ .vmem, ⟨5, _⟩ => ⟨S2x4096x192, .bf16⟩
  | .local _ .vmem, ⟨6, _⟩ => ⟨S4096x256, .bf16⟩
  | .local _ .vmem, ⟨7, _⟩ => ⟨S4096x256, .bf16⟩
  | .local _ .vmem, ⟨8, _⟩ => ⟨S2x8x1x512, .f32⟩
  | .local _ .vmem, ⟨9, _⟩ => ⟨S2x8x1x512, .f32⟩
  | .local _ .vmem, ⟨10, _⟩ => ⟨S2x8x1x512, .f32⟩
  | .local _ .vmem, ⟨11, _⟩ => ⟨S2x8x1x512, .f32⟩
  | .local _ .vmem, ⟨12, _⟩ => ⟨S4096x64, .f32⟩
  | .local _ .vmem, ⟨13, _⟩ => ⟨S4096x64, .f32⟩
  | .local _ .vmem, ⟨14, _⟩ => ⟨S64x64, .f32⟩
  | .local _ .vmem, ⟨15, _⟩ => ⟨S512x512, .bf16⟩
  | .local _ .vmem, ⟨16, _⟩ => ⟨S512x512, .bf16⟩
  | .local _ .vmem, ⟨17, _⟩ => ⟨S2x512x64, .f32⟩
  | .local _ .vmem, ⟨18, _⟩ => ⟨S2x512x64, .f32⟩
  | .local _ .vmem, ⟨19, _⟩ => ⟨S2x4096x192, .bf16⟩
  | .local _ .vmem, ⟨20, _⟩ => ⟨S2x4096x192, .bf16⟩
  | .local _ .vmem, ⟨21, _⟩ => ⟨S2x4096x192, .f32⟩
  | _, _ => ⟨S16x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v41 : Ref sig .tc := ⟨.hbm, 74, rfl⟩
abbrev main_cst_2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_3 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_4 : Ref sig .tc := ⟨.hbm, 91, rfl⟩
abbrev main_v56 : Ref sig .tc := ⟨.hbm, 92, rfl⟩
abbrev main_cst_5 : Ref sig .tc := ⟨.hbm, 93, rfl⟩
abbrev main_v57 : Ref sig .tc := ⟨.hbm, 94, rfl⟩
abbrev main_cst_6 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_7 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71_0 : Ref sig .tc := ⟨.hbm, 110, rfl⟩
abbrev main_v71_1 : Ref sig .tc := ⟨.hbm, 111, rfl⟩
abbrev main_v71_2 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 3 → Nat :=
  let c0_7 : Index := 0#32
  let arg1 : BitVec 32 := BitVec.ofNat 32 (i 1).val
  let c512_i32 : BitVec 32 := 512#32
  let v5 : BitVec 32 := Scalar.muli arg1 c512_i32
  let v6 : BitVec 32 := v5
  let v11 : Index := Scalar.indexCast v6
  let c0_8 : Index := 0#32
  ![0, v11.toNat, 0]
def k0_off2 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v14 : Index := Scalar.indexCast v6
  let c0_9 : Index := 0#32
  ![v14.toNat, 0]
def k0_off3 (i : grid0.Coords) : Fin 4 → Nat :=
  let c0_12 : Index := 0#32
  let arg1 : BitVec 32 := BitVec.ofNat 32 (i 1).val
  let v22 : Index := Scalar.indexCast arg1
  let c0_13 : Index := 0#32
  let c0_14 : Index := 0#32
  ![0, v22.toNat, 0, 0]
def k0_off4 (i : grid0.Coords) : Fin 3 → Nat :=
  let c1_31 : Index := 1#32
  let arg1 : BitVec 32 := BitVec.ofNat 32 (i 1).val
  let c512_i32 : BitVec 32 := 512#32
  let v5 : BitVec 32 := Scalar.muli arg1 c512_i32
  let v6 : BitVec 32 := v5
  let v54 : Index := Scalar.indexCast v6
  let c0_32 : Index := 0#32
  ![1, v54.toNat, 0]
def k0_off5 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v57 : Index := Scalar.indexCast v6
  let c128 : Index := 128#32
  ![v57.toNat, 128]
def k0_off6 (i : grid0.Coords) : Fin 4 → Nat :=
  let c1_35 : Index := 1#32
  let arg1 : BitVec 32 := BitVec.ofNat 32 (i 1).val
  let v65 : Index := Scalar.indexCast arg1
  let c0_36 : Index := 0#32
  let c0_37 : Index := 0#32
  ![1, v65.toNat, 0, 0]
@[reducible] def k0_t1_loop (i : grid0.Coords) : Scf.Loop 32 :=
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_50 : BitVec 32 := 1#32
  ⟨v93, v98, c1_i32_50⟩
def k0_mult2 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let c512_i32_67 : BitVec 32 := 512#32
  let v126 : BitVec 32 := Scalar.muli arg15 c512_i32_67
  v126
def k0_off7 (i : grid0.Coords) (k0_t1 : Fin (k0_t1_loop i).trips) : Fin 3 → Nat :=
  let c0_74 : Index := 0#32
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let c512_i32_67 : BitVec 32 := 512#32
  let v126 : BitVec 32 := Scalar.muli arg15 c512_i32_67
  let v127 : BitVec 32 := v126
  let v132 : Index := Scalar.indexCast v127
  let c0_75 : Index := 0#32
  ![0, v132.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let c512_i32_67 : BitVec 32 := 512#32
  let v126 : BitVec 32 := Scalar.muli arg15 c512_i32_67
  let v127 : BitVec 32 := v126
  let v135 : Index := Scalar.indexCast v127
  let c0_76 : Index := 0#32
  ![v135.toNat, 0]
def k0_off9 (i : grid0.Coords) (k0_t1 : Fin (k0_t1_loop i).trips) : Fin 4 → Nat :=
  let c0_78 : Index := 0#32
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let v138 : Index := Scalar.indexCast arg15
  let c0_79 : Index := 0#32
  let c0_80 : Index := 0#32
  ![0, v138.toNat, 0, 0]
def k0_off10 (i : grid0.Coords) (k0_t1 : Fin (k0_t1_loop i).trips) : Fin 3 → Nat :=
  let c1_98 : Index := 1#32
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let c512_i32_67 : BitVec 32 := 512#32
  let v126 : BitVec 32 := Scalar.muli arg15 c512_i32_67
  let v127 : BitVec 32 := v126
  let v170 : Index := Scalar.indexCast v127
  let c0_99 : Index := 0#32
  ![1, v170.toNat, 0]
def k0_off11 (i : grid0.Coords) (k0_t1 : Fin (k0_t1_loop i).trips) : Fin 2 → Nat :=
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let c512_i32_67 : BitVec 32 := 512#32
  let v126 : BitVec 32 := Scalar.muli arg15 c512_i32_67
  let v127 : BitVec 32 := v126
  let v173 : Index := Scalar.indexCast v127
  let c128_100 : Index := 128#32
  ![v173.toNat, 128]
def k0_off12 (i : grid0.Coords) (k0_t1 : Fin (k0_t1_loop i).trips) : Fin 4 → Nat :=
  let c1_102 : Index := 1#32
  let arg1 : BitVec 32 := BitVec.ofNat 32 (i 1).val
  let c1_i32 : BitVec 32 := 1#32
  let v93 : BitVec 32 := Scalar.addi arg1 c1_i32
  let c1_i32_50 : BitVec 32 := 1#32
  let arg15 : BitVec 32 := Scf.iv v93 c1_i32_50 k0_t1
  let v176 : Index := Scalar.indexCast arg15
  let c0_103 : Index := 0#32
  let c0_104 : Index := 0#32
  ![1, v176.toNat, 0, 0]
@[reducible] def k0_t2_loop (i : grid0.Coords) : Scf.Loop 32 :=
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let v95 : BitVec 32 := Scalar.addi v93 v94
  let c1_i32_51 : BitVec 32 := 1#32
  ⟨v98, v95, c1_i32_51⟩
def k0_mult3 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let c512_i32_67 : BitVec 32 := 512#32
  let v126 : BitVec 32 := Scalar.muli arg15 c512_i32_67
  v126
def k0_off13 (i : grid0.Coords) (k0_t2 : Fin (k0_t2_loop i).trips) : Fin 3 → Nat :=
  let c0_74 : Index := 0#32
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let c512_i32_67 : BitVec 32 := 512#32
  let v126 : BitVec 32 := Scalar.muli arg15 c512_i32_67
  let v127 : BitVec 32 := v126
  let v132 : Index := Scalar.indexCast v127
  let c0_75 : Index := 0#32
  ![0, v132.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let c512_i32_67 : BitVec 32 := 512#32
  let v126 : BitVec 32 := Scalar.muli arg15 c512_i32_67
  let v127 : BitVec 32 := v126
  let v135 : Index := Scalar.indexCast v127
  let c0_76 : Index := 0#32
  ![v135.toNat, 0]
def k0_off15 (i : grid0.Coords) (k0_t2 : Fin (k0_t2_loop i).trips) : Fin 4 → Nat :=
  let c0_78 : Index := 0#32
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let v138 : Index := Scalar.indexCast arg15
  let c0_79 : Index := 0#32
  let c0_80 : Index := 0#32
  ![0, v138.toNat, 0, 0]
def k0_off16 (i : grid0.Coords) (k0_t2 : Fin (k0_t2_loop i).trips) : Fin 3 → Nat :=
  let c1_98 : Index := 1#32
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let c512_i32_67 : BitVec 32 := 512#32
  let v126 : BitVec 32 := Scalar.muli arg15 c512_i32_67
  let v127 : BitVec 32 := v126
  let v170 : Index := Scalar.indexCast v127
  let c0_99 : Index := 0#32
  ![1, v170.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let c512_i32_67 : BitVec 32 := 512#32
  let v126 : BitVec 32 := Scalar.muli arg15 c512_i32_67
  let v127 : BitVec 32 := v126
  let v173 : Index := Scalar.indexCast v127
  let c128_100 : Index := 128#32
  ![v173.toNat, 128]
def k0_off18 (i : grid0.Coords) (k0_t2 : Fin (k0_t2_loop i).trips) : Fin 4 → Nat :=
  let c1_102 : Index := 1#32
  let arg1 : BitVec 32 := BitVec.ofNat 32 (i 1).val
  let c1_i32 : BitVec 32 := 1#32
  let v93 : BitVec 32 := Scalar.addi arg1 c1_i32
  let c8_i32 : BitVec 32 := 8#32
  let v94 : BitVec 32 := Scalar.subi c8_i32 v93
  let c1_i32_49 : BitVec 32 := 1#32
  let v96 : BitVec 32 := Scalar.divsi v94 c1_i32_49
  let v97 : BitVec 32 := Scalar.muli v96 c1_i32_49
  let v98 : BitVec 32 := Scalar.addi v93 v97
  let c1_i32_51 : BitVec 32 := 1#32
  let arg15 : BitVec 32 := Scf.iv v98 c1_i32_51 k0_t2
  let v176 : Index := Scalar.indexCast arg15
  let c0_103 : Index := 0#32
  let c0_104 : Index := 0#32
  ![1, v176.toNat, 0, 0]
def k0_cond2 (i : grid0.Coords) : BitVec 1 :=
  let arg1 : BitVec 32 := BitVec.ofNat 32 (i 1).val
  let c7_i32 : BitVec 32 := 7#32
  let v123 : BitVec 1 := Scalar.cmpi .eq arg1 c7_i32
  let v124 : BitVec 32 := Scalar.extui v123
  let c0_i32_66 : BitVec 32 := 0#32
  let v125 : BitVec 1 := Scalar.cmpi .ne v124 c0_i32_66
  v125

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4096x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x4096x192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S16x4096x192 : Shape := ⟨3, ![16, 4096, 192]⟩
abbrev S16x4096x128 : Shape := ⟨3, ![16, 4096, 128]⟩
abbrev S4096x2048 : Shape := ⟨2, ![4096, 2048]⟩
abbrev S4096x32 : Shape := ⟨2, ![4096, 32]⟩
abbrev S4096x16x128 : Shape := ⟨3, ![4096, 16, 128]⟩
abbrev S16x4096x64 : Shape := ⟨3, ![16, 4096, 64]⟩
abbrev S16x4096x32 : Shape := ⟨3, ![16, 4096, 32]⟩
abbrev S1x4096x32 : Shape := ⟨3, ![1, 4096, 32]⟩
abbrev S4096x4096 : Shape := ⟨2, ![4096, 4096]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S16x4096x256 : Shape := ⟨3, ![16, 4096, 256]⟩
abbrev S4096x16x256 : Shape := ⟨3, ![4096, 16, 256]⟩

abbrev nBuf : Space → Nat
  | .hbm => 141
  | .vmem => 0
  | .smem => 0
  | _ => 0

abbrev hbmTy0_0 (i : Nat) : BufTy := match i % 128 with
  | 0 => ⟨S16x4096x192, .f32⟩
  | 1 => ⟨S16x4096x192, .bf16⟩
  | 2 => ⟨S16x4096x128, .bf16⟩
  | 3 => ⟨S4096x2048, .bf16⟩
  | 4 => ⟨S4096x32, .f32⟩
  | 5 => ⟨S4096x32, .f32⟩
  | 6 => ⟨S4096x2048, .f32⟩
  | 7 => ⟨S4096x16x128, .f32⟩
  | 8 => ⟨S16x4096x128, .f32⟩
  | 9 => ⟨S16x4096x192, .f32⟩
  | 10 => ⟨S16x4096x128, .f32⟩
  | 11 => ⟨S16x4096x128, .f32⟩
  | 12 => ⟨S16x4096x64, .f32⟩
  | 13 => ⟨S16x4096x32, .f32⟩
  | 14 => ⟨S16x4096x32, .f32⟩
  | 15 => ⟨S1x4096x32, .f32⟩
  | 16 => ⟨S16x4096x32, .f32⟩
  | 17 => ⟨S16x4096x32, .f32⟩
  | 18 => ⟨S1x4096x32, .f32⟩
  | 19 => ⟨S16x4096x32, .f32⟩
  | 20 => ⟨S16x4096x32, .f32⟩
  | 21 => ⟨S16x4096x32, .f32⟩
  | 22 => ⟨S1x4096x32, .f32⟩
  | 23 => ⟨S16x4096x32, .f32⟩
  | 24 => ⟨S16x4096x32, .f32⟩
  | 25 => ⟨S1x4096x32, .f32⟩
  | 26 => ⟨S16x4096x32, .f32⟩
  | 27 => ⟨S16x4096x32, .f32⟩
  | 28 => ⟨S16x4096x32, .f32⟩
  | 29 => ⟨S16x4096x64, .f32⟩
  | 30 => ⟨S16x4096x192, .f32⟩
  | 31 => ⟨S4096x4096, .i32⟩
  | 32 => ⟨S4096x4096, .i32⟩
  | 33 => ⟨S4096x4096, .i1⟩
  | 34 => ⟨S16x4096x4096, .f32⟩
  | 35 => ⟨S_, .f32⟩
  | 36 => ⟨S16x4096x4096, .f32⟩
  | 37 => ⟨S16x4096x4096, .f32⟩
  | 38 => ⟨S_, .f32⟩
  | 39 => ⟨S_, .f32⟩
  | 40 => ⟨S16x4096x4096, .i1⟩
  | 41 => ⟨S16x4096x4096, .f32⟩
  | 42 => ⟨S16x4096x4096, .f32⟩
  | 43 => ⟨S_, .f32⟩
  | 44 => ⟨S16x4096x4096, .f32⟩
  | 45 => ⟨S_, .f32⟩
  | 46 => ⟨S16x4096, .f32⟩
  | 47 => ⟨S16x4096x1, .f32⟩
  | 48 => ⟨S16x4096x4096, .f32⟩
  | 49 => ⟨S16x4096x4096, .i1⟩
  | 50 => ⟨S16x4096x4096, .f32⟩
  | 51 => ⟨S_, .f32⟩
  | 52 => ⟨S16x4096, .f32⟩
  | 53 => ⟨S_, .f32⟩
  | 54 => ⟨S16x4096, .f32⟩
  | 55 => ⟨S16x4096, .f32⟩
  | 56 => ⟨S_, .f32⟩
  | 57 => ⟨S16x4096, .f32⟩
  | 58 => ⟨S16x4096, .i1⟩
  | 59 => ⟨S_, .f32⟩
  | 60 => ⟨S16x4096, .f32⟩
  | 61 => ⟨S16x4096, .i1⟩
  | 62 => ⟨S_, .f32⟩
  | 63 => ⟨S16x4096, .f32⟩
  | 64 => ⟨S_, .f32⟩
  | 65 => ⟨S16x4096, .f32⟩
  | 66 => ⟨S_, .f32⟩
  | 67 => ⟨S16x4096, .f32⟩
  | 68 => ⟨S16x4096, .f32⟩
  | 69 => ⟨S16x4096, .f32⟩
  | 70 => ⟨S16x4096x1, .f32⟩
  | 71 => ⟨S16x4096x4096, .f32⟩
  | 72 => ⟨S16x4096x4096, .f32⟩
  | 73 => ⟨S16x4096x4096, .f32⟩
  | 74 => ⟨S_, .f32⟩
  | 75 => ⟨S16x4096, .f32⟩
  | 76 => ⟨S16x4096x1, .f32⟩
  | 77 => ⟨S16x4096x4096, .f32⟩
  | 78 => ⟨S16x4096x4096, .f32⟩
  | 79 => ⟨S16x4096x1, .f32⟩
  | 80 => ⟨S_, .f32⟩
  | 81 => ⟨S16x4096x1, .f32⟩
  | 82 => ⟨S16x4096x1, .f32⟩
  | 83 => ⟨S16x4096x128, .f32⟩
  | 84 => ⟨S16x128x4096, .f32⟩
  | 85 => ⟨S16x4096x128, .f32⟩
  | 86 => ⟨S16x4096x4096, .f32⟩
  | 87 => ⟨S16x4096x4096, .f32⟩
  | 88 => ⟨S16x4096x4096, .f32⟩
  | 89 => ⟨S16x4096x4096, .f32⟩
  | 90 => ⟨S_, .f32⟩
  | 91 => ⟨S16x4096, .f32⟩
  | 92 => ⟨S16x4096x1, .f32⟩
  | 93 => ⟨S16x4096x1, .f32⟩
  | 94 => ⟨S16x4096x4096, .f32⟩
  | 95 => ⟨S16x4096x4096, .f32⟩
  | 96 => ⟨S_, .f32⟩
  | 97 => ⟨S16x4096, .f32⟩
  | 98 => ⟨S16x4096x4096, .f32⟩
  | 99 => ⟨S16x4096x4096, .f32⟩
  | 100 => ⟨S16x4096x4096, .f32⟩
  | 101 => ⟨S_, .f32⟩
  | 102 => ⟨S16x4096x4096, .f32⟩
  | 103 => ⟨S16x4096x4096, .f32⟩
  | 104 => ⟨S_, .f32⟩
  | 105 => ⟨S16x4096x4096, .f32⟩
  | 106 => ⟨S16x4096x4096, .f32⟩
  | 107 => ⟨S16x4096x192, .f32⟩
  | 108 => ⟨S16x4096x192, .f32⟩
  | 109 => ⟨S16x4096x128, .f32⟩
  | 110 => ⟨S16x4096x64, .f32⟩
  | 111 => ⟨S16x4096x32, .f32⟩
  | 112 => ⟨S16x4096x32, .f32⟩
  | 113 => ⟨S16x4096x32, .f32⟩
  | 114 => ⟨S16x4096x32, .f32⟩
  | 115 => ⟨S16x4096x32, .f32⟩
  | 116 => ⟨S16x4096x32, .f32⟩
  | 117 => ⟨S16x4096x32, .f32⟩
  | 118 => ⟨S16x4096x32, .f32⟩
  | 119 => ⟨S16x4096x32, .f32⟩
  | 120 => ⟨S16x4096x32, .f32⟩
  | 121 => ⟨S16x4096x32, .f32⟩
  | 122 => ⟨S16x4096x32, .f32⟩
  | 123 => ⟨S16x4096x32, .f32⟩
  | 124 => ⟨S_, .f32⟩
  | 125 => ⟨S16x4096x64, .f32⟩
  | 126 => ⟨S_, .f32⟩
  | 127 => ⟨S16x4096x64, .f32⟩
  | _ => ⟨S16x4096x192, .f32⟩

abbrev hbmTy0_1 (i : Nat) : BufTy := match i % 128 with
  | 0 => ⟨S16x4096x64, .f32⟩
  | 1 => ⟨S_, .f32⟩
  | 2 => ⟨S16x4096x192, .f32⟩
  | 3 => ⟨S_, .f32⟩
  | 4 => ⟨S16x4096x192, .f32⟩
  | 5 => ⟨S16x4096x192, .f32⟩
  | 6 => ⟨S16x4096x128, .f32⟩
  | 7 => ⟨S16x4096x256, .f32⟩
  | 8 => ⟨S4096x16x256, .f32⟩
  | 9 => ⟨S4096x4096, .f32⟩
  | 10 => ⟨S4096x4096, .bf16⟩
  | 11 => ⟨S16x4096x64, .f32⟩
  | 12 => ⟨S16x4096x192, .bf16⟩
  | _ => ⟨S16x4096x192, .f32⟩

abbrev hbmTy (i : Nat) : BufTy := match i / 128 with
  | 0 => hbmTy0_0 i
  | 1 => hbmTy0_1 i
  | _ => ⟨S16x4096x192, .f32⟩

abbrev bufTy : (tb : Table) → Fin (tcTables nBuf tb) → BufTy
  | .hbm, ⟨i, _⟩ => hbmTy i
  | _, _ => ⟨S16x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call0_v0 : Ref sig .tc := ⟨.hbm, 39, rfl⟩
abbrev main_v31_1 : Ref sig .tc := ⟨.hbm, 40, rfl⟩
abbrev main_call0_v2 : Ref sig .tc := ⟨.hbm, 41, rfl⟩
abbrev main_v31_0 : Ref sig .tc := ⟨.hbm, 42, rfl⟩
abbrev main_call0_cst : Ref sig .tc := ⟨.hbm, 43, rfl⟩
abbrev main_v31_2 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_cst : Ref sig .tc := ⟨.hbm, 101, rfl⟩
abbrev main_call1_v0 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_14 : Ref sig .tc := ⟨.hbm, 124, rfl⟩
abbrev main_v96 : Ref sig .tc := ⟨.hbm, 125, rfl⟩
abbrev main_cst_15 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Gout.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GoutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvGin.lean ====
abbrev S4096x1024 : Shape := ⟨2, ![4096, 1024]⟩
abbrev S4096x8192 : Shape := ⟨2, ![4096, 8192]⟩
abbrev S8x1024x1024 : Shape := ⟨3, ![8, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.muli c4_i32_3 v9
  let c4_i32_4 : BitVec 32 := 4#32
  let v11 : BitVec 32 := Scalar.divsi arg0 c4_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg0 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![c0_i32_11.toNat, v28.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvGinRefIdeal.lean ====
abbrev S4096x1024 : Shape := ⟨2, ![4096, 1024]⟩
abbrev S4096x8192 : Shape := ⟨2, ![4096, 8192]⟩
abbrev S4096x4x4x512 : Shape := ⟨4, ![4096, 4, 4, 512]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4096x4x4x512, .bf16⟩
  | .hbm, ⟨3, _⟩ => ⟨S4096x4x4x512, .bf16⟩
  | .hbm, ⟨4, _⟩ => ⟨S4096x8192, .bf16⟩
  | .hbm, ⟨5, _⟩ => ⟨S_, .f32⟩
  | .hbm, ⟨6, _⟩ => ⟨S1024x8192, .f32⟩
  | .hbm, ⟨7, _⟩ => ⟨S4096x1024, .f32⟩
  | .hbm, ⟨8, _⟩ => ⟨S4096x8192, .f32⟩
  | .hbm, ⟨9, _⟩ => ⟨S4096x8192, .f32⟩
  | .hbm, ⟨10, _⟩ => ⟨S8192x1024, .f32⟩
  | .hbm, ⟨11, _⟩ => ⟨S1024x8192, .f32⟩
  | .hbm, ⟨12, _⟩ => ⟨S1024x8192, .bf16⟩
  | .hbm, ⟨13, _⟩ => ⟨S1024x8x1024, .bf16⟩
  | .hbm, ⟨14, _⟩ => ⟨S8x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== PoolGin.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolGinRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S4096x2048 : Shape := ⟨2, ![4096, 2048]⟩
abbrev S8x256x1024 : Shape := ⟨3, ![8, 256, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S4096x2048 : Shape := ⟨2, ![4096, 2048]⟩
abbrev S8x256x1024 : Shape := ⟨3, ![8, 256, 1024]⟩
abbrev S4096x1024 : Shape := ⟨2, ![4096, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S4096x2048, .f32⟩
  | .hbm, ⟨4, _⟩ => ⟨S2048x1024, .bf16⟩
  | .hbm, ⟨5, _⟩ => ⟨S2048x1024, .f32⟩
  | .hbm, ⟨6, _⟩ => ⟨S4096x1024, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PoolInB.lean ====
abbrev S4096x4096 : Shape := ⟨2, ![4096, 4096]⟩
abbrev S8x1024x512 : Shape := ⟨3, ![8, 1024, 512]⟩
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v50 : BitVec 1 := Scalar.cmpi .eq arg0 c0_i32_26
  let v51 : BitVec 32 := Scalar.extui v50
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_28 : BitVec 32 := 0#32
  let v53 : BitVec 1 := Scalar.cmpi .sgt arg0 c0_i32_28
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== PoolInBRefIdeal.lean ====
abbrev S4096x4096 : Shape := ⟨2, ![4096, 4096]⟩
abbrev S8x1024x512 : Shape := ⟨3, ![8, 1024, 512]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x8x512, .bf16⟩
  | .hbm, ⟨26, _⟩ => ⟨S1024x4096, .bf16⟩
  | .hbm, ⟨27, _⟩ => ⟨S1024x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== ConvInB.lean ====
abbrev S4096x8192 : Shape := ⟨2, ![4096, 8192]⟩
abbrev S8x1024x1024 : Shape := ⟨3, ![8, 1024, 1024]⟩
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v50 : BitVec 1 := Scalar.cmpi .eq arg0 c0_i32_26
  let v51 : BitVec 32 := Scalar.extui v50
  let c0_i32_27 : BitVec 32 := 0#32
  let v52 : BitVec 1 := Scalar.cmpi .ne v51 c0_i32_27
  v52

def k0_cond5 (i : grid0.Coords) : BitVec 1 :=
  let arg0 : BitVec 32 := BitVec.ofNat 32 (i 0).val
  let c0_i32_28 : BitVec 32 := 0#32
  let v53 : BitVec 1 := Scalar.cmpi .sgt arg0 c0_i32_28
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.muli c4_i32_3 v9
  let c4_i32_4 : BitVec 32 := 4#32
  let v11 : BitVec 32 := Scalar.divsi arg1 c4_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c4_i32_4 c0_i32_7
  let v18 : BitVec 32 := Scalar.extui v17
  let c0_i32_8 : BitVec 32 := 0#32
  let v19 : BitVec 1 := Scalar.cmpi .slt c4_i32_4 c0_i32_8
  let v20 : BitVec 32 := Scalar.extui v19
  let v21 : BitVec 32 := Scalar.subi v18 v20
  let v22 : BitVec 1 := Scalar.cmpi .ne v16 v21
  let v23 : BitVec 32 := Scalar.remsi arg1 c4_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c2_i32 : BitVec 32 := 2#32
  let v29 : BitVec 32 := Scalar.divsi v28 c2_i32
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c2_i32 c0_i32_13
  let v36 : BitVec 32 := Scalar.extui v35
  let c0_i32_14 : BitVec 32 := 0#32
  let v37 : BitVec 1 := Scalar.cmpi .slt c2_i32 c0_i32_14
  let v38 : BitVec 32 := Scalar.extui v37
  let v39 : BitVec 32 := Scalar.subi v36 v38
  let v40 : BitVec 1 := Scalar.cmpi .ne v34 v39
  let v41 : BitVec 32 := Scalar.remsi v28 c2_i32
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v45.toNat, c0_i32_23.toNat, v55.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ConvInBRefIdeal.lean ====
abbrev S4096x8192 : Shape := ⟨2, ![4096, 8192]⟩
abbrev S8x1024x1024 : Shape := ⟨3, ![8, 1024, 1024]⟩
abbrev S4096x1024 : Shape := ⟨2, ![4096, 1024]⟩
abbrev S1024 : Shape := ⟨1, ![1024]⟩
abbrev S4096x4x4x512 : Shape := ⟨4, ![4096, 4, 4, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x1024 : Shape := ⟨3, ![1024, 8, 1024]⟩
abbrev S1024x8192 : Shape := ⟨2, ![1024, 8192]⟩

abbrev nBuf : Space → Nat
  | .hbm => 62
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4x4x512, .bf16⟩
  | .hbm, ⟨6, _⟩ => ⟨S4096x4x4x512, .bf16⟩
  | .hbm, ⟨7, _⟩ => ⟨S4096x8192, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x8x1024, .bf16⟩
  | .hbm, ⟨29, _⟩ => ⟨S1024x8192, .bf16⟩
  | .hbm, ⟨30, _⟩ => ⟨S1024x8192, .f32⟩
  | .hbm, ⟨31, _⟩ => ⟨S4096x8192, .f32⟩
  | .hbm, ⟨32, _⟩ => ⟨S4096x8192, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Ggrp.lean ====
abbrev S4096x2048 : Shape := ⟨2, ![4096, 2048]⟩
abbrev S8x256x512 : Shape := ⟨3, ![8, 256, 512]⟩
abbrev S4096x512 : Shape := ⟨2, ![4096, 512]⟩
abbrev S8x64x512 : Shape := ⟨3, ![8, 64, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S8x64x512, .bf16⟩
  | .local _ .vmem, ⟨5, _⟩ => ⟨S8x64x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GgrpRefIdeal.lean ====
abbrev S4096x2048 : Shape := ⟨2, ![4096, 2048]⟩
abbrev S4096x4x512 : Shape := ⟨3, ![4096, 4, 512]⟩
abbrev S_ : Shape := ⟨0, ![]⟩
abbrev S4x512x512 : Shape := ⟨3, ![4, 512, 512]⟩
abbrev S4x512x4096 : Shape := ⟨3, ![4, 512, 4096]⟩
abbrev S4x8x64x512 : Shape := ⟨4, ![4, 8, 64, 512]⟩
abbrev S8x4x64x512 : Shape := ⟨4, ![8, 4, 64, 512]⟩
abbrev S8x256x512 : Shape := ⟨3, ![8, 256, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x4x512, .f32⟩
  | .hbm, ⟨4, _⟩ => ⟨S_, .f32⟩
  | .hbm, ⟨5, _⟩ => ⟨S4x512x512, .f32⟩
  | .hbm, ⟨6, _⟩ => ⟨S4x512x4096, .f32⟩
  | .hbm, ⟨7, _⟩ => ⟨S4096x4x512, .f32⟩
  | .hbm, ⟨8, _⟩ => ⟨S4096x2048, .f32⟩
  | .hbm, ⟨9, _⟩ => ⟨S4096x4x512, .f32⟩
  | .hbm, ⟨10, _⟩ => ⟨S4x512x4096, .f32⟩
  | .hbm, ⟨11, _⟩ => ⟨S4x512x512, .f32⟩
  | .hbm, ⟨12, _⟩ => ⟨S4x512x512, .f32⟩
  | .hbm, ⟨13, _⟩ => ⟨S4x512x512, .bf16⟩
  | .hbm, ⟨14, _⟩ => ⟨S4x8x64x512, .bf16⟩
  | .hbm, ⟨15, _⟩ => ⟨S8x4x64x512, .bf16⟩
  | .hbm, ⟨16, _⟩ => ⟨S8x256x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Gz.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GzRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gqup.lean ====
abbrev S4096x384 : Shape := ⟨2, ![4096, 384]⟩
abbrev S16x4096x192 : Shape := ⟨3, ![16, 4096, 192]⟩
abbrev S16x384x192 : Shape := ⟨3, ![16, 384, 192]⟩
abbrev S1x4096x192 : Shape := ⟨3, ![1, 4096, 192]⟩
abbrev S1x384x192 : Shape := ⟨3, ![1, 384, 192]⟩
abbrev S4096x192 : Shape := ⟨2, ![4096, 192]⟩
abbrev S384x192 : Shape := ⟨2, ![384, 192]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S16x4096x192, .bf16⟩
  | .hbm, ⟨2, _⟩ => ⟨S16x384x192, .bf16⟩
  | .local _ .vmem, ⟨0, _⟩ => ⟨S4096x384, .bf16⟩
  | .local _ .vmem, ⟨1, _⟩ => ⟨S1x4096x192, .bf16⟩
  | .local _ .vmem, ⟨2, _⟩ => ⟨S1x4096x192, .bf16⟩
  | .local _ .vmem, ⟨3, _⟩ => ⟨S1x384x192, .bf16⟩
  | .local _ .vmem, ⟨4, _⟩ => ⟨S1x384x192, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GqupRefIdeal.lean ====
abbrev S4096x384 : Shape := ⟨2, ![4096, 384]⟩
abbrev S16x4096x192 : Shape := ⟨3, ![16, 4096, 192]⟩
abbrev S4096x16x192 : Shape := ⟨3, ![4096, 16, 192]⟩
abbrev S4096x3072 : Shape := ⟨2, ![4096, 3072]⟩
abbrev S_ : Shape := ⟨0, ![]⟩
abbrev S384x3072 : Shape := ⟨2, ![384, 3072]⟩
abbrev S3072x384 : Shape := ⟨2, ![3072, 384]⟩
abbrev S384x16x192 : Shape := ⟨3, ![384, 16, 192]⟩
abbrev S16x384x192 : Shape := ⟨3, ![16, 384, 192]⟩

abbrev nBuf : Space → Nat
  | .hbm => 14
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S16x4096x192, .bf16⟩
  | .hbm, ⟨2, _⟩ => ⟨S4096x16x192, .bf16⟩
  | .hbm, ⟨3, _⟩ => ⟨S4096x3072, .bf16⟩
  | .hbm, ⟨4, _⟩ => ⟨S_, .f32⟩
  | .hbm, ⟨5, _⟩ => ⟨S384x3072, .f32⟩
  | .hbm, ⟨6, _⟩ => ⟨S4096x384, .f32⟩
  | .hbm, ⟨7, _⟩ => ⟨S4096x3072, .f32⟩
  | .hbm, ⟨8, _⟩ => ⟨S4096x3072, .f32⟩
  | .hbm, ⟨9, _⟩ => ⟨S3072x384, .f32⟩
  | .hbm, ⟨10, _⟩ => ⟨S384x3072, .f32⟩
  | .hbm, ⟨11, _⟩ => ⟨S384x3072, .bf16⟩
  | .hbm, ⟨12, _⟩ => ⟨S384x16x192, .bf16⟩
  | .hbm, ⟨13, _⟩ => ⟨S16x384x192, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Gkvup.lean ====
abbrev S4096x256 : Shape := ⟨2, ![4096, 256]⟩
abbrev S4096x4096 : Shape := ⟨2, ![4096, 4096]⟩
abbrev S8x256x512 : Shape := ⟨3, ![8, 256, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S8x256x512, .bf16⟩
  | .local _ .vmem, ⟨0, _⟩ => ⟨S4096x256, .bf16⟩
  | .local _ .vmem, ⟨1, _⟩ => ⟨S4096x512, .bf16⟩
  | .local _ .vmem, ⟨2, _⟩ => ⟨S4096x512, .bf16⟩
  | .local _ .vmem, ⟨3, _⟩ => ⟨S1x256x512, .bf16⟩
  | .local _ .vmem, ⟨4, _⟩ => ⟨S1x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GkvupRefIdeal.lean ====
abbrev S4096x256 : Shape := ⟨2, ![4096, 256]⟩
abbrev S4096x4096 : Shape := ⟨2, ![4096, 4096]⟩
abbrev S_ : Shape := ⟨0, ![]⟩
abbrev S256x4096 : Shape := ⟨2, ![256, 4096]⟩
abbrev S256x8x512 : Shape := ⟨3, ![256, 8, 512]⟩
abbrev S8x256x512 : Shape := ⟨3, ![8, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x4096, .bf16⟩
  | .hbm, ⟨2, _⟩ => ⟨S_, .f32⟩
  | .hbm, ⟨3, _⟩ => ⟨S256x4096, .f32⟩
  | .hbm, ⟨4, _⟩ => ⟨S4096x256, .f32⟩
  | .hbm, ⟨5, _⟩ => ⟨S4096x4096, .f32⟩
  | .hbm, ⟨6, _⟩ => ⟨S4096x4096, .f32⟩
  | .hbm, ⟨7, _⟩ => ⟨S4096x256, .f32⟩
  | .hbm, ⟨8, _⟩ => ⟨S256x4096, .f32⟩
  | .hbm, ⟨9, _⟩ => ⟨S256x4096, .bf16⟩
  | .hbm, ⟨10, _⟩ => ⟨S256x8x512, .bf16⟩
  | .hbm, ⟨11, _⟩ => ⟨S8x256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== LatentOut.lean ====
abbrev S4096x2048 : Shape := ⟨2, ![4096, 2048]⟩
abbrev S8x256x1024 : Shape := ⟨3, ![8, 256, 1024]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x256x1024, .bf16⟩
  | .hbm, ⟨2, _⟩ => ⟨S4096x1024, .f32⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolIn.lean ====
abbrev S4096x1024 : Shape := ⟨2, ![4096, 1024]⟩
abbrev S1024 : Shape := ⟨1, ![1024]⟩
abbrev S8x1024x512 : Shape := ⟨3, ![8, 1024, 512]⟩
abbrev S1x1024 : Shape := ⟨2, ![1, 1024]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1024x512, .bf16⟩
  | .hbm, ⟨3, _⟩ => ⟨S1x1024, .f32⟩
  | .hbm, ⟨4, _⟩ => ⟨S4096x4096, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PoolInRefIdeal.lean ====
abbrev S4096x1024 : Shape := ⟨2, ![4096, 1024]⟩
abbrev S1024 : Shape := ⟨1, ![1024]⟩
abbrev S8x1024x512 : Shape := ⟨3, ![8, 1024, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1024x512, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x8x512, .bf16⟩
  | .hbm, ⟨20, _⟩ => ⟨S1024x4096, .bf16⟩
  | .hbm, ⟨21, _⟩ => ⟨S1024x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ConvIn.lean ====
abbrev S4096x1024 : Shape := ⟨2, ![4096, 1024]⟩
abbrev S1024 : Shape := ⟨1, ![1024]⟩
abbrev S8x1024x1024 : Shape := ⟨3, ![8, 1024, 1024]⟩
abbrev S1x1024 : Shape := ⟨2, ![1, 1024]⟩
abbrev S4096x8192 : Shape := ⟨2, ![4096, 8192]⟩
abbrev S1024x1024 : Shape := ⟨2, ![1024, 1024]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1024x1024, .bf16⟩
  | .hbm, ⟨3, _⟩ => ⟨S1x1024, .f32⟩
  | .hbm, ⟨4, _⟩ => ⟨S4096x8192, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvInRefIdeal.lean ====
abbrev S4096x1024 : Shape := ⟨2, ![4096, 1024]⟩
abbrev S1024 : Shape := ⟨1, ![1024]⟩
abbrev S8x1024x1024 : Shape := ⟨3, ![8, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x8x1024 : Shape := ⟨3, ![1024, 8, 1024]⟩
abbrev S1024x8192 : Shape := ⟨2, ![1024, 8192]⟩
abbrev S4096x8192 : Shape := ⟨2, ![4096, 8192]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S8x1024x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x8x1024, .bf16⟩
  | .hbm, ⟨20, _⟩ => ⟨S1024x8192, .bf16⟩
  | .hbm, ⟨21, _⟩ => ⟨S1024x8192, .f32⟩
  | .hbm, ⟨22, _⟩ => ⟨S4096x8192, .f32⟩
  | .hbm, ⟨23, _⟩ => ⟨S4096x8192, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== AttnFwd.lean ====
abbrev S16x4096x192 : Shape := ⟨3, ![16, 4096, 192]⟩
abbrev S16x4096x128 : Shape := ⟨3, ![16, 4096, 128]⟩
abbrev S4096x2048 : Shape := ⟨2, ![4096, 2048]⟩
abbrev S_ : Shape := ⟨0, ![]⟩
abbrev S16x8x1x512 : Shape := ⟨4, ![16, 8, 1, 512]⟩
abbrev S4x512x192 : Shape := ⟨3, ![4, 512, 192]⟩
abbrev S4x4096x192 : Shape := ⟨3, ![4, 4096, 192]⟩
abbrev S4x4096x128 : Shape := ⟨3, ![4, 4096, 128]⟩
abbrev S512x512 : Shape := ⟨2, ![512, 512]⟩
abbrev S4x1x1x512 : Shape := ⟨4, ![4, 1, 1, 512]⟩
abbrev S512x1 : Shape := ⟨2, ![512, 1]⟩
abbrev S512x128 : Shape := ⟨2, ![512, 128]⟩
abbrev S1x512x192 : Shape := ⟨3, ![1, 512, 192]⟩
abbrev S512x192 : Shape := ⟨2, ![512, 192]⟩
abbrev S512 : Shape := ⟨1, ![512]⟩
abbrev S1x512x128 : Shape := ⟨3, ![1, 512, 128]⟩
abbrev S128x512 : Shape := ⟨2, ![128, 512]⟩
abbrev S1x512 : Shape := ⟨2, ![1, 512]⟩
abbrev S1x1x1x512 : Shape := ⟨4, ![1, 1, 1, 512]⟩

abbrev nBuf : Space → Nat
  | .hbm => 15
  | .vmem => 14
  | .smem => 0
  | _ => 0

abbrev bufTy : (tb : Table) → Fin (tcTables nBuf tb) → BufTy
  | .hbm, ⟨0, _⟩ => ⟨S16x4096x192, .f32⟩
  | .hbm, ⟨1, _⟩ => ⟨S16x4096x192, .bf16⟩
  | .hbm, ⟨2, _⟩ => ⟨S16x4096x128, .bf16⟩
  | .hbm, ⟨3, _⟩ => ⟨S4096x2048, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x4096x192, .f32⟩
  | .hbm, ⟨10, _⟩ => ⟨S16x4096x192, .f32⟩
  | .hbm, ⟨11, _⟩ => ⟨S16x4096x192, .bf16⟩
  | .hbm, ⟨12, _⟩ => ⟨S4096x2048, .f32⟩
  | .hbm, ⟨13, _⟩ => ⟨S4096x2048, .bf16⟩
  | .hbm, ⟨14, _⟩ => ⟨S16x8x1x512, .f32⟩
  | .local _ .vmem, ⟨0, _⟩ => ⟨S4x512x192, .bf16⟩
  | .local _ .vmem, ⟨1, _⟩ => ⟨S4x512x192, .bf16⟩
  | .local _ .vmem, ⟨2, _⟩ => ⟨S4x4096x192, .bf16⟩
  | .local _ .vmem, ⟨3, _⟩ => ⟨S4x4096x192, .bf16⟩
  | .local _ .vmem, ⟨4, _⟩ => ⟨S4x4096x128, .bf16⟩
  | .local _ .vmem, ⟨5, _⟩ => ⟨S4x4096x128, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S4x1x1x512, .f32⟩
  | .local _ .vmem, ⟨13, _⟩ => ⟨S4x1x1x512, .f32⟩
  | _, _ => ⟨S16x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  ⟨c0_i32, v7, c1_i32_2⟩
def k0_mult1 (i : grid0.Coords) (k0_t1 : Fin (k0_t1_loop i).trips) : BitVec 32 :=
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  v244
def k0_off1 (i : grid0.Coords) (k0_t1 : Fin (k0_t1_loop i).trips) : Fin 3 → Nat :=
  let c0_105 : Index := 0#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v248 : Index := Scalar.indexCast v245
  let c0_106 : Index := 0#32
  ![0, v248.toNat, 0]
def k0_off2 (i : grid0.Coords) (k0_t1 : Fin (k0_t1_loop i).trips) : Fin 3 → Nat :=
  let c0_110 : Index := 0#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v267 : Index := Scalar.indexCast v245
  let c0_111 : Index := 0#32
  ![0, v267.toNat, 0]
def k0_off3 (i : grid0.Coords) (k0_t1 : Fin (k0_t1_loop i).trips) : Fin 3 → Nat :=
  let c1_116 : Index := 1#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v274 : Index := Scalar.indexCast v245
  let c0_117 : Index := 0#32
  ![1, v274.toNat, 0]
def k0_off4 (i : grid0.Coords) (k0_t1 : Fin (k0_t1_loop i).trips) : Fin 3 → Nat :=
  let c1_121 : Index := 1#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v293 : Index := Scalar.indexCast v245
  let c0_122 : Index := 0#32
  ![1, v293.toNat, 0]
def k0_off5 (i : grid0.Coords) (k0_t1 : Fin (k0_t1_loop i).trips) : Fin 3 → Nat :=
  let c2_127 : Index := 2#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v300 : Index := Scalar.indexCast v245
  let c0_128 : Index := 0#32
  ![2, v300.toNat, 0]
def k0_off6 (i : grid0.Coords) (k0_t1 : Fin (k0_t1_loop i).trips) : Fin 3 → Nat :=
  let c2_132 : Index := 2#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v319 : Index := Scalar.indexCast v245
  let c0_133 : Index := 0#32
  ![2, v319.toNat, 0]
def k0_off7 (i : grid0.Coords) (k0_t1 : Fin (k0_t1_loop i).trips) : Fin 3 → Nat :=
  let c3_138 : Index := 3#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v326 : Index := Scalar.indexCast v245
  let c0_139 : Index := 0#32
  ![3, v326.toNat, 0]
def k0_off8 (i : grid0.Coords) (k0_t1 : Fin (k0_t1_loop i).trips) : Fin 3 → Nat :=
  let c3_143 : Index := 3#32
  let c0_i32 : BitVec 32 := 0#32
  let c1_i32_2 : BitVec 32 := 1#32
  let arg9 : BitVec 32 := Scf.iv c0_i32 c1_i32_2 k0_t1
  let c512_i32_101 : BitVec 32 := 512#32
  let v244 : BitVec 32 := Scalar.muli arg9 c512_i32_101
  let v245 : BitVec 32 := v244
  let v345 : Index := Scalar.indexCast v245
  let c0_144 : Index := 0#32
  ![3, v345.toNat, 0]
@[reducible] def k0_t2_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_3 : BitVec 32 := 1#32
  ⟨v7, v4, c1_i32_3⟩
def k0_mult2 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  v244
def k0_off9 (i : grid0.Coords) (k0_t2 : Fin (k0_t2_loop i).trips) : Fin 3 → Nat :=
  let c0_105 : Index := 0#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v248 : Index := Scalar.indexCast v245
  let c0_106 : Index := 0#32
  ![0, v248.toNat, 0]
def k0_off10 (i : grid0.Coords) (k0_t2 : Fin (k0_t2_loop i).trips) : Fin 3 → Nat :=
  let c0_110 : Index := 0#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v267 : Index := Scalar.indexCast v245
  let c0_111 : Index := 0#32
  ![0, v267.toNat, 0]
def k0_off11 (i : grid0.Coords) (k0_t2 : Fin (k0_t2_loop i).trips) : Fin 3 → Nat :=
  let c1_116 : Index := 1#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v274 : Index := Scalar.indexCast v245
  let c0_117 : Index := 0#32
  ![1, v274.toNat, 0]
def k0_off12 (i : grid0.Coords) (k0_t2 : Fin (k0_t2_loop i).trips) : Fin 3 → Nat :=
  let c1_121 : Index := 1#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v293 : Index := Scalar.indexCast v245
  let c0_122 : Index := 0#32
  ![1, v293.toNat, 0]
def k0_off13 (i : grid0.Coords) (k0_t2 : Fin (k0_t2_loop i).trips) : Fin 3 → Nat :=
  let c2_127 : Index := 2#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v300 : Index := Scalar.indexCast v245
  let c0_128 : Index := 0#32
  ![2, v300.toNat, 0]
def k0_off14 (i : grid0.Coords) (k0_t2 : Fin (k0_t2_loop i).trips) : Fin 3 → Nat :=
  let c2_132 : Index := 2#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v319 : Index := Scalar.indexCast v245
  let c0_133 : Index := 0#32
  ![2, v319.toNat, 0]
def k0_off15 (i : grid0.Coords) (k0_t2 : Fin (k0_t2_loop i).trips) : Fin 3 → Nat :=
  let c3_138 : Index := 3#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v326 : Index := Scalar.indexCast v245
  let c0_139 : Index := 0#32
  ![3, v326.toNat, 0]
def k0_off16 (i : grid0.Coords) (k0_t2 : Fin (k0_t2_loop i).trips) : Fin 3 → Nat :=
  let c3_143 : Index := 3#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_3 : BitVec 32 := 1#32
  let arg9 : BitVec 32 := Scf.iv v7 c1_i32_3 k0_t2
  let c512_i32_101 : BitVec 32 := 512#32
  let v244 : BitVec 32 := Scalar.muli arg9 c512_i32_101
  let v245 : BitVec 32 := v244
  let v345 : Index := Scalar.indexCast v245
  let c0_144 : Index := 0#32
  ![3, v345.toNat, 0]
def k0_mult3 (i : grid0.Coords) : BitVec 32 :=
  let arg1 : BitVec 32 := BitVec.ofNat 32 (i 1).val
  let c512_i32 : BitVec 32 := 512#32
  let v10 : BitVec 32 := Scalar.muli arg1 c512_i32
  v10
def k0_off17 (i : grid0.Coords) : Fin 3 → Nat :=
  let c0_6 : Index := 0#32
  let arg1 : BitVec 32 := BitVec.ofNat 32 (i 1).val
  let c512_i32 : BitVec 32 := 512#32
  let v10 : BitVec 32 := Scalar.muli arg1 c512_i32
  let v11 : BitVec 32 := v10
  let v14 : Index := Scalar.indexCast v11
  let c0_7 : Index := 0#32
  ![0, v14.toNat, 0]
def k0_off18 (i : grid0.Coords) : Fin 3 → Nat :=
  let c0_12 : Index := 0#32
  let arg1 : BitVec 32 := BitVec.ofNat 32 (i 1).val
  let c512_i32 : BitVec 32 := 512#32
  let v10 : BitVec 32 := Scalar.muli arg1 c512_i32
  let v11 : BitVec 32 := v10
  let v38 : Index := Scalar.indexCast v11
  let c0_13 : Index := 0#32
  ![0, v38.toNat, 0]
def k0_off19 (i : grid0.Coords) : Fin 3 → Nat :=
  let c1_17 : Index := 1#32
  let arg1 : BitVec 32 := BitVec.ofNat 32 (i 1).val
  let c512_i32 : BitVec 32 := 512#32
  let v10 : BitVec 32 := Scalar.muli arg1 c512_i32
  let v11 : BitVec 32 := v10
  let v45 : Index := Scalar.indexCast v11
  let c0_18 : Index := 0#32
  ![1, v45.toNat, 0]
def k0_off20 (i : grid0.Coords) : Fin 3 → Nat :=
  let c1_23 : Index := 1#32
  let arg1 : BitVec 32 := BitVec.ofNat 32 (i 1).val
  let c512_i32 : BitVec 32 := 512#32
  let v10 : BitVec 32 := Scalar.muli arg1 c512_i32
  let v11 : BitVec 32 := v10
  let v69 : Index := Scalar.indexCast v11
  let c0_24 : Index := 0#32
  ![1, v69.toNat, 0]
def k0_off21 (i : grid0.Coords) : Fin 3 → Nat :=
  let c2_28 : Index := 2#32
  let arg1 : BitVec 32 := BitVec.ofNat 32 (i 1).val
  let c512_i32 : BitVec 32 := 512#32
  let v10 : BitVec 32 := Scalar.muli arg1 c512_i32
  let v11 : BitVec 32 := v10
  let v76 : Index := Scalar.indexCast v11
  let c0_29 : Index := 0#32
  ![2, v76.toNat, 0]
def k0_off22 (i : grid0.Coords) : Fin 3 → Nat :=
  let c2_34 : Index := 2#32
  let arg1 : BitVec 32 := BitVec.ofNat 32 (i 1).val
  let c512_i32 : BitVec 32 := 512#32
  let v10 : BitVec 32 := Scalar.muli arg1 c512_i32
  let v11 : BitVec 32 := v10
  let v100 : Index := Scalar.indexCast v11
  let c0_35 : Index := 0#32
  ![2, v100.toNat, 0]
def k0_off23 (i : grid0.Coords) : Fin 3 → Nat :=
  let c3_39 : Index := 3#32
  let arg1 : BitVec 32 := BitVec.ofNat 32 (i 1).val
  let c512_i32 : BitVec 32 := 512#32
  let v10 : BitVec 32 := Scalar.muli arg1 c512_i32
  let v11 : BitVec 32 := v10
  let v107 : Index := Scalar.indexCast v11
  let c0_40 : Index := 0#32
  ![3, v107.toNat, 0]
def k0_off24 (i : grid0.Coords) : Fin 3 → Nat :=
  let c3_45 : Index := 3#32
  let arg1 : BitVec 32 := BitVec.ofNat 32 (i 1).val
  let c512_i32 : BitVec 32 := 512#32
  let v10 : BitVec 32 := Scalar.muli arg1 c512_i32
  let v11 : BitVec 32 := v10
  let v131 : Index := Scalar.indexCast v11
  let c0_46 : Index := 0#32
  ![3, v131.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "log2e" => some (((Real.log 2)⁻¹ : ℝ) : EReal)
  | "mask" => some ⊥
  | _ => none
-- ==== AttnFwdRefIdeal.lean ====
abbrev S16x4096x192 : Shape := ⟨3, ![16, 4096, 192]⟩
abbrev S16x4096x128 : Shape := ⟨3, ![16, 4096, 128]⟩
abbrev S4096x2048 : Shape := ⟨2, ![4096, 2048]⟩
abbrev S4096x4096 : Shape := ⟨2, ![4096, 4096]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S4096x16x128 : Shape := ⟨3, ![4096, 16, 128]⟩
abbrev S16x8x1x512 : Shape := ⟨4, ![16, 8, 1, 512]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x192, .f32⟩
  | .hbm, ⟨1, _⟩ => ⟨S16x4096x192, .bf16⟩
  | .hbm, ⟨2, _⟩ => ⟨S16x4096x128, .bf16⟩
  | .hbm, ⟨3, _⟩ => ⟨S4096x2048, .bf16⟩
  | .hbm, ⟨4, _⟩ => ⟨S16x4096x192, .f32⟩
  | .hbm, ⟨5, _⟩ => ⟨S16x4096x128, .f32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S_, .f32⟩
  | .hbm, ⟨14, _⟩ => ⟨S_, .f32⟩
  | .hbm, ⟨15, _⟩ => ⟨S16x4096x4096, .i1⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x128, .f32⟩
  | .hbm, ⟨30, _⟩ => ⟨S4096x16x128, .f32⟩
  | .hbm, ⟨31, _⟩ => ⟨S4096x2048, .f32⟩
  | .hbm, ⟨32, _⟩ => ⟨S16x4096, .f32⟩
  | .hbm, ⟨33, _⟩ => ⟨S16x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16x4096, .f32⟩
  | .hbm, ⟨38, _⟩ => ⟨S16x4096, .f32⟩
  | .hbm, ⟨39, _⟩ => ⟨S16x8x1x512, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S16x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== PoolGrp.lean ====
abbrev S4096x2048 : Shape := ⟨2, ![4096, 2048]⟩
abbrev S8x256x512 : Shape := ⟨3, ![8, 256, 512]⟩
abbrev S4096x4096 : Shape := ⟨2, ![4096, 4096]⟩
abbrev S2048 : Shape := ⟨1, ![2048]⟩
abbrev S1x2048 : Shape := ⟨2, ![1, 2048]⟩
abbrev S1024x512 : Shape := ⟨2, ![1024, 512]⟩
abbrev S8x64x512 : Shape := ⟨3, ![8, 64, 512]⟩
abbrev S1x512 : Shape := ⟨2, ![1, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x256x512, .bf16⟩
  | .hbm, ⟨2, _⟩ => ⟨S4096x4096, .bf16⟩
  | .hbm, ⟨3, _⟩ => ⟨S2048, .f32⟩
  | .hbm, ⟨4, _⟩ => ⟨S1x2048, .f32⟩
  | .hbm, ⟨5, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S8x64x512, .bf16⟩
  | .local _ .vmem, ⟨3, _⟩ => ⟨S8x64x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolGrpRefIdeal.lean ====
abbrev S4096x2048 : Shape := ⟨2, ![4096, 2048]⟩
abbrev S8x256x512 : Shape := ⟨3, ![8, 256, 512]⟩
abbrev S4096x4096 : Shape := ⟨2, ![4096, 4096]⟩
abbrev S2048 : Shape := ⟨1, ![2048]⟩
abbrev S8x4x64x512 : Shape := ⟨4, ![8, 4, 64, 512]⟩
abbrev S4x8x64x512 : Shape := ⟨4, ![4, 8, 64, 512]⟩
abbrev S4x512x512 : Shape := ⟨3, ![4, 512, 512]⟩
abbrev S4096x4x512 : Shape := ⟨3, ![4096, 4, 512]⟩
abbrev S4x512x4096 : Shape := ⟨3, ![4, 512, 4096]⟩
abbrev S1x2048 : Shape := ⟨2, ![1, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x512, .bf16⟩
  | .hbm, ⟨2, _⟩ => ⟨S4096x4096, .bf16⟩
  | .hbm, ⟨3, _⟩ => ⟨S2048, .f32⟩
  | .hbm, ⟨4, _⟩ => ⟨S8x256x512, .f32⟩
  | .hbm, ⟨5, _⟩ => ⟨S8x4x64x512, .f32⟩
  | .hbm, ⟨6, _⟩ => ⟨S4x8x64x512, .f32⟩
  | .hbm, ⟨7, _⟩ => ⟨S4x512x512, .f32⟩
  | .hbm, ⟨8, _⟩ => ⟨S4096x2048, .f32⟩
  | .hbm, ⟨9, _⟩ => ⟨S4096x4x512, .f32⟩
  | .hbm, ⟨10, _⟩ => ⟨S4x512x4096, .f32⟩
  | .hbm, ⟨11, _⟩ => ⟨S4096x4x512, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .bf16⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Spec.lean ====
/-
  The gradient of the gated causal depthwise convolution, over plain row and column numbers.

  Both programs are read against the functions of this module. An array is read through `at2`/`at3`: its entry
  where the numbers are inside the array, zero elsewhere. So a row before the sequence's start, or after its
  end, reads zero, which is what both programs put there.
-/
module

public import Idealize.ShloMosaic.Lib.Pointwise

@[expose] public noncomputable section

namespace Cert.ConvGrad

open Idealize.ShloMosaic

/-- Entry `(r, c)` of a matrix; zero outside of it. -/
def at2 {n p : ℕ} (A : (Shape.Idx ⟨2, ![n, p]⟩) → EReal) (r c : ℕ) : EReal :=
  if h : r < n ∧ c < p then A (ix2 ⟨r, h.1⟩ ⟨c, h.2⟩) else 0

/-- Entry `(q, r, c)` of a stack of matrices; zero outside of it. -/
def at3 {k n p : ℕ} (A : (Shape.Idx ⟨3, ![k, n, p]⟩) → EReal) (q r c : ℕ) : EReal :=
  if h : q < k ∧ r < n ∧ c < p then A (ix3 ⟨q, h.1⟩ ⟨r, h.2.1⟩ ⟨c, h.2.2⟩) else 0

theorem at2_of_lt {n p : ℕ} (A : (Shape.Idx ⟨2, ![n, p]⟩) → EReal) {r c : ℕ} (hr : r < n) (hc : c < p) :
    at2 A r c = A (ix2 ⟨r, hr⟩ ⟨c, hc⟩) := dif_pos ⟨hr, hc⟩

theorem at3_of_lt {k n p : ℕ} (A : (Shape.Idx ⟨3, ![k, n, p]⟩) → EReal) {q r c : ℕ} (hq : q < k) (hr : r < n)
    (hc : c < p) : at3 A q r c = A (ix3 ⟨q, hq⟩ ⟨r, hr⟩ ⟨c, hc⟩) := dif_pos ⟨hq, hr, hc⟩

/-- Row `k` of the output projection, which is stored as eight slabs of 256 rows. -/
def outProj (A : (Shape.Idx ⟨3, ![8, 256, 1024]⟩) → EReal) (k d : ℕ) : EReal :=
  at3 A (k / 256) (k % 256) d

section

variable (D G X W : ℕ → ℕ → EReal)

/-- The gradient of the gated branch: the output's gradient times the transposed output projection. -/
def dgate (r k : ℕ) : EReal := ∑ d : Fin 1024, D r d.val * G k d.val

/-- The logistic function. -/
def sigm (z : EReal) : EReal := Ideal.div 1 (1 + Ideal.exp (-z))

/-- The convolution's input at `n` rows before row `r`: the product of the second and third parts, zero before
    the start. -/
def chIn (n r k : ℕ) : EReal := if r < n then 0 else X (r - n) (2048 + k) * X (r - n) (4096 + k)

/-- The convolution's output. -/
def convOut (r k : ℕ) : EReal := W 2 k * chIn X 0 r k + W 1 k * chIn X 1 r k + W 0 k * chIn X 2 r k

/-- The gradient of the product `b * conv`. -/
def dy (r k : ℕ) : EReal := dgate D G r k * (X r (6144 + k) * sigm (X r (6144 + k)))

/-- The gradient of the convolution's output `n` rows after row `r`: zero after the end. -/
def dconv (n r k : ℕ) : EReal := if r + n < 4096 then dy D G X (r + n) k * X (r + n) k else 0

/-- The gradient of the convolution's input. -/
def dchIn (r k : ℕ) : EReal :=
  W 2 k * dconv D G X 0 r k + W 1 k * dconv D G X 1 r k + W 0 k * dconv D G X 2 r k

/-- The gradient of the gate `z`: by the product rule through `z * logistic z`. -/
def dz (r k : ℕ) : EReal :=
  dgate D G r k * (X r k * convOut X W r k) *
    (sigm (X r (6144 + k)) * (1 + X r (6144 + k) * (1 - sigm (X r (6144 + k)))))

/-- The gradient of the projected input: part `p` (of `b`, `c`, `h`, `z`), row `r`, channel `k`. -/
def dpart (p r k : ℕ) : EReal :=
  if p = 0 then dy D G X r k * convOut X W r k
  else if p = 1 then dchIn D G X W r k * X r (4096 + k)
  else if p = 2 then dchIn D G X W r k * X r (2048 + k)
  else dz D G X W r k

/-- The gradient of tap `j`, channel `k`. -/
def dtap (j k : ℕ) : EReal := ∑ r : Fin 4096, dconv D G X 0 r.val k * chIn X (2 - j) r.val k

/-- Column `x` of the result is part `(x % 2048) / 512` of channel `512 * (x / 2048) + x % 512`: the four parts
    of a group of 512 channels lie side by side. -/
def dproj (r x : ℕ) : EReal := dpart D G X W (x % 2048 / 512) r (512 * (x / 2048) + x % 512)

end

end Cert.ConvGrad

end
-- ==== Proof.KBlocks.lean ====
module

public import proofs.«01_k».proof.Proof.Gen.KernelIdeal.Value
public import proofs.«01_k».proof.Proof.Spec
public import Idealize.ShloMosaic.Lib.Pipeline.ValueKit
public import Idealize.ShloMosaic.Lib.Pipeline.ReadBack
public import Idealize.ShloMosaic.Lib.Pointwise

set_option maxRecDepth 16384

@[expose] public noncomputable section

namespace Cert.KernelIdeal.Blocks

open Cert.KernelIdeal Cert.KernelIdeal.Gen Cert.ConvGrad Idealize.ShloMosaic Idealize.ShloMosaic.TcCoe Idealize.SL.Sem

/-! Where each operand's block sits at grid point `t`: column group `t / 4`, row tile `t % 4`. -/

theorem idx0 : ∀ t : Fin grid0.N, win0_0.index t 0 = t.val % 4 ∧ win0_0.index t 1 = 0 := by decide +kernel
theorem idx1 : ∀ t : Fin grid0.N, win0_1.index t 0 = min ((t.val % 4 + 1) * 64) 255 ∧ win0_1.index t 1 = 0 := by decide +kernel
theorem idx3 : ∀ t : Fin grid0.N, win0_3.index t 0 = t.val % 4 ∧ win0_3.index t 1 = t.val / 4 := by decide +kernel
theorem idx4 : ∀ t : Fin grid0.N, win0_4.index t 0 = t.val % 4 ∧ win0_4.index t 1 = 4 + t.val / 4 := by decide +kernel
theorem idx5 : ∀ t : Fin grid0.N, win0_5.index t 0 = t.val % 4 ∧ win0_5.index t 1 = 8 + t.val / 4 := by decide +kernel
theorem idx6 : ∀ t : Fin grid0.N, win0_6.index t 0 = t.val % 4 ∧ win0_6.index t 1 = 12 + t.val / 4 := by decide +kernel
theorem idx7 : ∀ t : Fin grid0.N, win0_7.index t 0 = (t.val % 4) * 64 - 1 ∧ win0_7.index t 1 = 4 + t.val / 4 := by decide +kernel
theorem idx8 : ∀ t : Fin grid0.N, win0_8.index t 0 = (t.val % 4) * 64 - 1 ∧ win0_8.index t 1 = 8 + t.val / 4 := by decide +kernel
theorem idx9 : ∀ t : Fin grid0.N, win0_9.index t 0 = min ((t.val % 4 + 1) * 64) 255 ∧ win0_9.index t 1 = t.val / 4 := by decide +kernel
theorem idx10 : ∀ t : Fin grid0.N, win0_10.index t 0 = min ((t.val % 4 + 1) * 64) 255 ∧ win0_10.index t 1 = 12 + t.val / 4 := by decide +kernel
theorem idx11 : ∀ t : Fin grid0.N, win0_11.index t 0 = 0 ∧ win0_11.index t 1 = t.val / 4 := by decide +kernel
theorem idx12 : ∀ t : Fin grid0.N, win0_12.index t 0 = t.val % 4 ∧ win0_12.index t 1 = t.val / 4 := by decide +kernel
theorem idx13 : ∀ t : Fin grid0.N, win0_13.index t 0 = 0 ∧ win0_13.index t 1 = t.val / 4 := by decide +kernel
theorem idx2 : ∀ t : Fin grid0.N, win0_2.index t 0 = t.val / 4 ∧ win0_2.index t 1 = 0 ∧ win0_2.index t 2 = 0 := by decide +kernel

variable (m : (ℓ : Loc nD τ sig) → Buf (Elt Ideal) ℓ) (c : Dev nD)

/-- The four arguments: the output's gradient, the output projection, the projected input, the taps. -/
abbrev argD : Shape.Idx ⟨2, ![4096, 1024]⟩ → EReal := V m c main_arg0
abbrev argG : Shape.Idx ⟨3, ![8, 256, 1024]⟩ → EReal := V m c main_arg1
abbrev argX : Shape.Idx ⟨2, ![4096, 8192]⟩ → EReal := V m c main_arg2
abbrev argW : Shape.Idx ⟨2, ![3, 2048]⟩ → EReal := V m c main_arg3

theorem blk0 (t : Fin cfg0.N) (a : Fin 1024) (b : Fin 1024) :
    iblk m c 0 t (ix2 a b) = at2 (argD m c) (1024 * (t.val % 4) + a.val) (b.val) := by
  have hN : t.val < 16 := t.isLt
  obtain ⟨e0, e1⟩ := idx0 t
  rw [at2_of_lt _ (by omega) (by omega)]
  blk_ext [iblk, argD, argX, argW, e0, e1]
theorem blk1 (t : Fin cfg0.N) (h : t.val % 4 < 3) (a : Fin 16) (b : Fin 1024) :
    iblk m c 1 t (ix2 a b) = at2 (argD m c) (1024 * (t.val % 4) + 1024 + a.val) (b.val) := by
  have hN : t.val < 16 := t.isLt
  obtain ⟨e0, e1⟩ := idx1 t
  rw [at2_of_lt _ (by omega) (by omega)]
  blk_ext [iblk, argD, argX, argW, e0, e1]
theorem blk3 (t : Fin cfg0.N) (a : Fin 1024) (b : Fin 512) :
    iblk m c 3 t (ix2 a b) = at2 (argX m c) (1024 * (t.val % 4) + a.val) (0 + 512 * (t.val / 4) + b.val) := by
  have hN : t.val < 16 := t.isLt
  obtain ⟨e0, e1⟩ := idx3 t
  rw [at2_of_lt _ (by omega) (by omega)]
  blk_ext [iblk, argD, argX, argW, e0, e1]
theorem blk4 (t : Fin cfg0.N) (a : Fin 1024) (b : Fin 512) :
    iblk m c 4 t (ix2 a b) = at2 (argX m c) (1024 * (t.val % 4) + a.val) (2048 + 512 * (t.val / 4) + b.val) := by
  have hN : t.val < 16 := t.isLt
  obtain ⟨e0, e1⟩ := idx4 t
  rw [at2_of_lt _ (by omega) (by omega)]
  blk_ext [iblk, argD, argX, argW, e0, e1]
theorem blk5 (t : Fin cfg0.N) (a : Fin 1024) (b : Fin 512) :
    iblk m c 5 t (ix2 a b) = at2 (argX m c) (1024 * (t.val % 4) + a.val) (4096 + 512 * (t.val / 4) + b.val) := by
  have hN : t.val < 16 := t.isLt
  obtain ⟨e0, e1⟩ := idx5 t
  rw [at2_of_lt _ (by omega) (by omega)]
  blk_ext [iblk, argD, argX, argW, e0, e1]
theorem blk6 (t : Fin cfg0.N) (a : Fin 1024) (b : Fin 512) :
    iblk m c 6 t (ix2 a b) = at2 (argX m c) (1024 * (t.val % 4) + a.val) (6144 + 512 * (t.val / 4) + b.val) := by
  have hN : t.val < 16 := t.isLt
  obtain ⟨e0, e1⟩ := idx6 t
  rw [at2_of_lt _ (by omega) (by omega)]
  blk_ext [iblk, argD, argX, argW, e0, e1]
theorem blk7 (t : Fin cfg0.N) (h : 0 < t.val % 4) (a : Fin 16) (b : Fin 512) :
    iblk m c 7 t (ix2 a b) = at2 (argX m c) (1024 * (t.val % 4) - 16 + a.val) (2048 + 512 * (t.val / 4) + b.val) := by
  have hN : t.val < 16 := t.isLt
  obtain ⟨e0, e1⟩ := idx7 t
  rw [at2_of_lt _ (by omega) (by omega)]
  blk_ext [iblk, argD, argX, argW, e0, e1]
theorem blk8 (t : Fin cfg0.N) (h : 0 < t.val % 4) (a : Fin 16) (b : Fin 512) :
    iblk m c 8 t (ix2 a b) = at2 (argX m c) (1024 * (t.val % 4) - 16 + a.val) (4096 + 512 * (t.val / 4) + b.val) := by
  have hN : t.val < 16 := t.isLt
  obtain ⟨e0, e1⟩ := idx8 t
  rw [at2_of_lt _ (by omega) (by omega)]
  blk_ext [iblk, argD, argX, argW, e0, e1]
theorem blk9 (t : Fin cfg0.N) (h : t.val % 4 < 3) (a : Fin 16) (b : Fin 512) :
    iblk m c 9 t (ix2 a b) = at2 (argX m c) (1024 * (t.val % 4) + 1024 + a.val) (0 + 512 * (t.val / 4) + b.val) := by
  have hN : t.val < 16 := t.isLt
  obtain ⟨e0, e1⟩ := idx9 t
  rw [at2_of_lt _ (by omega) (by omega)]
  blk_ext [iblk, argD, argX, argW, e0, e1]
theorem blk10 (t : Fin cfg0.N) (h : t.val % 4 < 3) (a : Fin 16) (b : Fin 512) :
    iblk m c 10 t (ix2 a b) = at2 (argX m c) (1024 * (t.val % 4) + 1024 + a.val) (6144 + 512 * (t.val / 4) + b.val) := by
  have hN : t.val < 16 := t.isLt
  obtain ⟨e0, e1⟩ := idx10 t
  rw [at2_of_lt _ (by omega) (by omega)]
  blk_ext [iblk, argD, argX, argW, e0, e1]
theorem blk11 (t : Fin cfg0.N) (a : Fin 3) (b : Fin 512) :
    iblk m c 11 t (ix2 a b) = at2 (argW m c) (a.val) (512 * (t.val / 4) + b.val) := by
  have hN : t.val < 16 := t.isLt
  obtain ⟨e0, e1⟩ := idx11 t
  rw [at2_of_lt _ (by omega) (by omega)]
  blk_ext [iblk, argD, argX, argW, e0, e1]
theorem blk2 (t : Fin cfg0.N) (a : Fin 2) (b : Fin 256) (d : Fin 1024) :
    iblk m c 2 t (ix3 a b d) = at3 (argG m c) (2 * (t.val / 4) + a.val) b.val d.val := by
  have hN : t.val < 16 := t.isLt
  obtain ⟨e0, e1, e2⟩ := idx2 t
  rw [at3_of_lt _ (by omega) (by omega) (by omega)]
  blk_ext [iblk, argG, e0, e1, e2]

end Cert.KernelIdeal.Blocks

end
-- ==== Proof.KPoint.lean ====
/-
  The kernel's values at one grid point, entry by entry: the intermediate tiles, the two scratch arrays with their
  halo rows, and the four pieces of the output block.
-/
module

public import proofs.«01_k».proof.Proof.KBlocks

set_option maxRecDepth 16384

@[expose] public noncomputable section

namespace Cert.KernelIdeal.Point

open Cert.KernelIdeal Cert.KernelIdeal.Gen Cert.KernelIdeal.Blocks Cert.ConvGrad
open Idealize.ShloMosaic Idealize.ShloMosaic.TcCoe Idealize.SL.Sem

variable (m : (ℓ : Loc nD τ sig) → Buf (Elt Ideal) ℓ) (c : Dev nD)

/-- The four arguments read by row and column numbers. -/
abbrev fD : ℕ → ℕ → EReal := at2 (argD m c)
abbrev fG : ℕ → ℕ → EReal := outProj (argG m c)
abbrev fX : ℕ → ℕ → EReal := at2 (argX m c)
abbrev fW : ℕ → ℕ → EReal := at2 (argW m c)

/-- The row and channel of entry `(a, b)` of point `t`'s tile. -/
abbrev row (t a : ℕ) : ℕ := 1024 * (t % 4) + a
abbrev chan (t b : ℕ) : ℕ := 512 * (t / 4) + b

/-- A tile has a predecessor exactly when it is not the first of its column group, -/
theorem first_tile (t : Fin cfg0.N) (x y : EReal) :
    Scalar.select (Scalar.cmpi .sgt (BitVec.ofNat 32 (grid0.coords t 1)) 0#32) x y = if 0 < t.val % 4 then x else y := by
  have : ∀ t : Fin grid0.N, (Scalar.cmpi .sgt (BitVec.ofNat 32 (grid0.coords t 1)) 0#32 = 1) ↔ 0 < t.val % 4 := by decide +kernel
  simp only [Scalar.select, this t]

/-- and a successor exactly when it is not the last. -/
theorem last_tile (t : Fin cfg0.N) (x y : EReal) :
    Scalar.select (Scalar.cmpi .slt (BitVec.ofNat 32 (grid0.coords t 1)) 3#32) x y = if t.val % 4 < 3 then x else y := by
  have : ∀ t : Fin grid0.N, (Scalar.cmpi .slt (BitVec.ofNat 32 (grid0.coords t 1)) 3#32 = 1) ↔ t.val % 4 < 3 := by decide +kernel
  simp only [Scalar.select, this t]

/-! ## Tiles -/

theorem gate_tile (t : Fin cfg0.N) (a : Fin 1024) (b : Fin 512) :
    k0_pay8 (iblk m c 2 t) (iblk m c 0 t) (ix2 a b) = dgate (fD m c) (fG m c) (row t a) (chan t b) := by
  pointwise [k0_pay8, k0_pay7, dgate]
  unfold row chan fG fD
  refine Finset.sum_congr rfl fun d _ => ?_
  rw [blk0, blk2]
  unfold outProj
  congr 2 <;> dsimp only <;> omega

theorem ch_tile (t : Fin cfg0.N) (a : Fin 1024) (b : Fin 512) :
    k0_pay13 (iblk m c 4 t) (iblk m c 5 t) (ix2 a b) = chIn (fX m c) 0 (row t a) (chan t b) := by
  pointwise [k0_pay13, k0_pay10, k0_pay11, chIn]
  rw [blk4, blk5]
  simp [Nat.add_assoc]

theorem sig_tile (t : Fin cfg0.N) (a : Fin 1024) (b : Fin 512) :
    k0_pay18 (iblk m c 6 t) (ix2 a b) = sigm (fX m c (row t a) (6144 + chan t b)) := by
  pointwise [k0_pay18, k0_pay17, sigm]
  rw [blk6]
  simp [Nat.add_assoc]

theorem dco_tile (t : Fin cfg0.N) (a : Fin 1024) (b : Fin 512) :
    k0_pay22 (k0_pay8 (iblk m c 2 t) (iblk m c 0 t)) (k0_pay12 (iblk m c 3 t)) (iblk m c 6 t) (ix2 a b) = dconv (fD m c) (fG m c) (fX m c) 0 (row t a) (chan t b) := by
  have hN : t.val < 16 := t.isLt
  pointwise [k0_pay22, k0_pay19, k0_pay12, k0_pay17]
  rw [gate_tile, sig_tile, blk6, blk3]
  unfold dconv dy row chan
  rw [if_pos (by omega)]
  simp [Nat.add_assoc]

theorem prev_halo (t : Fin cfg0.N) (a : Fin 16) (b : Fin 512) :
    k0_pay14 (grid0.coords t) (iblk m c 7 t) (iblk m c 8 t) (ix2 a b) = chIn (fX m c) 16 (row t a) (chan t b) := by
  have hN : t.val < 16 := t.isLt
  pointwise [k0_pay14, chIn]
  unfold row chan
  rw [first_tile]
  by_cases h : t.val % 4 = 0
  · rw [if_neg (by omega), if_pos (by omega)]
  · rw [if_pos (by omega), if_neg (by omega), blk7 m c t (by omega), blk8 m c t (by omega)]
    congr 2 <;> omega

theorem next_halo (t : Fin cfg0.N) (a : Fin 16) (b : Fin 512) :
    k0_pay24 (BitVec.ofNat 32 (grid0.coords t 1)) (k0_pay9 (iblk m c 2 t) (iblk m c 1 t)) (iblk m c 10 t) (iblk m c 9 t)  (ix2 a b) = dconv (fD m c) (fG m c) (fX m c) 1024 (row t a) (chan t b) := by
  have hN : t.val < 16 := t.isLt
  pointwise [k0_pay24, k0_pay9, k0_pay7]
  rw [last_tile]
  unfold dconv row chan
  by_cases h : t.val % 4 < 3
  · rw [if_pos h, if_pos (by omega), blk9 m c t h, blk10 m c t h]
    unfold dy sigm dgate fG fX
    have hr : 1024 * (t.val % 4) + a.val + 1024 = 1024 * (t.val % 4) + 1024 + a.val := by omega
    rw [zero_sub, hr, Nat.zero_add, Nat.add_assoc 6144]
    congr 2
    refine Finset.sum_congr rfl fun d _ => ?_
    rw [blk1 m c t h, blk2]
    unfold outProj fD
    congr 2 <;> dsimp only <;> omega
  · rw [if_neg h, if_neg (by omega)]

/-! ## The scratch arrays -/

/-- Row `r` of an array written in bands of rows: a band that holds the row gives it, -/
theorem canon_rows_hit {n p k o : ℕ} {e : EltTy} (inb : ∀ a, (![o, 0] : Fin 2 → ℕ) a + (![k, p] : Fin 2 → ℕ) a ≤ (⟨2, ![n, p]⟩ : Shape).size a)
    (w : Shape.Idx ⟨2, ![k, p]⟩ → Elt Ideal e) (L : List (View.Piece (Elt Ideal) ⟨2, ![n, p]⟩ e)) (y : Shape.Idx ⟨2, ![n, p]⟩) (a : Fin k) (b : Fin p)
    (h0 : (y 0).val = o + a.val) (h1 : (y 1).val = b.val) :
    View.canon (⟨Rect.unit (s := ⟨2, ![n, p]⟩) ![o, 0] ![k, p] inb, w⟩ :: L) y = w (ix2 a b) := by
  have : y = (Rect.unit (s := ⟨2, ![n, p]⟩) ![o, 0] ![k, p] inb).emb (ix2 a b) := by
    funext x
    apply Fin.ext
    fin_cases x
    · simpa using h0
    · simpa using h1
  rw [this, View.canon_cons_emb]

/-- and a band that does not is passed over. -/
theorem canon_rows_skip {n p k o : ℕ} {e : EltTy} (inb : ∀ a, (![o, 0] : Fin 2 → ℕ) a + (![k, p] : Fin 2 → ℕ) a ≤ (⟨2, ![n, p]⟩ : Shape).size a)
    (w : Shape.Idx ⟨2, ![k, p]⟩ → Elt Ideal e) (L : List (View.Piece (Elt Ideal) ⟨2, ![n, p]⟩ e)) (y : Shape.Idx ⟨2, ![n, p]⟩)
    (h0 : (y 0).val < o ∨ o + k ≤ (y 0).val) :
    View.canon (⟨Rect.unit (s := ⟨2, ![n, p]⟩) ![o, 0] ![k, p] inb, w⟩ :: L) y = View.canon L y := by
  refine View.canon_cons_of_not_mem _ _ fun h => ?_
  have := (Rect.mem_set_unit (inb := inb).mp h) 0
  simp at this
  omega

/-- The products `c * h` of a tile, with the sixteen rows before it. -/
theorem ch_shift (v : View sig .tc .vmem S1040x512 .f32) (t : Fin cfg0.N) (n o : ℕ) (hn : o + n = 16) (inb) (i1) (i2) (a : Fin 1024) (b : Fin 512) :
    v.readCov (Val := Elt Ideal)
      [⟨Rect.unit ![16, 0] ![1024, 512] i1, k0_pay15 (k0_pay13 (iblk m c 4 t) (iblk m c 5 t))⟩,
       ⟨Rect.unit ![0, 0] ![16, 512] i2, k0_pay14 (grid0.coords t) (iblk m c 7 t) (iblk m c 8 t)⟩]
      (Rect.unit (s := S1040x512) ![o, 0] ![1024, 512] inb).toLoadRect (ix2 a b : Shape.Idx ⟨2, ![1024, 512]⟩) = chIn (fX m c) n (row t a) (chan t b) := by
  rw [View.readCov_eq_canon']
  by_cases h : a.val < n
  · refine (canon_rows_skip i1 _ _ _ ?_).trans ((canon_rows_hit i2 _ _ _ ⟨o + a.val, by omega⟩ b ?_ ?_).trans ?_)
    · simp; omega
    · simp
    · simp
    · rw [prev_halo]
      unfold chIn row
      have : 1024 * (t.val % 4) + (o + a.val) - 16 = 1024 * (t.val % 4) + a.val - n := by omega
      simp only [this]
      congr 1
      simp; omega
  · refine (canon_rows_hit i1 _ _ _ ⟨a.val - n, by omega⟩ b ?_ ?_).trans ?_
    · simp; omega
    · simp
    · unfold k0_pay15
      pointwise
      rw [ch_tile]
      unfold chIn row
      have : 1024 * (t.val % 4) + (a.val - n) - 0 = 1024 * (t.val % 4) + a.val - n := by omega
      rw [if_neg (by omega), if_neg (by omega)]
      simp only [this]

/-- The gradients of a tile's convolution output, with the sixteen rows after it. -/
theorem dco_shift (v : View sig .tc .vmem S1040x512 .f32) (t : Fin cfg0.N) (n : ℕ) (hn : n ≤ 16) (inb) (i1) (i2) (a : Fin 1024) (b : Fin 512) :
    v.readCov (Val := Elt Ideal)
      [⟨Rect.unit ![1024, 0] ![16, 512] i1, k0_pay24 (BitVec.ofNat 32 (grid0.coords t 1)) (k0_pay9 (iblk m c 2 t) (iblk m c 1 t)) (iblk m c 10 t) (iblk m c 9 t)⟩,
       ⟨Rect.unit ![0, 0] ![1024, 512] i2, k0_pay23 (k0_pay22 (k0_pay8 (iblk m c 2 t) (iblk m c 0 t)) (k0_pay12 (iblk m c 3 t)) (iblk m c 6 t))⟩]
      (Rect.unit (s := S1040x512) ![n, 0] ![1024, 512] inb).toLoadRect (ix2 a b : Shape.Idx ⟨2, ![1024, 512]⟩) = dconv (fD m c) (fG m c) (fX m c) n (row t a) (chan t b) := by
  rw [View.readCov_eq_canon']
  by_cases h : a.val + n < 1024
  · refine (canon_rows_skip i1 _ _ _ ?_).trans ((canon_rows_hit i2 _ _ _ ⟨n + a.val, by omega⟩ b ?_ ?_).trans ?_)
    · simp; omega
    · simp
    · simp
    · unfold k0_pay23
      pointwise
      rw [dco_tile]
      unfold dconv
      have : row t (n + a.val) + 0 = row t a.val + n := by unfold row; omega
      simp only [this]
  · refine (canon_rows_hit i1 _ _ _ ⟨a.val + n - 1024, by omega⟩ b ?_ ?_).trans ?_
    · simp; omega
    · simp
    · rw [next_halo]
      unfold dconv
      have : row t (a.val + n - 1024) + 1024 = row t a.val + n := by unfold row; omega
      simp only [this]

/-! ## The pieces of the output block -/

theorem tap_row (t : Fin cfg0.N) (k : Fin 3) (inb) (b : Fin 512) :
    View.ld (iblk m c 11 t) (Rect.unit ![k.val, 0] ![1, 512] inb) (ix2 0 b : Shape.Idx ⟨2, ![1, 512]⟩) = fW m c k (chan t b) := by
  refine Eq.trans ?_ (blk11 m c t k b)
  simp only [View.ld]
  congr 1
  funext x
  apply Fin.ext
  fin_cases x <;> simp

section Pieces

variable (t : Fin cfg0.N) (a : Fin 1024) (b : Fin 512)
  (w0 w1 w2 : FVec Ideal S1x512 .f32) (h0 : w0 (ix2 0 b) = fW m c 0 (chan t b)) (h1 : w1 (ix2 0 b) = fW m c 1 (chan t b))
  (h2 : w2 (ix2 0 b) = fW m c 2 (chan t b))
  (e1 e2 : FVec Ideal S1024x512 .f32) (he1 : e1 (ix2 a b) = chIn (fX m c) 1 (row t a) (chan t b))
  (he2 : e2 (ix2 a b) = chIn (fX m c) 2 (row t a) (chan t b))
  (f1 f2 : FVec Ideal S1024x512 .f32) (hf1 : f1 (ix2 a b) = dconv (fD m c) (fG m c) (fX m c) 1 (row t a) (chan t b))
  (hf2 : f2 (ix2 a b) = dconv (fD m c) (fG m c) (fX m c) 2 (row t a) (chan t b))

include h0 h1 h2 he1 he2 in
theorem conv_tile : k0_pay16 w0 w1 w2 (k0_pay13 (iblk m c 4 t) (iblk m c 5 t)) e1 e2 (ix2 a b) =
    convOut (fX m c) (fW m c) (row t a) (chan t b) := by
  pointwise [k0_pay16]
  rw [h0, h1, h2, he1, he2, ch_tile]
  rfl

include h0 h1 h2 he1 he2 in
theorem db_piece :
    k0_pay21 (k0_pay8 (iblk m c 2 t) (iblk m c 0 t)) w0 w1 w2 (k0_pay13 (iblk m c 4 t) (iblk m c 5 t)) e1 e2
      (iblk m c 6 t) (ix2 a b) = dpart (fD m c) (fG m c) (fX m c) (fW m c) 0 (row t a) (chan t b) := by
  pointwise [k0_pay21, k0_pay19, k0_pay17]
  rw [conv_tile m c t a b w0 w1 w2 h0 h1 h2 e1 e2 he1 he2, gate_tile, sig_tile, blk6]
  simp [dpart, dy, Nat.add_assoc]

include h0 h1 h2 he1 he2 in
theorem dz_piece :
    k0_pay20 (k0_pay8 (iblk m c 2 t) (iblk m c 0 t)) w0 w1 w2 (k0_pay12 (iblk m c 3 t)) (k0_pay13 (iblk m c 4 t) (iblk m c 5 t)) e1 e2
      (iblk m c 6 t) (ix2 a b) = dpart (fD m c) (fG m c) (fX m c) (fW m c) 3 (row t a) (chan t b) := by
  pointwise [k0_pay20, k0_pay17, k0_pay12]
  rw [conv_tile m c t a b w0 w1 w2 h0 h1 h2 e1 e2 he1 he2, gate_tile, sig_tile, blk6, blk3]
  simp [dpart, dz, Nat.add_assoc]

include h0 h1 h2 hf1 hf2 in
theorem dch_tile :
    k0_pay25 w0 w1 w2 (k0_pay22 (k0_pay8 (iblk m c 2 t) (iblk m c 0 t)) (k0_pay12 (iblk m c 3 t)) (iblk m c 6 t)) f1 f2 (ix2 a b)
      = dchIn (fD m c) (fG m c) (fX m c) (fW m c) (row t a) (chan t b) := by
  pointwise [k0_pay25]
  rw [h0, h1, h2, hf1, hf2, dco_tile]
  rfl

include h0 h1 h2 hf1 hf2 in
theorem dc_piece :
    k0_pay26 w0 w1 w2 (k0_pay11 (iblk m c 5 t)) (k0_pay22 (k0_pay8 (iblk m c 2 t) (iblk m c 0 t)) (k0_pay12 (iblk m c 3 t)) (iblk m c 6 t)) f1 f2 (ix2 a b)
      = dpart (fD m c) (fG m c) (fX m c) (fW m c) 1 (row t a) (chan t b) := by
  pointwise [k0_pay26, k0_pay11]
  rw [dch_tile m c t a b w0 w1 w2 h0 h1 h2 f1 f2 hf1 hf2, blk5]
  simp [dpart, Nat.add_assoc]

include h0 h1 h2 hf1 hf2 in
theorem dh_piece :
    k0_pay27 w0 w1 w2 (k0_pay10 (iblk m c 4 t)) (k0_pay22 (k0_pay8 (iblk m c 2 t) (iblk m c 0 t)) (k0_pay12 (iblk m c 3 t)) (iblk m c 6 t)) f1 f2 (ix2 a b)
      = dpart (fD m c) (fG m c) (fX m c) (fW m c) 2 (row t a) (chan t b) := by
  pointwise [k0_pay27, k0_pay10]
  rw [dch_tile m c t a b w0 w1 w2 h0 h1 h2 f1 f2 hf1 hf2, blk4]
  simp [dpart, Nat.add_assoc]

end Pieces

/-! ## The taps' partial sums -/

/-- The part of tap `j`'s gradient that row tile `i` of column group `q` adds. -/
def tapPart (q i j b : ℕ) : EReal :=
  ∑ a : Fin 1024, dconv (fD m c) (fG m c) (fX m c) 0 (1024 * i + a.val) (512 * q + b) * chIn (fX m c) (2 - j) (1024 * i + a.val) (512 * q + b)

section Taps

variable (t : Fin cfg0.N) (b : Fin 512) (e : FVec Ideal S1024x512 .f32)

theorem tap0_part (he : ∀ a : Fin 1024, e (ix2 a b) = chIn (fX m c) 2 (row t a) (chan t b)) :
    k0_pay1 e (k0_pay22 (k0_pay8 (iblk m c 2 t) (iblk m c 0 t)) (k0_pay12 (iblk m c 3 t)) (iblk m c 6 t)) (ix2 0 b)
      = tapPart m c (t.val / 4) (t.val % 4) 0 b := by
  pointwise [k0_pay1]
  simp only [he, dco_tile]
  rfl

theorem tap1_part (he : ∀ a : Fin 1024, e (ix2 a b) = chIn (fX m c) 1 (row t a) (chan t b)) :
    k0_pay3 e (k0_pay22 (k0_pay8 (iblk m c 2 t) (iblk m c 0 t)) (k0_pay12 (iblk m c 3 t)) (iblk m c 6 t)) (ix2 0 b)
      = tapPart m c (t.val / 4) (t.val % 4) 1 b := by
  pointwise [k0_pay3]
  simp only [he, dco_tile]
  rfl

theorem tap2_part (he : ∀ a : Fin 1024, e (ix2 a b) = chIn (fX m c) 0 (row t a) (chan t b)) :
    k0_pay5 e (k0_pay22 (k0_pay8 (iblk m c 2 t) (iblk m c 0 t)) (k0_pay12 (iblk m c 3 t)) (iblk m c 6 t)) (ix2 0 b)
      = tapPart m c (t.val / 4) (t.val % 4) 2 b := by
  pointwise [k0_pay5]
  simp only [he, dco_tile]
  rfl

end Taps

end Cert.KernelIdeal.Point

end
-- ==== Proof.KOut.lean ====
/-
  What the kernel leaves in its two results: the gradient of the projected input block by block, the gradient of
  the taps summed over the row tiles.
-/
module

public import proofs.«01_k».proof.Proof.KPoint

set_option maxRecDepth 16384

@[expose] public noncomputable section

namespace Cert.KernelIdeal.Out

open Cert.KernelIdeal Cert.KernelIdeal.Gen Cert.KernelIdeal.Blocks Cert.KernelIdeal.Point Cert.ConvGrad
open Idealize.ShloMosaic Idealize.ShloMosaic.TcCoe Idealize.SL.Sem

variable (m : (ℓ : Loc nD τ sig) → Buf (Elt Ideal) ℓ) (c : Dev nD)

/-! ## The first result -/

/-- The result's entry at row `r`, column `x`. -/
abbrev G12 : Shape.Idx ⟨2, ![4096, 8192]⟩ → EReal := fun y => dproj (fD m c) (fG m c) (fX m c) (fW m c) (y 0).val (y 1).val

/-- Entry `y` of point `t`'s block lies in part `p`, at tile row `a` and channel `b` of the group. -/
theorem at_part (t : Fin cfg0.N) (y : Shape.Idx ⟨2, ![1024, 2048]⟩) (a : Fin 1024) (b : Fin 512) (p : ℕ) (h0 : (y 0).val = a.val)
    (h1 : (y 1).val = 512 * p + b.val) (hp : p < 4) :
    dpart (fD m c) (fG m c) (fX m c) (fW m c) p (row t a) (chan t b) = G12 m c ((win0_12.blk t).view.emb y) := by
  obtain ⟨e0, e1⟩ := idx12 t
  unfold G12 dproj
  blk_simp [e0, e1]
  have r0 : t.val % 4 * 1024 + (y 0).val = row t a := by unfold row; omega
  have r1 : (t.val / 4 * 2048 + (y 1).val) % 2048 / 512 = p := by omega
  have r2 : 512 * ((t.val / 4 * 2048 + (y 1).val) / 2048) + (t.val / 4 * 2048 + (y 1).val) % 512 = chan t b := by unfold chan; omega
  rw [r0, r1, r2]

theorem out12_A (t : Fin cfg0.N) (h : t.val % 4 = 0) (y) :
    (outsAt0 m c t.val t.isLt).1 y = G12 m c ((win0_12.blk t).view.emb y) := by
  rw [outsAt0_A m c t h (by omega) h (by omega) h (by omega)]
  frame_out
  canon_tiles x hx
  · idx_vars x
    exact (dh_piece m c t _ _ _ _ _ (tap_row m c t 0 _ _) (tap_row m c t 1 _ _) (tap_row m c t 2 _ _) _ _ (dco_shift m c _ t 1 (by omega) _ _ _ _ _) (dco_shift m c _ t 2 (by omega) _ _ _ _ _)).trans
      (at_part m c t y _ _ 2 hx0 hx1 (by omega))
  · idx_vars x
    exact (dc_piece m c t _ _ _ _ _ (tap_row m c t 0 _ _) (tap_row m c t 1 _ _) (tap_row m c t 2 _ _) _ _ (dco_shift m c _ t 1 (by omega) _ _ _ _ _) (dco_shift m c _ t 2 (by omega) _ _ _ _ _)).trans
      (at_part m c t y _ _ 1 hx0 hx1 (by omega))
  · idx_vars x
    exact (db_piece m c t _ _ _ _ _ (tap_row m c t 0 _ _) (tap_row m c t 1 _ _) (tap_row m c t 2 _ _) _ _ (ch_shift m c _ t 1 15 rfl _ _ _ _ _) (ch_shift m c _ t 2 14 rfl _ _ _ _ _)).trans
      (at_part m c t y _ _ 0 hx0 (by omega) (by omega))
  · idx_vars x
    exact (dz_piece m c t _ _ _ _ _ (tap_row m c t 0 _ _) (tap_row m c t 1 _ _) (tap_row m c t 2 _ _) _ _ (ch_shift m c _ t 1 15 rfl _ _ _ _ _) (ch_shift m c _ t 2 14 rfl _ _ _ _ _)).trans
      (at_part m c t y _ _ 3 hx0 hx1 (by omega))

theorem out12_B (t : Fin cfg0.N) (h : ¬t.val % 4 = 0) (y) :
    (outsAt0 m c t.val t.isLt).1 y = G12 m c ((win0_12.blk t).view.emb y) := by
  rw [outsAt0_B m c t h (by omega) h (by omega) h (by omega)]
  frame_out
  canon_tiles x hx
  · idx_vars x
    exact (dh_piece m c t _ _ _ _ _ (tap_row m c t 0 _ _) (tap_row m c t 1 _ _) (tap_row m c t 2 _ _) _ _ (dco_shift m c _ t 1 (by omega) _ _ _ _ _) (dco_shift m c _ t 2 (by omega) _ _ _ _ _)).trans
      (at_part m c t y _ _ 2 hx0 hx1 (by omega))
  · idx_vars x
    exact (dc_piece m c t _ _ _ _ _ (tap_row m c t 0 _ _) (tap_row m c t 1 _ _) (tap_row m c t 2 _ _) _ _ (dco_shift m c _ t 1 (by omega) _ _ _ _ _) (dco_shift m c _ t 2 (by omega) _ _ _ _ _)).trans
      (at_part m c t y _ _ 1 hx0 hx1 (by omega))
  · idx_vars x
    exact (db_piece m c t _ _ _ _ _ (tap_row m c t 0 _ _) (tap_row m c t 1 _ _) (tap_row m c t 2 _ _) _ _ (ch_shift m c _ t 1 15 rfl _ _ _ _ _) (ch_shift m c _ t 2 14 rfl _ _ _ _ _)).trans
      (at_part m c t y _ _ 0 hx0 (by omega) (by omega))
  · idx_vars x
    exact (dz_piece m c t _ _ _ _ _ (tap_row m c t 0 _ _) (tap_row m c t 1 _ _) (tap_row m c t 2 _ _) _ _ (ch_shift m c _ t 1 15 rfl _ _ _ _ _) (ch_shift m c _ t 2 14 rfl _ _ _ _ _)).trans
      (at_part m c t y _ _ 3 hx0 hx1 (by omega))

/-- The first result, entry by entry. -/
theorem arr12 : (dats m 0 c).arrAt 12 cfg0.N = G12 m c := by
  refine (dats m 0 c).arrAt_eq_of_covers 12 _ (by decide +kernel) fun t hf y => ?_
  blk_simp
  rw [after0_12]
  by_cases h : t.val % 4 = 0
  · exact out12_A m c t h y
  · exact out12_B m c t h y

/-! ## The second result -/

theorem tap_first (t : Fin cfg0.N) (h : t.val % 4 = 0) (y : Shape.Idx ⟨2, ![3, 512]⟩) :
    (outsAt0 m c t.val t.isLt).2 y = 0 + tapPart m c (t.val / 4) (t.val % 4) (y 0).val (y 1).val := by
  rw [outsAt0_A m c t h (by omega) h (by omega) h (by omega)]
  frame_out
  canon_tiles x hx
  · idx_vars x
    obtain rfl : x0 = 0 := by omega
    rw [hx0, hx1, zero_add]
    exact tap2_part m c t _ _ (fun a => ch_tile m c t a _)
  · idx_vars x
    obtain rfl : x0 = 0 := by omega
    rw [hx0, hx1, zero_add]
    exact tap1_part m c t _ _ (fun a => ch_shift m c _ t 1 15 rfl _ _ _ a _)
  · idx_vars x
    obtain rfl : x0 = 0 := by omega
    rw [hx0, hx1, zero_add]
    exact tap0_part m c t _ _ (fun a => ch_shift m c _ t 2 14 rfl _ _ _ a _)

theorem tap_next (t : Fin cfg0.N) (h : ¬t.val % 4 = 0) (y : Shape.Idx ⟨2, ![3, 512]⟩) :
    (outsAt0 m c t.val t.isLt).2 y = (outsAt0 m c (t.val - 1) (Nat.lt_of_le_of_lt (Nat.sub_le _ _) t.isLt)).2 y + tapPart m c (t.val / 4) (t.val % 4) (y 0).val (y 1).val := by
  rw [outsAt0_B m c t h (by omega) h (by omega) h (by omega)]
  frame_out
  canon_tiles x hx
  · idx_vars x
    obtain rfl : x0 = 0 := by omega
    pointwise [k0_pay6]
    rw [hx1]
    refine congrArg₂ (· + ·) (congrArg _ ?_) ((tap2_part m c t _ _ (fun a => ch_tile m c t a _)).trans (by rw [hx0]; rfl))
    blk_ext [hx0, hx1]
  · idx_vars x
    obtain rfl : x0 = 0 := by omega
    pointwise [k0_pay4]
    rw [hx1]
    refine congrArg₂ (· + ·) (congrArg _ ?_) ((tap1_part m c t _ _ (fun a => ch_shift m c _ t 1 15 rfl _ _ _ a _)).trans (by rw [hx0]; rfl))
    blk_ext [hx0, hx1]
  · idx_vars x
    obtain rfl : x0 = 0 := by omega
    pointwise [k0_pay2]
    rw [hx1]
    refine congrArg₂ (· + ·) (congrArg _ ?_) ((tap0_part m c t _ _ (fun a => ch_shift m c _ t 2 14 rfl _ _ _ a _)).trans (by rw [hx0]; rfl))
    blk_ext [hx0, hx1]

/-- The second result's entry: the sum over all rows, gathered tile by tile. -/
abbrev G13 : Shape.Idx ⟨2, ![3, 2048]⟩ → EReal := fun y => dtap (fD m c) (fG m c) (fX m c) (y 0).val (y 1).val

theorem tap_sum (q j b : ℕ) : ∑ i ∈ Finset.range 4, tapPart m c q i j b = dtap (fD m c) (fG m c) (fX m c) j (512 * q + b) := by
  unfold tapPart dtap
  rw [Finset.sum_range]
  exact Fin.sum_mul_add_congr (S := 4) (n := 1024) fun i a _ => by
    simp only [Nat.mul_comm i.val 1024]

/-- The second result, entry by entry. -/
theorem arr13 : (dats m 0 c).arrAt 13 cfg0.N = G13 m c := by
  refine (dats m 0 c).arrAt_eq_of_covers 13 _ (by decide +kernel) fun t hf y => ?_
  obtain ⟨e0, e1⟩ := idx13 t
  have hr : t.val % 4 = 3 := (flush0_13 t).mp hf
  blk_simp
  rw [after0_13]
  have := Pipeline.eq_sum_of_reset_step_apply_of_mod (fun n h => (outsAt0 m c n h).2) 4 (fun _ => (0 : EReal))
    (fun n y => tapPart m c (n / 4) (n % 4) (y 0).val (y 1).val) (fun t h y => tap_first m c t h y) (fun t h y => tap_next m c t h y) t hr y
  refine this.trans ?_
  unfold G13
  blk_simp [e0, e1]
  rw [zero_add, Nat.mul_comm (t.val / 4) 512, ← tap_sum]
  refine Finset.sum_congr rfl fun k hk => ?_
  have := Finset.mem_range.mp hk
  rw [show (4 * (t.val / 4) + k) / 4 = t.val / 4 by omega, show (4 * (t.val / 4) + k) % 4 = k by omega]

end Cert.KernelIdeal.Out

end
-- ==== Proof.RefVal.lean ====
/-
  The reference's two results, entry by entry.
-/
module

public import proofs.«01_k».proof.Proof.Gen.ReferenceIdeal.Read
public import proofs.«01_k».proof.Proof.Spec
public import Idealize.ShloMosaic.Lib.Pipeline.ValueKit
public import Idealize.ShloMosaic.Lib.Pointwise

set_option maxRecDepth 16384

@[expose] public noncomputable section

namespace Cert.ReferenceIdeal.Value

open Cert.ReferenceIdeal Cert.ReferenceIdeal.Gen Cert.ReferenceIdeal.Read Cert.ConvGrad
open Idealize.ShloMosaic Idealize.ShloMosaic.TcCoe Idealize.SL.Sem

variable (x0 : (⟨S4096x1024, .bf16⟩ : BufTy).Contents (Elt Ideal)) (x1 : (⟨S8x256x1024, .bf16⟩ : BufTy).Contents (Elt Ideal))
  (x2 : (⟨S4096x8192, .bf16⟩ : BufTy).Contents (Elt Ideal)) (x3 : (⟨S3x2048, .f32⟩ : BufTy).Contents (Elt Ideal))

/-- The reference's gradient of the gate: the product rule written as a sum. -/
def dzSum (D G X W : ℕ → ℕ → EReal) (r k : ℕ) : EReal :=
  X r k * convOut X W r k * dgate D G r k * sigm (X r (6144 + k)) +
    X r (6144 + k) * (X r k * convOut X W r k * dgate D G r k) * (sigm (X r (6144 + k)) * (1 - sigm (X r (6144 + k))))

theorem ref_gate (r : Fin 4096) (k : Fin 2048) : val_main_v36 (F := Ideal) x0 x1 (ix2 r k) = dgate (at2 x0) (outProj x1) r.val k.val := by
  pointwise [val_main_v36, val_main_v2, val_main_v1, val_main_v0]
  unfold dgate outProj
  refine Finset.sum_congr rfl fun d _ => ?_
  rw [at2_of_lt _ (by omega) (by omega), at3_of_lt _ (by omega) (by omega) (by omega)]

theorem ref_v4 (r : Fin 4096) (k : Fin 2048) : val_main_v4 (F := Ideal) x2 (ix2 r k) = at2 x2 r.val k.val := by
  pointwise [val_main_v4, val_main_v3]
  rw [at2_of_lt _ (by omega) (by omega)]

theorem ref_v5 (r : Fin 4096) (k : Fin 2048) : val_main_v5 (F := Ideal) x2 (ix2 r k) = at2 x2 r.val (2048 + k.val) := by
  pointwise [val_main_v5, val_main_v3]
  rw [at2_of_lt _ (by omega) (by omega)]

theorem ref_v6 (r : Fin 4096) (k : Fin 2048) : val_main_v6 (F := Ideal) x2 (ix2 r k) = at2 x2 r.val (4096 + k.val) := by
  pointwise [val_main_v6, val_main_v3]
  rw [at2_of_lt _ (by omega) (by omega)]

theorem ref_v7 (r : Fin 4096) (k : Fin 2048) : val_main_v7 (F := Ideal) x2 (ix2 r k) = at2 x2 r.val (6144 + k.val) := by
  pointwise [val_main_v7, val_main_v3]
  rw [at2_of_lt _ (by omega) (by omega)]

theorem ref_v12 (r : Fin 4096) (k : Fin 2048) : val_main_v12 (F := Ideal) x2 (ix2 r k) = chIn (at2 x2) 2 r.val k.val := by
  pointwise [val_main_v12, val_main_v10, val_main_v8, val_main_v9, val_main_cst]
  simp only [ref_v5, ref_v6]
  unfold chIn
  first | rfl | (split_ifs <;> first | rfl | omega | (congr 2 <;> omega))

theorem ref_v18 (r : Fin 4096) (k : Fin 2048) : val_main_v18 (F := Ideal) x2 (ix2 r k) = chIn (at2 x2) 1 r.val k.val := by
  pointwise [val_main_v18, val_main_v10, val_main_v8, val_main_v9, val_main_cst]
  simp only [ref_v5, ref_v6]
  unfold chIn
  first | rfl | (split_ifs <;> first | rfl | omega | (congr 2 <;> omega))

theorem ref_v25 (r : Fin 4096) (k : Fin 2048) : val_main_v25 (F := Ideal) x2 (ix2 r k) = chIn (at2 x2) 0 r.val k.val := by
  pointwise [val_main_v25, val_main_v10, val_main_v8, val_main_v9, val_main_cst]
  simp only [ref_v5, ref_v6]
  unfold chIn
  first | rfl | (split_ifs <;> first | rfl | omega | (congr 2 <;> omega))

theorem ref_conv (r : Fin 4096) (k : Fin 2048) : val_main_v31 (F := Ideal) x2 x3 (ix2 r k) = convOut (at2 x2) (at2 x3) r.val k.val := by
  pointwise [val_main_v31, val_main_v30, val_main_v24, val_main_v17, val_main_v23, val_main_v16, val_main_v15, val_main_v14, val_main_v13, val_main_v22, val_main_v21, val_main_v20, val_main_v19, val_main_v29, val_main_v28, val_main_v27, val_main_v26]
  rw [ref_v12, ref_v18, ref_v25]
  unfold convOut
  rw [at2_of_lt x3 (r := 2) (by omega) k.isLt, at2_of_lt x3 (r := 1) (by omega) k.isLt, at2_of_lt x3 (r := 0) (by omega) k.isLt]
  rw [add_comm, add_comm (_ * x3 (ix2 0 k)), ← add_assoc]
  congr 1
  · congr 1 <;> exact mul_comm _ _
  · exact mul_comm _ _

theorem ref_sig (r : Fin 4096) (k : Fin 2048) : val_main_v33_2 (F := Ideal) x2 (ix2 r k) = sigm (at2 x2 r.val (6144 + k.val)) := by
  pointwise [val_main_v33_2, val_main_call0_v0, val_main_call0_v1, val_main_call0_cst, val_main_call0_v2, val_main_call0_v3, val_main_call0_cst_0, val_main_call0_v4]
  rw [ref_v7]
  rfl

theorem ref_dy (r : Fin 4096) (k : Fin 2048) : val_main_v38 (F := Ideal) x0 x1 x2 (ix2 r k) = dy (at2 x0) (outProj x1) (at2 x2) r.val k.val := by
  pointwise [val_main_v38, val_main_v33_0]
  rw [ref_v7, ref_sig, ref_gate]
  rfl

theorem ref_dco (r : Fin 4096) (k : Fin 2048) : val_main_v40 (F := Ideal) x0 x1 x2 (ix2 r k) = dconv (at2 x0) (outProj x1) (at2 x2) 0 r.val k.val := by
  pointwise [val_main_v40]
  rw [ref_v4, ref_dy, mul_comm]
  unfold dconv
  rw [if_pos (by omega)]
  rfl

theorem ref_dz (r : Fin 4096) (k : Fin 2048) : val_main_v39 (F := Ideal) x0 x1 x2 x3 (ix2 r k) = dzSum (at2 x0) (outProj x1) (at2 x2) (at2 x3) r.val k.val := by
  pointwise [val_main_v39, val_main_call1_v2, val_main_call1_v1, val_main_call1_v0, val_main_v37, val_main_v32, val_main_v33_1, val_main_call0_v7, val_main_call0_v6, val_main_call0_cst_1]
  rw [ref_v4, ref_v7, ref_sig, ref_conv, ref_gate]
  rfl

theorem ref_dch (r : Fin 4096) (k : Fin 2048) : val_main_v74 (F := Ideal) x0 x1 x2 x3 (ix2 r k) = dchIn (at2 x0) (outProj x1) (at2 x2) (at2 x3) r.val k.val := by
  pointwise [val_main_v74, val_main_v72, val_main_v71, val_main_v61, val_main_v60, val_main_v50, val_main_v46, val_main_v45, val_main_v55, val_main_v54, val_main_v66, val_main_v65, val_main_cst_4, val_main_cst_8, val_main_cst_12,
    val_main_v28, val_main_v27, val_main_v26, val_main_v21, val_main_v20, val_main_v19, val_main_v15, val_main_v14, val_main_v13]
  simp only [ref_dco]
  unfold dchIn
  rw [at2_of_lt x3 (r := 2) (by omega) k.isLt, at2_of_lt x3 (r := 1) (by omega) k.isLt, at2_of_lt x3 (r := 0) (by omega) k.isLt]
  congr 1
  · congr 1
    · exact mul_comm _ _
    · unfold dconv
      rw [show 2 + r.val - 1 + 0 = r.val + 1 by omega]
      split_ifs <;> first | omega | exact mul_comm _ _ | exact (mul_zero _).symm
  · unfold dconv
    rw [show 2 + r.val + 0 = r.val + 2 by omega]
    split_ifs <;> first | omega | exact mul_comm _ _ | exact (mul_zero _).symm

theorem ref_dw (r : Fin 3) (k : Fin 2048) : val_main_v70 (F := Ideal) x0 x1 x2 (ix2 r k) = dtap (at2 x0) (outProj x1) (at2 x2) r.val k.val := by
  pointwise [val_main_v70, val_main_v69, val_main_v59, val_main_v58, val_main_v49, val_main_v48, val_main_v47, val_main_v57, val_main_v56, val_main_v68, val_main_v67,val_main_cst_3, val_main_cst_7, val_main_cst_11, val_main_cst_2, val_main_cst_6, val_main_cst_10, val_main_v44, val_main_v53, val_main_v64, val_main_v43, val_main_v52, val_main_v63, val_main_cst_1, val_main_cst_5, val_main_cst_9, val_main_v42, val_main_v51, val_main_v62]
  simp only [ref_dco, ref_v25, ref_v18, ref_v12]
  unfold dtap
  match r with
  | 0 => simp [mul_comm]
  | 1 => simp [mul_comm]
  | 2 => simp [mul_comm]

theorem ref_out (r : Fin 4096) (k : Fin 8192) : val_main_v81 (F := Ideal) x0 x1 x2 x3 (ix2 r k) =
    if k.val % 2048 / 512 < 3 then dproj (at2 x0) (outProj x1) (at2 x2) (at2 x3) r.val k.val else
     dzSum (at2 x0) (outProj x1) (at2 x2) (at2 x3) r.val (512 * (k.val / 2048) + k.val % 512) := by
  pointwise [val_main_v81, val_main_v80, val_main_v79, val_main_v78, val_main_v77, val_main_v41, val_main_v76, val_main_v75]
  simp only [ref_dy, ref_conv, ref_v5, ref_v6, ref_dch, ref_dz]
  unfold dproj dpart
  have e : k.val % 2048 / 512 = k.val / 512 % 4 := by omega
  rw [e]
  have hq : k.val / 512 % 4 = 0 ∨ k.val / 512 % 4 = 1 ∨ k.val / 512 % 4 = 2 ∨ k.val / 512 % 4 = 3 := by omega
  have hk : k.val / 2048 * 512 + k.val % 512 < 2048 := by omega
  have hc : 512 * (k.val / 2048) + k.val % 512 = k.val / 2048 * 512 + k.val % 512 := by omega
  rw [hc]
  rcases hq with h | h | h | h
  · rw [h]; simp [hk, Nat.add_assoc]
  · rw [h]; simp [hk, Nat.add_assoc]
  · rw [h]
    simp only [Nat.add_assoc]
    generalize k.val / 2048 * 512 + k.val % 512 = n at hk
    simp
    rw [if_neg (by omega), if_neg (by omega), if_pos (by omega), show 4096 + n - 2048 - 2048 = n by omega, mul_comm]
  · rw [h]
    simp only [Nat.add_assoc]
    generalize k.val / 2048 * 512 + k.val % 512 = n at hk
    simp
    rw [if_neg (by omega), if_neg (by omega), if_neg (by omega), show 6144 + n - 2048 - 2048 - 2048 = n by omega]

end Cert.ReferenceIdeal.Value

end
-- ==== Proof.Finite.lean ====
/-
  On real numbers the two ways of writing the gate's gradient agree.
-/
module

public import proofs.«01_k».proof.Proof.RefVal

@[expose] public noncomputable section

namespace Cert.ConvGrad

open Idealize.ShloMosaic Cert.ReferenceIdeal.Value

/-- A real number among the extended reals. -/
def IsReal (x : EReal) : Prop := ∃ r : ℝ, x = r

theorem IsReal.add {x y : EReal} : IsReal x → IsReal y → IsReal (x + y)
  | ⟨a, ha⟩, ⟨b, hb⟩ => ⟨a + b, by rw [ha, hb]; norm_cast⟩

theorem IsReal.mul {x y : EReal} : IsReal x → IsReal y → IsReal (x * y)
  | ⟨a, ha⟩, ⟨b, hb⟩ => ⟨a * b, by rw [ha, hb]; norm_cast⟩

theorem IsReal.zero : IsReal 0 := ⟨0, by norm_cast⟩

theorem IsReal.sum {ι : Type} (s : Finset ι) (f : ι → EReal) (h : ∀ i, IsReal (f i)) : IsReal (∑ i ∈ s, f i) :=
  Finset.sum_induction f IsReal (fun _ _ => IsReal.add) IsReal.zero fun i _ => h i

theorem IsReal.sigm {z : EReal} : IsReal z → IsReal (sigm z)
  | ⟨r, hr⟩ => by
    refine ⟨1 / (1 + Real.exp (-r)), ?_⟩
    have h : (1 + Real.exp (-r) : ℝ) ≠ 0 := by positivity
    have e : (1 : EReal) + Ideal.exp (-(r : EReal)) = ((1 + Real.exp (-r) : ℝ) : EReal) := by
      rw [← EReal.coe_neg]
      push_cast
      rfl
    unfold ConvGrad.sigm
    rw [hr, e, Ideal.div_coe h, one_mul]

section

variable {D G X W : ℕ → ℕ → EReal} (hD : ∀ r c, IsReal (D r c)) (hG : ∀ r c, IsReal (G r c)) (hX : ∀ r c, IsReal (X r c))
  (hW : ∀ r c, IsReal (W r c))

include hD hG in
theorem dgate_real (r k : ℕ) : IsReal (dgate D G r k) := IsReal.sum _ _ fun d => (hD _ _).mul (hG _ _)

include hX in
theorem chIn_real (n r k : ℕ) : IsReal (chIn X n r k) := by
  unfold chIn
  split_ifs
  · exact IsReal.zero
  · exact (hX _ _).mul (hX _ _)

include hX hW in
theorem convOut_real (r k : ℕ) : IsReal (convOut X W r k) :=
  (((hW _ _).mul (chIn_real hX _ _ _)).add ((hW _ _).mul (chIn_real hX _ _ _))).add ((hW _ _).mul (chIn_real hX _ _ _))

include hD hG hX hW in
/-- The product rule as a sum is the kernel's product. -/
theorem dzSum_eq (r k : ℕ) : dzSum D G X W r k = dz D G X W r k := by
  obtain ⟨g, hg⟩ := dgate_real hD hG r k
  obtain ⟨y, hy⟩ := convOut_real hX hW r k
  obtain ⟨b, hb⟩ := hX r k
  obtain ⟨z, hz⟩ := hX r (6144 + k)
  obtain ⟨s, hs⟩ := IsReal.sigm (hX r (6144 + k))
  unfold dzSum dz
  rw [hg, hy, hb, hs, hz]
  norm_cast
  ring

end

/-- An array of reals, read by row and column numbers, is real everywhere. -/
theorem at2_real {n p : ℕ} {A : (Shape.Idx ⟨2, ![n, p]⟩) → EReal} (h : ∀ i, IsReal (A i)) (r c : ℕ) : IsReal (at2 A r c) := by
  unfold at2
  split_ifs
  · exact h _
  · exact IsReal.zero

theorem outProj_real {A : (Shape.Idx ⟨3, ![8, 256, 1024]⟩) → EReal} (h : ∀ i, IsReal (A i)) (r c : ℕ) : IsReal (outProj A r c) := by
  unfold outProj at3
  split_ifs
  · exact h _
  · exact IsReal.zero

/-- A number whose absolute value is below infinity is real. -/
theorem real_of_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  obtain ⟨h1, h2⟩ := max_lt_iff.mp hlt
  induction x with
  | bot => simp at h2
  | top => simp at h1
  | coe r => exact ⟨r, rfl⟩

end Cert.ConvGrad

end
-- ==== Proof.Agree.lean ====
/-
  Kernel and reference end with the same two arrays.
-/
module

public import proofs.«01_k».proof.Proof.KOut
public import proofs.«01_k».proof.Proof.RefVal
public import proofs.«01_k».proof.Proof.Finite
public import proofs.«01_k».proof.Proof.Gen.Pre_all_finite
public import proofs.«01_k».proof.Defs

set_option maxRecDepth 16384

@[expose] public noncomputable section

namespace Cert.Agree

open Cert.ConvGrad
open Idealize.ShloMosaic Idealize.ShloMosaic.TcCoe Idealize.SL.Sem

instance : Cert.KernelIdeal.Facts := Cert.KernelIdeal.Gen.facts
instance : Cert.Pre_all_finite.Facts := Cert.Pre_all_finite.Gen.facts

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- In the fourth part of a group the result is the gate's gradient. -/
theorem dproj_gate (D G X W : ℕ → ℕ → EReal) (r x : ℕ) (h : ¬x % 2048 / 512 < 3) :
    dproj D G X W r x = dz D G X W r (512 * (x / 2048) + x % 512) := by
  unfold dproj dpart
  rw [if_neg (by omega), if_neg (by omega), if_neg (by omega)]

section
variable (hp : Cert.Pre_KernelIdeal_all_finite m) (c : Dev KernelIdeal.nD)
include hp

/-! Under the precondition every number the arguments hold is real. -/

theorem real0 (i) : IsReal (m ((c.tc : Thread KernelIdeal.nD KernelIdeal.τ).loc KernelIdeal.main_arg0) i) :=
  real_of_lt _ (congrFun (hp c).1 i)

theorem real1 (i) : IsReal (m ((c.tc : Thread KernelIdeal.nD KernelIdeal.τ).loc KernelIdeal.main_arg1) i) :=
  real_of_lt _ (congrFun (hp c).2.1 i)

theorem real2 (i) : IsReal (m ((c.tc : Thread KernelIdeal.nD KernelIdeal.τ).loc KernelIdeal.main_arg2) i) :=
  real_of_lt _ (congrFun (hp c).2.2.1 i)

theorem real3 (i) : IsReal (m ((c.tc : Thread KernelIdeal.nD KernelIdeal.τ).loc KernelIdeal.main_arg3) i) :=
  real_of_lt _ (congrFun (hp c).2.2.2 i)

end

/-- The reference's first result is the kernel's. -/
theorem dh_eq (hp : Cert.Pre_KernelIdeal_all_finite m) (c : Dev KernelIdeal.nD) :
    ReferenceIdeal.Read.val_main_v81 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
    = KernelIdeal.Out.G12 m c := by
  funext y
  idx_vars y
  refine (ReferenceIdeal.Value.ref_out _ _ _ _ _ _).trans ?_
  split
  · rfl
  · rename_i hk
    refine (dzSum_eq (at2_real (real0 m hp c)) (outProj_real (real1 m hp c)) (at2_real (real2 m hp c)) (at2_real (real3 m hp c)) _ _).trans ?_
    exact (dproj_gate _ _ _ _ _ _ hk).symm

/-- The reference's second result is the kernel's. -/
theorem dw_eq (c : Dev KernelIdeal.nD) :
    ReferenceIdeal.Read.val_main_v70 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
    = KernelIdeal.Out.G13 m c := by
  funext y
  idx_vars y
  exact ReferenceIdeal.Value.ref_dw _ _ _ _ _

end Cert.Agree

end
-- ==== Proof.ACond.lean ====
module

public import proofs.«01_k».proof.Proof.Gen.AttnIdeal.Frame
public import proofs.«01_k».proof.Proof.Gen.AttnIdeal.Loops
public import proofs.«01_k».proof.Proof.Gen.AttnIdeal.Points
public import proofs.«01_k».proof.Proof.Gen.AttnIdeal.Launch
public import Idealize.ShloMosaic.Lib.Exec

/-! The two conditions of the body of the attention's gradient: whether the key tile is the first, or the last, of its head pair. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

/-- The first key tile of a head pair: the condition under which the body clears its accumulator. -/
abbrev isFirst (i : grid0.Coords) : Prop := (Scalar.cmpi .ne (Scalar.extui (Scalar.cmpi .eq (BitVec.ofNat 32 (i 1).val) 0#32)) 0#32) = 1#1
/-- The last key tile of a head pair: the condition under which the body writes `dq` out. -/
abbrev isLast (i : grid0.Coords) : Prop := k0_cond2 i = 1#1

end Cert.AttnIdeal.Run

end
-- ==== Proof.ARunA.lean ====
module

public import proofs.«01_k».proof.Proof.ACond
public import Idealize.ShloMosaic.Lib.Exec

/-! The run of the body of the attention's gradient at the first key tile of a head pair, where the accumulator of `dq` is cleared first.
The run finds the pieces which the body stores into its result buffers and into the accumulator it carries. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

set_option maxHeartbeats 4000000 in
/-- The body's run at the first key tile of a head pair: what it stores, with the proof that it runs. -/
noncomputable def runA (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) :
    { L : List (View.Piece (Elt F) S512x512 .bf16) × List (View.Piece (Elt F) S2x512x64 .f32) × List (View.Piece (Elt F) S2x4096x192 .f32) //
      ∀ (x13 : Vec F S2x4096x192 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ owns (c : Thread nD τ) arg13 fullShare x13 ∗ (∃ f, arg14.view.loc (c : Thread nD τ) ↦[arg14.view.set]{fullShare} arg14.view.writes (Elt F) f L.2.2)) -∗ K ⟨⟩))
          ⊢ wp frame (wpE (defs₀ (F := F)) Variants.none c none) E (cc0_mlab_attn i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_⟩, fun x13 E K => ?run⟩
  case run =>
    simp only [cc0_mlab_attn_eq_skeleton]; unfold cc0_mlab_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]
    · iexists _; isplitr; · ipureintro; exact harg13.read_unread _
      iexact H13
    iexists _; iexact H14

end Cert.AttnIdeal.Run

end
-- ==== Proof.ARunB.lean ====
module

public import proofs.«01_k».proof.Proof.ACond
public import Idealize.ShloMosaic.Lib.Exec

/-! The run of the body of the attention's gradient at a middle key tile of a head pair.
The run finds the pieces which the body stores into its result buffers and into the accumulator it carries. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

set_option maxHeartbeats 4000000 in
/-- The body's run at a middle key tile: what it stores, with the proof that it runs. -/
noncomputable def runB (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) :
    { L : List (View.Piece (Elt F) S512x512 .bf16) × List (View.Piece (Elt F) S2x512x64 .f32) × List (View.Piece (Elt F) S2x4096x192 .f32) //
      ∀ (x13 : Vec F S2x4096x192 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare xs ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ owns (c : Thread nD τ) arg13 fullShare x13 ∗ (arg14.view.loc (c : Thread nD τ) ↦[arg14.view.set]{fullShare} arg14.view.writes (Elt F) (harg14.unread xs) L.2.2)) -∗ K ⟨⟩))
          ⊢ wp frame (wpE (defs₀ (F := F)) Variants.none c none) E (cc0_mlab_attn i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_⟩, fun x13 E K => ?run⟩
  case run =>
    simp only [cc0_mlab_attn_eq_skeleton]; unfold cc0_mlab_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    obtain rfl := harg14.eq_unread hf14
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]
    · iexists _; isplitr; · ipureintro; exact harg13.read_unread _
      iexact H13
    iexact H14

end Cert.AttnIdeal.Run

end
-- ==== Proof.ARunC.lean ====
module

public import proofs.«01_k».proof.Proof.ACond
public import Idealize.ShloMosaic.Lib.Exec

/-! The run of the body of the attention's gradient at the last key tile of a head pair, where `dq` is written out from the accumulator.
The run finds the pieces which the body stores into its result buffers and into the accumulator it carries. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

local notation "𝕄" => MT nD τ sig Unit (Elt F) ℕ (UR sig nD τ) ℕ

set_option maxHeartbeats 4000000 in
/-- The body's run at the last key tile of a head pair: what it stores, with the proof that it runs. -/
noncomputable def runC (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) :
    { L : List (View.Piece (Elt F) S512x512 .bf16) × List (View.Piece (Elt F) S2x512x64 .f32) × List (View.Piece (Elt F) S2x4096x192 .bf16) × List (View.Piece (Elt F) S2x4096x192 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (arg14.view.loc (c : Thread nD τ) ↦[arg14.view.set]{fullShare} arg14.view.writes (Elt F) (harg14.unread xs) L.2.2.2)) -∗ K ⟨⟩))
          ⊢ wp frame (wpE (defs₀ (F := F)) Variants.none c none) E (cc0_mlab_attn i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_⟩, fun E K => ?run⟩
  case run =>
    simp only [cc0_mlab_attn_eq_skeleton]; unfold cc0_mlab_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg14.eq_unread hf14
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    iexact H14

end Cert.AttnIdeal.Run

end
-- ==== Proof.ACover.lean ====
module

public import proofs.«01_k».proof.Proof.ARunA
public import proofs.«01_k».proof.Proof.ARunB
public import proofs.«01_k».proof.Proof.ARunC
public import Idealize.ShloMosaic.Lib.Claim

/-! The pieces which the body of the attention's gradient stores cover the blocks of its results. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F] [Named F]

theorem exists_append_right {α : Type} {P : α → Prop} {L L' : List α} (h : ∃ p ∈ L', P p) : ∃ p ∈ L ++ L', P p :=
  let ⟨p, hp, h⟩ := h; ⟨p, List.mem_append_right _ hp, h⟩

theorem exists_cons_tail {α : Type} {P : α → Prop} {q : α} {L : List α} (h : ∃ p ∈ L, P p) : ∃ p ∈ q :: L, P p :=
  let ⟨p, hp, h⟩ := h; ⟨p, List.mem_cons_of_mem _ hp, h⟩

/-- At a first key tile the pieces of `dkv` cover its block. -/
theorem dkv_coverA (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (y : S512x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.1, y ∈ pc.1.set :=
  View.cover_of_tiledL _ ![512, 128] (by sl_kernel_rfl) y

/-- At a first key tile the pieces of `dkr` cover its block. -/
theorem dkr_coverA (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (y : S2x512x64.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.2.1, y ∈ pc.1.set :=
  View.cover_of_tiledL _ ![1, 512, 64] (by sl_kernel_rfl) y

/-- At a first key tile the pieces of `acc` cover its block. -/
theorem acc_coverA (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (y : S2x4096x192.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.2.2, y ∈ pc.1.set :=
  by
  rw [runA]
  dsimp only
  refine exists_append_right (exists_append_right (exists_cons_tail ?_))
  delta runA.sl.H14_2
  exact exists_cons_tail (View.cover_of_tiledL _ S2x4096x192.size (by sl_kernel_rfl) y)

/-- At a middle key tile the pieces of `dkv` cover its block. -/
theorem dkv_coverB (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) (y : S512x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.1, y ∈ pc.1.set :=
  View.cover_of_tiledL _ ![512, 128] (by sl_kernel_rfl) y

/-- At a middle key tile the pieces of `dkr` cover its block. -/
theorem dkr_coverB (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : ¬isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) (y : S2x512x64.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.1, y ∈ pc.1.set :=
  View.cover_of_tiledL _ ![1, 512, 64] (by sl_kernel_rfl) y

/-- At a last key tile the pieces of `dkv` cover its block. -/
theorem dkv_coverC (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) (y : S512x512.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.1, y ∈ pc.1.set :=
  View.cover_of_tiledL _ ![512, 128] (by sl_kernel_rfl) y

/-- At a last key tile the pieces of `dkr` cover its block. -/
theorem dkr_coverC (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) (y : S2x512x64.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.1, y ∈ pc.1.set :=
  View.cover_of_tiledL _ ![1, 512, 64] (by sl_kernel_rfl) y

/-- At a last key tile the pieces of `dq` cover its block. -/
theorem dq_coverC (c : Dev nD) (i : grid0.Coords) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst i) (hc1 : isLast i)
    (x2 : Vec F S2x512x192 .bf16) (x3 : Vec F S2x512x128 .bf16) (x4 : Vec F S2x4096x192 .bf16) (x5 : Vec F S4096x256 .bf16) (x6 : Vec F S2x8x1x512 .f32) (x7 : Vec F S2x8x1x512 .f32) (x8 : Vec F S4096x64 .f32) (x9 : Vec F S4096x64 .f32) (x10 : Vec F S64x64 .f32) (xs : Vec F S2x4096x192 .f32) (y : S2x4096x192.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.1, y ∈ pc.1.set :=
  View.cover_of_tiledBy _ ![1, 512, 64] (by sl_kernel_rfl) y

end Cert.AttnIdeal.Run

end
-- ==== Proof.AFrame.lean ====
module

public import proofs.«01_k».proof.Proof.ACover

/-! The frame of the attention's gradient: what the accumulator holds after each key tile, what the body leaves in its results,
the body's obligation at every point and the run of the whole program. -/

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions in closed form -/

/-- The first key tile of a head pair is the point whose number is a multiple of eight. -/
theorem isFirst_iff : ∀ t : Fin cfg0.N, isFirst (grid0.coords t) ↔ t.val % 8 = 0 :=
  (fun t => by
    have e1 : (grid0.coords t 1).val = t.val / 1 % 8 := Pipeline.Grid.coords_val t 1 (by decide) rfl
    have hN : t.val < 64 := lt_of_lt_of_eq t.isLt N_0
    simp only [isFirst, e1]
    word_cmp : ∀ t : Fin grid0.N, isFirst (grid0.coords t) ↔ t.val % 8 = 0)

/-- The last key tile of a head pair is the point whose number is seven modulo eight. -/
theorem isLast_iff : ∀ t : Fin cfg0.N, isLast (grid0.coords t) ↔ t.val % 8 = 7 :=
  (fun t => by
    have e1 : (grid0.coords t 1).val = t.val / 1 % 8 := Pipeline.Grid.coords_val t 1 (by decide) rfl
    have hN : t.val < 64 := lt_of_lt_of_eq t.isLt N_0
    simp only [isLast, k0_cond2, e1]
    word_cmp : ∀ t : Fin grid0.N, isLast (grid0.coords t) ↔ t.val % 8 = 7)

/-! ## The accumulator and the results, point by point -/

/-- The accumulator of `dq`, carried from one key tile to the next. -/
abbrev scM : Memref sig .tc .vmem S2x4096x192 .f32 := Memref.whole cc0_scratch0
/-- The views through which the contents of the accumulator and of the three results are read. -/
abbrev VS : View sig .tc .vmem S2x4096x192 .f32 := scM.view
abbrev VO9 : View sig .tc .vmem S512x512 .bf16 := (Memref.whole cc0_stg9_0 : Memref sig .tc .vmem S512x512 .bf16).view
abbrev VO10 : View sig .tc .vmem S2x512x64 .f32 := (Memref.whole cc0_stg10_0 : Memref sig .tc .vmem S2x512x64 .f32).view
abbrev VO11 : View sig .tc .vmem S2x4096x192 .bf16 := (Memref.whole cc0_stg11_0 : Memref sig .tc .vmem S2x4096x192 .bf16).view

/-- What the region is entered with: the accumulator at anything, and the generator's register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The body's run at point `t`, a first key tile. -/
abbrev ptA (c : Dev nD) (t : Fin cfg0.N) (h0 : isFirst (grid0.coords t)) (h1 : ¬isLast (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t)

/-- The body's run at point `t`, a middle key tile. -/
abbrev ptB (c : Dev nD) (t : Fin cfg0.N) (h0 : ¬isFirst (grid0.coords t)) (h1 : ¬isLast (grid0.coords t)) (xs : Vec F S2x4096x192 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) xs

/-- The body's run at point `t`, a last key tile. -/
abbrev ptC (c : Dev nD) (t : Fin cfg0.N) (h0 : ¬isFirst (grid0.coords t)) (h1 : isLast (grid0.coords t)) (xs : Vec F S2x4096x192 .f32) :=
  runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) xs

/-- What the accumulator holds after point `t`, from what it held before: cleared first at a first key tile. -/
def accNext (c : Dev nD) (t : Fin cfg0.N) (xs : Vec F S2x4096x192 .f32) : Vec F S2x4096x192 .f32 :=
  if h0 : isFirst (grid0.coords t) then
    if h1 : isLast (grid0.coords t) then xs
    else VS.read (Elt F) (VS.writes (Elt F) VS.junk (ptA m c t h0 h1).1.2.2)
  else
    if h1 : isLast (grid0.coords t) then VS.read (Elt F) (VS.writes (Elt F) ((Memref.isWhole_whole cc0_scratch0).unread xs) (ptC m c t h0 h1 xs).1.2.2.2)
    else VS.read (Elt F) (VS.writes (Elt F) ((Memref.isWhole_whole cc0_scratch0).unread xs) (ptB m c t h0 h1 xs).1.2.2)

/-- What the accumulator holds after point `n`. -/
def accAt (c : Dev nD) : (n : ℕ) → n < cfg0.N → Vec F S2x4096x192 .f32
  | 0, hn => accNext m c ⟨0, hn⟩ (VS.read (Elt F) VS.junk)
  | n + 1, hn => accNext m c ⟨n + 1, hn⟩ (accAt c n (Nat.lt_of_succ_lt hn))

/-- What the accumulator holds before point `t`. -/
def accBefore (c : Dev nD) (t : Fin cfg0.N) : Vec F S2x4096x192 .f32 :=
  if h : t.val = 0 then VS.read (Elt F) VS.junk
  else accAt m c (t.val - 1) (Nat.lt_of_le_of_lt (Nat.sub_le _ _) t.isLt)

theorem accAt_eq (c : Dev nD) (t : Fin cfg0.N) : accAt m c t.val t.isLt = accNext m c t (accBefore m c t) := by
  obtain ⟨n, hn⟩ := t
  cases n with
  | zero => rfl
  | succ n => rfl

/-- What the body leaves in the block of the first result at point `t`. -/
def dkvAt (c : Dev nD) (t : Fin cfg0.N) : Vec F S512x512 .bf16 :=
  if h0 : isFirst (grid0.coords t) then
    if h1 : isLast (grid0.coords t) then VO9.read (Elt F) VO9.junk
    else VO9.read (Elt F) (VO9.writes (Elt F) VO9.junk (ptA m c t h0 h1).1.1)
  else
    if h1 : isLast (grid0.coords t) then VO9.read (Elt F) (VO9.writes (Elt F) VO9.junk (ptC m c t h0 h1 (accBefore m c t)).1.1)
    else VO9.read (Elt F) (VO9.writes (Elt F) VO9.junk (ptB m c t h0 h1 (accBefore m c t)).1.1)

/-- What the body leaves in the block of the second result at point `t`. -/
def dkrAt (c : Dev nD) (t : Fin cfg0.N) : Vec F S2x512x64 .f32 :=
  if h0 : isFirst (grid0.coords t) then
    if h1 : isLast (grid0.coords t) then VO10.read (Elt F) VO10.junk
    else VO10.read (Elt F) (VO10.writes (Elt F) VO10.junk (ptA m c t h0 h1).1.2.1)
  else
    if h1 : isLast (grid0.coords t) then VO10.read (Elt F) (VO10.writes (Elt F) VO10.junk (ptC m c t h0 h1 (accBefore m c t)).1.2.1)
    else VO10.read (Elt F) (VO10.writes (Elt F) VO10.junk (ptB m c t h0 h1 (accBefore m c t)).1.2.1)

/-- What the body leaves in the block of the third result at a last key tile. -/
def dqAt (c : Dev nD) (t : Fin cfg0.N) : Vec F S2x4096x192 .bf16 :=
  if h0 : isFirst (grid0.coords t) then VO11.read (Elt F) VO11.junk
  else
    if h1 : isLast (grid0.coords t) then VO11.read (Elt F) (VO11.writes (Elt F) VO11.junk (ptC m c t h0 h1 (accBefore m c t)).1.2.2.1)
    else VO11.read (Elt F) VO11.junk

/-- The region's invariant before point `n`: the accumulator at what the point before left in it, and the generator's register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data: each input's block stays in place, the results' blocks end at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dkvAt m c t
    | ⟨10, _⟩ => dkrAt m c t
    | ⟨11, _⟩ => dqAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dkvAt m c t := by dsimp only [dats]
theorem after0_10 (c : Dev nD) (t : Fin cfg0.N) : (dats m 0 c).after 10 t = dkrAt m c t := by dsimp only [dats]
theorem after0_11 (c : Dev nD) (t : Fin cfg0.N) : (dats m 0 c).after 11 t = dqAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
theorem live0_7 : ∀ t : Fin cfg0.N, cfg0.idle 7 (grid0.coords t) = false := fun _ => rfl
theorem live0_8 : ∀ t : Fin cfg0.N, cfg0.idle 8 (grid0.coords t) = false := fun _ => rfl
theorem live0_9 : ∀ t : Fin cfg0.N, cfg0.idle 9 (grid0.coords t) = false := fun _ => rfl
theorem live0_10 : ∀ t : Fin cfg0.N, cfg0.idle 10 (grid0.coords t) = false := fun _ => rfl

/-- The third result's block is not stored to unless the key tile is the last. -/
theorem idle0_11 (t : Fin cfg0.N) (h : ¬isLast (grid0.coords t)) : cfg0.idle 11 (grid0.coords t) = true := by
  show (!(k0_cond2 (grid0.coords t) == 1#1)) = true
  simpa using h

theorem live0_11 (t : Fin cfg0.N) (h : isLast (grid0.coords t)) : cfg0.idle 11 (grid0.coords t) = false := by
  show (!(k0_cond2 (grid0.coords t) == 1#1)) = false
  simpa using h

/-! ## The body's obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point, from a generic accumulator. -/
theorem sound_body_of (c : Dev nD) (t : Fin cfg0.N) (Ψ : sProp 𝕄)
    (hΨ : Ψ ⊢ iprop((if isFirst (grid0.coords t) then iprop(∃ d, owns (c : Thread nD τ) scM fullShare d)
      else owns (c : Thread nD τ) scM fullShare (accBefore m c t)) ∗ (∃ r, prngReg c r))) :
    (dats m 0 c).Φ t.castSucc = Ψ →
    bodyPre m c t ⊢ wp frame (wpE (defs₀ (F := F)) Variants.none c none) Set.univ (bodyAt0 t) (fun _ => bodyPost m c t) := by
  intro eΨ
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ, eΨ, accAt_eq]
  rw [show (dats m 0 c).leavesExact 0 t = owns (c : Thread nD τ) (st0_0 t) fullShare (iblk m c 0 t) from by
    unfold Dat.leavesExact; rw [live0_0 t, after0_0]]
  rw [show (dats m 0 c).leavesExact 1 t = owns (c : Thread nD τ) (st0_1 t) fullShare (iblk m c 1 t) from by
    unfold Dat.leavesExact; rw [live0_1 t, after0_1]]
  rw [show (dats m 0 c).leavesExact 2 t = owns (c : Thread nD τ) (st0_2 t) fullShare (iblk m c 2 t) from by
    unfold Dat.leavesExact; rw [live0_2 t, after0_2]]
  rw [show (dats m 0 c).leavesExact 3 t = owns (c : Thread nD τ) (st0_3 t) fullShare (iblk m c 3 t) from by
    unfold Dat.leavesExact; rw [live0_3 t, after0_3]]
  rw [show (dats m 0 c).leavesExact 4 t = owns (c : Thread nD τ) (st0_4 t) fullShare (iblk m c 4 t) from by
    unfold Dat.leavesExact; rw [live0_4 t, after0_4]]
  rw [show (dats m 0 c).leavesExact 5 t = owns (c : Thread nD τ) (st0_5 t) fullShare (iblk m c 5 t) from by
    unfold Dat.leavesExact; rw [live0_5 t, after0_5]]
  rw [show (dats m 0 c).leavesExact 6 t = owns (c : Thread nD τ) (st0_6 t) fullShare (iblk m c 6 t) from by
    unfold Dat.leavesExact; rw [live0_6 t, after0_6]]
  rw [show (dats m 0 c).leavesExact 7 t = owns (c : Thread nD τ) (st0_7 t) fullShare (iblk m c 7 t) from by
    unfold Dat.leavesExact; rw [live0_7 t, after0_7]]
  rw [show (dats m 0 c).leavesExact 8 t = owns (c : Thread nD τ) (st0_8 t) fullShare (iblk m c 8 t) from by
    unfold Dat.leavesExact; rw [live0_8 t, after0_8]]
  rw [show (dats m 0 c).leavesExact 9 t = owns (c : Thread nD τ) (st0_9 t) fullShare (dkvAt m c t) from by
    unfold Dat.leavesExact; rw [live0_9 t, after0_9]]
  rw [show (dats m 0 c).leavesExact 10 t = owns (c : Thread nD τ) (st0_10 t) fullShare (dkrAt m c t) from by
    unfold Dat.leavesExact; rw [live0_10 t, after0_10]]
  by_cases h0 : isFirst (grid0.coords t)
  · have h1 : ¬isLast (grid0.coords t) := fun h => by
      have := (isFirst_iff t).mp h0; have := (isLast_iff t).mp h; omega
    rw [(dats m 0 c).leavesExact_idle 11 t (idle0_11 t h1) (by
      rw [Bool.eq_false_iff]; intro hf; exact h1 ((isLast_iff t).mpr ((flush0_11 t).mp hf)))]
    rw [if_pos h0] at hΨ
    rw [show accNext m c t (accBefore m c t) = _ from (dif_pos h0).trans (dif_neg h1),
      show dkvAt m c t = _ from (dif_pos h0).trans (dif_neg h1), show dkrAt m c t = _ from (dif_pos h0).trans (dif_neg h1)]
    refine (sep_mono hΨ .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((ptA m c t h0 h1).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS]; · iexact HS
    iintro ⟨H0, H1, H2, H3, H4, H5, H6, H7, H8, ⟨%e9, H9⟩, ⟨%e10, H10⟩, H11, ⟨%es, HS⟩⟩
    isplitl [HS Hg]
    · isplitl [HS]
      · unfold owns; iexists _; isplitr
        swap; · iexact HS
        ipureintro; exact View.read_writes_of_cover _ _ _ _ _ (acc_coverA c _ _ _ _ _ _ _ _ _ _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (dkv_coverA c _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (dkr_coverA c _ _ _ _ _ _ _ _ _ _ _ _ _ _ _ _ _ _ _ _ _ _ _ _ _ _ _ _ _ _ _ _ _ _ _ _ _ _ )
    iexists _; iexact H11
  · by_cases h1 : isLast (grid0.coords t)
    · skip
      rw [show (dats m 0 c).leavesExact 11 t = owns (c : Thread nD τ) (st0_11 t) fullShare (dqAt m c t) from by
        unfold Dat.leavesExact; rw [live0_11 t h1, after0_11]]
      rw [if_neg h0] at hΨ
      rw [show accNext m c t (accBefore m c t) = _ from (dif_neg h0).trans (dif_pos h1),
        show dkvAt m c t = _ from (dif_neg h0).trans (dif_pos h1), show dkrAt m c t = _ from (dif_neg h0).trans (dif_pos h1),
        show dqAt m c t = _ from (dif_neg h0).trans (dif_pos h1)]
      refine (sep_mono hΨ .rfl).trans ?_
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((ptC m c t h0 h1 (accBefore m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS]; · iexact HS
      iintro ⟨H0, H1, H2, H3, H4, H5, H6, H7, H8, ⟨%e9, H9⟩, ⟨%e10, H10⟩, ⟨%e11, H11⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (dkv_coverC c _ _ _ _ _ _ _ _ _ _ _ _ _ _ _ _ _ _ _ _ _ _ _ _ _ _ _ _ _ _ _ _ _ _ _ _ _ _ _ )
      isplitl [H10]
      · unfold owns; iexists _; isplitr
        swap; · iexact H10
        ipureintro; exact View.read_writes_of_cover _ _ _ _ _ (dkr_coverC c _ _ _ _ _ _ _ _ _ _ _ _ _ _ _ _ _ _ _ _ _ _ _ _ _ _ _ _ _ _ _ _ _ _ _ _ _ _ _ )
      unfold owns; iexists _; isplitr
      swap; · iexact H11
      ipureintro; exact View.read_writes_of_cover _ _ _ _ _ (dq_coverC c _ _ _ _ _ _ _ _ _ _ _ _ _ _ _ _ _ _ _ _ _ _ _ _ _ _ _ _ _ _ _ _ _ _ _ _ _ _ _ )
    · skip
      rw [(dats m 0 c).leavesExact_idle 11 t (idle0_11 t h1) (by
        rw [Bool.eq_false_iff]; intro hf; exact h1 ((isLast_iff t).mpr ((flush0_11 t).mp hf)))]
      rw [if_neg h0] at hΨ
      rw [show accNext m c t (accBefore m c t) = _ from (dif_neg h0).trans (dif_neg h1),
        show dkvAt m c t = _ from (dif_neg h0).trans (dif_neg h1), show dkrAt m c t = _ from (dif_neg h0).trans (dif_neg h1)]
      refine (sep_mono hΨ .rfl).trans ?_
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((ptB m c t h0 h1 (accBefore m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS]; · iexact HS
      iintro ⟨H0, H1, H2, H3, H4, H5, H6, H7, H8, ⟨%e9, H9⟩, ⟨%e10, H10⟩, H11, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (dkv_coverB c _ _ _ _ _ _ _ _ _ _ _ _ _ _ _ _ _ _ _ _ _ _ _ _ _ _ _ _ _ _ _ _ _ _ _ _ _ _ _ )
      isplitl [H10]
      · unfold owns; iexists _; isplitr
        swap; · iexact H10
        ipureintro; exact View.read_writes_of_cover _ _ _ _ _ (dkr_coverB c _ _ _ _ _ _ _ _ _ _ _ _ _ _ _ _ _ _ _ _ _ _ _ _ _ _ _ _ _ _ _ _ _ _ _ _ _ _ _ )
      iexists _; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · have h0 : isFirst (grid0.coords t) := (isFirst_iff t).mpr (by omega)
    refine sound_body_of m c t _ ?_ ((PhiS_castSucc m c t).trans ((PhiS_zero m c _ _ hz).trans (PhiA_eq c)))
    rw [if_pos h0]
  · refine sound_body_of m c t _ ?_ ((PhiS_castSucc m c t).trans (PhiS_pos m c _ _ hz))
    by_cases h0 : isFirst (grid0.coords t)
    · rw [if_pos h0]
      iintro ⟨HS, Hg⟩
      isplitl [HS]
      · iexists _; iexact HS
      iexact Hg
    · rw [if_neg h0, show accBefore m c t = _ from dif_neg hz]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run and the frame -/

set_option backward.isDefEq.respectTransparency.types false in
/-- The run of the program: every array at what the proof data say, every semaphore's counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its arguments end unchanged and its counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnIdeal.Run

end
-- ==== Proof.APlain.lean ====
module

public import proofs.«01_k».proof.Defs
public import proofs.«01_k».proof.Proof.AFrame
public import proofs.«01_k».proof.Proof.Gen.Attn
public import Idealize.ShloMosaic.Adequacy
public import Idealize.ShloMosaic.Init

/-! The frame of the attention's gradient as compiled. Its text is that of the program whose two constants have names,
each name read as the constant itself; so its run is that program's run at the bits. -/

@[expose] public section

set_option maxRecDepth 16384

noncomputable section

namespace Cert.AttnIdeal.Run

open Idealize.ShloMosaic Idealize.SL.Sem

/-- At the bits a named constant is the constant. -/
@[reducible] def namedBits : Named Bits where
  named _ _ {φ} bits := FloatOps.ofBits φ bits

/-- What the frame says of the program with named constants, read at the bits. -/
def FrameBits : Prop := letI := namedBits
  ∀ (m : (ℓ : Loc nD τ sig) → Buf (Elt Bits) ℓ) (g : Dev nD → PrngReg), True →
    θ_run (Cert.AttnIdeal.defs (F := Bits)) (onTc (τ := τ) (Cert.AttnIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frameBits : FrameBits := letI := namedBits
  fun m g _ => frame (F := Bits) m g

/-- The two programs have the same text. -/
theorem frameBits_eq : (letI := Cert.Attn.Gen.facts; quiescent_Attn) = FrameBits := by sl_kernel_rfl

/-- The frame of the program as compiled. -/
theorem plain_frame : letI := Cert.Attn.Gen.facts; quiescent_Attn := frameBits_eq.mpr frameBits

end Cert.AttnIdeal.Run

end
-- ==== Proof.ATile.lean ====
module

public import proofs.«01_k».proof.Proof.AFrame
public import Idealize.ShloMosaic.Lib.Pipeline.ValueKit
public import Idealize.ShloMosaic.Lib.Pointwise

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

theorem trips_eq : ∀ t : Fin grid0.N, (k0_t1_loop (grid0.coords t)).trips = 7 - t.val % 8 := by decide +kernel
theorem trips2_eq : ∀ t : Fin grid0.N, (k0_t2_loop (grid0.coords t)).trips = 0 := by decide +kernel
theorem off7_eq : ∀ (t : Fin grid0.N) (k : Fin (k0_t1_loop (grid0.coords t)).trips), k0_off7 (grid0.coords t) k = ![0, 512 * (t.val % 8 + 1 + k.val), 0] := by decide +kernel
theorem off8_eq : ∀ (t : Fin grid0.N) (k : Fin (k0_t1_loop (grid0.coords t)).trips), k0_off8 (grid0.coords t) k = ![512 * (t.val % 8 + 1 + k.val), 0] := by decide +kernel
theorem off9_eq : ∀ (t : Fin grid0.N) (k : Fin (k0_t1_loop (grid0.coords t)).trips), k0_off9 (grid0.coords t) k = ![0, (t.val % 8 + 1 + k.val), 0, 0] := by decide +kernel
theorem off10_eq : ∀ (t : Fin grid0.N) (k : Fin (k0_t1_loop (grid0.coords t)).trips), k0_off10 (grid0.coords t) k = ![1, 512 * (t.val % 8 + 1 + k.val), 0] := by decide +kernel
theorem off11_eq : ∀ (t : Fin grid0.N) (k : Fin (k0_t1_loop (grid0.coords t)).trips), k0_off11 (grid0.coords t) k = ![512 * (t.val % 8 + 1 + k.val), 128] := by decide +kernel
theorem off12_eq : ∀ (t : Fin grid0.N) (k : Fin (k0_t1_loop (grid0.coords t)).trips), k0_off12 (grid0.coords t) k = ![1, (t.val % 8 + 1 + k.val), 0, 0] := by decide +kernel
theorem off1_eq : ∀ (t : Fin grid0.N), k0_off1 (grid0.coords t) = ![0, 512 * (t.val % 8), 0] := by decide +kernel
theorem off2_eq : ∀ (t : Fin grid0.N), k0_off2 (grid0.coords t) = ![512 * (t.val % 8), 0] := by decide +kernel
theorem off3_eq : ∀ (t : Fin grid0.N), k0_off3 (grid0.coords t) = ![0, t.val % 8, 0, 0] := by decide +kernel
theorem off4_eq : ∀ (t : Fin grid0.N), k0_off4 (grid0.coords t) = ![1, 512 * (t.val % 8), 0] := by decide +kernel
theorem off5_eq : ∀ (t : Fin grid0.N), k0_off5 (grid0.coords t) = ![512 * (t.val % 8), 128] := by decide +kernel
theorem off6_eq : ∀ (t : Fin grid0.N), k0_off6 (grid0.coords t) = ![1, t.val % 8, 0, 0] := by decide +kernel

/-! ## One tile of keys against one tile of queries -/

/-- The row of the sequence which row `s` of query tile `i` is. -/
def seqRow (i : Fin 8) (s : Fin 512) : Fin 4096 := ⟨512 * i.val + s.val, by omega⟩
/-- The column of head `h`'s value dimension `e` in a block of two heads. -/
def headCol (h : Fin 2) (e : Fin 128) : Fin 256 := ⟨128 * h.val + e.val, by omega⟩

section Spec

variable (x2 : Vec Ideal S2x512x192 .bf16) (x3 : Vec Ideal S2x512x128 .bf16) (x4 : Vec Ideal S2x4096x192 .bf16) (x5 : Vec Ideal S4096x256 .bf16)
  (x6 : Vec Ideal S2x8x1x512 .f32) (x7 : Vec Ideal S2x8x1x512 .f32)

/-- The probability of key `r` for query `s` of tile `i`: the power of two of the scaled score less the row's log-sum; on the diagonal tile zero
where the key comes after the query. -/
def prob (h : Fin 2) (diag : Prop) [Decidable diag] (i : Fin 8) (r s : Fin 512) : EReal :=
  Ideal.exp2 ((if diag ∧ ¬r.val ≤ s.val then ⊥ else ∑ d : Fin 192, x2 (ix3 h r d) * x4 (ix3 h (seqRow i s) d)) - x6 (ix4 h i 0 s))

/-- The gradient of the score. -/
def dscore (h : Fin 2) (diag : Prop) [Decidable diag] (i : Fin 8) (r s : Fin 512) : EReal :=
  prob x2 x4 x6 h diag i r s * ((∑ e : Fin 128, x3 (ix3 h r e) * x5 (ix2 (seqRow i s) (headCol h e))) - x7 (ix4 h i 0 s))

/-- What query tile `i` adds to the gradient of value `(r, e)`, -/
def dvPart (h : Fin 2) (diag : Prop) [Decidable diag] (i : Fin 8) (r : Fin 512) (e : Fin 128) : EReal :=
  ∑ s : Fin 512, prob x2 x4 x6 h diag i r s * x5 (ix2 (seqRow i s) (headCol h e))
/-- to that of key `(r, d)`, -/
def dkPart (h : Fin 2) (diag : Prop) [Decidable diag] (i : Fin 8) (r : Fin 512) (d : Fin 192) : EReal :=
  ∑ s : Fin 512, dscore x2 x3 x4 x5 x6 x7 h diag i r s * x4 (ix3 h (seqRow i s) d)
/-- and what the key tile adds to the gradient of query `(s, d)` of tile `i`. -/
def dqPart (h : Fin 2) (diag : Prop) [Decidable diag] (i : Fin 8) (s : Fin 512) (d : Fin 192) : EReal :=
  ∑ r : Fin 512, dscore x2 x3 x4 x5 x6 x7 h diag i r s * x2 (ix3 h r d)

end Spec

/-- A load through a whole buffer reads the block at its offset. -/
theorem read_at {sp : Space} {s : Shape} {e : EltTy} {M : Memref sig .tc sp s e} (hM : M.IsWhole) (x : s.Idx → Elt Ideal e) {off size : Fin s.rank → ℕ}
    (inb : ∀ a, off a + size a ≤ s.size a) (y : (Rect.unit off size inb).shape.Idx) (z : s.Idx) (hz : ∀ a, (z a).val = off a + (y a).val) :
    View.readAt (Elt Ideal) M.view (Rect.unit off size inb).toLoadRect (hM.unread x) y = x z := by
  have e := View.readAt_eq_ld (Val := Elt Ideal) M.view (hM.unread x) (Rect.unit off size inb)
  rw [hM.read_unread] at e
  rw [congrFun e y]
  simp only [View.ld]
  congr 1
  funext a
  apply Fin.ext
  simp [hz a]

/-! ## One trip of the loop over the query tiles after the diagonal -/

section Trip

variable (t : Fin grid0.N) (𝒱 : Variants) (c : Dev nD) (bd : Option 𝒱.V)  (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (arg1 : BitVec 32) (v3 : FVec Ideal S512x192 .f32) (v4 : FVec Ideal S512x128 .f32) (v6 : BitVec 32) (v30 : FVec Ideal S512x128 .f32) (v40 : FVec Ideal S512x192 .f32) (v51 : FVec Ideal S512x192 .bf16) (v53 : FVec Ideal S512x128 .bf16) (v56 : FVec Ideal S512x192 .bf16) (v58 : Vec Ideal S512x128 .bf16) (v70 : FVec Ideal S512x512 .f32) (v71 : FVec Ideal S512x512 .bf16) (v93 : BitVec 32)  (k : Fin (k0_t1_loop (grid0.coords t)).trips) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (acc : FVec Ideal S512x192 .f32 × FVec Ideal S512x128 .f32 × FVec Ideal S512x192 .f32 × FVec Ideal S512x128 .f32) (f : BufTy.Contents (Elt Ideal) arg14.view.ty)

/-- The query tile of trip `k`. -/
def tripTile (t : Fin grid0.N) (k : Fin (k0_t1_loop (grid0.coords t)).trips) : Fin 8 :=
  ⟨t.val % 8 + 1 + k.val, by have := k.isLt; have := trips_eq t; omega⟩

theorem trip_k0 (r : Fin 512) (d : Fin 192) : trip_k0_t1.sl.v129 arg2 (harg2.unread x2) (ix2 r d) = x2 (ix3 0 r d) := by
  pointwise [trip_k0_t1.sl.v129]
  exact read_at harg2 x2 _ _ (ix3 0 r d) (by intro a; fin_cases a <;> simp [])

theorem trip_k1 (r : Fin 512) (d : Fin 192) : trip_k0_t1.sl.v167 arg2 (harg2.unread x2) (ix2 r d) = x2 (ix3 1 r d) := by
  pointwise [trip_k0_t1.sl.v167]
  exact read_at harg2 x2 _ _ (ix3 1 r d) (by intro a; fin_cases a <;> simp [])

theorem trip_v0 (r : Fin 512) (d : Fin 128) : trip_k0_t1.sl.v131 arg3 (harg3.unread x3) (ix2 r d) = x3 (ix3 0 r d) := by
  pointwise [trip_k0_t1.sl.v131]
  exact read_at harg3 x3 _ _ (ix3 0 r d) (by intro a; fin_cases a <;> simp [])

theorem trip_v1 (r : Fin 512) (d : Fin 128) : trip_k0_t1.sl.v169 arg3 (harg3.unread x3) (ix2 r d) = x3 (ix3 1 r d) := by
  pointwise [trip_k0_t1.sl.v169]
  exact read_at harg3 x3 _ _ (ix3 1 r d) (by intro a; fin_cases a <;> simp [])

theorem trip_q0 (s : Fin 512) (d : Fin 192) : trip_k0_t1.sl.v134 (grid0.coords t) arg4 (harg4.unread x4) k (ix2 s d) = x4 (ix3 0 (seqRow (tripTile t k) s) d) := by
  pointwise [trip_k0_t1.sl.v134]
  exact read_at harg4 x4 _ _ (ix3 0 (seqRow (tripTile t k) s) d) (by intro a; fin_cases a <;> simp [off7_eq, seqRow, tripTile])

theorem trip_q1 (s : Fin 512) (d : Fin 192) : trip_k0_t1.sl.v172 (grid0.coords t) arg4 (harg4.unread x4) k (ix2 s d) = x4 (ix3 1 (seqRow (tripTile t k) s) d) := by
  pointwise [trip_k0_t1.sl.v172]
  exact read_at harg4 x4 _ _ (ix3 1 (seqRow (tripTile t k) s) d) (by intro a; fin_cases a <;> simp [off10_eq, seqRow, tripTile])

theorem trip_l0 (r : Fin 512) (s : Fin 512) : trip_k0_t1.sl.v141 (grid0.coords t) arg6 (harg6.unread x6) k (ix2 r s) = x6 (ix4 0 (tripTile t k) 0 s) := by
  pointwise [trip_k0_t1.sl.v141, trip_k0_t1.sl.v140]
  exact read_at harg6 x6 _ _ (ix4 0 (tripTile t k) 0 s) (by intro a; fin_cases a <;> simp [off9_eq, seqRow, tripTile])

theorem trip_l1 (r : Fin 512) (s : Fin 512) : trip_k0_t1.sl.v179 (grid0.coords t) arg6 (harg6.unread x6) k (ix2 r s) = x6 (ix4 1 (tripTile t k) 0 s) := by
  pointwise [trip_k0_t1.sl.v179, trip_k0_t1.sl.v178]
  exact read_at harg6 x6 _ _ (ix4 1 (tripTile t k) 0 s) (by intro a; fin_cases a <;> simp [off12_eq, seqRow, tripTile])

theorem trip_d0 (r : Fin 512) (s : Fin 512) : trip_k0_t1.sl.v151 (grid0.coords t) arg7 (harg7.unread x7) k (ix2 r s) = x7 (ix4 0 (tripTile t k) 0 s) := by
  pointwise [trip_k0_t1.sl.v151, trip_k0_t1.sl.v150]
  exact read_at harg7 x7 _ _ (ix4 0 (tripTile t k) 0 s) (by intro a; fin_cases a <;> simp [off9_eq, seqRow, tripTile])

theorem trip_d1 (r : Fin 512) (s : Fin 512) : trip_k0_t1.sl.v189 (grid0.coords t) arg7 (harg7.unread x7) k (ix2 r s) = x7 (ix4 1 (tripTile t k) 0 s) := by
  pointwise [trip_k0_t1.sl.v189, trip_k0_t1.sl.v188]
  exact read_at harg7 x7 _ _ (ix4 1 (tripTile t k) 0 s) (by intro a; fin_cases a <;> simp [off12_eq, seqRow, tripTile])

theorem trip_do0 (s : Fin 512) (e : Fin 128) (inb) : View.readAt (Elt Ideal) arg5.view (Rect.unit (s := S4096x256) (k0_off8 (grid0.coords t) k) ![512, 128] inb).toLoadRect (harg5.unread x5) (ix2 s e : Shape.Idx ⟨2, ![512, 128]⟩) = x5 (ix2 (seqRow (tripTile t k) s) (headCol 0 e)) :=
  read_at harg5 x5 _ _ (ix2 (seqRow (tripTile t k) s) (headCol 0 e)) (by intro a; fin_cases a <;> simp [off8_eq, seqRow, tripTile, headCol])

theorem trip_do1 (s : Fin 512) (e : Fin 128) (inb) : View.readAt (Elt Ideal) arg5.view (Rect.unit (s := S4096x256) (k0_off11 (grid0.coords t) k) ![512, 128] inb).toLoadRect (harg5.unread x5) (ix2 s e : Shape.Idx ⟨2, ![512, 128]⟩) = x5 (ix2 (seqRow (tripTile t k) s) (headCol 1 e)) :=
  read_at harg5 x5 _ _ (ix2 (seqRow (tripTile t k) s) (headCol 1 e)) (by intro a; fin_cases a <;> simp [off11_eq, seqRow, tripTile, headCol])

theorem zero86 (i) : trip_k0_t1.sl.cst_86 (F := Ideal) i = 0 := by
  show Ideal.ofBits .f32 0#32 = 0
  simp [Ideal.ofBits, Ideal.ieee]
theorem zero81 (i) : trip_k0_t1.sl.cst_81 (F := Ideal) i = 0 := by
  show Ideal.ofBits .f32 0#32 = 0
  simp [Ideal.ofBits, Ideal.ieee]
theorem zero77 (i) : trip_k0_t1.sl.cst_77 (F := Ideal) i = 0 := by
  show Ideal.ofBits .f32 0#32 = 0
  simp [Ideal.ofBits, Ideal.ieee]

theorem trip_p0 (r s : Fin 512) : trip_k0_t1.sl.v143 (grid0.coords t) arg2 arg4 arg6 (harg2.unread x2) (harg4.unread x4) (harg6.unread x6) k (ix2 r s) = prob x2 x4 x6 0 False (tripTile t k) r s := by
  pointwise [trip_k0_t1.sl.v143, trip_k0_t1.sl.v142, trip_k0_t1.sl.v137]
  simp only [trip_k0, trip_q0, trip_l0, zero77, zero_add]
  simp [prob]
  rfl

theorem trip_p1 (r s : Fin 512) : trip_k0_t1.sl.v181 (grid0.coords t) arg2 arg4 arg6 (harg2.unread x2) (harg4.unread x4) (harg6.unread x6) k (ix2 r s) = prob x2 x4 x6 1 False (tripTile t k) r s := by
  pointwise [trip_k0_t1.sl.v181, trip_k0_t1.sl.v180, trip_k0_t1.sl.v175]
  simp only [trip_k1, trip_q1, trip_l1, zero77, zero_add]
  simp [prob]
  rfl

theorem trip_ds0 (r s : Fin 512) : trip_k0_t1.sl.v154 (grid0.coords t) arg2 arg3 arg4 arg5 arg6 arg7 (harg2.unread x2) (harg3.unread x3) (harg4.unread x4) (harg5.unread x5) (harg6.unread x6) (harg7.unread x7) k (ix2 r s) = dscore x2 x3 x4 x5 x6 x7 0 False (tripTile t k) r s := by
  pointwise [trip_k0_t1.sl.v154, trip_k0_t1.sl.v153, trip_k0_t1.sl.v152, trip_k0_t1.sl.v147]
  simp only [trip_p0, trip_v0, trip_do0, trip_d0, zero77, zero_add]
  rfl

theorem trip_ds1 (r s : Fin 512) : trip_k0_t1.sl.v192 (grid0.coords t) arg2 arg3 arg4 arg5 arg6 arg7 (harg2.unread x2) (harg3.unread x3) (harg4.unread x4) (harg5.unread x5) (harg6.unread x6) (harg7.unread x7) k (ix2 r s) = dscore x2 x3 x4 x5 x6 x7 1 False (tripTile t k) r s := by
  pointwise [trip_k0_t1.sl.v192, trip_k0_t1.sl.v191, trip_k0_t1.sl.v190, trip_k0_t1.sl.v185]
  simp only [trip_p1, trip_v1, trip_do1, trip_d1, zero77, zero_add]
  rfl

/-- A trip adds its query tile's part to each carried gradient. -/
theorem trip_dk0 (r : Fin 512) (d : Fin 192) : (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) k acc f).1 (ix2 r d) = acc.1 (ix2 r d) + dkPart x2 x3 x4 x5 x6 x7 0 False (tripTile t k) r d := by
  unfold tripR_k0_t1 trip_k0_t1
  dsimp only
  pointwise [trip_k0_t1.sl.v156, trip_k0_t1.sl.v155]
  simp only [trip_ds0, trip_q0, zero86, zero_add]
  rfl

theorem trip_dv0 (r : Fin 512) (e : Fin 128) : (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) k acc f).2.1 (ix2 r e) = acc.2.1 (ix2 r e) + dvPart x2 x4 x5 x6 0 False (tripTile t k) r e := by
  unfold tripR_k0_t1 trip_k0_t1
  dsimp only
  pointwise [trip_k0_t1.sl.v146, trip_k0_t1.sl.v145, trip_k0_t1.sl.v144]
  simp only [trip_p0, trip_do0, zero81, zero_add]
  rfl

theorem trip_dk1 (r : Fin 512) (d : Fin 192) : (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) k acc f).2.2.1 (ix2 r d) = acc.2.2.1 (ix2 r d) + dkPart x2 x3 x4 x5 x6 x7 1 False (tripTile t k) r d := by
  unfold tripR_k0_t1 trip_k0_t1
  dsimp only
  pointwise [trip_k0_t1.sl.v194, trip_k0_t1.sl.v193]
  simp only [trip_ds1, trip_q1, zero86, zero_add]
  rfl

theorem trip_dv1 (r : Fin 512) (e : Fin 128) : (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) k acc f).2.2.2 (ix2 r e) = acc.2.2.2 (ix2 r e) + dvPart x2 x4 x5 x6 1 False (tripTile t k) r e := by
  unfold tripR_k0_t1 trip_k0_t1
  dsimp only
  pointwise [trip_k0_t1.sl.v184, trip_k0_t1.sl.v183, trip_k0_t1.sl.v182]
  simp only [trip_p1, trip_do1, zero81, zero_add]
  rfl

/-- A load of rows of the accumulator, -/
theorem read_acc {M : Memref sig .tc .vmem S2x4096x192 .f32} (f : BufTy.Contents (Elt Ideal) M.view.ty) {off : Fin 3 → ℕ} (inb : ∀ a, off a + (![1, 512, 192] : Fin 3 → ℕ) a ≤ S2x4096x192.size a)
    (s : Fin 512) (d : Fin 192) (z : S2x4096x192.Idx) (hz : ∀ a, (z a).val = off a + ((ix3 0 s d : Shape.Idx ⟨3, ![1, 512, 192]⟩) a).val) :
    View.readAt (Elt Ideal) M.view (Rect.unit (s := S2x4096x192) off ![1, 512, 192] inb).toLoadRect f (ix3 0 s d : Shape.Idx ⟨3, ![1, 512, 192]⟩) = M.view.read (Elt Ideal) f z := by
  have e := View.readAt_eq_ld (Val := Elt Ideal) M.view f (Rect.unit (s := S2x4096x192) off ![1, 512, 192] inb)
  rw [congrFun e _]
  simp only [View.ld]
  congr 1
  funext a
  apply Fin.ext
  simp [hz a]

/-- and a trip adds its key tile's part to the rows of its query tile in the accumulator. -/
theorem trip_acc (h : Fin 2) (i : Fin 8) (s : Fin 512) (d : Fin 192) :
    arg14.view.read (Elt Ideal) (arg14.view.writes (Elt Ideal) f (tripL_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) k acc f)) (ix3 h (seqRow i s) d)
      = arg14.view.read (Elt Ideal) f (ix3 h (seqRow i s) d) + (if i = tripTile t k then dqPart x2 x3 x4 x5 x6 x7 h False i s d else 0) := by
  unfold tripL_k0_t1 trip_k0_t1
  dsimp only
  by_cases hi : i = tripTile t k
  · subst hi
    rw [if_pos rfl]
    fin_cases h
    · rw [View.read_writes_cons_miss_of_axis _ _ _ _ _ 0 1 1 (by simp [off10_eq]) rfl rfl (by simp)]
      rw [View.read_writes_cons_hit_of_coords _ _ _ _ _ (ix3 0 s d : Shape.Idx ⟨3, ![1, 512, 192]⟩) _ (by intro a; fin_cases a <;> simp [off7_eq, seqRow, tripTile])]
      pointwise [trip_k0_t1.sl.v165, trip_k0_t1.sl.v161, trip_k0_t1.sl.v160, trip_k0_t1.sl.v159]
      simp only [trip_ds0, trip_k0, zero86, zero_add]
      rw [read_acc f _ s d (ix3 0 (seqRow (tripTile t k) s) d) (by intro a; fin_cases a <;> simp [off7_eq, seqRow, tripTile])]
      rfl
    · rw [View.read_writes_cons_hit_of_coords _ _ _ _ _ (ix3 0 s d : Shape.Idx ⟨3, ![1, 512, 192]⟩) _ (by intro a; fin_cases a <;> simp [off10_eq, seqRow, tripTile])]
      pointwise [k0_pay155, trip_k0_t1.sl.v197, trip_k0_t1.sl.v196]
      simp only [trip_ds1, trip_k1, zero86, zero_add]
      rw [read_acc f _ s d (ix3 1 (seqRow (tripTile t k) s) d) (by intro a; fin_cases a <;> simp [off10_eq, seqRow, tripTile])]
      rfl
  · rw [if_neg hi, add_zero]
    have hne : i.val ≠ t.val % 8 + 1 + k.val := fun e => hi (Fin.ext e)
    have hs := s.isLt
    rw [View.read_writes_cons_miss_of_axis _ _ _ _ _ 1 (512 * (t.val % 8 + 1 + k.val)) 512 (by simp [off10_eq]) rfl rfl (by simp [seqRow]; omega)]
    rw [View.read_writes_cons_miss_of_axis _ _ _ _ _ 1 (512 * (t.val % 8 + 1 + k.val)) 512 (by simp [off7_eq]) rfl rfl (by simp [seqRow]; omega)]
    rfl

end Trip

end Cert.AttnIdeal.Tile

end
-- ==== Proof.ALoop.lean ====
module

public import proofs.«01_k».proof.Proof.ATile

/-! The loop over the query tiles after the diagonal: what the carried gradients and the accumulator hold after some of its trips. -/

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

/-- The tiles of one trip more are those before and the trip's own. -/
theorem tile_step (t : Fin grid0.N) (k : Fin (k0_t1_loop (grid0.coords t)).trips) (i : Fin 8) (a : EReal) :
    (if t.val % 8 < i.val ∧ i.val ≤ t.val % 8 + k.val then a else 0) + (if i = tripTile t k then a else 0)
      = if t.val % 8 < i.val ∧ i.val ≤ t.val % 8 + (k.val + 1) then a else 0 := by
  have hi : i = tripTile t k ↔ i.val = t.val % 8 + 1 + k.val := ⟨fun e => congrArg Fin.val e, fun e => Fin.ext e⟩
  by_cases h : i = tripTile t k
  · have := hi.mp h
    rw [if_neg (by omega), if_pos h, if_pos (by omega), zero_add]
  · have : ¬i.val = t.val % 8 + 1 + k.val := fun e => h (hi.mpr e)
    rw [if_neg h, add_zero]
    exact if_congr (by omega) rfl rfl

theorem sum_step (t : Fin grid0.N) (k : Fin (k0_t1_loop (grid0.coords t)).trips) (a : Fin 8 → EReal) :
    (∑ i : Fin 8, if t.val % 8 < i.val ∧ i.val ≤ t.val % 8 + k.val then a i else 0) + a (tripTile t k)
      = ∑ i : Fin 8, if t.val % 8 < i.val ∧ i.val ≤ t.val % 8 + (k.val + 1) then a i else 0 := by
  have e : a (tripTile t k) = ∑ i : Fin 8, if i = tripTile t k then a i else 0 := by simp
  rw [e, ← Finset.sum_add_distrib]
  exact Finset.sum_congr rfl fun i _ => tile_step t k i (a i)

section Loop

variable (t : Fin grid0.N) (𝒱 : Variants) (c : Dev nD) (bd : Option 𝒱.V)  (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (arg1 : BitVec 32) (v3 : FVec Ideal S512x192 .f32) (v4 : FVec Ideal S512x128 .f32) (v6 : BitVec 32) (v30 : FVec Ideal S512x128 .f32) (v40 : FVec Ideal S512x192 .f32) (v51 : FVec Ideal S512x192 .bf16) (v53 : FVec Ideal S512x128 .bf16) (v56 : FVec Ideal S512x192 .bf16) (v58 : Vec Ideal S512x128 .bf16) (v70 : FVec Ideal S512x512 .f32) (v71 : FVec Ideal S512x512 .bf16) (v93 : BitVec 32)  (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (G : BufTy.Contents (Elt Ideal) arg14.view.ty) (init : FVec Ideal S512x192 .f32 × FVec Ideal S512x128 .f32 × FVec Ideal S512x192 .f32 × FVec Ideal S512x128 .f32)

/-- The gradient of the first head's keys after `n` trips, -/
theorem loop_dk0 (r : Fin 512) (d : Fin 192) : ∀ n : ℕ, n ≤ (k0_t1_loop (grid0.coords t)).trips →
    (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n).1.1 (ix2 r d) = init.1 (ix2 r d) + ∑ i : Fin 8, if t.val % 8 < i.val ∧ i.val ≤ t.val % 8 + n then dkPart x2 x3 x4 x5 x6 x7 0 False i r d else 0
  | 0, _ => by
    rw [Finset.sum_eq_zero (fun i _ => if_neg (by omega)), add_zero]
    rfl
  | n + 1, hn => by
    have hs := congrArg (fun p => p.1.1 (ix2 r d)) (st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init ⟨n, hn⟩)
    refine hs.trans ((trip_dk0 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 ⟨n, hn⟩ x2 x3 x4 x5 x6 x7 _ _ _ _).trans ?_)
    rw [loop_dk0 r d n (Nat.le_of_succ_le hn), add_assoc, sum_step t ⟨n, hn⟩ (fun i => dkPart x2 x3 x4 x5 x6 x7 0 False i r d)]

/-- of its values, -/
theorem loop_dv0 (r : Fin 512) (e : Fin 128) : ∀ n : ℕ, n ≤ (k0_t1_loop (grid0.coords t)).trips →
    (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n).1.2.1 (ix2 r e) = init.2.1 (ix2 r e) + ∑ i : Fin 8, if t.val % 8 < i.val ∧ i.val ≤ t.val % 8 + n then dvPart x2 x4 x5 x6 0 False i r e else 0
  | 0, _ => by
    rw [Finset.sum_eq_zero (fun i _ => if_neg (by omega)), add_zero]
    rfl
  | n + 1, hn => by
    have hs := congrArg (fun p => p.1.2.1 (ix2 r e)) (st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init ⟨n, hn⟩)
    refine hs.trans ((trip_dv0 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 ⟨n, hn⟩ x2 x3 x4 x5 x6 x7 _ _ _ _).trans ?_)
    rw [loop_dv0 r e n (Nat.le_of_succ_le hn), add_assoc, sum_step t ⟨n, hn⟩ (fun i => dvPart x2 x4 x5 x6 0 False i r e)]

/-- of the second head's keys, -/
theorem loop_dk1 (r : Fin 512) (d : Fin 192) : ∀ n : ℕ, n ≤ (k0_t1_loop (grid0.coords t)).trips →
    (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n).1.2.2.1 (ix2 r d) = init.2.2.1 (ix2 r d) + ∑ i : Fin 8, if t.val % 8 < i.val ∧ i.val ≤ t.val % 8 + n then dkPart x2 x3 x4 x5 x6 x7 1 False i r d else 0
  | 0, _ => by
    rw [Finset.sum_eq_zero (fun i _ => if_neg (by omega)), add_zero]
    rfl
  | n + 1, hn => by
    have hs := congrArg (fun p => p.1.2.2.1 (ix2 r d)) (st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init ⟨n, hn⟩)
    refine hs.trans ((trip_dk1 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 ⟨n, hn⟩ x2 x3 x4 x5 x6 x7 _ _ _ _).trans ?_)
    rw [loop_dk1 r d n (Nat.le_of_succ_le hn), add_assoc, sum_step t ⟨n, hn⟩ (fun i => dkPart x2 x3 x4 x5 x6 x7 1 False i r d)]

/-- of its values, -/
theorem loop_dv1 (r : Fin 512) (e : Fin 128) : ∀ n : ℕ, n ≤ (k0_t1_loop (grid0.coords t)).trips →
    (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n).1.2.2.2 (ix2 r e) = init.2.2.2 (ix2 r e) + ∑ i : Fin 8, if t.val % 8 < i.val ∧ i.val ≤ t.val % 8 + n then dvPart x2 x4 x5 x6 1 False i r e else 0
  | 0, _ => by
    rw [Finset.sum_eq_zero (fun i _ => if_neg (by omega)), add_zero]
    rfl
  | n + 1, hn => by
    have hs := congrArg (fun p => p.1.2.2.2 (ix2 r e)) (st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init ⟨n, hn⟩)
    refine hs.trans ((trip_dv1 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 ⟨n, hn⟩ x2 x3 x4 x5 x6 x7 _ _ _ _).trans ?_)
    rw [loop_dv1 r e n (Nat.le_of_succ_le hn), add_assoc, sum_step t ⟨n, hn⟩ (fun i => dvPart x2 x4 x5 x6 1 False i r e)]

/-- and the accumulator. -/
theorem loop_acc (h : Fin 2) (i : Fin 8) (s : Fin 512) (d : Fin 192) : ∀ n : ℕ, n ≤ (k0_t1_loop (grid0.coords t)).trips →
    arg14.view.read (Elt Ideal) (arg14.view.writes (Elt Ideal) G (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n).2) (ix3 h (seqRow i s) d)
      = arg14.view.read (Elt Ideal) G (ix3 h (seqRow i s) d) + (if t.val % 8 < i.val ∧ i.val ≤ t.val % 8 + n then dqPart x2 x3 x4 x5 x6 x7 h False i s d else 0)
  | 0, _ => by
    rw [if_neg (by omega), add_zero]
    rfl
  | n + 1, hn => by
    have hs := congrArg (fun p => arg14.view.read (Elt Ideal) (arg14.view.writes (Elt Ideal) G p.2) (ix3 h (seqRow i s) d)) (st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init ⟨n, hn⟩)
    refine hs.trans ?_
    dsimp only
    rw [View.writes_append]
    refine (trip_acc t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 ⟨n, hn⟩ x2 x3 x4 x5 x6 x7 _ _ h i s d).trans ?_
    rw [loop_acc h i s d n (Nat.le_of_succ_le hn), add_assoc, tile_step t ⟨n, hn⟩ i]

end Loop

end Cert.AttnIdeal.Tile

end
-- ==== Proof.ADiag.lean ====
module

public import proofs.«01_k».proof.Proof.ALoop

/-! The diagonal tile: what the body computes of its key tile and the query tile with the same rows, before the loop over the later ones. -/

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

/-- The number of the key tile, which is also that of its diagonal query tile. -/
def keyTile (t : Fin grid0.N) : Fin 8 := ⟨t.val % 8, Nat.mod_lt _ (by decide)⟩

/-- The mask is the bottom of the extended reals, -/
theorem mask_val : Named.named (F := Ideal) Cert.AttnIdeal.κ "mask" (φ := .f32) 0xF149F2CA#32 = (⊥ : EReal) :=
  IdealRules.named_const.ideal_named_scalar _ _ _ _ rfl
/-- and it is put where the key's row comes after the query's. -/
theorem key_le (r s : Fin 512) (a b : EReal) :
    Scalar.select (IntOp.cmpi CmpIPredicate.sle (BitVec.ofNat 32 r.val) (BitVec.ofNat 32 s.val)) a b = if ¬r.val ≤ s.val then b else a := by
  have e : (BitVec.ofNat 32 r.val).sle (BitVec.ofNat 32 s.val) = true ↔ r.val ≤ s.val := by
    have hr := r.isLt; have hs := s.isLt
    have hn : ∀ n : ℕ, n < 512 → (BitVec.ofNat 32 n).toInt = n := fun n h => by
      rw [BitVec.toInt_eq_toNat_of_lt (by rw [BitVec.toNat_ofNat]; omega), BitVec.toNat_ofNat]; omega
    rw [BitVec.sle_iff_toInt_le, hn _ hr, hn _ hs]
    omega
  unfold Scalar.select
  by_cases h : r.val ≤ s.val
  · rw [if_pos (show IntOp.cmpi CmpIPredicate.sle (BitVec.ofNat 32 r.val) (BitVec.ofNat 32 s.val) = 1 by simp [IntOp.cmpi, e.mpr h]), if_neg (not_not.mpr h)]
  · rw [if_neg (show ¬IntOp.cmpi CmpIPredicate.sle (BitVec.ofNat 32 r.val) (BitVec.ofNat 32 s.val) = 1 by simp [IntOp.cmpi, Bool.eq_false_iff.mpr (fun h' => h (e.mp h'))]), if_pos h]

section Diag

variable (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32)

theorem dg_k0 (inb2 : ∀ a, (![0, 0, 0] : Fin 3 → ℕ) a + S1x512x192.size a ≤ S2x512x192.size a) (r : Fin 512) (d : Fin 192) : k0_pay138 (View.readAt (Elt Ideal) arg2.view (Rect.unit (s := S2x512x192) ![0, 0, 0] ![1, 512, 192] inb2).toLoadRect (harg2.unread x2)) (ix2 r d) = x2 (ix3 0 r d) := by
  pointwise [k0_pay138]
  exact read_at harg2 x2 _ _ (ix3 0 r d) (by intro a; fin_cases a <;> simp [])

theorem dg_q0 (inb4 : ∀ a, ((k0_off1 (grid0.coords t)) : Fin 3 → ℕ) a + S1x512x192.size a ≤ S2x4096x192.size a) (s : Fin 512) (d : Fin 192) : k0_pay139 (View.readAt (Elt Ideal) arg4.view (Rect.unit (s := S2x4096x192) (k0_off1 (grid0.coords t)) ![1, 512, 192] inb4).toLoadRect (harg4.unread x4)) (ix2 s d) = x4 (ix3 0 (seqRow (keyTile t) s) d) := by
  pointwise [k0_pay139]
  exact read_at harg4 x4 _ _ (ix3 0 (seqRow (keyTile t) s) d) (by intro a; fin_cases a <;> simp [off1_eq, off4_eq, seqRow, keyTile])

theorem dg_v0 (inb3 : ∀ a, (![0, 0, 0] : Fin 3 → ℕ) a + S1x512x128.size a ≤ S2x512x128.size a) (r : Fin 512) (e : Fin 128) : k0_pay147 (View.readAt (Elt Ideal) arg3.view (Rect.unit (s := S2x512x128) ![0, 0, 0] ![1, 512, 128] inb3).toLoadRect (harg3.unread x3)) (ix2 r e) = x3 (ix3 0 r e) := by
  pointwise [k0_pay147]
  exact read_at harg3 x3 _ _ (ix3 0 r e) (by intro a; fin_cases a <;> simp [])

theorem dg_do0 (inb5 : ∀ a, ((k0_off2 (grid0.coords t)) : Fin 2 → ℕ) a + S512x128.size a ≤ S4096x256.size a) (s : Fin 512) (e : Fin 128) : (View.readAt (Elt Ideal) arg5.view (Rect.unit (s := S4096x256) (k0_off2 (grid0.coords t)) ![512, 128] inb5).toLoadRect (harg5.unread x5)) (ix2 s e : Shape.Idx ⟨2, ![512, 128]⟩) = x5 (ix2 (seqRow (keyTile t) s) (headCol 0 e)) :=
  read_at harg5 x5 _ _ (ix2 (seqRow (keyTile t) s) (headCol 0 e)) (by intro a; fin_cases a <;> simp [off2_eq, off5_eq, seqRow, keyTile, headCol])

theorem dg_p0 (inb2 : ∀ a, (![0, 0, 0] : Fin 3 → ℕ) a + S1x512x192.size a ≤ S2x512x192.size a) (inb4 : ∀ a, ((k0_off1 (grid0.coords t)) : Fin 3 → ℕ) a + S1x512x192.size a ≤ S2x4096x192.size a) (inb6 : ∀ a, ((k0_off3 (grid0.coords t)) : Fin 4 → ℕ) a + S1x1x1x512.size a ≤ S2x8x1x512.size a) (r s : Fin 512) : k0_pay140 (View.readAt (Elt Ideal) arg2.view (Rect.unit (s := S2x512x192) ![0, 0, 0] ![1, 512, 192] inb2).toLoadRect (harg2.unread x2)) (View.readAt (Elt Ideal) arg4.view (Rect.unit (s := S2x4096x192) (k0_off1 (grid0.coords t)) ![1, 512, 192] inb4).toLoadRect (harg4.unread x4)) (View.readAt (Elt Ideal) arg6.view (Rect.unit (s := S2x8x1x512) (k0_off3 (grid0.coords t)) ![1, 1, 1, 512] inb6).toLoadRect (harg6.unread x6)) (ix2 r s) = prob x2 x4 x6 0 True (keyTile t) r s := by
  pointwise [k0_pay140]
  simp only [dg_k0, dg_q0]
  rw [key_le, mask_val, read_at harg6 x6 _ _ (ix4 0 (keyTile t) 0 s) (by intro a; fin_cases a <;> simp [off3_eq, off6_eq, keyTile])]
  simp only [prob, true_and]
  rfl

theorem dg_c0 (inb7 : ∀ a, ((k0_off3 (grid0.coords t)) : Fin 4 → ℕ) a + S1x1x1x512.size a ≤ S2x8x1x512.size a) (r s : Fin 512) : broadcastTo S512x512 (shapeCast S1x512 (View.readAt (Elt Ideal) arg7.view (Rect.unit (s := S2x8x1x512) (k0_off3 (grid0.coords t)) ![1, 1, 1, 512] inb7).toLoadRect (harg7.unread x7)) shapeCasts_S1x1x1x512_S1x512) broadcasts_S1x512_S512x512 (ix2 r s) = x7 (ix4 0 (keyTile t) 0 s) := by
  pointwise []
  exact read_at harg7 x7 _ _ (ix4 0 (keyTile t) 0 s) (by intro a; fin_cases a <;> simp [off3_eq, off6_eq, keyTile])

theorem dg_dv0 (inb2 : ∀ a, (![0, 0, 0] : Fin 3 → ℕ) a + S1x512x192.size a ≤ S2x512x192.size a) (inb4 : ∀ a, ((k0_off1 (grid0.coords t)) : Fin 3 → ℕ) a + S1x512x192.size a ≤ S2x4096x192.size a) (inb6 : ∀ a, ((k0_off3 (grid0.coords t)) : Fin 4 → ℕ) a + S1x1x1x512.size a ≤ S2x8x1x512.size a) (ov : Vec Ideal S512x128 .bf16) (ho : ∀ s e, ov (ix2 s e) = x5 (ix2 (seqRow (keyTile t) s) (headCol 0 e))) (r : Fin 512) (e : Fin 128) : k0_pay141 (View.readAt (Elt Ideal) arg2.view (Rect.unit (s := S2x512x192) ![0, 0, 0] ![1, 512, 192] inb2).toLoadRect (harg2.unread x2)) (View.readAt (Elt Ideal) arg4.view (Rect.unit (s := S2x4096x192) (k0_off1 (grid0.coords t)) ![1, 512, 192] inb4).toLoadRect (harg4.unread x4)) ov (View.readAt (Elt Ideal) arg6.view (Rect.unit (s := S2x8x1x512) (k0_off3 (grid0.coords t)) ![1, 1, 1, 512] inb6).toLoadRect (harg6.unread x6)) (ix2 r e) = dvPart x2 x4 x5 x6 0 True (keyTile t) r e := by
  pointwise [k0_pay141, k0_pay137]
  simp only [dg_p0, ho]
  rfl

theorem dg_dp0 (inb3 : ∀ a, (![0, 0, 0] : Fin 3 → ℕ) a + S1x512x128.size a ≤ S2x512x128.size a) (ov : Vec Ideal S512x128 .bf16) (ho : ∀ s e, ov (ix2 s e) = x5 (ix2 (seqRow (keyTile t) s) (headCol 0 e))) (r s : Fin 512) : k0_pay142 (View.readAt (Elt Ideal) arg3.view (Rect.unit (s := S2x512x128) ![0, 0, 0] ![1, 512, 128] inb3).toLoadRect (harg3.unread x3)) ov (ix2 r s) = ∑ e : Fin 128, x3 (ix3 0 r e) * x5 (ix2 (seqRow (keyTile t) s) (headCol 0 e)) := by
  pointwise [k0_pay142]
  refine Finset.sum_congr rfl fun e _ => ?_
  rw [ho, read_at harg3 x3 _ _ (ix3 0 r e) (by intro a; fin_cases a <;> simp [])]

theorem dg_ds0 (pv : Vec Ideal S512x512 .f32) (hp : ∀ r s, pv (ix2 r s) = prob x2 x4 x6 0 True (keyTile t) r s) (gv : Vec Ideal S512x512 .f32) (hg : ∀ r s, gv (ix2 r s) = ∑ e : Fin 128, x3 (ix3 0 r e) * x5 (ix2 (seqRow (keyTile t) s) (headCol 0 e))) (inb7 : ∀ a, ((k0_off3 (grid0.coords t)) : Fin 4 → ℕ) a + S1x1x1x512.size a ≤ S2x8x1x512.size a) (r s : Fin 512) : k0_pay143 pv gv (View.readAt (Elt Ideal) arg7.view (Rect.unit (s := S2x8x1x512) (k0_off3 (grid0.coords t)) ![1, 1, 1, 512] inb7).toLoadRect (harg7.unread x7)) (ix2 r s) = dscore x2 x3 x4 x5 x6 x7 0 True (keyTile t) r s := by
  pointwise [k0_pay143]
  rw [hp, hg, read_at harg7 x7 _ _ (ix4 0 (keyTile t) 0 s) (by intro a; fin_cases a <;> simp [off3_eq, off6_eq, keyTile])]
  rfl

theorem dg_dk0 (pv : Vec Ideal S512x512 .f32) (hp : ∀ r s, pv (ix2 r s) = prob x2 x4 x6 0 True (keyTile t) r s) (gv : Vec Ideal S512x512 .f32) (hg : ∀ r s, gv (ix2 r s) = ∑ e : Fin 128, x3 (ix3 0 r e) * x5 (ix2 (seqRow (keyTile t) s) (headCol 0 e))) (qv : Vec Ideal S512x192 .bf16) (hq : ∀ s d, qv (ix2 s d) = x4 (ix3 0 (seqRow (keyTile t) s) d)) (inb7 : ∀ a, ((k0_off3 (grid0.coords t)) : Fin 4 → ℕ) a + S1x1x1x512.size a ≤ S2x8x1x512.size a) (r : Fin 512) (d : Fin 192) : k0_pay144 k0_pay136 qv pv gv (View.readAt (Elt Ideal) arg7.view (Rect.unit (s := S2x8x1x512) (k0_off3 (grid0.coords t)) ![1, 1, 1, 512] inb7).toLoadRect (harg7.unread x7)) (ix2 r d) = dkPart x2 x3 x4 x5 x6 x7 0 True (keyTile t) r d := by
  pointwise [k0_pay144, k0_pay136]
  simp only [dg_ds0 t arg7 harg7 x2 x3 x4 x5 x6 x7 pv hp gv hg, hq]
  rfl

theorem dg_dq0 (pv : Vec Ideal S512x512 .f32) (hp : ∀ r s, pv (ix2 r s) = prob x2 x4 x6 0 True (keyTile t) r s) (gv : Vec Ideal S512x512 .f32) (hg : ∀ r s, gv (ix2 r s) = ∑ e : Fin 128, x3 (ix3 0 r e) * x5 (ix2 (seqRow (keyTile t) s) (headCol 0 e))) (kv : Vec Ideal S512x192 .bf16) (hk : ∀ r d, kv (ix2 r d) = x2 (ix3 0 r d)) (av : Vec Ideal S1x512x192 .f32) (inb7 : ∀ a, ((k0_off3 (grid0.coords t)) : Fin 4 → ℕ) a + S1x1x1x512.size a ≤ S2x8x1x512.size a) (s : Fin 512) (d : Fin 192) : k0_pay145 kv pv gv (View.readAt (Elt Ideal) arg7.view (Rect.unit (s := S2x8x1x512) (k0_off3 (grid0.coords t)) ![1, 1, 1, 512] inb7).toLoadRect (harg7.unread x7)) av (ix3 0 s d) = av (ix3 0 s d) + dqPart x2 x3 x4 x5 x6 x7 0 True (keyTile t) s d := by
  pointwise [k0_pay145]
  simp only [dg_ds0 t arg7 harg7 x2 x3 x4 x5 x6 x7 pv hp gv hg, hk]
  rfl

theorem dg_k1 (inb2 : ∀ a, (![1, 0, 0] : Fin 3 → ℕ) a + S1x512x192.size a ≤ S2x512x192.size a) (r : Fin 512) (d : Fin 192) : k0_pay146 (View.readAt (Elt Ideal) arg2.view (Rect.unit (s := S2x512x192) ![1, 0, 0] ![1, 512, 192] inb2).toLoadRect (harg2.unread x2)) (ix2 r d) = x2 (ix3 1 r d) := by
  pointwise [k0_pay146]
  exact read_at harg2 x2 _ _ (ix3 1 r d) (by intro a; fin_cases a <;> simp [])

theorem dg_q1 (inb4 : ∀ a, ((k0_off4 (grid0.coords t)) : Fin 3 → ℕ) a + S1x512x192.size a ≤ S2x4096x192.size a) (s : Fin 512) (d : Fin 192) : k0_pay148 (View.readAt (Elt Ideal) arg4.view (Rect.unit (s := S2x4096x192) (k0_off4 (grid0.coords t)) ![1, 512, 192] inb4).toLoadRect (harg4.unread x4)) (ix2 s d) = x4 (ix3 1 (seqRow (keyTile t) s) d) := by
  pointwise [k0_pay148]
  exact read_at harg4 x4 _ _ (ix3 1 (seqRow (keyTile t) s) d) (by intro a; fin_cases a <;> simp [off1_eq, off4_eq, seqRow, keyTile])

theorem dg_v1 (inb3 : ∀ a, (![1, 0, 0] : Fin 3 → ℕ) a + S1x512x128.size a ≤ S2x512x128.size a) (r : Fin 512) (e : Fin 128) : k0_pay147 (View.readAt (Elt Ideal) arg3.view (Rect.unit (s := S2x512x128) ![1, 0, 0] ![1, 512, 128] inb3).toLoadRect (harg3.unread x3)) (ix2 r e) = x3 (ix3 1 r e) := by
  pointwise [k0_pay147]
  exact read_at harg3 x3 _ _ (ix3 1 r e) (by intro a; fin_cases a <;> simp [])

theorem dg_do1 (inb5 : ∀ a, ((k0_off5 (grid0.coords t)) : Fin 2 → ℕ) a + S512x128.size a ≤ S4096x256.size a) (s : Fin 512) (e : Fin 128) : (View.readAt (Elt Ideal) arg5.view (Rect.unit (s := S4096x256) (k0_off5 (grid0.coords t)) ![512, 128] inb5).toLoadRect (harg5.unread x5)) (ix2 s e : Shape.Idx ⟨2, ![512, 128]⟩) = x5 (ix2 (seqRow (keyTile t) s) (headCol 1 e)) :=
  read_at harg5 x5 _ _ (ix2 (seqRow (keyTile t) s) (headCol 1 e)) (by intro a; fin_cases a <;> simp [off2_eq, off5_eq, seqRow, keyTile, headCol])

theorem dg_p1 (inb2 : ∀ a, (![1, 0, 0] : Fin 3 → ℕ) a + S1x512x192.size a ≤ S2x512x192.size a) (inb4 : ∀ a, ((k0_off4 (grid0.coords t)) : Fin 3 → ℕ) a + S1x512x192.size a ≤ S2x4096x192.size a) (inb6 : ∀ a, ((k0_off6 (grid0.coords t)) : Fin 4 → ℕ) a + S1x1x1x512.size a ≤ S2x8x1x512.size a) (r s : Fin 512) : k0_pay149 (View.readAt (Elt Ideal) arg2.view (Rect.unit (s := S2x512x192) ![1, 0, 0] ![1, 512, 192] inb2).toLoadRect (harg2.unread x2)) (View.readAt (Elt Ideal) arg4.view (Rect.unit (s := S2x4096x192) (k0_off4 (grid0.coords t)) ![1, 512, 192] inb4).toLoadRect (harg4.unread x4)) (View.readAt (Elt Ideal) arg6.view (Rect.unit (s := S2x8x1x512) (k0_off6 (grid0.coords t)) ![1, 1, 1, 512] inb6).toLoadRect (harg6.unread x6)) (ix2 r s) = prob x2 x4 x6 1 True (keyTile t) r s := by
  pointwise [k0_pay149]
  simp only [dg_k1, dg_q1]
  rw [key_le, mask_val, read_at harg6 x6 _ _ (ix4 1 (keyTile t) 0 s) (by intro a; fin_cases a <;> simp [off3_eq, off6_eq, keyTile])]
  simp only [prob, true_and]
  rfl

theorem dg_c1 (inb7 : ∀ a, ((k0_off6 (grid0.coords t)) : Fin 4 → ℕ) a + S1x1x1x512.size a ≤ S2x8x1x512.size a) (r s : Fin 512) : broadcastTo S512x512 (shapeCast S1x512 (View.readAt (Elt Ideal) arg7.view (Rect.unit (s := S2x8x1x512) (k0_off6 (grid0.coords t)) ![1, 1, 1, 512] inb7).toLoadRect (harg7.unread x7)) shapeCasts_S1x1x1x512_S1x512) broadcasts_S1x512_S512x512 (ix2 r s) = x7 (ix4 1 (keyTile t) 0 s) := by
  pointwise []
  exact read_at harg7 x7 _ _ (ix4 1 (keyTile t) 0 s) (by intro a; fin_cases a <;> simp [off3_eq, off6_eq, keyTile])

theorem dg_dv1 (pv : Vec Ideal S512x512 .bf16) (hp : ∀ r s, pv (ix2 r s) = prob x2 x4 x6 1 True (keyTile t) r s) (ov : Vec Ideal S512x128 .bf16) (ho : ∀ s e, ov (ix2 s e) = x5 (ix2 (seqRow (keyTile t) s) (headCol 1 e))) (r : Fin 512) (e : Fin 128) : k0_pay151 k0_pay137 ov pv (ix2 r e) = dvPart x2 x4 x5 x6 1 True (keyTile t) r e := by
  pointwise [k0_pay151, k0_pay137]
  simp only [hp, ho]
  rfl

theorem dg_ds1 (pv : Vec Ideal S512x512 .f32) (hp : ∀ r s, pv (ix2 r s) = prob x2 x4 x6 1 True (keyTile t) r s) (vv : Vec Ideal S512x128 .bf16) (hv : ∀ r e, vv (ix2 r e) = x3 (ix3 1 r e)) (ov : Vec Ideal S512x128 .bf16) (ho : ∀ s e, ov (ix2 s e) = x5 (ix2 (seqRow (keyTile t) s) (headCol 1 e))) (inb7 : ∀ a, ((k0_off6 (grid0.coords t)) : Fin 4 → ℕ) a + S1x1x1x512.size a ≤ S2x8x1x512.size a) (r s : Fin 512) : k0_pay152 vv ov pv (View.readAt (Elt Ideal) arg7.view (Rect.unit (s := S2x8x1x512) (k0_off6 (grid0.coords t)) ![1, 1, 1, 512] inb7).toLoadRect (harg7.unread x7)) (ix2 r s) = dscore x2 x3 x4 x5 x6 x7 1 True (keyTile t) r s := by
  pointwise [k0_pay152]
  simp only [hv, ho]
  rw [hp, read_at harg7 x7 _ _ (ix4 1 (keyTile t) 0 s) (by intro a; fin_cases a <;> simp [off3_eq, off6_eq, keyTile])]
  rfl

theorem dg_dk1 (pv : Vec Ideal S512x512 .f32) (hp : ∀ r s, pv (ix2 r s) = prob x2 x4 x6 1 True (keyTile t) r s) (vv : Vec Ideal S512x128 .bf16) (hv : ∀ r e, vv (ix2 r e) = x3 (ix3 1 r e)) (ov : Vec Ideal S512x128 .bf16) (ho : ∀ s e, ov (ix2 s e) = x5 (ix2 (seqRow (keyTile t) s) (headCol 1 e))) (qv : Vec Ideal S512x192 .bf16) (hq : ∀ s d, qv (ix2 s d) = x4 (ix3 1 (seqRow (keyTile t) s) d)) (inb7 : ∀ a, ((k0_off6 (grid0.coords t)) : Fin 4 → ℕ) a + S1x1x1x512.size a ≤ S2x8x1x512.size a) (r : Fin 512) (d : Fin 192) : k0_pay153 k0_pay136 vv qv ov pv (View.readAt (Elt Ideal) arg7.view (Rect.unit (s := S2x8x1x512) (k0_off6 (grid0.coords t)) ![1, 1, 1, 512] inb7).toLoadRect (harg7.unread x7)) (ix2 r d) = dkPart x2 x3 x4 x5 x6 x7 1 True (keyTile t) r d := by
  pointwise [k0_pay153, k0_pay136]
  simp only [dg_ds1 t arg7 harg7 x2 x3 x4 x5 x6 x7 pv hp vv hv ov ho, hq]
  rfl

theorem dg_dq1 (pv : Vec Ideal S512x512 .f32) (hp : ∀ r s, pv (ix2 r s) = prob x2 x4 x6 1 True (keyTile t) r s) (vv : Vec Ideal S512x128 .bf16) (hv : ∀ r e, vv (ix2 r e) = x3 (ix3 1 r e)) (ov : Vec Ideal S512x128 .bf16) (ho : ∀ s e, ov (ix2 s e) = x5 (ix2 (seqRow (keyTile t) s) (headCol 1 e))) (kv : Vec Ideal S512x192 .bf16) (hk : ∀ r d, kv (ix2 r d) = x2 (ix3 1 r d)) (av : Vec Ideal S1x512x192 .f32) (inb7 : ∀ a, ((k0_off6 (grid0.coords t)) : Fin 4 → ℕ) a + S1x1x1x512.size a ≤ S2x8x1x512.size a) (s : Fin 512) (d : Fin 192) : k0_pay154 kv vv ov pv (View.readAt (Elt Ideal) arg7.view (Rect.unit (s := S2x8x1x512) (k0_off6 (grid0.coords t)) ![1, 1, 1, 512] inb7).toLoadRect (harg7.unread x7)) av (ix3 0 s d) = av (ix3 0 s d) + dqPart x2 x3 x4 x5 x6 x7 1 True (keyTile t) s d := by
  pointwise [k0_pay154]
  simp only [dg_ds1 t arg7 harg7 x2 x3 x4 x5 x6 x7 pv hp vv hv ov ho, hk]
  rfl

/-! The same of the blocks as they are loaded: what the loop starts from. -/

theorem start_dk0 (inb2 : ∀ a, (![0, 0, 0] : Fin 3 → ℕ) a + S1x512x192.size a ≤ S2x512x192.size a) (inb3 : ∀ a, (![0, 0, 0] : Fin 3 → ℕ) a + S1x512x128.size a ≤ S2x512x128.size a) (inb4 : ∀ a, ((k0_off1 (grid0.coords t)) : Fin 3 → ℕ) a + S1x512x192.size a ≤ S2x4096x192.size a) (inb5 : ∀ a, ((k0_off2 (grid0.coords t)) : Fin 2 → ℕ) a + S512x128.size a ≤ S4096x256.size a) (inb6 : ∀ a, ((k0_off3 (grid0.coords t)) : Fin 4 → ℕ) a + S1x1x1x512.size a ≤ S2x8x1x512.size a) (inb7 : ∀ a, ((k0_off3 (grid0.coords t)) : Fin 4 → ℕ) a + S1x1x1x512.size a ≤ S2x8x1x512.size a) (r : Fin 512) (d : Fin 192) :
    k0_pay144 k0_pay136 (k0_pay139 (View.readAt (Elt Ideal) arg4.view (Rect.unit (s := S2x4096x192) (k0_off1 (grid0.coords t)) ![1, 512, 192] inb4).toLoadRect (harg4.unread x4))) (k0_pay140 (View.readAt (Elt Ideal) arg2.view (Rect.unit (s := S2x512x192) ![0, 0, 0] ![1, 512, 192] inb2).toLoadRect (harg2.unread x2)) (View.readAt (Elt Ideal) arg4.view (Rect.unit (s := S2x4096x192) (k0_off1 (grid0.coords t)) ![1, 512, 192] inb4).toLoadRect (harg4.unread x4)) (View.readAt (Elt Ideal) arg6.view (Rect.unit (s := S2x8x1x512) (k0_off3 (grid0.coords t)) ![1, 1, 1, 512] inb6).toLoadRect (harg6.unread x6))) (k0_pay142 (View.readAt (Elt Ideal) arg3.view (Rect.unit (s := S2x512x128) ![0, 0, 0] ![1, 512, 128] inb3).toLoadRect (harg3.unread x3)) (View.readAt (Elt Ideal) arg5.view (Rect.unit (s := S4096x256) (k0_off2 (grid0.coords t)) ![512, 128] inb5).toLoadRect (harg5.unread x5))) (View.readAt (Elt Ideal) arg7.view (Rect.unit (s := S2x8x1x512) (k0_off3 (grid0.coords t)) ![1, 1, 1, 512] inb7).toLoadRect (harg7.unread x7)) (ix2 r d) = dkPart x2 x3 x4 x5 x6 x7 0 True (keyTile t) r d :=
  dg_dk0 t arg7 harg7 x2 x3 x4 x5 x6 x7 _ (fun r s => dg_p0 t arg2 harg2 arg4 harg4 arg6 harg6 x2 x4 x6 inb2 inb4 inb6 r s) _ (fun r s => dg_dp0 t arg3 harg3 x3 x5 inb3 _ (fun s e => dg_do0 t arg5 harg5 x5 inb5 s e) r s) _ (fun s d => dg_q0 t arg4 harg4 x4 inb4 s d) inb7 r d

theorem start_dv0 (inb2 : ∀ a, (![0, 0, 0] : Fin 3 → ℕ) a + S1x512x192.size a ≤ S2x512x192.size a) (inb4 : ∀ a, ((k0_off1 (grid0.coords t)) : Fin 3 → ℕ) a + S1x512x192.size a ≤ S2x4096x192.size a) (inb5 : ∀ a, ((k0_off2 (grid0.coords t)) : Fin 2 → ℕ) a + S512x128.size a ≤ S4096x256.size a) (inb6 : ∀ a, ((k0_off3 (grid0.coords t)) : Fin 4 → ℕ) a + S1x1x1x512.size a ≤ S2x8x1x512.size a) (r : Fin 512) (e : Fin 128) :
    k0_pay141 (View.readAt (Elt Ideal) arg2.view (Rect.unit (s := S2x512x192) ![0, 0, 0] ![1, 512, 192] inb2).toLoadRect (harg2.unread x2)) (View.readAt (Elt Ideal) arg4.view (Rect.unit (s := S2x4096x192) (k0_off1 (grid0.coords t)) ![1, 512, 192] inb4).toLoadRect (harg4.unread x4)) (View.readAt (Elt Ideal) arg5.view (Rect.unit (s := S4096x256) (k0_off2 (grid0.coords t)) ![512, 128] inb5).toLoadRect (harg5.unread x5)) (View.readAt (Elt Ideal) arg6.view (Rect.unit (s := S2x8x1x512) (k0_off3 (grid0.coords t)) ![1, 1, 1, 512] inb6).toLoadRect (harg6.unread x6)) (ix2 r e) = dvPart x2 x4 x5 x6 0 True (keyTile t) r e :=
  dg_dv0 t arg2 harg2 arg4 harg4 arg6 harg6 x2 x4 x5 x6 inb2 inb4 inb6 _ (fun s e => dg_do0 t arg5 harg5 x5 inb5 s e) r e

theorem start_dq0 (inb2 : ∀ a, (![0, 0, 0] : Fin 3 → ℕ) a + S1x512x192.size a ≤ S2x512x192.size a) (inb3 : ∀ a, (![0, 0, 0] : Fin 3 → ℕ) a + S1x512x128.size a ≤ S2x512x128.size a) (inb4 : ∀ a, ((k0_off1 (grid0.coords t)) : Fin 3 → ℕ) a + S1x512x192.size a ≤ S2x4096x192.size a) (inb5 : ∀ a, ((k0_off2 (grid0.coords t)) : Fin 2 → ℕ) a + S512x128.size a ≤ S4096x256.size a) (inb6 : ∀ a, ((k0_off3 (grid0.coords t)) : Fin 4 → ℕ) a + S1x1x1x512.size a ≤ S2x8x1x512.size a) (inb7 : ∀ a, ((k0_off3 (grid0.coords t)) : Fin 4 → ℕ) a + S1x1x1x512.size a ≤ S2x8x1x512.size a) (av : Vec Ideal S1x512x192 .f32) (s : Fin 512) (d : Fin 192) :
    k0_pay145 (k0_pay138 (View.readAt (Elt Ideal) arg2.view (Rect.unit (s := S2x512x192) ![0, 0, 0] ![1, 512, 192] inb2).toLoadRect (harg2.unread x2))) (k0_pay140 (View.readAt (Elt Ideal) arg2.view (Rect.unit (s := S2x512x192) ![0, 0, 0] ![1, 512, 192] inb2).toLoadRect (harg2.unread x2)) (View.readAt (Elt Ideal) arg4.view (Rect.unit (s := S2x4096x192) (k0_off1 (grid0.coords t)) ![1, 512, 192] inb4).toLoadRect (harg4.unread x4)) (View.readAt (Elt Ideal) arg6.view (Rect.unit (s := S2x8x1x512) (k0_off3 (grid0.coords t)) ![1, 1, 1, 512] inb6).toLoadRect (harg6.unread x6))) (k0_pay142 (View.readAt (Elt Ideal) arg3.view (Rect.unit (s := S2x512x128) ![0, 0, 0] ![1, 512, 128] inb3).toLoadRect (harg3.unread x3)) (View.readAt (Elt Ideal) arg5.view (Rect.unit (s := S4096x256) (k0_off2 (grid0.coords t)) ![512, 128] inb5).toLoadRect (harg5.unread x5))) (View.readAt (Elt Ideal) arg7.view (Rect.unit (s := S2x8x1x512) (k0_off3 (grid0.coords t)) ![1, 1, 1, 512] inb7).toLoadRect (harg7.unread x7)) av (ix3 0 s d) = av (ix3 0 s d) + dqPart x2 x3 x4 x5 x6 x7 0 True (keyTile t) s d :=
  dg_dq0 t arg7 harg7 x2 x3 x4 x5 x6 x7 _ (fun r s => dg_p0 t arg2 harg2 arg4 harg4 arg6 harg6 x2 x4 x6 inb2 inb4 inb6 r s) _ (fun r s => dg_dp0 t arg3 harg3 x3 x5 inb3 _ (fun s e => dg_do0 t arg5 harg5 x5 inb5 s e) r s) _ (fun r d => dg_k0 arg2 harg2 x2 inb2 r d) av inb7 s d

theorem start_dk1 (inb2 : ∀ a, (![1, 0, 0] : Fin 3 → ℕ) a + S1x512x192.size a ≤ S2x512x192.size a) (inb3 : ∀ a, (![1, 0, 0] : Fin 3 → ℕ) a + S1x512x128.size a ≤ S2x512x128.size a) (inb4 : ∀ a, ((k0_off4 (grid0.coords t)) : Fin 3 → ℕ) a + S1x512x192.size a ≤ S2x4096x192.size a) (inb5 : ∀ a, ((k0_off5 (grid0.coords t)) : Fin 2 → ℕ) a + S512x128.size a ≤ S4096x256.size a) (inb6 : ∀ a, ((k0_off6 (grid0.coords t)) : Fin 4 → ℕ) a + S1x1x1x512.size a ≤ S2x8x1x512.size a) (inb7 : ∀ a, ((k0_off6 (grid0.coords t)) : Fin 4 → ℕ) a + S1x1x1x512.size a ≤ S2x8x1x512.size a) (r : Fin 512) (d : Fin 192) :
    k0_pay153 k0_pay136 (k0_pay147 (View.readAt (Elt Ideal) arg3.view (Rect.unit (s := S2x512x128) ![1, 0, 0] ![1, 512, 128] inb3).toLoadRect (harg3.unread x3))) (k0_pay148 (View.readAt (Elt Ideal) arg4.view (Rect.unit (s := S2x4096x192) (k0_off4 (grid0.coords t)) ![1, 512, 192] inb4).toLoadRect (harg4.unread x4))) (View.readAt (Elt Ideal) arg5.view (Rect.unit (s := S4096x256) (k0_off5 (grid0.coords t)) ![512, 128] inb5).toLoadRect (harg5.unread x5)) (k0_pay149 (View.readAt (Elt Ideal) arg2.view (Rect.unit (s := S2x512x192) ![1, 0, 0] ![1, 512, 192] inb2).toLoadRect (harg2.unread x2)) (View.readAt (Elt Ideal) arg4.view (Rect.unit (s := S2x4096x192) (k0_off4 (grid0.coords t)) ![1, 512, 192] inb4).toLoadRect (harg4.unread x4)) (View.readAt (Elt Ideal) arg6.view (Rect.unit (s := S2x8x1x512) (k0_off6 (grid0.coords t)) ![1, 1, 1, 512] inb6).toLoadRect (harg6.unread x6))) (View.readAt (Elt Ideal) arg7.view (Rect.unit (s := S2x8x1x512) (k0_off6 (grid0.coords t)) ![1, 1, 1, 512] inb7).toLoadRect (harg7.unread x7)) (ix2 r d) = dkPart x2 x3 x4 x5 x6 x7 1 True (keyTile t) r d :=
  dg_dk1 t arg7 harg7 x2 x3 x4 x5 x6 x7 _ (fun r s => dg_p1 t arg2 harg2 arg4 harg4 arg6 harg6 x2 x4 x6 inb2 inb4 inb6 r s) _ (fun r e => dg_v1 arg3 harg3 x3 inb3 r e) _ (fun s e => dg_do1 t arg5 harg5 x5 inb5 s e) _ (fun s d => dg_q1 t arg4 harg4 x4 inb4 s d) inb7 r d

theorem start_dv1 (inb2 : ∀ a, (![1, 0, 0] : Fin 3 → ℕ) a + S1x512x192.size a ≤ S2x512x192.size a) (inb4 : ∀ a, ((k0_off4 (grid0.coords t)) : Fin 3 → ℕ) a + S1x512x192.size a ≤ S2x4096x192.size a) (inb5 : ∀ a, ((k0_off5 (grid0.coords t)) : Fin 2 → ℕ) a + S512x128.size a ≤ S4096x256.size a) (inb6 : ∀ a, ((k0_off6 (grid0.coords t)) : Fin 4 → ℕ) a + S1x1x1x512.size a ≤ S2x8x1x512.size a) (r : Fin 512) (e : Fin 128) :
    k0_pay151 k0_pay137 (View.readAt (Elt Ideal) arg5.view (Rect.unit (s := S4096x256) (k0_off5 (grid0.coords t)) ![512, 128] inb5).toLoadRect (harg5.unread x5)) (k0_pay150 (View.readAt (Elt Ideal) arg2.view (Rect.unit (s := S2x512x192) ![1, 0, 0] ![1, 512, 192] inb2).toLoadRect (harg2.unread x2)) (View.readAt (Elt Ideal) arg4.view (Rect.unit (s := S2x4096x192) (k0_off4 (grid0.coords t)) ![1, 512, 192] inb4).toLoadRect (harg4.unread x4)) (View.readAt (Elt Ideal) arg6.view (Rect.unit (s := S2x8x1x512) (k0_off6 (grid0.coords t)) ![1, 1, 1, 512] inb6).toLoadRect (harg6.unread x6))) (ix2 r e) = dvPart x2 x4 x5 x6 1 True (keyTile t) r e :=
  dg_dv1 t x2 x4 x5 x6 _ (fun r s => dg_p1 t arg2 harg2 arg4 harg4 arg6 harg6 x2 x4 x6 inb2 inb4 inb6 r s) _ (fun s e => dg_do1 t arg5 harg5 x5 inb5 s e) r e

theorem start_dq1 (inb2 : ∀ a, (![1, 0, 0] : Fin 3 → ℕ) a + S1x512x192.size a ≤ S2x512x192.size a) (inb3 : ∀ a, (![1, 0, 0] : Fin 3 → ℕ) a + S1x512x128.size a ≤ S2x512x128.size a) (inb4 : ∀ a, ((k0_off4 (grid0.coords t)) : Fin 3 → ℕ) a + S1x512x192.size a ≤ S2x4096x192.size a) (inb5 : ∀ a, ((k0_off5 (grid0.coords t)) : Fin 2 → ℕ) a + S512x128.size a ≤ S4096x256.size a) (inb6 : ∀ a, ((k0_off6 (grid0.coords t)) : Fin 4 → ℕ) a + S1x1x1x512.size a ≤ S2x8x1x512.size a) (inb7 : ∀ a, ((k0_off6 (grid0.coords t)) : Fin 4 → ℕ) a + S1x1x1x512.size a ≤ S2x8x1x512.size a) (av : Vec Ideal S1x512x192 .f32) (s : Fin 512) (d : Fin 192) :
    k0_pay154 (k0_pay146 (View.readAt (Elt Ideal) arg2.view (Rect.unit (s := S2x512x192) ![1, 0, 0] ![1, 512, 192] inb2).toLoadRect (harg2.unread x2))) (k0_pay147 (View.readAt (Elt Ideal) arg3.view (Rect.unit (s := S2x512x128) ![1, 0, 0] ![1, 512, 128] inb3).toLoadRect (harg3.unread x3))) (View.readAt (Elt Ideal) arg5.view (Rect.unit (s := S4096x256) (k0_off5 (grid0.coords t)) ![512, 128] inb5).toLoadRect (harg5.unread x5)) (k0_pay149 (View.readAt (Elt Ideal) arg2.view (Rect.unit (s := S2x512x192) ![1, 0, 0] ![1, 512, 192] inb2).toLoadRect (harg2.unread x2)) (View.readAt (Elt Ideal) arg4.view (Rect.unit (s := S2x4096x192) (k0_off4 (grid0.coords t)) ![1, 512, 192] inb4).toLoadRect (harg4.unread x4)) (View.readAt (Elt Ideal) arg6.view (Rect.unit (s := S2x8x1x512) (k0_off6 (grid0.coords t)) ![1, 1, 1, 512] inb6).toLoadRect (harg6.unread x6))) (View.readAt (Elt Ideal) arg7.view (Rect.unit (s := S2x8x1x512) (k0_off6 (grid0.coords t)) ![1, 1, 1, 512] inb7).toLoadRect (harg7.unread x7)) av (ix3 0 s d) = av (ix3 0 s d) + dqPart x2 x3 x4 x5 x6 x7 1 True (keyTile t) s d :=
  dg_dq1 t arg7 harg7 x2 x3 x4 x5 x6 x7 _ (fun r s => dg_p1 t arg2 harg2 arg4 harg4 arg6 harg6 x2 x4 x6 inb2 inb4 inb6 r s) _ (fun r e => dg_v1 arg3 harg3 x3 inb3 r e) _ (fun s e => dg_do1 t arg5 harg5 x5 inb5 s e) _ (fun r d => dg_k1 arg2 harg2 x2 inb2 r d) av inb7 s d

end Diag

end Cert.AttnIdeal.Tile

end
-- ==== Proof.ATotal.lean ====
module

public import proofs.«01_k».proof.Proof.ADiag

/-! What a key tile adds up over its query tiles: the diagonal one and those after it. -/

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

section Totals

variable (x2 : Vec Ideal S2x512x192 .bf16) (x3 : Vec Ideal S2x512x128 .bf16) (x4 : Vec Ideal S2x4096x192 .bf16) (x5 : Vec Ideal S4096x256 .bf16)
  (x6 : Vec Ideal S2x8x1x512 .f32) (x7 : Vec Ideal S2x8x1x512 .f32)

/-- The gradient of the key `(r, d)` of key tile `j`, before its scale, -/
def dkTot (h : Fin 2) (j : Fin 8) (r : Fin 512) (d : Fin 192) : EReal :=
  ∑ i : Fin 8, if j.val ≤ i.val then dkPart x2 x3 x4 x5 x6 x7 h (i = j) i r d else 0
/-- that of its value `(r, e)`, -/
def dvTot (h : Fin 2) (j : Fin 8) (r : Fin 512) (e : Fin 128) : EReal :=
  ∑ i : Fin 8, if j.val ≤ i.val then dvPart x2 x4 x5 x6 h (i = j) i r e else 0
/-- and what key tile `j` adds to the gradient of query `(s, d)` of tile `i`. -/
def dqAdd (h : Fin 2) (j i : Fin 8) (s : Fin 512) (d : Fin 192) : EReal :=
  if j.val ≤ i.val then dqPart x2 x3 x4 x5 x6 x7 h (i = j) i s d else 0

/-- A part over the tiles from `j` on, the diagonal one apart. -/
theorem split_diag {j i : Fin 8} {n : ℕ} (hn : n = 7 - j.val) (f : (p : Prop) → [Decidable p] → EReal) :
    (if i = j then f True else 0) + (if j.val < i.val ∧ i.val ≤ j.val + n then f False else 0) = if j.val ≤ i.val then f (i = j) else 0 := by
  have hi := i.isLt
  by_cases h : i = j
  · subst h
    rw [if_pos rfl, if_neg (by omega), if_pos le_rfl, add_zero]
    congr 1
    exact (eq_self i).symm
  · have hv : i.val ≠ j.val := fun e => h (Fin.ext e)
    rw [if_neg h, zero_add]
    by_cases hl : j.val ≤ i.val
    · rw [if_pos (by omega), if_pos hl]
      congr 1
      exact (eq_false h).symm
    · rw [if_neg (by omega), if_neg hl]

theorem sum_diag {j : Fin 8} {n : ℕ} (hn : n = 7 - j.val) (f : Fin 8 → (p : Prop) → [Decidable p] → EReal) :
    f j True + (∑ i : Fin 8, if j.val < i.val ∧ i.val ≤ j.val + n then f i False else 0) = ∑ i : Fin 8, if j.val ≤ i.val then f i (i = j) else 0 := by
  have e : f j True = ∑ i : Fin 8, if i = j then f i True else 0 := by simp
  rw [e, ← Finset.sum_add_distrib]
  exact Finset.sum_congr rfl fun i _ => split_diag hn (f i)

end Totals

section Point

variable (t : Fin grid0.N) (𝒱 : Variants) (c : Dev nD) (bd : Option 𝒱.V)  (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (arg1 : BitVec 32) (v3 : FVec Ideal S512x192 .f32) (v4 : FVec Ideal S512x128 .f32) (v6 : BitVec 32) (v30 : FVec Ideal S512x128 .f32) (v40 : FVec Ideal S512x192 .f32) (v51 : FVec Ideal S512x192 .bf16) (v53 : FVec Ideal S512x128 .bf16) (v56 : FVec Ideal S512x192 .bf16) (v58 : Vec Ideal S512x128 .bf16) (v70 : FVec Ideal S512x512 .f32) (v71 : FVec Ideal S512x512 .bf16) (v93 : BitVec 32)  (v98 : BitVec 32) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (G G2 : BufTy.Contents (Elt Ideal) arg14.view.ty) (init : FVec Ideal S512x192 .f32 × FVec Ideal S512x128 .f32 × FVec Ideal S512x192 .f32 × FVec Ideal S512x128 .f32) (n1 n2 : ℕ)

/-- The second loop makes no trip. -/
theorem second_loop (p : FVec Ideal S512x192 .f32 × FVec Ideal S512x128 .f32 × FVec Ideal S512x192 .f32 × FVec Ideal S512x128 .f32) (hn2 : n2 = 0) :
    st_k0_t2 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v98 (harg2.unread x2) (harg3.unread x3) (harg4.unread x4) (harg5.unread x5) (harg6.unread x6) (harg7.unread x7) G2 p n2 = (p, []) := by
  subst hn2
  rfl

/-- The carried gradients after both loops. -/
theorem carry_total (hn1 : n1 = (k0_t1_loop (grid0.coords t)).trips) (hn2 : n2 = 0)
    (h0 : ∀ r d, init.1 (ix2 r d) = dkPart x2 x3 x4 x5 x6 x7 0 True (keyTile t) r d) (h1 : ∀ r e, init.2.1 (ix2 r e) = dvPart x2 x4 x5 x6 0 True (keyTile t) r e)
    (h2 : ∀ r d, init.2.2.1 (ix2 r d) = dkPart x2 x3 x4 x5 x6 x7 1 True (keyTile t) r d) (h3 : ∀ r e, init.2.2.2 (ix2 r e) = dvPart x2 x4 x5 x6 1 True (keyTile t) r e) :
    ∀ p, p = (st_k0_t2 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v98 (harg2.unread x2) (harg3.unread x3) (harg4.unread x4) (harg5.unread x5) (harg6.unread x6) (harg7.unread x7) G2 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n1).1 n2).1 →
      (∀ r d, p.1 (ix2 r d) = dkTot x2 x3 x4 x5 x6 x7 0 (keyTile t) r d) ∧ (∀ r e, p.2.1 (ix2 r e) = dvTot x2 x4 x5 x6 0 (keyTile t) r e)
        ∧ (∀ r d, p.2.2.1 (ix2 r d) = dkTot x2 x3 x4 x5 x6 x7 1 (keyTile t) r d) ∧ (∀ r e, p.2.2.2 (ix2 r e) = dvTot x2 x4 x5 x6 1 (keyTile t) r e) := by
  intro p hp
  rw [second_loop (hn2 := hn2)] at hp
  subst hp
  have hn : n1 = 7 - (keyTile t).val := hn1.trans (trips_eq t)
  refine ⟨fun r d => ?_, fun r e => ?_, fun r d => ?_, fun r e => ?_⟩
  · rw [loop_dk0 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 x2 x3 x4 x5 x6 x7 G init r d n1 hn1.le, h0]
    exact sum_diag hn (fun i p _ => dkPart x2 x3 x4 x5 x6 x7 0 p i r d)
  · rw [loop_dv0 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 x2 x3 x4 x5 x6 x7 G init r e n1 hn1.le, h1]
    exact sum_diag hn (fun i p _ => dvPart x2 x4 x5 x6 0 p i r e)
  · rw [loop_dk1 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 x2 x3 x4 x5 x6 x7 G init r d n1 hn1.le, h2]
    exact sum_diag hn (fun i p _ => dkPart x2 x3 x4 x5 x6 x7 1 p i r d)
  · rw [loop_dv1 t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 x2 x3 x4 x5 x6 x7 G init r e n1 hn1.le, h3]
    exact sum_diag hn (fun i p _ => dvPart x2 x4 x5 x6 1 p i r e)

/-- The accumulator after the diagonal tile. -/
theorem diag_acc (W : BufTy.Contents (Elt Ideal) arg14.view.ty) (w0 w1 : Vec Ideal S1x512x192 .f32) (inb1 inb4)
    (hw0 : ∀ s d, w0 (ix3 0 s d) = arg14.view.read (Elt Ideal) W (ix3 0 (seqRow (keyTile t) s) d) + dqPart x2 x3 x4 x5 x6 x7 0 True (keyTile t) s d)
    (hw1 : ∀ s d, w1 (ix3 0 s d) = arg14.view.read (Elt Ideal) W (ix3 1 (seqRow (keyTile t) s) d) + dqPart x2 x3 x4 x5 x6 x7 1 True (keyTile t) s d)
    (h : Fin 2) (i : Fin 8) (s : Fin 512) (d : Fin 192) :
    arg14.view.read (Elt Ideal) (arg14.view.writes (Elt Ideal) W [⟨Rect.unit (s := S2x4096x192) (k0_off4 (grid0.coords t)) S1x512x192.size inb4, w1⟩, ⟨Rect.unit (s := S2x4096x192) (k0_off1 (grid0.coords t)) S1x512x192.size inb1, w0⟩]) (ix3 h (seqRow i s) d)
      = arg14.view.read (Elt Ideal) W (ix3 h (seqRow i s) d) + (if i = keyTile t then dqPart x2 x3 x4 x5 x6 x7 h True i s d else 0) := by
  by_cases hi : i = keyTile t
  · subst hi
    rw [if_pos rfl]
    fin_cases h
    · rw [View.read_writes_cons_miss_of_axis _ _ _ _ _ 0 1 1 (by simp [off4_eq]) rfl rfl (by simp)]
      rw [View.read_writes_cons_hit_of_coords _ _ _ _ _ (ix3 0 s d : Shape.Idx ⟨3, ![1, 512, 192]⟩) _ (by intro a; fin_cases a <;> simp [off1_eq, seqRow, keyTile])]
      exact hw0 s d
    · rw [View.read_writes_cons_hit_of_coords _ _ _ _ _ (ix3 0 s d : Shape.Idx ⟨3, ![1, 512, 192]⟩) _ (by intro a; fin_cases a <;> simp [off4_eq, seqRow, keyTile])]
      exact hw1 s d
  · rw [if_neg hi, add_zero]
    have hne : i.val ≠ t.val % 8 := fun e => hi (Fin.ext e)
    have hs := s.isLt
    rw [View.read_writes_cons_miss_of_axis _ _ _ _ _ 1 (512 * (t.val % 8)) 512 (by simp [off4_eq]) rfl rfl (by simp [seqRow]; omega)]
    rw [View.read_writes_cons_miss_of_axis _ _ _ _ _ 1 (512 * (t.val % 8)) 512 (by simp [off1_eq]) rfl rfl (by simp [seqRow]; omega)]
    rfl

/-- The accumulator after both loops. -/
theorem acc_total (hn1 : n1 = (k0_t1_loop (grid0.coords t)).trips) (hn2 : n2 = 0) (W : BufTy.Contents (Elt Ideal) arg14.view.ty) (L0 : List (View.Piece (Elt Ideal) S2x4096x192 .f32)) (w0 w1 : Vec Ideal S1x512x192 .f32) (inb1 inb4)
    (hw0 : ∀ s d, w0 (ix3 0 s d) = arg14.view.read (Elt Ideal) (arg14.view.writes (Elt Ideal) W L0) (ix3 0 (seqRow (keyTile t) s) d) + dqPart x2 x3 x4 x5 x6 x7 0 True (keyTile t) s d)
    (hw1 : ∀ s d, w1 (ix3 0 s d) = arg14.view.read (Elt Ideal) (arg14.view.writes (Elt Ideal) W L0) (ix3 1 (seqRow (keyTile t) s) d) + dqPart x2 x3 x4 x5 x6 x7 1 True (keyTile t) s d)
    (p : FVec Ideal S512x192 .f32 × FVec Ideal S512x128 .f32 × FVec Ideal S512x192 .f32 × FVec Ideal S512x128 .f32)
    (hG : G = arg14.view.writes (Elt Ideal) W (⟨Rect.unit (s := S2x4096x192) (k0_off4 (grid0.coords t)) S1x512x192.size inb4, w1⟩ :: ⟨Rect.unit (s := S2x4096x192) (k0_off1 (grid0.coords t)) S1x512x192.size inb1, w0⟩ :: L0))
    (h : Fin 2) (i : Fin 8) (s : Fin 512) (d : Fin 192) :
    arg14.view.read (Elt Ideal) (arg14.view.writes (Elt Ideal) W ((st_k0_t2 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v98 (harg2.unread x2) (harg3.unread x3) (harg4.unread x4) (harg5.unread x5) (harg6.unread x6) (harg7.unread x7) G2 p n2).2 ++ ((st_k0_t1 𝒱 c bd (grid0.coords t) arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 (harg2.unread x2) (harg3.unread x3) (harg4.unread x4) (harg5.unread x5) (harg6.unread x6) (harg7.unread x7) G init n1).2
        ++ ⟨Rect.unit (s := S2x4096x192) (k0_off4 (grid0.coords t)) S1x512x192.size inb4, w1⟩ :: ⟨Rect.unit (s := S2x4096x192) (k0_off1 (grid0.coords t)) S1x512x192.size inb1, w0⟩ :: L0))) (ix3 h (seqRow i s) d)
      = arg14.view.read (Elt Ideal) (arg14.view.writes (Elt Ideal) W L0) (ix3 h (seqRow i s) d) + dqAdd x2 x3 x4 x5 x6 x7 h (keyTile t) i s d := by
  rw [second_loop (hn2 := hn2)]
  have hn : n1 = 7 - (keyTile t).val := hn1.trans (trips_eq t)
  rw [List.nil_append, View.writes_append, ← hG, loop_acc t 𝒱 c bd arg2 harg2 arg3 harg3 arg4 harg4 arg5 harg5 arg6 harg6 arg7 harg7 arg8 harg8 arg9 harg9 arg10 harg10 arg11 harg11 arg12 harg12 arg13 harg13 arg14 harg14 arg1 v3 v4 v6 v30 v40 v51 v53 v56 v58 v70 v71 v93 x2 x3 x4 x5 x6 x7 G init h i s d n1 hn1.le, hG]
  have e := diag_acc t (arg14 := arg14) x2 x3 x4 x5 x6 x7 (arg14.view.writes (Elt Ideal) W L0) w0 w1 inb1 inb4 hw0 hw1 h i s d
  rw [← View.writes_append, List.cons_append, List.cons_append, List.nil_append] at e
  rw [e]
  rw [add_assoc]
  congr 1
  exact split_diag hn (fun p _ => dqPart x2 x3 x4 x5 x6 x7 h p i s d)

end Point

end Cert.AttnIdeal.Tile

end
-- ==== Proof.APoint.lean ====
module

public import proofs.«01_k».proof.Proof.ATotal

/-! What the body leaves at one key tile: the pieces of the first two results, and the accumulator. -/

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

/-- The gradients of the keys and of the values of both heads, as the loops carry them. -/
abbrev Carry := FVec Ideal S512x192 .f32 × FVec Ideal S512x128 .f32 × FVec Ideal S512x192 .f32 × FVec Ideal S512x128 .f32

/-- The pieces which the body stores of the first result, -/
def dkvPieces (p : Carry) : List (View.Piece (Elt Ideal) S512x512 .bf16) :=
  [⟨Rect.unit ![0, 384] ![512, 128] inb_S512x512_S512x128_0_384, k0_pay4 p.2.2.2⟩, ⟨Rect.unit ![0, 256] ![512, 128] inb_S512x512_S512x128_0_256, k0_pay3 p.2.2.1⟩,
    ⟨Rect.unit ![0, 128] ![512, 128] inb_S512x512_S512x128_0_128, k0_pay159 p.2.1⟩, ⟨Rect.unit ![0, 0] ![512, 128] inb_S512x512_S512x128_0_0, k0_pay158 p.1⟩]
/-- and of the second. -/
def dkrPieces (p : Carry) : List (View.Piece (Elt Ideal) S2x512x64 .f32) :=
  [⟨Rect.unit ![1, 0, 0] ![1, 512, 64] inb_S2x512x64_S1x512x64_1_0_0, k0_pay5 p.2.2.1⟩, ⟨Rect.unit ![0, 0, 0] ![1, 512, 64] inb_S2x512x64_S1x512x64_0_0_0, k0_pay1 (k0_pay157 p.1)⟩]

/-- What is carried at the end is the totals of key tile `j`. -/
def IsTotal (x2 : Vec Ideal S2x512x192 .bf16) (x3 : Vec Ideal S2x512x128 .bf16) (x4 : Vec Ideal S2x4096x192 .bf16) (x5 : Vec Ideal S4096x256 .bf16)
    (x6 : Vec Ideal S2x8x1x512 .f32) (x7 : Vec Ideal S2x8x1x512 .f32) (j : Fin 8) (p : Carry) : Prop :=
  (∀ r d, p.1 (ix2 r d) = dkTot x2 x3 x4 x5 x6 x7 0 j r d) ∧ (∀ r e, p.2.1 (ix2 r e) = dvTot x2 x4 x5 x6 0 j r e)
    ∧ (∀ r d, p.2.2.1 (ix2 r d) = dkTot x2 x3 x4 x5 x6 x7 1 j r d) ∧ (∀ r e, p.2.2.2 (ix2 r e) = dvTot x2 x4 x5 x6 1 j r e)

theorem pieces_of {L9 : List (View.Piece (Elt Ideal) S512x512 .bf16)} {L10 : List (View.Piece (Elt Ideal) S2x512x64 .f32)} {p : Carry} {c2 c3 c1}
    (h9 : L9 = [⟨Rect.unit ![0, 384] ![512, 128] inb_S512x512_S512x128_0_384, k0_pay4 c3⟩, ⟨Rect.unit ![0, 256] ![512, 128] inb_S512x512_S512x128_0_256, k0_pay3 c2⟩,
      ⟨Rect.unit ![0, 128] ![512, 128] inb_S512x512_S512x128_0_128, k0_pay159 p.2.1⟩, ⟨Rect.unit ![0, 0] ![512, 128] inb_S512x512_S512x128_0_0, k0_pay158 p.1⟩])
    (h10 : L10 = [⟨Rect.unit ![1, 0, 0] ![1, 512, 64] inb_S2x512x64_S1x512x64_1_0_0, k0_pay5 c2⟩, ⟨Rect.unit ![0, 0, 0] ![1, 512, 64] inb_S2x512x64_S1x512x64_0_0_0, k0_pay1 c1⟩])
    (h3 : c3 = p.2.2.2) (h2 : c2 = p.2.2.1) (h1 : c1 = k0_pay157 p.1) {P : Carry → Prop} (hP : P p) : ∃ p, L9 = dkvPieces p ∧ L10 = dkrPieces p ∧ P p := by
  subst h1 h2 h3
  exact ⟨p, h9, h10, hP⟩

/-- The accumulator is cleared before the first key tile. -/
theorem zero_read (M : Memref sig .tc .vmem S2x4096x192 .f32) (z : S2x4096x192.Idx) :
    M.view.read (Elt Ideal) (M.view.writes (Elt Ideal) M.view.junk runA.sl.H14_1) z = 0 := by
  delta runA.sl.H14_1
  rw [View.read_writes_cons_hit_of_coords _ _ _ _ _ z _ (by intro a; fin_cases a <;> simp)]
  show Ideal.ofBits .f32 0#32 = 0
  simp [Ideal.ofBits, Ideal.ieee]

/-- At a first key tile the body stores the totals, -/
theorem piecesA (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst (grid0.coords t)) (hc1 : ¬isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) :
    ∃ p, (runA c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.1 = dkvPieces p ∧ (runA c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.2.1 = dkrPieces p ∧ IsTotal x2 x3 x4 x5 x6 x7 (keyTile t) p := by
  refine pieces_of (p := ?p) (c1 := ?c1) (c2 := ?c2) (c3 := ?c3) ?h9 ?h10 ?h3 ?h2 ?h1 ?hP
  case h9 => rw [runA]
  case h10 => rw [runA]
  case h3 => exact rfl
  case h2 => exact rfl
  case h1 => exact rfl
  case hP =>
    refine carry_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ (fun r d => ?_) (fun r e => ?_) (fun r d => ?_) (fun r e => ?_) _ rfl
    · exact rfl
    · exact trips2_eq t
    · exact start_dk0 t arg2 harg2 arg3 harg3 arg4 harg4 arg5 harg5 arg6 harg6 arg7 harg7 x2 x3 x4 x5 x6 x7 _ _ _ _ _ _ r d
    · exact start_dv0 t arg2 harg2 arg4 harg4 arg5 harg5 arg6 harg6 x2 x4 x5 x6 _ _ _ _ r e
    · exact start_dk1 t arg2 harg2 arg3 harg3 arg4 harg4 arg5 harg5 arg6 harg6 arg7 harg7 x2 x3 x4 x5 x6 x7 _ _ _ _ _ _ r d
    · exact start_dv1 t arg2 harg2 arg4 harg4 arg5 harg5 arg6 harg6 x2 x4 x5 x6 _ _ _ _ r e

/-- and the accumulator then holds what the tile adds. -/
theorem accA (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : isFirst (grid0.coords t)) (hc1 : ¬isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (h : Fin 2) (i : Fin 8) (s : Fin 512) (d : Fin 192) :
    arg14.view.read (Elt Ideal) (arg14.view.writes (Elt Ideal) (arg14.view.junk) (runA c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10).1.2.2) (ix3 h (seqRow i s) d) = dqAdd x2 x3 x4 x5 x6 x7 h (keyTile t) i s d := by
  rw [runA]
  refine (acc_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ _ runA.sl.H14_1 _ _ _ _ (fun s d => ?_) (fun s d => ?_) _ rfl h i s d).trans ?_
  · exact rfl
  · exact trips2_eq t
  · exact (start_dq0 t arg2 harg2 arg3 harg3 arg4 harg4 arg5 harg5 arg6 harg6 arg7 harg7 x2 x3 x4 x5 x6 x7 _ _ _ _ _ _ _ s d).trans
      (congrArg (· + _) (read_acc _ _ s d (ix3 0 (seqRow (keyTile t) s) d) (by intro a; fin_cases a <;> simp [off1_eq, off4_eq, seqRow, keyTile])))
  · refine (start_dq1 t arg2 harg2 arg3 harg3 arg4 harg4 arg5 harg5 arg6 harg6 arg7 harg7 x2 x3 x4 x5 x6 x7 _ _ _ _ _ _ _ s d).trans (congrArg (· + _) ?_)
    refine (read_acc _ _ s d (ix3 1 (seqRow (keyTile t) s) d) (by intro a; fin_cases a <;> simp [off1_eq, off4_eq, seqRow, keyTile])).trans ?_
    delta runA.sl.H14_2
    rw [View.read_writes_cons_miss_of_axis _ _ _ _ _ 0 0 1 (by simp [off1_eq]) rfl rfl (by simp)]
  · exact (congrArg (· + _) (zero_read _ _)).trans (zero_add _)

/-- At a middle key tile the body stores the totals, -/
theorem piecesB (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : ¬isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) :
    ∃ p, (runB c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.1 = dkvPieces p ∧ (runB c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.1 = dkrPieces p ∧ IsTotal x2 x3 x4 x5 x6 x7 (keyTile t) p := by
  refine pieces_of (p := ?p) (c1 := ?c1) (c2 := ?c2) (c3 := ?c3) ?h9 ?h10 ?h3 ?h2 ?h1 ?hP
  case h9 => rw [runB]
  case h10 => rw [runB]
  case h3 => exact rfl
  case h2 => exact rfl
  case h1 => exact rfl
  case hP =>
    refine carry_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ (fun r d => ?_) (fun r e => ?_) (fun r d => ?_) (fun r e => ?_) _ rfl
    · exact rfl
    · exact trips2_eq t
    · exact start_dk0 t arg2 harg2 arg3 harg3 arg4 harg4 arg5 harg5 arg6 harg6 arg7 harg7 x2 x3 x4 x5 x6 x7 _ _ _ _ _ _ r d
    · exact start_dv0 t arg2 harg2 arg4 harg4 arg5 harg5 arg6 harg6 x2 x4 x5 x6 _ _ _ _ r e
    · exact start_dk1 t arg2 harg2 arg3 harg3 arg4 harg4 arg5 harg5 arg6 harg6 arg7 harg7 x2 x3 x4 x5 x6 x7 _ _ _ _ _ _ r d
    · exact start_dv1 t arg2 harg2 arg4 harg4 arg5 harg5 arg6 harg6 x2 x4 x5 x6 _ _ _ _ r e

/-- and the accumulator then holds what it held and what the tile adds. -/
theorem accB (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : ¬isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) (h : Fin 2) (i : Fin 8) (s : Fin 512) (d : Fin 192) :
    arg14.view.read (Elt Ideal) (arg14.view.writes (Elt Ideal) (harg14.unread xs) (runB c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2) (ix3 h (seqRow i s) d) = xs (ix3 h (seqRow i s) d) + dqAdd x2 x3 x4 x5 x6 x7 h (keyTile t) i s d := by
  rw [runB]
  refine (acc_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ _ [] _ _ _ _ (fun s d => ?_) (fun s d => ?_) _ rfl h i s d).trans ?_
  · exact rfl
  · exact trips2_eq t
  · exact (start_dq0 t arg2 harg2 arg3 harg3 arg4 harg4 arg5 harg5 arg6 harg6 arg7 harg7 x2 x3 x4 x5 x6 x7 _ _ _ _ _ _ _ s d).trans
      (congrArg (· + _) (read_acc _ _ s d (ix3 0 (seqRow (keyTile t) s) d) (by intro a; fin_cases a <;> simp [off1_eq, off4_eq, seqRow, keyTile])))
  · refine (start_dq1 t arg2 harg2 arg3 harg3 arg4 harg4 arg5 harg5 arg6 harg6 arg7 harg7 x2 x3 x4 x5 x6 x7 _ _ _ _ _ _ _ s d).trans (congrArg (· + _) ?_)
    refine (read_acc _ _ s d (ix3 1 (seqRow (keyTile t) s) d) (by intro a; fin_cases a <;> simp [off1_eq, off4_eq, seqRow, keyTile])).trans ?_
    rfl
  · exact (congrArg (· + _) (congrFun (harg14.read_unread xs) _))

/-- At a last key tile the body stores the totals, -/
theorem piecesC (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) :
    ∃ p, (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.1 = dkvPieces p ∧ (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.1 = dkrPieces p ∧ IsTotal x2 x3 x4 x5 x6 x7 (keyTile t) p := by
  refine pieces_of (p := ?p) (c1 := ?c1) (c2 := ?c2) (c3 := ?c3) ?h9 ?h10 ?h3 ?h2 ?h1 ?hP
  case h9 => rw [runC]
  case h10 => rw [runC]
  case h3 => exact rfl
  case h2 => exact rfl
  case h1 => exact rfl
  case hP =>
    refine carry_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ (fun r d => ?_) (fun r e => ?_) (fun r d => ?_) (fun r e => ?_) _ rfl
    · exact rfl
    · exact trips2_eq t
    · exact start_dk0 t arg2 harg2 arg3 harg3 arg4 harg4 arg5 harg5 arg6 harg6 arg7 harg7 x2 x3 x4 x5 x6 x7 _ _ _ _ _ _ r d
    · exact start_dv0 t arg2 harg2 arg4 harg4 arg5 harg5 arg6 harg6 x2 x4 x5 x6 _ _ _ _ r e
    · exact start_dk1 t arg2 harg2 arg3 harg3 arg4 harg4 arg5 harg5 arg6 harg6 arg7 harg7 x2 x3 x4 x5 x6 x7 _ _ _ _ _ _ r d
    · exact start_dv1 t arg2 harg2 arg4 harg4 arg5 harg5 arg6 harg6 x2 x4 x5 x6 _ _ _ _ r e

/-- and the accumulator then holds what it held and what the tile adds. -/
theorem accC (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) (h : Fin 2) (i : Fin 8) (s : Fin 512) (d : Fin 192) :
    arg14.view.read (Elt Ideal) (arg14.view.writes (Elt Ideal) (harg14.unread xs) (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.2) (ix3 h (seqRow i s) d) = xs (ix3 h (seqRow i s) d) + dqAdd x2 x3 x4 x5 x6 x7 h (keyTile t) i s d := by
  rw [runC]
  refine (acc_total t _ _ _ _ _ _ _ _ _ _ _ _ _ _ _ _ _ _ _ _ _ _ _ _ _ _ _ _ _ _ _ _ _ _ _ _ _ _ _ _ _ _ _ x2 x3 x4 x5 x6 x7 _ _ _ _ _ ?_ ?_ _ [] _ _ _ _ (fun s d => ?_) (fun s d => ?_) _ rfl h i s d).trans ?_
  · exact rfl
  · exact trips2_eq t
  · exact (start_dq0 t arg2 harg2 arg3 harg3 arg4 harg4 arg5 harg5 arg6 harg6 arg7 harg7 x2 x3 x4 x5 x6 x7 _ _ _ _ _ _ _ s d).trans
      (congrArg (· + _) (read_acc _ _ s d (ix3 0 (seqRow (keyTile t) s) d) (by intro a; fin_cases a <;> simp [off1_eq, off4_eq, seqRow, keyTile])))
  · refine (start_dq1 t arg2 harg2 arg3 harg3 arg4 harg4 arg5 harg5 arg6 harg6 arg7 harg7 x2 x3 x4 x5 x6 x7 _ _ _ _ _ _ _ s d).trans (congrArg (· + _) ?_)
    refine (read_acc _ _ s d (ix3 1 (seqRow (keyTile t) s) d) (by intro a; fin_cases a <;> simp [off1_eq, off4_eq, seqRow, keyTile])).trans ?_
    rfl
  · exact (congrArg (· + _) (congrFun (harg14.read_unread xs) _))

end Cert.AttnIdeal.Tile

end
-- ==== Proof.ADq.lean ====
module

public import proofs.«01_k».proof.Proof.APoint

/-! The third result: the accumulator, scaled, with its last 64 columns turned back. -/

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

/-- Rows of the accumulator, scaled, -/
def scaledRows (a : Vec Ideal S1x512x192 .f32) : FVec Ideal S512x192 .f32 :=
  mulf (shapeCast S512x192 a shapeCasts_S1x512x192_S512x192) (broadcast S512x192 (FloatOps.ofBits .f32 1033096506#32))
/-- their first 128 columns, -/
def lowCols (a : Vec Ideal S1x512x192 .f32) : FVec Ideal S1x512x128 .bf16 :=
  shapeCast S1x512x128 (truncf .bf16 (extractStridedSlice S512x128 ![0, 0] (scaledRows a) slices_S512x192_o0_0_S512x128) bitsLt_bf16_f32) (by decide)
/-- and the last 64, times the sines, -/
def sineRows (a : Vec Ideal S1x512x192 .f32) (sn : Vec Ideal S512x64 .f32) : FVec Ideal S512x64 .f32 :=
  mulf (extractStridedSlice S512x64 ![0, 128] (scaledRows a) slices_S512x192_o0_128_S512x64) (shapeCast S512x64 sn (by decide))
/-- which are multiplied with the permutation in three parts, -/
def permuted (m : FVec Ideal S512x64 .f32) (p : Vec Ideal S64x64 .f32) : FVec Ideal S512x64 .f32 :=
  let P := truncf (F := Ideal) .bf16 (shapeCast S64x64 p (by decide)) bitsLt_bf16_f32
  let h := truncf (F := Ideal) .bf16 m bitsLt_bf16_f32
  let r := subf m (extf (F := Ideal) .f32 h bitsLt_bf16_f32)
  let g := truncf (F := Ideal) .bf16 r bitsLt_bf16_f32
  let u := truncf (F := Ideal) .bf16 (subf r (extf (F := Ideal) .f32 g bitsLt_bf16_f32)) bitsLt_bf16_f32
  addf (addf (matmul dot_S512x64_S64x64_S512x64_1_0_0_1_n_n none h P (constant S512x64 .f32 0#32)) (matmul dot_S512x64_S64x64_S512x64_1_0_0_1_n_n none g P (constant S512x64 .f32 0#32)))
    (matmul dot_S512x64_S64x64_S512x64_1_0_0_1_n_n none u P (constant S512x64 .f32 0#32))
/-- and added to them times the cosines. -/
def highCols (a : Vec Ideal S1x512x192 .f32) (cs sn : Vec Ideal S512x64 .f32) (p : Vec Ideal S64x64 .f32) : FVec Ideal S1x512x64 .bf16 :=
  shapeCast S1x512x64 (truncf .bf16 (addf (mulf (extractStridedSlice S512x64 ![0, 128] (scaledRows a) slices_S512x192_o0_128_S512x64) (shapeCast S512x64 cs (by decide))) (permuted (sineRows a sn) p)) bitsLt_bf16_f32) (by decide)

section Pieces

variable (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg14 : Memref sig .tc .vmem S2x4096x192 .f32)
  (x8 x9 : Vec Ideal S4096x64 .f32) (x10 : Vec Ideal S64x64 .f32) (f : BufTy.Contents (Elt Ideal) arg14.view.ty)

/-- The rows of query tile `i` of head `h` in the accumulator. -/
def accRows (h : Fin 2) (i : Fin 8) : Vec Ideal S1x512x192 .f32 :=
  View.readAt (Elt Ideal) arg14.view (Rect.unit (s := S2x4096x192) ![h.val, 512 * i.val, 0] S1x512x192.size (by intro a; have := h.isLt; have := i.isLt; fin_cases a <;> simp <;> omega)).toLoadRect f

/-- The pieces of query tile `i` of head `h`. -/
def lowPiece (h : Fin 2) (i : Fin 8) : View.Piece (Elt Ideal) S2x4096x192 .bf16 :=
  ⟨Rect.unit (s := S2x4096x192) ![h.val, 512 * i.val, 0] ![1, 512, 128] (by intro a; have := h.isLt; have := i.isLt; fin_cases a <;> simp <;> omega), lowCols (accRows arg14 f h i)⟩
def highPiece (h : Fin 2) (i : Fin 8) : View.Piece (Elt Ideal) S2x4096x192 .bf16 :=
  ⟨Rect.unit (s := S2x4096x192) ![h.val, 512 * i.val, 128] ![1, 512, 64] (by intro a; have := h.isLt; have := i.isLt; fin_cases a <;> simp <;> omega),
    highCols (accRows arg14 f h i)
      (View.readAt (Elt Ideal) arg8.view (Rect.unit (s := S4096x64) ![512 * i.val, 0] S512x64.size (by intro a; have := i.isLt; fin_cases a <;> simp <;> omega)).toLoadRect (harg8.unread x8))
      (View.readAt (Elt Ideal) arg9.view (Rect.unit (s := S4096x64) ![512 * i.val, 0] S512x64.size (by intro a; have := i.isLt; fin_cases a <;> simp <;> omega)).toLoadRect (harg9.unread x9))
      (View.readAt (Elt Ideal) arg10.view (Rect.unit (s := S64x64) ![0, 0] S64x64.size (by decide)).toLoadRect (harg10.unread x10))⟩

/-- The pieces of some query tiles. -/
def dqPieces : List (Fin 2 × Fin 8) → List (View.Piece (Elt Ideal) S2x4096x192 .bf16)
  | [] => []
  | p :: l => highPiece arg8 harg8 arg9 harg9 arg10 harg10 arg14 x8 x9 x10 f p.1 p.2 :: lowPiece arg14 f p.1 p.2 :: dqPieces l

/-- The order in which the body writes them, the last first. -/
def dqOrder : List (Fin 2 × Fin 8) :=
  [(1, 7), (1, 6), (1, 5), (1, 4), (1, 3), (1, 2), (1, 1), (1, 0), (0, 7), (0, 6), (0, 5), (0, 4), (0, 3), (0, 2), (0, 1), (0, 0)]

end Pieces

/-- At a last key tile the body stores the third result's pieces, of the accumulator as it then is. -/
theorem piecesQ (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) :
    (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.1 = dqPieces arg8 harg8 arg9 harg9 arg10 harg10 arg14 x8 x9 x10 (arg14.view.writes (Elt Ideal) (harg14.unread xs) (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.2) dqOrder := by
  rw [runC]
  sl_kernel_rfl

/-! ## The third result's block at an element -/

/-- The scale of the scores. -/
def scale : EReal := Ideal.ofBits .f32 1033096506#32

theorem lowCols_at (a : Vec Ideal S1x512x192 .f32) (s : Fin 512) (e : Fin 128) :
    lowCols a (ix3 0 s e) = a (ix3 0 s ⟨e.val, by omega⟩) * scale := by
  pointwise [lowCols, scaledRows]
  rfl

theorem sineRows_at (a : Vec Ideal S1x512x192 .f32) (sn : Vec Ideal S512x64 .f32) (s : Fin 512) (e : Fin 64) :
    sineRows a sn (ix2 s e) = a (ix3 0 s ⟨128 + e.val, by omega⟩) * scale * sn (ix2 s e) := by
  pointwise [sineRows, scaledRows]
  rfl

/-- A row times the permutation, in three parts: over the reals the last two are zero. -/
def threeParts (m : Fin 64 → EReal) (p : Fin 64 → EReal) : EReal :=
  (∑ f : Fin 64, m f * p f) + (∑ f : Fin 64, (m f - m f) * p f) + ∑ f : Fin 64, (m f - m f - (m f - m f)) * p f

theorem permuted_at (m : FVec Ideal S512x64 .f32) (p : Vec Ideal S64x64 .f32) (s : Fin 512) (e : Fin 64) :
    permuted m p (ix2 s e) = threeParts (fun f => m (ix2 s f)) (fun f => p (ix2 f e)) := by
  pointwise [permuted, threeParts]

theorem highCols_at (a : Vec Ideal S1x512x192 .f32) (cs sn : Vec Ideal S512x64 .f32) (p : Vec Ideal S64x64 .f32) (s : Fin 512) (e : Fin 64) :
    highCols a cs sn p (ix3 0 s e) = a (ix3 0 s ⟨128 + e.val, by omega⟩) * scale * cs (ix2 s e)
      + threeParts (fun f => a (ix3 0 s ⟨128 + f.val, by omega⟩) * scale * sn (ix2 s f)) (fun f => p (ix2 f e)) := by
  rw [← congrArg (fun g => threeParts g _) (funext fun f => sineRows_at a sn s f), ← permuted_at]
  pointwise [highCols, scaledRows]
  rfl

/-- The gradient of a query row, from the accumulator: scaled, the last 64 columns turned back. -/
def turned (A : Fin 192 → EReal) (cs sn : Fin 64 → EReal) (p : Fin 64 → Fin 64 → EReal) (c : Fin 192) : EReal :=
  if h : c.val < 128 then A c * scale
  else A c * scale * cs ⟨c.val - 128, by omega⟩ + threeParts (fun f => A ⟨128 + f.val, by omega⟩ * scale * sn f) (fun f => p f ⟨c.val - 128, by omega⟩)

theorem turned_low (A : Fin 192 → EReal) (cs sn : Fin 64 → EReal) (p : Fin 64 → Fin 64 → EReal) (e : Fin 128) :
    turned A cs sn p ⟨e.val, by omega⟩ = A ⟨e.val, by omega⟩ * scale := dif_pos e.isLt

theorem turned_high (A : Fin 192 → EReal) (cs sn : Fin 64 → EReal) (p : Fin 64 → Fin 64 → EReal) (e : Fin 64) :
    turned A cs sn p ⟨128 + e.val, by omega⟩ = A ⟨128 + e.val, by omega⟩ * scale * cs e + threeParts (fun f => A ⟨128 + f.val, by omega⟩ * scale * sn f) (fun f => p f e) := by
  have e' : (⟨128 + e.val - 128, by omega⟩ : Fin 64) = e := Fin.ext (by simp)
  refine (dif_neg (show ¬(128 + e.val < 128) by omega)).trans ?_
  rw [e']

section Read

variable (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg14 : Memref sig .tc .vmem S2x4096x192 .f32)
  (x8 x9 : Vec Ideal S4096x64 .f32) (x10 : Vec Ideal S64x64 .f32) (f : BufTy.Contents (Elt Ideal) arg14.view.ty)

/-- The block of the third result, of the accumulator's contents. -/
def dqBlock : S2x4096x192.Idx → EReal := fun y =>
  turned (fun c => arg14.view.read (Elt Ideal) f (ix3 (y 0) (y 1) c)) (fun e => x8 (ix2 (y 1) e)) (fun e => x9 (ix2 (y 1) e)) (fun a b => x10 (ix2 a b)) (y 2)

theorem accRows_at (h : Fin 2) (i : Fin 8) (s : Fin 512) (c : Fin 192) : accRows arg14 f h i (ix3 0 s c) = arg14.view.read (Elt Ideal) f (ix3 h (seqRow i s) c) :=
  read_acc f _ s c (ix3 h (seqRow i s) c) (by intro a; fin_cases a <;> simp [seqRow])

theorem lowPiece_at (h : Fin 2) (i : Fin 8) (x : (lowPiece arg14 f h i).1.shape.Idx) :
    (lowPiece arg14 f h i).2 x = dqBlock arg14 x8 x9 x10 f ((lowPiece arg14 f h i).1.emb x) := by
  obtain ⟨s, e, rfl⟩ : ∃ (s : Fin 512) (e : Fin 128), x = (ix3 0 s e : Shape.Idx ⟨3, ![1, 512, 128]⟩) :=
    ⟨x 1, x 2, by funext a; fin_cases a; exacts [Subsingleton.elim (α := Fin 1) _ _, rfl, rfl]⟩
  refine Eq.trans ?_ (congrArg (dqBlock arg14 x8 x9 x10 f) ((lowPiece arg14 f h i).1.emb_eq_of_coords (ix3 0 s e : Shape.Idx ⟨3, ![1, 512, 128]⟩) (ix3 h (seqRow i s) ⟨e.val, by omega⟩ : S2x4096x192.Idx) (by intro a; fin_cases a <;> simp [lowPiece, seqRow]))).symm
  show lowCols _ (ix3 0 s e) = turned _ _ _ _ _
  rw [lowCols_at, accRows_at]
  exact (turned_low (fun c => arg14.view.read (Elt Ideal) f (ix3 h (seqRow i s) c)) (fun b => x8 (ix2 (seqRow i s) b)) (fun b => x9 (ix2 (seqRow i s) b)) (fun a b => x10 (ix2 a b)) e).symm

theorem highPiece_at (h : Fin 2) (i : Fin 8) (x : (highPiece arg8 harg8 arg9 harg9 arg10 harg10 arg14 x8 x9 x10 f h i).1.shape.Idx) :
    (highPiece arg8 harg8 arg9 harg9 arg10 harg10 arg14 x8 x9 x10 f h i).2 x = dqBlock arg14 x8 x9 x10 f ((highPiece arg8 harg8 arg9 harg9 arg10 harg10 arg14 x8 x9 x10 f h i).1.emb x) := by
  obtain ⟨s, e, rfl⟩ : ∃ (s : Fin 512) (e : Fin 64), x = (ix3 0 s e : Shape.Idx ⟨3, ![1, 512, 64]⟩) :=
    ⟨x 1, x 2, by funext a; fin_cases a; exacts [Subsingleton.elim (α := Fin 1) _ _, rfl, rfl]⟩
  refine Eq.trans ?_ (congrArg (dqBlock arg14 x8 x9 x10 f) ((highPiece arg8 harg8 arg9 harg9 arg10 harg10 arg14 x8 x9 x10 f h i).1.emb_eq_of_coords (ix3 0 s e : Shape.Idx ⟨3, ![1, 512, 64]⟩) (ix3 h (seqRow i s) ⟨128 + e.val, by omega⟩ : S2x4096x192.Idx) (by intro a; fin_cases a <;> simp [highPiece, seqRow]))).symm
  show highCols _ _ _ _ (ix3 0 s e) = turned _ _ _ _ _
  rw [highCols_at]
  refine Eq.trans ?_ (turned_high _ _ _ _ e).symm
  simp only [accRows_at]
  rw [read_at harg8 x8 _ _ (ix2 (seqRow i s) e) (by intro a; fin_cases a <;> simp [seqRow])]
  simp only [fun b : Fin 64 => read_at harg9 x9 (off := ![512 * i.val, 0]) (size := S512x64.size) (by intro a; have := i.isLt; fin_cases a <;> simp <;> omega) (ix2 s b) (ix2 (seqRow i s) b) (by intro a; fin_cases a <;> simp [seqRow]),
    fun b : Fin 64 => read_at harg10 x10 (off := ![0, 0]) (size := S64x64.size) (by decide) (ix2 b e) (ix2 b e) (by intro a; fin_cases a <;> simp)]
  rfl

theorem dqPieces_at : ∀ (l : List (Fin 2 × Fin 8)), ∀ p ∈ dqPieces arg8 harg8 arg9 harg9 arg10 harg10 arg14 x8 x9 x10 f l,
    ∀ x : p.1.shape.Idx, p.2 x = dqBlock arg14 x8 x9 x10 f (p.1.emb x)
  | [], p, hp, _ => absurd hp List.not_mem_nil
  | q :: l, p, hp, x => by
    rcases List.mem_cons.mp hp with rfl | hp
    · exact highPiece_at arg8 harg8 arg9 harg9 arg10 harg10 arg14 x8 x9 x10 f q.1 q.2 x
    rcases List.mem_cons.mp hp with rfl | hp
    · exact lowPiece_at arg14 x8 x9 x10 f q.1 q.2 x
    · exact dqPieces_at l p hp x

end Read

/-- At a last key tile the third result's block is that of the accumulator as it then is. -/
theorem dq_readC {sp : Space} {M : Memref sig .tc sp S2x4096x192 .bf16} (g : BufTy.Contents (Elt Ideal) M.view.ty) (c : Dev nD) (t : Fin grid0.N) (arg2 : Memref sig .tc .vmem S2x512x192 .bf16) (harg2 : arg2.IsWhole) (arg3 : Memref sig .tc .vmem S2x512x128 .bf16) (harg3 : arg3.IsWhole) (arg4 : Memref sig .tc .vmem S2x4096x192 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x64 .f32) (harg8 : arg8.IsWhole) (arg9 : Memref sig .tc .vmem S4096x64 .f32) (harg9 : arg9.IsWhole) (arg10 : Memref sig .tc .vmem S64x64 .f32) (harg10 : arg10.IsWhole) (arg11 : Memref sig .tc .vmem S512x512 .bf16) (harg11 : arg11.IsWhole) (arg12 : Memref sig .tc .vmem S2x512x64 .f32) (harg12 : arg12.IsWhole) (arg13 : Memref sig .tc .vmem S2x4096x192 .bf16) (harg13 : arg13.IsWhole) (arg14 : Memref sig .tc .vmem S2x4096x192 .f32) (harg14 : arg14.IsWhole) (hc0 : ¬isFirst (grid0.coords t)) (hc1 : isLast (grid0.coords t)) (x2 : Vec Ideal S2x512x192 .bf16) (x3 : Vec Ideal S2x512x128 .bf16) (x4 : Vec Ideal S2x4096x192 .bf16) (x5 : Vec Ideal S4096x256 .bf16) (x6 : Vec Ideal S2x8x1x512 .f32) (x7 : Vec Ideal S2x8x1x512 .f32) (x8 : Vec Ideal S4096x64 .f32) (x9 : Vec Ideal S4096x64 .f32) (x10 : Vec Ideal S64x64 .f32) (xs : Vec Ideal S2x4096x192 .f32) (y : S2x4096x192.Idx) :
    M.view.read (Elt Ideal) (M.view.writes (Elt Ideal) g (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.1) y = dqBlock arg14 x8 x9 x10 (arg14.view.writes (Elt Ideal) (harg14.unread xs) (runC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs).1.2.2.2) y := by
  have hc := dq_coverC c (grid0.coords t) arg2 harg2 arg3 harg3 arg4 harg4 arg5 harg5 arg6 harg6 arg7 harg7 arg8 harg8 arg9 harg9 arg10 harg10 arg11 harg11 arg12 harg12 arg13 harg13 arg14 harg14 hc0 hc1 x2 x3 x4 x5 x6 x7 x8 x9 x10 xs y
  rw [piecesQ] at hc ⊢
  exact View.read_writes_apply_of_pieces M.view g _ _ (dqPieces_at arg8 harg8 arg9 harg9 arg10 harg10 arg14 x8 x9 x10 _ dqOrder) y hc

/-! ## The first two results' blocks at an element -/

/-- The factor which turns powers of two back into powers of `e`. -/
theorem ln2_val : Named.named (F := Ideal) Cert.AttnIdeal.κ "ln2" (φ := .f32) 0x3F317218#32 = ((Real.log 2 : ℝ) : EReal) :=
  IdealRules.named_const.ideal_named_scalar _ _ _ _ rfl

section Blocks

variable (p : Carry)

theorem dkv_key0 (M : Memref sig .tc .vmem S512x512 .bf16) (g : BufTy.Contents (Elt Ideal) M.view.ty) (r : Fin 512) (e : Fin 128) :
    M.view.read (Elt Ideal) (M.view.writes (Elt Ideal) g (dkvPieces p)) (ix2 r ⟨e.val, by omega⟩) = p.1 (ix2 r ⟨e.val, by omega⟩) * ((Real.log 2 : ℝ) : EReal) := by
  have := e.isLt
  unfold dkvPieces
  rw [View.read_writes_cons_miss_of_axis _ _ _ _ _ 1 384 128 (by simp) rfl rfl (by simp; omega),
    View.read_writes_cons_miss_of_axis _ _ _ _ _ 1 256 128 (by simp) rfl rfl (by simp; omega),
    View.read_writes_cons_miss_of_axis _ _ _ _ _ 1 128 128 (by simp) rfl rfl (by simp),
    View.read_writes_cons_hit_of_coords _ _ _ _ _ (ix2 r e : Shape.Idx ⟨2, ![512, 128]⟩) _ (by intro a; fin_cases a <;> simp)]
  pointwise [k0_pay158, k0_pay157]
  rw [ln2_val]

theorem dkv_val0 (M : Memref sig .tc .vmem S512x512 .bf16) (g : BufTy.Contents (Elt Ideal) M.view.ty) (r : Fin 512) (e : Fin 128) :
    M.view.read (Elt Ideal) (M.view.writes (Elt Ideal) g (dkvPieces p)) (ix2 r ⟨128 + e.val, by omega⟩) = p.2.1 (ix2 r e) := by
  have := e.isLt
  unfold dkvPieces
  rw [View.read_writes_cons_miss_of_axis _ _ _ _ _ 1 384 128 (by simp) rfl rfl (by simp; omega),
    View.read_writes_cons_miss_of_axis _ _ _ _ _ 1 256 128 (by simp) rfl rfl (by simp; omega),
    View.read_writes_cons_hit_of_coords _ _ _ _ _ (ix2 r e : Shape.Idx ⟨2, ![512, 128]⟩) _ (by intro a; fin_cases a <;> simp)]
  pointwise [k0_pay159]

theorem dkv_key1 (M : Memref sig .tc .vmem S512x512 .bf16) (g : BufTy.Contents (Elt Ideal) M.view.ty) (r : Fin 512) (e : Fin 128) :
    M.view.read (Elt Ideal) (M.view.writes (Elt Ideal) g (dkvPieces p)) (ix2 r ⟨256 + e.val, by omega⟩) = p.2.2.1 (ix2 r ⟨e.val, by omega⟩) * ((Real.log 2 : ℝ) : EReal) := by
  have := e.isLt
  unfold dkvPieces
  rw [View.read_writes_cons_miss_of_axis _ _ _ _ _ 1 384 128 (by simp) rfl rfl (by simp; omega),
    View.read_writes_cons_hit_of_coords _ _ _ _ _ (ix2 r e : Shape.Idx ⟨2, ![512, 128]⟩) _ (by intro a; fin_cases a <;> simp)]
  pointwise [k0_pay3, k0_pay2]
  rw [ln2_val]

theorem dkv_val1 (M : Memref sig .tc .vmem S512x512 .bf16) (g : BufTy.Contents (Elt Ideal) M.view.ty) (r : Fin 512) (e : Fin 128) :
    M.view.read (Elt Ideal) (M.view.writes (Elt Ideal) g (dkvPieces p)) (ix2 r ⟨384 + e.val, by omega⟩) = p.2.2.2 (ix2 r e) := by
  have := e.isLt
  unfold dkvPieces
  rw [View.read_writes_cons_hit_of_coords _ _ _ _ _ (ix2 r e : Shape.Idx ⟨2, ![512, 128]⟩) _ (by intro a; fin_cases a <;> simp)]
  pointwise [k0_pay4]

theorem dkr_key0 (M : Memref sig .tc .vmem S2x512x64 .f32) (g : BufTy.Contents (Elt Ideal) M.view.ty) (r : Fin 512) (e : Fin 64) :
    M.view.read (Elt Ideal) (M.view.writes (Elt Ideal) g (dkrPieces p)) (ix3 0 r e) = p.1 (ix2 r ⟨128 + e.val, by omega⟩) * ((Real.log 2 : ℝ) : EReal) := by
  unfold dkrPieces
  rw [View.read_writes_cons_miss_of_axis _ _ _ _ _ 0 1 1 (by simp) rfl rfl (by simp),
    View.read_writes_cons_hit_of_coords _ _ _ _ _ (ix3 0 r e : Shape.Idx ⟨3, ![1, 512, 64]⟩) _ (by intro a; fin_cases a <;> simp)]
  pointwise [k0_pay1, k0_pay157]
  rw [ln2_val]

theorem dkr_key1 (M : Memref sig .tc .vmem S2x512x64 .f32) (g : BufTy.Contents (Elt Ideal) M.view.ty) (r : Fin 512) (e : Fin 64) :
    M.view.read (Elt Ideal) (M.view.writes (Elt Ideal) g (dkrPieces p)) (ix3 1 r e) = p.2.2.1 (ix2 r ⟨128 + e.val, by omega⟩) * ((Real.log 2 : ℝ) : EReal) := by
  unfold dkrPieces
  rw [View.read_writes_cons_hit_of_coords _ _ _ _ _ (ix3 0 r e : Shape.Idx ⟨3, ![1, 512, 64]⟩) _ (by intro a; fin_cases a <;> simp)]
  pointwise [k0_pay5, k0_pay2]
  rw [ln2_val]

end Blocks

end Cert.AttnIdeal.Tile

end
-- ==== Proof.ASeq.lean ====
/-
  The gradient of the causal attention of one head over the whole sequence, and that the kernel's totals over its tiles are its blocks.
-/
module

public import proofs.«01_k».proof.Proof.ADq

set_option maxRecDepth 16384

@[expose] public noncomputable section

namespace Cert.AttnIdeal.Tile

open Cert.AttnIdeal Idealize.ShloMosaic Idealize.ShloMosaic.TcCoe

/-! ## Over the sequence -/

/-- Column `e` of head `h` among the 16 heads' 128 columns. -/
def col (h : Fin 16) (e : Fin 128) : Fin 2048 := ⟨128 * h.val + e.val, by omega⟩

/-- Tile of a position, and the place in it. -/
def tileOf (n : Fin 4096) : Fin 8 := ⟨n.val / 512, by omega⟩
def inTile (n : Fin 4096) : Fin 512 := ⟨n.val % 512, by omega⟩

section Seq

variable (K : Shape.Idx ⟨3, ![16, 4096, 192]⟩ → EReal) (U : Shape.Idx ⟨3, ![16, 4096, 128]⟩ → EReal) (Q : Shape.Idx ⟨3, ![16, 4096, 192]⟩ → EReal)
  (D : Shape.Idx ⟨2, ![4096, 2048]⟩ → EReal) (L E : Shape.Idx ⟨4, ![16, 8, 1, 512]⟩ → EReal)

/-- The probability of key `k` for query `n`: zero where the key comes after the query. -/
def seqProb (h : Fin 16) (k n : Fin 4096) : EReal :=
  Ideal.exp2 ((if k.val ≤ n.val then ∑ d : Fin 192, K (ix3 h k d) * Q (ix3 h n d) else ⊥) - L (ix4 h (tileOf n) 0 (inTile n)))

/-- The gradient of the score of key `k` for query `n`. -/
def seqScore (h : Fin 16) (k n : Fin 4096) : EReal :=
  seqProb K Q L h k n * ((∑ e : Fin 128, U (ix3 h k e) * D (ix2 n (col h e))) - E (ix4 h (tileOf n) 0 (inTile n)))

/-- The gradients of a value, of a key and of a query. -/
def seqDv (h : Fin 16) (k : Fin 4096) (e : Fin 128) : EReal := ∑ n : Fin 4096, seqProb K Q L h k n * D (ix2 n (col h e))
def seqDk (h : Fin 16) (k : Fin 4096) (d : Fin 192) : EReal := ∑ n : Fin 4096, seqScore K U Q D L E h k n * Q (ix3 h n d)
def seqDq (h : Fin 16) (n : Fin 4096) (d : Fin 192) : EReal := ∑ k : Fin 4096, seqScore K U Q D L E h k n * K (ix3 h k d)

theorem seqProb_masked {h : Fin 16} {k n : Fin 4096} (hk : ¬k.val ≤ n.val) : seqProb K Q L h k n = 0 := by
  unfold seqProb
  rw [if_neg hk, sub_eq_add_neg, EReal.bot_add]
  rfl

theorem seqScore_masked {h : Fin 16} {k n : Fin 4096} (hk : ¬k.val ≤ n.val) : seqScore K U Q D L E h k n = 0 := by
  unfold seqScore
  rw [seqProb_masked K Q L hk, zero_mul]

end Seq

/-- A sum over the sequence, tile by tile. -/
theorem sum_seq (f : Fin 4096 → EReal) : ∑ n : Fin 4096, f n = ∑ i : Fin 8, ∑ s : Fin 512, f (seqRow i s) :=
  (Fin.sum_mul_add_congr (S := 8) (n := 512) fun i s hl => congrArg f (Fin.ext (by simp [seqRow, Nat.mul_comm]))).symm

theorem tileOf_row (i : Fin 8) (s : Fin 512) : tileOf (seqRow i s) = i := Fin.ext (by have := s.isLt; simp [tileOf, seqRow]; omega)
theorem inTile_row (i : Fin 8) (s : Fin 512) : inTile (seqRow i s) = s := Fin.ext (by have := s.isLt; simp [inTile, seqRow])

/-! ## The tiles' totals -/

section Totals

variable {x2 : Vec Ideal S2x512x192 .bf16} {x3 : Vec Ideal S2x512x128 .bf16} {x4 : Vec Ideal S2x4096x192 .bf16} {x5 : Vec Ideal S4096x256 .bf16}
  {x6 : Vec Ideal S2x8x1x512 .f32} {x7 : Vec Ideal S2x8x1x512 .f32}
  (K : Shape.Idx ⟨3, ![16, 4096, 192]⟩ → EReal) (U : Shape.Idx ⟨3, ![16, 4096, 128]⟩ → EReal) (Q : Shape.Idx ⟨3, ![16, 4096, 192]⟩ → EReal)
  (D : Shape.Idx ⟨2, ![4096, 2048]⟩ → EReal) (L E : Shape.Idx ⟨4, ![16, 8, 1, 512]⟩ → EReal)

/-- The blocks are those of heads `hd` and key tile `j`. -/
structure AreBlocks (x2 : Vec Ideal S2x512x192 .bf16) (x3 : Vec Ideal S2x512x128 .bf16) (x4 : Vec Ideal S2x4096x192 .bf16) (x5 : Vec Ideal S4096x256 .bf16)
    (x6 : Vec Ideal S2x8x1x512 .f32) (x7 : Vec Ideal S2x8x1x512 .f32) (hd : Fin 2 → Fin 16) (j : Fin 8) : Prop where
  key : ∀ h r d, x2 (ix3 h r d) = K (ix3 (hd h) (seqRow j r) d)
  value : ∀ h r e, x3 (ix3 h r e) = U (ix3 (hd h) (seqRow j r) e)
  query : ∀ h n d, x4 (ix3 h n d) = Q (ix3 (hd h) n d)
  cot : ∀ h n e, x5 (ix2 n (headCol h e)) = D (ix2 n (col (hd h) e))
  lse : ∀ h i s, x6 (ix4 h i 0 s) = L (ix4 (hd h) i 0 s)
  delta : ∀ h i s, x7 (ix4 h i 0 s) = E (ix4 (hd h) i 0 s)

variable {hd : Fin 2 → Fin 16} {j : Fin 8} (H : AreBlocks K U Q D L E x2 x3 x4 x5 x6 x7 hd j)
include H

theorem prob_eq (h : Fin 2) (i : Fin 8) (hij : j.val ≤ i.val) (r s : Fin 512) :
    prob x2 x4 x6 h (i = j) i r s = seqProb K Q L (hd h) (seqRow j r) (seqRow i s) := by
  have hr := r.isLt
  have hs := s.isLt
  unfold prob seqProb
  rw [tileOf_row, inTile_row, H.lse]
  simp only [H.key, H.query]
  by_cases hm : (seqRow j r).val ≤ (seqRow i s).val
  · rw [if_pos hm, if_neg]
    rintro ⟨rfl, hrs⟩
    simp [seqRow] at hm
    omega
  · rw [if_neg hm, if_pos]
    simp only [seqRow] at hm
    have hji : i.val = j.val := by omega
    exact ⟨Fin.ext hji, by omega⟩

theorem dscore_eq (h : Fin 2) (i : Fin 8) (hij : j.val ≤ i.val) (r s : Fin 512) :
    dscore x2 x3 x4 x5 x6 x7 h (i = j) i r s = seqScore K U Q D L E (hd h) (seqRow j r) (seqRow i s) := by
  unfold dscore seqScore
  rw [prob_eq K U Q D L E H h i hij, tileOf_row, inTile_row, H.delta]
  simp only [H.value, H.cot]

theorem before_row {i : Fin 8} (hij : ¬j.val ≤ i.val) (r s : Fin 512) : ¬(seqRow j r).val ≤ (seqRow i s).val := by
  have := r.isLt
  have := s.isLt
  simp only [seqRow]
  omega

theorem dvTot_eq (h : Fin 2) (r : Fin 512) (e : Fin 128) : dvTot x2 x4 x5 x6 h j r e = seqDv K Q D L (hd h) (seqRow j r) e := by
  unfold dvTot seqDv
  rw [sum_seq]
  refine Finset.sum_congr rfl fun i _ => ?_
  split_ifs with hij
  · unfold dvPart
    exact Finset.sum_congr rfl fun s _ => by rw [prob_eq K U Q D L E H h i hij, H.cot]
  · exact (Finset.sum_eq_zero fun s _ => by rw [seqProb_masked _ _ _ (before_row K U Q D L E H hij r s), zero_mul]).symm

theorem dkTot_eq (h : Fin 2) (r : Fin 512) (d : Fin 192) : dkTot x2 x3 x4 x5 x6 x7 h j r d = seqDk K U Q D L E (hd h) (seqRow j r) d := by
  unfold dkTot seqDk
  rw [sum_seq]
  refine Finset.sum_congr rfl fun i _ => ?_
  split_ifs with hij
  · unfold dkPart
    exact Finset.sum_congr rfl fun s _ => by rw [dscore_eq K U Q D L E H h i hij, H.query]
  · exact (Finset.sum_eq_zero fun s _ => by rw [seqScore_masked _ _ _ _ _ _ (before_row K U Q D L E H hij r s), zero_mul]).symm

theorem dqAdd_eq (h : Fin 2) (i : Fin 8) (s : Fin 512) (d : Fin 192) :
    dqAdd x2 x3 x4 x5 x6 x7 h j i s d = ∑ r : Fin 512, seqScore K U Q D L E (hd h) (seqRow j r) (seqRow i s) * K (ix3 (hd h) (seqRow j r) d) := by
  unfold dqAdd
  split_ifs with hij
  · unfold dqPart
    exact Finset.sum_congr rfl fun r _ => by rw [dscore_eq K U Q D L E H h i hij, H.key]
  · exact (Finset.sum_eq_zero fun r _ => by rw [seqScore_masked _ _ _ _ _ _ (before_row K U Q D L E H hij r s), zero_mul]).symm

end Totals

end Cert.AttnIdeal.Tile

end
-- ==== Proof.ABlocks.lean ====
/-
  The kernel's operands as its body reads them: at grid point `t` two heads from `2 * (t / 8)` on, and key tile `t % 8`.
-/
module

public import proofs.«01_k».proof.Proof.ASeq
public import Idealize.ShloMosaic.Lib.Pipeline.ValueKit

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

theorem bidx0 : ∀ t : Fin grid0.N, win0_0.index t 0 = t.val / 8 ∧ win0_0.index t 1 = t.val % 8 ∧ win0_0.index t 2 = 0 := by decide +kernel
theorem bidx1 : ∀ t : Fin grid0.N, win0_1.index t 0 = t.val / 8 ∧ win0_1.index t 1 = t.val % 8 ∧ win0_1.index t 2 = 0 := by decide +kernel
theorem bidx2 : ∀ t : Fin grid0.N, win0_2.index t 0 = t.val / 8 ∧ win0_2.index t 1 = 0 ∧ win0_2.index t 2 = 0 := by decide +kernel
theorem bidx3 : ∀ t : Fin grid0.N, win0_3.index t 0 = 0 ∧ win0_3.index t 1 = t.val / 8 := by decide +kernel
theorem bidx4 : ∀ t : Fin grid0.N, win0_4.index t 0 = t.val / 8 ∧ win0_4.index t 1 = 0 ∧ win0_4.index t 2 = 0 ∧ win0_4.index t 3 = 0 := by decide +kernel
theorem bidx5 : ∀ t : Fin grid0.N, win0_5.index t 0 = t.val / 8 ∧ win0_5.index t 1 = 0 ∧ win0_5.index t 2 = 0 ∧ win0_5.index t 3 = 0 := by decide +kernel
theorem bidx6 : ∀ t : Fin grid0.N, win0_6.index t 0 = 0 ∧ win0_6.index t 1 = 0 := by decide +kernel
theorem bidx7 : ∀ t : Fin grid0.N, win0_7.index t 0 = 0 ∧ win0_7.index t 1 = 0 := by decide +kernel
theorem bidx8 : ∀ t : Fin grid0.N, win0_8.index t 0 = 0 ∧ win0_8.index t 1 = 0 := by decide +kernel
theorem bidx9 : ∀ t : Fin grid0.N, win0_9.index t 0 = t.val % 8 ∧ win0_9.index t 1 = t.val / 8 := by decide +kernel
theorem bidx10 : ∀ t : Fin grid0.N, win0_10.index t 0 = t.val / 8 ∧ win0_10.index t 1 = t.val % 8 ∧ win0_10.index t 2 = 0 := by decide +kernel
theorem bidx11 : ∀ t : Fin grid0.N, win0_11.index t 0 = t.val / 8 ∧ win0_11.index t 1 = 0 ∧ win0_11.index t 2 = 0 := by decide +kernel

variable (m : (ℓ : Loc nD τ sig) → Buf (Elt Ideal) ℓ) (c : Dev nD)

/-- The arrays the kernel is called with: keys, values, scaled queries, the output's gradient, the rows' log-sums and corrections, cosines, sines and the
permutation. -/
abbrev arrK : Shape.Idx ⟨3, ![16, 4096, 192]⟩ → EReal := V m c main_arg1
abbrev arrU : Shape.Idx ⟨3, ![16, 4096, 128]⟩ → EReal := V m c main_arg2
abbrev arrQ : Shape.Idx ⟨3, ![16, 4096, 192]⟩ → EReal := V m c main_v62
abbrev arrD : Shape.Idx ⟨2, ![4096, 2048]⟩ → EReal := V m c main_arg3
abbrev arrL : Shape.Idx ⟨4, ![16, 8, 1, 512]⟩ → EReal := V m c main_v69
abbrev arrE : Shape.Idx ⟨4, ![16, 8, 1, 512]⟩ → EReal := V m c main_v70
abbrev arrC : Shape.Idx ⟨2, ![4096, 64]⟩ → EReal := V m c main_v0
abbrev arrS : Shape.Idx ⟨2, ![4096, 64]⟩ → EReal := V m c main_v2
abbrev arrP : Shape.Idx ⟨2, ![64, 64]⟩ → EReal := V m c main_v12

/-- Head `h` of the pair at point `t`. -/
def headOf (t : Fin grid0.N) (h : Fin 2) : Fin 16 := ⟨2 * (t.val / 8) + h.val, by have : t.val < 64 := t.isLt; omega⟩

theorem in_key (t : Fin grid0.N) (h : Fin 2) (r : Fin 512) (d : Fin 192) : iblk m c 0 t (ix3 h r d) = arrK m c (ix3 (headOf t h) (seqRow (keyTile t) r) d) := by
  obtain ⟨e0, e1, e2⟩ := bidx0 t
  blk_ext [iblk, arrK, e0, e1, e2, headOf, seqRow, keyTile]
theorem in_value (t : Fin grid0.N) (h : Fin 2) (r : Fin 512) (d : Fin 128) : iblk m c 1 t (ix3 h r d) = arrU m c (ix3 (headOf t h) (seqRow (keyTile t) r) d) := by
  obtain ⟨e0, e1, e2⟩ := bidx1 t
  blk_ext [iblk, arrU, e0, e1, e2, headOf, seqRow, keyTile]
theorem in_query (t : Fin grid0.N) (h : Fin 2) (n : Fin 4096) (d : Fin 192) : iblk m c 2 t (ix3 h n d) = arrQ m c (ix3 (headOf t h) n d) := by
  obtain ⟨e0, e1, e2⟩ := bidx2 t
  blk_ext [iblk, arrQ, e0, e1, e2, headOf]
theorem in_cot (t : Fin grid0.N) (h : Fin 2) (n : Fin 4096) (e : Fin 128) : iblk m c 3 t (ix2 n (headCol h e)) = arrD m c (ix2 n (col (headOf t h) e)) := by
  obtain ⟨e0, e1⟩ := bidx3 t
  blk_ext [iblk, arrD, e0, e1, headOf, headCol, col]
theorem in_lse (t : Fin grid0.N) (h : Fin 2) (i : Fin 8) (s : Fin 512) : iblk m c 4 t (ix4 h i 0 s) = arrL m c (ix4 (headOf t h) i 0 s) := by
  obtain ⟨e0, e1, e2, e3⟩ := bidx4 t
  blk_ext [iblk, arrL, e0, e1, e2, e3, headOf]
theorem in_delta (t : Fin grid0.N) (h : Fin 2) (i : Fin 8) (s : Fin 512) : iblk m c 5 t (ix4 h i 0 s) = arrE m c (ix4 (headOf t h) i 0 s) := by
  obtain ⟨e0, e1, e2, e3⟩ := bidx5 t
  blk_ext [iblk, arrE, e0, e1, e2, e3, headOf]
theorem in_cos (t : Fin grid0.N) (n : Fin 4096) (e : Fin 64) : iblk m c 6 t (ix2 n e) = arrC m c (ix2 n e) := by
  obtain ⟨e0, e1⟩ := bidx6 t
  blk_ext [iblk, arrC, e0, e1]
theorem in_sin (t : Fin grid0.N) (n : Fin 4096) (e : Fin 64) : iblk m c 7 t (ix2 n e) = arrS m c (ix2 n e) := by
  obtain ⟨e0, e1⟩ := bidx7 t
  blk_ext [iblk, arrS, e0, e1]
theorem in_perm (t : Fin grid0.N) (n e : Fin 64) : iblk m c 8 t (ix2 n e) = arrP m c (ix2 n e) := by
  obtain ⟨e0, e1⟩ := bidx8 t
  blk_ext [iblk, arrP, e0, e1]

theorem areBlocks (t : Fin grid0.N) : AreBlocks (arrK m c) (arrU m c) (arrQ m c) (arrD m c) (arrL m c) (arrE m c)
    (iblk m c 0 t) (iblk m c 1 t) (iblk m c 2 t) (iblk m c 3 t) (iblk m c 4 t) (iblk m c 5 t) (headOf t) (keyTile t) where
  key h r d := in_key m c t h r d
  value h r e := in_value m c t h r e
  query h n d := in_query m c t h n d
  cot h n e := in_cot m c t h n e
  lse h i s := in_lse m c t h i s
  delta h i s := in_delta m c t h i s

end Cert.AttnIdeal.Tile

end
-- ==== Proof.AArr.lean ====
/-
  What the kernel leaves in its three results, over the whole sequence.
-/
module

public import proofs.«01_k».proof.Proof.ABlocks

set_option maxRecDepth 16384

@[expose] public noncomputable section

namespace Cert.AttnIdeal.Tile

open Cert.AttnIdeal Cert.AttnIdeal.Gen Cert.AttnIdeal.Run
open Idealize.ShloMosaic Idealize.ShloMosaic.TcCoe Idealize.SL.Sem

variable (m : (ℓ : Loc nD τ sig) → Buf (Elt Ideal) ℓ) (c : Dev nD)

/-! ## The blocks stored at a point -/

set_option maxHeartbeats 4800000 in
theorem stored (t : Fin cfg0.N) : ∃ p, dkvAt m c t = VO9.read (Elt Ideal) (VO9.writes (Elt Ideal) VO9.junk (dkvPieces p))
    ∧ dkrAt m c t = VO10.read (Elt Ideal) (VO10.writes (Elt Ideal) VO10.junk (dkrPieces p))
    ∧ IsTotal (iblk m c 0 t) (iblk m c 1 t) (iblk m c 2 t) (iblk m c 3 t) (iblk m c 4 t) (iblk m c 5 t) (keyTile t) p := by
  unfold dkvAt dkrAt
  by_cases h0 : isFirst (grid0.coords t)
  · have h1 : ¬isLast (grid0.coords t) := fun h => by
      have := (isFirst_iff t).mp h0; have := (isLast_iff t).mp h; omega
    rw [dif_pos h0, dif_neg h1, dif_pos h0, dif_neg h1]
    obtain ⟨p, e9, e10, h⟩ := piecesA c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t)
    exact ⟨p, congrArg (fun l => VO9.read (Elt Ideal) (VO9.writes (Elt Ideal) VO9.junk l)) e9, congrArg (fun l => VO10.read (Elt Ideal) (VO10.writes (Elt Ideal) VO10.junk l)) e10, h⟩
  · by_cases h1 : isLast (grid0.coords t)
    · rw [dif_neg h0, dif_pos h1, dif_neg h0, dif_pos h1]
      obtain ⟨p, e9, e10, h⟩ := piecesC c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) (accBefore m c t)
      exact ⟨p, congrArg (fun l => VO9.read (Elt Ideal) (VO9.writes (Elt Ideal) VO9.junk l)) e9, congrArg (fun l => VO10.read (Elt Ideal) (VO10.writes (Elt Ideal) VO10.junk l)) e10, h⟩
    · rw [dif_neg h0, dif_neg h1, dif_neg h0, dif_neg h1]
      obtain ⟨p, e9, e10, h⟩ := piecesB c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) (accBefore m c t)
      exact ⟨p, congrArg (fun l => VO9.read (Elt Ideal) (VO9.writes (Elt Ideal) VO9.junk l)) e9, congrArg (fun l => VO10.read (Elt Ideal) (VO10.writes (Elt Ideal) VO10.junk l)) e10, h⟩

/-! ## The accumulator -/

/-- What the key tile of point `n` adds to the gradient of query `k` of head `h` of the pair. -/
def tileDq (n : ℕ) (h : Fin 2) (k : Fin 4096) (d : Fin 192) : EReal :=
  ∑ r : Fin 512, seqScore (arrK m c) (arrU m c) (arrQ m c) (arrD m c) (arrL m c) (arrE m c) ⟨(2 * (n / 8) + h.val) % 16, by omega⟩ (seqRow ⟨n % 8, by omega⟩ r) k
    * arrK m c (ix3 ⟨(2 * (n / 8) + h.val) % 16, by omega⟩ (seqRow ⟨n % 8, by omega⟩ r) d)

theorem tile_adds (t : Fin cfg0.N) (h : Fin 2) (i : Fin 8) (s : Fin 512) (d : Fin 192) :
    dqAdd (iblk m c 0 t) (iblk m c 1 t) (iblk m c 2 t) (iblk m c 3 t) (iblk m c 4 t) (iblk m c 5 t) h (keyTile t) i s d = tileDq m c t.val h (seqRow i s) d := by
  have e : (⟨(2 * (t.val / 8) + h.val) % 16, by omega⟩ : Fin 16) = headOf t h := Fin.ext (by have : t.val < 64 := t.isLt; simp [headOf]; omega)
  rw [dqAdd_eq _ _ _ _ _ _ (areBlocks m c t), tileDq, e]
  rfl

theorem row_of (k : Fin 4096) : seqRow (tileOf k) (inTile k) = k := Fin.ext (by simp [seqRow, tileOf, inTile]; omega)

set_option maxHeartbeats 4800000 in
theorem acc_first (t : Fin cfg0.N) (ht : t.val % 8 = 0) (y : S2x4096x192.Idx) : accAt m c t.val t.isLt y = 0 + tileDq m c t.val (y 0) (y 1) (y 2) := by
  have h0 : isFirst (grid0.coords t) := (isFirst_iff t).mpr ht
  have h1 : ¬isLast (grid0.coords t) := fun h => by have := (isLast_iff t).mp h; omega
  rw [accAt_eq, show accNext m c t (accBefore m c t) = _ from (dif_pos h0).trans (dif_neg h1)]
  obtain ⟨h, k, d, rfl⟩ : ∃ (h : Fin 2) (k : Fin 4096) (d : Fin 192), y = ix3 h k d := ⟨y 0, y 1, y 2, by funext a; fin_cases a <;> rfl⟩
  obtain ⟨i, s, rfl⟩ : ∃ i s, k = seqRow i s := ⟨_, _, (row_of k).symm⟩
  refine (accA c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) h i s d).trans ?_
  rw [zero_add]
  exact tile_adds m c t h i s d

set_option maxHeartbeats 4800000 in
theorem acc_next (t : Fin cfg0.N) (ht : ¬t.val % 8 = 0) (y : S2x4096x192.Idx) :
    accAt m c t.val t.isLt y = accAt m c (t.val - 1) (Nat.lt_of_le_of_lt (Nat.sub_le _ _) t.isLt) y + tileDq m c t.val (y 0) (y 1) (y 2) := by
  have h0 : ¬isFirst (grid0.coords t) := fun h => ht ((isFirst_iff t).mp h)
  rw [accAt_eq]
  have eb : accBefore m c t = accAt m c (t.val - 1) (Nat.lt_of_le_of_lt (Nat.sub_le _ _) t.isLt) := dif_neg (by omega)
  rw [← eb]
  obtain ⟨h, k, d, rfl⟩ : ∃ (h : Fin 2) (k : Fin 4096) (d : Fin 192), y = ix3 h k d := ⟨y 0, y 1, y 2, by funext a; fin_cases a <;> rfl⟩
  obtain ⟨i, s, rfl⟩ : ∃ i s, k = seqRow i s := ⟨_, _, (row_of k).symm⟩
  by_cases h1 : isLast (grid0.coords t)
  · rw [show accNext m c t (accBefore m c t) = _ from (dif_neg h0).trans (dif_pos h1)]
    exact (accC c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) (accBefore m c t) h i s d).trans (congrArg (_ + ·) (tile_adds m c t h i s d))
  · rw [show accNext m c t (accBefore m c t) = _ from (dif_neg h0).trans (dif_neg h1)]
    exact (accB c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) (accBefore m c t) h i s d).trans (congrArg (_ + ·) (tile_adds m c t h i s d))

theorem acc_last (t : Fin cfg0.N) (ht : t.val % 8 = 7) (h : Fin 2) (k : Fin 4096) (d : Fin 192) :
    accAt m c t.val t.isLt (ix3 h k d) = seqDq (arrK m c) (arrU m c) (arrQ m c) (arrD m c) (arrL m c) (arrE m c) (headOf t h) k d := by
  have hN : t.val < 64 := t.isLt
  have := Pipeline.eq_sum_of_reset_step_apply_of_mod (fun n hn => accAt m c n hn) 8 (fun _ => (0 : EReal)) (fun n (y : S2x4096x192.Idx) => tileDq m c n (y 0) (y 1) (y 2))
    (fun t h y => acc_first m c t h y) (fun t h y => acc_next m c t h y) t ht (ix3 h k d)
  refine this.trans ?_
  rw [zero_add, Finset.sum_range, seqDq, sum_seq]
  refine Finset.sum_congr rfl fun j _ => ?_
  have e : (⟨(2 * ((8 * (t.val / 8) + j.val) / 8) + h.val) % 16, by omega⟩ : Fin 16) = headOf t h := Fin.ext (by simp only [headOf]; omega)
  have e' : (⟨(8 * (t.val / 8) + j.val) % 8, by omega⟩ : Fin 8) = j := Fin.ext (by simp only; omega)
  show tileDq m c (8 * (t.val / 8) + j.val) h k d = _
  rw [tileDq, e, e']

/-! ## The results -/

/-- The first result: of each head the gradient of the keys' first 128 columns, then that of the values. -/
def G9 : Shape.Idx ⟨2, ![4096, 4096]⟩ → EReal := fun y =>
  let h : Fin 16 := ⟨(y 1).val / 256, by have : (y 1).val < 4096 := (y 1).isLt; omega⟩
  if hx : (y 1).val % 256 < 128 then seqDk (arrK m c) (arrU m c) (arrQ m c) (arrD m c) (arrL m c) (arrE m c) h (y 0) ⟨(y 1).val % 256, by omega⟩ * ((Real.log 2 : ℝ) : EReal)
  else seqDv (arrK m c) (arrQ m c) (arrD m c) (arrL m c) h (y 0) ⟨(y 1).val % 256 - 128, by omega⟩

theorem G9_key (k : Fin 4096) (h : Fin 16) (e : Fin 128) {y : Shape.Idx ⟨2, ![4096, 4096]⟩} (h0 : (y 0).val = k.val) (h1 : (y 1).val = 256 * h.val + e.val) :
    G9 m c y = seqDk (arrK m c) (arrU m c) (arrQ m c) (arrD m c) (arrL m c) (arrE m c) h k ⟨e.val, by omega⟩ * ((Real.log 2 : ℝ) : EReal) := by
  have := e.isLt
  obtain rfl : y 0 = k := Fin.ext h0
  have e1 : (⟨(y 1).val / 256, by have : (y 1).val < 4096 := (y 1).isLt; omega⟩ : Fin 16) = h := Fin.ext (by simp only; omega)
  have hx : (y 1).val % 256 < 128 := by omega
  have e2 : (⟨(y 1).val % 256, by omega⟩ : Fin 192) = ⟨e.val, by omega⟩ := Fin.ext (by simp only; omega)
  refine (dif_pos hx).trans ?_
  rw [e1, e2]

theorem G9_val (k : Fin 4096) (h : Fin 16) (e : Fin 128) {y : Shape.Idx ⟨2, ![4096, 4096]⟩} (h0 : (y 0).val = k.val) (h1 : (y 1).val = 256 * h.val + (128 + e.val)) :
    G9 m c y = seqDv (arrK m c) (arrQ m c) (arrD m c) (arrL m c) h k e := by
  have := e.isLt
  obtain rfl : y 0 = k := Fin.ext h0
  have e1 : (⟨(y 1).val / 256, by have : (y 1).val < 4096 := (y 1).isLt; omega⟩ : Fin 16) = h := Fin.ext (by simp only; omega)
  have hx : ¬(y 1).val % 256 < 128 := by omega
  have e2 : (⟨(y 1).val % 256 - 128, by omega⟩ : Fin 128) = e := Fin.ext (by simp only; omega)
  refine (dif_neg hx).trans ?_
  rw [e1, e2]

theorem quarters (x : Fin 512) : (∃ e : Fin 128, x = ⟨e.val, by omega⟩) ∨ (∃ e : Fin 128, x = ⟨128 + e.val, by omega⟩) ∨ (∃ e : Fin 128, x = ⟨256 + e.val, by omega⟩)
    ∨ ∃ e : Fin 128, x = ⟨384 + e.val, by omega⟩ := by
  have := x.isLt
  by_cases x1 : x.val < 128
  · exact .inl ⟨⟨x.val, x1⟩, rfl⟩
  by_cases x2 : x.val < 256
  · exact .inr (.inl ⟨⟨x.val - 128, by omega⟩, Fin.ext (by simp; omega)⟩)
  by_cases x3 : x.val < 384
  · exact .inr (.inr (.inl ⟨⟨x.val - 256, by omega⟩, Fin.ext (by simp; omega)⟩))
  · exact .inr (.inr (.inr ⟨⟨x.val - 384, by omega⟩, Fin.ext (by simp; omega)⟩))

theorem block9 (t : Fin cfg0.N) (y : S512x512.Idx) : dkvAt m c t y = G9 m c ((win0_9.blk t).view.emb y) := by
  obtain ⟨p, e9, -, hk0, hv0, hk1, hv1⟩ := stored m c t
  obtain ⟨i0, i1⟩ := bidx9 t
  have hN : t.val < 64 := t.isLt
  obtain ⟨r, x, rfl⟩ : ∃ (r x : Fin 512), y = ix2 r x := ⟨y 0, y 1, by funext a; fin_cases a <;> rfl⟩
  have hx := x.isLt
  have E0 : (((win0_9.blk t).view.emb (ix2 r x : S512x512.Idx)) 0).val = 512 * (t.val % 8) + r.val := by blk_simp [i0]; omega
  have E1 : (((win0_9.blk t).view.emb (ix2 r x : S512x512.Idx)) 1).val = 512 * (t.val / 8) + x.val := by blk_simp [i1]; omega
  rw [e9]
  obtain ⟨e, rfl⟩ | ⟨e, rfl⟩ | ⟨e, rfl⟩ | ⟨e, rfl⟩ := quarters x
  · rw [dkv_key0, hk0, dkTot_eq _ _ _ _ _ _ (areBlocks m c t)]
    exact (G9_key m c _ (headOf t 0) e E0 (by rw [E1]; simp [headOf]; omega)).symm
  · rw [dkv_val0, hv0, dvTot_eq _ _ _ _ _ _ (areBlocks m c t)]
    exact (G9_val m c _ (headOf t 0) e E0 (by rw [E1]; simp [headOf]; omega)).symm
  · rw [dkv_key1, hk1, dkTot_eq _ _ _ _ _ _ (areBlocks m c t)]
    exact (G9_key m c _ (headOf t 1) e E0 (by rw [E1]; simp [headOf]; omega)).symm
  · rw [dkv_val1, hv1, dvTot_eq _ _ _ _ _ _ (areBlocks m c t)]
    exact (G9_val m c _ (headOf t 1) e E0 (by rw [E1]; simp [headOf]; omega)).symm

theorem arr9 : (dats m 0 c).arrAt 9 cfg0.N = G9 m c := by
  refine (dats m 0 c).arrAt_eq_of_covers 9 _ (by decide +kernel) fun t hf y => ?_
  blk_simp
  rw [after0_9]
  exact block9 m c t y

/-- The second result: the gradient of the keys' last 64 columns. -/
def G10 : Shape.Idx ⟨3, ![16, 4096, 64]⟩ → EReal := fun y =>
  seqDk (arrK m c) (arrU m c) (arrQ m c) (arrD m c) (arrL m c) (arrE m c) (y 0) (y 1) ⟨128 + (y 2).val, by have : (y 2).val < 64 := (y 2).isLt; omega⟩ * ((Real.log 2 : ℝ) : EReal)

theorem block10 (t : Fin cfg0.N) (y : S2x512x64.Idx) : dkrAt m c t y = G10 m c ((win0_10.blk t).view.emb y) := by
  obtain ⟨p, -, e10, hk0, hv0, hk1, hv1⟩ := stored m c t
  obtain ⟨i0, i1, i2⟩ := bidx10 t
  have hN : t.val < 64 := t.isLt
  obtain ⟨h, r, x, rfl⟩ : ∃ (h : Fin 2) (r : Fin 512) (x : Fin 64), y = ix3 h r x := ⟨y 0, y 1, y 2, by funext a; fin_cases a <;> rfl⟩
  have E : (win0_10.blk t).view.emb (ix3 h r x : S2x512x64.Idx) = ix3 (headOf t h) (seqRow (keyTile t) r) x := by
    have E0 : (((win0_10.blk t).view.emb (ix3 h r x : S2x512x64.Idx)) 0).val = 2 * (t.val / 8) + h.val := by blk_simp [i0]; omega
    have E1 : (((win0_10.blk t).view.emb (ix3 h r x : S2x512x64.Idx)) 1).val = 512 * (t.val % 8) + r.val := by blk_simp [i1]; omega
    have E2 : (((win0_10.blk t).view.emb (ix3 h r x : S2x512x64.Idx)) 2).val = x.val := by blk_simp [i2]
    funext a
    fin_cases a
    exacts [Fin.ext E0, Fin.ext E1, Fin.ext E2]
  rw [e10, E]
  match h with
  | 0 => rw [dkr_key0, hk0, dkTot_eq _ _ _ _ _ _ (areBlocks m c t)]; rfl
  | 1 => rw [dkr_key1, hk1, dkTot_eq _ _ _ _ _ _ (areBlocks m c t)]; rfl

theorem arr10 : (dats m 0 c).arrAt 10 cfg0.N = G10 m c := by
  refine (dats m 0 c).arrAt_eq_of_covers 10 _ (by decide +kernel) fun t hf y => ?_
  blk_simp
  rw [after0_10]
  exact block10 m c t y

/-- The third result: the gradient of the queries, scaled and turned back. -/
def G11 : Shape.Idx ⟨3, ![16, 4096, 192]⟩ → EReal := fun y =>
  turned (seqDq (arrK m c) (arrU m c) (arrQ m c) (arrD m c) (arrL m c) (arrE m c) (y 0) (y 1)) (fun e => arrC m c (ix2 (y 1) e)) (fun e => arrS m c (ix2 (y 1) e))
    (fun a b => arrP m c (ix2 a b)) (y 2)

set_option maxHeartbeats 4800000 in
theorem block11 (t : Fin cfg0.N) (ht : t.val % 8 = 7) (y : S2x4096x192.Idx) : dqAt m c t y = G11 m c ((win0_11.blk t).view.emb y) := by
  obtain ⟨i0, i1, i2⟩ := bidx11 t
  have h0 : ¬isFirst (grid0.coords t) := fun h => by have := (isFirst_iff t).mp h; omega
  have h1 : isLast (grid0.coords t) := (isLast_iff t).mpr ht
  obtain ⟨h, k, x, rfl⟩ : ∃ (h : Fin 2) (k : Fin 4096) (x : Fin 192), y = ix3 h k x := ⟨y 0, y 1, y 2, by funext a; fin_cases a <;> rfl⟩
  have E : (win0_11.blk t).view.emb (ix3 h k x : S2x4096x192.Idx) = ix3 (headOf t h) k x := by
    have E0 : (((win0_11.blk t).view.emb (ix3 h k x : S2x4096x192.Idx)) 0).val = 2 * (t.val / 8) + h.val := by blk_simp [i0]; omega
    have E1 : (((win0_11.blk t).view.emb (ix3 h k x : S2x4096x192.Idx)) 1).val = k.val := by blk_simp [i1]
    have E2 : (((win0_11.blk t).view.emb (ix3 h k x : S2x4096x192.Idx)) 2).val = x.val := by blk_simp [i2]
    funext a
    fin_cases a
    exacts [Fin.ext E0, Fin.ext E1, Fin.ext E2]
  rw [E, show dqAt m c t = _ from (dif_neg h0).trans (dif_pos h1)]
  refine (dq_readC (M := Memref.whole cc0_stg11_0) VO11.junk c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM (Memref.isWhole_whole _) h0 h1 (iblk m c 0 t) (iblk m c 1 t) (iblk m c 2 t) (iblk m c 3 t) (iblk m c 4 t) (iblk m c 5 t) (iblk m c 6 t) (iblk m c 7 t) (iblk m c 8 t) (accBefore m c t) (ix3 h k x)).trans ?_
  have ha : ∀ d : Fin 192, accNext m c t (accBefore m c t) (ix3 h k d) = _ := fun d => (congrFun (accAt_eq m c t) _).symm.trans (acc_last m c t ht h k d)
  rw [show accNext m c t (accBefore m c t) = _ from (dif_neg h0).trans (dif_pos h1)] at ha
  unfold dqBlock G11
  refine congr (congr (congr (congrArg turned (funext fun d => ha d)) (funext fun e => in_cos m c t k e)) (funext fun e => in_sin m c t k e)) (funext fun a => funext fun b => in_perm m c t a b) |> fun h => congrFun h x

theorem arr11 : (dats m 0 c).arrAt 11 cfg0.N = G11 m c := by
  refine (dats m 0 c).arrAt_eq_of_covers 11 _ (by decide +kernel) fun t hf y => ?_
  have hr : t.val % 8 = 7 := (flush0_11 t).mp hf
  blk_simp
  rw [after0_11]
  exact block11 m c t hr y

end Cert.AttnIdeal.Tile

end
-- ==== Proof.AGrad.lean ====
/-
  The gradient of causal attention from the softmax's derivative, and that on real numbers the kernel's way from the saved rows is the same.
-/
module

public import proofs.«01_k».proof.Proof.ASeq
public import proofs.«01_k».proof.Proof.Finite

set_option maxRecDepth 16384

@[expose] public noncomputable section

namespace Cert.AttnGrad

open Idealize.ShloMosaic Cert.AttnIdeal.Tile Cert.ConvGrad

/-- The entries of an array of the 16 heads' rows, of the heads' joined columns, and of the rotation's table. -/
abbrev Rows (d : ℕ) := Shape.Idx ⟨3, ![16, 4096, d]⟩ → EReal
abbrev Joined := Shape.Idx ⟨2, ![4096, 2048]⟩ → EReal
abbrev Table := Shape.Idx ⟨2, ![4096, 32]⟩ → EReal

/-! ## The formulas -/

/-- A query row with its last 64 columns rotated by the position's angles. -/
def rotQ (q : Rows 192) (cs sn : Table) (h : Fin 16) (n : Fin 4096) (d : Fin 192) : EReal :=
  if _h1 : d.val < 128 then q (ix3 h n d)
  else
    if _h2 : d.val - 128 < 32 then
      q (ix3 h n ⟨128 + (d.val - 128), by omega⟩) * cs (ix2 n ⟨d.val - 128, by omega⟩) -
        q (ix3 h n ⟨128 + (32 + (d.val - 128)), by omega⟩) * sn (ix2 n ⟨d.val - 128, by omega⟩)
    else
      q (ix3 h n ⟨128 + (32 + (d.val - 128 - 32)), by omega⟩) * cs (ix2 n ⟨d.val - 128 - 32, by omega⟩) +
        q (ix3 h n ⟨128 + (d.val - 128 - 32), by omega⟩) * sn (ix2 n ⟨d.val - 128 - 32, by omega⟩)

/-- The gradient of a query row from that of its rotated row. -/
def turnBack (A : Fin 192 → EReal) (cs sn : Table) (n : Fin 4096) (d : Fin 192) : EReal :=
  if _h1 : d.val < 128 then A d
  else
    if _h2 : d.val - 128 < 32 then
      A ⟨128 + (32 + (d.val - 128)), by omega⟩ * sn (ix2 n ⟨d.val - 128, by omega⟩) +
        A ⟨128 + (d.val - 128), by omega⟩ * cs (ix2 n ⟨d.val - 128, by omega⟩)
    else
      A ⟨128 + (32 + (d.val - 128 - 32)), by omega⟩ * cs (ix2 n ⟨d.val - 128 - 32, by omega⟩) +
        -A ⟨128 + (d.val - 128 - 32), by omega⟩ * sn (ix2 n ⟨d.val - 128 - 32, by omega⟩)

section Formulas

variable (R : Fin 16 → Fin 4096 → Fin 192 → EReal) (K : Rows 192) (U : Rows 128) (D : Joined)

/-- The score of key `k` for query `n`: minus infinity where the key comes after the query. -/
def score (h : Fin 16) (n k : Fin 4096) : EReal := if k.val ≤ n.val then (∑ d : Fin 192, R h n d * K (ix3 h k d)) * scale else ⊥

/-- A query's largest score, the exponentials of its scores above it, their sum, and the probabilities. -/
def top (h : Fin 16) (n : Fin 4096) : EReal := Finset.fold max ⊥ (fun k => score R K h n k) Finset.univ
def expo (h : Fin 16) (n k : Fin 4096) : EReal := Ideal.exp (score R K h n k - top R K h n)
def total (h : Fin 16) (n : Fin 4096) : EReal := ∑ k : Fin 4096, expo R K h n k
def probs (h : Fin 16) (n k : Fin 4096) : EReal := Ideal.div (expo R K h n k) (total R K h n)

/-- The gradient of a probability, and the softmax's derivative: of a quotient by the sum. -/
def dProbs (h : Fin 16) (n k : Fin 4096) : EReal := ∑ e : Fin 128, D (ix2 n (col h e)) * U (ix3 h k e)
def spread (h : Fin 16) (n : Fin 4096) : EReal :=
  ∑ k : Fin 4096, dProbs U D h n k * Ideal.div 1 (total R K h n * total R K h n) * expo R K h n k
def dScore (h : Fin 16) (n k : Fin 4096) : EReal :=
  (if k.val ≤ n.val then (Ideal.div (dProbs U D h n k) (total R K h n) + -spread R K U D h n) * expo R K h n k else 0) * scale

/-- The gradients of a key, of a rotated query and of a value. -/
def dKey (h : Fin 16) (k : Fin 4096) (d : Fin 192) : EReal := ∑ n : Fin 4096, dScore R K U D h n k * R h n d
def dRot (h : Fin 16) (n : Fin 4096) (d : Fin 192) : EReal := ∑ k : Fin 4096, dScore R K U D h n k * K (ix3 h k d)
def dVal (h : Fin 16) (k : Fin 4096) (e : Fin 128) : EReal := ∑ n : Fin 4096, D (ix2 n (col h e)) * probs R K h n k

end Formulas

/-! ## Positions and literals -/

/-- A signed comparison of two positions is their order. -/
theorem sle_positions (a b : Fin 4096) : IntOp.cmpi CmpIPredicate.sle (BitVec.ofNat 32 a.val) (BitVec.ofNat 32 b.val) = 1 ↔ a.val ≤ b.val := by
  have ha := a.isLt
  have hb := b.isLt
  have e1 : (BitVec.ofNat 32 a.val).toInt = a.val := by
    rw [BitVec.toInt_eq_toNat_of_lt (by simp; omega)]
    simp; omega
  have e2 : (BitVec.ofNat 32 b.val).toInt = b.val := by
    rw [BitVec.toInt_eq_toNat_of_lt (by simp; omega)]
    simp; omega
  simp only [IntOp.cmpi, BitVec.sle, e1, e2, Nat.cast_le]
  by_cases h : a.val ≤ b.val <;> simp [h]

theorem neg_infinity : Ideal.ofBits .f32 4286578688#32 = ⊥ := by simp [Ideal.ofBits, Ideal.ieee]
theorem one_literal : Ideal.ofBits .f32 1065353216#32 = 1 := by
  simp [Ideal.ofBits, Ideal.ieee, -EReal.coe_mul]
  norm_num

/-! ## On real numbers -/

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem scale_real : IsReal scale := by
  unfold scale
  simp only [Ideal.ofBits, Ideal.ieee]
  split_ifs with h
  all_goals first | exact absurd h (by decide) | exact ⟨_, rfl⟩

theorem _root_.Cert.ConvGrad.IsReal.neg {x : EReal} : IsReal x → IsReal (-x)
  | ⟨a, ha⟩ => ⟨-a, by rw [ha]; norm_cast⟩

theorem _root_.Cert.ConvGrad.IsReal.sub {x y : EReal} : IsReal x → IsReal y → IsReal (x - y)
  | ⟨a, ha⟩, ⟨b, hb⟩ => ⟨a - b, by rw [ha, hb]; norm_cast⟩

theorem rotQ_real {q : Rows 192} {cs sn : Table} (hq : ∀ y, IsReal (q y)) (hc : ∀ y, IsReal (cs y)) (hs : ∀ y, IsReal (sn y))
    (h : Fin 16) (n : Fin 4096) (d : Fin 192) : IsReal (rotQ q cs sn h n d) := by
  unfold rotQ
  split_ifs
  · exact hq _
  · exact ((hq _).mul (hc _)).sub ((hq _).mul (hs _))
  · exact ((hq _).mul (hc _)).add ((hq _).mul (hs _))

section Real

variable {R : Fin 16 → Fin 4096 → Fin 192 → EReal} {K : Rows 192} {U : Rows 128} {D : Joined}
  {r κ : Fin 16 → Fin 4096 → Fin 192 → ℝ} {u : Fin 16 → Fin 4096 → Fin 128 → ℝ} {δ : Fin 4096 → Fin 2048 → ℝ} {a : ℝ}
  (hR : ∀ h n d, R h n d = r h n d) (hK : ∀ h n d, K (ix3 h n d) = κ h n d) (hU : ∀ h n e, U (ix3 h n e) = u h n e)
  (hD : ∀ n c, D (ix2 n c) = δ n c) (ha : scale = a)

/-- The score before the mask, and the gradient of a probability, as real numbers. -/
def sR (r κ : Fin 16 → Fin 4096 → Fin 192 → ℝ) (a : ℝ) (h : Fin 16) (n k : Fin 4096) : ℝ := (∑ d : Fin 192, r h n d * κ h k d) * a
def gR (u : Fin 16 → Fin 4096 → Fin 128 → ℝ) (δ : Fin 4096 → Fin 2048 → ℝ) (h : Fin 16) (n k : Fin 4096) : ℝ := ∑ e : Fin 128, δ n (col h e) * u h k e

include hR hK ha in
theorem score_coe (h : Fin 16) (n k : Fin 4096) : score R K h n k = if k.val ≤ n.val then (sR r κ a h n k : EReal) else ⊥ := by
  unfold score sR
  simp only [hR, hK, ha, ← EReal.coe_mul, sum_coe]

include hR hK ha in
theorem top_real (h : Fin 16) (n : Fin 4096) : IsReal (top R K h n) := by
  have hlt : top R K h n < ⊤ := (Finset.fold_max_lt _).2 ⟨bot_lt_top, fun k _ => by
    rw [score_coe hR hK ha]
    split_ifs
    · exact EReal.coe_lt_top _
    · exact bot_lt_top⟩
  have hle : (sR r κ a h n n : EReal) ≤ top R K h n :=
    (Finset.le_fold_max _).2 (Or.inr ⟨n, Finset.mem_univ _, by rw [score_coe hR hK ha, if_pos le_rfl]⟩)
  have hbot : top R K h n ≠ ⊥ := fun e => by
    rw [e] at hle
    exact absurd (le_bot_iff.1 hle) (EReal.coe_ne_bot _)
  exact ⟨(top R K h n).toReal, (EReal.coe_toReal hlt.ne hbot).symm⟩

/-- The exponentials and their sum, from the scores and the largest. -/
def eR (s : Fin 16 → Fin 4096 → Fin 4096 → ℝ) (t : Fin 16 → Fin 4096 → ℝ) (h : Fin 16) (n k : Fin 4096) : ℝ :=
  if k.val ≤ n.val then Real.exp (s h n k - t h n) else 0
def lR (s : Fin 16 → Fin 4096 → Fin 4096 → ℝ) (t : Fin 16 → Fin 4096 → ℝ) (h : Fin 16) (n : Fin 4096) : ℝ := ∑ k : Fin 4096, eR s t h n k

theorem lR_pos (s : Fin 16 → Fin 4096 → Fin 4096 → ℝ) (t : Fin 16 → Fin 4096 → ℝ) (h : Fin 16) (n : Fin 4096) : 0 < lR s t h n := by
  unfold lR
  refine Finset.sum_pos' (fun k _ => ?_) ⟨n, Finset.mem_univ _, ?_⟩
  · unfold eR
    split_ifs
    · exact (Real.exp_pos _).le
    · exact le_rfl
  · unfold eR
    rw [if_pos le_rfl]
    exact Real.exp_pos _

variable {t : Fin 16 → Fin 4096 → ℝ} (ht : ∀ h n, top R K h n = t h n)

include hR hK ha ht in
theorem expo_coe (h : Fin 16) (n k : Fin 4096) : expo R K h n k = eR (sR r κ a) t h n k := by
  unfold expo eR
  rw [score_coe hR hK ha, ht]
  split_ifs
  · rw [← EReal.coe_sub]
    rfl
  · rw [sub_eq_add_neg, EReal.bot_add]
    rfl

include hR hK ha ht in
theorem total_coe (h : Fin 16) (n : Fin 4096) : total R K h n = lR (sR r κ a) t h n := by
  unfold total lR
  simp only [expo_coe hR hK ha ht, sum_coe]

include hR hK ha ht in
theorem probs_coe (h : Fin 16) (n k : Fin 4096) : probs R K h n k = ((eR (sR r κ a) t h n k / lR (sR r κ a) t h n : ℝ) : EReal) := by
  unfold probs
  rw [expo_coe hR hK ha ht, total_coe hR hK ha ht, Ideal.div_coe (lR_pos _ _ _ _).ne', ← EReal.coe_mul]
  congr 1
  ring

include hU hD in
theorem dProbs_coe (h : Fin 16) (n k : Fin 4096) : dProbs U D h n k = gR u δ h n k := by
  unfold dProbs gR
  simp only [hU, hD, ← EReal.coe_mul, sum_coe]

/-- The gradient of a score before the scale: the probability times what the gradient of the probability is above its mean. -/
def dsR (s g : Fin 16 → Fin 4096 → Fin 4096 → ℝ) (t : Fin 16 → Fin 4096 → ℝ) (h : Fin 16) (n k : Fin 4096) : ℝ :=
  eR s t h n k / lR s t h n * (g h n k - ∑ j : Fin 4096, eR s t h n j / lR s t h n * g h n j)

include hR hK hU hD ha ht in
theorem dScore_coe (h : Fin 16) (n k : Fin 4096) : dScore R K U D h n k = ((dsR (sR r κ a) (gR u δ) t h n k * a : ℝ) : EReal) := by
  have hl := lR_pos (sR r κ a) t h n
  have hl2 : lR (sR r κ a) t h n * lR (sR r κ a) t h n ≠ 0 := by positivity
  unfold dScore spread dsR
  simp only [dProbs_coe hU hD, expo_coe hR hK ha ht, total_coe hR hK ha ht, ha, ← EReal.coe_mul, Ideal.div_coe hl2, Ideal.div_coe hl.ne', one_mul,
    sum_coe, ← EReal.coe_neg, ← EReal.coe_add]
  split_ifs with hk
  · have hs : (∑ j : Fin 4096, gR u δ h n j * (1 / (lR (sR r κ a) t h n * lR (sR r κ a) t h n)) * eR (sR r κ a) t h n j) =
        (∑ j : Fin 4096, eR (sR r κ a) t h n j / lR (sR r κ a) t h n * gR u δ h n j) / lR (sR r κ a) t h n := by
      rw [Finset.sum_div]
      refine Finset.sum_congr rfl fun j _ => ?_
      field_simp
    rw [hs, ← EReal.coe_mul]
    congr 2
    field_simp
    ring
  · unfold eR
    rw [if_neg hk]
    simp

/-! ## The kernel's way: from the queries over the scale, the rows' log-sums and the rows' products of gradient and output -/

variable {Q : Rows 192} {L E : Shape.Idx ⟨4, ![16, 8, 1, 512]⟩ → EReal}
  (hQ : ∀ h n d, Q (ix3 h n d) = R h n d * Ideal.div scale (Ideal.log 2))
  (hL : ∀ h n, L (ix4 h (tileOf n) 0 (inTile n)) = Ideal.div (top R K h n + Ideal.log (total R K h n)) (Ideal.log 2))
  (hE : ∀ h n, E (ix4 h (tileOf n) 0 (inTile n)) = ∑ e : Fin 128, D (ix2 n (col h e)) * ∑ k : Fin 4096, probs R K h n k * U (ix3 h k e))

theorem log_two : Ideal.log 2 = ((Real.log 2 : ℝ) : EReal) := by
  have h : (2 : EReal) = ((2 : ℝ) : EReal) := by norm_cast
  rw [h]
  exact if_neg (by norm_num)

theorem log_two_pos : 0 < Real.log 2 := Real.log_pos (by norm_num)

include hR ha hQ in
theorem query_coe (h : Fin 16) (n : Fin 4096) (d : Fin 192) : Q (ix3 h n d) = ((r h n d * (a / Real.log 2) : ℝ) : EReal) := by
  rw [hQ, log_two, hR, ha, Ideal.div_coe log_two_pos.ne', ← EReal.coe_mul, ← EReal.coe_mul]
  congr 2
  ring

include hR hK ha ht hL in
theorem lse_coe (h : Fin 16) (n : Fin 4096) :
    L (ix4 h (tileOf n) 0 (inTile n)) = (((t h n + Real.log (lR (sR r κ a) t h n)) / Real.log 2 : ℝ) : EReal) := by
  have hl : Ideal.log ((lR (sR r κ a) t h n : ℝ) : EReal) = ((Real.log (lR (sR r κ a) t h n) : ℝ) : EReal) :=
    if_neg (not_le.2 (lR_pos _ _ _ _))
  rw [hL, log_two, ht, total_coe hR hK ha ht, hl, ← EReal.coe_add, Ideal.div_coe log_two_pos.ne', ← EReal.coe_mul]
  congr 1
  ring

include hR hK ha ht hU hD hE in
theorem delta_coe (h : Fin 16) (n : Fin 4096) :
    E (ix4 h (tileOf n) 0 (inTile n)) = ((∑ j : Fin 4096, eR (sR r κ a) t h n j / lR (sR r κ a) t h n * gR u δ h n j : ℝ) : EReal) := by
  rw [hE]
  simp only [hU, hD, probs_coe hR hK ha ht, ← EReal.coe_mul, sum_coe]
  congr 1
  unfold gR
  simp only [Finset.mul_sum]
  rw [Finset.sum_comm]
  exact Finset.sum_congr rfl fun k _ => Finset.sum_congr rfl fun e _ => by ring

include hR hK ha ht hQ hL in
/-- The kernel's probability, a power of two, is the softmax's. -/
theorem seqProb_coe (h : Fin 16) (k n : Fin 4096) :
    seqProb K Q L h k n = ((eR (sR r κ a) t h n k / lR (sR r κ a) t h n : ℝ) : EReal) := by
  by_cases hk : k.val ≤ n.val
  · unfold seqProb eR
    rw [if_pos hk, if_pos hk, lse_coe hR hK ha ht hL]
    simp only [hK, query_coe hR ha hQ, ← EReal.coe_mul, sum_coe, ← EReal.coe_sub]
    refine (show Ideal.exp2 (((_ : ℝ) : EReal)) = ((Real.rpow 2 _ : ℝ) : EReal) from rfl).trans ?_
    congr 1
    rw [Real.rpow_eq_pow, Real.rpow_def_of_pos (by norm_num : (0 : ℝ) < 2), ← Real.exp_log (lR_pos (sR r κ a) t h n), ← Real.exp_sub, Real.log_exp]
    congr 1
    have hlog := log_two_pos.ne'
    have hs : (∑ d : Fin 192, κ h k d * (r h n d * (a / Real.log 2))) = sR r κ a h n k / Real.log 2 := by
      unfold sR
      rw [Finset.sum_mul, Finset.sum_div]
      exact Finset.sum_congr rfl fun d _ => by ring
    rw [hs]
    field_simp
    ring
  · rw [seqProb_masked K Q L hk]
    unfold eR
    rw [if_neg hk, zero_div]
    rfl

include hR hK hU hD ha ht hQ hL hE in
theorem seqScore_coe (h : Fin 16) (k n : Fin 4096) : seqScore K U Q D L E h k n = dsR (sR r κ a) (gR u δ) t h n k := by
  unfold seqScore dsR
  rw [seqProb_coe hR hK ha ht hQ hL, delta_coe hR hK hU hD ha ht hE]
  have hg : (∑ e : Fin 128, U (ix3 h k e) * D (ix2 n (col h e))) = gR u δ h n k := by
    rw [← dProbs_coe hU hD]
    exact Finset.sum_congr rfl fun e _ => mul_comm _ _
  rw [hg, ← EReal.coe_sub, ← EReal.coe_mul]

include hR hK hD ha ht hQ hL in
theorem value_eq (h : Fin 16) (k : Fin 4096) (e : Fin 128) : seqDv K Q D L h k e = dVal R K D h k e := by
  unfold seqDv dVal
  exact Finset.sum_congr rfl fun n _ => by rw [seqProb_coe hR hK ha ht hQ hL, probs_coe hR hK ha ht, mul_comm]

include hR hK hU hD ha ht hQ hL hE in
theorem key_eq (h : Fin 16) (k : Fin 4096) (d : Fin 192) :
    seqDk K U Q D L E h k d * ((Real.log 2 : ℝ) : EReal) = dKey R K U D h k d := by
  unfold seqDk dKey
  simp only [seqScore_coe hR hK hU hD ha ht hQ hL hE, dScore_coe hR hK hU hD ha ht, query_coe hR ha hQ, hR, ← EReal.coe_mul, sum_coe]
  congr 1
  rw [Finset.sum_mul]
  have := log_two_pos.ne'
  exact Finset.sum_congr rfl fun n _ => by field_simp

include hR hK hU hD ha ht hQ hL hE in
theorem query_scaled (h : Fin 16) (n : Fin 4096) (d : Fin 192) : seqDq K U Q D L E h n d * scale = dRot R K U D h n d := by
  unfold seqDq dRot
  simp only [seqScore_coe hR hK hU hD ha ht hQ hL hE, dScore_coe hR hK hU hD ha ht, hK, ha, ← EReal.coe_mul, sum_coe]
  congr 1
  rw [Finset.sum_mul]
  exact Finset.sum_congr rfl fun n _ => by ring

include hR hK hU hD ha ht in
theorem dRot_real (h : Fin 16) (n : Fin 4096) (d : Fin 192) : IsReal (dRot R K U D h n d) := by
  refine IsReal.sum _ _ fun k => ?_
  rw [dScore_coe hR hK hU hD ha ht, hK]
  exact IsReal.mul ⟨_, rfl⟩ ⟨_, rfl⟩

end Real

/-! ## Turning back -/

theorem threeParts_swap {m : Fin 64 → EReal} (hm : ∀ f, IsReal (m f)) (e : Fin 64) (f' : Fin 64) (hf : f'.val = (e.val + 32) % 64) :
    threeParts m (fun f => if f.val = (e.val + 32) % 64 then 1 else 0) = m f' := by
  have h0 : ∀ f, m f - m f = 0 := fun f => by
    obtain ⟨x, hx⟩ := hm f
    rw [hx, ← EReal.coe_sub, sub_self]
    rfl
  unfold threeParts
  simp only [h0, zero_mul, sub_zero, Finset.sum_const_zero, ite_self, add_zero, mul_ite, mul_one, mul_zero]
  rw [Finset.sum_eq_single f' (fun f _ hne => if_neg fun hc => hne (Fin.ext (hc.trans hf.symm))) (fun hn => absurd (Finset.mem_univ _) hn), if_pos hf]

/-- The kernel's turn by a product with the permutation is the rotation's transpose. -/
theorem turned_eq {A B : Fin 192 → EReal} {cs sn : Table} (hB : ∀ d, A d * scale = B d) (hBr : ∀ d, IsReal (B d))
    (hc : ∀ y, IsReal (cs y)) (hs : ∀ y, IsReal (sn y)) (n : Fin 4096) {C S : Fin 64 → EReal} {P : Fin 64 → Fin 64 → EReal}
    (hC : ∀ e : Fin 64, C e = if h : e.val < 32 then cs (ix2 n ⟨e.val, h⟩) else cs (ix2 n ⟨e.val - 32, by omega⟩))
    (hS : ∀ e : Fin 64, S e = if h : e.val < 32 then -sn (ix2 n ⟨e.val, h⟩) else sn (ix2 n ⟨e.val - 32, by omega⟩))
    (hP : ∀ f e : Fin 64, P f e = if f.val = (e.val + 32) % 64 then 1 else 0) (d : Fin 192) :
    turned A C S P d = turnBack B cs sn n d := by
  unfold turned turnBack
  split_ifs with h1 h2
  · exact hB d
  · have hSr : ∀ f, IsReal (B ⟨128 + f.val, by omega⟩ * S f) := fun f => by
      rw [hS]
      refine (hBr _).mul ?_
      split_ifs
      · exact (hs _).neg
      · exact hs _
    simp only [hB, hP]
    rw [threeParts_swap hSr ⟨d.val - 128, by omega⟩ ⟨32 + (d.val - 128), by omega⟩ (by simp only; omega), hC, hS, dif_pos h2,
      dif_neg (by simp only; omega), add_comm]
    congr 2
    · exact congrArg (fun z => sn (ix2 n z)) (Fin.ext (by simp only; omega))
    · exact congrArg B (Fin.ext (by simp only; omega))
  · have hSr : ∀ f, IsReal (B ⟨128 + f.val, by omega⟩ * S f) := fun f => by
      rw [hS]
      refine (hBr _).mul ?_
      split_ifs
      · exact (hs _).neg
      · exact hs _
    simp only [hB, hP]
    rw [threeParts_swap hSr ⟨d.val - 128, by omega⟩ ⟨d.val - 128 - 32, by omega⟩ (by simp only; omega), hC, hS, dif_neg h2,
      dif_pos (by simp only; omega), EReal.neg_mul, mul_neg]
    congr 2
    exact congrArg B (Fin.ext (by simp only; omega))

end Cert.AttnGrad
-- ==== Proof.AHost.lean ====
/-
  What the host hands the attention's gradient, entry by entry.
-/
module

public import proofs.«01_k».proof.Proof.AArr
public import proofs.«01_k».proof.Proof.AGrad
public import Idealize.ShloMosaic.Lib.StableHlo.RunRead
public import Idealize.ShloMosaic.Lib.Pipeline.ValueKit
public import Idealize.ShloMosaic.Lib.Pointwise

set_option maxRecDepth 16384
set_option maxHeartbeats 1000000

@[expose] public noncomputable section

namespace Cert.AttnIdeal.Tile

open Cert.AttnIdeal Cert.AttnIdeal.Gen Cert.AttnIdeal.Run Cert.AttnGrad
open Idealize.ShloMosaic Idealize.ShloMosaic.TcCoe Idealize.SL.Sem
variable (m : (ℓ : Loc nD τ sig) → Buf (Elt Ideal) ℓ) (c : Dev nD)

/-! ## The arguments as launched -/

abbrev argQ : FVec Ideal S16x4096x192 .f32 := m ((c : Thread nD τ).loc main_arg0)
abbrev argK : FVec Ideal S16x4096x192 .bf16 := m ((c : Thread nD τ).loc main_arg1)
abbrev argU : FVec Ideal S16x4096x128 .bf16 := m ((c : Thread nD τ).loc main_arg2)
abbrev argD : FVec Ideal S4096x2048 .bf16 := m ((c : Thread nD τ).loc main_arg3)
abbrev argC : FVec Ideal S4096x32 .f32 := m ((c : Thread nD τ).loc main_arg4)
abbrev argS : FVec Ideal S4096x32 .f32 := m ((c : Thread nD τ).loc main_arg5)

/-! ## The rotation's tables -/

theorem cosines (n : Fin 4096) (e : Fin 64) :
    arrC m c (ix2 n e) = if h : e.val < 32 then argC m c (ix2 n ⟨e.val, h⟩) else argC m c (ix2 n ⟨e.val - 32, by omega⟩) := by
  have h0 : arrC m c = concatenate S4096x64 1 [⟨S4096x32, argC m c⟩, ⟨S4096x32, argC m c⟩] concatenates_S4096x32_S4096x32_S4096x64_d1 := by
    unfold arrC
    after_reads_simp
    rfl
  rw [h0]
  generalize argC m c = x
  pointwise

theorem sines (n : Fin 4096) (e : Fin 64) :
    arrS m c (ix2 n e) = if h : e.val < 32 then -argS m c (ix2 n ⟨e.val, h⟩) else argS m c (ix2 n ⟨e.val - 32, by omega⟩) := by
  have h0 : arrS m c = concatenate S4096x64 1 [⟨S4096x32, (Host.negf (argS m c) : FVec Ideal S4096x32 .f32)⟩, ⟨S4096x32, argS m c⟩] concatenates_S4096x32_S4096x32_S4096x64_d1 := by
    unfold arrS
    after_reads_simp
    rfl
  rw [h0]
  generalize argS m c = x
  pointwise

/-- The column 32 further on, modulo 64. -/
def shifted : IVec S1x64 32 := V m c main_v8

/-- The remainder's sign correction, of a column moved on by 32. -/
def divisor : IVec S_ 32 := select (cmpi .eq (constantI S_ 32 64#32) (constantI S_ 32 0#32)) (constantI S_ 32 1#32) (constantI S_ 32 64#32)
def remainder : IVec S1x64 32 :=
  Host.remsi (addi (broadcastInDim S1x64 ![1] bcast_S64_S1x64_1 (iotaInDim S64 32 0)) (broadcastInDim S1x64 ![] bcast_S_S1x64 (constantI S_ 32 32#32)))
    (broadcastInDim S1x64 ![] bcast_S_S1x64 divisor)

theorem shifted_eq : shifted m c =
    select (andi (cmpi .ne (cmpi .slt remainder (broadcastInDim S1x64 ![] bcast_S_S1x64 (constantI S_ 32 0#32)))
        (broadcastInDim S1x64 ![] bcast_S_S1x64 (cmpi .slt divisor (constantI S_ 32 0#32))))
        (cmpi .ne remainder (broadcastInDim S1x64 ![] bcast_S_S1x64 (constantI S_ 32 0#32))))
      (addi remainder (broadcastInDim S1x64 ![] bcast_S_S1x64 divisor)) remainder := by
  unfold shifted remainder divisor
  after_reads_simp
  simp only [StableHlo.TRef.ofBuf_toBuf]
  rfl

theorem shifted_at (e : Fin 64) : shifted m c (ix2 0 e) = BitVec.ofNat 32 ((e.val + 32) % 64) := by
  rw [shifted_eq]
  pointwise [remainder, divisor]
  revert e
  decide

theorem flag_one : FloatOps.uitofp (F := Ideal) FTy.f32 1#1 = 1 := by
  show (((1#1).toNat : ℝ) : EReal) = 1
  norm_num
theorem flag_zero : FloatOps.uitofp (F := Ideal) FTy.f32 0#1 = 0 := by
  show (((0#1).toNat : ℝ) : EReal) = 0
  norm_num

theorem permutation (f e : Fin 64) : arrP m c (ix2 f e) = if f.val = (e.val + 32) % 64 then 1 else 0 := by
  have h0 : arrP m c = (uitofp .f32 (cmpi .eq (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (shifted m c))) : FVec Ideal S64x64 .f32) := by
    unfold arrP shifted
    after_reads_simp
  rw [h0]
  pointwise
  rw [shifted_at]
  by_cases hf : f.val = (e.val + 32) % 64
  · rw [if_pos hf, hf]
    simp only [IntOp.cmpi, BEq.rfl, BitVec.ofBool_true]
    exact flag_one
  · rw [if_neg hf]
    have hne : (BitVec.ofNat 32 f.val == BitVec.ofNat 32 ((e.val + 32) % 64)) = false := by
      rw [beq_eq_false_iff_ne]
      intro hc
      have := congrArg BitVec.toNat hc
      have := f.isLt
      simp only [BitVec.toNat_ofNat] at *
      omega
    simp only [IntOp.cmpi, hne, BitVec.ofBool_false]
    exact flag_zero

/-! ## The forward's rows -/

def rotA : FVec Ideal S16x4096x192 .f32 := V m c main_v32
def scoreA : FVec Ideal S16x4096x4096 .f32 := V m c main_v41
def topA : FVec Ideal S16x4096 .f32 := V m c main_v42
def expoA : FVec Ideal S16x4096x4096 .f32 := V m c main_v46
def totalA : FVec Ideal S16x4096 .f32 := V m c main_v47
def outA : FVec Ideal S16x4096x128 .f32 := V m c main_v51

theorem rotA_at (h : Fin 16) (n : Fin 4096) (d : Fin 192) : rotA m c (ix3 h n d) = rotQ (argQ m c) (argC m c) (argS m c) h n d := by
  unfold rotA
  after_reads_simp
  pointwise
  after_reads_simp
  pointwise
  rfl

theorem scoreA_at (h : Fin 16) (n k : Fin 4096) :
    scoreA m c (ix3 h n k) = score (rotQ (argQ m c) (argC m c) (argS m c)) (argK m c) h n k := by
  have h0 : scoreA m c = select (broadcastInDim S16x4096x4096 ![1, 2] bcast_S4096x4096_S16x4096x4096_1_2 (cmpi .sle (iotaInDim S4096x4096 32 1) (iotaInDim S4096x4096 32 0)))
      (mulf (Host.dotGeneral dot_S16x4096x192_S16x4096x192_S16x4096x4096_2_2_1_1_0_0 none (rotA m c) ((extf .f32 · bitsLt_bf16_f32) (argK m c)))
        (broadcastInDim S16x4096x4096 ![] bcast_S_S16x4096x4096 (constant S_ .f32 0x3D93CD3A#32)))
      (broadcastInDim S16x4096x4096 ![] bcast_S_S16x4096x4096 (constant S_ .f32 0xFF800000#32)) := by
    unfold scoreA rotA
    after_reads_simp
    simp only [StableHlo.TRef.ofBuf_toBuf]
    rfl
  rw [h0]
  pointwise
  simp only [rotA_at]
  unfold Scalar.select score
  rw [if_congr (sle_positions k n) rfl rfl]
  split_ifs
  · rfl
  · exact neg_infinity

section Rows

variable (h : Fin 16) (n : Fin 4096)

theorem topA_at : topA m c (ix2 h n) = top (rotQ (argQ m c) (argC m c) (argS m c)) (argK m c) h n := by
  have h0 : topA m c = Host.reduce FloatOps.maximumf (scoreA m c) (constant S_ .f32 0xFF800000#32) reducesTo_S16x4096x4096_S16x4096_d2 h_S_ := by
    unfold topA scoreA
    after_reads_simp
  have hf : (fun x => scoreA m c (ix3 h n x)) = fun x => score (rotQ (argQ m c) (argC m c) (argS m c)) (argK m c) h n x :=
    funext fun x => scoreA_at m c h n x
  rw [h0]
  pointwise
  exact congrArg₂ (fun b f => Finset.fold max b f Finset.univ) neg_infinity hf

theorem expoA_at (k : Fin 4096) : expoA m c (ix3 h n k) = expo (rotQ (argQ m c) (argC m c) (argS m c)) (argK m c) h n k := by
  have h0 : expoA m c = Host.exp (subf (scoreA m c) (broadcastInDim S16x4096x4096 ![0, 1, 2] bcast_S16x4096x1_S16x4096x4096_0_1_2
      (broadcastInDim S16x4096x1 ![0, 1] bcast_S16x4096_S16x4096x1_0_1 (topA m c)))) := by
    unfold expoA topA scoreA
    after_reads_simp
  rw [h0]
  pointwise
  rw [scoreA_at, topA_at]
  rfl

theorem totalA_at : totalA m c (ix2 h n) = total (rotQ (argQ m c) (argC m c) (argS m c)) (argK m c) h n := by
  have h0 : totalA m c = Host.reduceAdd (expoA m c) (constant S_ .f32 0x00000000#32) reducesTo_S16x4096x4096_S16x4096_d2 h_S_ := by
    unfold totalA expoA
    after_reads_simp
  rw [h0]
  pointwise
  simp only [expoA_at]
  rfl

theorem outA_at (e : Fin 128) : outA m c (ix3 h n e) =
    ∑ k : Fin 4096, probs (rotQ (argQ m c) (argC m c) (argS m c)) (argK m c) h n k * argU m c (ix3 h k e) := by
  have h0 : outA m c = Host.dotGeneral dot_S16x4096x4096_S16x4096x128_S16x4096x128_2_1_1_2_0_0 none
      (Host.divf (expoA m c) (broadcastInDim S16x4096x4096 ![0, 1, 2] bcast_S16x4096x1_S16x4096x4096_0_1_2
        (broadcastInDim S16x4096x1 ![0, 1] bcast_S16x4096_S16x4096x1_0_1 (totalA m c)))) ((extf .f32 · bitsLt_bf16_f32) (argU m c)) := by
    unfold outA expoA totalA
    after_reads_simp
  rw [h0]
  pointwise
  simp only [expoA_at, totalA_at]
  rfl

/-! ## What the gradient is handed -/

theorem two_literal : Ideal.ofBits .f32 1073741824#32 = 2 := by
  simp [Ideal.ofBits, Ideal.ieee, -EReal.coe_mul]
  norm_num
  norm_cast

theorem handed_query (d : Fin 192) :
    arrQ m c (ix3 h n d) = rotQ (argQ m c) (argC m c) (argS m c) h n d * Ideal.div scale (Ideal.log 2) := by
  have h0 : arrQ m c = (truncf .bf16 (mulf (rotA m c) (broadcastInDim S16x4096x192 ![] bcast_S_S16x4096x192
      (Host.divf (constant S_ .f32 0x3D93CD3A#32) (Host.log (constant S_ .f32 0x40000000#32))))) bitsLt_bf16_f32 : FVec Ideal S16x4096x192 .bf16) := by
    unfold arrQ rotA
    after_reads_simp
    rfl
  rw [h0]
  pointwise
  rw [rotA_at, two_literal]
  rfl

theorem place (n : Fin 4096) : (⟨(tileOf n).val * 512 + (inTile n).val, by simp only [tileOf, inTile]; omega⟩ : Fin 4096) = n :=
  Fin.ext (by simp only [tileOf, inTile]; omega)

def lseA : FVec Ideal S16x4096 .f32 := V m c main_v68
def liftedA : FVec Ideal S16x4096 .f32 := V m c main_v64
def ln2A : FVec Ideal S16x4096 .f32 := V m c main_v67

theorem ln2A_at : ln2A m c (ix2 h n) = Ideal.log 2 := by
  have h0 : ln2A m c = broadcastInDim S16x4096 ![] bcast_S_S16x4096 (id (Host.log (constant S_ .f32 0x40000000#32) : FVec Ideal S_ .f32)) := by
    unfold ln2A
    after_reads_simp
  rw [h0]
  pointwise
  exact congrArg Ideal.log two_literal

theorem lifted_at (a b : FVec Ideal S16x4096 .f32) (y : S16x4096.Idx) : addf a (Host.log b) y = a y + Ideal.log (b y) := rfl
theorem quotient_at (a b : FVec Ideal S16x4096 .f32) (y : S16x4096.Idx) : Host.divf a b y = Ideal.div (a y) (b y) := rfl

theorem liftedA_at : liftedA m c (ix2 h n) =
    top (rotQ (argQ m c) (argC m c) (argS m c)) (argK m c) h n + Ideal.log (total (rotQ (argQ m c) (argC m c) (argS m c)) (argK m c) h n) := by
  have h0 : liftedA m c = addf (topA m c) (Host.log (totalA m c)) := by
    unfold liftedA topA totalA
    after_reads_simp
  rw [h0, lifted_at, topA_at, totalA_at]

theorem lseA_at : lseA m c (ix2 h n) =
    Ideal.div (top (rotQ (argQ m c) (argC m c) (argS m c)) (argK m c) h n + Ideal.log (total (rotQ (argQ m c) (argC m c) (argS m c)) (argK m c) h n))
      (Ideal.log 2) := by
  have h0 : lseA m c = Host.divf (liftedA m c) (ln2A m c) := by
    unfold lseA liftedA ln2A
    after_reads_simp
  rw [h0, quotient_at, liftedA_at, ln2A_at]

theorem handed_lse : arrL m c (ix4 h (tileOf n) 0 (inTile n)) =
    Ideal.div (top (rotQ (argQ m c) (argC m c) (argS m c)) (argK m c) h n + Ideal.log (total (rotQ (argQ m c) (argC m c) (argS m c)) (argK m c) h n))
      (Ideal.log 2) := by
  have h0 : arrL m c = (shapeCast _ (lseA m c) shapeCasts_S16x4096_S16x8x1x512 : FVec Ideal S16x8x1x512 .f32) := by
    unfold arrL lseA
    after_reads_simp
    rfl
  rw [h0]
  pointwise
  rw [place n, lseA_at]

def deltaA : FVec Ideal S16x4096 .f32 := V m c main_v56
def cotA : FVec Ideal S16x4096x128 .f32 := V m c main_v54

theorem cotA_at (e : Fin 128) : cotA m c (ix3 h n e) = argD m c (ix2 n (col h e)) := by
  have h0 : cotA m c = transpose S16x4096x128 [1, 0, 2] (shapeCast _ (extf .f32 (argD m c) bitsLt_bf16_f32 : FVec Ideal S4096x2048 .f32) shapeCasts_S4096x2048_S4096x16x128)
      transposes_S4096x16x128_S16x4096x128_1_0_2 := by
    unfold cotA
    after_reads_simp
    rfl
  rw [h0]
  pointwise
  exact congrArg (fun z => argD m c (ix2 n z)) (Fin.ext (by simp only [col]; omega))

theorem deltaA_at : deltaA m c (ix2 h n) =
    ∑ e : Fin 128, argD m c (ix2 n (col h e)) * ∑ k : Fin 4096, probs (rotQ (argQ m c) (argC m c) (argS m c)) (argK m c) h n k * argU m c (ix3 h k e) := by
  have h0 : deltaA m c = Host.reduceAdd (mulf (cotA m c) (outA m c)) (constant S_ .f32 0x00000000#32) reducesTo_S16x4096x128_S16x4096_d2 h_S_ := by
    unfold deltaA cotA outA
    after_reads_simp
  rw [h0]
  pointwise
  simp only [outA_at, cotA_at]

theorem handed_delta : arrE m c (ix4 h (tileOf n) 0 (inTile n)) =
    ∑ e : Fin 128, argD m c (ix2 n (col h e)) * ∑ k : Fin 4096, probs (rotQ (argQ m c) (argC m c) (argS m c)) (argK m c) h n k * argU m c (ix3 h k e) := by
  have h0 : arrE m c = (shapeCast _ (deltaA m c) shapeCasts_S16x4096_S16x8x1x512 : FVec Ideal S16x8x1x512 .f32) := by
    unfold arrE deltaA
    after_reads_simp
    rfl
  rw [h0]
  pointwise
  rw [place n, deltaA_at]

end Rows

end Cert.AttnIdeal.Tile
-- ==== Proof.ARef.lean ====
/-
  The attention reference's three results, entry by entry.
-/
module

public import proofs.«01_k».proof.Proof.Gen.AttnRefIdeal.Read
public import proofs.«01_k».proof.Proof.AGrad
public import Idealize.ShloMosaic.Lib.Pipeline.ValueKit
public import Idealize.ShloMosaic.Lib.Pointwise

set_option maxRecDepth 16384

@[expose] public noncomputable section

namespace Cert.AttnRefIdeal.Value

open Cert.AttnRefIdeal Cert.AttnRefIdeal.Gen Cert.AttnRefIdeal.Read Cert.AttnGrad
open Idealize.ShloMosaic Idealize.ShloMosaic.TcCoe Idealize.SL.Sem
open Cert.AttnIdeal.Tile (scale col)

variable (x0 : (⟨S16x4096x192, .f32⟩ : BufTy).Contents (Elt Ideal)) (x1 : (⟨S16x4096x192, .bf16⟩ : BufTy).Contents (Elt Ideal))
  (x2 : (⟨S16x4096x128, .bf16⟩ : BufTy).Contents (Elt Ideal)) (x3 : (⟨S4096x2048, .bf16⟩ : BufTy).Contents (Elt Ideal))
  (x4 x5 : (⟨S4096x32, .f32⟩ : BufTy).Contents (Elt Ideal)) (h : Fin 16) (n k : Fin 4096)

theorem ref_rot (d : Fin 192) : val_main_v24 (F := Ideal) x0 x4 x5 (ix3 h n d) = rotQ x0 x4 x5 h n d := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  rfl

theorem ref_score : val_main_v31_0 (F := Ideal) x0 x1 x4 x5 (ix3 h n k) = score (rotQ x0 x4 x5) x1 h n k := by
  pointwise [val_main_v31_0, val_main_v31_1, val_main_v27, val_main_v26, val_main_v25, val_main_v30, val_main_v29, val_main_v28, val_main_v3, val_main_cst, val_main_cst_0, val_main_call0_v0, val_main_call0_v2]
  simp only [ref_rot]
  unfold Scalar.select score
  rw [if_congr (sle_positions k n) rfl rfl]
  split_ifs
  · rfl
  · exact neg_infinity

theorem ref_max : val_main_v32 (F := Ideal) x0 x1 x4 x5 (ix2 h n) = top (rotQ x0 x4 x5) x1 h n := by
  have hb : val_main_cst_1 (F := Ideal) (Shape.Idx.first h_S_) = ⊥ :=
    (show val_main_cst_1 (F := Ideal) (Shape.Idx.first h_S_) = Ideal.ofBits .f32 4286578688#32 from rfl).trans neg_infinity
  have hf : (fun x => val_main_v31_0 (F := Ideal) x0 x1 x4 x5 (ix3 h n x)) = fun x => score (rotQ x0 x4 x5) x1 h n x := funext fun x => ref_score x0 x1 x4 x5 h n x
  pointwise [val_main_v32]
  exact congrArg₂ (fun b f => Finset.fold max b f Finset.univ) hb hf

theorem ref_floor : val_main_v38 (F := Ideal) (ix2 h n) = Ideal.ofBits .f32 4286578688#32 := by
  pointwise [val_main_v38, val_main_cst_3]

theorem ref_top : val_main_v39 (F := Ideal) x0 x1 x4 x5 (ix2 h n) = top (rotQ x0 x4 x5) x1 h n := by
  unfold val_main_v39
  rw [maximumf_apply, ref_floor, neg_infinity, ref_max]
  exact max_eq_right bot_le

theorem ref_expo : val_main_v52 (F := Ideal) x0 x1 x4 x5 (ix3 h n k) = expo (rotQ x0 x4 x5) x1 h n k := by
  pointwise [val_main_v52, val_main_v51, val_main_v50, val_main_v49]
  rw [ref_score, ref_top]
  rfl

theorem ref_total : val_main_v53 (F := Ideal) x0 x1 x4 x5 (ix2 h n) = total (rotQ x0 x4 x5) x1 h n := by
  pointwise [val_main_v53, val_main_cst_9]
  simp only [ref_expo]
  rfl

theorem ref_probs : val_main_v56 (F := Ideal) x0 x1 x4 x5 (ix3 h n k) = probs (rotQ x0 x4 x5) x1 h n k := by
  pointwise [val_main_v56, val_main_v55, val_main_v54]
  rw [ref_expo, ref_total]
  rfl

theorem ref_cot (e : Fin 128) : val_main_v2 (F := Ideal) x3 (ix3 h n e) = x3 (ix2 n (col h e)) := by
  pointwise [val_main_v2, val_main_v1, val_main_v0]
  exact congrArg (fun z => x3 (ix2 n z)) (Fin.ext (by simp only [col]; omega))

theorem ref_dprobs : val_main_v63 (F := Ideal) x2 x3 (ix3 h n k) = dProbs x2 x3 h n k := by
  pointwise [val_main_v63, val_main_v4]
  simp only [ref_cot]
  rfl

theorem ref_spread : val_main_v67 (F := Ideal) x0 x1 x2 x3 x4 x5 (ix2 h n) = spread (rotQ x0 x4 x5) x1 x2 x3 h n := by
  pointwise [val_main_v67, val_main_v66, val_main_v65, val_main_v64, val_main_v59, val_main_v58, val_main_v57, val_main_v54, val_main_cst_10, val_main_cst_11]
  simp only [ref_dprobs, ref_expo, ref_total]
  rfl

theorem ref_dscore : val_main_v78 (F := Ideal) x0 x1 x2 x3 x4 x5 (ix3 h n k) = dScore (rotQ x0 x4 x5) x1 x2 x3 h n k := by
  pointwise [val_main_v78, val_main_v77, val_main_v76, val_main_v75, val_main_v74, val_main_v73, val_main_v72, val_main_v71, val_main_v70, val_main_v69, val_main_v68, val_main_v54, val_main_v31_1, val_main_v27, val_main_v26, val_main_v25, val_main_call1_v0, val_main_call1_cst, val_main_cst_12, val_main_cst_13]
  rw [ref_dprobs, ref_total, ref_spread, ref_expo]
  unfold Scalar.select dScore
  rw [if_congr (sle_positions k n) rfl rfl]
  split_ifs
  · simp only [Finset.univ_unique, Finset.sum_singleton]
    rfl
  · rw [zero_mul]

theorem ref_dkey (d : Fin 192) : val_main_v79 (F := Ideal) x0 x1 x2 x3 x4 x5 (ix3 h k d) = dKey (rotQ x0 x4 x5) x1 x2 x3 h k d := by
  pointwise [val_main_v79]
  simp only [ref_dscore, ref_rot]
  rfl

theorem ref_drot (d : Fin 192) : val_main_v80 (F := Ideal) x0 x1 x2 x3 x4 x5 (ix3 h n d) = dRot (rotQ x0 x4 x5) x1 x2 x3 h n d := by
  pointwise [val_main_v80, val_main_v3]
  simp only [ref_dscore]
  rfl

theorem ref_dval (e : Fin 128) : val_main_v62 (F := Ideal) x0 x1 x3 x4 x5 (ix3 h k e) = dVal (rotQ x0 x4 x5) x1 x3 h k e := by
  pointwise [val_main_v62, val_main_v61]
  simp only [ref_probs, ref_cot]
  rfl

theorem ref_back_low (e : Fin 32) : val_main_v95 (F := Ideal) x0 x1 x2 x3 x4 x5 (ix3 h n e) =
    dRot (rotQ x0 x4 x5) x1 x2 x3 h n ⟨128 + (32 + e.val), by omega⟩ * x5 (ix2 n e) +
      dRot (rotQ x0 x4 x5) x1 x2 x3 h n ⟨128 + e.val, by omega⟩ * x4 (ix2 n e) := by
  rw [← ref_drot, ← ref_drot]
  pointwise [val_main_v95, val_main_v94, val_main_v93, val_main_v86, val_main_v85, val_main_v84, val_main_v83, val_main_v82, val_main_v19, val_main_v9]

theorem ref_back_high (e : Fin 32) : val_main_v92 (F := Ideal) x0 x1 x2 x3 x4 x5 (ix3 h n e) =
    dRot (rotQ x0 x4 x5) x1 x2 x3 h n ⟨128 + (32 + e.val), by omega⟩ * x4 (ix2 n e) +
      -dRot (rotQ x0 x4 x5) x1 x2 x3 h n ⟨128 + e.val, by omega⟩ * x5 (ix2 n e) := by
  rw [← ref_drot, ← ref_drot]
  pointwise [val_main_v92, val_main_v91, val_main_v90, val_main_v89, val_main_v88, val_main_v87, val_main_v84, val_main_v83, val_main_v82, val_main_v16, val_main_v12]

theorem ref_back (e : Fin 64) : val_main_v98 (F := Ideal) x0 x1 x2 x3 x4 x5 (ix3 h n e) =
    if h2 : e.val < 32 then val_main_v95 (F := Ideal) x0 x1 x2 x3 x4 x5 (ix3 h n ⟨e.val, h2⟩)
    else val_main_v92 (F := Ideal) x0 x1 x2 x3 x4 x5 (ix3 h n ⟨e.val - 32, by omega⟩) := by
  pointwise [val_main_v98, val_main_v97, val_main_v96, val_main_cst_15, val_main_cst_14]
  by_cases h2 : e.val < 32
  · have h4 : ¬(32 ≤ e.val ∧ e.val - 32 < 32) := by omega
    simp only [dif_pos h2, dif_neg h4, zero_add]
  · have h4 : 32 ≤ e.val ∧ e.val - 32 < 32 := by omega
    simp only [dif_neg h2, dif_pos h4, add_zero]

theorem ref_padded (d : Fin 192) : val_main_v108 (F := Ideal) x0 x1 x2 x3 x4 x5 (ix3 h n d) =
    if h1 : d.val < 128 then val_main_v80 (F := Ideal) x0 x1 x2 x3 x4 x5 (ix3 h n d)
    else val_main_v98 (F := Ideal) x0 x1 x2 x3 x4 x5 (ix3 h n ⟨d.val - 128, by omega⟩) := by
  pointwise [val_main_v108, val_main_v101, val_main_v100, val_main_v99, val_main_v81, val_main_cst_17, val_main_cst_16]
  by_cases h1 : d.val < 128
  · have h3 : ¬(128 ≤ d.val ∧ d.val - 128 < 64) := by omega
    simp only [dif_pos h1, dif_neg h3, zero_add]
  · have h3 : 128 ≤ d.val ∧ d.val - 128 < 64 := by omega
    simp only [dif_neg h1, dif_pos h3, add_zero]

theorem ref_dq (d : Fin 192) : val_main_v108 (F := Ideal) x0 x1 x2 x3 x4 x5 (ix3 h n d) =
    turnBack (dRot (rotQ x0 x4 x5) x1 x2 x3 h n) x4 x5 n d := by
  rw [ref_padded]
  unfold turnBack
  by_cases h1 : d.val < 128
  · rw [dif_pos h1, dif_pos h1, ref_drot]
  · rw [dif_neg h1, dif_neg h1, ref_back]
    by_cases h2 : d.val - 128 < 32
    · rw [dif_pos h2]
      refine Eq.trans ?_ (dif_pos h2).symm
      exact ref_back_low x0 x1 x2 x3 x4 x5 h n ⟨d.val - 128, h2⟩
    · rw [dif_neg h2]
      refine Eq.trans ?_ (dif_neg h2).symm
      exact ref_back_high x0 x1 x2 x3 x4 x5 h n ⟨d.val - 128 - 32, by omega⟩

set_option maxHeartbeats 2000000 in
theorem ref_dkv (e : Fin 4096) : val_main_v106 (F := Ideal) x0 x1 x2 x3 x4 x5 (ix2 n e) =
    if h : e.val % 256 < 128 then dKey (rotQ x0 x4 x5) x1 x2 x3 ⟨e.val / 256, by omega⟩ n ⟨e.val % 256, by omega⟩
    else dVal (rotQ x0 x4 x5) x1 x3 ⟨e.val / 256, by omega⟩ n ⟨e.val % 256 - 128, by omega⟩ := by
  pointwise [val_main_v106, val_main_v105, val_main_v104, val_main_v103, val_main_v102]
  by_cases hq : e.val % 256 < 128
  · rw [dif_pos hq, dif_pos hq]
    exact ref_dkey _ _ _ _ _ _ _ _ _
  · rw [dif_neg hq, dif_neg hq]
    exact ref_dval _ _ _ _ _ _ _ _

theorem ref_dkr (e : Fin 64) : val_main_v107 (F := Ideal) x0 x1 x2 x3 x4 x5 (ix3 h k e) =
    dKey (rotQ x0 x4 x5) x1 x2 x3 h k ⟨128 + e.val, by omega⟩ := by
  pointwise [val_main_v107]
  simp only [ref_dkey]

end Cert.AttnRefIdeal.Value
-- ==== Proof.AAgree.lean ====
/-
  The gradient of the attention: kernel and reference end with the same three arrays.
-/
module

public import proofs.«01_k».proof.Proof.AHost
public import proofs.«01_k».proof.Proof.ARef
public import proofs.«01_k».proof.Pre_attention_finite
public import proofs.«01_k».proof.Defs

set_option maxRecDepth 16384

@[expose] public noncomputable section

namespace Cert.Pre_attention_finite

open Idealize.ShloMosaic

/-- The side conditions of the precondition's own operations. -/
theorem conditions : Cert.Pre_attention_finite.Facts where
  bcast_S_S16x4096x192 := by decide
  bitsLt_bf16_f32 := by decide
  bcast_S_S16x4096x128 := by decide
  bcast_S_S4096x2048 := by decide
  bcast_S_S4096x32 := by decide

end Cert.Pre_attention_finite

namespace Cert.AttnAgree

open Cert.AttnGrad Cert.ConvGrad
open Cert.AttnIdeal Cert.AttnIdeal.Gen Cert.AttnIdeal.Run Cert.AttnIdeal.Tile
open Idealize.ShloMosaic Idealize.ShloMosaic.TcCoe Idealize.SL.Sem

instance : Cert.AttnIdeal.Facts := Cert.AttnIdeal.Gen.facts
instance : Cert.Pre_attention_finite.Facts := Cert.Pre_attention_finite.conditions

variable (m : (ℓ : Loc AttnIdeal.nD AttnIdeal.τ AttnIdeal.sig) → Buf (Elt Ideal) ℓ)
variable (hp : Cert.Pre_AttnIdeal_attention_finite m) (c : Dev AttnIdeal.nD)

section
include hp

/-! Under the precondition every number the arguments hold is real. -/

theorem realQ (i) : IsReal (argQ m c i) := real_of_lt _ (congrFun (hp c).1 i)
theorem realK (i) : IsReal (argK m c i) := real_of_lt _ (congrFun (hp c).2.1 i)
theorem realU (i) : IsReal (argU m c i) := real_of_lt _ (congrFun (hp c).2.2.1 i)
theorem realD (i) : IsReal (argD m c i) := real_of_lt _ (congrFun (hp c).2.2.2.1 i)
theorem realC (i) : IsReal (argC m c i) := real_of_lt _ (congrFun (hp c).2.2.2.2.1 i)
theorem realS (i) : IsReal (argS m c i) := real_of_lt _ (congrFun (hp c).2.2.2.2.2 i)

/-- The rotated queries. -/
abbrev turnedQ : Fin 16 → Fin 4096 → Fin 192 → EReal := rotQ (argQ m c) (argC m c) (argS m c)

/-- What the kernel adds up, entry by entry, is the reference's gradient. -/
theorem sums_eq :
    (∀ h k e, seqDv (argK m c) (arrQ m c) (argD m c) (arrL m c) h k e = dVal (turnedQ m c) (argK m c) (argD m c) h k e)
    ∧ (∀ h k d, seqDk (argK m c) (argU m c) (arrQ m c) (argD m c) (arrL m c) (arrE m c) h k d * ((Real.log 2 : ℝ) : EReal)
        = dKey (turnedQ m c) (argK m c) (argU m c) (argD m c) h k d)
    ∧ (∀ h n d, seqDq (argK m c) (argU m c) (arrQ m c) (argD m c) (arrL m c) (arrE m c) h n d * scale
        = dRot (turnedQ m c) (argK m c) (argU m c) (argD m c) h n d)
    ∧ ∀ h n d, IsReal (dRot (turnedQ m c) (argK m c) (argU m c) (argD m c) h n d) := by
  obtain ⟨a, ha⟩ := scale_real
  choose r hR using rotQ_real (realQ m hp c) (realC m hp c) (realS m hp c)
  choose κ hK using fun (h : Fin 16) (n : Fin 4096) (d : Fin 192) => realK m hp c (ix3 h n d)
  choose u hU using fun (h : Fin 16) (n : Fin 4096) (e : Fin 128) => realU m hp c (ix3 h n e)
  choose δ hD using fun (n : Fin 4096) (x : Fin 2048) => realD m hp c (ix2 n x)
  choose t ht using top_real hR hK ha
  have hQ := handed_query m c
  have hL := handed_lse m c
  have hE := handed_delta m c
  exact ⟨value_eq hR hK hD ha ht hQ hL, key_eq hR hK hU hD ha ht hQ hL hE, query_scaled hR hK hU hD ha ht hQ hL hE, dRot_real hR hK hU hD ha ht⟩

/-- The first result, the gradient of the keys' first 128 columns and of the values. -/
theorem dkv_eq : AttnRefIdeal.Read.val_main_v106 (F := Ideal) (argQ m c) (argK m c) (argU m c) (argD m c) (argC m c) (argS m c) = G9 m c := by
  obtain ⟨hv, hk, -, -⟩ := sums_eq m hp c
  funext y
  obtain ⟨n, x, rfl⟩ : ∃ (n : Fin 4096) (x : Fin 4096), y = ix2 n x := ⟨y 0, y 1, by funext a; fin_cases a <;> rfl⟩
  refine (AttnRefIdeal.Value.ref_dkv _ _ _ _ _ _ _ _).trans ?_
  unfold G9 arrK arrU arrD
  rw [V_main_arg1, V_main_arg2, V_main_arg3]
  refine (dite_congr rfl (fun h => ?_) (fun h => ?_)).symm
  · exact hk _ _ _
  · exact hv _ _ _

/-- The second result, the gradient of the keys' last 64 columns. -/
theorem dkr_eq : AttnRefIdeal.Read.val_main_v107 (F := Ideal) (argQ m c) (argK m c) (argU m c) (argD m c) (argC m c) (argS m c) = G10 m c := by
  obtain ⟨-, hk, -, -⟩ := sums_eq m hp c
  funext y
  obtain ⟨h, n, x, rfl⟩ : ∃ (h : Fin 16) (n : Fin 4096) (x : Fin 64), y = ix3 h n x := ⟨y 0, y 1, y 2, by funext a; fin_cases a <;> rfl⟩
  refine (AttnRefIdeal.Value.ref_dkr _ _ _ _ _ _ _ _ _).trans ?_
  unfold G10 arrK arrU arrD
  rw [V_main_arg1, V_main_arg2, V_main_arg3]
  exact (hk _ _ _).symm

/-- The third result, the gradient of the queries. -/
theorem dq_eq : AttnRefIdeal.Read.val_main_v108 (F := Ideal) (argQ m c) (argK m c) (argU m c) (argD m c) (argC m c) (argS m c) = G11 m c := by
  obtain ⟨-, -, hq, hr⟩ := sums_eq m hp c
  funext y
  obtain ⟨h, n, d, rfl⟩ : ∃ (h : Fin 16) (n : Fin 4096) (d : Fin 192), y = ix3 h n d := ⟨y 0, y 1, y 2, by funext a; fin_cases a <;> rfl⟩
  refine (AttnRefIdeal.Value.ref_dq _ _ _ _ _ _ _ _ _).trans ?_
  unfold G11 arrK arrU arrD
  rw [V_main_arg1, V_main_arg2, V_main_arg3]
  exact (turned_eq (hq h n) (hr h n) (realC m hp c) (realS m hp c) n (cosines m c n) (sines m c n) (permutation m c) d).symm

end

/-- The kernel's run, its three results named. -/
theorem kernel_run (g : Dev AttnIdeal.nD → PrngReg) :
    θ_run (AttnIdeal.defs (F := Ideal)) (onTc (τ := AttnIdeal.τ) (AttnIdeal.main (F := Ideal))) ⟨m, fun _ => 0, g⟩ (fun r => ∀ c : Dev AttnIdeal.nD,
      r.2.mem ((c.tc : Thread AttnIdeal.nD AttnIdeal.τ).loc AttnIdeal.main_v71_0) = G9 m c
      ∧ r.2.mem ((c.tc : Thread AttnIdeal.nD AttnIdeal.τ).loc AttnIdeal.main_v71_1) = G10 m c
      ∧ r.2.mem ((c.tc : Thread AttnIdeal.nD AttnIdeal.τ).loc AttnIdeal.main_v71_2) = G11 m c) := by
  refine (θ_run _ _ _).mono (fun r h c => ?_) (AttnIdeal.Run.run_main m g)
  exact ⟨((h c).1 9).trans (arr9 m c), ((h c).1 10).trans (arr10 m c), ((h c).1 11).trans (arr11 m c)⟩

end Cert.AttnAgree

end
-- ==== Proof.WGrad.lean ====
/-
  The gradient of a projection's weights, one block of columns of the weights at a time: each entry is a sum over the
  tokens, of the projected array's entry and the incoming gradient's.
-/
module

public import proofs.«01_k».proof.Proof.Gen.GoutIdeal.Value
public import proofs.«01_k».proof.Proof.Gen.GoutRefIdeal.Run
public import proofs.«01_k».proof.Proof.Gen.GoutRefIdeal.Read
public import proofs.«01_k».proof.Proof.Gen.ConvGinIdeal.Value
public import proofs.«01_k».proof.Proof.Gen.ConvGinRefIdeal.Run
public import proofs.«01_k».proof.Proof.Gen.ConvGinRefIdeal.Read
public import proofs.«01_k».proof.Proof.Gen.PoolGinIdeal.Value
public import proofs.«01_k».proof.Proof.Gen.PoolGinRefIdeal.Run
public import proofs.«01_k».proof.Proof.Gen.PoolGinRefIdeal.Read
public import Idealize.ShloMosaic.Lib.Pipeline.ValueKit
public import Idealize.ShloMosaic.Lib.Pointwise

set_option maxRecDepth 16384

@[expose] public noncomputable section

open Idealize.ShloMosaic Idealize.ShloMosaic.TcCoe Idealize.SL.Sem

namespace Cert.WGrad

/-- The gradient of the weight at row `i` and column `j` of `x @ w`: over the tokens, `x`'s entry times the gradient's. -/
def weight {p q : ℕ} (X : Shape.Idx ⟨2, ![4096, p]⟩ → EReal) (G : Shape.Idx ⟨2, ![4096, q]⟩ → EReal) (i : Fin p) (j : Fin q) : EReal :=
  ∑ n : Fin 4096, X (ix2 n i) * G (ix2 n j)

end Cert.WGrad

/-! ## The output projections -/

namespace Cert.GoutIdeal

open Cert.GoutIdeal.Gen Cert.WGrad

variable (m : (ℓ : Loc nD τ sig) → Buf (Elt Ideal) ℓ) (c : Dev nD)

theorem place0 : ∀ t : Fin grid0.N, win0_0.index t 0 = 0 ∧ win0_0.index t 1 = t.val := by decide +kernel
theorem place1 : ∀ t : Fin grid0.N, win0_1.index t 0 = 0 ∧ win0_1.index t 1 = 0 := by decide +kernel
theorem place2 : ∀ t : Fin grid0.N, win0_2.index t 0 = t.val ∧ win0_2.index t 1 = 0 := by decide +kernel

abbrev G2 : Shape.Idx ⟨2, ![2048, 1024]⟩ → EReal := fun y =>
  weight (m ((c : Thread nD τ).loc main_arg0)) (m ((c : Thread nD τ).loc main_arg1)) (y 0) (y 1)

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1⟩ := place2 t
  unfold out0_2
  canon_tiles x hx
  idx_vars x
  pointwise [k0_pay1]
  unfold G2 weight
  refine Finset.sum_congr rfl fun n _ => congrArg₂ (· * ·) ?_ ?_
  · blk_ext [iblk, a0, a1, o0, o1, hx0, hx1]
  · blk_ext [iblk, b0, b1, o0, o1, hx0, hx1]

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.GoutIdeal

namespace Cert.GoutRefIdeal

open Cert.GoutRefIdeal.Read Cert.WGrad

theorem value (A B) (y : Shape.Idx ⟨2, ![2048, 1024]⟩) : val_main_v6 (F := Ideal) A B y = weight A B (y 0) (y 1) := by
  idx_vars y
  pointwise [val_main_v6, val_main_v5, val_main_v4, val_main_v3, val_main_v1]
  exact Finset.sum_congr rfl fun n _ => mul_comm _ _

end Cert.GoutRefIdeal

/-! ## The convolution's input projection -/

namespace Cert.ConvGinIdeal

open Cert.ConvGinIdeal.Gen Cert.WGrad

variable (m : (ℓ : Loc nD τ sig) → Buf (Elt Ideal) ℓ) (c : Dev nD)

theorem place0 : ∀ t : Fin grid0.N, win0_0.index t 0 = 0 ∧ win0_0.index t 1 = 0 := by decide +kernel
theorem place1 : ∀ t : Fin grid0.N, win0_1.index t 0 = 0 ∧ win0_1.index t 1 = 4 * (t.val % 4) + t.val / 4 := by decide +kernel
theorem place2 : ∀ t : Fin grid0.N, win0_2.index t 0 = t.val / 2 ∧ win0_2.index t 1 = 0 ∧ win0_2.index t 2 = t.val % 2 := by decide +kernel

/-- Where column `j` of the weights lies in the incoming gradient, which has the four parts of a group side by side. -/
def col (j : ℕ) : ℕ := j / 512 % 4 * 2048 + j / 2048 * 512 + j % 512

theorem col_lt {j : ℕ} (h : j < 8192) : col j < 8192 := by unfold col; omega

/-- The column of the weights which is column `b` of slice `a`. -/
abbrev at_ (a : Fin 8) (b : Fin 1024) : Fin 8192 := ⟨col (1024 * a.val + b.val), col_lt (by omega)⟩

abbrev G2 : Shape.Idx ⟨3, ![8, 1024, 1024]⟩ → EReal := fun y =>
  weight (m ((c : Thread nD τ).loc main_arg0)) (m ((c : Thread nD τ).loc main_arg1)) (y 1) (at_ (y 0) (y 2))

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1, o2⟩ := place2 t
  have ht : t.val < 16 := t.isLt
  unfold out0_2
  canon_tiles x hx
  idx_vars x
  pointwise [k0_pay1]
  unfold G2 weight
  refine Finset.sum_congr rfl fun n _ => congrArg₂ (· * ·) ?_ ?_
  · blk_ext [iblk, a0, a1, o0, o1, o2, hx0, hx1, hx2]
  · blk_ext [iblk, b0, b1, o0, o1, o2, hx0, hx1, hx2]
    unfold col
    blk_simp [o0, o2]
    omega

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.ConvGinIdeal

namespace Cert.ConvGinRefIdeal

open Cert.ConvGinRefIdeal.Read Cert.WGrad

theorem value (A B) (y : Shape.Idx ⟨3, ![8, 1024, 1024]⟩) :
    val_main_v11 (F := Ideal) A B y = weight A B (y 1) (ConvGinIdeal.at_ (y 0) (y 2)) := by
  idx_vars y
  pointwise [val_main_v11, val_main_v10, val_main_v9, val_main_v8, val_main_v7, val_main_v6, val_main_v4, val_main_v2, val_main_v1, val_main_v0]
  refine Finset.sum_congr rfl fun n _ => (mul_comm _ _).trans (congrArg₂ (· * ·) rfl ?_)
  exact congrArg (fun j => B (ix2 n j)) (Fin.ext (congrArg ConvGinIdeal.col (congrArg (· + y2.val) (Nat.mul_comm y0.val 1024))))

end Cert.ConvGinRefIdeal

/-! ## The pooling's input projection -/

namespace Cert.PoolGinIdeal

open Cert.PoolGinIdeal.Gen Cert.WGrad

variable (m : (ℓ : Loc nD τ sig) → Buf (Elt Ideal) ℓ) (c : Dev nD)

theorem place0 : ∀ t : Fin grid0.N, win0_0.index t 0 = 0 ∧ win0_0.index t 1 = 0 := by decide +kernel
theorem place1 : ∀ t : Fin grid0.N, win0_1.index t 0 = 0 ∧ win0_1.index t 1 = t.val := by decide +kernel
theorem place2 : ∀ t : Fin grid0.N, win0_2.index t 0 = t.val ∧ win0_2.index t 1 = 0 ∧ win0_2.index t 2 = 0 := by decide +kernel

/-- The column of the weights which is column `b` of slice `a`. -/
abbrev at_ (a : Fin 8) (b : Fin 512) : Fin 4096 := ⟨512 * a.val + b.val, by omega⟩

abbrev G2 : Shape.Idx ⟨3, ![8, 1024, 512]⟩ → EReal := fun y =>
  weight (m ((c : Thread nD τ).loc main_arg0)) (m ((c : Thread nD τ).loc main_arg1)) (y 1) (at_ (y 0) (y 2))

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1, o2⟩ := place2 t
  have ht : t.val < 8 := t.isLt
  unfold out0_2
  canon_tiles x hx
  idx_vars x
  pointwise [k0_pay1]
  unfold G2 weight
  refine Finset.sum_congr rfl fun n _ => congrArg₂ (· * ·) ?_ ?_
  · blk_ext [iblk, a0, a1, o0, o1, o2, hx0, hx1, hx2]
  · blk_ext [iblk, b0, b1, o0, o1, o2, hx0, hx1, hx2]
    blk_simp [o0, o2]
    omega

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.PoolGinIdeal

namespace Cert.PoolGinRefIdeal

open Cert.PoolGinRefIdeal.Read Cert.WGrad

theorem value (A B) (y : Shape.Idx ⟨3, ![8, 1024, 512]⟩) :
    val_main_v8 (F := Ideal) A B y = weight A B (y 1) (PoolGinIdeal.at_ (y 0) (y 2)) := by
  idx_vars y
  pointwise [val_main_v8, val_main_v7, val_main_v6, val_main_v5, val_main_v4, val_main_v3, val_main_v1]
  refine Finset.sum_congr rfl fun n _ => (mul_comm _ _).trans (congrArg₂ (· * ·) rfl ?_)
  exact congrArg (fun j => B (ix2 n j)) (Fin.ext (congrArg (· + y2.val) (Nat.mul_comm y0.val 512)))

end Cert.PoolGinRefIdeal

end
-- ==== Proof.OutProjection.lean ====
/-
  The output projection added to the rows it is beside: a tile of rows at a time, each entry the row's entry plus a sum
  over the projected features.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise

set_option maxRecDepth 16384

@[expose] public noncomputable section

open Idealize.ShloMosaic Idealize.ShloMosaic.TcCoe Idealize.SL.Sem

namespace Cert.OutProjIdeal

open Cert.OutProjIdeal.Gen

/-- The projected features, whose weights lie in eight slices, plus the rows. -/
def added (A : Shape.Idx ⟨2, ![4096, 2048]⟩ → EReal) (B : Shape.Idx ⟨3, ![8, 256, 1024]⟩ → EReal)
    (C : Shape.Idx ⟨2, ![4096, 1024]⟩ → EReal) (n : Fin 4096) (d : Fin 1024) : EReal :=
  C (ix2 n d) + ∑ x : Fin 2048, A (ix2 n x) * B (ix3 (⟨x.val / 256, by omega⟩ : Fin 8) (⟨x.val % 256, by omega⟩ : Fin 256) d)

variable (m : (ℓ : Loc nD τ sig) → Buf (Elt Ideal) ℓ) (c : Dev nD)

theorem place0 : ∀ t : Fin grid0.N, win0_0.index t 0 = t.val ∧ win0_0.index t 1 = 0 := by decide +kernel
theorem place1 : ∀ t : Fin grid0.N, win0_1.index t 0 = 0 ∧ win0_1.index t 1 = 0 ∧ win0_1.index t 2 = 0 := by decide +kernel
theorem place2 : ∀ t : Fin grid0.N, win0_2.index t 0 = t.val ∧ win0_2.index t 1 = 0 := by decide +kernel
theorem place3 : ∀ t : Fin grid0.N, win0_3.index t 0 = t.val ∧ win0_3.index t 1 = 0 := by decide +kernel

abbrev G3 : Shape.Idx ⟨2, ![4096, 1024]⟩ → EReal := fun y =>
  added (m ((c : Thread nD τ).loc main_arg0)) (m ((c : Thread nD τ).loc main_arg1)) (m ((c : Thread nD τ).loc main_arg2)) (y 0) (y 1)

theorem out3 (t : Fin cfg0.N) (y) :
    out0_3 (iblk m c 0 t) (iblk m c 1 t) (iblk m c 2 t) y = G3 m c ((win0_3.blk t).view.emb y) := by
  obtain ⟨a0, a1⟩ := place0 t
  obtain ⟨b0, b1, b2⟩ := place1 t
  obtain ⟨c0, c1⟩ := place2 t
  obtain ⟨o0, o1⟩ := place3 t
  unfold out0_3
  canon_tiles x hx
  idx_vars x
  pointwise [k0_pay1]
  unfold G3 added
  rw [add_comm]
  refine congrArg₂ (· + ·) ?_ (Finset.sum_congr rfl fun n _ => congrArg₂ (· * ·) ?_ ?_)
  · blk_ext [iblk, c0, c1, o0, o1, hx0, hx1]
  · blk_ext [iblk, a0, a1, o0, o1, hx0, hx1]
  · blk_ext [iblk, b0, b1, b2, o0, o1, hx0, hx1]

theorem arr3 : (dats m 0 c).arrAt 3 cfg0.N = G3 m c := by
  refine (dats m 0 c).arrAt_eq_of_covers 3 _ (by decide +kernel) fun t hf y => ?_
  exact (congrFun (after0_3 m c t) y).trans (out3 m c t y)

end Cert.OutProjIdeal

namespace Cert.OutProjRefIdeal

open Cert.OutProjRefIdeal.Read

theorem value (A B C) (y : Shape.Idx ⟨2, ![4096, 1024]⟩) : val_main_v4 (F := Ideal) A B C y = OutProjIdeal.added A B C (y 0) (y 1) := by
  idx_vars y
  pointwise [val_main_v4, val_main_v3, val_main_v2, val_main_v1, val_main_v0]
  rfl

end Cert.OutProjRefIdeal

end
-- ==== Proof.WGradMore.lean ====
/-
  More gradients of weights: of the pooling's linear maps, one for each group of channels, and of the latent attention's
  gate and up projections.
-/
module

public import proofs.«01_k».proof.Proof.WGrad
public import proofs.«01_k».proof.Proof.OutProjection
public import proofs.«01_k».proof.Proof.Gen.GgrpIdeal.Value
public import proofs.«01_k».proof.Proof.Gen.GgrpRefIdeal.Run
public import proofs.«01_k».proof.Proof.Gen.GgrpRefIdeal.Read
public import proofs.«01_k».proof.Proof.Gen.GzIdeal.Value
public import proofs.«01_k».proof.Proof.Gen.GzRefIdeal.Run
public import proofs.«01_k».proof.Proof.Gen.GzRefIdeal.Read
public import proofs.«01_k».proof.Proof.Gen.GqupIdeal.Value
public import proofs.«01_k».proof.Proof.Gen.GqupRefIdeal.Run
public import proofs.«01_k».proof.Proof.Gen.GqupRefIdeal.Read
public import proofs.«01_k».proof.Proof.Gen.GkvupIdeal.Value
public import proofs.«01_k».proof.Proof.Gen.GkvupRefIdeal.Run
public import proofs.«01_k».proof.Proof.Gen.GkvupRefIdeal.Read
public import proofs.«01_k».proof.Proof.Gen.LatentOutIdeal.Value

set_option maxRecDepth 16384

@[expose] public noncomputable section

open Idealize.ShloMosaic Idealize.ShloMosaic.TcCoe Idealize.SL.Sem

/-! ## The pooling's linear maps -/

namespace Cert.GgrpIdeal

open Cert.GgrpIdeal.Gen Cert.WGrad

variable (m : (ℓ : Loc nD τ sig) → Buf (Elt Ideal) ℓ) (c : Dev nD)

theorem place0 : ∀ t : Fin grid0.N, win0_0.index t 0 = 0 ∧ win0_0.index t 1 = t.val := by decide +kernel
theorem place1 : ∀ t : Fin grid0.N, win0_1.index t 0 = 0 ∧ win0_1.index t 1 = t.val := by decide +kernel
theorem place2 : ∀ t : Fin grid0.N, win0_2.index t 0 = 0 ∧ win0_2.index t 1 = t.val ∧ win0_2.index t 2 = 0 := by decide +kernel

/-- The channel which row `b` of slice `a` takes: 64 rows of each group of 512 lie in a slice. -/
abbrev row (a : Fin 8) (b : Fin 256) : Fin 2048 := ⟨512 * (b.val / 64) + (64 * a.val + b.val % 64), by omega⟩

/-- The channel which column `j` gives in the group of row `b`. -/
abbrev col (b : Fin 256) (j : Fin 512) : Fin 2048 := ⟨512 * (b.val / 64) + j.val, by omega⟩

abbrev G2 : Shape.Idx ⟨3, ![8, 256, 512]⟩ → EReal := fun y =>
  weight (m ((c : Thread nD τ).loc main_arg0)) (m ((c : Thread nD τ).loc main_arg1)) (row (y 0) (y 1)) (col (y 1) (y 2))

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1, o2⟩ := place2 t
  have ht : t.val < 4 := t.isLt
  unfold out0_2
  canon_tiles x hx
  idx_vars x
  pointwise [k0_pay1]
  unfold G2 weight
  refine Finset.sum_congr rfl fun n _ => congrArg₂ (· * ·) ?_ ?_
  · blk_ext [iblk, a0, a1, o0, o1, o2, hx0, hx1, hx2]
    blk_simp [o0, o1, o2]
    omega
  · blk_ext [iblk, b0, b1, o0, o1, o2, hx0, hx1, hx2]
    blk_simp [o0, o1, o2]
    omega

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.GgrpIdeal

namespace Cert.GgrpRefIdeal

open Cert.GgrpRefIdeal.Read Cert.WGrad

theorem value (A B) (y : Shape.Idx ⟨3, ![8, 256, 512]⟩) :
    val_main_v13 (F := Ideal) A B y = weight A B (GgrpIdeal.row (y 0) (y 1)) (GgrpIdeal.col (y 1) (y 2)) := by
  idx_vars y
  pointwise [val_main_v13, val_main_v12, val_main_v11, val_main_v10, val_main_v9, val_main_v8, val_main_v7, val_main_v6, val_main_v5, val_main_v1, val_main_v0]
  refine Finset.sum_congr rfl fun n _ => (mul_comm _ _).trans (congrArg₂ (· * ·) ?_ ?_)
  · refine congrArg (fun j => A (ix2 n j)) (Fin.ext ?_)
    show y1.val / 64 * 512 + (y0.val * 64 + y1.val % 64) = 512 * (y1.val / 64) + (64 * y0.val + y1.val % 64)
    omega
  · refine congrArg (fun j => B (ix2 n j)) (Fin.ext ?_)
    show y1.val / 64 * 512 + y2.val = 512 * (y1.val / 64) + y2.val
    omega

end Cert.GgrpRefIdeal

/-! ## The latent attention's gate -/

namespace Cert.GzIdeal

open Cert.GzIdeal.Gen Cert.WGrad

variable (m : (ℓ : Loc nD τ sig) → Buf (Elt Ideal) ℓ) (c : Dev nD)

theorem place0 : ∀ t : Fin grid0.N, win0_0.index t 0 = 0 ∧ win0_0.index t 1 = 0 := by decide +kernel
theorem place1 : ∀ t : Fin grid0.N, win0_1.index t 0 = 0 ∧ win0_1.index t 1 = t.val := by decide +kernel
theorem place2 : ∀ t : Fin grid0.N, win0_2.index t 0 = 0 ∧ win0_2.index t 1 = t.val := by decide +kernel

abbrev G2 : Shape.Idx ⟨2, ![1024, 2048]⟩ → EReal := fun y =>
  weight (m ((c : Thread nD τ).loc main_arg0)) (m ((c : Thread nD τ).loc main_arg1)) (y 0) (y 1)

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1⟩ := place2 t
  unfold out0_2
  canon_tiles x hx
  idx_vars x
  pointwise [k0_pay1]
  unfold G2 weight
  refine Finset.sum_congr rfl fun n _ => congrArg₂ (· * ·) ?_ ?_
  · blk_ext [iblk, a0, a1, o0, o1, hx0, hx1]
  · blk_ext [iblk, b0, b1, o0, o1, hx0, hx1]

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.GzIdeal

namespace Cert.GzRefIdeal

open Cert.GzRefIdeal.Read Cert.WGrad

theorem value (A B) (y : Shape.Idx ⟨2, ![1024, 2048]⟩) : val_main_v6 (F := Ideal) A B y = weight A B (y 0) (y 1) := by
  idx_vars y
  pointwise [val_main_v6, val_main_v5, val_main_v4, val_main_v3, val_main_v1]
  exact Finset.sum_congr rfl fun n _ => mul_comm _ _

end Cert.GzRefIdeal

/-! ## The queries' up projection, head by head -/

namespace Cert.GqupIdeal

open Cert.GqupIdeal.Gen

variable (m : (ℓ : Loc nD τ sig) → Buf (Elt Ideal) ℓ) (c : Dev nD)

theorem place0 : ∀ t : Fin grid0.N, win0_0.index t 0 = 0 ∧ win0_0.index t 1 = 0 := by decide +kernel
theorem place1 : ∀ t : Fin grid0.N, win0_1.index t 0 = t.val ∧ win0_1.index t 1 = 0 ∧ win0_1.index t 2 = 0 := by decide +kernel
theorem place2 : ∀ t : Fin grid0.N, win0_2.index t 0 = t.val ∧ win0_2.index t 1 = 0 ∧ win0_2.index t 2 = 0 := by decide +kernel

/-- The gradient of a head's weight at row `i` and column `j`: over the tokens, the latent's entry times the head's gradient's. -/
def headWeight (X : Shape.Idx ⟨2, ![4096, 384]⟩ → EReal) (G : Shape.Idx ⟨3, ![16, 4096, 192]⟩ → EReal)
    (h : Fin 16) (i : Fin 384) (j : Fin 192) : EReal :=
  ∑ n : Fin 4096, X (ix2 n i) * G (ix3 h n j)

abbrev G2 : Shape.Idx ⟨3, ![16, 384, 192]⟩ → EReal := fun y =>
  headWeight (m ((c : Thread nD τ).loc main_arg0)) (m ((c : Thread nD τ).loc main_arg1)) (y 0) (y 1) (y 2)

theorem out2 (t : Fin cfg0.N) (y) : out0_2 (iblk m c 0 t) (iblk m c 1 t) y = G2 m c ((win0_2.blk t).view.emb y) := by
  obtain ⟨a0, a1⟩ := place0 t
  obtain ⟨b0, b1, b2⟩ := place1 t
  obtain ⟨o0, o1, o2⟩ := place2 t
  unfold out0_2
  canon_tiles x hx
  idx_vars x
  pointwise [k0_pay1]
  unfold G2 headWeight
  refine Finset.sum_congr rfl fun n _ => congrArg₂ (· * ·) ?_ ?_
  · blk_ext [iblk, a0, a1, o0, o1, o2, hx0, hx1, hx2]
  · blk_ext [iblk, b0, b1, b2, o0, o1, o2, hx0, hx1, hx2]

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.GqupIdeal

namespace Cert.GqupRefIdeal

open Cert.GqupRefIdeal.Read

theorem value (A B) (y : Shape.Idx ⟨3, ![16, 384, 192]⟩) :
    val_main_v10 (F := Ideal) A B y = GqupIdeal.headWeight A B (y 0) (y 1) (y 2) := by
  idx_vars y
  pointwise [val_main_v10, val_main_v9, val_main_v8, val_main_v7, val_main_v6, val_main_v5, val_main_v3, val_main_v1, val_main_v0]
  refine Finset.sum_congr rfl fun n _ => (mul_comm _ _).trans (congrArg₂ (· * ·) rfl rfl)

end Cert.GqupRefIdeal

/-! ## The keys' and values' up projection -/

namespace Cert.GkvupIdeal

open Cert.GkvupIdeal.Gen Cert.WGrad

variable (m : (ℓ : Loc nD τ sig) → Buf (Elt Ideal) ℓ) (c : Dev nD)

theorem place0 : ∀ t : Fin grid0.N, win0_0.index t 0 = 0 ∧ win0_0.index t 1 = 0 := by decide +kernel
theorem place1 : ∀ t : Fin grid0.N, win0_1.index t 0 = 0 ∧ win0_1.index t 1 = t.val := by decide +kernel
theorem place2 : ∀ t : Fin grid0.N, win0_2.index t 0 = t.val ∧ win0_2.index t 1 = 0 ∧ win0_2.index t 2 = 0 := by decide +kernel

abbrev G2 : Shape.Idx ⟨3, ![8, 256, 512]⟩ → EReal := fun y =>
  weight (m ((c : Thread nD τ).loc main_arg0)) (m ((c : Thread nD τ).loc main_arg1)) (y 1) (PoolGinIdeal.at_ (y 0) (y 2))

theorem out2 (t : Fin cfg0.N) (y) : out0_2 (iblk m c 0 t) (iblk m c 1 t) y = G2 m c ((win0_2.blk t).view.emb y) := by
  obtain ⟨a0, a1⟩ := place0 t
  obtain ⟨b0, b1⟩ := place1 t
  obtain ⟨o0, o1, o2⟩ := place2 t
  have ht : t.val < 8 := t.isLt
  unfold out0_2
  canon_tiles x hx
  idx_vars x
  pointwise [k0_pay1]
  unfold G2 weight
  refine Finset.sum_congr rfl fun n _ => congrArg₂ (· * ·) ?_ ?_
  · blk_ext [iblk, a0, a1, o0, o1, o2, hx0, hx1, hx2]
  · blk_ext [iblk, b0, b1, o0, o1, o2, hx0, hx1, hx2]
    blk_simp [o0, o2]
    omega

theorem arr2 : (dats m 0 c).arrAt 2 cfg0.N = G2 m c := by
  refine (dats m 0 c).arrAt_eq_of_covers 2 _ (by decide +kernel) fun t hf y => ?_
  exact (congrFun (after0_2 m c t) y).trans (out2 m c t y)

end Cert.GkvupIdeal

namespace Cert.GkvupRefIdeal

open Cert.GkvupRefIdeal.Read Cert.WGrad

theorem value (A B) (y : Shape.Idx ⟨3, ![8, 256, 512]⟩) :
    val_main_v8 (F := Ideal) A B y = weight A B (y 1) (PoolGinIdeal.at_ (y 0) (y 2)) := by
  idx_vars y
  pointwise [val_main_v8, val_main_v7, val_main_v6, val_main_v5, val_main_v4, val_main_v3, val_main_v1]
  refine Finset.sum_congr rfl fun n _ => (mul_comm _ _).trans (congrArg₂ (· * ·) rfl ?_)
  exact congrArg (fun j => B (ix2 n j)) (Fin.ext (congrArg (· + y2.val) (Nat.mul_comm y0.val 512)))

end Cert.GkvupRefIdeal

/-! ## The latent attention's output projection: the same sums in smaller tiles -/

namespace Cert.LatentOutIdeal

open Cert.LatentOutIdeal.Gen

variable (m : (ℓ : Loc nD τ sig) → Buf (Elt Ideal) ℓ) (c : Dev nD)

theorem place0 : ∀ t : Fin grid0.N, win0_0.index t 0 = t.val ∧ win0_0.index t 1 = 0 := by decide +kernel
theorem place1 : ∀ t : Fin grid0.N, win0_1.index t 0 = 0 ∧ win0_1.index t 1 = 0 ∧ win0_1.index t 2 = 0 := by decide +kernel
theorem place2 : ∀ t : Fin grid0.N, win0_2.index t 0 = t.val ∧ win0_2.index t 1 = 0 := by decide +kernel
theorem place3 : ∀ t : Fin grid0.N, win0_3.index t 0 = t.val ∧ win0_3.index t 1 = 0 := by decide +kernel

abbrev G3 : Shape.Idx ⟨2, ![4096, 1024]⟩ → EReal := fun y =>
  OutProjIdeal.added (m ((c : Thread nD τ).loc main_arg0)) (m ((c : Thread nD τ).loc main_arg1)) (m ((c : Thread nD τ).loc main_arg2)) (y 0) (y 1)

theorem out3 (t : Fin cfg0.N) (y) :
    out0_3 (iblk m c 0 t) (iblk m c 1 t) (iblk m c 2 t) y = G3 m c ((win0_3.blk t).view.emb y) := by
  obtain ⟨a0, a1⟩ := place0 t
  obtain ⟨b0, b1, b2⟩ := place1 t
  obtain ⟨c0, c1⟩ := place2 t
  obtain ⟨o0, o1⟩ := place3 t
  unfold out0_3
  canon_tiles x hx
  idx_vars x
  pointwise [k0_pay1]
  unfold G3 OutProjIdeal.added
  rw [add_comm]
  refine congrArg₂ (· + ·) ?_ (Finset.sum_congr rfl fun n _ => congrArg₂ (· * ·) ?_ ?_)
  · blk_ext [iblk, c0, c1, o0, o1, hx0, hx1]
  · blk_ext [iblk, a0, a1, o0, o1, hx0, hx1]
  · blk_ext [iblk, b0, b1, b2, o0, o1, hx0, hx1]

theorem arr3 : (dats m 0 c).arrAt 3 cfg0.N = G3 m c := by
  refine (dats m 0 c).arrAt_eq_of_covers 3 _ (by decide +kernel) fun t hf y => ?_
  exact (congrFun (after0_3 m c t) y).trans (out3 m c t y)

end Cert.LatentOutIdeal

end
-- ==== Proof.NormGrad.lean ====
/-
  The gradient of a root-mean-square normalisation, row by row, on the extended reals.

  With `x` a row, `e` the gradient of the normalised row times the scales, `a` the mean square of `x` plus a small
  positive number and `ρ = 1/√a`, the gradient of the row is `ρ e - ρ³ (mean of e x) x`. One program computes it so; the
  other adds twice the product of `x` and the derivative `-1/2 ρ/a` of `ρ` times that mean. The two agree at every
  extended real: `a` is a positive real or `⊤`, and in the second case `ρ` is `0`.
-/
module

public import Idealize.ShloMosaic.Lib.Pipeline.ValueKit
public import Idealize.ShloMosaic.Lib.Pointwise

@[expose] public noncomputable section

open Idealize.ShloMosaic

namespace Cert.NormGrad

/-! ## The literals -/

/-- The number of features. -/
def width : EReal := Ideal.ofBits .f32 1149239296#32
/-- What is added to the mean square. -/
def small : EReal := Ideal.ofBits .f32 897988541#32
/-- The exponent of the reciprocal root. -/
def minusHalf : EReal := Ideal.ofBits .f32 3204448256#32

theorem width_eq : width = ((1024 : ℝ) : EReal) := by
  unfold width
  simp [Ideal.ofBits, Ideal.ieee, -EReal.coe_mul]
  norm_num

theorem small_eq : ∃ e : ℝ, 0 < e ∧ small = (e : EReal) := by
  refine ⟨_, ?_, (show small = ((8796093 * (2 : ℝ) ^ (-43 : ℤ) : ℝ) : EReal) from ?_)⟩
  · positivity
  · unfold small
    simp [Ideal.ofBits, Ideal.ieee, -EReal.coe_mul]

theorem minusHalf_eq : minusHalf = ((-(1 / 2) : ℝ) : EReal) := by
  unfold minusHalf
  simp [Ideal.ofBits, Ideal.ieee, -EReal.coe_mul]
  norm_num

theorem zero_literal : Ideal.ofBits .f32 0#32 = 0 := by simp [Ideal.ofBits, Ideal.ieee]

/-! ## The mean square and its reciprocal root -/

/-- The mean square of a row, plus a small number. -/
def ms (x : Fin 1024 → EReal) : EReal := Ideal.div (∑ k, x k * x k) width + small

/-- The reciprocal of its root. -/
def inv (x : Fin 1024 → EReal) : EReal := Ideal.rsqrt (ms x)

theorem square_nonneg (a : EReal) : 0 ≤ a * a := by
  rcases le_total 0 a with h | h
  · exact mul_nonneg h h
  · rw [← neg_mul_neg]
    exact mul_nonneg (EReal.neg_nonneg.2 h) (EReal.neg_nonneg.2 h)

/-- The mean square plus the small number is `⊤` or a positive real. -/
theorem ms_cases (x : Fin 1024 → EReal) : ms x = ⊤ ∨ ∃ a : ℝ, 0 < a ∧ ms x = (a : EReal) := by
  obtain ⟨e, he, hs⟩ := small_eq
  unfold ms
  rw [width_eq, Ideal.div_coe (by norm_num), hs]
  have h0 : (0 : EReal) ≤ ∑ k, x k * x k := Finset.sum_nonneg fun k _ => square_nonneg _
  generalize (∑ k, x k * x k) = S at h0
  induction S with
  | bot => exact absurd h0 (by simp)
  | top => left; rw [EReal.top_mul_coe_of_pos (by norm_num)]; rfl
  | coe s =>
    right
    refine ⟨s * (1 / 1024) + e, ?_, by push_cast; rfl⟩
    have : (0 : ℝ) ≤ s := by exact_mod_cast h0
    positivity

theorem neg_add_self (a : EReal) : -(a + a) = -a + -a := by
  induction a with
  | bot => rfl
  | top => rfl
  | coe a => norm_cast; ring

/-- The product by a nonnegative real is half of it twice. -/
theorem halves (p : EReal) {k : ℝ} (hk : 0 ≤ k) : -(p * (k : EReal)) = p * ((-(k / 2) : ℝ) : EReal) + ((-(k / 2) : ℝ) : EReal) * p := by
  rw [mul_comm _ p, EReal.coe_neg, mul_neg, ← neg_add_self]
  congr 1
  have h2 : (0 : EReal) ≤ ((k / 2 : ℝ) : EReal) := by exact_mod_cast (by positivity : (0 : ℝ) ≤ k / 2)
  rw [← EReal.left_distrib_of_nonneg h2 h2, ← EReal.coe_add, add_halves]

/-- The two ways to the correction of the row's gradient, from the sum `S` of the products of the row and its gradient. -/
theorem slope (x : Fin 1024 → EReal) (v S : EReal) :
    -(v * (inv x * inv x * inv x * Ideal.div S width)) =
      v * Ideal.div (S * (minusHalf * Ideal.div (inv x) (ms x))) width + Ideal.div (S * (minusHalf * Ideal.div (inv x) (ms x))) width * v := by
  unfold inv
  rw [width_eq, Ideal.div_coe (by norm_num), Ideal.div_coe (by norm_num), minusHalf_eq]
  rcases ms_cases x with h | ⟨a, ha, h⟩
  · have hz : Ideal.div 0 ⊤ = 0 := by unfold Ideal.div; rw [if_neg (by simp), zero_mul]
    rw [h, Ideal.rsqrt_top, hz]
    simp
  · rw [h, Ideal.rsqrt_coe, if_neg ha.not_gt, if_neg ha.ne', Ideal.div_coe ha.ne']
    have hq : 0 < Real.sqrt a := Real.sqrt_pos.2 ha
    have hk : (0 : ℝ) ≤ (Real.sqrt a)⁻¹ * (Real.sqrt a)⁻¹ * (Real.sqrt a)⁻¹ * (1 / 1024) := by positivity
    have e1 : v * ((((Real.sqrt a)⁻¹ : ℝ) : EReal) * (((Real.sqrt a)⁻¹ : ℝ) : EReal) * (((Real.sqrt a)⁻¹ : ℝ) : EReal) * (S * ((1 / 1024 : ℝ) : EReal))) =
        v * S * (((Real.sqrt a)⁻¹ * (Real.sqrt a)⁻¹ * (Real.sqrt a)⁻¹ * (1 / 1024) : ℝ) : EReal) := by
      push_cast
      ac_rfl
    have e2 : (((-(1 / 2) : ℝ) : EReal) * ((((Real.sqrt a)⁻¹ : ℝ) : EReal) * ((1 / a : ℝ) : EReal))) * ((1 / 1024 : ℝ) : EReal) =
        ((-((Real.sqrt a)⁻¹ * (Real.sqrt a)⁻¹ * (Real.sqrt a)⁻¹ * (1 / 1024) / 2) : ℝ) : EReal) := by
      rw [← EReal.coe_mul, ← EReal.coe_mul, ← EReal.coe_mul]
      congr 1
      have h1 : 1 / a = (Real.sqrt a)⁻¹ * (Real.sqrt a)⁻¹ := by
        rw [← mul_inv, Real.mul_self_sqrt ha.le, one_div]
      rw [h1]
      ring
    rw [e1, halves _ hk, mul_assoc S, e2, mul_assoc v S]
    congr 1
    ac_rfl

/-- An entry of the row's gradient, the first way: from the gradient `D` of the normalised row, the scales `g` and the
    gradient `y` that reaches the row beside it. -/
def dx (x D g : Fin 1024 → EReal) (y : EReal) (d : Fin 1024) : EReal :=
  inv x * (D d * g d) - x d * (inv x * inv x * inv x * Ideal.div (∑ k, D k * g k * x k) width) + y

/-- The second way gives the same. -/
theorem dx_eq (x D g : Fin 1024 → EReal) (y : EReal) (d : Fin 1024) :
    y + D d * g d * inv x + x d * Ideal.div ((∑ k, x k * (D k * g k)) * (minusHalf * Ideal.div (inv x) (ms x))) width +
        Ideal.div ((∑ k, x k * (D k * g k)) * (minusHalf * Ideal.div (inv x) (ms x))) width * x d = dx x D g y d := by
  have hS : (∑ k, x k * (D k * g k)) = ∑ k, D k * g k * x k := Finset.sum_congr rfl fun k _ => mul_comm _ _
  unfold dx
  rw [sub_eq_add_neg, slope, hS, add_assoc, mul_comm (inv x)]
  ac_rfl

/-! ## Sums over blocks -/

/-- A sum over columns is a sum over blocks of columns. -/
theorem sum_blocks {p q : ℕ} (f : Fin (p * q) → EReal) :
    (∑ c, f c) = ∑ k : Fin p, ∑ j : Fin q, f ⟨q * k.val + j.val, by
      have := k.isLt; have := j.isLt; calc q * k.val + j.val < q * (k.val + 1) := by rw [mul_add]; omega
        _ ≤ p * q := by rw [mul_comm p]; exact Nat.mul_le_mul_left q k.isLt⟩ := by
  rw [← Fintype.sum_equiv finProdFinEquiv (fun kj : Fin p × Fin q => f (finProdFinEquiv kj)) f fun _ => rfl, Fintype.sum_prod_type]
  refine Finset.sum_congr rfl fun k _ => Finset.sum_congr rfl fun j _ => congrArg f (Fin.ext ?_)
  exact Nat.add_comm _ _

/-- What is set at the end of the first group of `J` steps, added to at the end of each later one and kept at the other
    steps is at the end the sum of the groups' parts. -/
theorem sum_groups {J : ℕ} (hJ : 1 < J) {n : ℕ} (f : ∀ t, t < n → EReal) (part : ℕ → EReal)
    (keep : ∀ t (h : t < n), ¬ t % J = J - 1 → 0 < t → f t h = f (t - 1) (by omega))
    (first : ∀ t (h : t < n), t = J - 1 → f t h = part 0)
    (later : ∀ t (h : t < n), t % J = J - 1 → J ≤ t → f t h = f (t - 1) (by omega) + part (t / J)) :
    ∀ t (h : t < n), J - 1 ≤ t → f t h = ∑ i ∈ Finset.range ((t + 1) / J), part i := by
  intro t
  induction t with
  | zero => intro h hj; omega
  | succ t ih =>
    intro h hj
    by_cases h1 : (t + 1) % J = J - 1
    · by_cases h2 : t + 1 = J - 1
      · rw [first _ h h2, h2, Nat.sub_add_cancel hJ.le, Nat.div_self (by omega), Finset.sum_range_one]
      · have h3 : J ≤ t + 1 := by
          by_contra h4
          rw [Nat.mod_eq_of_lt (by omega)] at h1
          exact h2 h1
        have hd : (t + 1 + 1) / J = (t + 1) / J + 1 := by
          rw [Nat.succ_div, if_pos]
          apply Nat.dvd_of_mod_eq_zero
          rw [Nat.add_mod, h1, Nat.mod_eq_of_lt hJ, Nat.sub_add_cancel hJ.le, Nat.mod_self]
        rw [later _ h h1 h3, hd, Finset.sum_range_succ]
        congr 1
        exact ih (by omega) (by omega)
    · have hd : (t + 1 + 1) / J = (t + 1) / J := by
        rw [Nat.succ_div, if_neg, Nat.add_zero]
        intro hdv
        have := Nat.mod_eq_zero_of_dvd hdv
        have h5 := Nat.mod_lt (t + 1) (show 0 < J by omega)
        rw [Nat.add_mod, Nat.mod_eq_of_lt hJ] at this
        have h6 : (t + 1) % J + 1 < J := by omega
        rw [Nat.mod_eq_of_lt h6] at this
        omega
      have h3 : J - 1 ≤ t := by
        by_contra h4
        have : t + 1 = J - 1 := by omega
        exact h1 (by rw [this, Nat.mod_eq_of_lt (by omega)])
      rw [keep _ h h1 (by omega), hd]
      exact ih (by omega) h3

/-! ## The whole arrays -/

/-- Row `r` of tile `i`. -/
abbrev row (i : Fin 4) (r : Fin 1024) : Fin 4096 := ⟨1024 * i.val + r.val, by omega⟩

variable (D : Fin 4096 → Fin 1024 → EReal) (X : Shape.Idx ⟨2, ![4096, 1024]⟩ → EReal)

/-- The gradient of the rows `X`, from the gradient `D` of the normalised rows, the scales `S` and the gradient `Y` beside. -/
def rowsGrad (S : Shape.Idx ⟨1, ![1024]⟩ → EReal) (Y : Shape.Idx ⟨2, ![4096, 1024]⟩ → EReal) (y : Shape.Idx ⟨2, ![4096, 1024]⟩) : EReal :=
  dx (fun k => X (ix2 (y 0) k)) (D (y 0)) (fun k => S (ix1 k)) (Y y) (y 1)

/-- The gradient of the scales. -/
def scalesGrad (d : Fin 1024) : EReal := ∑ n : Fin 4096, D n d * (X (ix2 n d) * inv fun k => X (ix2 n k))

/-- What one tile of rows adds to it. -/
def part (d : Fin 1024) (n : ℕ) : EReal :=
  ∑ r : Fin 1024, if h : n < 4 then D (row ⟨n, h⟩ r) d * (X (ix2 (row ⟨n, h⟩ r) d) * inv fun k => X (ix2 (row ⟨n, h⟩ r) k)) else 0

/-- The tiles' parts together. -/
theorem parts_sum (d : Fin 1024) : (∑ i : Fin 4, part D X d i.val) = scalesGrad D X d := by
  unfold scalesGrad
  rw [show (∑ n : Fin 4096, D n d * (X (ix2 n d) * inv fun k => X (ix2 n k))) = _ from
    sum_blocks (p := 4) (q := 1024) fun n : Fin 4096 => D n d * (X (ix2 n d) * inv fun k => X (ix2 n k))]
  exact Finset.sum_congr rfl fun i _ => Finset.sum_congr rfl fun r _ => dif_pos i.isLt

end Cert.NormGrad

end
-- ==== Proof.NormPool.lean ====
/-
  The gradient of the pooling layers' normalised projection: of the rows, rounded and not, and of the scales.

  The steps of a group add up, over blocks of the projection's columns, the gradient of a tile of normalised rows. At the
  group's last step the tile's rows and its part of the scales' gradient follow from it.
-/
module

public import proofs.«01_k».proof.Proof.NormGrad
public import proofs.«01_k».proof.Proof.Gen.PoolInBIdeal.Value
public import proofs.«01_k».proof.Proof.Gen.PoolInBRefIdeal.Read
public import proofs.«01_k».proof.Proof.Gen.PoolInBRefIdeal.Run
public import Idealize.ShloMosaic.Lib.Pipeline.ValueKit
public import Idealize.ShloMosaic.Lib.Pointwise
public import Idealize.ShloMosaic.Lib.Pipeline.ReadBack

set_option maxRecDepth 16384

@[expose] public noncomputable section

open Idealize.ShloMosaic Idealize.ShloMosaic.TcCoe Idealize.SL.Sem

namespace Cert.PoolInBIdeal

open Cert.PoolInBIdeal.Gen Cert.NormGrad

/-! ## What the steps compute, at an entry -/

theorem pay_product (a : Vec Ideal S1024x512 .bf16) (b : Vec Ideal S1x1024x512 .bf16) (r d : Fin 1024) :
    k0_pay1 a b (ix2 r d) = ∑ j : Fin 512, a (ix2 r j) * b (ix3 0 d j) := by
  pointwise [k0_pay1]

theorem pay_first (a : Vec Ideal S1024x512 .bf16) (b : Vec Ideal S1x1024x512 .bf16) (r d : Fin 1024) :
    k0_pay2 a b (ix2 r d) = ∑ j : Fin 512, a (ix2 r j) * b (ix3 0 d j) := by
  pointwise [k0_pay2, k0_pay1]

theorem pay_next (a : Vec Ideal S1024x512 .bf16) (b : Vec Ideal S1x1024x512 .bf16) (s : Vec Ideal S1024x1024 .f32) (r d : Fin 1024) :
    k0_pay3 a b s (ix2 r d) = s (ix2 r d) + ∑ j : Fin 512, a (ix2 r j) * b (ix3 0 d j) := by
  pointwise [k0_pay3, k0_pay1]

theorem pay_inv (x : Vec Ideal S1024x1024 .f32) (r : Fin 1024) : k0_pay5 x (ix2 r 0) = inv fun k => x (ix2 r k) := by
  pointwise [k0_pay5]
  rfl

theorem pay_dx (s x : Vec Ideal S1024x1024 .f32) (g : Vec Ideal S1x1024 .f32) (y : Vec Ideal S1024x1024 .f32) (r d : Fin 1024) :
    k0_pay6 s x g y (ix2 r d) = dx (fun k => x (ix2 r k)) (fun k => s (ix2 r k)) (fun k => g (ix2 0 k)) (y (ix2 r d)) d := by
  pointwise [k0_pay6]
  rw [pay_inv]
  rfl

theorem pay_part (s x : Vec Ideal S1024x1024 .f32) (d : Fin 1024) :
    k0_pay7 s x (ix2 0 d) = ∑ r : Fin 1024, s (ix2 r d) * (x (ix2 r d) * inv fun k => x (ix2 r k)) := by
  pointwise [k0_pay7]
  exact Finset.sum_congr rfl fun r _ => by rw [pay_inv]

theorem pay_add (a x : Vec Ideal S1x1024 .f32) (d : Fin 1024) : k0_pay4 a x (ix2 0 d) = x (ix2 0 d) + a (ix2 0 d) := by
  pointwise [k0_pay4]

theorem pay_round (s x : Vec Ideal S1024x1024 .f32) (g : Vec Ideal S1x1024 .f32) (y : Vec Ideal S1024x1024 .f32) (i) :
    k0_pay8 s x g y i = k0_pay6 s x g y i := by
  rfl

/-! ## The four cases -/

variable (m : (ℓ : Loc nD τ sig) → Buf (Elt Ideal) ℓ) (c : Dev nD)

/-- The sums kept over a group of steps. -/
abbrev kept (t : ℕ) (h : t < cfg0.N) : Vec Ideal S1024x1024 .f32 := (outsAt0 m c t h).2.2.2

theorem before_lt (t : Fin cfg0.N) : t.val - 1 < cfg0.N := Nat.lt_of_le_of_lt (Nat.sub_le _ _) t.isLt

theorem kept_first (t : Fin cfg0.N) (h : t.val % 8 = 0) : kept m c t.val t.isLt = k0_pay2 (iblk m c 0 t) (iblk m c 1 t) := by
  unfold kept
  rw [outsAt0_A m c t h (by omega) (by omega)]
  frame_out

theorem kept_B (t : Fin cfg0.N) (h : ¬ t.val % 8 = 0) (h' : ¬ t.val % 8 = 7) :
    kept m c t.val t.isLt = k0_pay3 (iblk m c 0 t) (iblk m c 1 t) (kept m c (t.val - 1) (before_lt t)) := by
  unfold kept
  rw [outsAt0_B m c t h (by omega) h']
  frame_out
  rw [read_unread_whole]

theorem kept_C (t : Fin cfg0.N) (h' : t.val % 8 = 7) (h : t.val < 8) :
    kept m c t.val t.isLt = k0_pay3 (iblk m c 0 t) (iblk m c 1 t) (kept m c (t.val - 1) (before_lt t)) := by
  unfold kept
  rw [outsAt0_C m c t (by omega) (by omega) h' h (by omega)]
  frame_out
  rw [read_unread_whole]

theorem kept_D (t : Fin cfg0.N) (h' : t.val % 8 = 7) (h : ¬ t.val < 8) :
    kept m c t.val t.isLt = k0_pay3 (iblk m c 0 t) (iblk m c 1 t) (kept m c (t.val - 1) (before_lt t)) := by
  unfold kept
  rw [outsAt0_D m c t (by omega) (by omega) h' h (by omega)]
  frame_out
  rw [read_unread_whole]

theorem kept_next (t : Fin cfg0.N) (h : ¬ t.val % 8 = 0) :
    kept m c t.val t.isLt = k0_pay3 (iblk m c 0 t) (iblk m c 1 t) (kept m c (t.val - 1) (before_lt t)) := by
  by_cases h' : t.val % 8 = 7
  · by_cases h8 : t.val < 8
    · exact kept_C m c t h' h8
    · exact kept_D m c t h' h8
  · exact kept_B m c t h h'

theorem out7_A (t : Fin cfg0.N) (h : t.val % 8 = 0) :
    (outsAt0 m c t.val t.isLt).2.2.1 = (outsAt0 m c (t.val - 1) (before_lt t)).2.2.1 := by
  rw [outsAt0_A m c t h (by omega) (by omega)]
  rfl

theorem out7_B (t : Fin cfg0.N) (h : ¬ t.val % 8 = 0) (h' : ¬ t.val % 8 = 7) :
    (outsAt0 m c t.val t.isLt).2.2.1 = (outsAt0 m c (t.val - 1) (before_lt t)).2.2.1 := by
  rw [outsAt0_B m c t h (by omega) h']
  rfl

theorem out7_C (t : Fin cfg0.N) (h' : t.val % 8 = 7) (h : t.val < 8) :
    (outsAt0 m c t.val t.isLt).2.2.1 = k0_pay7 (kept m c t.val t.isLt) (iblk m c 2 t) := by
  rw [kept_C m c t h' h]
  unfold kept
  rw [outsAt0_C m c t (by omega) (by omega) h' h (by omega)]
  frame_out
  rw [read_unread_whole]

theorem out7_D (t : Fin cfg0.N) (h' : t.val % 8 = 7) (h : ¬ t.val < 8) :
    (outsAt0 m c t.val t.isLt).2.2.1 =
      k0_pay4 (k0_pay7 (kept m c t.val t.isLt) (iblk m c 2 t)) (outsAt0 m c (t.val - 1) (before_lt t)).2.2.1 := by
  rw [kept_D m c t h' h]
  unfold kept
  rw [outsAt0_D m c t (by omega) (by omega) h' h (by omega)]
  frame_out
  rw [read_unread_whole]

theorem out5_C (t : Fin cfg0.N) (h' : t.val % 8 = 7) (h : t.val < 8) :
    (outsAt0 m c t.val t.isLt).1 = k0_pay6 (kept m c t.val t.isLt) (iblk m c 2 t) (iblk m c 3 t) (iblk m c 4 t) := by
  rw [kept_C m c t h' h]
  unfold kept
  rw [outsAt0_C m c t (by omega) (by omega) h' h (by omega)]
  frame_out
  rw [read_unread_whole]

theorem out5_D (t : Fin cfg0.N) (h' : t.val % 8 = 7) (h : ¬ t.val < 8) :
    (outsAt0 m c t.val t.isLt).1 = k0_pay6 (kept m c t.val t.isLt) (iblk m c 2 t) (iblk m c 3 t) (iblk m c 4 t) := by
  rw [kept_D m c t h' h]
  unfold kept
  rw [outsAt0_D m c t (by omega) (by omega) h' h (by omega)]
  frame_out
  rw [read_unread_whole]

theorem out6_C (t : Fin cfg0.N) (h' : t.val % 8 = 7) (h : t.val < 8) :
    (outsAt0 m c t.val t.isLt).2.1 = k0_pay8 (kept m c t.val t.isLt) (iblk m c 2 t) (iblk m c 3 t) (iblk m c 4 t) := by
  rw [kept_C m c t h' h]
  unfold kept
  rw [outsAt0_C m c t (by omega) (by omega) h' h (by omega)]
  frame_out
  rw [read_unread_whole]

theorem out6_D (t : Fin cfg0.N) (h' : t.val % 8 = 7) (h : ¬ t.val < 8) :
    (outsAt0 m c t.val t.isLt).2.1 = k0_pay8 (kept m c t.val t.isLt) (iblk m c 2 t) (iblk m c 3 t) (iblk m c 4 t) := by
  rw [kept_D m c t h' h]
  unfold kept
  rw [outsAt0_D m c t (by omega) (by omega) h' h (by omega)]
  frame_out
  rw [read_unread_whole]

/-! ## The blocks -/

theorem place0 : ∀ t : Fin grid0.N, win0_0.index t 0 = t.val / 8 ∧ win0_0.index t 1 = t.val % 8 := by decide +kernel
theorem place1 : ∀ t : Fin grid0.N, win0_1.index t 0 = t.val % 8 ∧ win0_1.index t 1 = 0 ∧ win0_1.index t 2 = 0 := by decide +kernel
theorem place2 : ∀ t : Fin grid0.N, win0_2.index t 0 = t.val / 8 ∧ win0_2.index t 1 = 0 := by decide +kernel
theorem place3 : ∀ t : Fin grid0.N, win0_3.index t 0 = 0 ∧ win0_3.index t 1 = 0 := by decide +kernel
theorem place4 : ∀ t : Fin grid0.N, win0_4.index t 0 = t.val / 8 ∧ win0_4.index t 1 = 0 := by decide +kernel
theorem place5 : ∀ t : Fin grid0.N, win0_5.index t 0 = t.val / 8 ∧ win0_5.index t 1 = 0 := by decide +kernel
theorem place6 : ∀ t : Fin grid0.N, win0_6.index t 0 = t.val / 8 ∧ win0_6.index t 1 = 0 := by decide +kernel
theorem place7 : ∀ t : Fin grid0.N, win0_7.index t 0 = 0 ∧ win0_7.index t 1 = 0 := by decide +kernel

/-- The group of steps a step belongs to. -/
abbrev tile (t : Fin cfg0.N) : Fin 4 := ⟨t.val / 8, by have : t.val < 32 := t.isLt; omega⟩
/-- Its place in the group. -/
abbrev spot (t : Fin cfg0.N) : Fin 8 := ⟨t.val % 8, Nat.mod_lt _ (by omega)⟩

/-- Column `j` of block `k`. -/
abbrev at_ (k : Fin 8) (j : Fin 512) : Fin 4096 := ⟨512 * k.val + j.val, by omega⟩

/-- The arrays: the gradient of the projection, its weights, the rows, the scales, and the gradient beside the norm. -/
abbrev arrH : Shape.Idx ⟨2, ![4096, 4096]⟩ → EReal := m ((c : Thread nD τ).loc main_arg0)
abbrev arrW : Shape.Idx ⟨3, ![8, 1024, 512]⟩ → EReal := m ((c : Thread nD τ).loc main_arg1)
abbrev arrX : Shape.Idx ⟨2, ![4096, 1024]⟩ → EReal := m ((c : Thread nD τ).loc main_arg2)
abbrev arrS : Shape.Idx ⟨1, ![1024]⟩ → EReal := m ((c : Thread nD τ).loc main_arg3)
abbrev arrY : Shape.Idx ⟨2, ![4096, 1024]⟩ → EReal := m ((c : Thread nD τ).loc main_arg4)

theorem blk0 (t : Fin cfg0.N) (r : Fin 1024) (j : Fin 512) :
    iblk m c 0 t (ix2 r j) = arrH m c (ix2 (row (tile t) r) (at_ (spot t) j)) := by
  obtain ⟨a0, a1⟩ := place0 t
  blk_ext [iblk, a0, a1]

theorem blk1 (t : Fin cfg0.N) (d : Fin 1024) (j : Fin 512) :
    iblk m c 1 t (ix3 0 d j) = arrW m c (ix3 (spot t) d j) := by
  obtain ⟨a0, a1, a2⟩ := place1 t
  blk_ext [iblk, a0, a1, a2]

theorem blk2 (t : Fin cfg0.N) (r k : Fin 1024) :
    iblk m c 2 t (ix2 r k) = arrX m c (ix2 (row (tile t) r) k) := by
  obtain ⟨a0, a1⟩ := place2 t
  blk_ext [iblk, a0, a1]

theorem V_scales : V m c main_v0 = shapeCast S1x1024 (arrS m c) shapeCasts_S1024_S1x1024 := by
  rfl

theorem blk3 (t : Fin cfg0.N) (k : Fin 1024) : iblk m c 3 t (ix2 0 k) = arrS m c (ix1 k) := by
  obtain ⟨a0, a1⟩ := place3 t
  show V m c main_v0 ((win0_3.blk t).view.emb (ix2 0 k)) = _
  rw [V_scales]
  have e : (win0_3.blk t).view.emb (ix2 0 k) = ix2 0 k := by blk_ext [a0, a1]
  rw [e]
  pointwise []

theorem blk4 (t : Fin cfg0.N) (r k : Fin 1024) :
    iblk m c 4 t (ix2 r k) = arrY m c (ix2 (row (tile t) r) k) := by
  obtain ⟨a0, a1⟩ := place4 t
  blk_ext [iblk, a0, a1]

/-! ## The sums over a group -/

/-- The gradient of the normalised array. -/
def grad (H : Shape.Idx ⟨2, ![4096, 4096]⟩ → EReal) (W : Shape.Idx ⟨3, ![8, 1024, 512]⟩ → EReal) (n : Fin 4096) (d : Fin 1024) : EReal :=
  ∑ k : Fin 8, ∑ j : Fin 512, H (ix2 n (at_ k j)) * W (ix3 k d j)

/-- What step `n` adds to the sums. -/
def term (r d : Fin 1024) (n : ℕ) : EReal := if h : n < cfg0.N then k0_pay2 (iblk m c 0 ⟨n, h⟩) (iblk m c 1 ⟨n, h⟩) (ix2 r d) else 0

theorem term_at (t : Fin cfg0.N) (r d : Fin 1024) : term m c r d t.val = k0_pay2 (iblk m c 0 t) (iblk m c 1 t) (ix2 r d) := by
  unfold term
  rw [dif_pos t.isLt]

theorem term_eq (r d : Fin 1024) (i : Fin 4) (k : Fin 8) :
    term m c r d (8 * i.val + k.val) =
      ∑ j : Fin 512, arrH m c (ix2 (row i r) (at_ k j)) * arrW m c (ix3 k d j) := by
  have hn : 8 * i.val + k.val < cfg0.N := show _ < 32 by omega
  have hi : tile ⟨_, hn⟩ = i := Fin.ext (show (8 * i.val + k.val) / 8 = i.val by omega)
  have hk : spot ⟨_, hn⟩ = k := Fin.ext (show (8 * i.val + k.val) % 8 = k.val by omega)
  unfold term
  rw [dif_pos hn, pay_first]
  refine Finset.sum_congr rfl fun j _ => ?_
  rw [blk0, blk1, hi, hk]

theorem kept_eq (t : Fin cfg0.N) (h : t.val % 8 = 7) (r d : Fin 1024) :
    kept m c t.val t.isLt (ix2 r d) =
      grad (arrH m c) (arrW m c) (row (tile t) r) d := by
  have := Pipeline.eq_sum_of_reset_step_apply_of_mod (fun n hn => kept m c n hn) 8 (fun _ => (0 : EReal)) (fun n y => term m c (y 0) (y 1) n)
    (fun t h y => by
      idx_vars y
      rw [kept_first m c t h, zero_add]
      exact (term_at m c t y0 y1).symm)
    (fun t h y => by
      idx_vars y
      rw [kept_next m c t h, pay_next]
      refine congrArg₂ (· + ·) rfl ?_
      rw [← pay_first]
      exact (term_at m c t y0 y1).symm) t h (ix2 r d)
  refine this.trans ?_
  rw [zero_add, Finset.sum_range]
  exact Finset.sum_congr rfl fun k _ => term_eq m c r d (tile t) k

abbrev arrD : Fin 4096 → Fin 1024 → EReal := grad (arrH m c) (arrW m c)

theorem part_eq (t : Fin cfg0.N) (h : t.val % 8 = 7) (d : Fin 1024) :
    k0_pay7 (kept m c t.val t.isLt) (iblk m c 2 t) (ix2 0 d) = part (arrD m c) (arrX m c) d (t.val / 8) := by
  rw [pay_part]
  refine Finset.sum_congr rfl fun r _ => ?_
  rw [dif_pos (tile t).isLt, kept_eq m c t h, blk2]
  simp only [blk2]

theorem out7_last (t : Fin cfg0.N) (h : t.val % 32 = 31) (d : Fin 1024) :
    (outsAt0 m c t.val t.isLt).2.2.1 (ix2 0 d) = scalesGrad (arrD m c) (arrX m c) d := by
  have h31 : t.val = 31 := by have : t.val < 32 := t.isLt; omega
  have := sum_groups (J := 8) (by omega) (fun n (hn : n < cfg0.N) => (outsAt0 m c n hn).2.2.1 (ix2 0 d)) (part (arrD m c) (arrX m c) d)
    (fun n hn h1 h2 => by
      by_cases h0 : n % 8 = 0
      · exact congrFun (out7_A m c ⟨n, hn⟩ h0) _
      · exact congrFun (out7_B m c ⟨n, hn⟩ h0 h1) _)
    (fun n hn h1 => by
      have h7 : n % 8 = 7 := by omega
      rw [out7_C m c ⟨n, hn⟩ h7 (show n < 8 by omega), part_eq m c ⟨n, hn⟩ h7]
      exact congrArg (part (arrD m c) (arrX m c) d) (show n / 8 = 0 by omega))
    (fun n hn h1 h2 => by
      rw [out7_D m c ⟨n, hn⟩ h1 (Nat.not_lt.2 h2), pay_add, part_eq m c ⟨n, hn⟩ h1])
    t.val t.isLt (by omega)
  rw [this, h31, ← parts_sum, Finset.sum_range]

/-! ## The results -/

/-- The gradient of the rows. -/
abbrev G5 : Shape.Idx ⟨2, ![4096, 1024]⟩ → EReal := rowsGrad (arrD m c) (arrX m c) (arrS m c) (arrY m c)

/-- The gradient of the scales. -/
def G7 : Shape.Idx ⟨2, ![1, 1024]⟩ → EReal := fun y => scalesGrad (arrD m c) (arrX m c) (y 1)

theorem dx_at (t : Fin cfg0.N) (h : t.val % 8 = 7) (r d : Fin 1024) :
    k0_pay6 (kept m c t.val t.isLt) (iblk m c 2 t) (iblk m c 3 t) (iblk m c 4 t) (ix2 r d) = G5 m c (ix2 (row (tile t) r) d) := by
  rw [pay_dx]
  simp only [blk2, blk3, blk4, kept_eq m c t h]
  rfl

theorem out5 (t : Fin cfg0.N) (h : t.val % 8 = 7) :
    (outsAt0 m c t.val t.isLt).1 = k0_pay6 (kept m c t.val t.isLt) (iblk m c 2 t) (iblk m c 3 t) (iblk m c 4 t) := by
  by_cases h8 : t.val < 8
  · exact out5_C m c t h h8
  · exact out5_D m c t h h8

theorem out6 (t : Fin cfg0.N) (h : t.val % 8 = 7) :
    (outsAt0 m c t.val t.isLt).2.1 = k0_pay8 (kept m c t.val t.isLt) (iblk m c 2 t) (iblk m c 3 t) (iblk m c 4 t) := by
  by_cases h8 : t.val < 8
  · exact out6_C m c t h h8
  · exact out6_D m c t h h8

theorem arr5 : (dats m 0 c).arrAt 5 cfg0.N = G5 m c := by
  refine (dats m 0 c).arrAt_eq_of_covers 5 _ (by decide +kernel) fun t hf y => ?_
  have h := (flush0_5 t).mp hf
  obtain ⟨o0, o1⟩ := place5 t
  refine (congrFun ((after0_5 m c t).trans (out5 m c t h)) y).trans ?_
  idx_vars y
  refine (dx_at m c t h y0 y1).trans ?_
  blk_ext [o0, o1]

theorem arr6 : (dats m 0 c).arrAt 6 cfg0.N = G5 m c := by
  refine (dats m 0 c).arrAt_eq_of_covers 6 _ (by decide +kernel) fun t hf y => ?_
  have h := (flush0_6 t).mp hf
  obtain ⟨o0, o1⟩ := place6 t
  refine (congrFun ((after0_6 m c t).trans (out6 m c t h)) y).trans ?_
  idx_vars y
  refine ((pay_round _ _ _ _ _).trans (dx_at m c t h y0 y1)).trans ?_
  blk_ext [o0, o1]

theorem out7_at (t : Fin cfg0.N) (h : t.val % 32 = 31) (y : Shape.Idx ⟨2, ![1, 1024]⟩) :
    (outsAt0 m c t.val t.isLt).2.2.1 y = G7 m c ((win0_7.blk t).view.emb y) := by
  obtain ⟨o0, o1⟩ := place7 t
  idx_vars y
  obtain rfl : y0 = 0 := Subsingleton.elim _ _
  have e : (win0_7.blk t).view.emb (ix2 0 y1) = ix2 0 y1 := by blk_ext [o0, o1]
  rw [e, out7_last m c t h y1]
  rfl

theorem arr7 : (dats m 0 c).arrAt 7 cfg0.N = G7 m c := by
  refine (dats m 0 c).arrAt_eq_of_covers 7 _ (by decide +kernel) fun t hf y => ?_
  exact (congrFun (after0_7 m c t) y).trans (out7_at m c t ((flush0_7 t).mp hf) y)

end Cert.PoolInBIdeal

/-! ## The reference -/

namespace Cert.PoolInBRefIdeal

open Cert.PoolInBRefIdeal.Read Cert.NormGrad Cert.PoolInBIdeal

variable (H : Shape.Idx ⟨2, ![4096, 4096]⟩ → EReal) (W : Shape.Idx ⟨3, ![8, 1024, 512]⟩ → EReal) (X : Shape.Idx ⟨2, ![4096, 1024]⟩ → EReal)
  (S : Shape.Idx ⟨1, ![1024]⟩ → EReal) (Y : Shape.Idx ⟨2, ![4096, 1024]⟩ → EReal)

theorem gradient (n : Fin 4096) (d : Fin 1024) : val_main_v21 (F := Ideal) H W (ix2 n d) = grad H W n d := by
  pointwise [val_main_v21, val_main_v20, val_main_v18, val_main_v17, val_main_v16]
  unfold grad
  refine (sum_blocks (p := 8) (q := 512) _).trans (Finset.sum_congr rfl fun k _ => Finset.sum_congr rfl fun j _ => ?_)
  have e : (⟨(512 * k.val + j.val) / 512, by omega⟩ : Fin 8) = k := Fin.ext (show (512 * k.val + j.val) / 512 = k.val by omega)
  have e' : (⟨(512 * k.val + j.val) % 512, by omega⟩ : Fin 512) = j := Fin.ext (show (512 * k.val + j.val) % 512 = j.val by omega)
  exact congrArg₂ (fun a b => H (ix2 n (at_ k j)) * W (ix3 a d b)) e e'

theorem mean (n : Fin 4096) : val_main_v6 (F := Ideal) X (ix2 n 0) = ms fun k => X (ix2 n k) := by
  pointwise [val_main_v6, val_main_v5, val_main_v4, val_main_v3, val_main_v2, val_main_v1, val_main_v0]
  refine congrArg₂ (· + ·) (congrArg₂ Ideal.div ?_ rfl) rfl
  exact (congrArg₂ (· + ·) zero_literal rfl).trans (zero_add _)

theorem root (n : Fin 4096) : val_main_v7 (F := Ideal) X (ix2 n 0) = inv fun k => X (ix2 n k) := by
  pointwise [val_main_v7]
  rw [mean]
  rfl

theorem slope_at (n : Fin 4096) : val_main_v10 (F := Ideal) X (ix2 n 0) = minusHalf * Ideal.div (inv fun k => X (ix2 n k)) (ms fun k => X (ix2 n k)) := by
  pointwise [val_main_v10, val_main_v9, val_main_v8]
  rw [mean, root]
  rfl

theorem rows (y : Shape.Idx ⟨2, ![4096, 1024]⟩) : val_main_v42 (F := Ideal) H W X S Y y = rowsGrad (grad H W) X S Y y := by
  idx_vars y
  pointwise [val_main_v42, val_main_v41, val_main_v40, val_main_v39, val_main_v38, val_main_v37, val_main_v36, val_main_v35, val_main_v34, val_main_v33, val_main_v32, val_main_v31, val_main_v30, val_main_v29, val_main_v28, val_main_v26, val_main_v25, val_main_v13]
  have z5 : val_main_cst_5 (F := Ideal) (Shape.Idx.first Gen.h_S_) = 0 := zero_literal
  have z7 : val_main_cst_7 (F := Ideal) (Shape.Idx.first Gen.h_S_) = 0 := zero_literal
  simp only [gradient, root, z5, z7, zero_add, Finset.univ_unique, Finset.sum_singleton]
  rw [show val_main_v10 (F := Ideal) X (ix2 y0 default) = _ from slope_at X y0]
  exact dx_eq (fun k => X (ix2 y0 k)) (grad H W y0) (fun k => S (ix1 k)) (Y (ix2 y0 y1)) y1

theorem rounded (y) : val_main_v43 (F := Ideal) H W X S Y y = val_main_v42 (F := Ideal) H W X S Y y := by
  rfl

theorem scales (y : Shape.Idx ⟨2, ![1, 1024]⟩) : val_main_v44 (F := Ideal) H W X y = scalesGrad (grad H W) X (y 1) := by
  idx_vars y
  pointwise [val_main_v44, val_main_v27, val_main_v24, val_main_v23, val_main_v22, val_main_v12, val_main_v11]
  have z3 : val_main_cst_3 (F := Ideal) (Shape.Idx.first Gen.h_S_) = 0 := zero_literal
  have z4 : val_main_cst_4 (F := Ideal) (Shape.Idx.first Gen.h_S_) = 0 := zero_literal
  simp only [gradient, root, z3, z4, zero_add, Finset.univ_unique, Finset.sum_singleton]
  exact Finset.sum_congr rfl fun n _ => mul_comm _ _

end Cert.PoolInBRefIdeal

end
-- ==== Proof.NormConv.lean ====
/-
  The gradient of the convolution layer's normalised projection: of the rows, rounded and not, and of the scales.

  As for the pooling layers, but the columns' blocks come in another order: the incoming gradient has the four parts of
  a group of columns side by side, the weights have each part's groups together.
-/
module

public import proofs.«01_k».proof.Proof.NormPool
public import proofs.«01_k».proof.Proof.Gen.ConvInBIdeal.Value
public import proofs.«01_k».proof.Proof.Gen.ConvInBRefIdeal.Read
public import proofs.«01_k».proof.Proof.Gen.ConvInBRefIdeal.Run
public import Idealize.ShloMosaic.Lib.Pipeline.ValueKit
public import Idealize.ShloMosaic.Lib.Pointwise
public import Idealize.ShloMosaic.Lib.Pipeline.ReadBack

set_option maxRecDepth 16384

@[expose] public noncomputable section

open Idealize.ShloMosaic Idealize.ShloMosaic.TcCoe Idealize.SL.Sem

namespace Cert.ConvInBIdeal

open Cert.ConvInBIdeal.Gen Cert.NormGrad

/-! ## What the steps compute, at an entry -/

/-- The steps compute what the pooling layers' steps compute. -/
theorem pay1_eq : k0_pay1 (F := Ideal) = PoolInBIdeal.Gen.k0_pay1 := rfl
theorem pay2_eq : k0_pay2 (F := Ideal) = PoolInBIdeal.Gen.k0_pay2 := rfl
theorem pay3_eq : k0_pay3 (F := Ideal) = PoolInBIdeal.Gen.k0_pay3 := rfl
theorem pay4_eq : k0_pay4 (F := Ideal) = PoolInBIdeal.Gen.k0_pay4 := rfl
theorem pay6_eq : k0_pay6 (F := Ideal) = PoolInBIdeal.Gen.k0_pay6 := rfl
theorem pay7_eq : k0_pay7 (F := Ideal) = PoolInBIdeal.Gen.k0_pay7 := rfl
theorem pay8_eq : k0_pay8 (F := Ideal) = PoolInBIdeal.Gen.k0_pay8 := rfl

/-! ## The four cases -/

variable (m : (ℓ : Loc nD τ sig) → Buf (Elt Ideal) ℓ) (c : Dev nD)

/-- The sums kept over a group of steps. -/
abbrev kept (t : ℕ) (h : t < cfg0.N) : Vec Ideal S1024x1024 .f32 := (outsAt0 m c t h).2.2.2

theorem before_lt (t : Fin cfg0.N) : t.val - 1 < cfg0.N := Nat.lt_of_le_of_lt (Nat.sub_le _ _) t.isLt

theorem kept_first (t : Fin cfg0.N) (h : t.val % 16 = 0) : kept m c t.val t.isLt = k0_pay2 (iblk m c 0 t) (iblk m c 1 t) := by
  unfold kept
  rw [outsAt0_A m c t h (by omega) (by omega)]
  frame_out

theorem kept_B (t : Fin cfg0.N) (h : ¬ t.val % 16 = 0) (h' : ¬ t.val % 16 = 15) :
    kept m c t.val t.isLt = k0_pay3 (iblk m c 0 t) (iblk m c 1 t) (kept m c (t.val - 1) (before_lt t)) := by
  unfold kept
  rw [outsAt0_B m c t h (by omega) h']
  frame_out
  rw [read_unread_whole]

theorem kept_C (t : Fin cfg0.N) (h' : t.val % 16 = 15) (h : t.val < 16) :
    kept m c t.val t.isLt = k0_pay3 (iblk m c 0 t) (iblk m c 1 t) (kept m c (t.val - 1) (before_lt t)) := by
  unfold kept
  rw [outsAt0_C m c t (by omega) (by omega) h' h (by omega)]
  frame_out
  rw [read_unread_whole]

theorem kept_D (t : Fin cfg0.N) (h' : t.val % 16 = 15) (h : ¬ t.val < 16) :
    kept m c t.val t.isLt = k0_pay3 (iblk m c 0 t) (iblk m c 1 t) (kept m c (t.val - 1) (before_lt t)) := by
  unfold kept
  rw [outsAt0_D m c t (by omega) (by omega) h' h (by omega)]
  frame_out
  rw [read_unread_whole]

theorem kept_next (t : Fin cfg0.N) (h : ¬ t.val % 16 = 0) :
    kept m c t.val t.isLt = k0_pay3 (iblk m c 0 t) (iblk m c 1 t) (kept m c (t.val - 1) (before_lt t)) := by
  by_cases h' : t.val % 16 = 15
  · by_cases h16 : t.val < 16
    · exact kept_C m c t h' h16
    · exact kept_D m c t h' h16
  · exact kept_B m c t h h'

theorem out7_A (t : Fin cfg0.N) (h : t.val % 16 = 0) :
    (outsAt0 m c t.val t.isLt).2.2.1 = (outsAt0 m c (t.val - 1) (before_lt t)).2.2.1 := by
  rw [outsAt0_A m c t h (by omega) (by omega)]
  rfl

theorem out7_B (t : Fin cfg0.N) (h : ¬ t.val % 16 = 0) (h' : ¬ t.val % 16 = 15) :
    (outsAt0 m c t.val t.isLt).2.2.1 = (outsAt0 m c (t.val - 1) (before_lt t)).2.2.1 := by
  rw [outsAt0_B m c t h (by omega) h']
  rfl

theorem out7_C (t : Fin cfg0.N) (h' : t.val % 16 = 15) (h : t.val < 16) :
    (outsAt0 m c t.val t.isLt).2.2.1 = k0_pay7 (kept m c t.val t.isLt) (iblk m c 2 t) := by
  rw [kept_C m c t h' h]
  unfold kept
  rw [outsAt0_C m c t (by omega) (by omega) h' h (by omega)]
  frame_out
  rw [read_unread_whole]

theorem out7_D (t : Fin cfg0.N) (h' : t.val % 16 = 15) (h : ¬ t.val < 16) :
    (outsAt0 m c t.val t.isLt).2.2.1 =
      k0_pay4 (k0_pay7 (kept m c t.val t.isLt) (iblk m c 2 t)) (outsAt0 m c (t.val - 1) (before_lt t)).2.2.1 := by
  rw [kept_D m c t h' h]
  unfold kept
  rw [outsAt0_D m c t (by omega) (by omega) h' h (by omega)]
  frame_out
  rw [read_unread_whole]

theorem out5_C (t : Fin cfg0.N) (h' : t.val % 16 = 15) (h : t.val < 16) :
    (outsAt0 m c t.val t.isLt).1 = k0_pay6 (kept m c t.val t.isLt) (iblk m c 2 t) (iblk m c 3 t) (iblk m c 4 t) := by
  rw [kept_C m c t h' h]
  unfold kept
  rw [outsAt0_C m c t (by omega) (by omega) h' h (by omega)]
  frame_out
  rw [read_unread_whole]

theorem out5_D (t : Fin cfg0.N) (h' : t.val % 16 = 15) (h : ¬ t.val < 16) :
    (outsAt0 m c t.val t.isLt).1 = k0_pay6 (kept m c t.val t.isLt) (iblk m c 2 t) (iblk m c 3 t) (iblk m c 4 t) := by
  rw [kept_D m c t h' h]
  unfold kept
  rw [outsAt0_D m c t (by omega) (by omega) h' h (by omega)]
  frame_out
  rw [read_unread_whole]

theorem out6_C (t : Fin cfg0.N) (h' : t.val % 16 = 15) (h : t.val < 16) :
    (outsAt0 m c t.val t.isLt).2.1 = k0_pay8 (kept m c t.val t.isLt) (iblk m c 2 t) (iblk m c 3 t) (iblk m c 4 t) := by
  rw [kept_C m c t h' h]
  unfold kept
  rw [outsAt0_C m c t (by omega) (by omega) h' h (by omega)]
  frame_out
  rw [read_unread_whole]

theorem out6_D (t : Fin cfg0.N) (h' : t.val % 16 = 15) (h : ¬ t.val < 16) :
    (outsAt0 m c t.val t.isLt).2.1 = k0_pay8 (kept m c t.val t.isLt) (iblk m c 2 t) (iblk m c 3 t) (iblk m c 4 t) := by
  rw [kept_D m c t h' h]
  unfold kept
  rw [outsAt0_D m c t (by omega) (by omega) h' h (by omega)]
  frame_out
  rw [read_unread_whole]

/-! ## The blocks -/

/-- The block of the weights that step `t` of a group takes: rows and columns of a square of sixteen exchanged. -/
def turn (t : ℕ) : ℕ := 4 * (t % 4) + t % 16 / 4

/-- As a permutation of the sixteen blocks. -/
def turned : Equiv.Perm (Fin 16) where
  toFun k := ⟨turn k.val, by unfold turn; omega⟩
  invFun k := ⟨turn k.val, by unfold turn; omega⟩
  left_inv := by decide
  right_inv := by decide

theorem place0 : ∀ t : Fin grid0.N, win0_0.index t 0 = t.val / 16 ∧ win0_0.index t 1 = t.val % 16 := by decide +kernel
theorem place1 : ∀ t : Fin grid0.N, win0_1.index t 0 = (turn t.val) / 2 ∧ win0_1.index t 1 = 0 ∧ win0_1.index t 2 = turn t.val % 2 := by decide +kernel
theorem place2 : ∀ t : Fin grid0.N, win0_2.index t 0 = t.val / 16 ∧ win0_2.index t 1 = 0 := by decide +kernel
theorem place3 : ∀ t : Fin grid0.N, win0_3.index t 0 = 0 ∧ win0_3.index t 1 = 0 := by decide +kernel
theorem place4 : ∀ t : Fin grid0.N, win0_4.index t 0 = t.val / 16 ∧ win0_4.index t 1 = 0 := by decide +kernel
theorem place5 : ∀ t : Fin grid0.N, win0_5.index t 0 = t.val / 16 ∧ win0_5.index t 1 = 0 := by decide +kernel
theorem place6 : ∀ t : Fin grid0.N, win0_6.index t 0 = t.val / 16 ∧ win0_6.index t 1 = 0 := by decide +kernel
theorem place7 : ∀ t : Fin grid0.N, win0_7.index t 0 = 0 ∧ win0_7.index t 1 = 0 := by decide +kernel

/-- The group of steps a step belongs to. -/
abbrev tile (t : Fin cfg0.N) : Fin 4 := ⟨t.val / 16, by have : t.val < 64 := t.isLt; omega⟩
/-- Its place in the group. -/
abbrev spot (t : Fin cfg0.N) : Fin 16 := ⟨t.val % 16, Nat.mod_lt _ (by omega)⟩

/-- Column `j` of block `k`. -/
abbrev at_ (k : Fin 16) (j : Fin 512) : Fin 8192 := ⟨512 * k.val + j.val, by omega⟩

/-- The slice of the weights that holds block `k`, and column `j` of that block in it. -/
abbrev slice (k : Fin 16) : Fin 8 := ⟨k.val / 2, by omega⟩
abbrev within (k : Fin 16) (j : Fin 512) : Fin 1024 := ⟨512 * (k.val % 2) + j.val, by omega⟩

/-- The arrays: the gradient of the projection, its weights, the rows, the scales, and the gradient beside the norm. -/
abbrev arrH : Shape.Idx ⟨2, ![4096, 8192]⟩ → EReal := m ((c : Thread nD τ).loc main_arg0)
abbrev arrW : Shape.Idx ⟨3, ![8, 1024, 1024]⟩ → EReal := m ((c : Thread nD τ).loc main_arg1)
abbrev arrX : Shape.Idx ⟨2, ![4096, 1024]⟩ → EReal := m ((c : Thread nD τ).loc main_arg2)
abbrev arrS : Shape.Idx ⟨1, ![1024]⟩ → EReal := m ((c : Thread nD τ).loc main_arg3)
abbrev arrY : Shape.Idx ⟨2, ![4096, 1024]⟩ → EReal := m ((c : Thread nD τ).loc main_arg4)

theorem blk0 (t : Fin cfg0.N) (r : Fin 1024) (j : Fin 512) :
    iblk m c 0 t (ix2 r j) = arrH m c (ix2 (row (tile t) r) (at_ (spot t) j)) := by
  obtain ⟨a0, a1⟩ := place0 t
  blk_ext [iblk, a0, a1]

theorem blk1 (t : Fin cfg0.N) (d : Fin 1024) (j : Fin 512) :
    iblk m c 1 t (ix3 0 d j) = arrW m c (ix3 (slice (turned (spot t))) d (within (turned (spot t)) j)) := by
  obtain ⟨a0, a1, a2⟩ := place1 t
  have e : (turned (spot t)).val = turn t.val := by
    show turn (t.val % 16) = _
    unfold turn
    omega
  blk_ext [iblk, a0, a1, a2]
  all_goals omega

theorem blk2 (t : Fin cfg0.N) (r k : Fin 1024) :
    iblk m c 2 t (ix2 r k) = arrX m c (ix2 (row (tile t) r) k) := by
  obtain ⟨a0, a1⟩ := place2 t
  blk_ext [iblk, a0, a1]

theorem V_scales : V m c main_v0 = shapeCast S1x1024 (arrS m c) shapeCasts_S1024_S1x1024 := by
  rfl

theorem blk3 (t : Fin cfg0.N) (k : Fin 1024) : iblk m c 3 t (ix2 0 k) = arrS m c (ix1 k) := by
  obtain ⟨a0, a1⟩ := place3 t
  show V m c main_v0 ((win0_3.blk t).view.emb (ix2 0 k)) = _
  rw [V_scales]
  have e : (win0_3.blk t).view.emb (ix2 0 k) = ix2 0 k := by blk_ext [a0, a1]
  rw [e]
  pointwise []

theorem blk4 (t : Fin cfg0.N) (r k : Fin 1024) :
    iblk m c 4 t (ix2 r k) = arrY m c (ix2 (row (tile t) r) k) := by
  obtain ⟨a0, a1⟩ := place4 t
  blk_ext [iblk, a0, a1]

/-! ## The sums over a group -/

/-- The gradient of the normalised array. -/
def grad (H : Shape.Idx ⟨2, ![4096, 8192]⟩ → EReal) (W : Shape.Idx ⟨3, ![8, 1024, 1024]⟩ → EReal) (n : Fin 4096) (d : Fin 1024) : EReal :=
  ∑ k : Fin 16, ∑ j : Fin 512, H (ix2 n (at_ k j)) * W (ix3 (slice (turned k)) d (within (turned k) j))

/-- What step `n` adds to the sums. -/
def term (r d : Fin 1024) (n : ℕ) : EReal := if h : n < cfg0.N then k0_pay2 (iblk m c 0 ⟨n, h⟩) (iblk m c 1 ⟨n, h⟩) (ix2 r d) else 0

theorem term_at (t : Fin cfg0.N) (r d : Fin 1024) : term m c r d t.val = k0_pay2 (iblk m c 0 t) (iblk m c 1 t) (ix2 r d) := by
  unfold term
  rw [dif_pos t.isLt]

theorem term_eq (r d : Fin 1024) (i : Fin 4) (k : Fin 16) :
    term m c r d (16 * i.val + k.val) =
      ∑ j : Fin 512, arrH m c (ix2 (row i r) (at_ k j)) * arrW m c (ix3 (slice (turned k)) d (within (turned k) j)) := by
  have hn : 16 * i.val + k.val < cfg0.N := show _ < 64 by omega
  have hi : tile ⟨_, hn⟩ = i := Fin.ext (show (16 * i.val + k.val) / 16 = i.val by omega)
  have hk : spot ⟨_, hn⟩ = k := Fin.ext (show (16 * i.val + k.val) % 16 = k.val by omega)
  unfold term
  rw [dif_pos hn, pay2_eq, PoolInBIdeal.pay_first]
  refine Finset.sum_congr rfl fun j _ => ?_
  rw [blk0, blk1, hi, hk]

theorem kept_eq (t : Fin cfg0.N) (h : t.val % 16 = 15) (r d : Fin 1024) :
    kept m c t.val t.isLt (ix2 r d) =
      grad (arrH m c) (arrW m c) (row (tile t) r) d := by
  have := Pipeline.eq_sum_of_reset_step_apply_of_mod (fun n hn => kept m c n hn) 16 (fun _ => (0 : EReal)) (fun n y => term m c (y 0) (y 1) n)
    (fun t h y => by
      idx_vars y
      rw [kept_first m c t h, zero_add]
      exact (term_at m c t y0 y1).symm)
    (fun t h y => by
      idx_vars y
      rw [kept_next m c t h, pay3_eq, PoolInBIdeal.pay_next]
      refine congrArg₂ (· + ·) rfl ?_
      rw [← PoolInBIdeal.pay_first, ← pay2_eq]
      exact (term_at m c t y0 y1).symm) t h (ix2 r d)
  refine this.trans ?_
  rw [zero_add, Finset.sum_range]
  exact Finset.sum_congr rfl fun k _ => term_eq m c r d (tile t) k

abbrev arrD : Fin 4096 → Fin 1024 → EReal := grad (arrH m c) (arrW m c)

theorem part_eq (t : Fin cfg0.N) (h : t.val % 16 = 15) (d : Fin 1024) :
    k0_pay7 (kept m c t.val t.isLt) (iblk m c 2 t) (ix2 0 d) = part (arrD m c) (arrX m c) d (t.val / 16) := by
  rw [pay7_eq, PoolInBIdeal.pay_part]
  refine Finset.sum_congr rfl fun r _ => ?_
  rw [dif_pos (tile t).isLt, kept_eq m c t h, blk2]
  simp only [blk2]

theorem out7_last (t : Fin cfg0.N) (h : t.val % 64 = 63) (d : Fin 1024) :
    (outsAt0 m c t.val t.isLt).2.2.1 (ix2 0 d) = scalesGrad (arrD m c) (arrX m c) d := by
  have h63 : t.val = 63 := by have : t.val < 64 := t.isLt; omega
  have := sum_groups (J := 16) (by omega) (fun n (hn : n < cfg0.N) => (outsAt0 m c n hn).2.2.1 (ix2 0 d)) (part (arrD m c) (arrX m c) d)
    (fun n hn h1 h2 => by
      by_cases h0 : n % 16 = 0
      · exact congrFun (out7_A m c ⟨n, hn⟩ h0) _
      · exact congrFun (out7_B m c ⟨n, hn⟩ h0 h1) _)
    (fun n hn h1 => by
      have h15 : n % 16 = 15 := by omega
      rw [out7_C m c ⟨n, hn⟩ h15 (show n < 16 by omega), part_eq m c ⟨n, hn⟩ h15]
      exact congrArg (part (arrD m c) (arrX m c) d) (show n / 16 = 0 by omega))
    (fun n hn h1 h2 => by
      rw [out7_D m c ⟨n, hn⟩ h1 (Nat.not_lt.2 h2), pay4_eq, PoolInBIdeal.pay_add, part_eq m c ⟨n, hn⟩ h1])
    t.val t.isLt (by omega)
  rw [this, h63, ← parts_sum, Finset.sum_range]

/-! ## The results -/

/-- The gradient of the rows. -/
abbrev G5 : Shape.Idx ⟨2, ![4096, 1024]⟩ → EReal := rowsGrad (arrD m c) (arrX m c) (arrS m c) (arrY m c)

/-- The gradient of the scales. -/
def G7 : Shape.Idx ⟨2, ![1, 1024]⟩ → EReal := fun y => scalesGrad (arrD m c) (arrX m c) (y 1)

theorem dx_at (t : Fin cfg0.N) (h : t.val % 16 = 15) (r d : Fin 1024) :
    k0_pay6 (kept m c t.val t.isLt) (iblk m c 2 t) (iblk m c 3 t) (iblk m c 4 t) (ix2 r d) = G5 m c (ix2 (row (tile t) r) d) := by
  rw [pay6_eq, PoolInBIdeal.pay_dx]
  simp only [blk2, blk3, blk4, kept_eq m c t h]
  rfl

theorem out5 (t : Fin cfg0.N) (h : t.val % 16 = 15) :
    (outsAt0 m c t.val t.isLt).1 = k0_pay6 (kept m c t.val t.isLt) (iblk m c 2 t) (iblk m c 3 t) (iblk m c 4 t) := by
  by_cases h16 : t.val < 16
  · exact out5_C m c t h h16
  · exact out5_D m c t h h16

theorem out6 (t : Fin cfg0.N) (h : t.val % 16 = 15) :
    (outsAt0 m c t.val t.isLt).2.1 = k0_pay8 (kept m c t.val t.isLt) (iblk m c 2 t) (iblk m c 3 t) (iblk m c 4 t) := by
  by_cases h16 : t.val < 16
  · exact out6_C m c t h h16
  · exact out6_D m c t h h16

theorem arr5 : (dats m 0 c).arrAt 5 cfg0.N = G5 m c := by
  refine (dats m 0 c).arrAt_eq_of_covers 5 _ (by decide +kernel) fun t hf y => ?_
  have h := (flush0_5 t).mp hf
  obtain ⟨o0, o1⟩ := place5 t
  refine (congrFun ((after0_5 m c t).trans (out5 m c t h)) y).trans ?_
  idx_vars y
  refine (dx_at m c t h y0 y1).trans ?_
  blk_ext [o0, o1]

theorem arr6 : (dats m 0 c).arrAt 6 cfg0.N = G5 m c := by
  refine (dats m 0 c).arrAt_eq_of_covers 6 _ (by decide +kernel) fun t hf y => ?_
  have h := (flush0_6 t).mp hf
  obtain ⟨o0, o1⟩ := place6 t
  refine (congrFun ((after0_6 m c t).trans (out6 m c t h)) y).trans ?_
  idx_vars y
  refine ((PoolInBIdeal.pay_round _ _ _ _ _).trans (dx_at m c t h y0 y1)).trans ?_
  blk_ext [o0, o1]

theorem out7_at (t : Fin cfg0.N) (h : t.val % 64 = 63) (y : Shape.Idx ⟨2, ![1, 1024]⟩) :
    (outsAt0 m c t.val t.isLt).2.2.1 y = G7 m c ((win0_7.blk t).view.emb y) := by
  obtain ⟨o0, o1⟩ := place7 t
  idx_vars y
  obtain rfl : y0 = 0 := Subsingleton.elim _ _
  have e : (win0_7.blk t).view.emb (ix2 0 y1) = ix2 0 y1 := by blk_ext [o0, o1]
  rw [e, out7_last m c t h y1]
  rfl

theorem arr7 : (dats m 0 c).arrAt 7 cfg0.N = G7 m c := by
  refine (dats m 0 c).arrAt_eq_of_covers 7 _ (by decide +kernel) fun t hf y => ?_
  exact (congrFun (after0_7 m c t) y).trans (out7_at m c t ((flush0_7 t).mp hf) y)

end Cert.ConvInBIdeal

/-! ## The reference -/

namespace Cert.ConvInBRefIdeal

open Cert.ConvInBRefIdeal.Read Cert.NormGrad Cert.ConvInBIdeal

variable (H : Shape.Idx ⟨2, ![4096, 8192]⟩ → EReal) (W : Shape.Idx ⟨3, ![8, 1024, 1024]⟩ → EReal) (X : Shape.Idx ⟨2, ![4096, 1024]⟩ → EReal)
  (S : Shape.Idx ⟨1, ![1024]⟩ → EReal) (Y : Shape.Idx ⟨2, ![4096, 1024]⟩ → EReal)

theorem gradient (n : Fin 4096) (d : Fin 1024) : val_main_v24 (F := Ideal) H W (ix2 n d) = grad H W n d := by
  pointwise [val_main_v24, val_main_v23, val_main_v21, val_main_v20, val_main_v19, val_main_v22, val_main_v18, val_main_v2, val_main_v1, val_main_v0]
  refine (sum_blocks (p := 16) (q := 512) _).trans ?_
  refine (Equiv.sum_comp turned _).symm.trans (Finset.sum_congr rfl fun k _ => Finset.sum_congr rfl fun j _ => ?_)
  have ht : 4 * ((turned k).val % 4) + (turned k).val % 16 / 4 = k.val := congrArg Fin.val (turned.left_inv k)
  have hu : (turned k).val < 16 := (turned k).isLt
  rw [Nat.mod_eq_of_lt hu] at ht
  refine congrArg₂ (· * ·) (congrArg (fun a => H (ix2 n a)) (Fin.ext ?_)) (congrArg₂ (fun a b => W (ix3 a d b)) (Fin.ext ?_) (Fin.ext ?_))
  · show (512 * (turned k).val + j.val) / 512 % 4 * 2048 + (512 * (turned k).val + j.val) / 2048 * 512 + (512 * (turned k).val + j.val) % 512 =
      512 * k.val + j.val
    rw [show (512 * (turned k).val + j.val) / 512 = (turned k).val by omega, show (512 * (turned k).val + j.val) / 2048 = (turned k).val / 4 by omega,
      show (512 * (turned k).val + j.val) % 512 = j.val by omega]
    omega
  · show (512 * (turned k).val + j.val) / 1024 = (turned k).val / 2
    omega
  · show (512 * (turned k).val + j.val) % 1024 = 512 * ((turned k).val % 2) + j.val
    omega

theorem mean (n : Fin 4096) : val_main_v9 (F := Ideal) X (ix2 n 0) = ms fun k => X (ix2 n k) := by
  pointwise [val_main_v9, val_main_v8, val_main_v7, val_main_v6, val_main_v5, val_main_v4, val_main_v3]
  refine congrArg₂ (· + ·) (congrArg₂ Ideal.div ?_ rfl) rfl
  exact (congrArg₂ (· + ·) zero_literal rfl).trans (zero_add _)

theorem root (n : Fin 4096) : val_main_v10 (F := Ideal) X (ix2 n 0) = inv fun k => X (ix2 n k) := by
  pointwise [val_main_v10]
  rw [mean]
  rfl

theorem slope_at (n : Fin 4096) : val_main_v13 (F := Ideal) X (ix2 n 0) = minusHalf * Ideal.div (inv fun k => X (ix2 n k)) (ms fun k => X (ix2 n k)) := by
  pointwise [val_main_v13, val_main_v12, val_main_v11]
  rw [mean, root]
  rfl

theorem rows (y : Shape.Idx ⟨2, ![4096, 1024]⟩) : val_main_v45 (F := Ideal) H W X S Y y = rowsGrad (grad H W) X S Y y := by
  idx_vars y
  pointwise [val_main_v45, val_main_v44, val_main_v43, val_main_v42, val_main_v41, val_main_v40, val_main_v39, val_main_v38, val_main_v37, val_main_v36, val_main_v35, val_main_v34, val_main_v33, val_main_v32, val_main_v31, val_main_v29, val_main_v28, val_main_v16]
  have z5 : val_main_cst_5 (F := Ideal) (Shape.Idx.first Gen.h_S_) = 0 := zero_literal
  have z7 : val_main_cst_7 (F := Ideal) (Shape.Idx.first Gen.h_S_) = 0 := zero_literal
  simp only [gradient, root, z5, z7, zero_add, Finset.univ_unique, Finset.sum_singleton]
  rw [show val_main_v13 (F := Ideal) X (ix2 y0 default) = _ from slope_at X y0]
  exact dx_eq (fun k => X (ix2 y0 k)) (grad H W y0) (fun k => S (ix1 k)) (Y (ix2 y0 y1)) y1

theorem rounded (y) : val_main_v46 (F := Ideal) H W X S Y y = val_main_v45 (F := Ideal) H W X S Y y := by
  rfl

theorem scales (y : Shape.Idx ⟨2, ![1, 1024]⟩) : val_main_v47 (F := Ideal) H W X y = scalesGrad (grad H W) X (y 1) := by
  idx_vars y
  pointwise [val_main_v47, val_main_v30, val_main_v27, val_main_v26, val_main_v25, val_main_v15, val_main_v14]
  have z3 : val_main_cst_3 (F := Ideal) (Shape.Idx.first Gen.h_S_) = 0 := zero_literal
  have z4 : val_main_cst_4 (F := Ideal) (Shape.Idx.first Gen.h_S_) = 0 := zero_literal
  simp only [gradient, root, z3, z4, zero_add, Finset.univ_unique, Finset.sum_singleton]
  exact Finset.sum_congr rfl fun n _ => mul_comm _ _

end Cert.ConvInBRefIdeal

end
-- ==== Proof.NormBody.lean ====
module

public import proofs.«01_k».proof.Proof.Gen.PoolInIdeal.Skeleton
public import proofs.«01_k».proof.Proof.Gen.PoolInIdeal.Frame
public import Idealize.ShloMosaic.Lib.Pipeline.ValueKit
public import Idealize.ShloMosaic.Lib.Pipeline.ReadBack

/-! The body of a normalised projection, in any program: what it stores at the first column tile of a row tile and at a later
one, and what a block that is stored to at the first tile alone holds at the later ones. -/

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolInIdeal Cert.PoolInIdeal.Gen

variable {F : FTy → Type} [FloatOps F] {sig : RefSig} {Λ : Labels}

local notation "𝕄" => MT 1 Topo.v7x sig Unit (Elt F) ℕ (UR sig 1 Topo.v7x) ℕ

/-- The text of the body, for any program's buffers: `b` says whether the column tile is the first of its row tile. -/
noncomputable def normBody (b : BitVec 1) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1024x512 .bf16) (harg5 : arg5.IsWhole) (arg6 : Memref sig .tc .vmem S1024x1024 .bf16) (harg6 : arg6.IsWhole) :
    Prog (TpuEff 1 Topo.v7x sig (Elt F) Λ .tc) PUnit := do
  if _h1 : b = 1#1 then do
    let v10 : Vec F S1024x1024 .f32 ← Prog.lift (.load arg2 (Rect.unit (s := S1024x1024) ![0, 0] S1024x1024.size inb_S1024x1024_S1024x1024_0_0).toLoadRect (View.loadsAt_vmem h_S1024x1024))
    let v21 : Vec F S1x1024 .f32 ← Prog.lift (.load arg3 (Rect.unit (s := S1x1024) ![0, 0] S1x1024.size inb_S1x1024_S1x1024_0_0).toLoadRect (View.loadsAt_vmem h_S1x1024))
    let v26 : Vec F S1024x1024 .bf16 ← Prog.lift (.load arg6 (Rect.unit (s := S1024x1024) ![0, 0] S1024x1024.size inb_S1024x1024_S1024x1024_0_0).toLoadRect (View.loadsAt_vmem h_S1024x1024))
    Prog.lift (.store arg6 (Rect.unit (s := S1024x1024) ![0, 0] S1024x1024.size inb_S1024x1024_S1024x1024_0_0) (k0_pay1 v10 v21) Finset.univ (View.stores_vmem h_S1024x1024 (harg6.storeExact_slice rfl _ packedbf16_S1024x1024_S1024x1024_0_0) (fun _ => rfl)) (.inl rfl))
    pure ⟨⟩
  else do
    pure ⟨⟩
  let v3 : Vec F S1024x1024 .bf16 ← Prog.lift (.load arg6 (Rect.unit (s := S1024x1024) ![0, 0] S1024x1024.size inb_S1024x1024_S1024x1024_0_0).toLoadRect (View.loadsAt_vmem h_S1024x1024))
  let v5 : Vec F S1x1024x512 .bf16 ← Prog.lift (.load arg4 (Rect.unit (s := S1x1024x512) ![0, 0, 0] S1x1024x512.size inb_S1x1024x512_S1x1024x512_0_0_0).toLoadRect (View.loadsAt_vmem h_S1x1024x512))
  let v9 : Vec F S1024x512 .bf16 ← Prog.lift (.load arg5 (Rect.unit (s := S1024x512) ![0, 0] S1024x512.size inb_S1024x512_S1024x512_0_0).toLoadRect (View.loadsAt_vmem h_S1024x512))
  Prog.lift (.store arg5 (Rect.unit (s := S1024x512) ![0, 0] S1024x512.size inb_S1024x512_S1024x512_0_0) (k0_pay2 v3 v5) Finset.univ (View.stores_vmem h_S1024x512 (harg5.storeExact_slice rfl _ packedbf16_S1024x512_S1024x512_0_0) (fun _ => rfl)) (.inl rfl))
  pure ⟨⟩

/-- The body at the first column tile of a row tile: it stores the normalised rows, then their product. -/
theorem body_first (defs : Defs 1 Topo.v7x sig (Elt F) Λ) (c : Dev 1) (b : BitVec 1) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1024x512 .bf16) (harg5 : arg5.IsWhole) (arg6 : Memref sig .tc .vmem S1024x1024 .bf16) (harg6 : arg6.IsWhole) (hc : b = 1#1)
    (x2 : Vec F S1024x1024 .f32) (x3 : Vec F S1x1024 .f32) (x4 : Vec F S1x1024x512 .bf16) (E : Set ℕ) (K : PUnit → sProp 𝕄) :
    iprop(owns (c : Thread 1 Topo.v7x) arg2 fullShare x2 ∗ owns (c : Thread 1 Topo.v7x) arg3 fullShare x3 ∗ owns (c : Thread 1 Topo.v7x) arg4 fullShare x4
      ∗ (∃ d, owns (c : Thread 1 Topo.v7x) arg5 fullShare d) ∗ (∃ d, owns (c : Thread 1 Topo.v7x) arg6 fullShare d)
      ∗ (iprop(owns (c : Thread 1 Topo.v7x) arg2 fullShare x2 ∗ owns (c : Thread 1 Topo.v7x) arg3 fullShare x3 ∗ owns (c : Thread 1 Topo.v7x) arg4 fullShare x4
        ∗ owns (c : Thread 1 Topo.v7x) arg5 fullShare (k0_pay2 (k0_pay1 x2 x3) x4) ∗ owns (c : Thread 1 Topo.v7x) arg6 fullShare (k0_pay1 x2 x3)) -∗ K ⟨⟩))
    ⊢ wp frame (wpE (defs) Variants.none c none) E (normBody b arg2 harg2 arg3 harg3 arg4 harg4 arg5 harg5 arg6 harg6) K := by
  unfold normBody
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2
  obtain rfl := harg3.eq_unread hf3
  obtain rfl := harg4.eq_unread hf4
  sl_exec (disch := sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (View.cover_of_tiledL _ S1024x512.size (by sl_kernel_rfl))]
    frame_out
  iexists _; isplitr
  swap; · iexact H6
  ipureintro
  frame_open
  rw [View.read_writes_eq_canon _ _ _ (View.cover_of_tiledL _ S1024x1024.size (by sl_kernel_rfl))]
  frame_out

/-- The body at a later column tile: the normalised rows stay, and their product is stored. -/
theorem body_later (defs : Defs 1 Topo.v7x sig (Elt F) Λ) (c : Dev 1) (b : BitVec 1) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1024x512 .bf16) (harg5 : arg5.IsWhole) (arg6 : Memref sig .tc .vmem S1024x1024 .bf16) (harg6 : arg6.IsWhole) (hc : ¬b = 1#1)
    (x4 : Vec F S1x1024x512 .bf16) (x6 : Vec F S1024x1024 .bf16) (E : Set ℕ) (K : PUnit → sProp 𝕄) :
    iprop(owns (c : Thread 1 Topo.v7x) arg4 fullShare x4 ∗ (∃ d, owns (c : Thread 1 Topo.v7x) arg5 fullShare d) ∗ owns (c : Thread 1 Topo.v7x) arg6 fullShare x6
      ∗ (iprop(owns (c : Thread 1 Topo.v7x) arg4 fullShare x4 ∗ owns (c : Thread 1 Topo.v7x) arg5 fullShare (k0_pay2 x6 x4) ∗ owns (c : Thread 1 Topo.v7x) arg6 fullShare x6) -∗ K ⟨⟩))
    ⊢ wp frame (wpE (defs) Variants.none c none) E (normBody b arg2 harg2 arg3 harg3 arg4 harg4 arg5 harg5 arg6 harg6) K := by
  unfold normBody
  unfold owns
  iintro ⟨⟨%f4, %hf4, H4⟩, ⟨%d5, %f5, -, H5⟩, ⟨%f6, %hf6, H6⟩, Hk⟩
  obtain rfl := harg4.eq_unread hf4
  obtain rfl := harg6.eq_unread hf6
  sl_exec (disch := sl_exact hc)
  sl_step
  iapply Hk
  isplitl [H4]
  · iexists _; isplitr; · ipureintro; exact harg4.read_unread _
    iexact H4
  isplitl [H5]
  · iexists _; isplitr
    swap; · iexact H5
    ipureintro
    rw [View.read_writes_eq_canon _ _ _ (View.cover_of_tiledL _ S1024x512.size (by sl_kernel_rfl))]
    frame_out
  iexists _; isplitr; · ipureintro; exact harg6.read_unread _
  iexact H6

/-- A block stored to at the first point of each run of `J` alone, and written back at the last, holds at the later points what
was stored at the first, where that is stated alike for every point of a run. -/
theorem before_of_first {cfg : Cfg sig Λ} {c : Dev 1} (dat : Dat Topo.v7x (Elt F) Unit ℕ (UR sig 1 Topo.v7x) ℕ cfg c) (w : Fin cfg.W) (J : ℕ)
    (hw : (cfg.win w).isOut = true) (hlive : ∀ t : Fin cfg.N, t.val % J = 0 → cfg.idle w (cfg.grid.coords t) = false)
    (hidle : ∀ t : Fin cfg.N, ¬t.val % J = 0 → cfg.idle w (cfg.grid.coords t) = true)
    (hflush : ∀ t : Fin cfg.N, (cfg.win w).flush t = true → (t.val + 1) % J = 0)
    (hkept : ∀ t d, dat.kept w t d = dat.after w t)
    (hafter : ∀ (n : ℕ) (hn : n + 1 < cfg.N), ¬(n + 1) % J = 0 → dat.after w ⟨n + 1, hn⟩ = dat.after w ⟨n, Nat.lt_of_succ_lt hn⟩) :
    ∀ (n : ℕ) (hn : n < cfg.N) (d), ¬n % J = 0 → dat.before w ⟨n, hn⟩ d = dat.after w ⟨n, hn⟩
  | 0, hn, d, h => absurd (Nat.zero_mod J) h
  | n + 1, hn, d, h => by
    have hf : (cfg.win w).flush ⟨n, Nat.lt_of_succ_lt hn⟩ = false := Bool.eq_false_iff.mpr fun hf => h (hflush _ hf)
    rw [hafter n hn h, dat.before_of_pos w ⟨n + 1, hn⟩ (Nat.succ_ne_zero n) ((cfg.win w).fetch_out hw _)]
    show (if (cfg.win w).flush ⟨n, Nat.lt_of_succ_lt hn⟩ = true then d else dat.left w ⟨n, Nat.lt_of_succ_lt hn⟩ d)
      = dat.after w ⟨n, Nat.lt_of_succ_lt hn⟩
    rw [hf, if_neg Bool.false_ne_true]
    unfold Dat.left
    by_cases h0 : n % J = 0
    · rw [hlive ⟨n, _⟩ h0]; exact hkept _ _
    · rw [hidle ⟨n, _⟩ h0]; exact before_of_first dat w J hw hlive hidle hflush hkept hafter n _ d h0

end Cert.Norm

end
-- ==== Proof.PoolInFrame.lean ====
module

public import proofs.«01_k».proof.Defs
public import proofs.«01_k».proof.Proof.NormBody
public import proofs.«01_k».proof.Proof.Gen.PoolIn
public import Idealize.ShloMosaic.Adequacy
public import Idealize.ShloMosaic.Init

/-! The frame of the normalised projection into the pool: what the body leaves in its two results, its obligation at every
point and the run of the whole program. The normalised rows are stored at the first column tile of a row tile and read again
at the later ones, where the body leaves them in place. -/

@[expose] public section

set_option maxRecDepth 16384

noncomputable section

namespace Cert.PoolInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column tile of a row tile is the point whose number is a multiple of eight. -/
theorem isFirst_iff : ∀ t : Fin cfg0.N, k0_cond1 (grid0.coords t) = 1#1 ↔ t.val % 8 = 0 :=
  (fun t => by
    have e1 : (grid0.coords t 1).val = t.val / 1 % 8 := Pipeline.Grid.coords_val t 1 (by decide) rfl
    have hN : t.val < 32 := lt_of_lt_of_eq t.isLt N_0
    simp only [k0_cond1, e1]
    word_cmp : ∀ t : Fin grid0.N, k0_cond1 (grid0.coords t) = 1#1 ↔ t.val % 8 = 0)

/-- The normalised rows of point `t`'s row tile. -/
def rowsAt (c : Dev nD) (t : Fin cfg0.N) : Vec F S1024x1024 .bf16 := Cert.PoolInIdeal.Gen.k0_pay1 (iblk m c 0 t) (iblk m c 1 t)

/-- The proof data: each input's block stays in place, the rows are the normalised ones and the product is theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Cert.PoolInIdeal.Gen.k0_pay2 (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Cert.PoolInIdeal.Gen.k0_pay2 (rowsAt m c t) (iblk m c 2 t) := by dsimp only [dats]
theorem after0_4 (c : Dev nD) (t : Fin cfg0.N) : (dats m 0 c).after 4 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The point before `t`. -/
abbrev prev (t : Fin cfg0.N) : Fin cfg0.N := ⟨t.val - 1, Nat.lt_of_le_of_lt (Nat.sub_le _ _) t.isLt⟩

/-- Within a row tile the rows' block and the scale's do not move. -/
theorem rowsAt_prev (c : Dev nD) (t : Fin cfg0.N) (h : ¬t.val % 8 = 0) : rowsAt m c t = rowsAt m c (prev t) := by
  have hN : t.val < 32 := lt_of_lt_of_eq t.isLt N_0
  have f0 : (cfg0.win 0).fetch t = false := Bool.eq_false_iff.mpr fun hf => h ((fetch0_0 t).mp hf)
  have f1 : (cfg0.win 1).fetch t = false := Bool.eq_false_iff.mpr fun hf => h (by have := (fetch0_1 t).mp hf; omega)
  have e0 : iblk m c 0 t = iblk m c 0 (prev t) :=
    ((before0_0 m c t (iblk m c 0 t)).symm.trans ((dats m 0 c).before_unfetched_in 0 rfl t f0 (fun _ => rfl) _)).trans (after0_0 m c (prev t))
  have e1 : iblk m c 1 t = iblk m c 1 (prev t) :=
    ((before0_1 m c t (iblk m c 1 t)).symm.trans ((dats m 0 c).before_unfetched_in 1 rfl t f1 (fun _ => rfl) _)).trans (after0_1 m c (prev t))
  unfold rowsAt; rw [e0, e1]

/-- The rows' block is stored to at the first column tile alone. -/
theorem idle0_4 (t : Fin cfg0.N) (h : ¬t.val % 8 = 0) : cfg0.idle 4 (grid0.coords t) = true := by
  show (!(k0_cond1 (grid0.coords t) == 1#1)) = true
  have := mt (isFirst_iff t).mp h
  simpa using this

theorem live0_4 (t : Fin cfg0.N) (h : t.val % 8 = 0) : cfg0.idle 4 (grid0.coords t) = false := by
  show (!(k0_cond1 (grid0.coords t) == 1#1)) = false
  have := (isFirst_iff t).mpr h
  simpa using this

/-- At a later column tile the rows' block holds the rows stored at the first one. -/
theorem before0_4 (c : Dev nD) (n : ℕ) (hn : n < cfg0.N) (d) (h : ¬n % 8 = 0) : (dats m 0 c).before 4 ⟨n, hn⟩ d = rowsAt m c ⟨n, hn⟩ :=
  (Norm.before_of_first (dats m 0 c) 4 8 rfl live0_4 idle0_4 (fun t hf => by have := (flush0_4 t).mp hf; omega) (fun _ _ => rfl)
    (fun n hn h => by rw [after0_4, after0_4]; exact rowsAt_prev m c ⟨n + 1, hn⟩ h) n hn d h).trans (after0_4 m c _)

/-! ## The body's obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Rows left in place satisfy what is asked of their block at a later column tile. -/
theorem leaves_rows (c : Dev nD) (t : Fin cfg0.N) (h : ¬t.val % 8 = 0) (d) :
    (owns (c : Thread nD τ) (st0_4 t) fullShare ((dats m 0 c).before 4 t d) : sProp 𝕄) ⊢ (dats m 0 c).leavesExact 4 t := by
  by_cases h7 : t.val % 8 = 7
  · rw [before0_4 m c t.val t.isLt d h, show (dats m 0 c).leavesExact 4 t = owns (c : Thread nD τ) (st0_4 t) fullShare (rowsAt m c t) from by
      unfold Dat.leavesExact; rw [idle0_4 t h, (flush0_4 t).mpr h7, after0_4]]
    try exact Idealize.SL.BI.Entails.refl _
  · rw [(dats m 0 c).leavesExact_idle 4 t (idle0_4 t h) (Bool.eq_false_iff.mpr fun hf => h7 ((flush0_4 t).mp hf))]
    iintro H
    iexists _; iexact H

/-- The printed body is the text of which the runs are stated. -/
theorem body_eq (i : grid0.Coords) : cc0_pool_in (F := F) i = Norm.normBody (k0_cond1 i) := by
  rw [cc0_pool_in_eq_skeleton]; rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare (iblk m c 0 t) from by
    unfold Dat.leavesExact; rw [show cfg0.idle 0 (grid0.coords t) = false from rfl, after0_0]]
  rw [show (dats m 0 c).leavesExact 1 t = owns (c : Thread nD τ) (st0_1 t) fullShare (iblk m c 1 t) from by
    unfold Dat.leavesExact; rw [show cfg0.idle 1 (grid0.coords t) = false from rfl, after0_1]]
  rw [show (dats m 0 c).leavesExact 2 t = owns (c : Thread nD τ) (st0_2 t) fullShare (iblk m c 2 t) from by
    unfold Dat.leavesExact; rw [show cfg0.idle 2 (grid0.coords t) = false from rfl, after0_2]]
  rw [show (dats m 0 c).leavesExact 3 t = owns (c : Thread nD τ) (st0_3 t) fullShare (Cert.PoolInIdeal.Gen.k0_pay2 (rowsAt m c t) (iblk m c 2 t)) from by
    unfold Dat.leavesExact; rw [show cfg0.idle 3 (grid0.coords t) = false from rfl, after0_3]]
  by_cases h : t.val % 8 = 0
  · rw [show (dats m 0 c).leavesExact 4 t = owns (c : Thread nD τ) (st0_4 t) fullShare (rowsAt m c t) from by
      unfold Dat.leavesExact; rw [live0_4 t h, after0_4]]
    iintro ⟨HΦ, Ho, ⟨%d0, H0⟩, ⟨%d1, H1⟩, ⟨%d2, H2⟩, ⟨%d3, H3⟩, ⟨%d4, H4⟩⟩
    iapply (Norm.body_first (defs₀ (F := F)) c (k0_cond1 (grid0.coords t)) _ _ _ _ _ _ _ _ _ _ ((isFirst_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, ⟨%d4, H4⟩⟩
    iapply (Norm.body_later (defs₀ (F := F)) c (k0_cond1 (grid0.coords t)) _ _ _ _ _ _ _ _ _ _ (mt (isFirst_iff t).mp h) (iblk m c 2 t) ((dats m 0 c).before 4 t d4) Set.univ _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    rw [show rowsAt m c t = (dats m 0 c).before 4 t d4 from (before0_4 m c t.val t.isLt d4 h).symm]
    isplitl [H3]; · iexact H3
    iapply (leaves_rows m c t h d4)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program: every array at what the proof data say, every semaphore's counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- What the frame says at the bits. -/
def FrameBits : Prop :=
  ∀ (m : (ℓ : Loc nD τ sig) → Buf (Elt Bits) ℓ) (g : Dev nD → PrngReg), True →
    θ_run (Cert.PoolInIdeal.defs (F := Bits)) (onTc (τ := τ) (Cert.PoolInIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The program as compiled has the same text. -/
theorem frameBits_eq : (letI := Cert.PoolIn.Gen.facts; quiescent_PoolIn) = FrameBits := by sl_kernel_rfl

/-- The frame of the program as compiled. -/
theorem plain_frame : letI := Cert.PoolIn.Gen.facts; quiescent_PoolIn := frameBits_eq.mpr fun m g _ => frame (F := Bits) m g

end Cert.PoolInIdeal.Run

end
-- ==== Proof.ConvInFrame.lean ====
module

public import proofs.«01_k».proof.Defs
public import proofs.«01_k».proof.Proof.NormBody
public import proofs.«01_k».proof.Proof.Gen.ConvIn
public import proofs.«01_k».proof.Proof.Gen.ConvInIdeal.Skeleton
public import proofs.«01_k».proof.Proof.Gen.ConvInIdeal.Frame
public import Idealize.ShloMosaic.Adequacy
public import Idealize.ShloMosaic.Init

/-! The frame of the normalised projection into the convolution: what the body leaves in its two results, its obligation at every
point and the run of the whole program. The normalised rows are stored at the first column tile of a row tile and read again
at the later ones, where the body leaves them in place. -/

@[expose] public section

set_option maxRecDepth 16384

noncomputable section

namespace Cert.ConvInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column tile of a row tile is the point whose number is a multiple of sixteen. -/
theorem isFirst_iff : ∀ t : Fin cfg0.N, k0_cond1 (grid0.coords t) = 1#1 ↔ t.val % 16 = 0 :=
  (fun t => by
    have e1 : (grid0.coords t 1).val = t.val / 1 % 16 := Pipeline.Grid.coords_val t 1 (by decide) rfl
    have hN : t.val < 64 := lt_of_lt_of_eq t.isLt N_0
    simp only [k0_cond1, e1]
    word_cmp : ∀ t : Fin grid0.N, k0_cond1 (grid0.coords t) = 1#1 ↔ t.val % 16 = 0)

/-- The normalised rows of point `t`'s row tile. -/
def rowsAt (c : Dev nD) (t : Fin cfg0.N) : Vec F S1024x1024 .bf16 := Cert.PoolInIdeal.Gen.k0_pay1 (iblk m c 0 t) (iblk m c 1 t)

/-- The proof data: each input's block stays in place, the rows are the normalised ones and the product is theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Cert.PoolInIdeal.Gen.k0_pay2 (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Cert.PoolInIdeal.Gen.k0_pay2 (rowsAt m c t) (iblk m c 2 t) := by dsimp only [dats]
theorem after0_4 (c : Dev nD) (t : Fin cfg0.N) : (dats m 0 c).after 4 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The point before `t`. -/
abbrev prev (t : Fin cfg0.N) : Fin cfg0.N := ⟨t.val - 1, Nat.lt_of_le_of_lt (Nat.sub_le _ _) t.isLt⟩

/-- Within a row tile the rows' block and the scale's do not move. -/
theorem rowsAt_prev (c : Dev nD) (t : Fin cfg0.N) (h : ¬t.val % 16 = 0) : rowsAt m c t = rowsAt m c (prev t) := by
  have hN : t.val < 64 := lt_of_lt_of_eq t.isLt N_0
  have f0 : (cfg0.win 0).fetch t = false := Bool.eq_false_iff.mpr fun hf => h ((fetch0_0 t).mp hf)
  have f1 : (cfg0.win 1).fetch t = false := Bool.eq_false_iff.mpr fun hf => h (by have := (fetch0_1 t).mp hf; omega)
  have e0 : iblk m c 0 t = iblk m c 0 (prev t) :=
    ((before0_0 m c t (iblk m c 0 t)).symm.trans ((dats m 0 c).before_unfetched_in 0 rfl t f0 (fun _ => rfl) _)).trans (after0_0 m c (prev t))
  have e1 : iblk m c 1 t = iblk m c 1 (prev t) :=
    ((before0_1 m c t (iblk m c 1 t)).symm.trans ((dats m 0 c).before_unfetched_in 1 rfl t f1 (fun _ => rfl) _)).trans (after0_1 m c (prev t))
  unfold rowsAt; rw [e0, e1]

/-- The rows' block is stored to at the first column tile alone. -/
theorem idle0_4 (t : Fin cfg0.N) (h : ¬t.val % 16 = 0) : cfg0.idle 4 (grid0.coords t) = true := by
  show (!(k0_cond1 (grid0.coords t) == 1#1)) = true
  have := mt (isFirst_iff t).mp h
  simpa using this

theorem live0_4 (t : Fin cfg0.N) (h : t.val % 16 = 0) : cfg0.idle 4 (grid0.coords t) = false := by
  show (!(k0_cond1 (grid0.coords t) == 1#1)) = false
  have := (isFirst_iff t).mpr h
  simpa using this

/-- At a later column tile the rows' block holds the rows stored at the first one. -/
theorem before0_4 (c : Dev nD) (n : ℕ) (hn : n < cfg0.N) (d) (h : ¬n % 16 = 0) : (dats m 0 c).before 4 ⟨n, hn⟩ d = rowsAt m c ⟨n, hn⟩ :=
  (Norm.before_of_first (dats m 0 c) 4 16 rfl live0_4 idle0_4 (fun t hf => by have := (flush0_4 t).mp hf; omega) (fun _ _ => rfl)
    (fun n hn h => by rw [after0_4, after0_4]; exact rowsAt_prev m c ⟨n + 1, hn⟩ h) n hn d h).trans (after0_4 m c _)

/-! ## The body's obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Rows left in place satisfy what is asked of their block at a later column tile. -/
theorem leaves_rows (c : Dev nD) (t : Fin cfg0.N) (h : ¬t.val % 16 = 0) (d) :
    (owns (c : Thread nD τ) (st0_4 t) fullShare ((dats m 0 c).before 4 t d) : sProp 𝕄) ⊢ (dats m 0 c).leavesExact 4 t := by
  by_cases hl : t.val % 16 = 15
  · rw [before0_4 m c t.val t.isLt d h, show (dats m 0 c).leavesExact 4 t = owns (c : Thread nD τ) (st0_4 t) fullShare (rowsAt m c t) from by
      unfold Dat.leavesExact; rw [idle0_4 t h, (flush0_4 t).mpr hl, after0_4]]
    try exact Idealize.SL.BI.Entails.refl _
  · rw [(dats m 0 c).leavesExact_idle 4 t (idle0_4 t h) (Bool.eq_false_iff.mpr fun hf => hl ((flush0_4 t).mp hf))]
    iintro H
    iexists _; iexact H

/-- The printed body is the text of which the runs are stated. -/
theorem body_eq (i : grid0.Coords) : cc0_conv_in (F := F) i = Norm.normBody (k0_cond1 i) := by
  rw [cc0_conv_in_eq_skeleton]; rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare (iblk m c 0 t) from by
    unfold Dat.leavesExact; rw [show cfg0.idle 0 (grid0.coords t) = false from rfl, after0_0]]
  rw [show (dats m 0 c).leavesExact 1 t = owns (c : Thread nD τ) (st0_1 t) fullShare (iblk m c 1 t) from by
    unfold Dat.leavesExact; rw [show cfg0.idle 1 (grid0.coords t) = false from rfl, after0_1]]
  rw [show (dats m 0 c).leavesExact 2 t = owns (c : Thread nD τ) (st0_2 t) fullShare (iblk m c 2 t) from by
    unfold Dat.leavesExact; rw [show cfg0.idle 2 (grid0.coords t) = false from rfl, after0_2]]
  rw [show (dats m 0 c).leavesExact 3 t = owns (c : Thread nD τ) (st0_3 t) fullShare (Cert.PoolInIdeal.Gen.k0_pay2 (rowsAt m c t) (iblk m c 2 t)) from by
    unfold Dat.leavesExact; rw [show cfg0.idle 3 (grid0.coords t) = false from rfl, after0_3]]
  by_cases h : t.val % 16 = 0
  · rw [show (dats m 0 c).leavesExact 4 t = owns (c : Thread nD τ) (st0_4 t) fullShare (rowsAt m c t) from by
      unfold Dat.leavesExact; rw [live0_4 t h, after0_4]]
    iintro ⟨HΦ, Ho, ⟨%d0, H0⟩, ⟨%d1, H1⟩, ⟨%d2, H2⟩, ⟨%d3, H3⟩, ⟨%d4, H4⟩⟩
    iapply (Norm.body_first (defs₀ (F := F)) c (k0_cond1 (grid0.coords t)) _ _ _ _ _ _ _ _ _ _ ((isFirst_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, ⟨%d4, H4⟩⟩
    iapply (Norm.body_later (defs₀ (F := F)) c (k0_cond1 (grid0.coords t)) _ _ _ _ _ _ _ _ _ _ (mt (isFirst_iff t).mp h) (iblk m c 2 t) ((dats m 0 c).before 4 t d4) Set.univ _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    rw [show rowsAt m c t = (dats m 0 c).before 4 t d4 from (before0_4 m c t.val t.isLt d4 h).symm]
    isplitl [H3]; · iexact H3
    iapply (leaves_rows m c t h d4)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program: every array at what the proof data say, every semaphore's counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- What the frame says at the bits. -/
def FrameBits : Prop :=
  ∀ (m : (ℓ : Loc nD τ sig) → Buf (Elt Bits) ℓ) (g : Dev nD → PrngReg), True →
    θ_run (Cert.ConvInIdeal.defs (F := Bits)) (onTc (τ := τ) (Cert.ConvInIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The program as compiled has the same text. -/
theorem frameBits_eq : (letI := Cert.ConvIn.Gen.facts; quiescent_ConvIn) = FrameBits := by sl_kernel_rfl

/-- The frame of the program as compiled. -/
theorem plain_frame : letI := Cert.ConvIn.Gen.facts; quiescent_ConvIn := frameBits_eq.mpr fun m g _ => frame (F := Bits) m g

end Cert.ConvInIdeal.Run

end
-- ==== Proof.NormIn.lean ====
/-
  The normalised projections of the forward pass: rows divided by the root of their mean square and scaled, and the
  product of these rows with weights that lie in eight slices of columns.
-/
module

public import proofs.«01_k».proof.Proof.NormGrad
public import proofs.«01_k».proof.Proof.PoolInFrame
public import proofs.«01_k».proof.Proof.ConvInFrame
public import proofs.«01_k».proof.Proof.Gen.PoolInRefIdeal.Run
public import proofs.«01_k».proof.Proof.Gen.PoolInRefIdeal.Read
public import proofs.«01_k».proof.Proof.Gen.ConvInRefIdeal.Run
public import proofs.«01_k».proof.Proof.Gen.ConvInRefIdeal.Read
public import Idealize.ShloMosaic.Lib.Pipeline.ValueKit
public import Idealize.ShloMosaic.Lib.Pointwise

set_option maxRecDepth 16384

@[expose] public noncomputable section

open Idealize.ShloMosaic Idealize.ShloMosaic.TcCoe Idealize.SL.Sem

namespace Cert.Norm

open Cert.PoolInIdeal Cert.PoolInIdeal.Gen

/-- A stored tile of rows, entry by entry. -/
theorem rows_apply (x : Vec Ideal S1024x1024 .f32) (g : Vec Ideal S1x1024 .f32) (r d : Fin 1024) :
    Gen.k0_pay1 x g (ix2 r d) = x (ix2 r d) * NormGrad.inv (fun k => x (ix2 r k)) * g (ix2 0 d) := by
  pointwise [k0_pay1]
  rfl

/-- A stored tile of the product, entry by entry. -/
theorem product_apply (x : Vec Ideal S1024x1024 .bf16) (w : Vec Ideal S1x1024x512 .bf16) (r : Fin 1024) (j : Fin 512) :
    Gen.k0_pay2 x w (ix2 r j) = ∑ k : Fin 1024, x (ix2 r k) * w (ix3 0 k j) := by
  pointwise [k0_pay2]

/-- A row's entry divided by the root of the row's mean square, times the column's scale. -/
def normed (X : Shape.Idx ⟨2, ![4096, 1024]⟩ → EReal) (g : Shape.Idx ⟨1, ![1024]⟩ → EReal) (n : Fin 4096) (d : Fin 1024) : EReal :=
  X (ix2 n d) * NormGrad.inv (fun k => X (ix2 n k)) * g (ix1 d)

end Cert.Norm

namespace Cert.PoolInIdeal

open Cert.PoolInIdeal.Gen Cert.PoolInIdeal.Run

variable (m : (ℓ : Loc nD τ sig) → Buf (Elt Ideal) ℓ) (c : Dev nD)

theorem place0 : ∀ t : Fin grid0.N, win0_0.index t 0 = t.val / 8 ∧ win0_0.index t 1 = 0 := by decide +kernel
theorem place1 : ∀ t : Fin grid0.N, win0_1.index t 0 = 0 ∧ win0_1.index t 1 = 0 := by decide +kernel
theorem place2 : ∀ t : Fin grid0.N, win0_2.index t 0 = t.val % 8 ∧ win0_2.index t 1 = 0 ∧ win0_2.index t 2 = 0 := by decide +kernel
theorem place3 : ∀ t : Fin grid0.N, win0_3.index t 0 = t.val / 8 ∧ win0_3.index t 1 = t.val % 8 := by decide +kernel
theorem place4 : ∀ t : Fin grid0.N, win0_4.index t 0 = t.val / 8 ∧ win0_4.index t 1 = 0 := by decide +kernel

/-- The normalised rows times the weights' slice and column. -/
def product (X : Shape.Idx ⟨2, ![4096, 1024]⟩ → EReal) (g : Shape.Idx ⟨1, ![1024]⟩ → EReal) (w : Shape.Idx ⟨3, ![8, 1024, 512]⟩ → EReal)
    (n : Fin 4096) (j : Fin 4096) : EReal :=
  ∑ d : Fin 1024, Norm.normed X g n d * w (ix3 (⟨j.val / 512, by omega⟩ : Fin 8) d (⟨j.val % 512, by omega⟩ : Fin 512))

abbrev G3 : Shape.Idx ⟨2, ![4096, 4096]⟩ → EReal := fun y =>
  product (m ((c : Thread nD τ).loc main_arg0)) (m ((c : Thread nD τ).loc main_arg1)) (m ((c : Thread nD τ).loc main_arg2)) (y 0) (y 1)

abbrev G4 : Shape.Idx ⟨2, ![4096, 1024]⟩ → EReal := fun y =>
  Norm.normed (m ((c : Thread nD τ).loc main_arg0)) (m ((c : Thread nD τ).loc main_arg1)) (y 0) (y 1)

/-- The scales as they enter the pipeline are the argument, under a leading axis. -/
theorem scales : V m c main_v0 = shapeCast S1x1024 (m ((c : Thread nD τ).loc main_arg1)) shapeCasts_S1024_S1x1024 := rfl

/-- The rows of a tile, as entries of the whole array. -/
theorem rows_at (t : Fin cfg0.N) (r d : Fin 1024) (n : Fin 4096) (hn : n.val = t.val / 8 * 1024 + r.val) :
    rowsAt m c t (ix2 r d) = Norm.normed (m ((c : Thread nD τ).loc main_arg0)) (m ((c : Thread nD τ).loc main_arg1)) n d := by
  obtain ⟨a0, a1⟩ := place0 t
  obtain ⟨b0, b1⟩ := place1 t
  have e (k : Fin 1024) : iblk m c 0 t (ix2 r k) = m ((c : Thread nD τ).loc main_arg0) (ix2 n k) := by
    blk_ext [iblk, a0, a1, hn]
  have eg : iblk m c 1 t (ix2 0 d) = m ((c : Thread nD τ).loc main_arg1) (ix1 d) := by
    show V m c main_v0 ((win0_1.blk t).view.emb (ix2 0 d)) = _
    rw [scales]
    have hi : (win0_1.blk t).view.emb (ix2 0 d) = (ix2 0 d : S1x1024.Idx) := by blk_ext [b0, b1]
    rw [hi]
    pointwise []
  refine (Norm.rows_apply _ _ r d).trans ?_
  unfold Norm.normed
  rw [e, eg]
  simp only [e]

theorem out4 (t : Fin cfg0.N) (y) : rowsAt m c t y = G4 m c ((win0_4.blk t).view.emb y) := by
  obtain ⟨o0, o1⟩ := place4 t
  idx_vars y
  refine (rows_at m c t y0 y1 ((win0_4.blk t).view.emb (ix2 y0 y1) 0) ?_).trans (congrArg (Norm.normed _ _ _) (Fin.ext ?_))
  · blk_simp [o0]
  · blk_simp [o1]

theorem out3 (t : Fin cfg0.N) (y) : PoolInIdeal.Gen.k0_pay2 (rowsAt m c t) (iblk m c 2 t) y = G3 m c ((win0_3.blk t).view.emb y) := by
  obtain ⟨c0, c1, c2⟩ := place2 t
  obtain ⟨o0, o1⟩ := place3 t
  idx_vars y
  refine (Norm.product_apply _ _ y0 y1).trans (Finset.sum_congr rfl fun d _ => congrArg₂ (· * ·) (rows_at m c t y0 d _ ?_) ?_)
  · blk_simp [o0]
  · blk_ext [iblk, c0, c1, c2, o0, o1]

theorem arr3 : (dats m 0 c).arrAt 3 cfg0.N = G3 m c := by
  refine (dats m 0 c).arrAt_eq_of_covers 3 _ (by decide +kernel) fun t hf y => ?_
  exact (congrFun (after0_3 m c t) y).trans (out3 m c t y)

theorem arr4 : (dats m 0 c).arrAt 4 cfg0.N = G4 m c := by
  refine (dats m 0 c).arrAt_eq_of_covers 4 _ (by decide +kernel) fun t hf y => ?_
  exact (congrFun (after0_4 m c t) y).trans (out4 m c t y)

end Cert.PoolInIdeal

namespace Cert.PoolInRefIdeal

open Cert.PoolInRefIdeal.Read

theorem normed_at (X g) (n : Fin 4096) (d : Fin 1024) : val_main_v12 (F := Ideal) X g (ix2 n d) = Norm.normed X g n d := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rfl

theorem rows (X g) (y : Shape.Idx ⟨2, ![4096, 1024]⟩) : val_main_v18 (F := Ideal) X g y = Norm.normed X g (y 0) (y 1) := by
  idx_vars y
  exact normed_at X g _ _

theorem value (X g w) (y : Shape.Idx ⟨2, ![4096, 4096]⟩) : val_main_v17 (F := Ideal) X g w y = PoolInIdeal.product X g w (y 0) (y 1) := by
  idx_vars y
  pointwise [val_main_v17, val_main_v16, val_main_v15, val_main_v14, val_main_v13]
  simp only [normed_at]
  rfl

end Cert.PoolInRefIdeal

namespace Cert.ConvInIdeal

open Cert.ConvInIdeal.Gen Cert.ConvInIdeal.Run

variable (m : (ℓ : Loc nD τ sig) → Buf (Elt Ideal) ℓ) (c : Dev nD)

theorem place0 : ∀ t : Fin grid0.N, win0_0.index t 0 = t.val / 16 ∧ win0_0.index t 1 = 0 := by decide +kernel
theorem place1 : ∀ t : Fin grid0.N, win0_1.index t 0 = 0 ∧ win0_1.index t 1 = 0 := by decide +kernel
theorem place2 : ∀ t : Fin grid0.N, win0_2.index t 0 = t.val % 16 / 2 ∧ win0_2.index t 1 = 0 ∧ win0_2.index t 2 = t.val % 2 := by decide +kernel
theorem place3 : ∀ t : Fin grid0.N, win0_3.index t 0 = t.val / 16 ∧ win0_3.index t 1 = t.val % 16 := by decide +kernel
theorem place4 : ∀ t : Fin grid0.N, win0_4.index t 0 = t.val / 16 ∧ win0_4.index t 1 = 0 := by decide +kernel

/-- The normalised rows times the weights' slice and column. -/
def product (X : Shape.Idx ⟨2, ![4096, 1024]⟩ → EReal) (g : Shape.Idx ⟨1, ![1024]⟩ → EReal) (w : Shape.Idx ⟨3, ![8, 1024, 1024]⟩ → EReal)
    (n : Fin 4096) (j : Fin 8192) : EReal :=
  ∑ d : Fin 1024, Norm.normed X g n d * w (ix3 (⟨j.val / 1024, by omega⟩ : Fin 8) d (⟨j.val % 1024, by omega⟩ : Fin 1024))

abbrev G3 : Shape.Idx ⟨2, ![4096, 8192]⟩ → EReal := fun y =>
  product (m ((c : Thread nD τ).loc main_arg0)) (m ((c : Thread nD τ).loc main_arg1)) (m ((c : Thread nD τ).loc main_arg2)) (y 0) (y 1)

abbrev G4 : Shape.Idx ⟨2, ![4096, 1024]⟩ → EReal := fun y =>
  Norm.normed (m ((c : Thread nD τ).loc main_arg0)) (m ((c : Thread nD τ).loc main_arg1)) (y 0) (y 1)

/-- The scales as they enter the pipeline are the argument, under a leading axis. -/
theorem scales : V m c main_v0 = shapeCast S1x1024 (m ((c : Thread nD τ).loc main_arg1)) shapeCasts_S1024_S1x1024 := rfl

/-- The rows of a tile, as entries of the whole array. -/
theorem rows_at (t : Fin cfg0.N) (r d : Fin 1024) (n : Fin 4096) (hn : n.val = t.val / 16 * 1024 + r.val) :
    rowsAt m c t (ix2 r d) = Norm.normed (m ((c : Thread nD τ).loc main_arg0)) (m ((c : Thread nD τ).loc main_arg1)) n d := by
  obtain ⟨a0, a1⟩ := place0 t
  obtain ⟨b0, b1⟩ := place1 t
  have e (k : Fin 1024) : iblk m c 0 t (ix2 r k) = m ((c : Thread nD τ).loc main_arg0) (ix2 n k) := by
    blk_ext [iblk, a0, a1, hn]
  have eg : iblk m c 1 t (ix2 0 d) = m ((c : Thread nD τ).loc main_arg1) (ix1 d) := by
    show V m c main_v0 ((win0_1.blk t).view.emb (ix2 0 d)) = _
    rw [scales]
    have hi : (win0_1.blk t).view.emb (ix2 0 d) = (ix2 0 d : S1x1024.Idx) := by blk_ext [b0, b1]
    rw [hi]
    pointwise []
  refine (Norm.rows_apply _ _ r d).trans ?_
  unfold Norm.normed
  rw [e, eg]
  simp only [e]

theorem out4 (t : Fin cfg0.N) (y) : rowsAt m c t y = G4 m c ((win0_4.blk t).view.emb y) := by
  obtain ⟨o0, o1⟩ := place4 t
  idx_vars y
  refine (rows_at m c t y0 y1 ((win0_4.blk t).view.emb (ix2 y0 y1) 0) ?_).trans (congrArg (Norm.normed _ _ _) (Fin.ext ?_))
  · blk_simp [o0]
  · blk_simp [o1]

theorem out3 (t : Fin cfg0.N) (y) : PoolInIdeal.Gen.k0_pay2 (rowsAt m c t) (iblk m c 2 t) y = G3 m c ((win0_3.blk t).view.emb y) := by
  obtain ⟨c0, c1, c2⟩ := place2 t
  obtain ⟨o0, o1⟩ := place3 t
  idx_vars y
  refine (Norm.product_apply _ _ y0 y1).trans (Finset.sum_congr rfl fun d _ => congrArg₂ (· * ·) (rows_at m c t y0 d _ ?_) ?_)
  · blk_simp [o0]
  · blk_ext [iblk, c0, c1, c2, o0, o1]

theorem arr3 : (dats m 0 c).arrAt 3 cfg0.N = G3 m c := by
  refine (dats m 0 c).arrAt_eq_of_covers 3 _ (by decide +kernel) fun t hf y => ?_
  exact (congrFun (after0_3 m c t) y).trans (out3 m c t y)

theorem arr4 : (dats m 0 c).arrAt 4 cfg0.N = G4 m c := by
  refine (dats m 0 c).arrAt_eq_of_covers 4 _ (by decide +kernel) fun t hf y => ?_
  exact (congrFun (after0_4 m c t) y).trans (out4 m c t y)

end Cert.ConvInIdeal

namespace Cert.ConvInRefIdeal

open Cert.ConvInRefIdeal.Read

theorem normed_at (X g) (n : Fin 4096) (d : Fin 1024) : val_main_v12 (F := Ideal) X g (ix2 n d) = Norm.normed X g n d :=
  PoolInRefIdeal.normed_at X g n d

theorem rows (X g) (y : Shape.Idx ⟨2, ![4096, 1024]⟩) : val_main_v18 (F := Ideal) X g y = Norm.normed X g (y 0) (y 1) := by
  idx_vars y
  exact normed_at X g _ _

theorem value (X g w) (y : Shape.Idx ⟨2, ![4096, 8192]⟩) : val_main_v17 (F := Ideal) X g w y = ConvInIdeal.product X g w (y 0) (y 1) := by
  idx_vars y
  pointwise [val_main_v17, val_main_v16, val_main_v15, val_main_v14, val_main_v13]
  simp only [normed_at]
  rfl

end Cert.ConvInRefIdeal

end
-- ==== Proof.FFlow.lean ====
/-
  A row of attention taken tile by tile: a running maximum, and the sum and the weighted sums of powers of two below it.
-/
module

public import proofs.«01_k».proof.Proof.AGrad

set_option maxRecDepth 16384

@[expose] public noncomputable section

namespace Cert.AttnFlow

open Idealize.ShloMosaic Cert.AttnGrad
open Cert.AttnIdeal.Tile (seqRow sum_seq)

/-! ## What one tile of keys does to the running numbers -/

def newTop (m : EReal) (sc : Fin 512 → EReal) : EReal := max m (Finset.fold max ⊥ sc Finset.univ)
def newSum (m l : EReal) (sc : Fin 512 → EReal) : EReal :=
  Ideal.exp2 (m - newTop m sc) * l + ∑ r, Ideal.exp2 (sc r - newTop m sc)
def newAcc (m a : EReal) (sc v : Fin 512 → EReal) : EReal :=
  Ideal.exp2 (m - newTop m sc) * a + ∑ r, Ideal.exp2 (sc r - newTop m sc) * v r

/-! ## The keys seen -/

/-- The keys before tile `n`, and those up to a position. -/
def before (n : ℕ) : Finset (Fin 4096) := Finset.univ.filter fun k => k.val < 512 * n
def upTo (p : ℕ) : Finset (Fin 4096) := Finset.univ.filter fun k => k.val ≤ p

variable {A : Type} [AddCommMonoid A]

theorem sum_tiles (f : Fin 4096 → A) : ∑ n : Fin 4096, f n = ∑ i : Fin 8, ∑ s : Fin 512, f (seqRow i s) :=
  (Fin.sum_mul_add_congr (S := 8) (n := 512) fun i s hl => congrArg f (Fin.ext (by simp [seqRow, Nat.mul_comm]))).symm

theorem sum_upTo (i : Fin 8) (s : Fin 512) (f : Fin 4096 → A) :
    ∑ k ∈ upTo (seqRow i s).val, f k = ∑ k ∈ before i.val, f k + ∑ r : Fin 512, if r.val ≤ s.val then f (seqRow i r) else 0 := by
  have e : (∑ r : Fin 512, if r.val ≤ s.val then f (seqRow i r) else 0)
      = ∑ j : Fin 8, if j = i then (∑ r : Fin 512, if r.val ≤ s.val then f (seqRow j r) else 0) else 0 := by simp
  unfold upTo before
  rw [Finset.sum_filter, Finset.sum_filter, sum_tiles, sum_tiles, e, ← Finset.sum_add_distrib]
  refine Finset.sum_congr rfl fun j _ => ?_
  have hs := s.isLt
  by_cases hj : j = i
  · subst hj
    rw [if_pos rfl, ← Finset.sum_add_distrib]
    refine Finset.sum_congr rfl fun r _ => ?_
    rw [if_neg (show ¬(seqRow j r).val < 512 * j.val by simp [seqRow]), zero_add]
    exact if_congr (by simp [seqRow]) rfl rfl
  · have hne : j.val ≠ i.val := fun h => hj (Fin.ext h)
    rw [if_neg hj, add_zero]
    refine Finset.sum_congr rfl fun r _ => if_congr ?_ rfl rfl
    have := r.isLt
    simp only [seqRow]
    omega

theorem sum_before (n : ℕ) (hn : n < 8) (f : Fin 4096 → A) :
    ∑ k ∈ before (n + 1), f k = ∑ k ∈ before n, f k + ∑ r : Fin 512, f (seqRow ⟨n, hn⟩ r) := by
  have h := sum_upTo ⟨n, hn⟩ ⟨511, by omega⟩ f
  have e : upTo (seqRow ⟨n, hn⟩ ⟨511, by omega⟩).val = before (n + 1) := by
    unfold upTo before
    refine Finset.filter_congr fun k _ => ?_
    simp only [seqRow]
    omega
  rw [e] at h
  rw [h]
  congr 1

/-! ## The running numbers as real numbers -/

/-- A power of two of a real number. -/
theorem exp2_coe (x : ℝ) : Ideal.exp2 (x : EReal) = ((Real.rpow 2 x : ℝ) : EReal) := rfl
theorem exp2_bot : Ideal.exp2 ⊥ = 0 := rfl

theorem rpow_add (x y : ℝ) : Real.rpow 2 x * Real.rpow 2 y = Real.rpow 2 (x + y) := (Real.rpow_add (by norm_num) x y).symm

theorem rpow_nonneg (x : ℝ) : 0 ≤ Real.rpow 2 x := Real.rpow_nonneg (by norm_num) x

/-- A real factor that is not negative goes into a sum of any extended reals. -/
theorem coe_mul_sum {ι : Type} {x : ℝ} (hx : 0 ≤ x) (S : Finset ι) (f : ι → EReal) : (x : EReal) * ∑ i ∈ S, f i = ∑ i ∈ S, (x : EReal) * f i := by
  classical
  induction S using Finset.induction_on with
  | empty => simp
  | insert i S hi ih => rw [Finset.sum_insert hi, Finset.sum_insert hi, EReal.left_distrib_of_nonneg_of_ne_top (EReal.coe_nonneg.2 hx) (EReal.coe_ne_top x), ih]

/-- The keys `S` are seen: moved to any level, the sums are those of the powers of two below it. -/
def Seen (s : Fin 4096 → ℝ) (v : Fin 4096 → Fin 128 → EReal) (S : Finset (Fin 4096)) (m l : EReal) (a : Fin 128 → EReal) : Prop :=
  (m = ⊥ ∨ ∃ M : ℝ, m = M) ∧ ∀ M : ℝ, Ideal.exp2 (m - M) * l = ((∑ k ∈ S, Real.rpow 2 (s k - M) : ℝ) : EReal)
    ∧ ∀ e, Ideal.exp2 (m - M) * a e = ∑ k ∈ S, ((Real.rpow 2 (s k - M) : ℝ) : EReal) * v k e

/-- Nothing is seen at the start. -/
theorem seen_start (s : Fin 4096 → ℝ) (v : Fin 4096 → Fin 128 → EReal) : Seen s v (before 0) ⊥ 0 (fun _ => 0) := by
  have hb : before 0 = ∅ := by
    unfold before
    exact Finset.filter_eq_empty_iff.2 fun k _ => by omega
  refine ⟨.inl rfl, fun M => ?_⟩
  simp [hb]

/-- At its own level. -/
def Level (s : Fin 4096 → ℝ) (v : Fin 4096 → Fin 128 → EReal) (S : Finset (Fin 4096)) (m l : EReal) (a : Fin 128 → EReal) : Prop :=
  ∃ M : ℝ, m = M ∧ l = ((∑ k ∈ S, Real.rpow 2 (s k - M) : ℝ) : EReal) ∧ ∀ e, a e = ∑ k ∈ S, ((Real.rpow 2 (s k - M) : ℝ) : EReal) * v k e

theorem Level.seen {s : Fin 4096 → ℝ} {v : Fin 4096 → Fin 128 → EReal} {S : Finset (Fin 4096)} {m l : EReal} {a : Fin 128 → EReal}
    (h : Level s v S m l a) : Seen s v S m l a := by
  obtain ⟨M, rfl, rfl, ha⟩ := h
  refine ⟨.inr ⟨M, rfl⟩, fun N => ⟨?_, fun e => ?_⟩⟩
  · rw [← EReal.coe_sub, exp2_coe, ← EReal.coe_mul, Finset.mul_sum]
    congr 1
    refine Finset.sum_congr rfl fun k _ => ?_
    rw [rpow_add]
    congr 1
    ring
  · rw [ha, ← EReal.coe_sub, exp2_coe, coe_mul_sum (rpow_nonneg _)]
    refine Finset.sum_congr rfl fun k _ => ?_
    rw [← mul_assoc, ← EReal.coe_mul, rpow_add]
    congr 3
    ring

/-- A maximum over scores of which one is real and none infinite is real. -/
theorem newTop_real {m : EReal} (hm : m = ⊥ ∨ ∃ M : ℝ, m = M) {p : Fin 512 → Prop} [DecidablePred p] {s : Fin 512 → ℝ} {sc : Fin 512 → EReal}
    (hsc : ∀ r, sc r = if p r then (s r : EReal) else ⊥) {r₀ : Fin 512} (h₀ : p r₀) : ∃ M : ℝ, newTop m sc = M := by
  have hlt : newTop m sc < ⊤ := by
    refine max_lt ?_ ((Finset.fold_max_lt _).2 ⟨bot_lt_top, fun r _ => ?_⟩)
    · obtain rfl | ⟨M, rfl⟩ := hm
      · exact bot_lt_top
      · exact EReal.coe_lt_top _
    · rw [hsc]
      split_ifs
      · exact EReal.coe_lt_top _
      · exact bot_lt_top
  have hle : (s r₀ : EReal) ≤ newTop m sc :=
    le_max_of_le_right ((Finset.le_fold_max _).2 (Or.inr ⟨r₀, Finset.mem_univ _, by rw [hsc, if_pos h₀]⟩))
  have hbot : newTop m sc ≠ ⊥ := fun e => by
    rw [e] at hle
    exact absurd (le_bot_iff.1 hle) (EReal.coe_ne_bot _)
  exact ⟨(newTop m sc).toReal, (EReal.coe_toReal hlt.ne hbot).symm⟩

/-- A tile more is seen. -/
theorem seen_step {s : Fin 4096 → ℝ} {v : Fin 4096 → Fin 128 → EReal} {S S' : Finset (Fin 4096)} {m l : EReal} {a : Fin 128 → EReal}
    (h : Seen s v S m l a) {p : Fin 512 → Prop} [DecidablePred p] {row : Fin 512 → Fin 4096} {sc : Fin 512 → EReal} {w : Fin 128 → Fin 512 → EReal}
    (hsc : ∀ r, sc r = if p r then (s (row r) : EReal) else ⊥) (hw : ∀ e r, w e r = v (row r) e) {r₀ : Fin 512} (h₀ : p r₀)
    (hS : ∀ {A : Type} [AddCommMonoid A] (f : Fin 4096 → A), ∑ k ∈ S', f k = ∑ k ∈ S, f k + ∑ r : Fin 512, if p r then f (row r) else 0) :
    Level s v S' (newTop m sc) (newSum m l sc) (fun e => newAcc m (a e) sc (w e)) := by
  obtain ⟨hm, hs⟩ := h
  obtain ⟨M, hM⟩ := newTop_real hm hsc h₀
  obtain ⟨hl, ha⟩ := hs M
  have hp : ∀ r, Ideal.exp2 (sc r - M) = ((if p r then Real.rpow 2 (s (row r) - M) else 0 : ℝ) : EReal) := fun r => by
    rw [hsc]
    split_ifs
    · rw [← EReal.coe_sub, exp2_coe]
    · rw [sub_eq_add_neg, EReal.bot_add, exp2_bot]
      rfl
  refine ⟨M, hM, ?_, fun e => ?_⟩
  · unfold newSum
    rw [hM, hl]
    simp only [hp, sum_coe]
    rw [← EReal.coe_add, hS]
  · show newAcc m (a e) sc (w e) = _
    unfold newAcc
    rw [hM, ha]
    simp only [hp, hw]
    rw [hS]
    congr 1
    refine Finset.sum_congr rfl fun r _ => ?_
    split_ifs
    · rfl
    · rw [EReal.coe_zero, zero_mul]

/-! ## At the end of a row -/

/-- The scores over log 2, and the softmax's numbers from a level: a power of two, -/
theorem level_term (x t M : ℝ) : Real.rpow 2 (x / Real.log 2 - M) = Real.exp (t - M * Real.log 2) * Real.exp (x - t) := by
  rw [← Real.exp_add, Real.rpow_eq_pow, Real.rpow_def_of_pos (by norm_num : (0 : ℝ) < 2)]
  congr 1
  have := log_two_pos.ne'
  field_simp
  ring

/-- and their sum. -/
theorem level_sum (sR : Fin 4096 → ℝ) (S : Finset (Fin 4096)) (t M : ℝ) :
    ∑ k ∈ S, Real.rpow 2 (sR k / Real.log 2 - M) = Real.exp (t - M * Real.log 2) * ∑ k ∈ S, Real.exp (sR k - t) := by
  rw [Finset.mul_sum]
  exact Finset.sum_congr rfl fun k _ => level_term _ _ _

end Cert.AttnFlow

end
-- ==== Proof.FTile.lean ====
/-
  The forward attention's loop over the key tiles before the diagonal: each trip takes its tile into the running numbers of the four heads.
-/
module

public import proofs.«01_k».proof.Proof.Gen.AttnFwdIdeal.Frame
public import proofs.«01_k».proof.Proof.FFlow
public import Idealize.ShloMosaic.Lib.Pipeline.ValueKit
public import Idealize.ShloMosaic.Lib.Pointwise

set_option maxRecDepth 16384

@[expose] public noncomputable section

namespace Cert.AttnFwdIdeal.Tile

open Cert.AttnFwdIdeal Cert.AttnFwdIdeal.Gen Cert.AttnFlow
open Idealize.ShloMosaic Idealize.ShloMosaic.TcCoe Idealize.SL.Sem
open Cert.AttnIdeal.Tile (seqRow key_le)
open Facts

theorem trips_eq : ∀ t : Fin grid0.N, (k0_t1_loop (grid0.coords t)).trips = t.val % 8 := by decide +kernel
theorem trips2_eq : ∀ t : Fin grid0.N, (k0_t2_loop (grid0.coords t)).trips = 0 := by decide +kernel
theorem off1_eq : ∀ (t : Fin grid0.N) (k : Fin (k0_t1_loop (grid0.coords t)).trips), k0_off1 (grid0.coords t) k = ![0, 512 * k.val, 0] := by decide +kernel
theorem off2_eq : ∀ (t : Fin grid0.N) (k : Fin (k0_t1_loop (grid0.coords t)).trips), k0_off2 (grid0.coords t) k = ![0, 512 * k.val, 0] := by decide +kernel
theorem off3_eq : ∀ (t : Fin grid0.N) (k : Fin (k0_t1_loop (grid0.coords t)).trips), k0_off3 (grid0.coords t) k = ![1, 512 * k.val, 0] := by decide +kernel
theorem off4_eq : ∀ (t : Fin grid0.N) (k : Fin (k0_t1_loop (grid0.coords t)).trips), k0_off4 (grid0.coords t) k = ![1, 512 * k.val, 0] := by decide +kernel
theorem off5_eq : ∀ (t : Fin grid0.N) (k : Fin (k0_t1_loop (grid0.coords t)).trips), k0_off5 (grid0.coords t) k = ![2, 512 * k.val, 0] := by decide +kernel
theorem off6_eq : ∀ (t : Fin grid0.N) (k : Fin (k0_t1_loop (grid0.coords t)).trips), k0_off6 (grid0.coords t) k = ![2, 512 * k.val, 0] := by decide +kernel
theorem off7_eq : ∀ (t : Fin grid0.N) (k : Fin (k0_t1_loop (grid0.coords t)).trips), k0_off7 (grid0.coords t) k = ![3, 512 * k.val, 0] := by decide +kernel
theorem off8_eq : ∀ (t : Fin grid0.N) (k : Fin (k0_t1_loop (grid0.coords t)).trips), k0_off8 (grid0.coords t) k = ![3, 512 * k.val, 0] := by decide +kernel
theorem off17_eq : ∀ t : Fin grid0.N, k0_off17 (grid0.coords t) = ![0, 512 * (t.val % 8), 0] := by decide +kernel
theorem off18_eq : ∀ t : Fin grid0.N, k0_off18 (grid0.coords t) = ![0, 512 * (t.val % 8), 0] := by decide +kernel
theorem off19_eq : ∀ t : Fin grid0.N, k0_off19 (grid0.coords t) = ![1, 512 * (t.val % 8), 0] := by decide +kernel
theorem off20_eq : ∀ t : Fin grid0.N, k0_off20 (grid0.coords t) = ![1, 512 * (t.val % 8), 0] := by decide +kernel
theorem off21_eq : ∀ t : Fin grid0.N, k0_off21 (grid0.coords t) = ![2, 512 * (t.val % 8), 0] := by decide +kernel
theorem off22_eq : ∀ t : Fin grid0.N, k0_off22 (grid0.coords t) = ![2, 512 * (t.val % 8), 0] := by decide +kernel
theorem off23_eq : ∀ t : Fin grid0.N, k0_off23 (grid0.coords t) = ![3, 512 * (t.val % 8), 0] := by decide +kernel
theorem off24_eq : ∀ t : Fin grid0.N, k0_off24 (grid0.coords t) = ![3, 512 * (t.val % 8), 0] := by decide +kernel

/-! ## The operations on one tile -/

/-- The scores of a tile's keys for row `s`. -/
def row (q k : Vec Ideal S1x512x192 .bf16) (s r : Fin 512) : EReal := ∑ d : Fin 192, q (ix3 0 s d) * k (ix3 0 r d)

theorem neg_inf : Ideal.ofBits .f32 4286578688#32 = ⊥ := Cert.AttnGrad.neg_infinity

section Payload

variable (m l : FVec Ideal S512x1 .f32) (a : FVec Ideal S512x128 .f32) (q k : Vec Ideal S1x512x192 .bf16) (v : Vec Ideal S1x512x128 .bf16) (s : Fin 512)

theorem score_at (r : Fin 512) : k0_pay2 q k (ix2 s r) = row q k s r := by
  pointwise [k0_pay2]
  rfl

theorem top_at : k0_pay3 m q k (ix2 s 0) = newTop (m (ix2 s 0)) (row q k s) := by
  pointwise [k0_pay3]
  simp only [score_at]
  rw [neg_inf]
  rfl

theorem alpha_at : k0_pay4 m q k (ix2 s 0) = Ideal.exp2 (m (ix2 s 0) - newTop (m (ix2 s 0)) (row q k s)) := by
  pointwise [k0_pay4]
  rw [top_at]
  rfl

theorem power_at (r : Fin 512) : k0_pay5 m q k (ix2 s r) = Ideal.exp2 (row q k s r - newTop (m (ix2 s 0)) (row q k s)) := by
  pointwise [k0_pay5]
  rw [top_at, score_at]
  rfl

theorem sum_at : k0_pay6 m l q k (ix2 s 0) = newSum (m (ix2 s 0)) (l (ix2 s 0)) (row q k s) := by
  pointwise [k0_pay6]
  simp only [power_at, alpha_at]
  rfl

theorem acc_at (e : Fin 128) : k0_pay7 m a q k v (ix2 s e) = newAcc (m (ix2 s 0)) (a (ix2 s e)) (row q k s) (fun r => v (ix3 0 r e)) := by
  pointwise [k0_pay7]
  simp only [power_at, alpha_at]
  rfl

end Payload

/-! ## One trip -/

/-- A load through a whole buffer reads the block at its offset. -/
theorem read_at {sp : Space} {s : Shape} {e : EltTy} {M : Memref sig .tc sp s e} (hM : M.IsWhole) (x : s.Idx → Elt Ideal e) {off size : Fin s.rank → ℕ}
    (inb : ∀ a, off a + size a ≤ s.size a) (y : (Rect.unit off size inb).shape.Idx) (z : s.Idx) (hz : ∀ a, (z a).val = off a + (y a).val) :
    View.readAt (Elt Ideal) M.view (Rect.unit off size inb).toLoadRect (hM.unread x) y = x z := by
  have e := View.readAt_eq_ld (Val := Elt Ideal) M.view (hM.unread x) (Rect.unit off size inb)
  rw [hM.read_unread] at e
  rw [congrFun e y]
  simp only [View.ld]
  congr 1
  funext a
  apply Fin.ext
  simp [hz a]

/-- What the loop carries: of each head the running maximum, sum and weighted sums. -/
abbrev Carry := FVec Ideal S512x1 .f32 × FVec Ideal S512x1 .f32 × FVec Ideal S512x128 .f32 × FVec Ideal S512x1 .f32 × FVec Ideal S512x1 .f32 × FVec Ideal S512x128 .f32
  × FVec Ideal S512x1 .f32 × FVec Ideal S512x1 .f32 × FVec Ideal S512x128 .f32 × FVec Ideal S512x1 .f32 × FVec Ideal S512x1 .f32 × FVec Ideal S512x128 .f32

/-- The running numbers of one head. -/
structure Run where
  top : FVec Ideal S512x1 .f32
  sum : FVec Ideal S512x1 .f32
  acc : FVec Ideal S512x128 .f32

def Carry.head (p : Carry) : Fin 4 → Run :=
  ![⟨p.1, p.2.1, p.2.2.1⟩, ⟨p.2.2.2.1, p.2.2.2.2.1, p.2.2.2.2.2.1⟩, ⟨p.2.2.2.2.2.2.1, p.2.2.2.2.2.2.2.1, p.2.2.2.2.2.2.2.2.1⟩,
    ⟨p.2.2.2.2.2.2.2.2.2.1, p.2.2.2.2.2.2.2.2.2.2.1, p.2.2.2.2.2.2.2.2.2.2.2⟩]

/-- A head's numbers after a tile. -/
def Run.next (p : Run) (q k : Vec Ideal S1x512x192 .bf16) (v : Vec Ideal S1x512x128 .bf16) : Run :=
  ⟨k0_pay3 p.top q k, k0_pay6 p.top p.sum q k, k0_pay7 p.top p.acc q k v⟩

section Trip

variable (t : Fin grid0.N) (𝒱 : Variants) (c : Dev nD) (bd : Option 𝒱.V) (arg2 : Memref sig .tc .vmem S4x512x192 .bf16) (harg2 : arg2.IsWhole) (arg3 : Memref sig .tc .vmem S4x4096x192 .bf16) (harg3 : arg3.IsWhole) (arg4 : Memref sig .tc .vmem S4x4096x128 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4x1x1x512 .f32) (harg8 : arg8.IsWhole)
  (x2 : Vec Ideal S4x512x192 .bf16) (x3 : Vec Ideal S4x4096x192 .bf16) (x4 : Vec Ideal S4x4096x128 .bf16)

/-- Tiles read from the blocks: the queries, and the keys and values of tile `j`. -/
def AreTiles (j : Fin 8) (q k : Fin 4 → Vec Ideal S1x512x192 .bf16) (v : Fin 4 → Vec Ideal S1x512x128 .bf16) : Prop :=
  (∀ h s d, q h (ix3 0 s d) = x2 (ix3 h s d)) ∧ (∀ h r d, k h (ix3 0 r d) = x3 (ix3 h (seqRow j r) d)) ∧ ∀ h r e, v h (ix3 0 r e) = x4 (ix3 h (seqRow j r) e)

/-- The key tile of a trip is its number. -/
def tripTile (k : Fin (k0_t1_loop (grid0.coords t)).trips) : Fin 8 := ⟨k.val, by have := k.isLt; have := trips_eq t; omega⟩

set_option maxHeartbeats 4000000 in
theorem trip_shape (k : Fin (k0_t1_loop (grid0.coords t)).trips) (acc : Carry) :
    ∃ q κ v, AreTiles x2 x3 x4 (tripTile t k) q κ v ∧
      ∀ h, Carry.head (tripR_k0_t1 (F := Ideal) 𝒱 c bd (grid0.coords t) arg2 harg2 arg3 harg3 arg4 harg4 arg5 harg5 arg6 harg6 arg7 harg7 arg8 harg8 (harg2.unread x2) (harg3.unread x3) (harg4.unread x4) k acc) h = (Carry.head acc h).next (q h) (κ h) (v h) := by
  refine ⟨![View.readAt (Elt Ideal) arg2.view (Rect.unit (s := S4x512x192) ![0, 0, 0] ![1, 512, 192] (by decide)).toLoadRect (harg2.unread x2), View.readAt (Elt Ideal) arg2.view (Rect.unit (s := S4x512x192) ![1, 0, 0] ![1, 512, 192] (by decide)).toLoadRect (harg2.unread x2), View.readAt (Elt Ideal) arg2.view (Rect.unit (s := S4x512x192) ![2, 0, 0] ![1, 512, 192] (by decide)).toLoadRect (harg2.unread x2), View.readAt (Elt Ideal) arg2.view (Rect.unit (s := S4x512x192) ![3, 0, 0] ![1, 512, 192] (by decide)).toLoadRect (harg2.unread x2)],
    ![View.readAt (Elt Ideal) arg3.view (Rect.unit (s := S4x4096x192) (k0_off1 (grid0.coords t) k) ![1, 512, 192] (k0_off1_inb (grid0.coords t) k)).toLoadRect (harg3.unread x3), View.readAt (Elt Ideal) arg3.view (Rect.unit (s := S4x4096x192) (k0_off3 (grid0.coords t) k) ![1, 512, 192] (k0_off3_inb (grid0.coords t) k)).toLoadRect (harg3.unread x3), View.readAt (Elt Ideal) arg3.view (Rect.unit (s := S4x4096x192) (k0_off5 (grid0.coords t) k) ![1, 512, 192] (k0_off5_inb (grid0.coords t) k)).toLoadRect (harg3.unread x3), View.readAt (Elt Ideal) arg3.view (Rect.unit (s := S4x4096x192) (k0_off7 (grid0.coords t) k) ![1, 512, 192] (k0_off7_inb (grid0.coords t) k)).toLoadRect (harg3.unread x3)],
    ![View.readAt (Elt Ideal) arg4.view (Rect.unit (s := S4x4096x128) (k0_off2 (grid0.coords t) k) ![1, 512, 128] (k0_off2_inb (grid0.coords t) k)).toLoadRect (harg4.unread x4), View.readAt (Elt Ideal) arg4.view (Rect.unit (s := S4x4096x128) (k0_off4 (grid0.coords t) k) ![1, 512, 128] (k0_off4_inb (grid0.coords t) k)).toLoadRect (harg4.unread x4), View.readAt (Elt Ideal) arg4.view (Rect.unit (s := S4x4096x128) (k0_off6 (grid0.coords t) k) ![1, 512, 128] (k0_off6_inb (grid0.coords t) k)).toLoadRect (harg4.unread x4), View.readAt (Elt Ideal) arg4.view (Rect.unit (s := S4x4096x128) (k0_off8 (grid0.coords t) k) ![1, 512, 128] (k0_off8_inb (grid0.coords t) k)).toLoadRect (harg4.unread x4)], ⟨fun h s d => ?_, fun h r d => ?_, fun h r e => ?_⟩, fun h => ?_⟩
  · fin_cases h
    · exact read_at harg2 x2 _ _ (ix3 0 s d) (by intro a; fin_cases a <;> simp)
    · exact read_at harg2 x2 _ _ (ix3 1 s d) (by intro a; fin_cases a <;> simp)
    · exact read_at harg2 x2 _ _ (ix3 2 s d) (by intro a; fin_cases a <;> simp)
    · exact read_at harg2 x2 _ _ (ix3 3 s d) (by intro a; fin_cases a <;> simp)
  · fin_cases h
    · exact read_at harg3 x3 _ _ (ix3 0 (seqRow (tripTile t k) r) d) (by intro a; fin_cases a <;> simp [off1_eq, seqRow, tripTile])
    · exact read_at harg3 x3 _ _ (ix3 1 (seqRow (tripTile t k) r) d) (by intro a; fin_cases a <;> simp [off3_eq, seqRow, tripTile])
    · exact read_at harg3 x3 _ _ (ix3 2 (seqRow (tripTile t k) r) d) (by intro a; fin_cases a <;> simp [off5_eq, seqRow, tripTile])
    · exact read_at harg3 x3 _ _ (ix3 3 (seqRow (tripTile t k) r) d) (by intro a; fin_cases a <;> simp [off7_eq, seqRow, tripTile])
  · fin_cases h
    · exact read_at harg4 x4 _ _ (ix3 0 (seqRow (tripTile t k) r) e) (by intro a; fin_cases a <;> simp [off2_eq, seqRow, tripTile])
    · exact read_at harg4 x4 _ _ (ix3 1 (seqRow (tripTile t k) r) e) (by intro a; fin_cases a <;> simp [off4_eq, seqRow, tripTile])
    · exact read_at harg4 x4 _ _ (ix3 2 (seqRow (tripTile t k) r) e) (by intro a; fin_cases a <;> simp [off6_eq, seqRow, tripTile])
    · exact read_at harg4 x4 _ _ (ix3 3 (seqRow (tripTile t k) r) e) (by intro a; fin_cases a <;> simp [off8_eq, seqRow, tripTile])
  · unfold tripR_k0_t1 trip_k0_t1
    dsimp only
    fin_cases h
    · refine congr (congr (congrArg Run.mk ?_) ?_) ?_
      · rfl
      · rfl
      · rfl
    · refine congr (congr (congrArg Run.mk ?_) ?_) ?_
      · rfl
      · rfl
      · rfl
    · refine congr (congr (congrArg Run.mk ?_) ?_) ?_
      · rfl
      · rfl
      · rfl
    · refine congr (congr (congrArg Run.mk ?_) ?_) ?_
      · rfl
      · rfl
      · rfl

end Trip

end Cert.AttnFwdIdeal.Tile

end
-- ==== Proof.FLoop.lean ====
/-
  The forward attention's running numbers after the loop, and after the diagonal tile: each row has then seen the keys up to its own position.
-/
module

public import proofs.«01_k».proof.Proof.FTile
public import proofs.«01_k».proof.Proof.ADiag

set_option maxRecDepth 16384

@[expose] public noncomputable section

namespace Cert.AttnFwdIdeal.Tile

open Cert.AttnFwdIdeal Cert.AttnFwdIdeal.Gen Cert.AttnFlow
open Idealize.ShloMosaic Idealize.ShloMosaic.TcCoe Idealize.SL.Sem
open Cert.AttnIdeal.Tile (seqRow key_le)

/-- The mask is the bottom of the extended reals. -/
theorem mask_val : Named.named (F := Ideal) Cert.AttnFwdIdeal.κ "mask" (φ := .f32) 0xF149F2CA#32 = (⊥ : EReal) :=
  IdealRules.named_const.ideal_named_scalar _ _ _ _ rfl

/-! ## The operations on the diagonal tile -/

/-- The scores of the diagonal tile: masked where the key comes after the row. -/
def maskedRow (q k : Vec Ideal S1x512x192 .bf16) (s r : Fin 512) : EReal := if ¬r.val ≤ s.val then ⊥ else row q k s r

section Payload

variable (m l : FVec Ideal S512x1 .f32) (a : FVec Ideal S512x128 .f32) (q k : Vec Ideal S1x512x192 .bf16) (v : Vec Ideal S1x512x128 .bf16) (s : Fin 512)

theorem masked_at (r : Fin 512) : k0_pay57 q k (ix2 s r) = maskedRow q k s r := by
  pointwise [k0_pay57]
  rw [key_le, mask_val]
  rfl

theorem last_top_at : k0_pay58 m q k (ix2 s 0) = newTop (m (ix2 s 0)) (maskedRow q k s) := by
  pointwise [k0_pay58]
  simp only [masked_at]
  rw [neg_inf]
  rfl

theorem last_alpha_at : k0_pay59 m q k (ix2 s 0) = Ideal.exp2 (m (ix2 s 0) - newTop (m (ix2 s 0)) (maskedRow q k s)) := by
  pointwise [k0_pay59]
  rw [last_top_at]
  rfl

theorem last_power_at (r : Fin 512) : k0_pay60 m q k (ix2 s r) = Ideal.exp2 (maskedRow q k s r - newTop (m (ix2 s 0)) (maskedRow q k s)) := by
  pointwise [k0_pay60]
  rw [last_top_at, masked_at]
  rfl

theorem last_sum_at : k0_pay61 m l q k (ix2 s 0) = newSum (m (ix2 s 0)) (l (ix2 s 0)) (maskedRow q k s) := by
  pointwise [k0_pay61]
  simp only [last_power_at, last_alpha_at]
  rfl

theorem last_acc_at (e : Fin 128) : k0_pay64 (k0_pay62 m a q k) (k0_pay63 m q k) v (ix2 s e) =
    newAcc (m (ix2 s 0)) (a (ix2 s e)) (maskedRow q k s) (fun r => v (ix3 0 r e)) := by
  pointwise [k0_pay64, k0_pay62, k0_pay63]
  simp only [last_power_at, last_alpha_at]
  rfl

end Payload

/-- A head's numbers after the diagonal tile. -/
def Run.last (p : Run) (q k : Vec Ideal S1x512x192 .bf16) (v : Vec Ideal S1x512x128 .bf16) : Run :=
  ⟨k0_pay58 p.top q k, k0_pay61 p.top p.sum q k, k0_pay64 (k0_pay62 p.top p.acc q k) (k0_pay63 p.top q k) v⟩

/-! ## What has been seen -/

section Seen

variable {x2 : Vec Ideal S4x512x192 .bf16} {x3 : Vec Ideal S4x4096x192 .bf16} {x4 : Vec Ideal S4x4096x128 .bf16}
  {σ : Fin 4 → Fin 512 → Fin 4096 → ℝ} {υ : Fin 4 → Fin 4096 → Fin 128 → EReal}
  (hσ : ∀ h s k, ∑ d : Fin 192, x2 (ix3 h s d) * x3 (ix3 h k d) = (σ h s k : EReal)) (hυ : ∀ h k e, x4 (ix3 h k e) = υ h k e)

/-- A head's numbers are those of the keys seen, in row `s`. -/
def Run.saw (p : Run) (σ : Fin 4096 → ℝ) (υ : Fin 4096 → Fin 128 → EReal) (S : Finset (Fin 4096)) (s : Fin 512) : Prop :=
  Seen σ υ S (p.top (ix2 s 0)) (p.sum (ix2 s 0)) (fun e => p.acc (ix2 s e))
def Run.done (p : Run) (σ : Fin 4096 → ℝ) (υ : Fin 4096 → Fin 128 → EReal) (S : Finset (Fin 4096)) (s : Fin 512) : Prop :=
  Level σ υ S (p.top (ix2 s 0)) (p.sum (ix2 s 0)) (fun e => p.acc (ix2 s e))

include hσ in
theorem row_coe {j : Fin 8} {q k : Fin 4 → Vec Ideal S1x512x192 .bf16} {v : Fin 4 → Vec Ideal S1x512x128 .bf16} (H : AreTiles x2 x3 x4 j q k v)
    (h : Fin 4) (s r : Fin 512) : row (q h) (k h) s r = (σ h s (seqRow j r) : EReal) := by
  rw [← hσ]
  exact Finset.sum_congr rfl fun d _ => by rw [H.1, H.2.1]

include hσ hυ in
theorem next_saw {j : Fin 8} {q k : Fin 4 → Vec Ideal S1x512x192 .bf16} {v : Fin 4 → Vec Ideal S1x512x128 .bf16} (H : AreTiles x2 x3 x4 j q k v)
    (h : Fin 4) (s : Fin 512) (p : Run) (hp : p.saw (σ h s) (υ h) (before j.val) s) :
    (p.next (q h) (k h) (v h)).saw (σ h s) (υ h) (before (j.val + 1)) s := by
  have L := seen_step hp (p := fun _ => True) (row := seqRow j) (sc := row (q h) (k h) s) (w := fun e r => v h (ix3 0 r e)) (r₀ := s)
    (fun r => by rw [if_pos trivial]; exact row_coe hσ H h s r) (fun e r => by rw [H.2.2, hυ]) trivial
    (S' := before (j.val + 1)) (fun f => by rw [sum_before j.val j.isLt]; simp only [if_true])
  unfold Run.saw Run.next
  simp only [top_at, sum_at, acc_at]
  exact L.seen

include hσ hυ in
theorem last_done {j : Fin 8} {q k : Fin 4 → Vec Ideal S1x512x192 .bf16} {v : Fin 4 → Vec Ideal S1x512x128 .bf16} (H : AreTiles x2 x3 x4 j q k v)
    (h : Fin 4) (s : Fin 512) (p : Run) (hp : p.saw (σ h s) (υ h) (before j.val) s) :
    (p.last (q h) (k h) (v h)).done (σ h s) (υ h) (upTo (seqRow j s).val) s := by
  have L := seen_step hp (p := fun r => r.val ≤ s.val) (row := seqRow j) (sc := maskedRow (q h) (k h) s) (w := fun e r => v h (ix3 0 r e)) (r₀ := s)
    (fun r => by
      unfold maskedRow
      rw [row_coe hσ H h s r]
      by_cases hr : r.val ≤ s.val
      · rw [if_neg (not_not.2 hr), if_pos hr]
      · rw [if_pos hr, if_neg hr]) (fun e r => by rw [H.2.2, hυ]) le_rfl
    (S' := upTo (seqRow j s).val) (fun f => sum_upTo j s f)
  unfold Run.done Run.last
  simp only [last_top_at, last_sum_at, last_acc_at]
  exact L

/-- Before the first tile. -/
def Run.start : Run := ⟨k0_pay42, k0_pay43, k0_pay44⟩

theorem start_saw (σ : Fin 4096 → ℝ) (υ : Fin 4096 → Fin 128 → EReal) (s : Fin 512) : Run.start.saw σ υ (before 0) s := by
  have hz : Ideal.ofBits .f32 0#32 = 0 := by simp [Ideal.ofBits, Ideal.ieee]
  have e1 : (k0_pay42 : FVec Ideal S512x1 .f32) (ix2 s 0) = ⊥ := mask_val
  have e2 : (k0_pay43 : FVec Ideal S512x1 .f32) (ix2 s 0) = 0 := hz
  have e3 : ∀ e, (k0_pay44 : FVec Ideal S512x128 .f32) (ix2 s e) = 0 := fun e => hz
  unfold Run.saw Run.start
  simp only [e1, e2, e3]
  exact seen_start σ υ

end Seen

section Loop

variable (t : Fin grid0.N) (𝒱 : Variants) (c : Dev nD) (bd : Option 𝒱.V) (arg2 : Memref sig .tc .vmem S4x512x192 .bf16) (harg2 : arg2.IsWhole) (arg3 : Memref sig .tc .vmem S4x4096x192 .bf16) (harg3 : arg3.IsWhole) (arg4 : Memref sig .tc .vmem S4x4096x128 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4x1x1x512 .f32) (harg8 : arg8.IsWhole)
  {x2 : Vec Ideal S4x512x192 .bf16} {x3 : Vec Ideal S4x4096x192 .bf16} {x4 : Vec Ideal S4x4096x128 .bf16}
  {σ : Fin 4 → Fin 512 → Fin 4096 → ℝ} {υ : Fin 4 → Fin 4096 → Fin 128 → EReal}
  (hσ : ∀ h s k, ∑ d : Fin 192, x2 (ix3 h s d) * x3 (ix3 h k d) = (σ h s k : EReal)) (hυ : ∀ h k e, x4 (ix3 h k e) = υ h k e)
  (init : Carry) (hi : ∀ h, Carry.head init h = Run.start)

include hσ hυ hi in
/-- After `n` trips every row has seen the first `n` tiles. -/
theorem loop_saw (h : Fin 4) (s : Fin 512) : ∀ n : ℕ, n ≤ (k0_t1_loop (grid0.coords t)).trips →
    (Carry.head (st_k0_t1 (F := Ideal) 𝒱 c bd (grid0.coords t) arg2 harg2 arg3 harg3 arg4 harg4 arg5 harg5 arg6 harg6 arg7 harg7 arg8 harg8 (harg2.unread x2) (harg3.unread x3) (harg4.unread x4) init n) h).saw (σ h s) (υ h) (before n) s
  | 0, _ => by
    rw [st_k0_t1_zero, hi]
    exact start_saw _ _ s
  | n + 1, hn => by
    obtain ⟨q, κ, v, H, e⟩ := trip_shape t 𝒱 c bd arg2 harg2 arg3 harg3 arg4 harg4 arg5 harg5 arg6 harg6 arg7 harg7 arg8 harg8 x2 x3 x4 ⟨n, hn⟩ (st_k0_t1 (F := Ideal) 𝒱 c bd (grid0.coords t) arg2 harg2 arg3 harg3 arg4 harg4 arg5 harg5 arg6 harg6 arg7 harg7 arg8 harg8 (harg2.unread x2) (harg3.unread x3) (harg4.unread x4) init n)
    have e' := congrArg (fun p => Carry.head p h) (st_k0_t1_succ (F := Ideal) 𝒱 c bd (grid0.coords t) arg2 harg2 arg3 harg3 arg4 harg4 arg5 harg5 arg6 harg6 arg7 harg7 arg8 harg8 (harg2.unread x2) (harg3.unread x3) (harg4.unread x4) init ⟨n, hn⟩)
    have := next_saw hσ hυ H h s _ (loop_saw h s n (Nat.le_of_succ_le hn))
    rw [← e h] at this
    exact (congrArg (fun p : Run => p.saw (σ h s) (υ h) (before (n + 1)) s) e').mpr this

end Loop

end Cert.AttnFwdIdeal.Tile

end
-- ==== Proof.FStore.lean ====
/-
  The tiles the forward attention's body stores: what they hold once stored, and their entries.
-/
module

public import proofs.«01_k».proof.Proof.FLoop
public import proofs.«01_k».proof.Proof.AArr

set_option maxRecDepth 16384

@[expose] public noncomputable section

namespace Cert.AttnFwdIdeal.Tile

open Cert.AttnFwdIdeal Cert.AttnFwdIdeal.Gen Cert.AttnFlow
open Idealize.ShloMosaic Idealize.ShloMosaic.TcCoe Idealize.SL.Sem
open Facts
open Cert.AttnIdeal.Tile (seqRow key_le)

/-! ## The stored tiles -/

/-- Pieces side by side, one of each head, -/
def colPieces {φ : EltTy} (w : Fin 4 → Vec Ideal S512x128 φ) : List (View.Piece (Elt Ideal) S512x512 φ) :=
  [⟨Rect.unit ![0, 384] ![512, 128] inb_S512x512_S512x128_0_384, w 3⟩, ⟨Rect.unit ![0, 256] ![512, 128] inb_S512x512_S512x128_0_256, w 2⟩,
    ⟨Rect.unit ![0, 128] ![512, 128] inb_S512x512_S512x128_0_128, w 1⟩, ⟨Rect.unit ![0, 0] ![512, 128] inb_S512x512_S512x128_0_0, w 0⟩]
/-- and above each other. -/
def rowPieces (w : Fin 4 → Vec Ideal S1x1x1x512 .f32) : List (View.Piece (Elt Ideal) S4x1x1x512 .f32) :=
  [⟨Rect.unit ![3, 0, 0, 0] ![1, 1, 1, 512] inb_S4x1x1x512_S1x1x1x512_3_0_0_0, w 3⟩, ⟨Rect.unit ![2, 0, 0, 0] ![1, 1, 1, 512] inb_S4x1x1x512_S1x1x1x512_2_0_0_0, w 2⟩,
    ⟨Rect.unit ![1, 0, 0, 0] ![1, 1, 1, 512] inb_S4x1x1x512_S1x1x1x512_1_0_0_0, w 1⟩, ⟨Rect.unit ![0, 0, 0, 0] ![1, 1, 1, 512] inb_S4x1x1x512_S1x1x1x512_0_0_0_0, w 0⟩]

theorem col_read {φ : EltTy} (w : Fin 4 → Vec Ideal S512x128 φ) (M : Memref sig .tc .vmem S512x512 φ) (g : BufTy.Contents (Elt Ideal) M.view.ty) (h : Fin 4) (s : Fin 512) (e : Fin 128) :
    M.view.read (Elt Ideal) (M.view.writes (Elt Ideal) g (colPieces w)) (ix2 s ⟨128 * h.val + e.val, by omega⟩) = w h (ix2 s e) := by
  have := e.isLt
  unfold colPieces
  fin_cases h
  · rw [View.read_writes_cons_miss_of_axis _ _ _ _ _ 1 384 128 (by simp) rfl rfl (by simp; omega),
      View.read_writes_cons_miss_of_axis _ _ _ _ _ 1 256 128 (by simp) rfl rfl (by simp; omega),
      View.read_writes_cons_miss_of_axis _ _ _ _ _ 1 128 128 (by simp) rfl rfl (by simp),
      View.read_writes_cons_hit_of_coords _ _ _ _ _ (ix2 s e : Shape.Idx ⟨2, ![512, 128]⟩) _ (by intro a; fin_cases a <;> simp)]
    rfl
  · rw [View.read_writes_cons_miss_of_axis _ _ _ _ _ 1 384 128 (by simp) rfl rfl (by simp; omega),
      View.read_writes_cons_miss_of_axis _ _ _ _ _ 1 256 128 (by simp) rfl rfl (by simp; omega),
      View.read_writes_cons_hit_of_coords _ _ _ _ _ (ix2 s e : Shape.Idx ⟨2, ![512, 128]⟩) _ (by intro a; fin_cases a <;> simp)]
    rfl
  · rw [View.read_writes_cons_miss_of_axis _ _ _ _ _ 1 384 128 (by simp) rfl rfl (by simp; omega),
      View.read_writes_cons_hit_of_coords _ _ _ _ _ (ix2 s e : Shape.Idx ⟨2, ![512, 128]⟩) _ (by intro a; fin_cases a <;> simp)]
    rfl
  · rw [View.read_writes_cons_hit_of_coords _ _ _ _ _ (ix2 s e : Shape.Idx ⟨2, ![512, 128]⟩) _ (by intro a; fin_cases a <;> simp)]
    rfl

theorem row_read (w : Fin 4 → Vec Ideal S1x1x1x512 .f32) (M : Memref sig .tc .vmem S4x1x1x512 .f32) (g : BufTy.Contents (Elt Ideal) M.view.ty) (h : Fin 4) (s : Fin 512) :
    M.view.read (Elt Ideal) (M.view.writes (Elt Ideal) g (rowPieces w)) (ix4 h 0 0 s) = w h (ix4 0 0 0 s) := by
  unfold rowPieces
  fin_cases h
  · rw [View.read_writes_cons_miss_of_axis _ _ _ _ _ 0 3 1 (by simp) rfl rfl (by simp),
      View.read_writes_cons_miss_of_axis _ _ _ _ _ 0 2 1 (by simp) rfl rfl (by simp),
      View.read_writes_cons_miss_of_axis _ _ _ _ _ 0 1 1 (by simp) rfl rfl (by simp),
      View.read_writes_cons_hit_of_coords _ _ _ _ _ (ix4 0 0 0 s : Shape.Idx ⟨4, ![1, 1, 1, 512]⟩) _ (by intro a; fin_cases a <;> simp)]
    rfl
  · rw [View.read_writes_cons_miss_of_axis _ _ _ _ _ 0 3 1 (by simp) rfl rfl (by simp),
      View.read_writes_cons_miss_of_axis _ _ _ _ _ 0 2 1 (by simp) rfl rfl (by simp),
      View.read_writes_cons_hit_of_coords _ _ _ _ _ (ix4 0 0 0 s : Shape.Idx ⟨4, ![1, 1, 1, 512]⟩) _ (by intro a; fin_cases a <;> simp)]
    rfl
  · rw [View.read_writes_cons_miss_of_axis _ _ _ _ _ 0 3 1 (by simp) rfl rfl (by simp),
      View.read_writes_cons_hit_of_coords _ _ _ _ _ (ix4 0 0 0 s : Shape.Idx ⟨4, ![1, 1, 1, 512]⟩) _ (by intro a; fin_cases a <;> simp)]
    rfl
  · rw [View.read_writes_cons_hit_of_coords _ _ _ _ _ (ix4 0 0 0 s : Shape.Idx ⟨4, ![1, 1, 1, 512]⟩) _ (by intro a; fin_cases a <;> simp)]
    rfl

/-! ## Their entries -/

/-- The output's entry, from a head's numbers, -/
def Run.out (p : Run) (s : Fin 512) (e : Fin 128) : EReal := Ideal.div (p.acc (ix2 s e)) (p.sum (ix2 s 0))
/-- the gate of an entry `z`, -/
def gate (z : EReal) : EReal := z * Ideal.div 1 (1 + Ideal.exp (0 - z))
/-- and the row's log-sum, to base 2. -/
def Run.lse (p : Run) (s : Fin 512) : EReal := p.top (ix2 s 0) + Ideal.log (p.sum (ix2 s 0)) * (((Real.log 2)⁻¹ : ℝ) : EReal)

theorem out_at (p : Run) (s : Fin 512) (e : Fin 128) : k0_pay85 p.sum p.acc (ix2 s e) = p.out s e := by
  pointwise [k0_pay85]
  rfl

theorem gated_at (p : Run) (z : Vec Ideal S512x128 .bf16) (s : Fin 512) (e : Fin 128) : k0_pay86 p.sum p.acc z (ix2 s e) = p.out s e * gate (z (ix2 s e)) := by
  pointwise [k0_pay86]
  rw [out_at]
  rfl

theorem lse_at (p : Run) (s : Fin 512) : k0_pay87 p.top p.sum (ix4 0 0 0 s) = p.lse s := by
  pointwise [k0_pay87]
  rw [show Named.named (F := Ideal) Cert.AttnFwdIdeal.κ "log2e" (φ := .f32) 0x3FB8AA3B#32 = (((Real.log 2)⁻¹ : ℝ) : EReal) from
    IdealRules.named_const.ideal_named_scalar _ _ _ _ rfl]
  rfl

end Cert.AttnFwdIdeal.Tile

end
-- ==== Proof.FPoint.lean ====
/-
  What the forward attention's body stores at one point of its grid.
-/
module

public import proofs.«01_k».proof.Proof.FStore

set_option maxRecDepth 16384

@[expose] public noncomputable section

namespace Cert.AttnFwdIdeal.Tile

open Cert.AttnFwdIdeal Cert.AttnFwdIdeal.Gen Cert.AttnFlow
open Idealize.ShloMosaic Idealize.ShloMosaic.TcCoe Idealize.SL.Sem
open Facts
open Cert.AttnIdeal.Tile (seqRow key_le)

/-! ## The body -/

section Body

variable (t : Fin grid0.N) (c : Dev nD) (arg2 : Memref sig .tc .vmem S4x512x192 .bf16) (harg2 : arg2.IsWhole) (arg3 : Memref sig .tc .vmem S4x4096x192 .bf16) (harg3 : arg3.IsWhole) (arg4 : Memref sig .tc .vmem S4x4096x128 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4x1x1x512 .f32) (harg8 : arg8.IsWhole)
  (x2 : Vec Ideal S4x512x192 .bf16) (x3 : Vec Ideal S4x4096x192 .bf16) (x4 : Vec Ideal S4x4096x128 .bf16) (x5 : Vec Ideal S512x512 .bf16)

/-- The diagonal tile of point `t`. -/
def diagTile : Fin 8 := ⟨t.val % 8, by omega⟩

/-- What the first loop ends with, -/
def first : Carry := st_k0_t1 (F := Ideal) Variants.none c none (grid0.coords t) arg2 harg2 arg3 harg3 arg4 harg4 arg5 harg5 arg6 harg6 arg7 harg7 arg8 harg8 (harg2.unread x2) (harg3.unread x3) (harg4.unread x4)
  (k0_pay42, k0_pay43, k0_pay44, k0_pay42, k0_pay43, k0_pay44, k0_pay42, k0_pay43, k0_pay44, k0_pay42, k0_pay43, k0_pay44) (k0_t1_loop (grid0.coords t)).trips
/-- and the second, which makes no trip. -/
def second (b : BitVec 32) : Carry := st_k0_t2 (F := Ideal) Variants.none c none (grid0.coords t) arg2 harg2 arg3 harg3 arg4 harg4 arg5 harg5 arg6 harg6 arg7 harg7 arg8 harg8 b (harg2.unread x2) (harg3.unread x3) (harg4.unread x4)
  (first t c arg2 harg2 arg3 harg3 arg4 harg4 arg5 harg5 arg6 harg6 arg7 harg7 arg8 harg8 x2 x3 x4) (k0_t2_loop (grid0.coords t)).trips

theorem second_eq (b : BitVec 32) : second t c arg2 harg2 arg3 harg3 arg4 harg4 arg5 harg5 arg6 harg6 arg7 harg7 arg8 harg8 x2 x3 x4 b = first t c arg2 harg2 arg3 harg3 arg4 harg4 arg5 harg5 arg6 harg6 arg7 harg7 arg8 harg8 x2 x3 x4 := by
  unfold second
  rw [trips2_eq]
  rfl

/-- The queries, the keys and the values of the diagonal tile. -/
def diagQ : Fin 4 → Vec Ideal S1x512x192 .bf16 := ![View.readAt (Elt Ideal) arg2.view (Rect.unit (s := S4x512x192) ![0, 0, 0] ![1, 512, 192] (by decide)).toLoadRect (harg2.unread x2), View.readAt (Elt Ideal) arg2.view (Rect.unit (s := S4x512x192) ![1, 0, 0] ![1, 512, 192] (by decide)).toLoadRect (harg2.unread x2), View.readAt (Elt Ideal) arg2.view (Rect.unit (s := S4x512x192) ![2, 0, 0] ![1, 512, 192] (by decide)).toLoadRect (harg2.unread x2), View.readAt (Elt Ideal) arg2.view (Rect.unit (s := S4x512x192) ![3, 0, 0] ![1, 512, 192] (by decide)).toLoadRect (harg2.unread x2)]
def diagK : Fin 4 → Vec Ideal S1x512x192 .bf16 := ![View.readAt (Elt Ideal) arg3.view (Rect.unit (s := S4x4096x192) (k0_off17 (grid0.coords t)) ![1, 512, 192] (k0_off17_inb (grid0.coords t))).toLoadRect (harg3.unread x3), View.readAt (Elt Ideal) arg3.view (Rect.unit (s := S4x4096x192) (k0_off19 (grid0.coords t)) ![1, 512, 192] (k0_off19_inb (grid0.coords t))).toLoadRect (harg3.unread x3), View.readAt (Elt Ideal) arg3.view (Rect.unit (s := S4x4096x192) (k0_off21 (grid0.coords t)) ![1, 512, 192] (k0_off21_inb (grid0.coords t))).toLoadRect (harg3.unread x3), View.readAt (Elt Ideal) arg3.view (Rect.unit (s := S4x4096x192) (k0_off23 (grid0.coords t)) ![1, 512, 192] (k0_off23_inb (grid0.coords t))).toLoadRect (harg3.unread x3)]
def diagV : Fin 4 → Vec Ideal S1x512x128 .bf16 := ![View.readAt (Elt Ideal) arg4.view (Rect.unit (s := S4x4096x128) (k0_off18 (grid0.coords t)) ![1, 512, 128] (k0_off18_inb (grid0.coords t))).toLoadRect (harg4.unread x4), View.readAt (Elt Ideal) arg4.view (Rect.unit (s := S4x4096x128) (k0_off20 (grid0.coords t)) ![1, 512, 128] (k0_off20_inb (grid0.coords t))).toLoadRect (harg4.unread x4), View.readAt (Elt Ideal) arg4.view (Rect.unit (s := S4x4096x128) (k0_off22 (grid0.coords t)) ![1, 512, 128] (k0_off22_inb (grid0.coords t))).toLoadRect (harg4.unread x4), View.readAt (Elt Ideal) arg4.view (Rect.unit (s := S4x4096x128) (k0_off24 (grid0.coords t)) ![1, 512, 128] (k0_off24_inb (grid0.coords t))).toLoadRect (harg4.unread x4)]

theorem diag_tiles : AreTiles x2 x3 x4 (diagTile t) (diagQ arg2 harg2 x2) (diagK t arg3 harg3 x3) (diagV t arg4 harg4 x4) := by
  refine ⟨fun h s d => ?_, fun h r d => ?_, fun h r e => ?_⟩
  · fin_cases h
    · exact read_at harg2 x2 _ _ (ix3 0 s d) (by intro a; fin_cases a <;> simp)
    · exact read_at harg2 x2 _ _ (ix3 1 s d) (by intro a; fin_cases a <;> simp)
    · exact read_at harg2 x2 _ _ (ix3 2 s d) (by intro a; fin_cases a <;> simp)
    · exact read_at harg2 x2 _ _ (ix3 3 s d) (by intro a; fin_cases a <;> simp)
  · fin_cases h
    · exact read_at harg3 x3 _ _ (ix3 0 (seqRow (diagTile t) r) d) (by intro a; fin_cases a <;> simp [off17_eq, seqRow, diagTile])
    · exact read_at harg3 x3 _ _ (ix3 1 (seqRow (diagTile t) r) d) (by intro a; fin_cases a <;> simp [off19_eq, seqRow, diagTile])
    · exact read_at harg3 x3 _ _ (ix3 2 (seqRow (diagTile t) r) d) (by intro a; fin_cases a <;> simp [off21_eq, seqRow, diagTile])
    · exact read_at harg3 x3 _ _ (ix3 3 (seqRow (diagTile t) r) d) (by intro a; fin_cases a <;> simp [off23_eq, seqRow, diagTile])
  · fin_cases h
    · exact read_at harg4 x4 _ _ (ix3 0 (seqRow (diagTile t) r) e) (by intro a; fin_cases a <;> simp [off18_eq, seqRow, diagTile])
    · exact read_at harg4 x4 _ _ (ix3 1 (seqRow (diagTile t) r) e) (by intro a; fin_cases a <;> simp [off20_eq, seqRow, diagTile])
    · exact read_at harg4 x4 _ _ (ix3 2 (seqRow (diagTile t) r) e) (by intro a; fin_cases a <;> simp [off22_eq, seqRow, diagTile])
    · exact read_at harg4 x4 _ _ (ix3 3 (seqRow (diagTile t) r) e) (by intro a; fin_cases a <;> simp [off24_eq, seqRow, diagTile])

set_option maxHeartbeats 8000000 in
/-- The body stores, of four heads' numbers, the outputs, the gated outputs and the log-sums. -/
theorem body_pieces {σ : Fin 4 → Fin 512 → Fin 4096 → ℝ} {υ : Fin 4 → Fin 4096 → Fin 128 → EReal}
    (hσ : ∀ h s k, ∑ d : Fin 192, x2 (ix3 h s d) * x3 (ix3 h k d) = (σ h s k : EReal)) (hυ : ∀ h k e, x4 (ix3 h k e) = υ h k e) :
    ∃ (P : Fin 4 → Run) (z : Fin 4 → Vec Ideal S512x128 .bf16),
      (∀ h s, (P h).done (σ h s) (υ h) (upTo (seqRow (diagTile t) s).val) s) ∧ (∀ (h : Fin 4) s (e : Fin 128), z h (ix2 s e) = x5 (ix2 s ⟨128 * h.val + e.val, by omega⟩))
        ∧ (kernelRun0_A (F := Ideal) c (grid0.coords t) arg2 harg2 arg3 harg3 arg4 harg4 arg5 harg5 arg6 harg6 arg7 harg7 arg8 harg8 x2 x3 x4 x5).1 = colPieces (fun h => k0_pay85 (P h).sum (P h).acc)
        ∧ (kernelRun0_A (F := Ideal) c (grid0.coords t) arg2 harg2 arg3 harg3 arg4 harg4 arg5 harg5 arg6 harg6 arg7 harg7 arg8 harg8 x2 x3 x4 x5).2.1 = colPieces (fun h => k0_pay86 (P h).sum (P h).acc (z h))
        ∧ (kernelRun0_A (F := Ideal) c (grid0.coords t) arg2 harg2 arg3 harg3 arg4 harg4 arg5 harg5 arg6 harg6 arg7 harg7 arg8 harg8 x2 x3 x4 x5).2.2.val = rowPieces (fun h => k0_pay87 (P h).top (P h).sum) := by
  refine ⟨fun h => (Carry.head (second t c arg2 harg2 arg3 harg3 arg4 harg4 arg5 harg5 arg6 harg6 arg7 harg7 arg8 harg8 x2 x3 x4 ?b) h).last (diagQ arg2 harg2 x2 h) (diagK t arg3 harg3 x3 h) (diagV t arg4 harg4 x4 h),
    ![View.readAt (Elt Ideal) arg5.view (Rect.unit (s := S512x512) ![0, 0] ![512, 128] inb_S512x512_S512x128_0_0).toLoadRect (harg5.unread x5), View.readAt (Elt Ideal) arg5.view (Rect.unit (s := S512x512) ![0, 128] ![512, 128] inb_S512x512_S512x128_0_128).toLoadRect (harg5.unread x5), View.readAt (Elt Ideal) arg5.view (Rect.unit (s := S512x512) ![0, 256] ![512, 128] inb_S512x512_S512x128_0_256).toLoadRect (harg5.unread x5), View.readAt (Elt Ideal) arg5.view (Rect.unit (s := S512x512) ![0, 384] ![512, 128] inb_S512x512_S512x128_0_384).toLoadRect (harg5.unread x5)], fun h s => ?hP, fun h s e => ?hz, ?ho, ?hg, ?hl⟩
  case hl =>
    rw [kernelRun0_A]
    rfl
  case ho =>
    rw [kernelRun0_A]
    rfl
  case hg =>
    rw [kernelRun0_A]
    rfl
  case hP =>
    refine last_done hσ hυ (diag_tiles t arg2 harg2 arg3 harg3 arg4 harg4 x2 x3 x4) h s _ ?_
    rw [second_eq]
    have L := loop_saw t Variants.none c none arg2 harg2 arg3 harg3 arg4 harg4 arg5 harg5 arg6 harg6 arg7 harg7 arg8 harg8 hσ hυ (k0_pay42, k0_pay43, k0_pay44, k0_pay42, k0_pay43, k0_pay44, k0_pay42, k0_pay43, k0_pay44, k0_pay42, k0_pay43, k0_pay44)
      (fun h => by fin_cases h <;> rfl) h s _ le_rfl
    rw [trips_eq] at L
    unfold first
    rw [trips_eq]
    exact L
  case hz =>
    fin_cases h
    · exact read_at harg5 x5 _ _ (ix2 s ⟨128 * 0 + e.val, by omega⟩) (by intro a; fin_cases a <;> simp)
    · exact read_at harg5 x5 _ _ (ix2 s ⟨128 * 1 + e.val, by omega⟩) (by intro a; fin_cases a <;> simp)
    · exact read_at harg5 x5 _ _ (ix2 s ⟨128 * 2 + e.val, by omega⟩) (by intro a; fin_cases a <;> simp)
    · exact read_at harg5 x5 _ _ (ix2 s ⟨128 * 3 + e.val, by omega⟩) (by intro a; fin_cases a <;> simp)

end Body

end Cert.AttnFwdIdeal.Tile

end
-- ==== Proof.FArr.lean ====
/-
  The forward attention's three results as arrays: of each query's running numbers at its end, the output, the gated output and the log-sum.
-/
module

public import proofs.«01_k».proof.Proof.FPoint
public import proofs.«01_k».proof.Proof.AHost
public import Idealize.ShloMosaic.Lib.Pipeline.ValueKit

set_option maxRecDepth 16384

@[expose] public noncomputable section

namespace Cert.AttnFwdIdeal.Tile

open Cert.AttnFwdIdeal Cert.AttnFwdIdeal.Gen Cert.AttnFlow
open Idealize.ShloMosaic Idealize.ShloMosaic.TcCoe Idealize.SL.Sem
open Facts
open Cert.AttnIdeal.Tile (seqRow col tileOf inTile row_of)

theorem bidx0 : ∀ t : Fin grid0.N, win0_0.index t 0 = t.val / 8 ∧ win0_0.index t 1 = t.val % 8 ∧ win0_0.index t 2 = 0 := by decide +kernel
theorem bidx1 : ∀ t : Fin grid0.N, win0_1.index t 0 = t.val / 8 ∧ win0_1.index t 1 = 0 ∧ win0_1.index t 2 = 0 := by decide +kernel
theorem bidx2 : ∀ t : Fin grid0.N, win0_2.index t 0 = t.val / 8 ∧ win0_2.index t 1 = 0 ∧ win0_2.index t 2 = 0 := by decide +kernel
theorem bidx3 : ∀ t : Fin grid0.N, win0_3.index t 0 = t.val % 8 ∧ win0_3.index t 1 = t.val / 8 := by decide +kernel
theorem bidx4 : ∀ t : Fin grid0.N, win0_4.index t 0 = t.val % 8 ∧ win0_4.index t 1 = t.val / 8 := by decide +kernel
theorem bidx5 : ∀ t : Fin grid0.N, win0_5.index t 0 = t.val % 8 ∧ win0_5.index t 1 = t.val / 8 := by decide +kernel
theorem bidx6 : ∀ t : Fin grid0.N, win0_6.index t 0 = t.val / 8 ∧ win0_6.index t 1 = t.val % 8 ∧ win0_6.index t 2 = 0 ∧ win0_6.index t 3 = 0 := by decide +kernel

variable (m : (ℓ : Loc nD τ sig) → Buf (Elt Ideal) ℓ) (c : Dev nD)

/-- The arrays the kernel is called with: scaled queries, keys, values and the gate. -/
abbrev arrQ : Shape.Idx ⟨3, ![16, 4096, 192]⟩ → EReal := V m c main_v5
abbrev arrK : Shape.Idx ⟨3, ![16, 4096, 192]⟩ → EReal := V m c main_arg1
abbrev arrU : Shape.Idx ⟨3, ![16, 4096, 128]⟩ → EReal := V m c main_arg2
abbrev arrZ : Shape.Idx ⟨2, ![4096, 2048]⟩ → EReal := V m c main_arg3

/-- Head `h` of the four at point `t`. -/
def headOf (t : Fin grid0.N) (h : Fin 4) : Fin 16 := ⟨4 * (t.val / 8) + h.val, by have : t.val < 32 := t.isLt; omega⟩

theorem in_query (t : Fin grid0.N) (h : Fin 4) (s : Fin 512) (d : Fin 192) : iblk m c 0 t (ix3 h s d) = arrQ m c (ix3 (headOf t h) (seqRow (diagTile t) s) d) := by
  obtain ⟨e0, e1, e2⟩ := bidx0 t
  blk_ext [iblk, arrQ, e0, e1, e2, headOf, seqRow, diagTile]
theorem in_key (t : Fin grid0.N) (h : Fin 4) (k : Fin 4096) (d : Fin 192) : iblk m c 1 t (ix3 h k d) = arrK m c (ix3 (headOf t h) k d) := by
  obtain ⟨e0, e1, e2⟩ := bidx1 t
  blk_ext [iblk, arrK, e0, e1, e2, headOf]
theorem in_value (t : Fin grid0.N) (h : Fin 4) (k : Fin 4096) (e : Fin 128) : iblk m c 2 t (ix3 h k e) = arrU m c (ix3 (headOf t h) k e) := by
  obtain ⟨e0, e1, e2⟩ := bidx2 t
  blk_ext [iblk, arrU, e0, e1, e2, headOf]
theorem in_gate (t : Fin grid0.N) (h : Fin 4) (s : Fin 512) (e : Fin 128) :
    iblk m c 3 t (ix2 s ⟨128 * h.val + e.val, by omega⟩) = arrZ m c (ix2 (seqRow (diagTile t) s) (col (headOf t h) e)) := by
  obtain ⟨e0, e1⟩ := bidx3 t
  blk_ext [iblk, arrZ, e0, e1, headOf, col, seqRow, diagTile]

/-- A column of a block is a column of one of its four heads. -/
theorem of_head (x : Fin 512) : ∃ (h : Fin 4) (e : Fin 128), x = ⟨128 * h.val + e.val, by omega⟩ :=
  ⟨⟨x.val / 128, by omega⟩, ⟨x.val % 128, by omega⟩, Fin.ext (by simp only; omega)⟩

/-- What the body leaves in the blocks of the three results is what its stores wrote. -/
theorem outs4 (t : Fin cfg0.N) : (outsAt0 m c t).1 = VO0_4.read (Elt Ideal) (VO0_4.writes (Elt Ideal) VO0_4.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t)).1) := by
  unfold outsAt0 out0_A_4
  dsimp only

theorem outs5 (t : Fin cfg0.N) : (outsAt0 m c t).2.1 = VO0_5.read (Elt Ideal) (VO0_5.writes (Elt Ideal) VO0_5.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t)).2.1) := by
  unfold outsAt0 out0_A_5
  dsimp only

theorem outs6 (t : Fin cfg0.N) : (outsAt0 m c t).2.2 = VO0_6.read (Elt Ideal) (VO0_6.writes (Elt Ideal) VO0_6.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t)).2.2.val) := by
  unfold outsAt0 out0_A_6
  dsimp only

section Results

variable {σ : Fin 16 → Fin 4096 → Fin 4096 → ℝ} {υ : Fin 16 → Fin 4096 → Fin 128 → EReal}
  (hσ : ∀ h n k, ∑ d : Fin 192, arrQ m c (ix3 h n d) * arrK m c (ix3 h k d) = (σ h n k : EReal)) (hυ : ∀ h k e, arrU m c (ix3 h k e) = υ h k e)

include hσ in
theorem scores_at (t : Fin cfg0.N) (h : Fin 4) (s : Fin 512) (k : Fin 4096) :
    ∑ d : Fin 192, @HMul.hMul EReal EReal EReal _ (iblk m c 0 t (ix3 h s d)) (iblk m c 1 t (ix3 h k d)) = (σ (headOf t h) (seqRow (diagTile t) s) k : EReal) := by
  rw [← hσ]
  exact Finset.sum_congr rfl fun d _ => congrArg₂ (fun a b : EReal => a * b) (in_query m c t h s d) (in_key m c t h k d)

include hσ hυ in
theorem stored (t : Fin cfg0.N) : ∃ (P : Fin 4 → Run) (z : Fin 4 → Vec Ideal S512x128 .bf16),
    (∀ h s, (P h).done (σ (headOf t h) (seqRow (diagTile t) s)) (υ (headOf t h)) (upTo (seqRow (diagTile t) s).val) s)
      ∧ (∀ h s e, z h (ix2 s e) = arrZ m c (ix2 (seqRow (diagTile t) s) (col (headOf t h) e)))
      ∧ (outsAt0 m c t).1 = VO0_4.read (Elt Ideal) (VO0_4.writes (Elt Ideal) VO0_4.junk (colPieces fun h => k0_pay85 (P h).sum (P h).acc))
      ∧ (outsAt0 m c t).2.1 = VO0_5.read (Elt Ideal) (VO0_5.writes (Elt Ideal) VO0_5.junk (colPieces fun h => k0_pay86 (P h).sum (P h).acc (z h)))
      ∧ (outsAt0 m c t).2.2 = VO0_6.read (Elt Ideal) (VO0_6.writes (Elt Ideal) VO0_6.junk (rowPieces fun h => k0_pay87 (P h).top (P h).sum)) := by
  obtain ⟨P, z, hP, hz, e4, e5, e6⟩ := body_pieces t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t)
    (σ := fun h s k => σ (headOf t h) (seqRow (diagTile t) s) k) (υ := fun h k e => υ (headOf t h) k e)
    (scores_at m c hσ t) (fun h k e => (in_value m c t h k e).trans (hυ _ _ _))
  refine ⟨P, z, hP, fun h s e => (hz h s e).trans (in_gate m c t h s e), ?_, ?_, ?_⟩
  · rw [outs4, e4]
  · rw [outs5, e5]
  · rw [outs6, e6]

variable {f : Fin 16 → Fin 4096 → Fin 128 → EReal} {g : Fin 16 → Fin 4096 → EReal}
  (hf : ∀ h n {m l : EReal} {a : Fin 128 → EReal}, Level (σ h n) (υ h) (upTo n.val) m l a → ∀ e, Ideal.div (a e) l = f h n e)
  (hg : ∀ h n {m l : EReal} {a : Fin 128 → EReal}, Level (σ h n) (υ h) (upTo n.val) m l a → m + Ideal.log l * (((Real.log 2)⁻¹ : ℝ) : EReal) = g h n)

variable (f g) in
/-- The results, from a query's output `f` and log-sum `g`. -/
def G4 : Shape.Idx ⟨2, ![4096, 2048]⟩ → EReal := fun y =>
  f ⟨(y 1).val / 128, by have : (y 1).val < 2048 := (y 1).isLt; omega⟩ (y 0) ⟨(y 1).val % 128, by omega⟩
variable (f) in
def G5 : Shape.Idx ⟨2, ![4096, 2048]⟩ → EReal := fun y => G4 f y * gate (arrZ m c y)
variable (g) in
def G6 : Shape.Idx ⟨4, ![16, 8, 1, 512]⟩ → EReal := fun y => g (y 0) (seqRow (y 1) (y 3))

theorem G4_at (n : Fin 4096) (h : Fin 16) (e : Fin 128) : G4 f (ix2 n (col h e)) = f h n e := by
  have e1 : (⟨(col h e).val / 128, by omega⟩ : Fin 16) = h := Fin.ext (by simp only [col]; omega)
  have e2 : (⟨(col h e).val % 128, by omega⟩ : Fin 128) = e := Fin.ext (by simp only [col]; omega)
  show f ⟨(col h e).val / 128, _⟩ n ⟨(col h e).val % 128, _⟩ = _
  rw [e1, e2]

include hσ hυ hf in
theorem arr4 : (dats m 0 c).arrAt 4 cfg0.N = G4 f := by
  refine (dats m 0 c).arrAt_eq_of_covers 4 _ (by decide +kernel) fun t hf' y => ?_
  blk_simp
  rw [after0_4]
  obtain ⟨P, z, hP, -, e4, -, -⟩ := stored m c hσ hυ t
  obtain ⟨i0, i1⟩ := bidx4 t
  obtain ⟨s, x, rfl⟩ : ∃ (s x : Fin 512), y = ix2 s x := ⟨y 0, y 1, by funext a; fin_cases a <;> rfl⟩
  obtain ⟨h, e, rfl⟩ := of_head x
  have E : (win0_4.blk t).view.emb (ix2 s ⟨128 * h.val + e.val, by omega⟩ : S512x512.Idx) = ix2 (seqRow (diagTile t) s) (col (headOf t h) e) := by
    blk_ext [i0, i1, seqRow, diagTile, col, headOf]
  refine Eq.trans ?_ (congrArg (G4 f) E.symm)
  rw [G4_at, e4]
  refine (col_read _ (Memref.whole cc0_stg4_0) _ h s e).trans ?_
  exact (out_at (P h) s e).trans (hf _ _ (hP h s) e)

include hσ hυ hf in
theorem arr5 : (dats m 0 c).arrAt 5 cfg0.N = G5 m c f := by
  refine (dats m 0 c).arrAt_eq_of_covers 5 _ (by decide +kernel) fun t hf' y => ?_
  blk_simp
  rw [after0_5]
  obtain ⟨P, z, hP, hz, -, e5, -⟩ := stored m c hσ hυ t
  obtain ⟨i0, i1⟩ := bidx5 t
  obtain ⟨s, x, rfl⟩ : ∃ (s x : Fin 512), y = ix2 s x := ⟨y 0, y 1, by funext a; fin_cases a <;> rfl⟩
  obtain ⟨h, e, rfl⟩ := of_head x
  have E : (win0_5.blk t).view.emb (ix2 s ⟨128 * h.val + e.val, by omega⟩ : S512x512.Idx) = ix2 (seqRow (diagTile t) s) (col (headOf t h) e) := by
    blk_ext [i0, i1, seqRow, diagTile, col, headOf]
  refine Eq.trans ?_ (congrArg (G5 m c f) E.symm)
  rw [e5]
  refine (col_read _ (Memref.whole cc0_stg5_0) _ h s e).trans ?_
  refine (gated_at (P h) (z h) s e).trans ?_
  unfold G5
  rw [G4_at, hz]
  exact congrArg (· * _) (hf _ _ (hP h s) e)

include hσ hυ hg in
theorem arr6 : (dats m 0 c).arrAt 6 cfg0.N = G6 g := by
  refine (dats m 0 c).arrAt_eq_of_covers 6 _ (by decide +kernel) fun t hf' y => ?_
  blk_simp
  rw [after0_6]
  obtain ⟨P, z, hP, -, -, -, e6⟩ := stored m c hσ hυ t
  obtain ⟨i0, i1, i2, i3⟩ := bidx6 t
  obtain ⟨h, s, rfl⟩ : ∃ (h : Fin 4) (s : Fin 512), y = ix4 h 0 0 s :=
    ⟨y 0, y 3, by
      funext a
      fin_cases a
      · rfl
      · exact Subsingleton.elim (α := Fin 1) _ _
      · exact Subsingleton.elim (α := Fin 1) _ _
      · rfl⟩
  have E : (win0_6.blk t).view.emb (ix4 h 0 0 s : S4x1x1x512.Idx) = ix4 (headOf t h) (diagTile t) 0 s := by
    blk_ext [i0, i1, i2, i3, diagTile, headOf]
  refine Eq.trans ?_ (congrArg (G6 g) E.symm)
  rw [e6]
  refine (row_read _ (Memref.whole cc0_stg6_0) _ h s).trans ?_
  exact (lse_at (P h) s).trans (hg _ _ (hP h s))

end Results

end Cert.AttnFwdIdeal.Tile

end
-- ==== Proof.FSoft.lean ====
/-
  What a row's running numbers end with are the softmax's: the output is the probabilities' weighted sum, the log-sum that of the scores.
-/
module

public import proofs.«01_k».proof.Proof.FFlow

set_option maxRecDepth 16384

@[expose] public noncomputable section

namespace Cert.AttnFlow

open Idealize.ShloMosaic Cert.AttnIdeal.Tile Cert.AttnGrad Cert.ConvGrad

variable {R : Fin 16 → Fin 4096 → Fin 192 → EReal} {K : Rows 192} {U : Rows 128}
  {r κ : Fin 16 → Fin 4096 → Fin 192 → ℝ} {a : ℝ} {t : Fin 16 → Fin 4096 → ℝ}
  (hR : ∀ h n d, R h n d = r h n d) (hK : ∀ h n d, K (ix3 h n d) = κ h n d)
  (ha : scale = a) (ht : ∀ h n, top R K h n = t h n)

/-- The sum of the exponentials over the keys up to the query. -/
theorem sum_exp (s : Fin 16 → Fin 4096 → Fin 4096 → ℝ) (h : Fin 16) (n : Fin 4096) : ∑ k ∈ upTo n.val, Real.exp (s h n k - t h n) = lR s t h n := by
  unfold upTo lR eR
  rw [Finset.sum_filter]

include hR hK ha ht in
theorem level_out {h : Fin 16} {n : Fin 4096} {m l : EReal} {acc : Fin 128 → EReal}
    (L : Level (fun k => sR r κ a h n k / Real.log 2) (fun k e => U (ix3 h k e)) (upTo n.val) m l acc) (e : Fin 128) :
    Ideal.div (acc e) l = ∑ k : Fin 4096, probs R K h n k * U (ix3 h k e) := by
  obtain ⟨M, -, hl, hacc⟩ := L
  have hp := lR_pos (sR r κ a) t h n
  have hc : 0 < Real.exp (t h n - M * Real.log 2) := Real.exp_pos _
  rw [hacc e, hl, level_sum _ _ (t h n) M, sum_exp, Ideal.div_coe (mul_pos hc hp).ne', mul_comm, coe_mul_sum (one_div_pos.2 (mul_pos hc hp)).le]
  unfold upTo
  rw [Finset.sum_filter]
  refine Finset.sum_congr rfl fun k _ => ?_
  rw [probs_coe hR hK ha ht]
  unfold eR
  split_ifs
  · rw [← mul_assoc, ← EReal.coe_mul, level_term _ (t h n) M]
    congr 2
    field_simp
  · rw [zero_div, EReal.coe_zero, zero_mul]

include hR hK ha ht in
theorem level_lse {h : Fin 16} {n : Fin 4096} {m l : EReal} {acc : Fin 128 → EReal}
    {w : Fin 4096 → Fin 128 → EReal} (L : Level (fun k => sR r κ a h n k / Real.log 2) w (upTo n.val) m l acc) :
    m + Ideal.log l * (((Real.log 2)⁻¹ : ℝ) : EReal) = Ideal.div (top R K h n + Ideal.log (total R K h n)) (Ideal.log 2) := by
  obtain ⟨M, hm, hl, -⟩ := L
  have hp := lR_pos (sR r κ a) t h n
  have hc : 0 < Real.exp (t h n - M * Real.log 2) := Real.exp_pos _
  have h2 := log_two_pos.ne'
  have log_coe : ∀ {x : ℝ}, 0 < x → Ideal.log ((x : ℝ) : EReal) = ((Real.log x : ℝ) : EReal) := fun hx => if_neg (not_le.2 hx)
  rw [hm, hl, level_sum _ _ (t h n) M, sum_exp, log_coe (mul_pos hc hp), log_two, ht, total_coe hR hK ha ht, log_coe hp, ← EReal.coe_add, Ideal.div_coe h2,
    ← EReal.coe_mul, ← EReal.coe_mul, ← EReal.coe_add, Real.log_mul hc.ne' hp.ne', Real.log_exp]
  congr 1
  field_simp
  ring

end Cert.AttnFlow

end
-- ==== Proof.FRef.lean ====
/-
  The forward attention's reference, entry by entry: the softmax of the masked scores, the output, its gate and the log-sums.
-/
module

public import proofs.«01_k».proof.Proof.Gen.AttnFwdRefIdeal.Read
public import proofs.«01_k».proof.Proof.AHost
public import Idealize.ShloMosaic.Lib.Pipeline.ValueKit
public import Idealize.ShloMosaic.Lib.Pointwise

set_option maxRecDepth 16384

@[expose] public noncomputable section

namespace Cert.AttnFwdRefIdeal.Value

open Cert.AttnFwdRefIdeal Cert.AttnFwdRefIdeal.Gen Cert.AttnFwdRefIdeal.Read Cert.AttnGrad
open Idealize.ShloMosaic Idealize.ShloMosaic.TcCoe Idealize.SL.Sem
open Cert.AttnIdeal.Tile (scale col tileOf inTile seqRow)

variable (x0 : (⟨S16x4096x192, .f32⟩ : BufTy).Contents (Elt Ideal)) (x1 : (⟨S16x4096x192, .bf16⟩ : BufTy).Contents (Elt Ideal))
  (x2 : (⟨S16x4096x128, .bf16⟩ : BufTy).Contents (Elt Ideal)) (x3 : (⟨S4096x2048, .bf16⟩ : BufTy).Contents (Elt Ideal))
  (h : Fin 16) (n k : Fin 4096)

/-- The queries, by head, position and column. -/
abbrev rows (h : Fin 16) (n : Fin 4096) (d : Fin 192) : EReal := x0 (ix3 h n d)

theorem ref_score : val_main_v8 (F := Ideal) x0 x1 (ix3 h n k) = score (rows x0) x1 h n k := by
  pointwise [val_main_v8, val_main_v7, val_main_v6, val_main_v5, val_main_v4, val_main_v3, val_main_v2, val_main_v0, val_main_cst, val_main_cst_0, val_main_call0_v0, val_main_call0_v1, val_main_call0_v2]
  unfold Scalar.select score
  rw [if_congr (sle_positions k n) rfl rfl]
  split_ifs
  · rfl
  · exact neg_infinity

theorem ref_max : val_main_v9 (F := Ideal) x0 x1 (ix2 h n) = top (rows x0) x1 h n := by
  have hb : val_main_cst_1 (F := Ideal) (Shape.Idx.first h_S_) = ⊥ :=
    (show val_main_cst_1 (F := Ideal) (Shape.Idx.first h_S_) = Ideal.ofBits .f32 4286578688#32 from rfl).trans neg_infinity
  have hf : (fun x => val_main_v8 (F := Ideal) x0 x1 (ix3 h n x)) = fun x => score (rows x0) x1 h n x := funext fun x => ref_score x0 x1 h n x
  pointwise [val_main_v9]
  exact congrArg₂ (fun b f => Finset.fold max b f Finset.univ) hb hf

theorem ref_expo : val_main_v13 (F := Ideal) x0 x1 (ix3 h n k) = expo (rows x0) x1 h n k := by
  pointwise [val_main_v13, val_main_v12, val_main_v11, val_main_v10]
  rw [ref_score, ref_max]
  rfl

theorem ref_total : val_main_v14 (F := Ideal) x0 x1 (ix2 h n) = total (rows x0) x1 h n := by
  pointwise [val_main_v14, val_main_cst_2]
  simp only [ref_expo]
  rfl

theorem ref_probs : val_main_v17 (F := Ideal) x0 x1 (ix3 h n k) = probs (rows x0) x1 h n k := by
  pointwise [val_main_v17, val_main_v16, val_main_v15]
  rw [ref_expo, ref_total]
  rfl

theorem ref_heads (e : Fin 128) : val_main_v18 (F := Ideal) x0 x1 x2 (ix3 h n e) = ∑ k : Fin 4096, probs (rows x0) x1 h n k * x2 (ix3 h k e) := by
  pointwise [val_main_v18, val_main_v1]
  simp only [ref_probs]

/-- The first result, the output. -/
theorem ref_out (x : Fin 2048) : val_main_v20 (F := Ideal) x0 x1 x2 (ix2 n x) =
    ∑ k : Fin 4096, probs (rows x0) x1 ⟨x.val / 128, by omega⟩ n k * x2 (ix3 ⟨x.val / 128, by omega⟩ k ⟨x.val % 128, by omega⟩) := by
  rw [← ref_heads]
  pointwise [val_main_v20, val_main_v19]

/-- The second, the output gated. -/
theorem ref_gated (x : Fin 2048) : val_main_v31 (F := Ideal) x0 x1 x2 x3 (ix2 n x) =
    val_main_v20 (F := Ideal) x0 x1 x2 (ix2 n x) * (x3 (ix2 n x) * Ideal.div 1 (1 + Ideal.exp (-x3 (ix2 n x)))) := by
  pointwise [val_main_v31, val_main_v30, val_main_v29, val_main_v28, val_main_call1_v0, val_main_call1_v1, val_main_call1_cst, val_main_call1_v2, val_main_call1_v3, val_main_call1_cst_0, val_main_call1_v4, val_main_call1_v5]

/-- The log-sums to base 2, -/
theorem ref_base : val_main_v25 (F := Ideal) (ix2 h n) = Ideal.log 2 := by
  pointwise [val_main_v25, val_main_v24, val_main_v23, val_main_cst_3]
  exact congrArg Ideal.log Cert.AttnIdeal.Tile.two_literal

theorem ref_quot : val_main_v26 (F := Ideal) x0 x1 (ix2 h n) = Ideal.div (top (rows x0) x1 h n + Ideal.log (total (rows x0) x1 h n)) (Ideal.log 2) := by
  rw [val_main_v26_apply, val_main_v22_apply, val_main_v21_apply, ref_max, ref_total, ref_base]
  generalize top (rows x0) x1 h n = a
  generalize total (rows x0) x1 h n = b
  generalize Ideal.log 2 = e
  rfl

/-- the third result. -/
theorem ref_lse (i : Fin 8) (s : Fin 512) : val_main_v27 (F := Ideal) x0 x1 (ix4 h i 0 s) =
    Ideal.div (top (rows x0) x1 h (seqRow i s) + Ideal.log (total (rows x0) x1 h (seqRow i s))) (Ideal.log 2) := by
  have e : (⟨i.val * 512 + s.val, by omega⟩ : Fin 4096) = seqRow i s := Fin.ext (by simp only [seqRow]; omega)
  rw [← ref_quot, ← e]
  have h0 : val_main_v27 (F := Ideal) x0 x1 = shapeCast S16x8x1x512 (val_main_v26 (F := Ideal) x0 x1) shapeCasts_S16x4096_S16x8x1x512 := rfl
  rw [h0]
  generalize val_main_v26 (F := Ideal) x0 x1 = A
  pointwise

end Cert.AttnFwdRefIdeal.Value

end
-- ==== Proof.FAgree.lean ====
/-
  The forward attention: kernel and reference end with the same three arrays.
-/
module

public import proofs.«01_k».proof.Proof.FArr
public import proofs.«01_k».proof.Proof.FSoft
public import proofs.«01_k».proof.Proof.FRef
public import proofs.«01_k».proof.Pre_forward_finite
public import proofs.«01_k».proof.Defs
public import Idealize.ShloMosaic.Lib.StableHlo.RunRead

set_option maxRecDepth 16384

@[expose] public noncomputable section

namespace Cert.Pre_forward_finite

open Idealize.ShloMosaic

/-- The side conditions of the precondition's own operations. -/
theorem conditions : Cert.Pre_forward_finite.Facts where
  bcast_S_S16x4096x192 := by decide
  bitsLt_bf16_f32 := by decide

end Cert.Pre_forward_finite

namespace Cert.AttnFwdAgree

open Cert.AttnGrad Cert.ConvGrad Cert.AttnFlow
open Cert.AttnFwdIdeal Cert.AttnFwdIdeal.Gen Cert.AttnFwdIdeal.Tile
open Idealize.ShloMosaic Idealize.ShloMosaic.TcCoe Idealize.SL.Sem
open Cert.AttnIdeal.Tile (seqRow col tileOf inTile scale two_literal)
open Facts

instance : Cert.AttnFwdIdeal.Facts := Cert.AttnFwdIdeal.Gen.facts
instance : Cert.Pre_forward_finite.Facts := Cert.Pre_forward_finite.conditions

variable (m : (ℓ : Loc AttnFwdIdeal.nD AttnFwdIdeal.τ AttnFwdIdeal.sig) → Buf (Elt Ideal) ℓ)
variable (hp : Cert.Pre_AttnFwdIdeal_forward_finite m) (c : Dev AttnFwdIdeal.nD)

/-- The arguments: queries, keys, values and the gate. -/
abbrev argQ : Shape.Idx ⟨3, ![16, 4096, 192]⟩ → EReal := m ((c.tc : Thread nD τ).loc main_arg0)
abbrev argK : Shape.Idx ⟨3, ![16, 4096, 192]⟩ → EReal := m ((c.tc : Thread nD τ).loc main_arg1)
abbrev argU : Shape.Idx ⟨3, ![16, 4096, 128]⟩ → EReal := m ((c.tc : Thread nD τ).loc main_arg2)
abbrev argZ : Shape.Idx ⟨2, ![4096, 2048]⟩ → EReal := m ((c.tc : Thread nD τ).loc main_arg3)

/-- The kernel gets the queries scaled, and in powers of two. -/
theorem handed_query (h : Fin 16) (n : Fin 4096) (d : Fin 192) : arrQ m c (ix3 h n d) = argQ m c (ix3 h n d) * Ideal.div scale (Ideal.log 2) := by
  have h0 : arrQ m c = (truncf .bf16 (mulf (argQ m c) (broadcastInDim S16x4096x192 ![] bcast_S_S16x4096x192
      (id (Host.divf (constant S_ .f32 0x3D93CD3A#32) (Host.log (constant S_ .f32 0x40000000#32)))))) bitsLt_bf16_f32 : FVec Ideal S16x4096x192 .bf16) := by
    unfold arrQ
    after_reads_simp
  rw [h0]
  pointwise
  rw [← two_literal]
  rfl

section
include hp

/-! Under the precondition every query and key is real. -/

theorem realQ (i) : IsReal (argQ m c i) := real_of_lt _ (congrFun (hp c).1 i)
theorem realK (i) : IsReal (argK m c i) := real_of_lt _ (congrFun (hp c).2 i)

/-- The queries, by head, position and column. -/
abbrev rowsQ (h : Fin 16) (n : Fin 4096) (d : Fin 192) : EReal := argQ m c (ix3 h n d)

/-- A query's output and its log-sum, as the reference has them. -/
def outOf (h : Fin 16) (n : Fin 4096) (e : Fin 128) : EReal := ∑ k : Fin 4096, probs (rowsQ m c) (argK m c) h n k * argU m c (ix3 h k e)
def lseOf (h : Fin 16) (n : Fin 4096) : EReal :=
  Ideal.div (top (rowsQ m c) (argK m c) h n + Ideal.log (total (rowsQ m c) (argK m c) h n)) (Ideal.log 2)

/-- The kernel's three arrays. -/
theorem arrays : (dats m 0 c).arrAt 4 cfg0.N = G4 (outOf m c) ∧ (dats m 0 c).arrAt 5 cfg0.N = G5 m c (outOf m c) ∧ (dats m 0 c).arrAt 6 cfg0.N = G6 (lseOf m c) := by
  obtain ⟨a, ha⟩ := scale_real
  choose r hR using fun (h : Fin 16) (n : Fin 4096) (d : Fin 192) => realQ m hp c (ix3 h n d)
  choose κ hK using fun (h : Fin 16) (n : Fin 4096) (d : Fin 192) => realK m hp c (ix3 h n d)
  choose t ht using top_real (R := rowsQ m c) hR hK ha
  have hσ : ∀ h n k, ∑ d : Fin 192, arrQ m c (ix3 h n d) * arrK m c (ix3 h k d) = ((sR r κ a h n k / Real.log 2 : ℝ) : EReal) := fun h n k => by
    have e : ∀ d : Fin 192, arrQ m c (ix3 h n d) * arrK m c (ix3 h k d) = ((r h n d * (a / Real.log 2) * κ h k d : ℝ) : EReal) := fun d => by
      have hk : arrK m c (ix3 h k d) = κ h k d := by
        unfold arrK
        rw [V_main_arg1]
        exact hK h k d
      rw [handed_query m c h n d, hk, hR h n d, ha, log_two, Ideal.div_coe log_two_pos.ne', ← EReal.coe_mul, ← EReal.coe_mul, ← EReal.coe_mul]
      congr 1
      ring
    rw [Finset.sum_congr rfl fun d _ => e d, sum_coe]
    congr 1
    unfold sR
    rw [Finset.sum_mul, Finset.sum_div]
    exact Finset.sum_congr rfl fun d _ => by ring
  have hυ : ∀ h k e, arrU m c (ix3 h k e) = argU m c (ix3 h k e) := fun h k e => by
    unfold arrU
    rw [V_main_arg2]
  have hf : ∀ h n {m' l : EReal} {b : Fin 128 → EReal}, Level (fun k => sR r κ a h n k / Real.log 2) (fun k e => argU m c (ix3 h k e)) (upTo n.val) m' l b → ∀ e, Ideal.div (b e) l = outOf m c h n e :=
    fun h n {_ _ _} L e => level_out (R := rowsQ m c) hR hK ha ht L e
  have hg : ∀ h n {m' l : EReal} {b : Fin 128 → EReal}, Level (fun k => sR r κ a h n k / Real.log 2) (fun k e => argU m c (ix3 h k e)) (upTo n.val) m' l b →
      m' + Ideal.log l * (((Real.log 2)⁻¹ : ℝ) : EReal) = lseOf m c h n :=
    fun h n {_ _ _} L => level_lse (R := rowsQ m c) hR hK ha ht L
  exact ⟨arr4 m c (σ := fun h n k => sR r κ a h n k / Real.log 2) (υ := fun h k e => argU m c (ix3 h k e)) hσ hυ hf, arr5 m c (σ := fun h n k => sR r κ a h n k / Real.log 2) (υ := fun h k e => argU m c (ix3 h k e)) hσ hυ hf,
    arr6 m c (σ := fun h n k => sR r κ a h n k / Real.log 2) (υ := fun h k e => argU m c (ix3 h k e)) hσ hυ hg⟩

omit hp in
/-- The reference's three results are these. -/
theorem out_eq : AttnFwdRefIdeal.Read.val_main_v20 (F := Ideal) (argQ m c) (argK m c) (argU m c) = G4 (outOf m c) := by
  funext y
  obtain ⟨n, x, rfl⟩ : ∃ (n : Fin 4096) (x : Fin 2048), y = ix2 n x := ⟨y 0, y 1, by funext a; fin_cases a <;> rfl⟩
  exact AttnFwdRefIdeal.Value.ref_out _ _ _ _ _

omit hp in
theorem gated_eq : AttnFwdRefIdeal.Read.val_main_v31 (F := Ideal) (argQ m c) (argK m c) (argU m c) (argZ m c) = G5 m c (outOf m c) := by
  funext y
  obtain ⟨n, x, rfl⟩ : ∃ (n : Fin 4096) (x : Fin 2048), y = ix2 n x := ⟨y 0, y 1, by funext a; fin_cases a <;> rfl⟩
  refine (AttnFwdRefIdeal.Value.ref_gated _ _ _ _ _ _).trans ?_
  rw [out_eq]
  unfold G5 gate arrZ
  rw [V_main_arg3, zero_sub]

omit hp in
theorem lse_eq : AttnFwdRefIdeal.Read.val_main_v27 (F := Ideal) (argQ m c) (argK m c) = G6 (lseOf m c) := by
  funext y
  obtain ⟨h, i, s, rfl⟩ : ∃ (h : Fin 16) (i : Fin 8) (s : Fin 512), y = ix4 h i 0 s :=
    ⟨y 0, y 1, y 3, by funext a; fin_cases a; exacts [rfl, rfl, Subsingleton.elim (α := Fin 1) _ _, rfl]⟩
  exact AttnFwdRefIdeal.Value.ref_lse _ _ _ _ _

end

include hp in
/-- The kernel's run, its three results named. -/
theorem kernel_run (g : Dev AttnFwdIdeal.nD → PrngReg) :
    θ_run (AttnFwdIdeal.defs (F := Ideal)) (onTc (τ := AttnFwdIdeal.τ) (AttnFwdIdeal.main (F := Ideal))) ⟨m, fun _ => 0, g⟩ (fun r => ∀ c : Dev AttnFwdIdeal.nD,
      r.2.mem ((c.tc : Thread AttnFwdIdeal.nD AttnFwdIdeal.τ).loc AttnFwdIdeal.main_v6_0) = G4 (outOf m c)
      ∧ r.2.mem ((c.tc : Thread AttnFwdIdeal.nD AttnFwdIdeal.τ).loc AttnFwdIdeal.main_v6_1) = G5 m c (outOf m c)
      ∧ r.2.mem ((c.tc : Thread AttnFwdIdeal.nD AttnFwdIdeal.τ).loc AttnFwdIdeal.main_v6_2) = G6 (lseOf m c)) := by
  refine (θ_run _ _ _).mono (fun r h c => ?_) (AttnFwdIdeal.Gen.run_main m g)
  obtain ⟨e4, e5, e6⟩ := arrays m hp c
  exact ⟨((h c).1 4).trans e4, ((h c).1 5).trans e5, ((h c).1 6).trans e6⟩

end Cert.AttnFwdAgree

end
-- ==== Proof.PoolGate.lean ====
/-
  The pooled channels mixed within their group, scaled and gated: each entry is a sum over the 512 channels of its
  group, times the channel's scale and the gate's silu.
-/
module

public import proofs.«01_k».proof.Proof.Gen.PoolGrpIdeal.Value
public import proofs.«01_k».proof.Proof.Gen.PoolGrpRefIdeal.Run
public import proofs.«01_k».proof.Proof.Gen.PoolGrpRefIdeal.Read
public import Idealize.ShloMosaic.Lib.Pipeline.ValueKit
public import Idealize.ShloMosaic.Lib.Pointwise

set_option maxRecDepth 16384

@[expose] public noncomputable section

open Idealize.ShloMosaic Idealize.ShloMosaic.TcCoe Idealize.SL.Sem

namespace Cert.PoolGrpIdeal

open Cert.PoolGrpIdeal.Gen

/-- An entry times its sigmoid. -/
def silu (z : EReal) : EReal := z * Ideal.div 1 (1 + Ideal.exp (-z))

/-- The channels of a group mixed, scaled and gated; the weights of a group lie in eight slices of 64 rows. -/
def gated (A : Shape.Idx ⟨2, ![4096, 2048]⟩ → EReal) (B : Shape.Idx ⟨3, ![8, 256, 512]⟩ → EReal)
    (H : Shape.Idx ⟨2, ![4096, 4096]⟩ → EReal) (s : Shape.Idx ⟨1, ![2048]⟩ → EReal) (n : Fin 4096) (d : Fin 2048) : EReal :=
  (∑ k : Fin 512, A (ix2 n (⟨d.val / 512 * 512 + k.val, by omega⟩ : Fin 2048))
      * B (ix3 (⟨k.val / 64, by omega⟩ : Fin 8) (⟨d.val / 512 * 64 + k.val % 64, by omega⟩ : Fin 256) (⟨d.val % 512, by omega⟩ : Fin 512)))
    * s (ix1 d) * silu (H (ix2 n (⟨2048 + d.val, by omega⟩ : Fin 4096)))

/-- A stored tile, entry by entry. -/
theorem gate_apply (a : Vec Ideal S1024x512 .bf16) (b : Vec Ideal S8x64x512 .bf16) (h : Vec Ideal S1024x512 .bf16)
    (s : Vec Ideal S1x512 .f32) (r : Fin 1024) (j : Fin 512) :
    Gen.k0_pay1 a b h s (ix2 r j)
      = (∑ k : Fin 512, a (ix2 r k) * b (ix3 (⟨k.val / 64, by omega⟩ : Fin 8) (⟨k.val % 64, by omega⟩ : Fin 64) j))
        * s (ix2 0 j) * silu (h (ix2 r j)) := by
  unfold silu
  pointwise [k0_pay1]
  rw [zero_sub]

variable (m : (ℓ : Loc nD τ sig) → Buf (Elt Ideal) ℓ) (c : Dev nD)

theorem place0 : ∀ t : Fin grid0.N, win0_0.index t 0 = t.val / 4 ∧ win0_0.index t 1 = t.val % 4 := by decide +kernel
theorem place1 : ∀ t : Fin grid0.N, win0_1.index t 0 = 0 ∧ win0_1.index t 1 = t.val % 4 ∧ win0_1.index t 2 = 0 := by decide +kernel
theorem place2 : ∀ t : Fin grid0.N, win0_2.index t 0 = t.val / 4 ∧ win0_2.index t 1 = 4 + t.val % 4 := by decide +kernel
theorem place3 : ∀ t : Fin grid0.N, win0_3.index t 0 = 0 ∧ win0_3.index t 1 = t.val % 4 := by decide +kernel
theorem place4 : ∀ t : Fin grid0.N, win0_4.index t 0 = t.val / 4 ∧ win0_4.index t 1 = t.val % 4 := by decide +kernel

abbrev G4 : Shape.Idx ⟨2, ![4096, 2048]⟩ → EReal := fun y =>
  gated (m ((c : Thread nD τ).loc main_arg0)) (m ((c : Thread nD τ).loc main_arg1)) (m ((c : Thread nD τ).loc main_arg2))
    (m ((c : Thread nD τ).loc main_arg3)) (y 0) (y 1)

/-- The scales as they enter the pipeline are the argument, under a leading axis. -/
theorem scales : V m c main_v0 = shapeCast S1x2048 (m ((c : Thread nD τ).loc main_arg3)) shapeCasts_S2048_S1x2048 := rfl

theorem scale_at (t : Fin cfg0.N) (j : Fin 512) (d : Fin 2048) (hd : d.val = t.val % 4 * 512 + j.val) :
    iblk m c 3 t (ix2 0 j) = m ((c : Thread nD τ).loc main_arg3) (ix1 d) := by
  obtain ⟨d0, d1⟩ := place3 t
  show V m c main_v0 ((win0_3.blk t).view.emb (ix2 0 j)) = _
  rw [scales]
  have hi : (win0_3.blk t).view.emb (ix2 0 j) = (ix2 0 d : S1x2048.Idx) := by blk_ext [d0, d1, hd]
  rw [hi]
  pointwise []

theorem out4 (t : Fin cfg0.N) (y) :
    out0_4 (iblk m c 0 t) (iblk m c 1 t) (iblk m c 2 t) (iblk m c 3 t) y = G4 m c ((win0_4.blk t).view.emb y) := by
  obtain ⟨a0, a1⟩ := place0 t
  obtain ⟨b0, b1, b2⟩ := place1 t
  obtain ⟨c0, c1⟩ := place2 t
  obtain ⟨o0, o1⟩ := place4 t
  unfold out0_4
  canon_tiles x hx
  idx_vars x
  refine (gate_apply _ _ _ _ x0 x1).trans ?_
  pointwise []
  unfold G4 gated
  refine congrArg₂ (· * ·) (congrArg₂ (· * ·) (Finset.sum_congr rfl fun k _ => congrArg₂ (· * ·) ?_ ?_) ?_) (congrArg silu ?_)
  · blk_ext [iblk, a0, a1, o0, o1, hx0, hx1]
  · blk_ext [iblk, b0, b1, b2, o0, o1, hx0, hx1]
  · refine scale_at m c t x1 _ ?_
    blk_simp [o1, hx1]
  · blk_ext [iblk, c0, c1, o0, o1, hx0, hx1]

theorem arr4 : (dats m 0 c).arrAt 4 cfg0.N = G4 m c := by
  refine (dats m 0 c).arrAt_eq_of_covers 4 _ (by decide +kernel) fun t hf y => ?_
  exact (congrFun (after0_4 m c t) y).trans (out4 m c t y)

end Cert.PoolGrpIdeal

namespace Cert.PoolGrpRefIdeal

open Cert.PoolGrpRefIdeal.Read

theorem value (A B H s) (y : Shape.Idx ⟨2, ![4096, 2048]⟩) :
    val_main_v16 (F := Ideal) A B H s y = PoolGrpIdeal.gated A B H s (y 0) (y 1) := by
  idx_vars y
  unfold PoolGrpIdeal.gated PoolGrpIdeal.silu
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_call0_v0, val_main_call0_v1, val_main_call0_v2, val_main_call0_v3, val_main_call0_v4, val_main_call0_v5,
    val_main_call0_cst, val_main_call0_cst_0]
  simp only [mul_comm (B _)]

end Cert.PoolGrpRefIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_all_finite
public import proofs.«01_k».proof.Proof.Agree
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.Attn.Loops
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Loops
public import proofs.«01_k».proof.Proof.Gen.AttnRefIdeal
public import proofs.«01_k».proof.Proof.Gen.AttnRefIdeal.Run
public import proofs.«01_k».proof.Proof.Gen.AttnRefIdeal.Read
public import proofs.«01_k».proof.Proof.APlain
public import proofs.«01_k».proof.Proof.AAgree
public import proofs.«01_k».proof.Proof.WGrad
public import proofs.«01_k».proof.Proof.OutProjection
public import proofs.«01_k».proof.Proof.WGradMore
public import proofs.«01_k».proof.Proof.NormPool
public import proofs.«01_k».proof.Proof.NormConv
public import proofs.«01_k».proof.Proof.NormIn
public import proofs.«01_k».proof.Proof.FAgree
public import proofs.«01_k».proof.Proof.PoolGate
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwd.Loops
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Loops
public import proofs.«01_k».proof.Proof.Gen.PoolGrp
public import proofs.«01_k».proof.Proof.Gen.PoolGrp.Skeleton
public import proofs.«01_k».proof.Proof.Gen.PoolGrp.Launch
public import proofs.«01_k».proof.Proof.Gen.PoolGrp.Points
public import proofs.«01_k».proof.Proof.Gen.PoolGrp.Frame
public import proofs.«01_k».proof.Proof.Gen.PoolGrpIdeal
public import proofs.«01_k».proof.Proof.Gen.PoolGrpIdeal.Skeleton
public import proofs.«01_k».proof.Proof.Gen.PoolGrpIdeal.Launch
public import proofs.«01_k».proof.Proof.Gen.PoolGrpIdeal.Points
public import proofs.«01_k».proof.Proof.Gen.PoolGrpIdeal.Frame
public import proofs.«01_k».proof.Proof.Gen.PoolGrpIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.PoolGrpRefIdeal
public import proofs.«01_k».proof.Proof.Gen.PoolGrpRefIdeal.Run
public import proofs.«01_k».proof.Proof.Gen.PoolGrpRefIdeal.Read
public import proofs.«01_k».proof.Proof.Gen.Gout
public import proofs.«01_k».proof.Proof.Gen.Gout.Skeleton
public import proofs.«01_k».proof.Proof.Gen.Gout.Launch
public import proofs.«01_k».proof.Proof.Gen.Gout.Points
public import proofs.«01_k».proof.Proof.Gen.Gout.Frame
public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutIdeal.Value
public import proofs.«01_k».proof.Proof.Gen.GoutRefIdeal
public import proofs.«01_k».proof.Proof.Gen.GoutRefIdeal.Run
public import proofs.«01_k».proof.Proof.Gen.GoutRefIdeal.Read
public import proofs.«01_k».proof.Proof.Gen.ConvGin
public import proofs.«01_k».proof.Proof.Gen.ConvGin.Skeleton
public import proofs.«01_k».proof.Proof.Gen.ConvGin.Launch
public import proofs.«01_k».proof.Proof.Gen.ConvGin.Points
public import proofs.«01_k».proof.Proof.Gen.ConvGin.Frame
public import proofs.«01_k».proof.Proof.Gen.ConvGinIdeal
public import proofs.«01_k».proof.Proof.Gen.ConvGinIdeal.Skeleton
public import proofs.«01_k».proof.Proof.Gen.ConvGinIdeal.Launch
public import proofs.«01_k».proof.Proof.Gen.ConvGinIdeal.Points
public import proofs.«01_k».proof.Proof.Gen.ConvGinIdeal.Frame
public import proofs.«01_k».proof.Proof.Gen.ConvGinIdeal.Value
public import proofs.«01_k».proof.Proof.Gen.ConvGinRefIdeal
public import proofs.«01_k».proof.Proof.Gen.ConvGinRefIdeal.Run
public import proofs.«01_k».proof.Proof.Gen.ConvGinRefIdeal.Read
public import proofs.«01_k».proof.Proof.Gen.PoolGin
public import proofs.«01_k».proof.Proof.Gen.PoolGin.Skeleton
public import proofs.«01_k».proof.Proof.Gen.PoolGin.Launch
public import proofs.«01_k».proof.Proof.Gen.PoolGin.Points
public import proofs.«01_k».proof.Proof.Gen.PoolGin.Frame
public import proofs.«01_k».proof.Proof.Gen.PoolGinIdeal
public import proofs.«01_k».proof.Proof.Gen.PoolGinIdeal.Skeleton
public import proofs.«01_k».proof.Proof.Gen.PoolGinIdeal.Launch
public import proofs.«01_k».proof.Proof.Gen.PoolGinIdeal.Points
public import proofs.«01_k».proof.Proof.Gen.PoolGinIdeal.Frame
public import proofs.«01_k».proof.Proof.Gen.PoolGinIdeal.Value
public import proofs.«01_k».proof.Proof.Gen.PoolGinRefIdeal
public import proofs.«01_k».proof.Proof.Gen.PoolGinRefIdeal.Run
public import proofs.«01_k».proof.Proof.Gen.PoolGinRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.PoolInB
public import proofs.«01_k».proof.Proof.Gen.PoolInB.Skeleton
public import proofs.«01_k».proof.Proof.Gen.PoolInB.Launch
public import proofs.«01_k».proof.Proof.Gen.PoolInB.Points
public import proofs.«01_k».proof.Proof.Gen.PoolInB.Frame
public import proofs.«01_k».proof.Proof.Gen.PoolInBIdeal
public import proofs.«01_k».proof.Proof.Gen.PoolInBIdeal.Skeleton
public import proofs.«01_k».proof.Proof.Gen.PoolInBIdeal.Launch
public import proofs.«01_k».proof.Proof.Gen.PoolInBIdeal.Points
public import proofs.«01_k».proof.Proof.Gen.PoolInBIdeal.Frame
public import proofs.«01_k».proof.Proof.Gen.PoolInBIdeal.Value
public import proofs.«01_k».proof.Proof.Gen.PoolInBRefIdeal
public import proofs.«01_k».proof.Proof.Gen.PoolInBRefIdeal.Run
public import proofs.«01_k».proof.Proof.Gen.PoolInBRefIdeal.Read
public import proofs.«01_k».proof.Proof.Gen.ConvInB
public import proofs.«01_k».proof.Proof.Gen.ConvInB.Skeleton
public import proofs.«01_k».proof.Proof.Gen.ConvInB.Launch
public import proofs.«01_k».proof.Proof.Gen.ConvInB.Points
public import proofs.«01_k».proof.Proof.Gen.ConvInB.Frame
public import proofs.«01_k».proof.Proof.Gen.ConvInBIdeal
public import proofs.«01_k».proof.Proof.Gen.ConvInBIdeal.Skeleton
public import proofs.«01_k».proof.Proof.Gen.ConvInBIdeal.Launch
public import proofs.«01_k».proof.Proof.Gen.ConvInBIdeal.Points
public import proofs.«01_k».proof.Proof.Gen.ConvInBIdeal.Frame
public import proofs.«01_k».proof.Proof.Gen.ConvInBIdeal.Value
public import proofs.«01_k».proof.Proof.Gen.ConvInBRefIdeal
public import proofs.«01_k».proof.Proof.Gen.ConvInBRefIdeal.Run
public import proofs.«01_k».proof.Proof.Gen.ConvInBRefIdeal.Read
public import proofs.«01_k».proof.Proof.Gen.Ggrp
public import proofs.«01_k».proof.Proof.Gen.Ggrp.Skeleton
public import proofs.«01_k».proof.Proof.Gen.Ggrp.Launch
public import proofs.«01_k».proof.Proof.Gen.Ggrp.Points
public import proofs.«01_k».proof.Proof.Gen.Ggrp.Frame
public import proofs.«01_k».proof.Proof.Gen.GgrpIdeal
public import proofs.«01_k».proof.Proof.Gen.GgrpIdeal.Skeleton
public import proofs.«01_k».proof.Proof.Gen.GgrpIdeal.Launch
public import proofs.«01_k».proof.Proof.Gen.GgrpIdeal.Points
public import proofs.«01_k».proof.Proof.Gen.GgrpIdeal.Frame
public import proofs.«01_k».proof.Proof.Gen.GgrpIdeal.Value
public import proofs.«01_k».proof.Proof.Gen.GgrpRefIdeal
public import proofs.«01_k».proof.Proof.Gen.GgrpRefIdeal.Run
public import proofs.«01_k».proof.Proof.Gen.GgrpRefIdeal.Read
public import proofs.«01_k».proof.Proof.Gen.Gz
public import proofs.«01_k».proof.Proof.Gen.Gz.Skeleton
public import proofs.«01_k».proof.Proof.Gen.Gz.Launch
public import proofs.«01_k».proof.Proof.Gen.Gz.Points
public import proofs.«01_k».proof.Proof.Gen.Gz.Frame
public import proofs.«01_k».proof.Proof.Gen.GzIdeal
public import proofs.«01_k».proof.Proof.Gen.GzIdeal.Skeleton
public import proofs.«01_k».proof.Proof.Gen.GzIdeal.Launch
public import proofs.«01_k».proof.Proof.Gen.GzIdeal.Points
public import proofs.«01_k».proof.Proof.Gen.GzIdeal.Frame
public import proofs.«01_k».proof.Proof.Gen.GzIdeal.Value
public import proofs.«01_k».proof.Proof.Gen.GzRefIdeal
public import proofs.«01_k».proof.Proof.Gen.GzRefIdeal.Run
public import proofs.«01_k».proof.Proof.Gen.GzRefIdeal.Read
public import proofs.«01_k».proof.Proof.Gen.Gqup
public import proofs.«01_k».proof.Proof.Gen.Gqup.Skeleton
public import proofs.«01_k».proof.Proof.Gen.Gqup.Launch
public import proofs.«01_k».proof.Proof.Gen.Gqup.Points
public import proofs.«01_k».proof.Proof.Gen.Gqup.Frame
public import proofs.«01_k».proof.Proof.Gen.GqupIdeal
public import proofs.«01_k».proof.Proof.Gen.GqupIdeal.Skeleton
public import proofs.«01_k».proof.Proof.Gen.GqupIdeal.Launch
public import proofs.«01_k».proof.Proof.Gen.GqupIdeal.Points
public import proofs.«01_k».proof.Proof.Gen.GqupIdeal.Frame
public import proofs.«01_k».proof.Proof.Gen.GqupIdeal.Value
public import proofs.«01_k».proof.Proof.Gen.GqupRefIdeal
public import proofs.«01_k».proof.Proof.Gen.GqupRefIdeal.Run
public import proofs.«01_k».proof.Proof.Gen.GqupRefIdeal.Read
public import proofs.«01_k».proof.Proof.Gen.Gkvup
public import proofs.«01_k».proof.Proof.Gen.Gkvup.Skeleton
public import proofs.«01_k».proof.Proof.Gen.Gkvup.Launch
public import proofs.«01_k».proof.Proof.Gen.Gkvup.Points
public import proofs.«01_k».proof.Proof.Gen.Gkvup.Frame
public import proofs.«01_k».proof.Proof.Gen.GkvupIdeal
public import proofs.«01_k».proof.Proof.Gen.GkvupIdeal.Skeleton
public import proofs.«01_k».proof.Proof.Gen.GkvupIdeal.Launch
public import proofs.«01_k».proof.Proof.Gen.GkvupIdeal.Points
public import proofs.«01_k».proof.Proof.Gen.GkvupIdeal.Frame
public import proofs.«01_k».proof.Proof.Gen.GkvupIdeal.Value
public import proofs.«01_k».proof.Proof.Gen.GkvupRefIdeal
public import proofs.«01_k».proof.Proof.Gen.GkvupRefIdeal.Run
public import proofs.«01_k».proof.Proof.Gen.GkvupRefIdeal.Read
public import proofs.«01_k».proof.Proof.Gen.LatentOut
public import proofs.«01_k».proof.Proof.Gen.LatentOut.Skeleton
public import proofs.«01_k».proof.Proof.Gen.LatentOut.Launch
public import proofs.«01_k».proof.Proof.Gen.LatentOut.Points
public import proofs.«01_k».proof.Proof.Gen.LatentOut.Frame
public import proofs.«01_k».proof.Proof.Gen.LatentOutIdeal
public import proofs.«01_k».proof.Proof.Gen.LatentOutIdeal.Skeleton
public import proofs.«01_k».proof.Proof.Gen.LatentOutIdeal.Launch
public import proofs.«01_k».proof.Proof.Gen.LatentOutIdeal.Points
public import proofs.«01_k».proof.Proof.Gen.LatentOutIdeal.Frame
public import proofs.«01_k».proof.Proof.Gen.LatentOutIdeal.Value
public import proofs.«01_k».proof.Proof.Gen.PoolIn
public import proofs.«01_k».proof.Proof.Gen.PoolIn.Skeleton
public import proofs.«01_k».proof.Proof.Gen.PoolIn.Launch
public import proofs.«01_k».proof.Proof.Gen.PoolIn.Points
public import proofs.«01_k».proof.Proof.Gen.PoolInIdeal
public import proofs.«01_k».proof.Proof.Gen.PoolInIdeal.Skeleton
public import proofs.«01_k».proof.Proof.Gen.PoolInIdeal.Launch
public import proofs.«01_k».proof.Proof.Gen.PoolInIdeal.Points
public import proofs.«01_k».proof.Proof.Gen.PoolInIdeal.Frame
public import proofs.«01_k».proof.Proof.Gen.PoolInRefIdeal
public import proofs.«01_k».proof.Proof.Gen.PoolInRefIdeal.Run
public import proofs.«01_k».proof.Proof.Gen.PoolInRefIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.ConvInRefIdeal.Run
public import proofs.«01_k».proof.Proof.Gen.ConvInRefIdeal.Read
public import Idealize.ShloMosaic.Adequacy
public import Idealize.ShloMosaic.Init

@[expose] public section

noncomputable section

namespace Cert.Proof

open Idealize.ShloMosaic Idealize.SL.Sem Cert.Kernel

/-- The kernel's run, its two results named. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v0_0) = KernelIdeal.Out.G12 m c
      ∧ r.2.mem ((c.tc : Thread KernelIdeal.nD KernelIdeal.τ).loc KernelIdeal.main_v0_1) = KernelIdeal.Out.G13 m c) := by
  refine (θ_run _ _ _).mono (fun r h c => ?_) (KernelIdeal.Gen.run_main m g)
  exact ⟨((h c).1 12).trans (KernelIdeal.Out.arr12 m c), ((h c).1 13).trans (KernelIdeal.Out.arr13 m c)⟩

/-- From equal arguments the two programs end with equal results. -/
theorem values : letI := KernelIdeal.Gen.facts; letI := ReferenceIdeal.Gen.facts; letI := Pre_all_finite.Gen.facts
    algebraic_KernelIdeal_ReferenceIdeal_pre_all_finite := by
  intro m g m' g' hp hagree
  refine ⟨KernelIdeal.Out.G12 m, KernelIdeal.Out.G13 m, ?_, ?_⟩
  · run_from (kernel_run m g) & (KernelIdeal.Gen.unchanged m g)
  · refine (θ_run _ _ _).mono (fun r h c => ?_) (ReferenceIdeal.Value.run m' g')
    obtain ⟨h0, h1, hr⟩ := h c
    obtain ⟨a0, a1, a2, a3⟩ := hagree c
    refine ⟨h0.trans ?_, h1.trans ?_, hr⟩
    · rw [ReferenceIdeal.Read.val_main_v81_eq, a0, a1, a2, a3]
      exact Agree.dh_eq m hp c
    · rw [ReferenceIdeal.Read.val_main_v70_eq, a0, a1, a2]
      exact Agree.dw_eq m c

/-- The reference runs and leaves its arguments; it has no semaphore. -/
theorem reference_frame : letI := ReferenceIdeal.Gen.facts; quiescent_ReferenceIdeal := fun m g _ =>
  (θ_run _ _ _).mono (fun r h => ⟨fun c => (h c).2.2, sem_eq_zero_of_no_sems (by decide) r.2⟩) (ReferenceIdeal.Value.run m g)

/-- The reference of the attention's gradient runs and leaves its arguments; it has no semaphore. -/
theorem attention_reference_frame : letI := AttnRefIdeal.Gen.facts; quiescent_AttnRefIdeal := fun m g _ =>
  (θ_run _ _ _).mono (fun r h => ⟨fun c => (h c).2.2.2, sem_eq_zero_of_no_sems (by decide) r.2⟩) (AttnRefIdeal.Value.run m g)

/-- From equal arguments the attention's gradient and its reference end with equal results. -/
theorem attention_values : letI := AttnIdeal.Gen.facts; letI := AttnRefIdeal.Gen.facts; letI := Pre_attention_finite.conditions
    algebraic_AttnIdeal_AttnRefIdeal_pre_attention_finite := by
  intro m g m' g' hp hagree
  refine ⟨AttnIdeal.Tile.G9 m, AttnIdeal.Tile.G10 m, AttnIdeal.Tile.G11 m, ?_, ?_⟩
  · run_from (AttnAgree.kernel_run m g) & ((θ_run _ _ _).mono (fun _ h => h.1) (AttnIdeal.Run.frame m g))
  · refine (θ_run _ _ _).mono (fun r h c => ?_) (AttnRefIdeal.Value.run m' g')
    obtain ⟨h0, h1, h2, hr⟩ := h c
    obtain ⟨a0, a1, a2, a3, a4, a5⟩ := hagree c
    refine ⟨h0.trans ?_, h1.trans ?_, h2.trans ?_, hr⟩
    · rw [AttnRefIdeal.Read.val_main_v106_eq]
      change AttnRefIdeal.Read.val_main_v106 (m' ((c.tc : Thread AttnRefIdeal.nD AttnRefIdeal.τ).loc AttnRefIdeal.main_arg0)) (m' ((c.tc : Thread AttnRefIdeal.nD AttnRefIdeal.τ).loc AttnRefIdeal.main_arg1)) (m' ((c.tc : Thread AttnRefIdeal.nD AttnRefIdeal.τ).loc AttnRefIdeal.main_arg2)) (m' ((c.tc : Thread AttnRefIdeal.nD AttnRefIdeal.τ).loc AttnRefIdeal.main_arg3)) (m' ((c.tc : Thread AttnRefIdeal.nD AttnRefIdeal.τ).loc AttnRefIdeal.main_arg4)) (m' ((c.tc : Thread AttnRefIdeal.nD AttnRefIdeal.τ).loc AttnRefIdeal.main_arg5)) = _
      rw [a0, a1, a2, a3, a4, a5]
      exact AttnAgree.dkv_eq m hp c
    · rw [AttnRefIdeal.Read.val_main_v107_eq]
      change AttnRefIdeal.Read.val_main_v107 (m' ((c.tc : Thread AttnRefIdeal.nD AttnRefIdeal.τ).loc AttnRefIdeal.main_arg0)) (m' ((c.tc : Thread AttnRefIdeal.nD AttnRefIdeal.τ).loc AttnRefIdeal.main_arg1)) (m' ((c.tc : Thread AttnRefIdeal.nD AttnRefIdeal.τ).loc AttnRefIdeal.main_arg2)) (m' ((c.tc : Thread AttnRefIdeal.nD AttnRefIdeal.τ).loc AttnRefIdeal.main_arg3)) (m' ((c.tc : Thread AttnRefIdeal.nD AttnRefIdeal.τ).loc AttnRefIdeal.main_arg4)) (m' ((c.tc : Thread AttnRefIdeal.nD AttnRefIdeal.τ).loc AttnRefIdeal.main_arg5)) = _
      rw [a0, a1, a2, a3, a4, a5]
      exact AttnAgree.dkr_eq m hp c
    · rw [AttnRefIdeal.Read.val_main_v108_eq]
      change AttnRefIdeal.Read.val_main_v108 (m' ((c.tc : Thread AttnRefIdeal.nD AttnRefIdeal.τ).loc AttnRefIdeal.main_arg0)) (m' ((c.tc : Thread AttnRefIdeal.nD AttnRefIdeal.τ).loc AttnRefIdeal.main_arg1)) (m' ((c.tc : Thread AttnRefIdeal.nD AttnRefIdeal.τ).loc AttnRefIdeal.main_arg2)) (m' ((c.tc : Thread AttnRefIdeal.nD AttnRefIdeal.τ).loc AttnRefIdeal.main_arg3)) (m' ((c.tc : Thread AttnRefIdeal.nD AttnRefIdeal.τ).loc AttnRefIdeal.main_arg4)) (m' ((c.tc : Thread AttnRefIdeal.nD AttnRefIdeal.τ).loc AttnRefIdeal.main_arg5)) = _
      rw [a0, a1, a2, a3, a4, a5]
      exact AttnAgree.dq_eq m hp c

/-- The two named constants have the values their names are given. -/
theorem attention_preserves : preserves_Attn_AttnIdeal :=
  ⟨IdealRules.named_const.statement AttnIdeal.κ "mask" .f32 0xF149F2CA#32 ⊥ rfl,
    IdealRules.named_const.statement AttnIdeal.κ "ln2" .f32 0x3F317218#32 ((Real.log 2 : ℝ) : EReal) rfl⟩

theorem gout_reference_frame : letI := GoutRefIdeal.Gen.facts; quiescent_GoutRefIdeal := fun m g _ =>
  (θ_run _ _ _).mono (fun r h => ⟨fun c => (h c).2, sem_eq_zero_of_no_sems (by decide) r.2⟩) (GoutRefIdeal.Value.run m g)

/-- The gradient of an output projection's weights. -/
theorem gout_values : letI := GoutIdeal.Gen.facts; letI := GoutRefIdeal.Gen.facts; algebraic_GoutIdeal_GoutRefIdeal := by
  intro m g m' g' hp hagree
  refine ⟨GoutIdeal.G2 m, ?_, ?_⟩
  · exact (θ_run _ _ _).mono (fun r h c => ⟨(h c).1.trans (GoutIdeal.arr2 m c), (h c).2⟩) (GoutIdeal.Value.run_blocks m g)
  · refine (θ_run _ _ _).mono (fun r h c => ?_) (GoutRefIdeal.Value.run m' g')
    obtain ⟨h0, hr⟩ := h c
    obtain ⟨a0, a1⟩ := hagree c
    refine ⟨h0.trans ?_, hr⟩
    rw [GoutRefIdeal.Read.val_main_v6_eq, a0, a1]
    exact funext fun y => GoutRefIdeal.value _ _ y

theorem convGin_reference_frame : letI := ConvGinRefIdeal.Gen.facts; quiescent_ConvGinRefIdeal := fun m g _ =>
  (θ_run _ _ _).mono (fun r h => ⟨fun c => (h c).2, sem_eq_zero_of_no_sems (by decide) r.2⟩) (ConvGinRefIdeal.Value.run m g)

/-- The gradient of the convolution's input projection's weights. -/
theorem convGin_values : letI := ConvGinIdeal.Gen.facts; letI := ConvGinRefIdeal.Gen.facts; algebraic_ConvGinIdeal_ConvGinRefIdeal := by
  intro m g m' g' hp hagree
  refine ⟨ConvGinIdeal.G2 m, ?_, ?_⟩
  · exact (θ_run _ _ _).mono (fun r h c => ⟨(h c).1.trans (ConvGinIdeal.arr2 m c), (h c).2⟩) (ConvGinIdeal.Value.run_blocks m g)
  · refine (θ_run _ _ _).mono (fun r h c => ?_) (ConvGinRefIdeal.Value.run m' g')
    obtain ⟨h0, hr⟩ := h c
    obtain ⟨a0, a1⟩ := hagree c
    refine ⟨h0.trans ?_, hr⟩
    rw [ConvGinRefIdeal.Read.val_main_v11_eq, a0, a1]
    exact funext fun y => ConvGinRefIdeal.value _ _ y

theorem poolGin_reference_frame : letI := PoolGinRefIdeal.Gen.facts; quiescent_PoolGinRefIdeal := fun m g _ =>
  (θ_run _ _ _).mono (fun r h => ⟨fun c => (h c).2, sem_eq_zero_of_no_sems (by decide) r.2⟩) (PoolGinRefIdeal.Value.run m g)

/-- The gradient of the pooling's input projection's weights. -/
theorem poolGin_values : letI := PoolGinIdeal.Gen.facts; letI := PoolGinRefIdeal.Gen.facts; algebraic_PoolGinIdeal_PoolGinRefIdeal := by
  intro m g m' g' hp hagree
  refine ⟨PoolGinIdeal.G2 m, ?_, ?_⟩
  · exact (θ_run _ _ _).mono (fun r h c => ⟨(h c).1.trans (PoolGinIdeal.arr2 m c), (h c).2⟩) (PoolGinIdeal.Value.run_blocks m g)
  · refine (θ_run _ _ _).mono (fun r h c => ?_) (PoolGinRefIdeal.Value.run m' g')
    obtain ⟨h0, hr⟩ := h c
    obtain ⟨a0, a1⟩ := hagree c
    refine ⟨h0.trans ?_, hr⟩
    rw [PoolGinRefIdeal.Read.val_main_v8_eq, a0, a1]
    exact funext fun y => PoolGinRefIdeal.value _ _ y

theorem outProj_reference_frame : letI := OutProjRefIdeal.Gen.facts; quiescent_OutProjRefIdeal := fun m g _ =>
  (θ_run _ _ _).mono (fun r h => ⟨fun c => (h c).2, sem_eq_zero_of_no_sems (by decide) r.2⟩) (OutProjRefIdeal.Value.run m g)

/-- The output projection. -/
theorem outProj_values : letI := OutProjIdeal.Gen.facts; letI := OutProjRefIdeal.Gen.facts; algebraic_OutProjIdeal_OutProjRefIdeal := by
  intro m g m' g' hp hagree
  refine ⟨OutProjIdeal.G3 m, ?_, ?_⟩
  · exact (θ_run _ _ _).mono (fun r h c => ⟨(h c).1.trans (OutProjIdeal.arr3 m c), (h c).2⟩) (OutProjIdeal.Value.run_blocks m g)
  · refine (θ_run _ _ _).mono (fun r h c => ?_) (OutProjRefIdeal.Value.run m' g')
    obtain ⟨h0, hr⟩ := h c
    obtain ⟨a0, a1, a2⟩ := hagree c
    refine ⟨h0.trans ?_, hr⟩
    rw [OutProjRefIdeal.Read.val_main_v4_eq, a0, a1, a2]
    exact funext fun y => OutProjRefIdeal.value _ _ _ y

theorem poolInB_reference_frame : letI := PoolInBRefIdeal.Gen.facts; quiescent_PoolInBRefIdeal := fun m g _ =>
  (θ_run _ _ _).mono (fun r h => ⟨fun c => (h c).2.2.2, sem_eq_zero_of_no_sems (by decide) r.2⟩) (PoolInBRefIdeal.Value.run m g)

/-- The gradient of the pooling layers' normalised projection. -/
theorem poolInB_values : letI := PoolInBIdeal.Gen.facts; letI := PoolInBRefIdeal.Gen.facts; algebraic_PoolInBIdeal_PoolInBRefIdeal := by
  intro m g m' g' hp hagree
  refine ⟨PoolInBIdeal.G5 m, PoolInBIdeal.G5 m, PoolInBIdeal.G7 m, ?_, ?_⟩
  · exact (θ_run _ _ _).mono (fun r h c => ⟨(h c).1.trans (PoolInBIdeal.arr5 m c), (h c).2.1.trans (PoolInBIdeal.arr6 m c),
      (h c).2.2.1.trans (PoolInBIdeal.arr7 m c), (h c).2.2.2⟩) (PoolInBIdeal.Value.run_blocks m g)
  · refine (θ_run _ _ _).mono (fun r h c => ?_) (PoolInBRefIdeal.Value.run m' g')
    obtain ⟨h0, h1, h2, hr⟩ := h c
    obtain ⟨a0, a1, a2, a3, a4⟩ := hagree c
    refine ⟨h0.trans ?_, h1.trans ?_, h2.trans ?_, hr⟩
    · rw [PoolInBRefIdeal.Read.val_main_v42_eq, a0, a1, a2, a3, a4]
      exact funext fun y => PoolInBRefIdeal.rows _ _ _ _ _ y
    · rw [PoolInBRefIdeal.Read.val_main_v43_eq, a0, a1, a2, a3, a4]
      exact funext fun y => (PoolInBRefIdeal.rounded _ _ _ _ _ y).trans (PoolInBRefIdeal.rows _ _ _ _ _ y)
    · rw [PoolInBRefIdeal.Read.val_main_v44_eq, a0, a1, a2]
      exact funext fun y => PoolInBRefIdeal.scales _ _ _ y

theorem convInB_reference_frame : letI := ConvInBRefIdeal.Gen.facts; quiescent_ConvInBRefIdeal := fun m g _ =>
  (θ_run _ _ _).mono (fun r h => ⟨fun c => (h c).2.2.2, sem_eq_zero_of_no_sems (by decide) r.2⟩) (ConvInBRefIdeal.Value.run m g)

/-- The gradient of the convolution layer's normalised projection. -/
theorem convInB_values : letI := ConvInBIdeal.Gen.facts; letI := ConvInBRefIdeal.Gen.facts; algebraic_ConvInBIdeal_ConvInBRefIdeal := by
  intro m g m' g' hp hagree
  refine ⟨ConvInBIdeal.G5 m, ConvInBIdeal.G5 m, ConvInBIdeal.G7 m, ?_, ?_⟩
  · exact (θ_run _ _ _).mono (fun r h c => ⟨(h c).1.trans (ConvInBIdeal.arr5 m c), (h c).2.1.trans (ConvInBIdeal.arr6 m c),
      (h c).2.2.1.trans (ConvInBIdeal.arr7 m c), (h c).2.2.2⟩) (ConvInBIdeal.Value.run_blocks m g)
  · refine (θ_run _ _ _).mono (fun r h c => ?_) (ConvInBRefIdeal.Value.run m' g')
    obtain ⟨h0, h1, h2, hr⟩ := h c
    obtain ⟨a0, a1, a2, a3, a4⟩ := hagree c
    refine ⟨h0.trans ?_, h1.trans ?_, h2.trans ?_, hr⟩
    · rw [ConvInBRefIdeal.Read.val_main_v45_eq, a0, a1, a2, a3, a4]
      exact funext fun y => ConvInBRefIdeal.rows _ _ _ _ _ y
    · rw [ConvInBRefIdeal.Read.val_main_v46_eq, a0, a1, a2, a3, a4]
      exact funext fun y => (ConvInBRefIdeal.rounded _ _ _ _ _ y).trans (ConvInBRefIdeal.rows _ _ _ _ _ y)
    · rw [ConvInBRefIdeal.Read.val_main_v47_eq, a0, a1, a2]
      exact funext fun y => ConvInBRefIdeal.scales _ _ _ y

theorem ggrp_reference_frame : letI := GgrpRefIdeal.Gen.facts; quiescent_GgrpRefIdeal := fun m g _ =>
  (θ_run _ _ _).mono (fun r h => ⟨fun c => (h c).2, sem_eq_zero_of_no_sems (by decide) r.2⟩) (GgrpRefIdeal.Value.run m g)

/-- The gradient of the pooling's linear maps. -/
theorem ggrp_values : letI := GgrpIdeal.Gen.facts; letI := GgrpRefIdeal.Gen.facts; algebraic_GgrpIdeal_GgrpRefIdeal := by
  intro m g m' g' hp hagree
  refine ⟨GgrpIdeal.G2 m, ?_, ?_⟩
  · exact (θ_run _ _ _).mono (fun r h c => ⟨(h c).1.trans (GgrpIdeal.arr2 m c), (h c).2⟩) (GgrpIdeal.Value.run_blocks m g)
  · refine (θ_run _ _ _).mono (fun r h c => ?_) (GgrpRefIdeal.Value.run m' g')
    obtain ⟨h0, hr⟩ := h c
    obtain ⟨a0, a1⟩ := hagree c
    refine ⟨h0.trans ?_, hr⟩
    rw [GgrpRefIdeal.Read.val_main_v13_eq, a0, a1]
    exact funext fun y => GgrpRefIdeal.value _ _ y

theorem gz_reference_frame : letI := GzRefIdeal.Gen.facts; quiescent_GzRefIdeal := fun m g _ =>
  (θ_run _ _ _).mono (fun r h => ⟨fun c => (h c).2, sem_eq_zero_of_no_sems (by decide) r.2⟩) (GzRefIdeal.Value.run m g)

/-- The gradient of the latent attention's gate projection's weights. -/
theorem gz_values : letI := GzIdeal.Gen.facts; letI := GzRefIdeal.Gen.facts; algebraic_GzIdeal_GzRefIdeal := by
  intro m g m' g' hp hagree
  refine ⟨GzIdeal.G2 m, ?_, ?_⟩
  · exact (θ_run _ _ _).mono (fun r h c => ⟨(h c).1.trans (GzIdeal.arr2 m c), (h c).2⟩) (GzIdeal.Value.run_blocks m g)
  · refine (θ_run _ _ _).mono (fun r h c => ?_) (GzRefIdeal.Value.run m' g')
    obtain ⟨h0, hr⟩ := h c
    obtain ⟨a0, a1⟩ := hagree c
    refine ⟨h0.trans ?_, hr⟩
    rw [GzRefIdeal.Read.val_main_v6_eq, a0, a1]
    exact funext fun y => GzRefIdeal.value _ _ y

theorem gqup_reference_frame : letI := GqupRefIdeal.Gen.facts; quiescent_GqupRefIdeal := fun m g _ =>
  (θ_run _ _ _).mono (fun r h => ⟨fun c => (h c).2, sem_eq_zero_of_no_sems (by decide) r.2⟩) (GqupRefIdeal.Value.run m g)

/-- The gradient of the queries' up projection's weights. -/
theorem gqup_values : letI := GqupIdeal.Gen.facts; letI := GqupRefIdeal.Gen.facts; algebraic_GqupIdeal_GqupRefIdeal := by
  intro m g m' g' hp hagree
  refine ⟨GqupIdeal.G2 m, ?_, ?_⟩
  · exact (θ_run _ _ _).mono (fun r h c => ⟨(h c).1.trans (GqupIdeal.arr2 m c), (h c).2⟩) (GqupIdeal.Value.run_blocks m g)
  · refine (θ_run _ _ _).mono (fun r h c => ?_) (GqupRefIdeal.Value.run m' g')
    obtain ⟨h0, hr⟩ := h c
    obtain ⟨a0, a1⟩ := hagree c
    refine ⟨h0.trans ?_, hr⟩
    rw [GqupRefIdeal.Read.val_main_v10_eq, a0, a1]
    exact funext fun y => GqupRefIdeal.value _ _ y

theorem gkvup_reference_frame : letI := GkvupRefIdeal.Gen.facts; quiescent_GkvupRefIdeal := fun m g _ =>
  (θ_run _ _ _).mono (fun r h => ⟨fun c => (h c).2, sem_eq_zero_of_no_sems (by decide) r.2⟩) (GkvupRefIdeal.Value.run m g)

/-- The gradient of the keys' and values' up projection's weights. -/
theorem gkvup_values : letI := GkvupIdeal.Gen.facts; letI := GkvupRefIdeal.Gen.facts; algebraic_GkvupIdeal_GkvupRefIdeal := by
  intro m g m' g' hp hagree
  refine ⟨GkvupIdeal.G2 m, ?_, ?_⟩
  · exact (θ_run _ _ _).mono (fun r h c => ⟨(h c).1.trans (GkvupIdeal.arr2 m c), (h c).2⟩) (GkvupIdeal.Value.run_blocks m g)
  · refine (θ_run _ _ _).mono (fun r h c => ?_) (GkvupRefIdeal.Value.run m' g')
    obtain ⟨h0, hr⟩ := h c
    obtain ⟨a0, a1⟩ := hagree c
    refine ⟨h0.trans ?_, hr⟩
    rw [GkvupRefIdeal.Read.val_main_v8_eq, a0, a1]
    exact funext fun y => GkvupRefIdeal.value _ _ y

/-- The latent attention's output projection. -/
theorem latentOut_values : letI := LatentOutIdeal.Gen.facts; letI := OutProjRefIdeal.Gen.facts; algebraic_LatentOutIdeal_OutProjRefIdeal := by
  intro m g m' g' hp hagree
  refine ⟨LatentOutIdeal.G3 m, ?_, ?_⟩
  · exact (θ_run _ _ _).mono (fun r h c => ⟨(h c).1.trans (LatentOutIdeal.arr3 m c), (h c).2⟩) (LatentOutIdeal.Value.run_blocks m g)
  · refine (θ_run _ _ _).mono (fun r h c => ?_) (OutProjRefIdeal.Value.run m' g')
    obtain ⟨h0, hr⟩ := h c
    obtain ⟨a0, a1, a2⟩ := hagree c
    refine ⟨h0.trans ?_, hr⟩
    rw [OutProjRefIdeal.Read.val_main_v4_eq, a0, a1, a2]
    exact funext fun y => OutProjRefIdeal.value _ _ _ y

theorem poolIn_reference_frame : letI := PoolInRefIdeal.Gen.facts; quiescent_PoolInRefIdeal := fun m g _ =>
  (θ_run _ _ _).mono (fun r h => ⟨fun c => (h c).2.2, sem_eq_zero_of_no_sems (by decide) r.2⟩) (PoolInRefIdeal.Value.run m g)

/-- The pooling's normalised projection: the product and the normalised rows. -/
theorem poolIn_values : letI := PoolInIdeal.Gen.facts; letI := PoolInRefIdeal.Gen.facts; algebraic_PoolInIdeal_PoolInRefIdeal := by
  intro m g m' g' hp hagree
  refine ⟨PoolInIdeal.G3 m, PoolInIdeal.G4 m, ?_, ?_⟩
  · exact (θ_run _ _ _).mono (fun r h c => ⟨((h.1 c).1 3).trans (PoolInIdeal.arr3 m c), ((h.1 c).1 4).trans (PoolInIdeal.arr4 m c), h.2.1 c⟩)
      (θ_run_and (PoolInIdeal.Run.run_main m g) (PoolInIdeal.Run.frame m g))
  · refine (θ_run _ _ _).mono (fun r h c => ?_) (PoolInRefIdeal.Value.run m' g')
    obtain ⟨h0, h1, hr⟩ := h c
    obtain ⟨a0, a1, a2⟩ := hagree c
    refine ⟨h0.trans ?_, h1.trans ?_, hr⟩
    · rw [PoolInRefIdeal.Read.val_main_v17_eq, a0, a1, a2]
      exact funext fun y => PoolInRefIdeal.value _ _ _ y
    · rw [PoolInRefIdeal.Read.val_main_v18_eq, a0, a1]
      exact funext fun y => PoolInRefIdeal.rows _ _ y

theorem convIn_reference_frame : letI := ConvInRefIdeal.Gen.facts; quiescent_ConvInRefIdeal := fun m g _ =>
  (θ_run _ _ _).mono (fun r h => ⟨fun c => (h c).2.2, sem_eq_zero_of_no_sems (by decide) r.2⟩) (ConvInRefIdeal.Value.run m g)

/-- The convolution's normalised projection: the product and the normalised rows. -/
theorem convIn_values : letI := ConvInIdeal.Gen.facts; letI := ConvInRefIdeal.Gen.facts; algebraic_ConvInIdeal_ConvInRefIdeal := by
  intro m g m' g' hp hagree
  refine ⟨ConvInIdeal.G3 m, ConvInIdeal.G4 m, ?_, ?_⟩
  · exact (θ_run _ _ _).mono (fun r h c => ⟨((h.1 c).1 3).trans (ConvInIdeal.arr3 m c), ((h.1 c).1 4).trans (ConvInIdeal.arr4 m c), h.2.1 c⟩)
      (θ_run_and (ConvInIdeal.Run.run_main m g) (ConvInIdeal.Run.frame m g))
  · refine (θ_run _ _ _).mono (fun r h c => ?_) (ConvInRefIdeal.Value.run m' g')
    obtain ⟨h0, h1, hr⟩ := h c
    obtain ⟨a0, a1, a2⟩ := hagree c
    refine ⟨h0.trans ?_, h1.trans ?_, hr⟩
    · rw [ConvInRefIdeal.Read.val_main_v17_eq, a0, a1, a2]
      exact funext fun y => ConvInRefIdeal.value _ _ _ y
    · rw [ConvInRefIdeal.Read.val_main_v18_eq, a0, a1]
      exact funext fun y => ConvInRefIdeal.rows _ _ y

theorem forward_reference_frame : letI := AttnFwdRefIdeal.Gen.facts; quiescent_AttnFwdRefIdeal := fun m g _ =>
  (θ_run _ _ _).mono (fun r h => ⟨fun c => (h c).2.2.2, sem_eq_zero_of_no_sems (by decide) r.2⟩) (AttnFwdRefIdeal.Value.run m g)

/-- The forward attention: the output, the gated output and the log-sums. -/
theorem forward_values : letI := AttnFwdIdeal.Gen.facts; letI := AttnFwdRefIdeal.Gen.facts; letI := Pre_forward_finite.conditions
    algebraic_AttnFwdIdeal_AttnFwdRefIdeal_pre_forward_finite := by
  intro m g m' g' hp hagree
  refine ⟨fun c => AttnFwdIdeal.Tile.G4 (AttnFwdAgree.outOf m c), fun c => AttnFwdIdeal.Tile.G5 m c (AttnFwdAgree.outOf m c),
    fun c => AttnFwdIdeal.Tile.G6 (AttnFwdAgree.lseOf m c), ?_, ?_⟩
  · run_from (AttnFwdAgree.kernel_run m hp g) & ((θ_run _ _ _).mono (fun _ h => h.1) (AttnFwdIdeal.Gen.frame m g))
  · refine (θ_run _ _ _).mono (fun r h c => ?_) (AttnFwdRefIdeal.Value.run m' g')
    obtain ⟨h0, h1, h2, hr⟩ := h c
    obtain ⟨a0, a1, a2, a3⟩ := hagree c
    refine ⟨h0.trans ?_, h1.trans ?_, h2.trans ?_, hr⟩
    · rw [AttnFwdRefIdeal.Read.val_main_v20_eq]
      change AttnFwdRefIdeal.Read.val_main_v20 (m' ((c.tc : Thread AttnFwdRefIdeal.nD AttnFwdRefIdeal.τ).loc AttnFwdRefIdeal.main_arg0)) (m' ((c.tc : Thread AttnFwdRefIdeal.nD AttnFwdRefIdeal.τ).loc AttnFwdRefIdeal.main_arg1)) (m' ((c.tc : Thread AttnFwdRefIdeal.nD AttnFwdRefIdeal.τ).loc AttnFwdRefIdeal.main_arg2)) = _
      rw [a0, a1, a2]
      exact AttnFwdAgree.out_eq m c
    · rw [AttnFwdRefIdeal.Read.val_main_v31_eq]
      change AttnFwdRefIdeal.Read.val_main_v31 (m' ((c.tc : Thread AttnFwdRefIdeal.nD AttnFwdRefIdeal.τ).loc AttnFwdRefIdeal.main_arg0)) (m' ((c.tc : Thread AttnFwdRefIdeal.nD AttnFwdRefIdeal.τ).loc AttnFwdRefIdeal.main_arg1)) (m' ((c.tc : Thread AttnFwdRefIdeal.nD AttnFwdRefIdeal.τ).loc AttnFwdRefIdeal.main_arg2)) (m' ((c.tc : Thread AttnFwdRefIdeal.nD AttnFwdRefIdeal.τ).loc AttnFwdRefIdeal.main_arg3)) = _
      rw [a0, a1, a2, a3]
      exact AttnFwdAgree.gated_eq m c
    · rw [AttnFwdRefIdeal.Read.val_main_v27_eq]
      change AttnFwdRefIdeal.Read.val_main_v27 (m' ((c.tc : Thread AttnFwdRefIdeal.nD AttnFwdRefIdeal.τ).loc AttnFwdRefIdeal.main_arg0)) (m' ((c.tc : Thread AttnFwdRefIdeal.nD AttnFwdRefIdeal.τ).loc AttnFwdRefIdeal.main_arg1)) = _
      rw [a0, a1]
      exact AttnFwdAgree.lse_eq m c

/-- The two named constants have the values their names are given. -/
theorem forward_preserves : preserves_AttnFwd_AttnFwdIdeal :=
  ⟨IdealRules.named_const.statement AttnFwdIdeal.κ "mask" .f32 0xF149F2CA#32 ⊥ rfl,
    IdealRules.named_const.statement AttnFwdIdeal.κ "log2e" .f32 0x3FB8AA3B#32 (((Real.log 2)⁻¹ : ℝ) : EReal) rfl⟩

theorem poolGrp_reference_frame : letI := PoolGrpRefIdeal.Gen.facts; quiescent_PoolGrpRefIdeal := fun m g _ =>
  (θ_run _ _ _).mono (fun r h => ⟨fun c => (h c).2, sem_eq_zero_of_no_sems (by decide) r.2⟩) (PoolGrpRefIdeal.Value.run m g)

/-- The pooling's grouped product, scaled and gated. -/
theorem poolGrp_values : letI := PoolGrpIdeal.Gen.facts; letI := PoolGrpRefIdeal.Gen.facts; algebraic_PoolGrpIdeal_PoolGrpRefIdeal := by
  intro m g m' g' hp hagree
  refine ⟨PoolGrpIdeal.G4 m, ?_, ?_⟩
  · exact (θ_run _ _ _).mono (fun r h c => ⟨(h c).1.trans (PoolGrpIdeal.arr4 m c), (h c).2⟩) (PoolGrpIdeal.Value.run_blocks m g)
  · refine (θ_run _ _ _).mono (fun r h c => ?_) (PoolGrpRefIdeal.Value.run m' g')
    obtain ⟨h0, hr⟩ := h c
    obtain ⟨a0, a1, a2, a3⟩ := hagree c
    refine ⟨h0.trans ?_, hr⟩
    rw [PoolGrpRefIdeal.Read.val_main_v16_eq, a0, a1, a2, a3]
    exact funext fun y => PoolGrpRefIdeal.value _ _ _ _ y

theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts,
  Cert.Gout.Gen.facts, Cert.GoutIdeal.Gen.facts, Cert.GoutRefIdeal.Gen.facts,
  Cert.ConvGin.Gen.facts, Cert.ConvGinIdeal.Gen.facts, Cert.ConvGinRefIdeal.Gen.facts,
  Cert.PoolGin.Gen.facts, Cert.PoolGinIdeal.Gen.facts, Cert.PoolGinRefIdeal.Gen.facts,
  Cert.OutProj.Gen.facts, Cert.OutProjIdeal.Gen.facts, Cert.OutProjRefIdeal.Gen.facts,
  Cert.PoolInB.Gen.facts, Cert.PoolInBIdeal.Gen.facts, Cert.PoolInBRefIdeal.Gen.facts,
  Cert.ConvInB.Gen.facts, Cert.ConvInBIdeal.Gen.facts, Cert.ConvInBRefIdeal.Gen.facts,
  Cert.Ggrp.Gen.facts, Cert.GgrpIdeal.Gen.facts, Cert.GgrpRefIdeal.Gen.facts,
  Cert.Gz.Gen.facts, Cert.GzIdeal.Gen.facts, Cert.GzRefIdeal.Gen.facts,
  Cert.Gqup.Gen.facts, Cert.GqupIdeal.Gen.facts, Cert.GqupRefIdeal.Gen.facts,
  Cert.Gkvup.Gen.facts, Cert.GkvupIdeal.Gen.facts, Cert.GkvupRefIdeal.Gen.facts,
  Cert.LatentOut.Gen.facts, Cert.LatentOutIdeal.Gen.facts,
  Cert.PoolIn.Gen.facts, Cert.PoolInIdeal.Gen.facts, Cert.PoolInRefIdeal.Gen.facts,
  Cert.ConvIn.Gen.facts, Cert.ConvInIdeal.Gen.facts, Cert.ConvInRefIdeal.Gen.facts,
  Cert.AttnFwd.Gen.facts, Cert.AttnFwdIdeal.Gen.facts, Cert.AttnFwdRefIdeal.Gen.facts,
  Cert.PoolGrp.Gen.facts, Cert.PoolGrpIdeal.Gen.facts, Cert.PoolGrpRefIdeal.Gen.facts,
  Cert.Pre_all_finite.Gen.facts, Cert.Pre_attention_finite.conditions, Cert.Pre_forward_finite.conditions,
  fun m ρ _ => Kernel.Gen.frame m ρ, fun m ρ _ => KernelIdeal.Gen.frame m ρ, fun m ρ _ => KernelIdeal.Gen.frame m ρ,
  reference_frame, fun m g _ => reference_frame m g trivial,
  AttnIdeal.Run.plain_frame, fun m ρ _ => AttnIdeal.Run.frame m ρ, fun m ρ _ => AttnIdeal.Run.frame m ρ,
  attention_reference_frame, fun m g _ => attention_reference_frame m g trivial,
  fun m ρ _ => Gout.Gen.frame m ρ, fun m ρ _ => GoutIdeal.Gen.frame m ρ, gout_reference_frame,
  fun m ρ _ => ConvGin.Gen.frame m ρ, fun m ρ _ => ConvGinIdeal.Gen.frame m ρ, convGin_reference_frame,
  fun m ρ _ => PoolGin.Gen.frame m ρ, fun m ρ _ => PoolGinIdeal.Gen.frame m ρ, poolGin_reference_frame,
  fun m ρ _ => OutProj.Gen.frame m ρ, fun m ρ _ => OutProjIdeal.Gen.frame m ρ, outProj_reference_frame,
  fun m ρ _ => PoolInB.Gen.frame m ρ, fun m ρ _ => PoolInBIdeal.Gen.frame m ρ, poolInB_reference_frame,
  fun m ρ _ => ConvInB.Gen.frame m ρ, fun m ρ _ => ConvInBIdeal.Gen.frame m ρ, convInB_reference_frame,
  fun m ρ _ => Ggrp.Gen.frame m ρ, fun m ρ _ => GgrpIdeal.Gen.frame m ρ, ggrp_reference_frame,
  fun m ρ _ => Gz.Gen.frame m ρ, fun m ρ _ => GzIdeal.Gen.frame m ρ, gz_reference_frame,
  fun m ρ _ => Gqup.Gen.frame m ρ, fun m ρ _ => GqupIdeal.Gen.frame m ρ, gqup_reference_frame,
  fun m ρ _ => Gkvup.Gen.frame m ρ, fun m ρ _ => GkvupIdeal.Gen.frame m ρ, gkvup_reference_frame,
  fun m ρ _ => LatentOut.Gen.frame m ρ, fun m ρ _ => LatentOutIdeal.Gen.frame m ρ,
  PoolInIdeal.Run.plain_frame, fun m ρ _ => PoolInIdeal.Run.frame m ρ, poolIn_reference_frame,
  ConvInIdeal.Run.plain_frame, fun m ρ _ => ConvInIdeal.Run.frame m ρ, convIn_reference_frame,
  fun m ρ _ => AttnFwd.Gen.frame m ρ, fun m ρ _ => AttnFwdIdeal.Gen.frame m ρ, fun m ρ _ => AttnFwdIdeal.Gen.frame m ρ,
  forward_reference_frame, fun m g _ => forward_reference_frame m g trivial,
  fun m ρ _ => PoolGrp.Gen.frame m ρ, fun m ρ _ => PoolGrpIdeal.Gen.frame m ρ, poolGrp_reference_frame,
  trivial, values, attention_preserves, attention_values,
  trivial, gout_values, trivial, convGin_values, trivial, poolGin_values, trivial, outProj_values,
  trivial, poolInB_values, trivial, convInB_values,
  trivial, ggrp_values, trivial, gz_values, trivial, gqup_values, trivial, gkvup_values, trivial, latentOut_values,
  trivial, poolIn_values, trivial, convIn_values,
  forward_preserves, forward_values, trivial, poolGrp_values⟩

end Cert.Proof

end
